-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Outer (m : (ℓ : Loc Cert.Outer.nD Cert.Outer.τ Cert.Outer.sig) → Buf (Elt Bits) ℓ) : Prop :=
  True

def Pre_OuterIdeal (m : (ℓ : Loc Cert.OuterIdeal.nD Cert.OuterIdeal.τ Cert.OuterIdeal.sig) → Buf (Elt Ideal) ℓ) : Prop :=
  True

def Pre_OuterReferenceIdeal (m : (ℓ : Loc Cert.OuterReferenceIdeal.nD Cert.OuterReferenceIdeal.τ Cert.OuterReferenceIdeal.sig) → Buf (Elt Ideal) ℓ) : Prop :=
  True

def Pre_Input (m : (ℓ : Loc Cert.Input.nD Cert.Input.τ Cert.Input.sig) → Buf (Elt Bits) ℓ) : Prop :=
  True

def Pre_InputIdeal (m : (ℓ : Loc Cert.InputIdeal.nD Cert.InputIdeal.τ Cert.InputIdeal.sig) → Buf (Elt Ideal) ℓ) : Prop :=
  True

def Pre_InputReferenceIdeal (m : (ℓ : Loc Cert.InputReferenceIdeal.nD Cert.InputReferenceIdeal.τ Cert.InputReferenceIdeal.sig) → Buf (Elt Ideal) ℓ) : Prop :=
  True

def Pre_Win (m : (ℓ : Loc Cert.Win.nD Cert.Win.τ Cert.Win.sig) → Buf (Elt Bits) ℓ) : Prop :=
  True

def Pre_WinIdeal (m : (ℓ : Loc Cert.WinIdeal.nD Cert.WinIdeal.τ Cert.WinIdeal.sig) → Buf (Elt Ideal) ℓ) : Prop :=
  True

def Pre_WinReferenceIdeal (m : (ℓ : Loc Cert.WinReferenceIdeal.nD Cert.WinReferenceIdeal.τ Cert.WinReferenceIdeal.sig) → Buf (Elt Ideal) ℓ) : Prop :=
  True

def Pre_Wout (m : (ℓ : Loc Cert.Wout.nD Cert.Wout.τ Cert.Wout.sig) → Buf (Elt Bits) ℓ) : Prop :=
  True

def Pre_WoutIdeal (m : (ℓ : Loc Cert.WoutIdeal.nD Cert.WoutIdeal.τ Cert.WoutIdeal.sig) → Buf (Elt Ideal) ℓ) : Prop :=
  True

def Pre_WoutReferenceIdeal (m : (ℓ : Loc Cert.WoutReferenceIdeal.nD Cert.WoutReferenceIdeal.τ Cert.WoutReferenceIdeal.sig) → Buf (Elt Ideal) ℓ) : Prop :=
  True

def Pre_Wkv (m : (ℓ : Loc Cert.Wkv.nD Cert.Wkv.τ Cert.Wkv.sig) → Buf (Elt Bits) ℓ) : Prop :=
  True

def Pre_WkvIdeal (m : (ℓ : Loc Cert.WkvIdeal.nD Cert.WkvIdeal.τ Cert.WkvIdeal.sig) → Buf (Elt Ideal) ℓ) : Prop :=
  True

def Pre_WkvReferenceIdeal (m : (ℓ : Loc Cert.WkvReferenceIdeal.nD Cert.WkvReferenceIdeal.τ Cert.WkvReferenceIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolReferenceIdeal (m : (ℓ : Loc Cert.PoolReferenceIdeal.nD Cert.PoolReferenceIdeal.τ Cert.PoolReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_Packed (m : (ℓ : Loc Cert.Packed.nD Cert.Packed.τ Cert.Packed.sig) → Buf (Elt Bits) ℓ) : Prop :=
  True

def Pre_PackedIdeal (m : (ℓ : Loc Cert.PackedIdeal.nD Cert.PackedIdeal.τ Cert.PackedIdeal.sig) → Buf (Elt Ideal) ℓ) : Prop :=
  True

def Pre_PackedReferenceIdeal (m : (ℓ : Loc Cert.PackedReferenceIdeal.nD Cert.PackedReferenceIdeal.τ Cert.PackedReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Outer [hOuter : Cert.Outer.Facts] : Prop :=
  ∀ (m : (ℓ : Loc Cert.Outer.nD Cert.Outer.τ Cert.Outer.sig) → Buf (Elt Bits) ℓ) (g : Dev Cert.Outer.nD → PrngReg), Pre_Outer m →
    θ_run (Cert.Outer.defs (F := Bits)) (onTc (τ := Cert.Outer.τ) (Cert.Outer.main (F := Bits))) ⟨m, fun _ => 0, g⟩ (fun r => (∀ c : Dev Cert.Outer.nD,
      r.2.mem ((c.tc : Thread Cert.Outer.nD Cert.Outer.τ).loc Cert.Outer.main_arg0) = m ((c.tc : Thread Cert.Outer.nD Cert.Outer.τ).loc Cert.Outer.main_arg0)
      ∧ r.2.mem ((c.tc : Thread Cert.Outer.nD Cert.Outer.τ).loc Cert.Outer.main_arg1) = m ((c.tc : Thread Cert.Outer.nD Cert.Outer.τ).loc Cert.Outer.main_arg1)
      ∧ r.2.mem ((c.tc : Thread Cert.Outer.nD Cert.Outer.τ).loc Cert.Outer.main_arg2) = m ((c.tc : Thread Cert.Outer.nD Cert.Outer.τ).loc Cert.Outer.main_arg2)
      ∧ r.2.mem ((c.tc : Thread Cert.Outer.nD Cert.Outer.τ).loc Cert.Outer.main_arg3) = m ((c.tc : Thread Cert.Outer.nD Cert.Outer.τ).loc Cert.Outer.main_arg3)
      ∧ r.2.mem ((c.tc : Thread Cert.Outer.nD Cert.Outer.τ).loc Cert.Outer.main_arg4) = m ((c.tc : Thread Cert.Outer.nD Cert.Outer.τ).loc Cert.Outer.main_arg4))
      ∧ r.2.sem = fun _ => 0)

def quiescent_OuterIdeal [hOuterIdeal : Cert.OuterIdeal.Facts] : Prop :=
  ∀ (m : (ℓ : Loc Cert.OuterIdeal.nD Cert.OuterIdeal.τ Cert.OuterIdeal.sig) → Buf (Elt Ideal) ℓ) (g : Dev Cert.OuterIdeal.nD → PrngReg), Pre_OuterIdeal m →
    θ_run (Cert.OuterIdeal.defs (F := Ideal)) (onTc (τ := Cert.OuterIdeal.τ) (Cert.OuterIdeal.main (F := Ideal))) ⟨m, fun _ => 0, g⟩ (fun r => (∀ c : Dev Cert.OuterIdeal.nD,
      r.2.mem ((c.tc : Thread Cert.OuterIdeal.nD Cert.OuterIdeal.τ).loc Cert.OuterIdeal.main_arg0) = m ((c.tc : Thread Cert.OuterIdeal.nD Cert.OuterIdeal.τ).loc Cert.OuterIdeal.main_arg0)
      ∧ r.2.mem ((c.tc : Thread Cert.OuterIdeal.nD Cert.OuterIdeal.τ).loc Cert.OuterIdeal.main_arg1) = m ((c.tc : Thread Cert.OuterIdeal.nD Cert.OuterIdeal.τ).loc Cert.OuterIdeal.main_arg1)
      ∧ r.2.mem ((c.tc : Thread Cert.OuterIdeal.nD Cert.OuterIdeal.τ).loc Cert.OuterIdeal.main_arg2) = m ((c.tc : Thread Cert.OuterIdeal.nD Cert.OuterIdeal.τ).loc Cert.OuterIdeal.main_arg2)
      ∧ r.2.mem ((c.tc : Thread Cert.OuterIdeal.nD Cert.OuterIdeal.τ).loc Cert.OuterIdeal.main_arg3) = m ((c.tc : Thread Cert.OuterIdeal.nD Cert.OuterIdeal.τ).loc Cert.OuterIdeal.main_arg3)
      ∧ r.2.mem ((c.tc : Thread Cert.OuterIdeal.nD Cert.OuterIdeal.τ).loc Cert.OuterIdeal.main_arg4) = m ((c.tc : Thread Cert.OuterIdeal.nD Cert.OuterIdeal.τ).loc Cert.OuterIdeal.main_arg4))
      ∧ r.2.sem = fun _ => 0)

def quiescent_OuterReferenceIdeal [hOuterReferenceIdeal : Cert.OuterReferenceIdeal.Facts] : Prop :=
  ∀ (m : (ℓ : Loc Cert.OuterReferenceIdeal.nD Cert.OuterReferenceIdeal.τ Cert.OuterReferenceIdeal.sig) → Buf (Elt Ideal) ℓ) (g : Dev Cert.OuterReferenceIdeal.nD → PrngReg), Pre_OuterReferenceIdeal m →
    θ_run (Cert.OuterReferenceIdeal.defs (F := Ideal)) (onTc (τ := Cert.OuterReferenceIdeal.τ) (Cert.OuterReferenceIdeal.main (F := Ideal))) ⟨m, fun _ => 0, g⟩ (fun r => (∀ c : Dev Cert.OuterReferenceIdeal.nD,
      r.2.mem ((c.tc : Thread Cert.OuterReferenceIdeal.nD Cert.OuterReferenceIdeal.τ).loc Cert.OuterReferenceIdeal.main_arg0) = m ((c.tc : Thread Cert.OuterReferenceIdeal.nD Cert.OuterReferenceIdeal.τ).loc Cert.OuterReferenceIdeal.main_arg0)
      ∧ r.2.mem ((c.tc : Thread Cert.OuterReferenceIdeal.nD Cert.OuterReferenceIdeal.τ).loc Cert.OuterReferenceIdeal.main_arg1) = m ((c.tc : Thread Cert.OuterReferenceIdeal.nD Cert.OuterReferenceIdeal.τ).loc Cert.OuterReferenceIdeal.main_arg1)
      ∧ r.2.mem ((c.tc : Thread Cert.OuterReferenceIdeal.nD Cert.OuterReferenceIdeal.τ).loc Cert.OuterReferenceIdeal.main_arg2) = m ((c.tc : Thread Cert.OuterReferenceIdeal.nD Cert.OuterReferenceIdeal.τ).loc Cert.OuterReferenceIdeal.main_arg2)
      ∧ r.2.mem ((c.tc : Thread Cert.OuterReferenceIdeal.nD Cert.OuterReferenceIdeal.τ).loc Cert.OuterReferenceIdeal.main_arg3) = m ((c.tc : Thread Cert.OuterReferenceIdeal.nD Cert.OuterReferenceIdeal.τ).loc Cert.OuterReferenceIdeal.main_arg3)
      ∧ r.2.mem ((c.tc : Thread Cert.OuterReferenceIdeal.nD Cert.OuterReferenceIdeal.τ).loc Cert.OuterReferenceIdeal.main_arg4) = m ((c.tc : Thread Cert.OuterReferenceIdeal.nD Cert.OuterReferenceIdeal.τ).loc Cert.OuterReferenceIdeal.main_arg4))
      ∧ r.2.sem = fun _ => 0)

def quiescent_Input [hInput : Cert.Input.Facts] : Prop :=
  ∀ (m : (ℓ : Loc Cert.Input.nD Cert.Input.τ Cert.Input.sig) → Buf (Elt Bits) ℓ) (g : Dev Cert.Input.nD → PrngReg), Pre_Input m →
    θ_run (Cert.Input.defs (F := Bits)) (onTc (τ := Cert.Input.τ) (Cert.Input.main (F := Bits))) ⟨m, fun _ => 0, g⟩ (fun r => (∀ c : Dev Cert.Input.nD,
      r.2.mem ((c.tc : Thread Cert.Input.nD Cert.Input.τ).loc Cert.Input.main_arg0) = m ((c.tc : Thread Cert.Input.nD Cert.Input.τ).loc Cert.Input.main_arg0)
      ∧ r.2.mem ((c.tc : Thread Cert.Input.nD Cert.Input.τ).loc Cert.Input.main_arg1) = m ((c.tc : Thread Cert.Input.nD Cert.Input.τ).loc Cert.Input.main_arg1)
      ∧ r.2.mem ((c.tc : Thread Cert.Input.nD Cert.Input.τ).loc Cert.Input.main_arg2) = m ((c.tc : Thread Cert.Input.nD Cert.Input.τ).loc Cert.Input.main_arg2)
      ∧ r.2.mem ((c.tc : Thread Cert.Input.nD Cert.Input.τ).loc Cert.Input.main_arg3) = m ((c.tc : Thread Cert.Input.nD Cert.Input.τ).loc Cert.Input.main_arg3)
      ∧ r.2.mem ((c.tc : Thread Cert.Input.nD Cert.Input.τ).loc Cert.Input.main_arg4) = m ((c.tc : Thread Cert.Input.nD Cert.Input.τ).loc Cert.Input.main_arg4)
      ∧ r.2.mem ((c.tc : Thread Cert.Input.nD Cert.Input.τ).loc Cert.Input.main_arg5) = m ((c.tc : Thread Cert.Input.nD Cert.Input.τ).loc Cert.Input.main_arg5))
      ∧ r.2.sem = fun _ => 0)

def quiescent_InputIdeal [hInputIdeal : Cert.InputIdeal.Facts] : Prop :=
  ∀ (m : (ℓ : Loc Cert.InputIdeal.nD Cert.InputIdeal.τ Cert.InputIdeal.sig) → Buf (Elt Ideal) ℓ) (g : Dev Cert.InputIdeal.nD → PrngReg), Pre_InputIdeal m →
    θ_run (Cert.InputIdeal.defs (F := Ideal)) (onTc (τ := Cert.InputIdeal.τ) (Cert.InputIdeal.main (F := Ideal))) ⟨m, fun _ => 0, g⟩ (fun r => (∀ c : Dev Cert.InputIdeal.nD,
      r.2.mem ((c.tc : Thread Cert.InputIdeal.nD Cert.InputIdeal.τ).loc Cert.InputIdeal.main_arg0) = m ((c.tc : Thread Cert.InputIdeal.nD Cert.InputIdeal.τ).loc Cert.InputIdeal.main_arg0)
      ∧ r.2.mem ((c.tc : Thread Cert.InputIdeal.nD Cert.InputIdeal.τ).loc Cert.InputIdeal.main_arg1) = m ((c.tc : Thread Cert.InputIdeal.nD Cert.InputIdeal.τ).loc Cert.InputIdeal.main_arg1)
      ∧ r.2.mem ((c.tc : Thread Cert.InputIdeal.nD Cert.InputIdeal.τ).loc Cert.InputIdeal.main_arg2) = m ((c.tc : Thread Cert.InputIdeal.nD Cert.InputIdeal.τ).loc Cert.InputIdeal.main_arg2)
      ∧ r.2.mem ((c.tc : Thread Cert.InputIdeal.nD Cert.InputIdeal.τ).loc Cert.InputIdeal.main_arg3) = m ((c.tc : Thread Cert.InputIdeal.nD Cert.InputIdeal.τ).loc Cert.InputIdeal.main_arg3)
      ∧ r.2.mem ((c.tc : Thread Cert.InputIdeal.nD Cert.InputIdeal.τ).loc Cert.InputIdeal.main_arg4) = m ((c.tc : Thread Cert.InputIdeal.nD Cert.InputIdeal.τ).loc Cert.InputIdeal.main_arg4)
      ∧ r.2.mem ((c.tc : Thread Cert.InputIdeal.nD Cert.InputIdeal.τ).loc Cert.InputIdeal.main_arg5) = m ((c.tc : Thread Cert.InputIdeal.nD Cert.InputIdeal.τ).loc Cert.InputIdeal.main_arg5))
      ∧ r.2.sem = fun _ => 0)

def quiescent_InputReferenceIdeal [hInputReferenceIdeal : Cert.InputReferenceIdeal.Facts] : Prop :=
  ∀ (m : (ℓ : Loc Cert.InputReferenceIdeal.nD Cert.InputReferenceIdeal.τ Cert.InputReferenceIdeal.sig) → Buf (Elt Ideal) ℓ) (g : Dev Cert.InputReferenceIdeal.nD → PrngReg), Pre_InputReferenceIdeal m →
    θ_run (Cert.InputReferenceIdeal.defs (F := Ideal)) (onTc (τ := Cert.InputReferenceIdeal.τ) (Cert.InputReferenceIdeal.main (F := Ideal))) ⟨m, fun _ => 0, g⟩ (fun r => (∀ c : Dev Cert.InputReferenceIdeal.nD,
      r.2.mem ((c.tc : Thread Cert.InputReferenceIdeal.nD Cert.InputReferenceIdeal.τ).loc Cert.InputReferenceIdeal.main_arg0) = m ((c.tc : Thread Cert.InputReferenceIdeal.nD Cert.InputReferenceIdeal.τ).loc Cert.InputReferenceIdeal.main_arg0)
      ∧ r.2.mem ((c.tc : Thread Cert.InputReferenceIdeal.nD Cert.InputReferenceIdeal.τ).loc Cert.InputReferenceIdeal.main_arg1) = m ((c.tc : Thread Cert.InputReferenceIdeal.nD Cert.InputReferenceIdeal.τ).loc Cert.InputReferenceIdeal.main_arg1)
      ∧ r.2.mem ((c.tc : Thread Cert.InputReferenceIdeal.nD Cert.InputReferenceIdeal.τ).loc Cert.InputReferenceIdeal.main_arg2) = m ((c.tc : Thread Cert.InputReferenceIdeal.nD Cert.InputReferenceIdeal.τ).loc Cert.InputReferenceIdeal.main_arg2)
      ∧ r.2.mem ((c.tc : Thread Cert.InputReferenceIdeal.nD Cert.InputReferenceIdeal.τ).loc Cert.InputReferenceIdeal.main_arg3) = m ((c.tc : Thread Cert.InputReferenceIdeal.nD Cert.InputReferenceIdeal.τ).loc Cert.InputReferenceIdeal.main_arg3)
      ∧ r.2.mem ((c.tc : Thread Cert.InputReferenceIdeal.nD Cert.InputReferenceIdeal.τ).loc Cert.InputReferenceIdeal.main_arg4) = m ((c.tc : Thread Cert.InputReferenceIdeal.nD Cert.InputReferenceIdeal.τ).loc Cert.InputReferenceIdeal.main_arg4)
      ∧ r.2.mem ((c.tc : Thread Cert.InputReferenceIdeal.nD Cert.InputReferenceIdeal.τ).loc Cert.InputReferenceIdeal.main_arg5) = m ((c.tc : Thread Cert.InputReferenceIdeal.nD Cert.InputReferenceIdeal.τ).loc Cert.InputReferenceIdeal.main_arg5))
      ∧ r.2.sem = fun _ => 0)

def quiescent_Win [hWin : Cert.Win.Facts] : Prop :=
  ∀ (m : (ℓ : Loc Cert.Win.nD Cert.Win.τ Cert.Win.sig) → Buf (Elt Bits) ℓ) (g : Dev Cert.Win.nD → PrngReg), Pre_Win m →
    θ_run (Cert.Win.defs (F := Bits)) (onTc (τ := Cert.Win.τ) (Cert.Win.main (F := Bits))) ⟨m, fun _ => 0, g⟩ (fun r => (∀ c : Dev Cert.Win.nD,
      r.2.mem ((c.tc : Thread Cert.Win.nD Cert.Win.τ).loc Cert.Win.main_arg0) = m ((c.tc : Thread Cert.Win.nD Cert.Win.τ).loc Cert.Win.main_arg0)
      ∧ r.2.mem ((c.tc : Thread Cert.Win.nD Cert.Win.τ).loc Cert.Win.main_arg1) = m ((c.tc : Thread Cert.Win.nD Cert.Win.τ).loc Cert.Win.main_arg1)
      ∧ r.2.mem ((c.tc : Thread Cert.Win.nD Cert.Win.τ).loc Cert.Win.main_arg2) = m ((c.tc : Thread Cert.Win.nD Cert.Win.τ).loc Cert.Win.main_arg2)
      ∧ r.2.mem ((c.tc : Thread Cert.Win.nD Cert.Win.τ).loc Cert.Win.main_arg3) = m ((c.tc : Thread Cert.Win.nD Cert.Win.τ).loc Cert.Win.main_arg3))
      ∧ r.2.sem = fun _ => 0)

def quiescent_WinIdeal [hWinIdeal : Cert.WinIdeal.Facts] : Prop :=
  ∀ (m : (ℓ : Loc Cert.WinIdeal.nD Cert.WinIdeal.τ Cert.WinIdeal.sig) → Buf (Elt Ideal) ℓ) (g : Dev Cert.WinIdeal.nD → PrngReg), Pre_WinIdeal m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
      ∧ r.2.mem ((c.tc : Thread Cert.WinIdeal.nD Cert.WinIdeal.τ).loc Cert.WinIdeal.main_arg2) = m ((c.tc : Thread Cert.WinIdeal.nD Cert.WinIdeal.τ).loc Cert.WinIdeal.main_arg2)
      ∧ r.2.mem ((c.tc : Thread Cert.WinIdeal.nD Cert.WinIdeal.τ).loc Cert.WinIdeal.main_arg3) = m ((c.tc : Thread Cert.WinIdeal.nD Cert.WinIdeal.τ).loc Cert.WinIdeal.main_arg3))
      ∧ r.2.sem = fun _ => 0)

def quiescent_WinReferenceIdeal [hWinReferenceIdeal : Cert.WinReferenceIdeal.Facts] : Prop :=
  ∀ (m : (ℓ : Loc Cert.WinReferenceIdeal.nD Cert.WinReferenceIdeal.τ Cert.WinReferenceIdeal.sig) → Buf (Elt Ideal) ℓ) (g : Dev Cert.WinReferenceIdeal.nD → PrngReg), Pre_WinReferenceIdeal m →
    θ_run (Cert.WinReferenceIdeal.defs (F := Ideal)) (onTc (τ := Cert.WinReferenceIdeal.τ) (Cert.WinReferenceIdeal.main (F := Ideal))) ⟨m, fun _ => 0, g⟩ (fun r => (∀ c : Dev Cert.WinReferenceIdeal.nD,
      r.2.mem ((c.tc : Thread Cert.WinReferenceIdeal.nD Cert.WinReferenceIdeal.τ).loc Cert.WinReferenceIdeal.main_arg0) = m ((c.tc : Thread Cert.WinReferenceIdeal.nD Cert.WinReferenceIdeal.τ).loc Cert.WinReferenceIdeal.main_arg0)
      ∧ r.2.mem ((c.tc : Thread Cert.WinReferenceIdeal.nD Cert.WinReferenceIdeal.τ).loc Cert.WinReferenceIdeal.main_arg1) = m ((c.tc : Thread Cert.WinReferenceIdeal.nD Cert.WinReferenceIdeal.τ).loc Cert.WinReferenceIdeal.main_arg1)
      ∧ r.2.mem ((c.tc : Thread Cert.WinReferenceIdeal.nD Cert.WinReferenceIdeal.τ).loc Cert.WinReferenceIdeal.main_arg2) = m ((c.tc : Thread Cert.WinReferenceIdeal.nD Cert.WinReferenceIdeal.τ).loc Cert.WinReferenceIdeal.main_arg2)
      ∧ r.2.mem ((c.tc : Thread Cert.WinReferenceIdeal.nD Cert.WinReferenceIdeal.τ).loc Cert.WinReferenceIdeal.main_arg3) = m ((c.tc : Thread Cert.WinReferenceIdeal.nD Cert.WinReferenceIdeal.τ).loc Cert.WinReferenceIdeal.main_arg3))
      ∧ r.2.sem = fun _ => 0)

def quiescent_Wout [hWout : Cert.Wout.Facts] : Prop :=
  ∀ (m : (ℓ : Loc Cert.Wout.nD Cert.Wout.τ Cert.Wout.sig) → Buf (Elt Bits) ℓ) (g : Dev Cert.Wout.nD → PrngReg), Pre_Wout m →
    θ_run (Cert.Wout.defs (F := Bits)) (onTc (τ := Cert.Wout.τ) (Cert.Wout.main (F := Bits))) ⟨m, fun _ => 0, g⟩ (fun r => (∀ c : Dev Cert.Wout.nD,
      r.2.mem ((c.tc : Thread Cert.Wout.nD Cert.Wout.τ).loc Cert.Wout.main_arg0) = m ((c.tc : Thread Cert.Wout.nD Cert.Wout.τ).loc Cert.Wout.main_arg0)
      ∧ r.2.mem ((c.tc : Thread Cert.Wout.nD Cert.Wout.τ).loc Cert.Wout.main_arg1) = m ((c.tc : Thread Cert.Wout.nD Cert.Wout.τ).loc Cert.Wout.main_arg1)
      ∧ r.2.mem ((c.tc : Thread Cert.Wout.nD Cert.Wout.τ).loc Cert.Wout.main_arg2) = m ((c.tc : Thread Cert.Wout.nD Cert.Wout.τ).loc Cert.Wout.main_arg2)
      ∧ r.2.mem ((c.tc : Thread Cert.Wout.nD Cert.Wout.τ).loc Cert.Wout.main_arg3) = m ((c.tc : Thread Cert.Wout.nD Cert.Wout.τ).loc Cert.Wout.main_arg3))
      ∧ r.2.sem = fun _ => 0)

def quiescent_WoutIdeal [hWoutIdeal : Cert.WoutIdeal.Facts] : Prop :=
  ∀ (m : (ℓ : Loc Cert.WoutIdeal.nD Cert.WoutIdeal.τ Cert.WoutIdeal.sig) → Buf (Elt Ideal) ℓ) (g : Dev Cert.WoutIdeal.nD → PrngReg), Pre_WoutIdeal m →
    θ_run (Cert.WoutIdeal.defs (F := Ideal)) (onTc (τ := Cert.WoutIdeal.τ) (Cert.WoutIdeal.main (F := Ideal))) ⟨m, fun _ => 0, g⟩ (fun r => (∀ c : Dev Cert.WoutIdeal.nD,
      r.2.mem ((c.tc : Thread Cert.WoutIdeal.nD Cert.WoutIdeal.τ).loc Cert.WoutIdeal.main_arg0) = m ((c.tc : Thread Cert.WoutIdeal.nD Cert.WoutIdeal.τ).loc Cert.WoutIdeal.main_arg0)
      ∧ r.2.mem ((c.tc : Thread Cert.WoutIdeal.nD Cert.WoutIdeal.τ).loc Cert.WoutIdeal.main_arg1) = m ((c.tc : Thread Cert.WoutIdeal.nD Cert.WoutIdeal.τ).loc Cert.WoutIdeal.main_arg1)
      ∧ r.2.mem ((c.tc : Thread Cert.WoutIdeal.nD Cert.WoutIdeal.τ).loc Cert.WoutIdeal.main_arg2) = m ((c.tc : Thread Cert.WoutIdeal.nD Cert.WoutIdeal.τ).loc Cert.WoutIdeal.main_arg2)
      ∧ r.2.mem ((c.tc : Thread Cert.WoutIdeal.nD Cert.WoutIdeal.τ).loc Cert.WoutIdeal.main_arg3) = m ((c.tc : Thread Cert.WoutIdeal.nD Cert.WoutIdeal.τ).loc Cert.WoutIdeal.main_arg3))
      ∧ r.2.sem = fun _ => 0)

def quiescent_WoutReferenceIdeal [hWoutReferenceIdeal : Cert.WoutReferenceIdeal.Facts] : Prop :=
  ∀ (m : (ℓ : Loc Cert.WoutReferenceIdeal.nD Cert.WoutReferenceIdeal.τ Cert.WoutReferenceIdeal.sig) → Buf (Elt Ideal) ℓ) (g : Dev Cert.WoutReferenceIdeal.nD → PrngReg), Pre_WoutReferenceIdeal m →
    θ_run (Cert.WoutReferenceIdeal.defs (F := Ideal)) (onTc (τ := Cert.WoutReferenceIdeal.τ) (Cert.WoutReferenceIdeal.main (F := Ideal))) ⟨m, fun _ => 0, g⟩ (fun r => (∀ c : Dev Cert.WoutReferenceIdeal.nD,
      r.2.mem ((c.tc : Thread Cert.WoutReferenceIdeal.nD Cert.WoutReferenceIdeal.τ).loc Cert.WoutReferenceIdeal.main_arg0) = m ((c.tc : Thread Cert.WoutReferenceIdeal.nD Cert.WoutReferenceIdeal.τ).loc Cert.WoutReferenceIdeal.main_arg0)
      ∧ r.2.mem ((c.tc : Thread Cert.WoutReferenceIdeal.nD Cert.WoutReferenceIdeal.τ).loc Cert.WoutReferenceIdeal.main_arg1) = m ((c.tc : Thread Cert.WoutReferenceIdeal.nD Cert.WoutReferenceIdeal.τ).loc Cert.WoutReferenceIdeal.main_arg1)
      ∧ r.2.mem ((c.tc : Thread Cert.WoutReferenceIdeal.nD Cert.WoutReferenceIdeal.τ).loc Cert.WoutReferenceIdeal.main_arg2) = m ((c.tc : Thread Cert.WoutReferenceIdeal.nD Cert.WoutReferenceIdeal.τ).loc Cert.WoutReferenceIdeal.main_arg2)
      ∧ r.2.mem ((c.tc : Thread Cert.WoutReferenceIdeal.nD Cert.WoutReferenceIdeal.τ).loc Cert.WoutReferenceIdeal.main_arg3) = m ((c.tc : Thread Cert.WoutReferenceIdeal.nD Cert.WoutReferenceIdeal.τ).loc Cert.WoutReferenceIdeal.main_arg3))
      ∧ r.2.sem = fun _ => 0)

def quiescent_Wkv [hWkv : Cert.Wkv.Facts] : Prop :=
  ∀ (m : (ℓ : Loc Cert.Wkv.nD Cert.Wkv.τ Cert.Wkv.sig) → Buf (Elt Bits) ℓ) (g : Dev Cert.Wkv.nD → PrngReg), Pre_Wkv m →
    θ_run (Cert.Wkv.defs (F := Bits)) (onTc (τ := Cert.Wkv.τ) (Cert.Wkv.main (F := Bits))) ⟨m, fun _ => 0, g⟩ (fun r => (∀ c : Dev Cert.Wkv.nD,
      r.2.mem ((c.tc : Thread Cert.Wkv.nD Cert.Wkv.τ).loc Cert.Wkv.main_arg0) = m ((c.tc : Thread Cert.Wkv.nD Cert.Wkv.τ).loc Cert.Wkv.main_arg0)
      ∧ r.2.mem ((c.tc : Thread Cert.Wkv.nD Cert.Wkv.τ).loc Cert.Wkv.main_arg1) = m ((c.tc : Thread Cert.Wkv.nD Cert.Wkv.τ).loc Cert.Wkv.main_arg1)
      ∧ r.2.mem ((c.tc : Thread Cert.Wkv.nD Cert.Wkv.τ).loc Cert.Wkv.main_arg2) = m ((c.tc : Thread Cert.Wkv.nD Cert.Wkv.τ).loc Cert.Wkv.main_arg2)
      ∧ r.2.mem ((c.tc : Thread Cert.Wkv.nD Cert.Wkv.τ).loc Cert.Wkv.main_arg3) = m ((c.tc : Thread Cert.Wkv.nD Cert.Wkv.τ).loc Cert.Wkv.main_arg3))
      ∧ r.2.sem = fun _ => 0)

def quiescent_WkvIdeal [hWkvIdeal : Cert.WkvIdeal.Facts] : Prop :=
  ∀ (m : (ℓ : Loc Cert.WkvIdeal.nD Cert.WkvIdeal.τ Cert.WkvIdeal.sig) → Buf (Elt Ideal) ℓ) (g : Dev Cert.WkvIdeal.nD → PrngReg), Pre_WkvIdeal m →
    θ_run (Cert.WkvIdeal.defs (F := Ideal)) (onTc (τ := Cert.WkvIdeal.τ) (Cert.WkvIdeal.main (F := Ideal))) ⟨m, fun _ => 0, g⟩ (fun r => (∀ c : Dev Cert.WkvIdeal.nD,
      r.2.mem ((c.tc : Thread Cert.WkvIdeal.nD Cert.WkvIdeal.τ).loc Cert.WkvIdeal.main_arg0) = m ((c.tc : Thread Cert.WkvIdeal.nD Cert.WkvIdeal.τ).loc Cert.WkvIdeal.main_arg0)
      ∧ r.2.mem ((c.tc : Thread Cert.WkvIdeal.nD Cert.WkvIdeal.τ).loc Cert.WkvIdeal.main_arg1) = m ((c.tc : Thread Cert.WkvIdeal.nD Cert.WkvIdeal.τ).loc Cert.WkvIdeal.main_arg1)
      ∧ r.2.mem ((c.tc : Thread Cert.WkvIdeal.nD Cert.WkvIdeal.τ).loc Cert.WkvIdeal.main_arg2) = m ((c.tc : Thread Cert.WkvIdeal.nD Cert.WkvIdeal.τ).loc Cert.WkvIdeal.main_arg2)
      ∧ r.2.mem ((c.tc : Thread Cert.WkvIdeal.nD Cert.WkvIdeal.τ).loc Cert.WkvIdeal.main_arg3) = m ((c.tc : Thread Cert.WkvIdeal.nD Cert.WkvIdeal.τ).loc Cert.WkvIdeal.main_arg3))
      ∧ r.2.sem = fun _ => 0)

def quiescent_WkvReferenceIdeal [hWkvReferenceIdeal : Cert.WkvReferenceIdeal.Facts] : Prop :=
  ∀ (m : (ℓ : Loc Cert.WkvReferenceIdeal.nD Cert.WkvReferenceIdeal.τ Cert.WkvReferenceIdeal.sig) → Buf (Elt Ideal) ℓ) (g : Dev Cert.WkvReferenceIdeal.nD → PrngReg), Pre_WkvReferenceIdeal m →
    θ_run (Cert.WkvReferenceIdeal.defs (F := Ideal)) (onTc (τ := Cert.WkvReferenceIdeal.τ) (Cert.WkvReferenceIdeal.main (F := Ideal))) ⟨m, fun _ => 0, g⟩ (fun r => (∀ c : Dev Cert.WkvReferenceIdeal.nD,
      r.2.mem ((c.tc : Thread Cert.WkvReferenceIdeal.nD Cert.WkvReferenceIdeal.τ).loc Cert.WkvReferenceIdeal.main_arg0) = m ((c.tc : Thread Cert.WkvReferenceIdeal.nD Cert.WkvReferenceIdeal.τ).loc Cert.WkvReferenceIdeal.main_arg0)
      ∧ r.2.mem ((c.tc : Thread Cert.WkvReferenceIdeal.nD Cert.WkvReferenceIdeal.τ).loc Cert.WkvReferenceIdeal.main_arg1) = m ((c.tc : Thread Cert.WkvReferenceIdeal.nD Cert.WkvReferenceIdeal.τ).loc Cert.WkvReferenceIdeal.main_arg1)
      ∧ r.2.mem ((c.tc : Thread Cert.WkvReferenceIdeal.nD Cert.WkvReferenceIdeal.τ).loc Cert.WkvReferenceIdeal.main_arg2) = m ((c.tc : Thread Cert.WkvReferenceIdeal.nD Cert.WkvReferenceIdeal.τ).loc Cert.WkvReferenceIdeal.main_arg2)
      ∧ r.2.mem ((c.tc : Thread Cert.WkvReferenceIdeal.nD Cert.WkvReferenceIdeal.τ).loc Cert.WkvReferenceIdeal.main_arg3) = m ((c.tc : Thread Cert.WkvReferenceIdeal.nD Cert.WkvReferenceIdeal.τ).loc Cert.WkvReferenceIdeal.main_arg3))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ r.2.sem = fun _ => 0)

def quiescent_PoolReferenceIdeal [hPoolReferenceIdeal : Cert.PoolReferenceIdeal.Facts] : Prop :=
  ∀ (m : (ℓ : Loc Cert.PoolReferenceIdeal.nD Cert.PoolReferenceIdeal.τ Cert.PoolReferenceIdeal.sig) → Buf (Elt Ideal) ℓ) (g : Dev Cert.PoolReferenceIdeal.nD → PrngReg), Pre_PoolReferenceIdeal m →
    θ_run (Cert.PoolReferenceIdeal.defs (F := Ideal)) (onTc (τ := Cert.PoolReferenceIdeal.τ) (Cert.PoolReferenceIdeal.main (F := Ideal))) ⟨m, fun _ => 0, g⟩ (fun r => (∀ c : Dev Cert.PoolReferenceIdeal.nD,
      r.2.mem ((c.tc : Thread Cert.PoolReferenceIdeal.nD Cert.PoolReferenceIdeal.τ).loc Cert.PoolReferenceIdeal.main_arg0) = m ((c.tc : Thread Cert.PoolReferenceIdeal.nD Cert.PoolReferenceIdeal.τ).loc Cert.PoolReferenceIdeal.main_arg0)
      ∧ r.2.mem ((c.tc : Thread Cert.PoolReferenceIdeal.nD Cert.PoolReferenceIdeal.τ).loc Cert.PoolReferenceIdeal.main_arg1) = m ((c.tc : Thread Cert.PoolReferenceIdeal.nD Cert.PoolReferenceIdeal.τ).loc Cert.PoolReferenceIdeal.main_arg1)
      ∧ r.2.mem ((c.tc : Thread Cert.PoolReferenceIdeal.nD Cert.PoolReferenceIdeal.τ).loc Cert.PoolReferenceIdeal.main_arg2) = m ((c.tc : Thread Cert.PoolReferenceIdeal.nD Cert.PoolReferenceIdeal.τ).loc Cert.PoolReferenceIdeal.main_arg2)
      ∧ r.2.mem ((c.tc : Thread Cert.PoolReferenceIdeal.nD Cert.PoolReferenceIdeal.τ).loc Cert.PoolReferenceIdeal.main_arg3) = m ((c.tc : Thread Cert.PoolReferenceIdeal.nD Cert.PoolReferenceIdeal.τ).loc Cert.PoolReferenceIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3))
      ∧ r.2.sem = fun _ => 0)

def quiescent_Packed [hPacked : Cert.Packed.Facts] : Prop :=
  ∀ (m : (ℓ : Loc Cert.Packed.nD Cert.Packed.τ Cert.Packed.sig) → Buf (Elt Bits) ℓ) (g : Dev Cert.Packed.nD → PrngReg), Pre_Packed m →
    θ_run (Cert.Packed.defs (F := Bits)) (onTc (τ := Cert.Packed.τ) (Cert.Packed.main (F := Bits))) ⟨m, fun _ => 0, g⟩ (fun r => (∀ c : Dev Cert.Packed.nD,
      r.2.mem ((c.tc : Thread Cert.Packed.nD Cert.Packed.τ).loc Cert.Packed.main_arg0) = m ((c.tc : Thread Cert.Packed.nD Cert.Packed.τ).loc Cert.Packed.main_arg0)
      ∧ r.2.mem ((c.tc : Thread Cert.Packed.nD Cert.Packed.τ).loc Cert.Packed.main_arg1) = m ((c.tc : Thread Cert.Packed.nD Cert.Packed.τ).loc Cert.Packed.main_arg1)
      ∧ r.2.mem ((c.tc : Thread Cert.Packed.nD Cert.Packed.τ).loc Cert.Packed.main_arg2) = m ((c.tc : Thread Cert.Packed.nD Cert.Packed.τ).loc Cert.Packed.main_arg2)
      ∧ r.2.mem ((c.tc : Thread Cert.Packed.nD Cert.Packed.τ).loc Cert.Packed.main_arg3) = m ((c.tc : Thread Cert.Packed.nD Cert.Packed.τ).loc Cert.Packed.main_arg3)
      ∧ r.2.mem ((c.tc : Thread Cert.Packed.nD Cert.Packed.τ).loc Cert.Packed.main_arg4) = m ((c.tc : Thread Cert.Packed.nD Cert.Packed.τ).loc Cert.Packed.main_arg4)
      ∧ r.2.mem ((c.tc : Thread Cert.Packed.nD Cert.Packed.τ).loc Cert.Packed.main_arg5) = m ((c.tc : Thread Cert.Packed.nD Cert.Packed.τ).loc Cert.Packed.main_arg5)
      ∧ r.2.mem ((c.tc : Thread Cert.Packed.nD Cert.Packed.τ).loc Cert.Packed.main_arg6) = m ((c.tc : Thread Cert.Packed.nD Cert.Packed.τ).loc Cert.Packed.main_arg6)
      ∧ r.2.mem ((c.tc : Thread Cert.Packed.nD Cert.Packed.τ).loc Cert.Packed.main_arg7) = m ((c.tc : Thread Cert.Packed.nD Cert.Packed.τ).loc Cert.Packed.main_arg7)
      ∧ r.2.mem ((c.tc : Thread Cert.Packed.nD Cert.Packed.τ).loc Cert.Packed.main_arg8) = m ((c.tc : Thread Cert.Packed.nD Cert.Packed.τ).loc Cert.Packed.main_arg8)
      ∧ r.2.mem ((c.tc : Thread Cert.Packed.nD Cert.Packed.τ).loc Cert.Packed.main_arg9) = m ((c.tc : Thread Cert.Packed.nD Cert.Packed.τ).loc Cert.Packed.main_arg9)
      ∧ r.2.mem ((c.tc : Thread Cert.Packed.nD Cert.Packed.τ).loc Cert.Packed.main_arg10) = m ((c.tc : Thread Cert.Packed.nD Cert.Packed.τ).loc Cert.Packed.main_arg10)
      ∧ r.2.mem ((c.tc : Thread Cert.Packed.nD Cert.Packed.τ).loc Cert.Packed.main_arg11) = m ((c.tc : Thread Cert.Packed.nD Cert.Packed.τ).loc Cert.Packed.main_arg11)
      ∧ r.2.mem ((c.tc : Thread Cert.Packed.nD Cert.Packed.τ).loc Cert.Packed.main_arg12) = m ((c.tc : Thread Cert.Packed.nD Cert.Packed.τ).loc Cert.Packed.main_arg12)
      ∧ r.2.mem ((c.tc : Thread Cert.Packed.nD Cert.Packed.τ).loc Cert.Packed.main_arg13) = m ((c.tc : Thread Cert.Packed.nD Cert.Packed.τ).loc Cert.Packed.main_arg13)
      ∧ r.2.mem ((c.tc : Thread Cert.Packed.nD Cert.Packed.τ).loc Cert.Packed.main_arg14) = m ((c.tc : Thread Cert.Packed.nD Cert.Packed.τ).loc Cert.Packed.main_arg14)
      ∧ r.2.mem ((c.tc : Thread Cert.Packed.nD Cert.Packed.τ).loc Cert.Packed.main_arg15) = m ((c.tc : Thread Cert.Packed.nD Cert.Packed.τ).loc Cert.Packed.main_arg15)
      ∧ r.2.mem ((c.tc : Thread Cert.Packed.nD Cert.Packed.τ).loc Cert.Packed.main_arg16) = m ((c.tc : Thread Cert.Packed.nD Cert.Packed.τ).loc Cert.Packed.main_arg16)
      ∧ r.2.mem ((c.tc : Thread Cert.Packed.nD Cert.Packed.τ).loc Cert.Packed.main_arg17) = m ((c.tc : Thread Cert.Packed.nD Cert.Packed.τ).loc Cert.Packed.main_arg17)
      ∧ r.2.mem ((c.tc : Thread Cert.Packed.nD Cert.Packed.τ).loc Cert.Packed.main_arg18) = m ((c.tc : Thread Cert.Packed.nD Cert.Packed.τ).loc Cert.Packed.main_arg18)
      ∧ r.2.mem ((c.tc : Thread Cert.Packed.nD Cert.Packed.τ).loc Cert.Packed.main_arg19) = m ((c.tc : Thread Cert.Packed.nD Cert.Packed.τ).loc Cert.Packed.main_arg19)
      ∧ r.2.mem ((c.tc : Thread Cert.Packed.nD Cert.Packed.τ).loc Cert.Packed.main_arg20) = m ((c.tc : Thread Cert.Packed.nD Cert.Packed.τ).loc Cert.Packed.main_arg20)
      ∧ r.2.mem ((c.tc : Thread Cert.Packed.nD Cert.Packed.τ).loc Cert.Packed.main_arg21) = m ((c.tc : Thread Cert.Packed.nD Cert.Packed.τ).loc Cert.Packed.main_arg21)
      ∧ r.2.mem ((c.tc : Thread Cert.Packed.nD Cert.Packed.τ).loc Cert.Packed.main_arg22) = m ((c.tc : Thread Cert.Packed.nD Cert.Packed.τ).loc Cert.Packed.main_arg22)
      ∧ r.2.mem ((c.tc : Thread Cert.Packed.nD Cert.Packed.τ).loc Cert.Packed.main_arg23) = m ((c.tc : Thread Cert.Packed.nD Cert.Packed.τ).loc Cert.Packed.main_arg23)
      ∧ r.2.mem ((c.tc : Thread Cert.Packed.nD Cert.Packed.τ).loc Cert.Packed.main_arg24) = m ((c.tc : Thread Cert.Packed.nD Cert.Packed.τ).loc Cert.Packed.main_arg24))
      ∧ r.2.sem = fun _ => 0)

def quiescent_PackedIdeal [hPackedIdeal : Cert.PackedIdeal.Facts] : Prop :=
  ∀ (m : (ℓ : Loc Cert.PackedIdeal.nD Cert.PackedIdeal.τ Cert.PackedIdeal.sig) → Buf (Elt Ideal) ℓ) (g : Dev Cert.PackedIdeal.nD → PrngReg), Pre_PackedIdeal m →
    θ_run (Cert.PackedIdeal.defs (F := Ideal)) (onTc (τ := Cert.PackedIdeal.τ) (Cert.PackedIdeal.main (F := Ideal))) ⟨m, fun _ => 0, g⟩ (fun r => (∀ c : Dev Cert.PackedIdeal.nD,
      r.2.mem ((c.tc : Thread Cert.PackedIdeal.nD Cert.PackedIdeal.τ).loc Cert.PackedIdeal.main_arg0) = m ((c.tc : Thread Cert.PackedIdeal.nD Cert.PackedIdeal.τ).loc Cert.PackedIdeal.main_arg0)
      ∧ r.2.mem ((c.tc : Thread Cert.PackedIdeal.nD Cert.PackedIdeal.τ).loc Cert.PackedIdeal.main_arg1) = m ((c.tc : Thread Cert.PackedIdeal.nD Cert.PackedIdeal.τ).loc Cert.PackedIdeal.main_arg1)
      ∧ r.2.mem ((c.tc : Thread Cert.PackedIdeal.nD Cert.PackedIdeal.τ).loc Cert.PackedIdeal.main_arg2) = m ((c.tc : Thread Cert.PackedIdeal.nD Cert.PackedIdeal.τ).loc Cert.PackedIdeal.main_arg2)
      ∧ r.2.mem ((c.tc : Thread Cert.PackedIdeal.nD Cert.PackedIdeal.τ).loc Cert.PackedIdeal.main_arg3) = m ((c.tc : Thread Cert.PackedIdeal.nD Cert.PackedIdeal.τ).loc Cert.PackedIdeal.main_arg3)
      ∧ r.2.mem ((c.tc : Thread Cert.PackedIdeal.nD Cert.PackedIdeal.τ).loc Cert.PackedIdeal.main_arg4) = m ((c.tc : Thread Cert.PackedIdeal.nD Cert.PackedIdeal.τ).loc Cert.PackedIdeal.main_arg4)
      ∧ r.2.mem ((c.tc : Thread Cert.PackedIdeal.nD Cert.PackedIdeal.τ).loc Cert.PackedIdeal.main_arg5) = m ((c.tc : Thread Cert.PackedIdeal.nD Cert.PackedIdeal.τ).loc Cert.PackedIdeal.main_arg5)
      ∧ r.2.mem ((c.tc : Thread Cert.PackedIdeal.nD Cert.PackedIdeal.τ).loc Cert.PackedIdeal.main_arg6) = m ((c.tc : Thread Cert.PackedIdeal.nD Cert.PackedIdeal.τ).loc Cert.PackedIdeal.main_arg6)
      ∧ r.2.mem ((c.tc : Thread Cert.PackedIdeal.nD Cert.PackedIdeal.τ).loc Cert.PackedIdeal.main_arg7) = m ((c.tc : Thread Cert.PackedIdeal.nD Cert.PackedIdeal.τ).loc Cert.PackedIdeal.main_arg7)
      ∧ r.2.mem ((c.tc : Thread Cert.PackedIdeal.nD Cert.PackedIdeal.τ).loc Cert.PackedIdeal.main_arg8) = m ((c.tc : Thread Cert.PackedIdeal.nD Cert.PackedIdeal.τ).loc Cert.PackedIdeal.main_arg8)
      ∧ r.2.mem ((c.tc : Thread Cert.PackedIdeal.nD Cert.PackedIdeal.τ).loc Cert.PackedIdeal.main_arg9) = m ((c.tc : Thread Cert.PackedIdeal.nD Cert.PackedIdeal.τ).loc Cert.PackedIdeal.main_arg9)
      ∧ r.2.mem ((c.tc : Thread Cert.PackedIdeal.nD Cert.PackedIdeal.τ).loc Cert.PackedIdeal.main_arg10) = m ((c.tc : Thread Cert.PackedIdeal.nD Cert.PackedIdeal.τ).loc Cert.PackedIdeal.main_arg10)
      ∧ r.2.mem ((c.tc : Thread Cert.PackedIdeal.nD Cert.PackedIdeal.τ).loc Cert.PackedIdeal.main_arg11) = m ((c.tc : Thread Cert.PackedIdeal.nD Cert.PackedIdeal.τ).loc Cert.PackedIdeal.main_arg11)
      ∧ r.2.mem ((c.tc : Thread Cert.PackedIdeal.nD Cert.PackedIdeal.τ).loc Cert.PackedIdeal.main_arg12) = m ((c.tc : Thread Cert.PackedIdeal.nD Cert.PackedIdeal.τ).loc Cert.PackedIdeal.main_arg12)
      ∧ r.2.mem ((c.tc : Thread Cert.PackedIdeal.nD Cert.PackedIdeal.τ).loc Cert.PackedIdeal.main_arg13) = m ((c.tc : Thread Cert.PackedIdeal.nD Cert.PackedIdeal.τ).loc Cert.PackedIdeal.main_arg13)
      ∧ r.2.mem ((c.tc : Thread Cert.PackedIdeal.nD Cert.PackedIdeal.τ).loc Cert.PackedIdeal.main_arg14) = m ((c.tc : Thread Cert.PackedIdeal.nD Cert.PackedIdeal.τ).loc Cert.PackedIdeal.main_arg14)
      ∧ r.2.mem ((c.tc : Thread Cert.PackedIdeal.nD Cert.PackedIdeal.τ).loc Cert.PackedIdeal.main_arg15) = m ((c.tc : Thread Cert.PackedIdeal.nD Cert.PackedIdeal.τ).loc Cert.PackedIdeal.main_arg15)
      ∧ r.2.mem ((c.tc : Thread Cert.PackedIdeal.nD Cert.PackedIdeal.τ).loc Cert.PackedIdeal.main_arg16) = m ((c.tc : Thread Cert.PackedIdeal.nD Cert.PackedIdeal.τ).loc Cert.PackedIdeal.main_arg16)
      ∧ r.2.mem ((c.tc : Thread Cert.PackedIdeal.nD Cert.PackedIdeal.τ).loc Cert.PackedIdeal.main_arg17) = m ((c.tc : Thread Cert.PackedIdeal.nD Cert.PackedIdeal.τ).loc Cert.PackedIdeal.main_arg17)
      ∧ r.2.mem ((c.tc : Thread Cert.PackedIdeal.nD Cert.PackedIdeal.τ).loc Cert.PackedIdeal.main_arg18) = m ((c.tc : Thread Cert.PackedIdeal.nD Cert.PackedIdeal.τ).loc Cert.PackedIdeal.main_arg18)
      ∧ r.2.mem ((c.tc : Thread Cert.PackedIdeal.nD Cert.PackedIdeal.τ).loc Cert.PackedIdeal.main_arg19) = m ((c.tc : Thread Cert.PackedIdeal.nD Cert.PackedIdeal.τ).loc Cert.PackedIdeal.main_arg19)
      ∧ r.2.mem ((c.tc : Thread Cert.PackedIdeal.nD Cert.PackedIdeal.τ).loc Cert.PackedIdeal.main_arg20) = m ((c.tc : Thread Cert.PackedIdeal.nD Cert.PackedIdeal.τ).loc Cert.PackedIdeal.main_arg20)
      ∧ r.2.mem ((c.tc : Thread Cert.PackedIdeal.nD Cert.PackedIdeal.τ).loc Cert.PackedIdeal.main_arg21) = m ((c.tc : Thread Cert.PackedIdeal.nD Cert.PackedIdeal.τ).loc Cert.PackedIdeal.main_arg21)
      ∧ r.2.mem ((c.tc : Thread Cert.PackedIdeal.nD Cert.PackedIdeal.τ).loc Cert.PackedIdeal.main_arg22) = m ((c.tc : Thread Cert.PackedIdeal.nD Cert.PackedIdeal.τ).loc Cert.PackedIdeal.main_arg22)
      ∧ r.2.mem ((c.tc : Thread Cert.PackedIdeal.nD Cert.PackedIdeal.τ).loc Cert.PackedIdeal.main_arg23) = m ((c.tc : Thread Cert.PackedIdeal.nD Cert.PackedIdeal.τ).loc Cert.PackedIdeal.main_arg23)
      ∧ r.2.mem ((c.tc : Thread Cert.PackedIdeal.nD Cert.PackedIdeal.τ).loc Cert.PackedIdeal.main_arg24) = m ((c.tc : Thread Cert.PackedIdeal.nD Cert.PackedIdeal.τ).loc Cert.PackedIdeal.main_arg24))
      ∧ r.2.sem = fun _ => 0)

def quiescent_PackedReferenceIdeal [hPackedReferenceIdeal : Cert.PackedReferenceIdeal.Facts] : Prop :=
  ∀ (m : (ℓ : Loc Cert.PackedReferenceIdeal.nD Cert.PackedReferenceIdeal.τ Cert.PackedReferenceIdeal.sig) → Buf (Elt Ideal) ℓ) (g : Dev Cert.PackedReferenceIdeal.nD → PrngReg), Pre_PackedReferenceIdeal m →
    θ_run (Cert.PackedReferenceIdeal.defs (F := Ideal)) (onTc (τ := Cert.PackedReferenceIdeal.τ) (Cert.PackedReferenceIdeal.main (F := Ideal))) ⟨m, fun _ => 0, g⟩ (fun r => (∀ c : Dev Cert.PackedReferenceIdeal.nD,
      r.2.mem ((c.tc : Thread Cert.PackedReferenceIdeal.nD Cert.PackedReferenceIdeal.τ).loc Cert.PackedReferenceIdeal.main_arg0) = m ((c.tc : Thread Cert.PackedReferenceIdeal.nD Cert.PackedReferenceIdeal.τ).loc Cert.PackedReferenceIdeal.main_arg0)
      ∧ r.2.mem ((c.tc : Thread Cert.PackedReferenceIdeal.nD Cert.PackedReferenceIdeal.τ).loc Cert.PackedReferenceIdeal.main_arg1) = m ((c.tc : Thread Cert.PackedReferenceIdeal.nD Cert.PackedReferenceIdeal.τ).loc Cert.PackedReferenceIdeal.main_arg1)
      ∧ r.2.mem ((c.tc : Thread Cert.PackedReferenceIdeal.nD Cert.PackedReferenceIdeal.τ).loc Cert.PackedReferenceIdeal.main_arg2) = m ((c.tc : Thread Cert.PackedReferenceIdeal.nD Cert.PackedReferenceIdeal.τ).loc Cert.PackedReferenceIdeal.main_arg2)
      ∧ r.2.mem ((c.tc : Thread Cert.PackedReferenceIdeal.nD Cert.PackedReferenceIdeal.τ).loc Cert.PackedReferenceIdeal.main_arg3) = m ((c.tc : Thread Cert.PackedReferenceIdeal.nD Cert.PackedReferenceIdeal.τ).loc Cert.PackedReferenceIdeal.main_arg3)
      ∧ r.2.mem ((c.tc : Thread Cert.PackedReferenceIdeal.nD Cert.PackedReferenceIdeal.τ).loc Cert.PackedReferenceIdeal.main_arg4) = m ((c.tc : Thread Cert.PackedReferenceIdeal.nD Cert.PackedReferenceIdeal.τ).loc Cert.PackedReferenceIdeal.main_arg4)
      ∧ r.2.mem ((c.tc : Thread Cert.PackedReferenceIdeal.nD Cert.PackedReferenceIdeal.τ).loc Cert.PackedReferenceIdeal.main_arg5) = m ((c.tc : Thread Cert.PackedReferenceIdeal.nD Cert.PackedReferenceIdeal.τ).loc Cert.PackedReferenceIdeal.main_arg5)
      ∧ r.2.mem ((c.tc : Thread Cert.PackedReferenceIdeal.nD Cert.PackedReferenceIdeal.τ).loc Cert.PackedReferenceIdeal.main_arg6) = m ((c.tc : Thread Cert.PackedReferenceIdeal.nD Cert.PackedReferenceIdeal.τ).loc Cert.PackedReferenceIdeal.main_arg6)
      ∧ r.2.mem ((c.tc : Thread Cert.PackedReferenceIdeal.nD Cert.PackedReferenceIdeal.τ).loc Cert.PackedReferenceIdeal.main_arg7) = m ((c.tc : Thread Cert.PackedReferenceIdeal.nD Cert.PackedReferenceIdeal.τ).loc Cert.PackedReferenceIdeal.main_arg7)
      ∧ r.2.mem ((c.tc : Thread Cert.PackedReferenceIdeal.nD Cert.PackedReferenceIdeal.τ).loc Cert.PackedReferenceIdeal.main_arg8) = m ((c.tc : Thread Cert.PackedReferenceIdeal.nD Cert.PackedReferenceIdeal.τ).loc Cert.PackedReferenceIdeal.main_arg8)
      ∧ r.2.mem ((c.tc : Thread Cert.PackedReferenceIdeal.nD Cert.PackedReferenceIdeal.τ).loc Cert.PackedReferenceIdeal.main_arg9) = m ((c.tc : Thread Cert.PackedReferenceIdeal.nD Cert.PackedReferenceIdeal.τ).loc Cert.PackedReferenceIdeal.main_arg9)
      ∧ r.2.mem ((c.tc : Thread Cert.PackedReferenceIdeal.nD Cert.PackedReferenceIdeal.τ).loc Cert.PackedReferenceIdeal.main_arg10) = m ((c.tc : Thread Cert.PackedReferenceIdeal.nD Cert.PackedReferenceIdeal.τ).loc Cert.PackedReferenceIdeal.main_arg10)
      ∧ r.2.mem ((c.tc : Thread Cert.PackedReferenceIdeal.nD Cert.PackedReferenceIdeal.τ).loc Cert.PackedReferenceIdeal.main_arg11) = m ((c.tc : Thread Cert.PackedReferenceIdeal.nD Cert.PackedReferenceIdeal.τ).loc Cert.PackedReferenceIdeal.main_arg11)
      ∧ r.2.mem ((c.tc : Thread Cert.PackedReferenceIdeal.nD Cert.PackedReferenceIdeal.τ).loc Cert.PackedReferenceIdeal.main_arg12) = m ((c.tc : Thread Cert.PackedReferenceIdeal.nD Cert.PackedReferenceIdeal.τ).loc Cert.PackedReferenceIdeal.main_arg12)
      ∧ r.2.mem ((c.tc : Thread Cert.PackedReferenceIdeal.nD Cert.PackedReferenceIdeal.τ).loc Cert.PackedReferenceIdeal.main_arg13) = m ((c.tc : Thread Cert.PackedReferenceIdeal.nD Cert.PackedReferenceIdeal.τ).loc Cert.PackedReferenceIdeal.main_arg13)
      ∧ r.2.mem ((c.tc : Thread Cert.PackedReferenceIdeal.nD Cert.PackedReferenceIdeal.τ).loc Cert.PackedReferenceIdeal.main_arg14) = m ((c.tc : Thread Cert.PackedReferenceIdeal.nD Cert.PackedReferenceIdeal.τ).loc Cert.PackedReferenceIdeal.main_arg14)
      ∧ r.2.mem ((c.tc : Thread Cert.PackedReferenceIdeal.nD Cert.PackedReferenceIdeal.τ).loc Cert.PackedReferenceIdeal.main_arg15) = m ((c.tc : Thread Cert.PackedReferenceIdeal.nD Cert.PackedReferenceIdeal.τ).loc Cert.PackedReferenceIdeal.main_arg15)
      ∧ r.2.mem ((c.tc : Thread Cert.PackedReferenceIdeal.nD Cert.PackedReferenceIdeal.τ).loc Cert.PackedReferenceIdeal.main_arg16) = m ((c.tc : Thread Cert.PackedReferenceIdeal.nD Cert.PackedReferenceIdeal.τ).loc Cert.PackedReferenceIdeal.main_arg16)
      ∧ r.2.mem ((c.tc : Thread Cert.PackedReferenceIdeal.nD Cert.PackedReferenceIdeal.τ).loc Cert.PackedReferenceIdeal.main_arg17) = m ((c.tc : Thread Cert.PackedReferenceIdeal.nD Cert.PackedReferenceIdeal.τ).loc Cert.PackedReferenceIdeal.main_arg17)
      ∧ r.2.mem ((c.tc : Thread Cert.PackedReferenceIdeal.nD Cert.PackedReferenceIdeal.τ).loc Cert.PackedReferenceIdeal.main_arg18) = m ((c.tc : Thread Cert.PackedReferenceIdeal.nD Cert.PackedReferenceIdeal.τ).loc Cert.PackedReferenceIdeal.main_arg18)
      ∧ r.2.mem ((c.tc : Thread Cert.PackedReferenceIdeal.nD Cert.PackedReferenceIdeal.τ).loc Cert.PackedReferenceIdeal.main_arg19) = m ((c.tc : Thread Cert.PackedReferenceIdeal.nD Cert.PackedReferenceIdeal.τ).loc Cert.PackedReferenceIdeal.main_arg19)
      ∧ r.2.mem ((c.tc : Thread Cert.PackedReferenceIdeal.nD Cert.PackedReferenceIdeal.τ).loc Cert.PackedReferenceIdeal.main_arg20) = m ((c.tc : Thread Cert.PackedReferenceIdeal.nD Cert.PackedReferenceIdeal.τ).loc Cert.PackedReferenceIdeal.main_arg20)
      ∧ r.2.mem ((c.tc : Thread Cert.PackedReferenceIdeal.nD Cert.PackedReferenceIdeal.τ).loc Cert.PackedReferenceIdeal.main_arg21) = m ((c.tc : Thread Cert.PackedReferenceIdeal.nD Cert.PackedReferenceIdeal.τ).loc Cert.PackedReferenceIdeal.main_arg21)
      ∧ r.2.mem ((c.tc : Thread Cert.PackedReferenceIdeal.nD Cert.PackedReferenceIdeal.τ).loc Cert.PackedReferenceIdeal.main_arg22) = m ((c.tc : Thread Cert.PackedReferenceIdeal.nD Cert.PackedReferenceIdeal.τ).loc Cert.PackedReferenceIdeal.main_arg22)
      ∧ r.2.mem ((c.tc : Thread Cert.PackedReferenceIdeal.nD Cert.PackedReferenceIdeal.τ).loc Cert.PackedReferenceIdeal.main_arg23) = m ((c.tc : Thread Cert.PackedReferenceIdeal.nD Cert.PackedReferenceIdeal.τ).loc Cert.PackedReferenceIdeal.main_arg23)
      ∧ r.2.mem ((c.tc : Thread Cert.PackedReferenceIdeal.nD Cert.PackedReferenceIdeal.τ).loc Cert.PackedReferenceIdeal.main_arg24) = m ((c.tc : Thread Cert.PackedReferenceIdeal.nD Cert.PackedReferenceIdeal.τ).loc Cert.PackedReferenceIdeal.main_arg24))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 2048]⟩ ⟨2, ![32768, 2048]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 7168]⟩ ⟨2, ![32768, 7168]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨3, ![4, 256, 2048]⟩ ⟨3, ![32, 256, 2048]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 128, 256]⟩ ⟨3, ![32, 128, 256]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨3, ![4, 1120, 128]⟩ ⟨3, ![32, 1120, 128]⟩ 0 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨3, ![4, 384, 2048]⟩ ⟨3, ![32, 384, 2048]⟩ 0 8 c (m' (((0 : Dev Cert.ReferenceIdeal.nD).tc : Thread Cert.ReferenceIdeal.nD Cert.ReferenceIdeal.τ).loc Cert.ReferenceIdeal.main_arg5))) →
    ∃ (v0 : Buf (Elt Ideal) (((0 : Dev Cert.ReferenceIdeal.nD).tc : Thread Cert.ReferenceIdeal.nD Cert.ReferenceIdeal.τ).loc Cert.ReferenceIdeal.main_v24)) (v1 : Buf (Elt Ideal) (((0 : Dev Cert.ReferenceIdeal.nD).tc : Thread Cert.ReferenceIdeal.nD Cert.ReferenceIdeal.τ).loc Cert.ReferenceIdeal.main_v25)) (v2 : Buf (Elt Ideal) (((0 : Dev Cert.ReferenceIdeal.nD).tc : Thread Cert.ReferenceIdeal.nD Cert.ReferenceIdeal.τ).loc Cert.ReferenceIdeal.main_v14)) (v3 : Buf (Elt Ideal) (((0 : Dev Cert.ReferenceIdeal.nD).tc : Thread Cert.ReferenceIdeal.nD Cert.ReferenceIdeal.τ).loc Cert.ReferenceIdeal.main_v17)) (v4 : Buf (Elt Ideal) (((0 : Dev Cert.ReferenceIdeal.nD).tc : Thread Cert.ReferenceIdeal.nD Cert.ReferenceIdeal.τ).loc Cert.ReferenceIdeal.main_v20)) (v5 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.block ⟨3, ![8, 2048, 896]⟩ ⟨3, ![64, 2048, 896]⟩ 0 8 c v0
          ∧ r.2.mem ((c.tc : Thread Cert.KernelIdeal.nD Cert.KernelIdeal.τ).loc Cert.KernelIdeal.main_v1_1) = Layout.block ⟨3, ![4, 2048, 896]⟩ ⟨3, ![32, 2048, 896]⟩ 0 8 c v1
          ∧ r.2.mem ((c.tc : Thread Cert.KernelIdeal.nD Cert.KernelIdeal.τ).loc Cert.KernelIdeal.main_v1_2) = Layout.block ⟨3, ![4, 256, 2048]⟩ ⟨3, ![32, 256, 2048]⟩ 0 8 c v2
          ∧ r.2.mem ((c.tc : Thread Cert.KernelIdeal.nD Cert.KernelIdeal.τ).loc Cert.KernelIdeal.main_v1_3) = Layout.block ⟨3, ![4, 128, 256]⟩ ⟨3, ![32, 128, 256]⟩ 0 8 c v3
          ∧ r.2.mem ((c.tc : Thread Cert.KernelIdeal.nD Cert.KernelIdeal.τ).loc Cert.KernelIdeal.main_v1_4) = Layout.block ⟨3, ![4, 1120, 128]⟩ ⟨3, ![32, 1120, 128]⟩ 0 8 c v4
          ∧ r.2.mem ((c.tc : Thread Cert.KernelIdeal.nD Cert.KernelIdeal.τ).loc Cert.KernelIdeal.main_v1_5) = Layout.block ⟨3, ![4, 384, 2048]⟩ ⟨3, ![32, 384, 2048]⟩ 0 8 c v5
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v24) = v0
          ∧ r.2.mem (((0 : Dev Cert.ReferenceIdeal.nD).tc : Thread Cert.ReferenceIdeal.nD Cert.ReferenceIdeal.τ).loc Cert.ReferenceIdeal.main_v25) = v1
          ∧ r.2.mem (((0 : Dev Cert.ReferenceIdeal.nD).tc : Thread Cert.ReferenceIdeal.nD Cert.ReferenceIdeal.τ).loc Cert.ReferenceIdeal.main_v14) = v2
          ∧ r.2.mem (((0 : Dev Cert.ReferenceIdeal.nD).tc : Thread Cert.ReferenceIdeal.nD Cert.ReferenceIdeal.τ).loc Cert.ReferenceIdeal.main_v17) = v3
          ∧ r.2.mem (((0 : Dev Cert.ReferenceIdeal.nD).tc : Thread Cert.ReferenceIdeal.nD Cert.ReferenceIdeal.τ).loc Cert.ReferenceIdeal.main_v20) = v4
          ∧ r.2.mem (((0 : Dev Cert.ReferenceIdeal.nD).tc : Thread Cert.ReferenceIdeal.nD Cert.ReferenceIdeal.τ).loc Cert.ReferenceIdeal.main_v23) = v5
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5))

def preserves_Outer_OuterIdeal : Prop :=
  True

def algebraic_OuterIdeal_OuterReferenceIdeal [hOuterIdeal : Cert.OuterIdeal.Facts] [hOuterReferenceIdeal : Cert.OuterReferenceIdeal.Facts] : Prop :=
  ∀ (m : (ℓ : Loc Cert.OuterIdeal.nD Cert.OuterIdeal.τ Cert.OuterIdeal.sig) → Buf (Elt Ideal) ℓ) (g : Dev Cert.OuterIdeal.nD → PrngReg)
    (m' : (ℓ : Loc Cert.OuterReferenceIdeal.nD Cert.OuterReferenceIdeal.τ Cert.OuterReferenceIdeal.sig) → Buf (Elt Ideal) ℓ) (g' : Dev Cert.OuterReferenceIdeal.nD → PrngReg), Pre_OuterIdeal m →
    (∀ c : Dev Cert.OuterIdeal.nD,
      m ((c.tc : Thread Cert.OuterIdeal.nD Cert.OuterIdeal.τ).loc Cert.OuterIdeal.main_arg0) = Layout.block ⟨2, ![4096, 3072]⟩ ⟨2, ![32768, 3072]⟩ 0 8 c (m' (((0 : Dev Cert.OuterReferenceIdeal.nD).tc : Thread Cert.OuterReferenceIdeal.nD Cert.OuterReferenceIdeal.τ).loc Cert.OuterReferenceIdeal.main_arg0))
      ∧ m ((c.tc : Thread Cert.OuterIdeal.nD Cert.OuterIdeal.τ).loc Cert.OuterIdeal.main_arg1) = Layout.block ⟨2, ![4096, 2048]⟩ ⟨2, ![32768, 2048]⟩ 0 8 c (m' (((0 : Dev Cert.OuterReferenceIdeal.nD).tc : Thread Cert.OuterReferenceIdeal.nD Cert.OuterReferenceIdeal.τ).loc Cert.OuterReferenceIdeal.main_arg1))
      ∧ m ((c.tc : Thread Cert.OuterIdeal.nD Cert.OuterIdeal.τ).loc Cert.OuterIdeal.main_arg2) = Layout.block ⟨4, ![4, 2, 256, 2048]⟩ ⟨4, ![32, 2, 256, 2048]⟩ 0 8 c (m' (((0 : Dev Cert.OuterReferenceIdeal.nD).tc : Thread Cert.OuterReferenceIdeal.nD Cert.OuterReferenceIdeal.τ).loc Cert.OuterReferenceIdeal.main_arg2))
      ∧ m ((c.tc : Thread Cert.OuterIdeal.nD Cert.OuterIdeal.τ).loc Cert.OuterIdeal.main_arg3) = Layout.block ⟨4, ![4, 2, 128, 256]⟩ ⟨4, ![32, 2, 128, 256]⟩ 0 8 c (m' (((0 : Dev Cert.OuterReferenceIdeal.nD).tc : Thread Cert.OuterReferenceIdeal.nD Cert.OuterReferenceIdeal.τ).loc Cert.OuterReferenceIdeal.main_arg3))
      ∧ m ((c.tc : Thread Cert.OuterIdeal.nD Cert.OuterIdeal.τ).loc Cert.OuterIdeal.main_arg4) = Layout.block ⟨4, ![1, 1, 1120, 128]⟩ ⟨4, ![8, 1, 1120, 128]⟩ 0 8 c (m' (((0 : Dev Cert.OuterReferenceIdeal.nD).tc : Thread Cert.OuterReferenceIdeal.nD Cert.OuterReferenceIdeal.τ).loc Cert.OuterReferenceIdeal.main_arg4))) →
    ∃ (v0 : Buf (Elt Ideal) (((0 : Dev Cert.OuterReferenceIdeal.nD).tc : Thread Cert.OuterReferenceIdeal.nD Cert.OuterReferenceIdeal.τ).loc Cert.OuterReferenceIdeal.main_v33)) (v1 : Buf (Elt Ideal) (((0 : Dev Cert.OuterReferenceIdeal.nD).tc : Thread Cert.OuterReferenceIdeal.nD Cert.OuterReferenceIdeal.τ).loc Cert.OuterReferenceIdeal.main_v34)) (v2 : Buf (Elt Ideal) (((0 : Dev Cert.OuterReferenceIdeal.nD).tc : Thread Cert.OuterReferenceIdeal.nD Cert.OuterReferenceIdeal.τ).loc Cert.OuterReferenceIdeal.main_v35)) (v3 : Buf (Elt Ideal) (((0 : Dev Cert.OuterReferenceIdeal.nD).tc : Thread Cert.OuterReferenceIdeal.nD Cert.OuterReferenceIdeal.τ).loc Cert.OuterReferenceIdeal.main_v36)) (v4 : Buf (Elt Ideal) (((0 : Dev Cert.OuterReferenceIdeal.nD).tc : Thread Cert.OuterReferenceIdeal.nD Cert.OuterReferenceIdeal.τ).loc Cert.OuterReferenceIdeal.main_v37)),
      θ_run (Cert.OuterIdeal.defs (F := Ideal)) (onTc (τ := Cert.OuterIdeal.τ) (Cert.OuterIdeal.main (F := Ideal))) ⟨m, fun _ => 0, g⟩ (fun r => ∀ c : Dev Cert.OuterIdeal.nD,
          r.2.mem ((c.tc : Thread Cert.OuterIdeal.nD Cert.OuterIdeal.τ).loc Cert.OuterIdeal.main_v1_0) = Layout.block ⟨3, ![8, 384, 2048]⟩ ⟨3, ![64, 384, 2048]⟩ 0 8 c v0
          ∧ r.2.mem ((c.tc : Thread Cert.OuterIdeal.nD Cert.OuterIdeal.τ).loc Cert.OuterIdeal.main_v1_1) = Layout.block ⟨3, ![4, 384, 2048]⟩ ⟨3, ![32, 384, 2048]⟩ 0 8 c v1
          ∧ r.2.mem ((c.tc : Thread Cert.OuterIdeal.nD Cert.OuterIdeal.τ).loc Cert.OuterIdeal.main_v1_2) = Layout.block ⟨3, ![4, 256, 2048]⟩ ⟨3, ![32, 256, 2048]⟩ 0 8 c v2
          ∧ r.2.mem ((c.tc : Thread Cert.OuterIdeal.nD Cert.OuterIdeal.τ).loc Cert.OuterIdeal.main_v1_3) = Layout.block ⟨3, ![4, 128, 256]⟩ ⟨3, ![32, 128, 256]⟩ 0 8 c v3
          ∧ r.2.mem ((c.tc : Thread Cert.OuterIdeal.nD Cert.OuterIdeal.τ).loc Cert.OuterIdeal.main_v1_4) = Layout.block ⟨3, ![4, 1120, 128]⟩ ⟨3, ![32, 1120, 128]⟩ 0 8 c v4
          ∧ r.2.mem ((c.tc : Thread Cert.OuterIdeal.nD Cert.OuterIdeal.τ).loc Cert.OuterIdeal.main_arg0) = m ((c.tc : Thread Cert.OuterIdeal.nD Cert.OuterIdeal.τ).loc Cert.OuterIdeal.main_arg0)
          ∧ r.2.mem ((c.tc : Thread Cert.OuterIdeal.nD Cert.OuterIdeal.τ).loc Cert.OuterIdeal.main_arg1) = m ((c.tc : Thread Cert.OuterIdeal.nD Cert.OuterIdeal.τ).loc Cert.OuterIdeal.main_arg1)
          ∧ r.2.mem ((c.tc : Thread Cert.OuterIdeal.nD Cert.OuterIdeal.τ).loc Cert.OuterIdeal.main_arg2) = m ((c.tc : Thread Cert.OuterIdeal.nD Cert.OuterIdeal.τ).loc Cert.OuterIdeal.main_arg2)
          ∧ r.2.mem ((c.tc : Thread Cert.OuterIdeal.nD Cert.OuterIdeal.τ).loc Cert.OuterIdeal.main_arg3) = m ((c.tc : Thread Cert.OuterIdeal.nD Cert.OuterIdeal.τ).loc Cert.OuterIdeal.main_arg3)
          ∧ r.2.mem ((c.tc : Thread Cert.OuterIdeal.nD Cert.OuterIdeal.τ).loc Cert.OuterIdeal.main_arg4) = m ((c.tc : Thread Cert.OuterIdeal.nD Cert.OuterIdeal.τ).loc Cert.OuterIdeal.main_arg4))
      ∧ θ_run (Cert.OuterReferenceIdeal.defs (F := Ideal)) (onTc (τ := Cert.OuterReferenceIdeal.τ) (Cert.OuterReferenceIdeal.main (F := Ideal))) ⟨m', fun _ => 0, g'⟩ (fun r =>
          r.2.mem (((0 : Dev Cert.OuterReferenceIdeal.nD).tc : Thread Cert.OuterReferenceIdeal.nD Cert.OuterReferenceIdeal.τ).loc Cert.OuterReferenceIdeal.main_v33) = v0
          ∧ r.2.mem (((0 : Dev Cert.OuterReferenceIdeal.nD).tc : Thread Cert.OuterReferenceIdeal.nD Cert.OuterReferenceIdeal.τ).loc Cert.OuterReferenceIdeal.main_v34) = v1
          ∧ r.2.mem (((0 : Dev Cert.OuterReferenceIdeal.nD).tc : Thread Cert.OuterReferenceIdeal.nD Cert.OuterReferenceIdeal.τ).loc Cert.OuterReferenceIdeal.main_v35) = v2
          ∧ r.2.mem (((0 : Dev Cert.OuterReferenceIdeal.nD).tc : Thread Cert.OuterReferenceIdeal.nD Cert.OuterReferenceIdeal.τ).loc Cert.OuterReferenceIdeal.main_v36) = v3
          ∧ r.2.mem (((0 : Dev Cert.OuterReferenceIdeal.nD).tc : Thread Cert.OuterReferenceIdeal.nD Cert.OuterReferenceIdeal.τ).loc Cert.OuterReferenceIdeal.main_v37) = v4
          ∧ r.2.mem (((0 : Dev Cert.OuterReferenceIdeal.nD).tc : Thread Cert.OuterReferenceIdeal.nD Cert.OuterReferenceIdeal.τ).loc Cert.OuterReferenceIdeal.main_arg0) = m' (((0 : Dev Cert.OuterReferenceIdeal.nD).tc : Thread Cert.OuterReferenceIdeal.nD Cert.OuterReferenceIdeal.τ).loc Cert.OuterReferenceIdeal.main_arg0)
          ∧ r.2.mem (((0 : Dev Cert.OuterReferenceIdeal.nD).tc : Thread Cert.OuterReferenceIdeal.nD Cert.OuterReferenceIdeal.τ).loc Cert.OuterReferenceIdeal.main_arg1) = m' (((0 : Dev Cert.OuterReferenceIdeal.nD).tc : Thread Cert.OuterReferenceIdeal.nD Cert.OuterReferenceIdeal.τ).loc Cert.OuterReferenceIdeal.main_arg1)
          ∧ r.2.mem (((0 : Dev Cert.OuterReferenceIdeal.nD).tc : Thread Cert.OuterReferenceIdeal.nD Cert.OuterReferenceIdeal.τ).loc Cert.OuterReferenceIdeal.main_arg2) = m' (((0 : Dev Cert.OuterReferenceIdeal.nD).tc : Thread Cert.OuterReferenceIdeal.nD Cert.OuterReferenceIdeal.τ).loc Cert.OuterReferenceIdeal.main_arg2)
          ∧ r.2.mem (((0 : Dev Cert.OuterReferenceIdeal.nD).tc : Thread Cert.OuterReferenceIdeal.nD Cert.OuterReferenceIdeal.τ).loc Cert.OuterReferenceIdeal.main_arg3) = m' (((0 : Dev Cert.OuterReferenceIdeal.nD).tc : Thread Cert.OuterReferenceIdeal.nD Cert.OuterReferenceIdeal.τ).loc Cert.OuterReferenceIdeal.main_arg3)
          ∧ r.2.mem (((0 : Dev Cert.OuterReferenceIdeal.nD).tc : Thread Cert.OuterReferenceIdeal.nD Cert.OuterReferenceIdeal.τ).loc Cert.OuterReferenceIdeal.main_arg4) = m' (((0 : Dev Cert.OuterReferenceIdeal.nD).tc : Thread Cert.OuterReferenceIdeal.nD Cert.OuterReferenceIdeal.τ).loc Cert.OuterReferenceIdeal.main_arg4))

def preserves_Input_InputIdeal : Prop :=
  True

def algebraic_InputIdeal_InputReferenceIdeal [hInputIdeal : Cert.InputIdeal.Facts] [hInputReferenceIdeal : Cert.InputReferenceIdeal.Facts] : Prop :=
  ∀ (m : (ℓ : Loc Cert.InputIdeal.nD Cert.InputIdeal.τ Cert.InputIdeal.sig) → Buf (Elt Ideal) ℓ) (g : Dev Cert.InputIdeal.nD → PrngReg)
    (m' : (ℓ : Loc Cert.InputReferenceIdeal.nD Cert.InputReferenceIdeal.τ Cert.InputReferenceIdeal.sig) → Buf (Elt Ideal) ℓ) (g' : Dev Cert.InputReferenceIdeal.nD → PrngReg), Pre_InputIdeal m →
    (∀ c : Dev Cert.InputIdeal.nD,
      m ((c.tc : Thread Cert.InputIdeal.nD Cert.InputIdeal.τ).loc Cert.InputIdeal.main_arg0) = Layout.block ⟨2, ![4096, 7168]⟩ ⟨2, ![32768, 7168]⟩ 0 8 c (m' (((0 : Dev Cert.InputReferenceIdeal.nD).tc : Thread Cert.InputReferenceIdeal.nD Cert.InputReferenceIdeal.τ).loc Cert.InputReferenceIdeal.main_arg0))
      ∧ m ((c.tc : Thread Cert.InputIdeal.nD Cert.InputIdeal.τ).loc Cert.InputIdeal.main_arg1) = m' (((0 : Dev Cert.InputReferenceIdeal.nD).tc : Thread Cert.InputReferenceIdeal.nD Cert.InputReferenceIdeal.τ).loc Cert.InputReferenceIdeal.main_arg1)
      ∧ m ((c.tc : Thread Cert.InputIdeal.nD Cert.InputIdeal.τ).loc Cert.InputIdeal.main_arg2) = Layout.block ⟨2, ![4096, 2048]⟩ ⟨2, ![32768, 2048]⟩ 0 8 c (m' (((0 : Dev Cert.InputReferenceIdeal.nD).tc : Thread Cert.InputReferenceIdeal.nD Cert.InputReferenceIdeal.τ).loc Cert.InputReferenceIdeal.main_arg2))
      ∧ m ((c.tc : Thread Cert.InputIdeal.nD Cert.InputIdeal.τ).loc Cert.InputIdeal.main_arg3) = Layout.block ⟨2, ![4096, 2048]⟩ ⟨2, ![32768, 2048]⟩ 0 8 c (m' (((0 : Dev Cert.InputReferenceIdeal.nD).tc : Thread Cert.InputReferenceIdeal.nD Cert.InputReferenceIdeal.τ).loc Cert.InputReferenceIdeal.main_arg3))
      ∧ m ((c.tc : Thread Cert.InputIdeal.nD Cert.InputIdeal.τ).loc Cert.InputIdeal.main_arg4) = m' (((0 : Dev Cert.InputReferenceIdeal.nD).tc : Thread Cert.InputReferenceIdeal.nD Cert.InputReferenceIdeal.τ).loc Cert.InputReferenceIdeal.main_arg4)
      ∧ m ((c.tc : Thread Cert.InputIdeal.nD Cert.InputIdeal.τ).loc Cert.InputIdeal.main_arg5) = Layout.block ⟨3, ![4, 2048, 896]⟩ ⟨3, ![32, 2048, 896]⟩ 0 8 c (m' (((0 : Dev Cert.InputReferenceIdeal.nD).tc : Thread Cert.InputReferenceIdeal.nD Cert.InputReferenceIdeal.τ).loc Cert.InputReferenceIdeal.main_arg5))) →
    ∃ (v0 : Buf (Elt Ideal) (((0 : Dev Cert.InputReferenceIdeal.nD).tc : Thread Cert.InputReferenceIdeal.nD Cert.InputReferenceIdeal.τ).loc Cert.InputReferenceIdeal.main_v25)) (v1 : Buf (Elt Ideal) (((0 : Dev Cert.InputReferenceIdeal.nD).tc : Thread Cert.InputReferenceIdeal.nD Cert.InputReferenceIdeal.τ).loc Cert.InputReferenceIdeal.main_v29)) (v2 : Buf (Elt Ideal) (((0 : Dev Cert.InputReferenceIdeal.nD).tc : Thread Cert.InputReferenceIdeal.nD Cert.InputReferenceIdeal.τ).loc Cert.InputReferenceIdeal.main_v32)),
      θ_run (Cert.InputIdeal.defs (F := Ideal)) (onTc (τ := Cert.InputIdeal.τ) (Cert.InputIdeal.main (F := Ideal))) ⟨m, fun _ => 0, g⟩ (fun r => ∀ c : Dev Cert.InputIdeal.nD,
          r.2.mem ((c.tc : Thread Cert.InputIdeal.nD Cert.InputIdeal.τ).loc Cert.InputIdeal.main_v1_0) = Layout.block ⟨2, ![4096, 2048]⟩ ⟨2, ![32768, 2048]⟩ 0 8 c v0
          ∧ r.2.mem ((c.tc : Thread Cert.InputIdeal.nD Cert.InputIdeal.τ).loc Cert.InputIdeal.main_v1_1) = v1
          ∧ r.2.mem ((c.tc : Thread Cert.InputIdeal.nD Cert.InputIdeal.τ).loc Cert.InputIdeal.main_v1_2) = Layout.block ⟨3, ![4, 2048, 896]⟩ ⟨3, ![32, 2048, 896]⟩ 0 8 c v2
          ∧ r.2.mem ((c.tc : Thread Cert.InputIdeal.nD Cert.InputIdeal.τ).loc Cert.InputIdeal.main_arg0) = m ((c.tc : Thread Cert.InputIdeal.nD Cert.InputIdeal.τ).loc Cert.InputIdeal.main_arg0)
          ∧ r.2.mem ((c.tc : Thread Cert.InputIdeal.nD Cert.InputIdeal.τ).loc Cert.InputIdeal.main_arg1) = m ((c.tc : Thread Cert.InputIdeal.nD Cert.InputIdeal.τ).loc Cert.InputIdeal.main_arg1)
          ∧ r.2.mem ((c.tc : Thread Cert.InputIdeal.nD Cert.InputIdeal.τ).loc Cert.InputIdeal.main_arg2) = m ((c.tc : Thread Cert.InputIdeal.nD Cert.InputIdeal.τ).loc Cert.InputIdeal.main_arg2)
          ∧ r.2.mem ((c.tc : Thread Cert.InputIdeal.nD Cert.InputIdeal.τ).loc Cert.InputIdeal.main_arg3) = m ((c.tc : Thread Cert.InputIdeal.nD Cert.InputIdeal.τ).loc Cert.InputIdeal.main_arg3)
          ∧ r.2.mem ((c.tc : Thread Cert.InputIdeal.nD Cert.InputIdeal.τ).loc Cert.InputIdeal.main_arg4) = m ((c.tc : Thread Cert.InputIdeal.nD Cert.InputIdeal.τ).loc Cert.InputIdeal.main_arg4)
          ∧ r.2.mem ((c.tc : Thread Cert.InputIdeal.nD Cert.InputIdeal.τ).loc Cert.InputIdeal.main_arg5) = m ((c.tc : Thread Cert.InputIdeal.nD Cert.InputIdeal.τ).loc Cert.InputIdeal.main_arg5))
      ∧ θ_run (Cert.InputReferenceIdeal.defs (F := Ideal)) (onTc (τ := Cert.InputReferenceIdeal.τ) (Cert.InputReferenceIdeal.main (F := Ideal))) ⟨m', fun _ => 0, g'⟩ (fun r =>
          r.2.mem (((0 : Dev Cert.InputReferenceIdeal.nD).tc : Thread Cert.InputReferenceIdeal.nD Cert.InputReferenceIdeal.τ).loc Cert.InputReferenceIdeal.main_v25) = v0
          ∧ r.2.mem (((0 : Dev Cert.InputReferenceIdeal.nD).tc : Thread Cert.InputReferenceIdeal.nD Cert.InputReferenceIdeal.τ).loc Cert.InputReferenceIdeal.main_v29) = v1
          ∧ r.2.mem (((0 : Dev Cert.InputReferenceIdeal.nD).tc : Thread Cert.InputReferenceIdeal.nD Cert.InputReferenceIdeal.τ).loc Cert.InputReferenceIdeal.main_v32) = v2
          ∧ r.2.mem (((0 : Dev Cert.InputReferenceIdeal.nD).tc : Thread Cert.InputReferenceIdeal.nD Cert.InputReferenceIdeal.τ).loc Cert.InputReferenceIdeal.main_arg0) = m' (((0 : Dev Cert.InputReferenceIdeal.nD).tc : Thread Cert.InputReferenceIdeal.nD Cert.InputReferenceIdeal.τ).loc Cert.InputReferenceIdeal.main_arg0)
          ∧ r.2.mem (((0 : Dev Cert.InputReferenceIdeal.nD).tc : Thread Cert.InputReferenceIdeal.nD Cert.InputReferenceIdeal.τ).loc Cert.InputReferenceIdeal.main_arg1) = m' (((0 : Dev Cert.InputReferenceIdeal.nD).tc : Thread Cert.InputReferenceIdeal.nD Cert.InputReferenceIdeal.τ).loc Cert.InputReferenceIdeal.main_arg1)
          ∧ r.2.mem (((0 : Dev Cert.InputReferenceIdeal.nD).tc : Thread Cert.InputReferenceIdeal.nD Cert.InputReferenceIdeal.τ).loc Cert.InputReferenceIdeal.main_arg2) = m' (((0 : Dev Cert.InputReferenceIdeal.nD).tc : Thread Cert.InputReferenceIdeal.nD Cert.InputReferenceIdeal.τ).loc Cert.InputReferenceIdeal.main_arg2)
          ∧ r.2.mem (((0 : Dev Cert.InputReferenceIdeal.nD).tc : Thread Cert.InputReferenceIdeal.nD Cert.InputReferenceIdeal.τ).loc Cert.InputReferenceIdeal.main_arg3) = m' (((0 : Dev Cert.InputReferenceIdeal.nD).tc : Thread Cert.InputReferenceIdeal.nD Cert.InputReferenceIdeal.τ).loc Cert.InputReferenceIdeal.main_arg3)
          ∧ r.2.mem (((0 : Dev Cert.InputReferenceIdeal.nD).tc : Thread Cert.InputReferenceIdeal.nD Cert.InputReferenceIdeal.τ).loc Cert.InputReferenceIdeal.main_arg4) = m' (((0 : Dev Cert.InputReferenceIdeal.nD).tc : Thread Cert.InputReferenceIdeal.nD Cert.InputReferenceIdeal.τ).loc Cert.InputReferenceIdeal.main_arg4)
          ∧ r.2.mem (((0 : Dev Cert.InputReferenceIdeal.nD).tc : Thread Cert.InputReferenceIdeal.nD Cert.InputReferenceIdeal.τ).loc Cert.InputReferenceIdeal.main_arg5) = m' (((0 : Dev Cert.InputReferenceIdeal.nD).tc : Thread Cert.InputReferenceIdeal.nD Cert.InputReferenceIdeal.τ).loc Cert.InputReferenceIdeal.main_arg5))

def preserves_Win_WinIdeal : Prop :=
  True

def algebraic_WinIdeal_WinReferenceIdeal [hWinIdeal : Cert.WinIdeal.Facts] [hWinReferenceIdeal : Cert.WinReferenceIdeal.Facts] : Prop :=
  ∀ (m : (ℓ : Loc Cert.WinIdeal.nD Cert.WinIdeal.τ Cert.WinIdeal.sig) → Buf (Elt Ideal) ℓ) (g : Dev Cert.WinIdeal.nD → PrngReg)
    (m' : (ℓ : Loc Cert.WinReferenceIdeal.nD Cert.WinReferenceIdeal.τ Cert.WinReferenceIdeal.sig) → Buf (Elt Ideal) ℓ) (g' : Dev Cert.WinReferenceIdeal.nD → PrngReg), Pre_WinIdeal m →
    (∀ c : Dev Cert.WinIdeal.nD,
      m' ((c.tc : Thread Cert.WinReferenceIdeal.nD Cert.WinReferenceIdeal.τ).loc Cert.WinReferenceIdeal.main_arg0) = m ((c.tc : Thread Cert.WinIdeal.nD Cert.WinIdeal.τ).loc Cert.WinIdeal.main_arg0)
      ∧ m' ((c.tc : Thread Cert.WinReferenceIdeal.nD Cert.WinReferenceIdeal.τ).loc Cert.WinReferenceIdeal.main_arg1) = m ((c.tc : Thread Cert.WinIdeal.nD Cert.WinIdeal.τ).loc Cert.WinIdeal.main_arg1)
      ∧ m' ((c.tc : Thread Cert.WinReferenceIdeal.nD Cert.WinReferenceIdeal.τ).loc Cert.WinReferenceIdeal.main_arg2) = m ((c.tc : Thread Cert.WinIdeal.nD Cert.WinIdeal.τ).loc Cert.WinIdeal.main_arg2)
      ∧ m' ((c.tc : Thread Cert.WinReferenceIdeal.nD Cert.WinReferenceIdeal.τ).loc Cert.WinReferenceIdeal.main_arg3) = m ((c.tc : Thread Cert.WinIdeal.nD Cert.WinIdeal.τ).loc Cert.WinIdeal.main_arg3)) →
    ∃ (v0 : (c : Dev Cert.WinIdeal.nD) → Buf (Elt Ideal) ((c.tc : Thread Cert.WinIdeal.nD Cert.WinIdeal.τ).loc Cert.WinIdeal.main_v0_0)) (v1 : (c : Dev Cert.WinIdeal.nD) → Buf (Elt Ideal) ((c.tc : Thread Cert.WinIdeal.nD Cert.WinIdeal.τ).loc Cert.WinIdeal.main_v0_1)) (v2 : (c : Dev Cert.WinIdeal.nD) → Buf (Elt Ideal) ((c.tc : Thread Cert.WinIdeal.nD Cert.WinIdeal.τ).loc Cert.WinIdeal.main_v0_2)) (v3 : (c : Dev Cert.WinIdeal.nD) → Buf (Elt Ideal) ((c.tc : Thread Cert.WinIdeal.nD Cert.WinIdeal.τ).loc Cert.WinIdeal.main_v0_3)),
      θ_run (Cert.WinIdeal.defs (F := Ideal)) (onTc (τ := Cert.WinIdeal.τ) (Cert.WinIdeal.main (F := Ideal))) ⟨m, fun _ => 0, g⟩ (fun r => ∀ c : Dev Cert.WinIdeal.nD,
          r.2.mem ((c.tc : Thread Cert.WinIdeal.nD Cert.WinIdeal.τ).loc Cert.WinIdeal.main_v0_0) = v0 c
          ∧ r.2.mem ((c.tc : Thread Cert.WinIdeal.nD Cert.WinIdeal.τ).loc Cert.WinIdeal.main_v0_1) = v1 c
          ∧ r.2.mem ((c.tc : Thread Cert.WinIdeal.nD Cert.WinIdeal.τ).loc Cert.WinIdeal.main_v0_2) = v2 c
          ∧ r.2.mem ((c.tc : Thread Cert.WinIdeal.nD Cert.WinIdeal.τ).loc Cert.WinIdeal.main_v0_3) = v3 c
          ∧ r.2.mem ((c.tc : Thread Cert.WinIdeal.nD Cert.WinIdeal.τ).loc Cert.WinIdeal.main_arg0) = m ((c.tc : Thread Cert.WinIdeal.nD Cert.WinIdeal.τ).loc Cert.WinIdeal.main_arg0)
          ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
          ∧ r.2.mem ((c.tc : Thread Cert.WinIdeal.nD Cert.WinIdeal.τ).loc Cert.WinIdeal.main_arg2) = m ((c.tc : Thread Cert.WinIdeal.nD Cert.WinIdeal.τ).loc Cert.WinIdeal.main_arg2)
          ∧ r.2.mem ((c.tc : Thread Cert.WinIdeal.nD Cert.WinIdeal.τ).loc Cert.WinIdeal.main_arg3) = m ((c.tc : Thread Cert.WinIdeal.nD Cert.WinIdeal.τ).loc Cert.WinIdeal.main_arg3))
      ∧ θ_run (Cert.WinReferenceIdeal.defs (F := Ideal)) (onTc (τ := Cert.WinReferenceIdeal.τ) (Cert.WinReferenceIdeal.main (F := Ideal))) ⟨m', fun _ => 0, g'⟩ (fun r => ∀ c : Dev Cert.WinReferenceIdeal.nD,
          r.2.mem ((c.tc : Thread Cert.WinReferenceIdeal.nD Cert.WinReferenceIdeal.τ).loc Cert.WinReferenceIdeal.main_v1) = v0 c
          ∧ r.2.mem ((c.tc : Thread Cert.WinReferenceIdeal.nD Cert.WinReferenceIdeal.τ).loc Cert.WinReferenceIdeal.main_v25) = v1 c
          ∧ r.2.mem ((c.tc : Thread Cert.WinReferenceIdeal.nD Cert.WinReferenceIdeal.τ).loc Cert.WinReferenceIdeal.main_v6) = v2 c
          ∧ r.2.mem ((c.tc : Thread Cert.WinReferenceIdeal.nD Cert.WinReferenceIdeal.τ).loc Cert.WinReferenceIdeal.main_v12) = v3 c
          ∧ r.2.mem ((c.tc : Thread Cert.WinReferenceIdeal.nD Cert.WinReferenceIdeal.τ).loc Cert.WinReferenceIdeal.main_arg0) = m' ((c.tc : Thread Cert.WinReferenceIdeal.nD Cert.WinReferenceIdeal.τ).loc Cert.WinReferenceIdeal.main_arg0)
          ∧ r.2.mem ((c.tc : Thread Cert.WinReferenceIdeal.nD Cert.WinReferenceIdeal.τ).loc Cert.WinReferenceIdeal.main_arg1) = m' ((c.tc : Thread Cert.WinReferenceIdeal.nD Cert.WinReferenceIdeal.τ).loc Cert.WinReferenceIdeal.main_arg1)
          ∧ r.2.mem ((c.tc : Thread Cert.WinReferenceIdeal.nD Cert.WinReferenceIdeal.τ).loc Cert.WinReferenceIdeal.main_arg2) = m' ((c.tc : Thread Cert.WinReferenceIdeal.nD Cert.WinReferenceIdeal.τ).loc Cert.WinReferenceIdeal.main_arg2)
          ∧ r.2.mem ((c.tc : Thread Cert.WinReferenceIdeal.nD Cert.WinReferenceIdeal.τ).loc Cert.WinReferenceIdeal.main_arg3) = m' ((c.tc : Thread Cert.WinReferenceIdeal.nD Cert.WinReferenceIdeal.τ).loc Cert.WinReferenceIdeal.main_arg3))

def preserves_Wout_WoutIdeal : Prop :=
  True

def algebraic_WoutIdeal_WoutReferenceIdeal [hWoutIdeal : Cert.WoutIdeal.Facts] [hWoutReferenceIdeal : Cert.WoutReferenceIdeal.Facts] : Prop :=
  ∀ (m : (ℓ : Loc Cert.WoutIdeal.nD Cert.WoutIdeal.τ Cert.WoutIdeal.sig) → Buf (Elt Ideal) ℓ) (g : Dev Cert.WoutIdeal.nD → PrngReg)
    (m' : (ℓ : Loc Cert.WoutReferenceIdeal.nD Cert.WoutReferenceIdeal.τ Cert.WoutReferenceIdeal.sig) → Buf (Elt Ideal) ℓ) (g' : Dev Cert.WoutReferenceIdeal.nD → PrngReg), Pre_WoutIdeal m →
    (∀ c : Dev Cert.WoutIdeal.nD,
      m' ((c.tc : Thread Cert.WoutReferenceIdeal.nD Cert.WoutReferenceIdeal.τ).loc Cert.WoutReferenceIdeal.main_arg0) = m ((c.tc : Thread Cert.WoutIdeal.nD Cert.WoutIdeal.τ).loc Cert.WoutIdeal.main_arg0)
      ∧ m' ((c.tc : Thread Cert.WoutReferenceIdeal.nD Cert.WoutReferenceIdeal.τ).loc Cert.WoutReferenceIdeal.main_arg1) = m ((c.tc : Thread Cert.WoutIdeal.nD Cert.WoutIdeal.τ).loc Cert.WoutIdeal.main_arg1)
      ∧ m' ((c.tc : Thread Cert.WoutReferenceIdeal.nD Cert.WoutReferenceIdeal.τ).loc Cert.WoutReferenceIdeal.main_arg2) = m ((c.tc : Thread Cert.WoutIdeal.nD Cert.WoutIdeal.τ).loc Cert.WoutIdeal.main_arg2)
      ∧ m' ((c.tc : Thread Cert.WoutReferenceIdeal.nD Cert.WoutReferenceIdeal.τ).loc Cert.WoutReferenceIdeal.main_arg3) = m ((c.tc : Thread Cert.WoutIdeal.nD Cert.WoutIdeal.τ).loc Cert.WoutIdeal.main_arg3)) →
    ∃ (v0 : (c : Dev Cert.WoutIdeal.nD) → Buf (Elt Ideal) ((c.tc : Thread Cert.WoutIdeal.nD Cert.WoutIdeal.τ).loc Cert.WoutIdeal.main_v0_0)) (v1 : (c : Dev Cert.WoutIdeal.nD) → Buf (Elt Ideal) ((c.tc : Thread Cert.WoutIdeal.nD Cert.WoutIdeal.τ).loc Cert.WoutIdeal.main_v0_1)) (v2 : (c : Dev Cert.WoutIdeal.nD) → Buf (Elt Ideal) ((c.tc : Thread Cert.WoutIdeal.nD Cert.WoutIdeal.τ).loc Cert.WoutIdeal.main_v0_2)) (v3 : (c : Dev Cert.WoutIdeal.nD) → Buf (Elt Ideal) ((c.tc : Thread Cert.WoutIdeal.nD Cert.WoutIdeal.τ).loc Cert.WoutIdeal.main_v0_3)),
      θ_run (Cert.WoutIdeal.defs (F := Ideal)) (onTc (τ := Cert.WoutIdeal.τ) (Cert.WoutIdeal.main (F := Ideal))) ⟨m, fun _ => 0, g⟩ (fun r => ∀ c : Dev Cert.WoutIdeal.nD,
          r.2.mem ((c.tc : Thread Cert.WoutIdeal.nD Cert.WoutIdeal.τ).loc Cert.WoutIdeal.main_v0_0) = v0 c
          ∧ r.2.mem ((c.tc : Thread Cert.WoutIdeal.nD Cert.WoutIdeal.τ).loc Cert.WoutIdeal.main_v0_1) = v1 c
          ∧ r.2.mem ((c.tc : Thread Cert.WoutIdeal.nD Cert.WoutIdeal.τ).loc Cert.WoutIdeal.main_v0_2) = v2 c
          ∧ r.2.mem ((c.tc : Thread Cert.WoutIdeal.nD Cert.WoutIdeal.τ).loc Cert.WoutIdeal.main_v0_3) = v3 c
          ∧ r.2.mem ((c.tc : Thread Cert.WoutIdeal.nD Cert.WoutIdeal.τ).loc Cert.WoutIdeal.main_arg0) = m ((c.tc : Thread Cert.WoutIdeal.nD Cert.WoutIdeal.τ).loc Cert.WoutIdeal.main_arg0)
          ∧ r.2.mem ((c.tc : Thread Cert.WoutIdeal.nD Cert.WoutIdeal.τ).loc Cert.WoutIdeal.main_arg1) = m ((c.tc : Thread Cert.WoutIdeal.nD Cert.WoutIdeal.τ).loc Cert.WoutIdeal.main_arg1)
          ∧ r.2.mem ((c.tc : Thread Cert.WoutIdeal.nD Cert.WoutIdeal.τ).loc Cert.WoutIdeal.main_arg2) = m ((c.tc : Thread Cert.WoutIdeal.nD Cert.WoutIdeal.τ).loc Cert.WoutIdeal.main_arg2)
          ∧ r.2.mem ((c.tc : Thread Cert.WoutIdeal.nD Cert.WoutIdeal.τ).loc Cert.WoutIdeal.main_arg3) = m ((c.tc : Thread Cert.WoutIdeal.nD Cert.WoutIdeal.τ).loc Cert.WoutIdeal.main_arg3))
      ∧ θ_run (Cert.WoutReferenceIdeal.defs (F := Ideal)) (onTc (τ := Cert.WoutReferenceIdeal.τ) (Cert.WoutReferenceIdeal.main (F := Ideal))) ⟨m', fun _ => 0, g'⟩ (fun r => ∀ c : Dev Cert.WoutReferenceIdeal.nD,
          r.2.mem ((c.tc : Thread Cert.WoutReferenceIdeal.nD Cert.WoutReferenceIdeal.τ).loc Cert.WoutReferenceIdeal.main_v1) = v0 c
          ∧ r.2.mem ((c.tc : Thread Cert.WoutReferenceIdeal.nD Cert.WoutReferenceIdeal.τ).loc Cert.WoutReferenceIdeal.main_v25) = v1 c
          ∧ r.2.mem ((c.tc : Thread Cert.WoutReferenceIdeal.nD Cert.WoutReferenceIdeal.τ).loc Cert.WoutReferenceIdeal.main_v6) = v2 c
          ∧ r.2.mem ((c.tc : Thread Cert.WoutReferenceIdeal.nD Cert.WoutReferenceIdeal.τ).loc Cert.WoutReferenceIdeal.main_v12) = v3 c
          ∧ r.2.mem ((c.tc : Thread Cert.WoutReferenceIdeal.nD Cert.WoutReferenceIdeal.τ).loc Cert.WoutReferenceIdeal.main_arg0) = m' ((c.tc : Thread Cert.WoutReferenceIdeal.nD Cert.WoutReferenceIdeal.τ).loc Cert.WoutReferenceIdeal.main_arg0)
          ∧ r.2.mem ((c.tc : Thread Cert.WoutReferenceIdeal.nD Cert.WoutReferenceIdeal.τ).loc Cert.WoutReferenceIdeal.main_arg1) = m' ((c.tc : Thread Cert.WoutReferenceIdeal.nD Cert.WoutReferenceIdeal.τ).loc Cert.WoutReferenceIdeal.main_arg1)
          ∧ r.2.mem ((c.tc : Thread Cert.WoutReferenceIdeal.nD Cert.WoutReferenceIdeal.τ).loc Cert.WoutReferenceIdeal.main_arg2) = m' ((c.tc : Thread Cert.WoutReferenceIdeal.nD Cert.WoutReferenceIdeal.τ).loc Cert.WoutReferenceIdeal.main_arg2)
          ∧ r.2.mem ((c.tc : Thread Cert.WoutReferenceIdeal.nD Cert.WoutReferenceIdeal.τ).loc Cert.WoutReferenceIdeal.main_arg3) = m' ((c.tc : Thread Cert.WoutReferenceIdeal.nD Cert.WoutReferenceIdeal.τ).loc Cert.WoutReferenceIdeal.main_arg3))

def preserves_Wkv_WkvIdeal : Prop :=
  True

def algebraic_WkvIdeal_WkvReferenceIdeal [hWkvIdeal : Cert.WkvIdeal.Facts] [hWkvReferenceIdeal : Cert.WkvReferenceIdeal.Facts] : Prop :=
  ∀ (m : (ℓ : Loc Cert.WkvIdeal.nD Cert.WkvIdeal.τ Cert.WkvIdeal.sig) → Buf (Elt Ideal) ℓ) (g : Dev Cert.WkvIdeal.nD → PrngReg)
    (m' : (ℓ : Loc Cert.WkvReferenceIdeal.nD Cert.WkvReferenceIdeal.τ Cert.WkvReferenceIdeal.sig) → Buf (Elt Ideal) ℓ) (g' : Dev Cert.WkvReferenceIdeal.nD → PrngReg), Pre_WkvIdeal m →
    (∀ c : Dev Cert.WkvIdeal.nD,
      m' ((c.tc : Thread Cert.WkvReferenceIdeal.nD Cert.WkvReferenceIdeal.τ).loc Cert.WkvReferenceIdeal.main_arg0) = m ((c.tc : Thread Cert.WkvIdeal.nD Cert.WkvIdeal.τ).loc Cert.WkvIdeal.main_arg0)
      ∧ m' ((c.tc : Thread Cert.WkvReferenceIdeal.nD Cert.WkvReferenceIdeal.τ).loc Cert.WkvReferenceIdeal.main_arg1) = m ((c.tc : Thread Cert.WkvIdeal.nD Cert.WkvIdeal.τ).loc Cert.WkvIdeal.main_arg1)
      ∧ m' ((c.tc : Thread Cert.WkvReferenceIdeal.nD Cert.WkvReferenceIdeal.τ).loc Cert.WkvReferenceIdeal.main_arg2) = m ((c.tc : Thread Cert.WkvIdeal.nD Cert.WkvIdeal.τ).loc Cert.WkvIdeal.main_arg2)
      ∧ m' ((c.tc : Thread Cert.WkvReferenceIdeal.nD Cert.WkvReferenceIdeal.τ).loc Cert.WkvReferenceIdeal.main_arg3) = m ((c.tc : Thread Cert.WkvIdeal.nD Cert.WkvIdeal.τ).loc Cert.WkvIdeal.main_arg3)) →
    ∃ (v0 : (c : Dev Cert.WkvIdeal.nD) → Buf (Elt Ideal) ((c.tc : Thread Cert.WkvIdeal.nD Cert.WkvIdeal.τ).loc Cert.WkvIdeal.main_v0_0)) (v1 : (c : Dev Cert.WkvIdeal.nD) → Buf (Elt Ideal) ((c.tc : Thread Cert.WkvIdeal.nD Cert.WkvIdeal.τ).loc Cert.WkvIdeal.main_v0_1)) (v2 : (c : Dev Cert.WkvIdeal.nD) → Buf (Elt Ideal) ((c.tc : Thread Cert.WkvIdeal.nD Cert.WkvIdeal.τ).loc Cert.WkvIdeal.main_v0_2)) (v3 : (c : Dev Cert.WkvIdeal.nD) → Buf (Elt Ideal) ((c.tc : Thread Cert.WkvIdeal.nD Cert.WkvIdeal.τ).loc Cert.WkvIdeal.main_v0_3)),
      θ_run (Cert.WkvIdeal.defs (F := Ideal)) (onTc (τ := Cert.WkvIdeal.τ) (Cert.WkvIdeal.main (F := Ideal))) ⟨m, fun _ => 0, g⟩ (fun r => ∀ c : Dev Cert.WkvIdeal.nD,
          r.2.mem ((c.tc : Thread Cert.WkvIdeal.nD Cert.WkvIdeal.τ).loc Cert.WkvIdeal.main_v0_0) = v0 c
          ∧ r.2.mem ((c.tc : Thread Cert.WkvIdeal.nD Cert.WkvIdeal.τ).loc Cert.WkvIdeal.main_v0_1) = v1 c
          ∧ r.2.mem ((c.tc : Thread Cert.WkvIdeal.nD Cert.WkvIdeal.τ).loc Cert.WkvIdeal.main_v0_2) = v2 c
          ∧ r.2.mem ((c.tc : Thread Cert.WkvIdeal.nD Cert.WkvIdeal.τ).loc Cert.WkvIdeal.main_v0_3) = v3 c
          ∧ r.2.mem ((c.tc : Thread Cert.WkvIdeal.nD Cert.WkvIdeal.τ).loc Cert.WkvIdeal.main_arg0) = m ((c.tc : Thread Cert.WkvIdeal.nD Cert.WkvIdeal.τ).loc Cert.WkvIdeal.main_arg0)
          ∧ r.2.mem ((c.tc : Thread Cert.WkvIdeal.nD Cert.WkvIdeal.τ).loc Cert.WkvIdeal.main_arg1) = m ((c.tc : Thread Cert.WkvIdeal.nD Cert.WkvIdeal.τ).loc Cert.WkvIdeal.main_arg1)
          ∧ r.2.mem ((c.tc : Thread Cert.WkvIdeal.nD Cert.WkvIdeal.τ).loc Cert.WkvIdeal.main_arg2) = m ((c.tc : Thread Cert.WkvIdeal.nD Cert.WkvIdeal.τ).loc Cert.WkvIdeal.main_arg2)
          ∧ r.2.mem ((c.tc : Thread Cert.WkvIdeal.nD Cert.WkvIdeal.τ).loc Cert.WkvIdeal.main_arg3) = m ((c.tc : Thread Cert.WkvIdeal.nD Cert.WkvIdeal.τ).loc Cert.WkvIdeal.main_arg3))
      ∧ θ_run (Cert.WkvReferenceIdeal.defs (F := Ideal)) (onTc (τ := Cert.WkvReferenceIdeal.τ) (Cert.WkvReferenceIdeal.main (F := Ideal))) ⟨m', fun _ => 0, g'⟩ (fun r => ∀ c : Dev Cert.WkvReferenceIdeal.nD,
          r.2.mem ((c.tc : Thread Cert.WkvReferenceIdeal.nD Cert.WkvReferenceIdeal.τ).loc Cert.WkvReferenceIdeal.main_v1) = v0 c
          ∧ r.2.mem ((c.tc : Thread Cert.WkvReferenceIdeal.nD Cert.WkvReferenceIdeal.τ).loc Cert.WkvReferenceIdeal.main_v25) = v1 c
          ∧ r.2.mem ((c.tc : Thread Cert.WkvReferenceIdeal.nD Cert.WkvReferenceIdeal.τ).loc Cert.WkvReferenceIdeal.main_v6) = v2 c
          ∧ r.2.mem ((c.tc : Thread Cert.WkvReferenceIdeal.nD Cert.WkvReferenceIdeal.τ).loc Cert.WkvReferenceIdeal.main_v12) = v3 c
          ∧ r.2.mem ((c.tc : Thread Cert.WkvReferenceIdeal.nD Cert.WkvReferenceIdeal.τ).loc Cert.WkvReferenceIdeal.main_arg0) = m' ((c.tc : Thread Cert.WkvReferenceIdeal.nD Cert.WkvReferenceIdeal.τ).loc Cert.WkvReferenceIdeal.main_arg0)
          ∧ r.2.mem ((c.tc : Thread Cert.WkvReferenceIdeal.nD Cert.WkvReferenceIdeal.τ).loc Cert.WkvReferenceIdeal.main_arg1) = m' ((c.tc : Thread Cert.WkvReferenceIdeal.nD Cert.WkvReferenceIdeal.τ).loc Cert.WkvReferenceIdeal.main_arg1)
          ∧ r.2.mem ((c.tc : Thread Cert.WkvReferenceIdeal.nD Cert.WkvReferenceIdeal.τ).loc Cert.WkvReferenceIdeal.main_arg2) = m' ((c.tc : Thread Cert.WkvReferenceIdeal.nD Cert.WkvReferenceIdeal.τ).loc Cert.WkvReferenceIdeal.main_arg2)
          ∧ r.2.mem ((c.tc : Thread Cert.WkvReferenceIdeal.nD Cert.WkvReferenceIdeal.τ).loc Cert.WkvReferenceIdeal.main_arg3) = m' ((c.tc : Thread Cert.WkvReferenceIdeal.nD Cert.WkvReferenceIdeal.τ).loc Cert.WkvReferenceIdeal.main_arg3))

def preserves_Pool_PoolIdeal : Prop :=
  True

def algebraic_PoolIdeal_PoolReferenceIdeal [hPoolIdeal : Cert.PoolIdeal.Facts] [hPoolReferenceIdeal : Cert.PoolReferenceIdeal.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolReferenceIdeal.nD Cert.PoolReferenceIdeal.τ Cert.PoolReferenceIdeal.sig) → Buf (Elt Ideal) ℓ) (g' : Dev Cert.PoolReferenceIdeal.nD → PrngReg), Pre_PoolIdeal m →
    (∀ c : Dev Cert.PoolIdeal.nD,
      m' ((c.tc : Thread Cert.PoolReferenceIdeal.nD Cert.PoolReferenceIdeal.τ).loc Cert.PoolReferenceIdeal.main_arg0) = m ((c.tc : Thread Cert.PoolIdeal.nD Cert.PoolIdeal.τ).loc Cert.PoolIdeal.main_arg0)
      ∧ m' ((c.tc : Thread Cert.PoolReferenceIdeal.nD Cert.PoolReferenceIdeal.τ).loc Cert.PoolReferenceIdeal.main_arg1) = m ((c.tc : Thread Cert.PoolIdeal.nD Cert.PoolIdeal.τ).loc Cert.PoolIdeal.main_arg1)
      ∧ m' ((c.tc : Thread Cert.PoolReferenceIdeal.nD Cert.PoolReferenceIdeal.τ).loc Cert.PoolReferenceIdeal.main_arg2) = m ((c.tc : Thread Cert.PoolIdeal.nD Cert.PoolIdeal.τ).loc Cert.PoolIdeal.main_arg2)
      ∧ m' ((c.tc : Thread Cert.PoolReferenceIdeal.nD Cert.PoolReferenceIdeal.τ).loc Cert.PoolReferenceIdeal.main_arg3) = m ((c.tc : Thread Cert.PoolIdeal.nD Cert.PoolIdeal.τ).loc Cert.PoolIdeal.main_arg3)) →
    ∃ (v0 : (c : Dev Cert.PoolIdeal.nD) → Buf (Elt Ideal) ((c.tc : Thread Cert.PoolIdeal.nD Cert.PoolIdeal.τ).loc Cert.PoolIdeal.main_v0_0)) (v1 : (c : Dev Cert.PoolIdeal.nD) → Buf (Elt Ideal) ((c.tc : Thread Cert.PoolIdeal.nD Cert.PoolIdeal.τ).loc Cert.PoolIdeal.main_v0_1)) (v2 : (c : Dev Cert.PoolIdeal.nD) → Buf (Elt Ideal) ((c.tc : Thread Cert.PoolIdeal.nD Cert.PoolIdeal.τ).loc Cert.PoolIdeal.main_v0_2)) (v3 : (c : Dev Cert.PoolIdeal.nD) → Buf (Elt Ideal) ((c.tc : Thread Cert.PoolIdeal.nD Cert.PoolIdeal.τ).loc Cert.PoolIdeal.main_v0_3)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v0_0) = v0 c
          ∧ r.2.mem ((c.tc : Thread Cert.PoolIdeal.nD Cert.PoolIdeal.τ).loc Cert.PoolIdeal.main_v0_1) = v1 c
          ∧ r.2.mem ((c.tc : Thread Cert.PoolIdeal.nD Cert.PoolIdeal.τ).loc Cert.PoolIdeal.main_v0_2) = v2 c
          ∧ r.2.mem ((c.tc : Thread Cert.PoolIdeal.nD Cert.PoolIdeal.τ).loc Cert.PoolIdeal.main_v0_3) = v3 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ θ_run (Cert.PoolReferenceIdeal.defs (F := Ideal)) (onTc (τ := Cert.PoolReferenceIdeal.τ) (Cert.PoolReferenceIdeal.main (F := Ideal))) ⟨m', fun _ => 0, g'⟩ (fun r => ∀ c : Dev Cert.PoolReferenceIdeal.nD,
          r.2.mem ((c.tc : Thread Cert.PoolReferenceIdeal.nD Cert.PoolReferenceIdeal.τ).loc Cert.PoolReferenceIdeal.main_v1) = v0 c
          ∧ r.2.mem ((c.tc : Thread Cert.PoolReferenceIdeal.nD Cert.PoolReferenceIdeal.τ).loc Cert.PoolReferenceIdeal.main_v25) = v1 c
          ∧ r.2.mem ((c.tc : Thread Cert.PoolReferenceIdeal.nD Cert.PoolReferenceIdeal.τ).loc Cert.PoolReferenceIdeal.main_v6) = v2 c
          ∧ r.2.mem ((c.tc : Thread Cert.PoolReferenceIdeal.nD Cert.PoolReferenceIdeal.τ).loc Cert.PoolReferenceIdeal.main_v12) = v3 c
          ∧ r.2.mem ((c.tc : Thread Cert.PoolReferenceIdeal.nD Cert.PoolReferenceIdeal.τ).loc Cert.PoolReferenceIdeal.main_arg0) = m' ((c.tc : Thread Cert.PoolReferenceIdeal.nD Cert.PoolReferenceIdeal.τ).loc Cert.PoolReferenceIdeal.main_arg0)
          ∧ r.2.mem ((c.tc : Thread Cert.PoolReferenceIdeal.nD Cert.PoolReferenceIdeal.τ).loc Cert.PoolReferenceIdeal.main_arg1) = m' ((c.tc : Thread Cert.PoolReferenceIdeal.nD Cert.PoolReferenceIdeal.τ).loc Cert.PoolReferenceIdeal.main_arg1)
          ∧ r.2.mem ((c.tc : Thread Cert.PoolReferenceIdeal.nD Cert.PoolReferenceIdeal.τ).loc Cert.PoolReferenceIdeal.main_arg2) = m' ((c.tc : Thread Cert.PoolReferenceIdeal.nD Cert.PoolReferenceIdeal.τ).loc Cert.PoolReferenceIdeal.main_arg2)
          ∧ r.2.mem ((c.tc : Thread Cert.PoolReferenceIdeal.nD Cert.PoolReferenceIdeal.τ).loc Cert.PoolReferenceIdeal.main_arg3) = m' ((c.tc : Thread Cert.PoolReferenceIdeal.nD Cert.PoolReferenceIdeal.τ).loc Cert.PoolReferenceIdeal.main_arg3))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)
      ∧ m' ((c.tc : Thread Cert.NormReferenceIdeal.nD Cert.NormReferenceIdeal.τ).loc Cert.NormReferenceIdeal.main_arg2) = m ((c.tc : Thread Cert.NormIdeal.nD Cert.NormIdeal.τ).loc Cert.NormIdeal.main_arg2)
      ∧ m' ((c.tc : Thread Cert.NormReferenceIdeal.nD Cert.NormReferenceIdeal.τ).loc Cert.NormReferenceIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v0_0)) (v1 : (c : Dev Cert.NormIdeal.nD) → Buf (Elt Ideal) ((c.tc : Thread Cert.NormIdeal.nD Cert.NormIdeal.τ).loc Cert.NormIdeal.main_v0_1)) (v2 : (c : Dev Cert.NormIdeal.nD) → Buf (Elt Ideal) ((c.tc : Thread Cert.NormIdeal.nD Cert.NormIdeal.τ).loc Cert.NormIdeal.main_v0_2)) (v3 : (c : Dev Cert.NormIdeal.nD) → Buf (Elt Ideal) ((c.tc : Thread Cert.NormIdeal.nD Cert.NormIdeal.τ).loc Cert.NormIdeal.main_v0_3)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0_0) = v0 c
          ∧ r.2.mem ((c.tc : Thread Cert.NormIdeal.nD Cert.NormIdeal.τ).loc Cert.NormIdeal.main_v0_1) = v1 c
          ∧ r.2.mem ((c.tc : Thread Cert.NormIdeal.nD Cert.NormIdeal.τ).loc Cert.NormIdeal.main_v0_2) = v2 c
          ∧ r.2.mem ((c.tc : Thread Cert.NormIdeal.nD Cert.NormIdeal.τ).loc Cert.NormIdeal.main_v0_3) = v3 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v0) = v0 c
          ∧ r.2.mem ((c.tc : Thread Cert.NormReferenceIdeal.nD Cert.NormReferenceIdeal.τ).loc Cert.NormReferenceIdeal.main_v24) = v1 c
          ∧ r.2.mem ((c.tc : Thread Cert.NormReferenceIdeal.nD Cert.NormReferenceIdeal.τ).loc Cert.NormReferenceIdeal.main_v5) = v2 c
          ∧ r.2.mem ((c.tc : Thread Cert.NormReferenceIdeal.nD Cert.NormReferenceIdeal.τ).loc Cert.NormReferenceIdeal.main_v11) = v3 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3))

def preserves_Packed_PackedIdeal : Prop :=
  True

def algebraic_PackedIdeal_PackedReferenceIdeal [hPackedIdeal : Cert.PackedIdeal.Facts] [hPackedReferenceIdeal : Cert.PackedReferenceIdeal.Facts] : Prop :=
  ∀ (m : (ℓ : Loc Cert.PackedIdeal.nD Cert.PackedIdeal.τ Cert.PackedIdeal.sig) → Buf (Elt Ideal) ℓ) (g : Dev Cert.PackedIdeal.nD → PrngReg)
    (m' : (ℓ : Loc Cert.PackedReferenceIdeal.nD Cert.PackedReferenceIdeal.τ Cert.PackedReferenceIdeal.sig) → Buf (Elt Ideal) ℓ) (g' : Dev Cert.PackedReferenceIdeal.nD → PrngReg), Pre_PackedIdeal m →
    (∀ c : Dev Cert.PackedIdeal.nD,
      m' ((c.tc : Thread Cert.PackedReferenceIdeal.nD Cert.PackedReferenceIdeal.τ).loc Cert.PackedReferenceIdeal.main_arg0) = m ((c.tc : Thread Cert.PackedIdeal.nD Cert.PackedIdeal.τ).loc Cert.PackedIdeal.main_arg0)
      ∧ m' ((c.tc : Thread Cert.PackedReferenceIdeal.nD Cert.PackedReferenceIdeal.τ).loc Cert.PackedReferenceIdeal.main_arg1) = m ((c.tc : Thread Cert.PackedIdeal.nD Cert.PackedIdeal.τ).loc Cert.PackedIdeal.main_arg1)
      ∧ m' ((c.tc : Thread Cert.PackedReferenceIdeal.nD Cert.PackedReferenceIdeal.τ).loc Cert.PackedReferenceIdeal.main_arg2) = m ((c.tc : Thread Cert.PackedIdeal.nD Cert.PackedIdeal.τ).loc Cert.PackedIdeal.main_arg2)
      ∧ m' ((c.tc : Thread Cert.PackedReferenceIdeal.nD Cert.PackedReferenceIdeal.τ).loc Cert.PackedReferenceIdeal.main_arg3) = m ((c.tc : Thread Cert.PackedIdeal.nD Cert.PackedIdeal.τ).loc Cert.PackedIdeal.main_arg3)
      ∧ m' ((c.tc : Thread Cert.PackedReferenceIdeal.nD Cert.PackedReferenceIdeal.τ).loc Cert.PackedReferenceIdeal.main_arg4) = m ((c.tc : Thread Cert.PackedIdeal.nD Cert.PackedIdeal.τ).loc Cert.PackedIdeal.main_arg4)
      ∧ m' ((c.tc : Thread Cert.PackedReferenceIdeal.nD Cert.PackedReferenceIdeal.τ).loc Cert.PackedReferenceIdeal.main_arg5) = m ((c.tc : Thread Cert.PackedIdeal.nD Cert.PackedIdeal.τ).loc Cert.PackedIdeal.main_arg5)
      ∧ m' ((c.tc : Thread Cert.PackedReferenceIdeal.nD Cert.PackedReferenceIdeal.τ).loc Cert.PackedReferenceIdeal.main_arg6) = m ((c.tc : Thread Cert.PackedIdeal.nD Cert.PackedIdeal.τ).loc Cert.PackedIdeal.main_arg6)
      ∧ m' ((c.tc : Thread Cert.PackedReferenceIdeal.nD Cert.PackedReferenceIdeal.τ).loc Cert.PackedReferenceIdeal.main_arg7) = m ((c.tc : Thread Cert.PackedIdeal.nD Cert.PackedIdeal.τ).loc Cert.PackedIdeal.main_arg7)
      ∧ m' ((c.tc : Thread Cert.PackedReferenceIdeal.nD Cert.PackedReferenceIdeal.τ).loc Cert.PackedReferenceIdeal.main_arg8) = m ((c.tc : Thread Cert.PackedIdeal.nD Cert.PackedIdeal.τ).loc Cert.PackedIdeal.main_arg8)
      ∧ m' ((c.tc : Thread Cert.PackedReferenceIdeal.nD Cert.PackedReferenceIdeal.τ).loc Cert.PackedReferenceIdeal.main_arg9) = m ((c.tc : Thread Cert.PackedIdeal.nD Cert.PackedIdeal.τ).loc Cert.PackedIdeal.main_arg9)
      ∧ m' ((c.tc : Thread Cert.PackedReferenceIdeal.nD Cert.PackedReferenceIdeal.τ).loc Cert.PackedReferenceIdeal.main_arg10) = m ((c.tc : Thread Cert.PackedIdeal.nD Cert.PackedIdeal.τ).loc Cert.PackedIdeal.main_arg10)
      ∧ m' ((c.tc : Thread Cert.PackedReferenceIdeal.nD Cert.PackedReferenceIdeal.τ).loc Cert.PackedReferenceIdeal.main_arg11) = m ((c.tc : Thread Cert.PackedIdeal.nD Cert.PackedIdeal.τ).loc Cert.PackedIdeal.main_arg11)
      ∧ m' ((c.tc : Thread Cert.PackedReferenceIdeal.nD Cert.PackedReferenceIdeal.τ).loc Cert.PackedReferenceIdeal.main_arg12) = m ((c.tc : Thread Cert.PackedIdeal.nD Cert.PackedIdeal.τ).loc Cert.PackedIdeal.main_arg12)
      ∧ m' ((c.tc : Thread Cert.PackedReferenceIdeal.nD Cert.PackedReferenceIdeal.τ).loc Cert.PackedReferenceIdeal.main_arg13) = m ((c.tc : Thread Cert.PackedIdeal.nD Cert.PackedIdeal.τ).loc Cert.PackedIdeal.main_arg13)
      ∧ m' ((c.tc : Thread Cert.PackedReferenceIdeal.nD Cert.PackedReferenceIdeal.τ).loc Cert.PackedReferenceIdeal.main_arg14) = m ((c.tc : Thread Cert.PackedIdeal.nD Cert.PackedIdeal.τ).loc Cert.PackedIdeal.main_arg14)
      ∧ m' ((c.tc : Thread Cert.PackedReferenceIdeal.nD Cert.PackedReferenceIdeal.τ).loc Cert.PackedReferenceIdeal.main_arg15) = m ((c.tc : Thread Cert.PackedIdeal.nD Cert.PackedIdeal.τ).loc Cert.PackedIdeal.main_arg15)
      ∧ m' ((c.tc : Thread Cert.PackedReferenceIdeal.nD Cert.PackedReferenceIdeal.τ).loc Cert.PackedReferenceIdeal.main_arg16) = m ((c.tc : Thread Cert.PackedIdeal.nD Cert.PackedIdeal.τ).loc Cert.PackedIdeal.main_arg16)
      ∧ m' ((c.tc : Thread Cert.PackedReferenceIdeal.nD Cert.PackedReferenceIdeal.τ).loc Cert.PackedReferenceIdeal.main_arg17) = m ((c.tc : Thread Cert.PackedIdeal.nD Cert.PackedIdeal.τ).loc Cert.PackedIdeal.main_arg17)
      ∧ m' ((c.tc : Thread Cert.PackedReferenceIdeal.nD Cert.PackedReferenceIdeal.τ).loc Cert.PackedReferenceIdeal.main_arg18) = m ((c.tc : Thread Cert.PackedIdeal.nD Cert.PackedIdeal.τ).loc Cert.PackedIdeal.main_arg18)
      ∧ m' ((c.tc : Thread Cert.PackedReferenceIdeal.nD Cert.PackedReferenceIdeal.τ).loc Cert.PackedReferenceIdeal.main_arg19) = m ((c.tc : Thread Cert.PackedIdeal.nD Cert.PackedIdeal.τ).loc Cert.PackedIdeal.main_arg19)
      ∧ m' ((c.tc : Thread Cert.PackedReferenceIdeal.nD Cert.PackedReferenceIdeal.τ).loc Cert.PackedReferenceIdeal.main_arg20) = m ((c.tc : Thread Cert.PackedIdeal.nD Cert.PackedIdeal.τ).loc Cert.PackedIdeal.main_arg20)
      ∧ m' ((c.tc : Thread Cert.PackedReferenceIdeal.nD Cert.PackedReferenceIdeal.τ).loc Cert.PackedReferenceIdeal.main_arg21) = m ((c.tc : Thread Cert.PackedIdeal.nD Cert.PackedIdeal.τ).loc Cert.PackedIdeal.main_arg21)
      ∧ m' ((c.tc : Thread Cert.PackedReferenceIdeal.nD Cert.PackedReferenceIdeal.τ).loc Cert.PackedReferenceIdeal.main_arg22) = m ((c.tc : Thread Cert.PackedIdeal.nD Cert.PackedIdeal.τ).loc Cert.PackedIdeal.main_arg22)
      ∧ m' ((c.tc : Thread Cert.PackedReferenceIdeal.nD Cert.PackedReferenceIdeal.τ).loc Cert.PackedReferenceIdeal.main_arg23) = m ((c.tc : Thread Cert.PackedIdeal.nD Cert.PackedIdeal.τ).loc Cert.PackedIdeal.main_arg23)
      ∧ m' ((c.tc : Thread Cert.PackedReferenceIdeal.nD Cert.PackedReferenceIdeal.τ).loc Cert.PackedReferenceIdeal.main_arg24) = m ((c.tc : Thread Cert.PackedIdeal.nD Cert.PackedIdeal.τ).loc Cert.PackedIdeal.main_arg24)) →
    ∃ (v0 : (c : Dev Cert.PackedIdeal.nD) → Buf (Elt Ideal) ((c.tc : Thread Cert.PackedIdeal.nD Cert.PackedIdeal.τ).loc Cert.PackedIdeal.main_v0_0)) (v1 : (c : Dev Cert.PackedIdeal.nD) → Buf (Elt Ideal) ((c.tc : Thread Cert.PackedIdeal.nD Cert.PackedIdeal.τ).loc Cert.PackedIdeal.main_v0_1)) (v2 : (c : Dev Cert.PackedIdeal.nD) → Buf (Elt Ideal) ((c.tc : Thread Cert.PackedIdeal.nD Cert.PackedIdeal.τ).loc Cert.PackedIdeal.main_v0_2)) (v3 : (c : Dev Cert.PackedIdeal.nD) → Buf (Elt Ideal) ((c.tc : Thread Cert.PackedIdeal.nD Cert.PackedIdeal.τ).loc Cert.PackedIdeal.main_v0_3)) (v4 : (c : Dev Cert.PackedIdeal.nD) → Buf (Elt Ideal) ((c.tc : Thread Cert.PackedIdeal.nD Cert.PackedIdeal.τ).loc Cert.PackedIdeal.main_v0_4)) (v5 : (c : Dev Cert.PackedIdeal.nD) → Buf (Elt Ideal) ((c.tc : Thread Cert.PackedIdeal.nD Cert.PackedIdeal.τ).loc Cert.PackedIdeal.main_v0_5)) (v6 : (c : Dev Cert.PackedIdeal.nD) → Buf (Elt Ideal) ((c.tc : Thread Cert.PackedIdeal.nD Cert.PackedIdeal.τ).loc Cert.PackedIdeal.main_v0_6)) (v7 : (c : Dev Cert.PackedIdeal.nD) → Buf (Elt Ideal) ((c.tc : Thread Cert.PackedIdeal.nD Cert.PackedIdeal.τ).loc Cert.PackedIdeal.main_v0_7)) (v8 : (c : Dev Cert.PackedIdeal.nD) → Buf (Elt Ideal) ((c.tc : Thread Cert.PackedIdeal.nD Cert.PackedIdeal.τ).loc Cert.PackedIdeal.main_v0_8)) (v9 : (c : Dev Cert.PackedIdeal.nD) → Buf (Elt Ideal) ((c.tc : Thread Cert.PackedIdeal.nD Cert.PackedIdeal.τ).loc Cert.PackedIdeal.main_v0_9)) (v10 : (c : Dev Cert.PackedIdeal.nD) → Buf (Elt Ideal) ((c.tc : Thread Cert.PackedIdeal.nD Cert.PackedIdeal.τ).loc Cert.PackedIdeal.main_v0_10)) (v11 : (c : Dev Cert.PackedIdeal.nD) → Buf (Elt Ideal) ((c.tc : Thread Cert.PackedIdeal.nD Cert.PackedIdeal.τ).loc Cert.PackedIdeal.main_v0_11)) (v12 : (c : Dev Cert.PackedIdeal.nD) → Buf (Elt Ideal) ((c.tc : Thread Cert.PackedIdeal.nD Cert.PackedIdeal.τ).loc Cert.PackedIdeal.main_v0_12)) (v13 : (c : Dev Cert.PackedIdeal.nD) → Buf (Elt Ideal) ((c.tc : Thread Cert.PackedIdeal.nD Cert.PackedIdeal.τ).loc Cert.PackedIdeal.main_v0_13)) (v14 : (c : Dev Cert.PackedIdeal.nD) → Buf (Elt Ideal) ((c.tc : Thread Cert.PackedIdeal.nD Cert.PackedIdeal.τ).loc Cert.PackedIdeal.main_v0_14)) (v15 : (c : Dev Cert.PackedIdeal.nD) → Buf (Elt Ideal) ((c.tc : Thread Cert.PackedIdeal.nD Cert.PackedIdeal.τ).loc Cert.PackedIdeal.main_v0_15)) (v16 : (c : Dev Cert.PackedIdeal.nD) → Buf (Elt Ideal) ((c.tc : Thread Cert.PackedIdeal.nD Cert.PackedIdeal.τ).loc Cert.PackedIdeal.main_v0_16)) (v17 : (c : Dev Cert.PackedIdeal.nD) → Buf (Elt Ideal) ((c.tc : Thread Cert.PackedIdeal.nD Cert.PackedIdeal.τ).loc Cert.PackedIdeal.main_v0_17)) (v18 : (c : Dev Cert.PackedIdeal.nD) → Buf (Elt Ideal) ((c.tc : Thread Cert.PackedIdeal.nD Cert.PackedIdeal.τ).loc Cert.PackedIdeal.main_v0_18)) (v19 : (c : Dev Cert.PackedIdeal.nD) → Buf (Elt Ideal) ((c.tc : Thread Cert.PackedIdeal.nD Cert.PackedIdeal.τ).loc Cert.PackedIdeal.main_v0_19)) (v20 : (c : Dev Cert.PackedIdeal.nD) → Buf (Elt Ideal) ((c.tc : Thread Cert.PackedIdeal.nD Cert.PackedIdeal.τ).loc Cert.PackedIdeal.main_v0_20)) (v21 : (c : Dev Cert.PackedIdeal.nD) → Buf (Elt Ideal) ((c.tc : Thread Cert.PackedIdeal.nD Cert.PackedIdeal.τ).loc Cert.PackedIdeal.main_v0_21)) (v22 : (c : Dev Cert.PackedIdeal.nD) → Buf (Elt Ideal) ((c.tc : Thread Cert.PackedIdeal.nD Cert.PackedIdeal.τ).loc Cert.PackedIdeal.main_v0_22)) (v23 : (c : Dev Cert.PackedIdeal.nD) → Buf (Elt Ideal) ((c.tc : Thread Cert.PackedIdeal.nD Cert.PackedIdeal.τ).loc Cert.PackedIdeal.main_v0_23)) (v24 : (c : Dev Cert.PackedIdeal.nD) → Buf (Elt Ideal) ((c.tc : Thread Cert.PackedIdeal.nD Cert.PackedIdeal.τ).loc Cert.PackedIdeal.main_v0_24)) (v25 : (c : Dev Cert.PackedIdeal.nD) → Buf (Elt Ideal) ((c.tc : Thread Cert.PackedIdeal.nD Cert.PackedIdeal.τ).loc Cert.PackedIdeal.main_v0_25)) (v26 : (c : Dev Cert.PackedIdeal.nD) → Buf (Elt Ideal) ((c.tc : Thread Cert.PackedIdeal.nD Cert.PackedIdeal.τ).loc Cert.PackedIdeal.main_v0_26)) (v27 : (c : Dev Cert.PackedIdeal.nD) → Buf (Elt Ideal) ((c.tc : Thread Cert.PackedIdeal.nD Cert.PackedIdeal.τ).loc Cert.PackedIdeal.main_v0_27)) (v28 : (c : Dev Cert.PackedIdeal.nD) → Buf (Elt Ideal) ((c.tc : Thread Cert.PackedIdeal.nD Cert.PackedIdeal.τ).loc Cert.PackedIdeal.main_v0_28)) (v29 : (c : Dev Cert.PackedIdeal.nD) → Buf (Elt Ideal) ((c.tc : Thread Cert.PackedIdeal.nD Cert.PackedIdeal.τ).loc Cert.PackedIdeal.main_v0_29)) (v30 : (c : Dev Cert.PackedIdeal.nD) → Buf (Elt Ideal) ((c.tc : Thread Cert.PackedIdeal.nD Cert.PackedIdeal.τ).loc Cert.PackedIdeal.main_v0_30)) (v31 : (c : Dev Cert.PackedIdeal.nD) → Buf (Elt Ideal) ((c.tc : Thread Cert.PackedIdeal.nD Cert.PackedIdeal.τ).loc Cert.PackedIdeal.main_v0_31)) (v32 : (c : Dev Cert.PackedIdeal.nD) → Buf (Elt Ideal) ((c.tc : Thread Cert.PackedIdeal.nD Cert.PackedIdeal.τ).loc Cert.PackedIdeal.main_v0_32)),
      θ_run (Cert.PackedIdeal.defs (F := Ideal)) (onTc (τ := Cert.PackedIdeal.τ) (Cert.PackedIdeal.main (F := Ideal))) ⟨m, fun _ => 0, g⟩ (fun r => ∀ c : Dev Cert.PackedIdeal.nD,
          r.2.mem ((c.tc : Thread Cert.PackedIdeal.nD Cert.PackedIdeal.τ).loc Cert.PackedIdeal.main_v0_0) = v0 c
          ∧ r.2.mem ((c.tc : Thread Cert.PackedIdeal.nD Cert.PackedIdeal.τ).loc Cert.PackedIdeal.main_v0_1) = v1 c
          ∧ r.2.mem ((c.tc : Thread Cert.PackedIdeal.nD Cert.PackedIdeal.τ).loc Cert.PackedIdeal.main_v0_2) = v2 c
          ∧ r.2.mem ((c.tc : Thread Cert.PackedIdeal.nD Cert.PackedIdeal.τ).loc Cert.PackedIdeal.main_v0_3) = v3 c
          ∧ r.2.mem ((c.tc : Thread Cert.PackedIdeal.nD Cert.PackedIdeal.τ).loc Cert.PackedIdeal.main_v0_4) = v4 c
          ∧ r.2.mem ((c.tc : Thread Cert.PackedIdeal.nD Cert.PackedIdeal.τ).loc Cert.PackedIdeal.main_v0_5) = v5 c
          ∧ r.2.mem ((c.tc : Thread Cert.PackedIdeal.nD Cert.PackedIdeal.τ).loc Cert.PackedIdeal.main_v0_6) = v6 c
          ∧ r.2.mem ((c.tc : Thread Cert.PackedIdeal.nD Cert.PackedIdeal.τ).loc Cert.PackedIdeal.main_v0_7) = v7 c
          ∧ r.2.mem ((c.tc : Thread Cert.PackedIdeal.nD Cert.PackedIdeal.τ).loc Cert.PackedIdeal.main_v0_8) = v8 c
          ∧ r.2.mem ((c.tc : Thread Cert.PackedIdeal.nD Cert.PackedIdeal.τ).loc Cert.PackedIdeal.main_v0_9) = v9 c
          ∧ r.2.mem ((c.tc : Thread Cert.PackedIdeal.nD Cert.PackedIdeal.τ).loc Cert.PackedIdeal.main_v0_10) = v10 c
          ∧ r.2.mem ((c.tc : Thread Cert.PackedIdeal.nD Cert.PackedIdeal.τ).loc Cert.PackedIdeal.main_v0_11) = v11 c
          ∧ r.2.mem ((c.tc : Thread Cert.PackedIdeal.nD Cert.PackedIdeal.τ).loc Cert.PackedIdeal.main_v0_12) = v12 c
          ∧ r.2.mem ((c.tc : Thread Cert.PackedIdeal.nD Cert.PackedIdeal.τ).loc Cert.PackedIdeal.main_v0_13) = v13 c
          ∧ r.2.mem ((c.tc : Thread Cert.PackedIdeal.nD Cert.PackedIdeal.τ).loc Cert.PackedIdeal.main_v0_14) = v14 c
          ∧ r.2.mem ((c.tc : Thread Cert.PackedIdeal.nD Cert.PackedIdeal.τ).loc Cert.PackedIdeal.main_v0_15) = v15 c
          ∧ r.2.mem ((c.tc : Thread Cert.PackedIdeal.nD Cert.PackedIdeal.τ).loc Cert.PackedIdeal.main_v0_16) = v16 c
          ∧ r.2.mem ((c.tc : Thread Cert.PackedIdeal.nD Cert.PackedIdeal.τ).loc Cert.PackedIdeal.main_v0_17) = v17 c
          ∧ r.2.mem ((c.tc : Thread Cert.PackedIdeal.nD Cert.PackedIdeal.τ).loc Cert.PackedIdeal.main_v0_18) = v18 c
          ∧ r.2.mem ((c.tc : Thread Cert.PackedIdeal.nD Cert.PackedIdeal.τ).loc Cert.PackedIdeal.main_v0_19) = v19 c
          ∧ r.2.mem ((c.tc : Thread Cert.PackedIdeal.nD Cert.PackedIdeal.τ).loc Cert.PackedIdeal.main_v0_20) = v20 c
          ∧ r.2.mem ((c.tc : Thread Cert.PackedIdeal.nD Cert.PackedIdeal.τ).loc Cert.PackedIdeal.main_v0_21) = v21 c
          ∧ r.2.mem ((c.tc : Thread Cert.PackedIdeal.nD Cert.PackedIdeal.τ).loc Cert.PackedIdeal.main_v0_22) = v22 c
          ∧ r.2.mem ((c.tc : Thread Cert.PackedIdeal.nD Cert.PackedIdeal.τ).loc Cert.PackedIdeal.main_v0_23) = v23 c
          ∧ r.2.mem ((c.tc : Thread Cert.PackedIdeal.nD Cert.PackedIdeal.τ).loc Cert.PackedIdeal.main_v0_24) = v24 c
          ∧ r.2.mem ((c.tc : Thread Cert.PackedIdeal.nD Cert.PackedIdeal.τ).loc Cert.PackedIdeal.main_v0_25) = v25 c
          ∧ r.2.mem ((c.tc : Thread Cert.PackedIdeal.nD Cert.PackedIdeal.τ).loc Cert.PackedIdeal.main_v0_26) = v26 c
          ∧ r.2.mem ((c.tc : Thread Cert.PackedIdeal.nD Cert.PackedIdeal.τ).loc Cert.PackedIdeal.main_v0_27) = v27 c
          ∧ r.2.mem ((c.tc : Thread Cert.PackedIdeal.nD Cert.PackedIdeal.τ).loc Cert.PackedIdeal.main_v0_28) = v28 c
          ∧ r.2.mem ((c.tc : Thread Cert.PackedIdeal.nD Cert.PackedIdeal.τ).loc Cert.PackedIdeal.main_v0_29) = v29 c
          ∧ r.2.mem ((c.tc : Thread Cert.PackedIdeal.nD Cert.PackedIdeal.τ).loc Cert.PackedIdeal.main_v0_30) = v30 c
          ∧ r.2.mem ((c.tc : Thread Cert.PackedIdeal.nD Cert.PackedIdeal.τ).loc Cert.PackedIdeal.main_v0_31) = v31 c
          ∧ r.2.mem ((c.tc : Thread Cert.PackedIdeal.nD Cert.PackedIdeal.τ).loc Cert.PackedIdeal.main_v0_32) = v32 c
          ∧ r.2.mem ((c.tc : Thread Cert.PackedIdeal.nD Cert.PackedIdeal.τ).loc Cert.PackedIdeal.main_arg0) = m ((c.tc : Thread Cert.PackedIdeal.nD Cert.PackedIdeal.τ).loc Cert.PackedIdeal.main_arg0)
          ∧ r.2.mem ((c.tc : Thread Cert.PackedIdeal.nD Cert.PackedIdeal.τ).loc Cert.PackedIdeal.main_arg1) = m ((c.tc : Thread Cert.PackedIdeal.nD Cert.PackedIdeal.τ).loc Cert.PackedIdeal.main_arg1)
          ∧ r.2.mem ((c.tc : Thread Cert.PackedIdeal.nD Cert.PackedIdeal.τ).loc Cert.PackedIdeal.main_arg2) = m ((c.tc : Thread Cert.PackedIdeal.nD Cert.PackedIdeal.τ).loc Cert.PackedIdeal.main_arg2)
          ∧ r.2.mem ((c.tc : Thread Cert.PackedIdeal.nD Cert.PackedIdeal.τ).loc Cert.PackedIdeal.main_arg3) = m ((c.tc : Thread Cert.PackedIdeal.nD Cert.PackedIdeal.τ).loc Cert.PackedIdeal.main_arg3)
          ∧ r.2.mem ((c.tc : Thread Cert.PackedIdeal.nD Cert.PackedIdeal.τ).loc Cert.PackedIdeal.main_arg4) = m ((c.tc : Thread Cert.PackedIdeal.nD Cert.PackedIdeal.τ).loc Cert.PackedIdeal.main_arg4)
          ∧ r.2.mem ((c.tc : Thread Cert.PackedIdeal.nD Cert.PackedIdeal.τ).loc Cert.PackedIdeal.main_arg5) = m ((c.tc : Thread Cert.PackedIdeal.nD Cert.PackedIdeal.τ).loc Cert.PackedIdeal.main_arg5)
          ∧ r.2.mem ((c.tc : Thread Cert.PackedIdeal.nD Cert.PackedIdeal.τ).loc Cert.PackedIdeal.main_arg6) = m ((c.tc : Thread Cert.PackedIdeal.nD Cert.PackedIdeal.τ).loc Cert.PackedIdeal.main_arg6)
          ∧ r.2.mem ((c.tc : Thread Cert.PackedIdeal.nD Cert.PackedIdeal.τ).loc Cert.PackedIdeal.main_arg7) = m ((c.tc : Thread Cert.PackedIdeal.nD Cert.PackedIdeal.τ).loc Cert.PackedIdeal.main_arg7)
          ∧ r.2.mem ((c.tc : Thread Cert.PackedIdeal.nD Cert.PackedIdeal.τ).loc Cert.PackedIdeal.main_arg8) = m ((c.tc : Thread Cert.PackedIdeal.nD Cert.PackedIdeal.τ).loc Cert.PackedIdeal.main_arg8)
          ∧ r.2.mem ((c.tc : Thread Cert.PackedIdeal.nD Cert.PackedIdeal.τ).loc Cert.PackedIdeal.main_arg9) = m ((c.tc : Thread Cert.PackedIdeal.nD Cert.PackedIdeal.τ).loc Cert.PackedIdeal.main_arg9)
          ∧ r.2.mem ((c.tc : Thread Cert.PackedIdeal.nD Cert.PackedIdeal.τ).loc Cert.PackedIdeal.main_arg10) = m ((c.tc : Thread Cert.PackedIdeal.nD Cert.PackedIdeal.τ).loc Cert.PackedIdeal.main_arg10)
          ∧ r.2.mem ((c.tc : Thread Cert.PackedIdeal.nD Cert.PackedIdeal.τ).loc Cert.PackedIdeal.main_arg11) = m ((c.tc : Thread Cert.PackedIdeal.nD Cert.PackedIdeal.τ).loc Cert.PackedIdeal.main_arg11)
          ∧ r.2.mem ((c.tc : Thread Cert.PackedIdeal.nD Cert.PackedIdeal.τ).loc Cert.PackedIdeal.main_arg12) = m ((c.tc : Thread Cert.PackedIdeal.nD Cert.PackedIdeal.τ).loc Cert.PackedIdeal.main_arg12)
          ∧ r.2.mem ((c.tc : Thread Cert.PackedIdeal.nD Cert.PackedIdeal.τ).loc Cert.PackedIdeal.main_arg13) = m ((c.tc : Thread Cert.PackedIdeal.nD Cert.PackedIdeal.τ).loc Cert.PackedIdeal.main_arg13)
          ∧ r.2.mem ((c.tc : Thread Cert.PackedIdeal.nD Cert.PackedIdeal.τ).loc Cert.PackedIdeal.main_arg14) = m ((c.tc : Thread Cert.PackedIdeal.nD Cert.PackedIdeal.τ).loc Cert.PackedIdeal.main_arg14)
          ∧ r.2.mem ((c.tc : Thread Cert.PackedIdeal.nD Cert.PackedIdeal.τ).loc Cert.PackedIdeal.main_arg15) = m ((c.tc : Thread Cert.PackedIdeal.nD Cert.PackedIdeal.τ).loc Cert.PackedIdeal.main_arg15)
          ∧ r.2.mem ((c.tc : Thread Cert.PackedIdeal.nD Cert.PackedIdeal.τ).loc Cert.PackedIdeal.main_arg16) = m ((c.tc : Thread Cert.PackedIdeal.nD Cert.PackedIdeal.τ).loc Cert.PackedIdeal.main_arg16)
          ∧ r.2.mem ((c.tc : Thread Cert.PackedIdeal.nD Cert.PackedIdeal.τ).loc Cert.PackedIdeal.main_arg17) = m ((c.tc : Thread Cert.PackedIdeal.nD Cert.PackedIdeal.τ).loc Cert.PackedIdeal.main_arg17)
          ∧ r.2.mem ((c.tc : Thread Cert.PackedIdeal.nD Cert.PackedIdeal.τ).loc Cert.PackedIdeal.main_arg18) = m ((c.tc : Thread Cert.PackedIdeal.nD Cert.PackedIdeal.τ).loc Cert.PackedIdeal.main_arg18)
          ∧ r.2.mem ((c.tc : Thread Cert.PackedIdeal.nD Cert.PackedIdeal.τ).loc Cert.PackedIdeal.main_arg19) = m ((c.tc : Thread Cert.PackedIdeal.nD Cert.PackedIdeal.τ).loc Cert.PackedIdeal.main_arg19)
          ∧ r.2.mem ((c.tc : Thread Cert.PackedIdeal.nD Cert.PackedIdeal.τ).loc Cert.PackedIdeal.main_arg20) = m ((c.tc : Thread Cert.PackedIdeal.nD Cert.PackedIdeal.τ).loc Cert.PackedIdeal.main_arg20)
          ∧ r.2.mem ((c.tc : Thread Cert.PackedIdeal.nD Cert.PackedIdeal.τ).loc Cert.PackedIdeal.main_arg21) = m ((c.tc : Thread Cert.PackedIdeal.nD Cert.PackedIdeal.τ).loc Cert.PackedIdeal.main_arg21)
          ∧ r.2.mem ((c.tc : Thread Cert.PackedIdeal.nD Cert.PackedIdeal.τ).loc Cert.PackedIdeal.main_arg22) = m ((c.tc : Thread Cert.PackedIdeal.nD Cert.PackedIdeal.τ).loc Cert.PackedIdeal.main_arg22)
          ∧ r.2.mem ((c.tc : Thread Cert.PackedIdeal.nD Cert.PackedIdeal.τ).loc Cert.PackedIdeal.main_arg23) = m ((c.tc : Thread Cert.PackedIdeal.nD Cert.PackedIdeal.τ).loc Cert.PackedIdeal.main_arg23)
          ∧ r.2.mem ((c.tc : Thread Cert.PackedIdeal.nD Cert.PackedIdeal.τ).loc Cert.PackedIdeal.main_arg24) = m ((c.tc : Thread Cert.PackedIdeal.nD Cert.PackedIdeal.τ).loc Cert.PackedIdeal.main_arg24))
      ∧ θ_run (Cert.PackedReferenceIdeal.defs (F := Ideal)) (onTc (τ := Cert.PackedReferenceIdeal.τ) (Cert.PackedReferenceIdeal.main (F := Ideal))) ⟨m', fun _ => 0, g'⟩ (fun r => ∀ c : Dev Cert.PackedReferenceIdeal.nD,
          r.2.mem ((c.tc : Thread Cert.PackedReferenceIdeal.nD Cert.PackedReferenceIdeal.τ).loc Cert.PackedReferenceIdeal.main_v1) = v0 c
          ∧ r.2.mem ((c.tc : Thread Cert.PackedReferenceIdeal.nD Cert.PackedReferenceIdeal.τ).loc Cert.PackedReferenceIdeal.main_v25) = v1 c
          ∧ r.2.mem ((c.tc : Thread Cert.PackedReferenceIdeal.nD Cert.PackedReferenceIdeal.τ).loc Cert.PackedReferenceIdeal.main_v6) = v2 c
          ∧ r.2.mem ((c.tc : Thread Cert.PackedReferenceIdeal.nD Cert.PackedReferenceIdeal.τ).loc Cert.PackedReferenceIdeal.main_v12) = v3 c
          ∧ r.2.mem ((c.tc : Thread Cert.PackedReferenceIdeal.nD Cert.PackedReferenceIdeal.τ).loc Cert.PackedReferenceIdeal.main_v26) = v4 c
          ∧ r.2.mem ((c.tc : Thread Cert.PackedReferenceIdeal.nD Cert.PackedReferenceIdeal.τ).loc Cert.PackedReferenceIdeal.main_v50) = v5 c
          ∧ r.2.mem ((c.tc : Thread Cert.PackedReferenceIdeal.nD Cert.PackedReferenceIdeal.τ).loc Cert.PackedReferenceIdeal.main_v31) = v6 c
          ∧ r.2.mem ((c.tc : Thread Cert.PackedReferenceIdeal.nD Cert.PackedReferenceIdeal.τ).loc Cert.PackedReferenceIdeal.main_v37) = v7 c
          ∧ r.2.mem ((c.tc : Thread Cert.PackedReferenceIdeal.nD Cert.PackedReferenceIdeal.τ).loc Cert.PackedReferenceIdeal.main_v51) = v8 c
          ∧ r.2.mem ((c.tc : Thread Cert.PackedReferenceIdeal.nD Cert.PackedReferenceIdeal.τ).loc Cert.PackedReferenceIdeal.main_v75) = v9 c
          ∧ r.2.mem ((c.tc : Thread Cert.PackedReferenceIdeal.nD Cert.PackedReferenceIdeal.τ).loc Cert.PackedReferenceIdeal.main_v56) = v10 c
          ∧ r.2.mem ((c.tc : Thread Cert.PackedReferenceIdeal.nD Cert.PackedReferenceIdeal.τ).loc Cert.PackedReferenceIdeal.main_v62) = v11 c
          ∧ r.2.mem ((c.tc : Thread Cert.PackedReferenceIdeal.nD Cert.PackedReferenceIdeal.τ).loc Cert.PackedReferenceIdeal.main_v76) = v12 c
          ∧ r.2.mem ((c.tc : Thread Cert.PackedReferenceIdeal.nD Cert.PackedReferenceIdeal.τ).loc Cert.PackedReferenceIdeal.main_v100) = v13 c
          ∧ r.2.mem ((c.tc : Thread Cert.PackedReferenceIdeal.nD Cert.PackedReferenceIdeal.τ).loc Cert.PackedReferenceIdeal.main_v81) = v14 c
          ∧ r.2.mem ((c.tc : Thread Cert.PackedReferenceIdeal.nD Cert.PackedReferenceIdeal.τ).loc Cert.PackedReferenceIdeal.main_v87) = v15 c
          ∧ r.2.mem ((c.tc : Thread Cert.PackedReferenceIdeal.nD Cert.PackedReferenceIdeal.τ).loc Cert.PackedReferenceIdeal.main_v101) = v16 c
          ∧ r.2.mem ((c.tc : Thread Cert.PackedReferenceIdeal.nD Cert.PackedReferenceIdeal.τ).loc Cert.PackedReferenceIdeal.main_v125) = v17 c
          ∧ r.2.mem ((c.tc : Thread Cert.PackedReferenceIdeal.nD Cert.PackedReferenceIdeal.τ).loc Cert.PackedReferenceIdeal.main_v106) = v18 c
          ∧ r.2.mem ((c.tc : Thread Cert.PackedReferenceIdeal.nD Cert.PackedReferenceIdeal.τ).loc Cert.PackedReferenceIdeal.main_v112) = v19 c
          ∧ r.2.mem ((c.tc : Thread Cert.PackedReferenceIdeal.nD Cert.PackedReferenceIdeal.τ).loc Cert.PackedReferenceIdeal.main_v126) = v20 c
          ∧ r.2.mem ((c.tc : Thread Cert.PackedReferenceIdeal.nD Cert.PackedReferenceIdeal.τ).loc Cert.PackedReferenceIdeal.main_v150) = v21 c
          ∧ r.2.mem ((c.tc : Thread Cert.PackedReferenceIdeal.nD Cert.PackedReferenceIdeal.τ).loc Cert.PackedReferenceIdeal.main_v131) = v22 c
          ∧ r.2.mem ((c.tc : Thread Cert.PackedReferenceIdeal.nD Cert.PackedReferenceIdeal.τ).loc Cert.PackedReferenceIdeal.main_v137) = v23 c
          ∧ r.2.mem ((c.tc : Thread Cert.PackedReferenceIdeal.nD Cert.PackedReferenceIdeal.τ).loc Cert.PackedReferenceIdeal.main_v151) = v24 c
          ∧ r.2.mem ((c.tc : Thread Cert.PackedReferenceIdeal.nD Cert.PackedReferenceIdeal.τ).loc Cert.PackedReferenceIdeal.main_v175) = v25 c
          ∧ r.2.mem ((c.tc : Thread Cert.PackedReferenceIdeal.nD Cert.PackedReferenceIdeal.τ).loc Cert.PackedReferenceIdeal.main_v156) = v26 c
          ∧ r.2.mem ((c.tc : Thread Cert.PackedReferenceIdeal.nD Cert.PackedReferenceIdeal.τ).loc Cert.PackedReferenceIdeal.main_v162) = v27 c
          ∧ r.2.mem ((c.tc : Thread Cert.PackedReferenceIdeal.nD Cert.PackedReferenceIdeal.τ).loc Cert.PackedReferenceIdeal.main_v176) = v28 c
          ∧ r.2.mem ((c.tc : Thread Cert.PackedReferenceIdeal.nD Cert.PackedReferenceIdeal.τ).loc Cert.PackedReferenceIdeal.main_v200) = v29 c
          ∧ r.2.mem ((c.tc : Thread Cert.PackedReferenceIdeal.nD Cert.PackedReferenceIdeal.τ).loc Cert.PackedReferenceIdeal.main_v181) = v30 c
          ∧ r.2.mem ((c.tc : Thread Cert.PackedReferenceIdeal.nD Cert.PackedReferenceIdeal.τ).loc Cert.PackedReferenceIdeal.main_v187) = v31 c
          ∧ r.2.mem ((c.tc : Thread Cert.PackedReferenceIdeal.nD Cert.PackedReferenceIdeal.τ).loc Cert.PackedReferenceIdeal.main_v201) = v32 c
          ∧ r.2.mem ((c.tc : Thread Cert.PackedReferenceIdeal.nD Cert.PackedReferenceIdeal.τ).loc Cert.PackedReferenceIdeal.main_arg0) = m' ((c.tc : Thread Cert.PackedReferenceIdeal.nD Cert.PackedReferenceIdeal.τ).loc Cert.PackedReferenceIdeal.main_arg0)
          ∧ r.2.mem ((c.tc : Thread Cert.PackedReferenceIdeal.nD Cert.PackedReferenceIdeal.τ).loc Cert.PackedReferenceIdeal.main_arg1) = m' ((c.tc : Thread Cert.PackedReferenceIdeal.nD Cert.PackedReferenceIdeal.τ).loc Cert.PackedReferenceIdeal.main_arg1)
          ∧ r.2.mem ((c.tc : Thread Cert.PackedReferenceIdeal.nD Cert.PackedReferenceIdeal.τ).loc Cert.PackedReferenceIdeal.main_arg2) = m' ((c.tc : Thread Cert.PackedReferenceIdeal.nD Cert.PackedReferenceIdeal.τ).loc Cert.PackedReferenceIdeal.main_arg2)
          ∧ r.2.mem ((c.tc : Thread Cert.PackedReferenceIdeal.nD Cert.PackedReferenceIdeal.τ).loc Cert.PackedReferenceIdeal.main_arg3) = m' ((c.tc : Thread Cert.PackedReferenceIdeal.nD Cert.PackedReferenceIdeal.τ).loc Cert.PackedReferenceIdeal.main_arg3)
          ∧ r.2.mem ((c.tc : Thread Cert.PackedReferenceIdeal.nD Cert.PackedReferenceIdeal.τ).loc Cert.PackedReferenceIdeal.main_arg4) = m' ((c.tc : Thread Cert.PackedReferenceIdeal.nD Cert.PackedReferenceIdeal.τ).loc Cert.PackedReferenceIdeal.main_arg4)
          ∧ r.2.mem ((c.tc : Thread Cert.PackedReferenceIdeal.nD Cert.PackedReferenceIdeal.τ).loc Cert.PackedReferenceIdeal.main_arg5) = m' ((c.tc : Thread Cert.PackedReferenceIdeal.nD Cert.PackedReferenceIdeal.τ).loc Cert.PackedReferenceIdeal.main_arg5)
          ∧ r.2.mem ((c.tc : Thread Cert.PackedReferenceIdeal.nD Cert.PackedReferenceIdeal.τ).loc Cert.PackedReferenceIdeal.main_arg6) = m' ((c.tc : Thread Cert.PackedReferenceIdeal.nD Cert.PackedReferenceIdeal.τ).loc Cert.PackedReferenceIdeal.main_arg6)
          ∧ r.2.mem ((c.tc : Thread Cert.PackedReferenceIdeal.nD Cert.PackedReferenceIdeal.τ).loc Cert.PackedReferenceIdeal.main_arg7) = m' ((c.tc : Thread Cert.PackedReferenceIdeal.nD Cert.PackedReferenceIdeal.τ).loc Cert.PackedReferenceIdeal.main_arg7)
          ∧ r.2.mem ((c.tc : Thread Cert.PackedReferenceIdeal.nD Cert.PackedReferenceIdeal.τ).loc Cert.PackedReferenceIdeal.main_arg8) = m' ((c.tc : Thread Cert.PackedReferenceIdeal.nD Cert.PackedReferenceIdeal.τ).loc Cert.PackedReferenceIdeal.main_arg8)
          ∧ r.2.mem ((c.tc : Thread Cert.PackedReferenceIdeal.nD Cert.PackedReferenceIdeal.τ).loc Cert.PackedReferenceIdeal.main_arg9) = m' ((c.tc : Thread Cert.PackedReferenceIdeal.nD Cert.PackedReferenceIdeal.τ).loc Cert.PackedReferenceIdeal.main_arg9)
          ∧ r.2.mem ((c.tc : Thread Cert.PackedReferenceIdeal.nD Cert.PackedReferenceIdeal.τ).loc Cert.PackedReferenceIdeal.main_arg10) = m' ((c.tc : Thread Cert.PackedReferenceIdeal.nD Cert.PackedReferenceIdeal.τ).loc Cert.PackedReferenceIdeal.main_arg10)
          ∧ r.2.mem ((c.tc : Thread Cert.PackedReferenceIdeal.nD Cert.PackedReferenceIdeal.τ).loc Cert.PackedReferenceIdeal.main_arg11) = m' ((c.tc : Thread Cert.PackedReferenceIdeal.nD Cert.PackedReferenceIdeal.τ).loc Cert.PackedReferenceIdeal.main_arg11)
          ∧ r.2.mem ((c.tc : Thread Cert.PackedReferenceIdeal.nD Cert.PackedReferenceIdeal.τ).loc Cert.PackedReferenceIdeal.main_arg12) = m' ((c.tc : Thread Cert.PackedReferenceIdeal.nD Cert.PackedReferenceIdeal.τ).loc Cert.PackedReferenceIdeal.main_arg12)
          ∧ r.2.mem ((c.tc : Thread Cert.PackedReferenceIdeal.nD Cert.PackedReferenceIdeal.τ).loc Cert.PackedReferenceIdeal.main_arg13) = m' ((c.tc : Thread Cert.PackedReferenceIdeal.nD Cert.PackedReferenceIdeal.τ).loc Cert.PackedReferenceIdeal.main_arg13)
          ∧ r.2.mem ((c.tc : Thread Cert.PackedReferenceIdeal.nD Cert.PackedReferenceIdeal.τ).loc Cert.PackedReferenceIdeal.main_arg14) = m' ((c.tc : Thread Cert.PackedReferenceIdeal.nD Cert.PackedReferenceIdeal.τ).loc Cert.PackedReferenceIdeal.main_arg14)
          ∧ r.2.mem ((c.tc : Thread Cert.PackedReferenceIdeal.nD Cert.PackedReferenceIdeal.τ).loc Cert.PackedReferenceIdeal.main_arg15) = m' ((c.tc : Thread Cert.PackedReferenceIdeal.nD Cert.PackedReferenceIdeal.τ).loc Cert.PackedReferenceIdeal.main_arg15)
          ∧ r.2.mem ((c.tc : Thread Cert.PackedReferenceIdeal.nD Cert.PackedReferenceIdeal.τ).loc Cert.PackedReferenceIdeal.main_arg16) = m' ((c.tc : Thread Cert.PackedReferenceIdeal.nD Cert.PackedReferenceIdeal.τ).loc Cert.PackedReferenceIdeal.main_arg16)
          ∧ r.2.mem ((c.tc : Thread Cert.PackedReferenceIdeal.nD Cert.PackedReferenceIdeal.τ).loc Cert.PackedReferenceIdeal.main_arg17) = m' ((c.tc : Thread Cert.PackedReferenceIdeal.nD Cert.PackedReferenceIdeal.τ).loc Cert.PackedReferenceIdeal.main_arg17)
          ∧ r.2.mem ((c.tc : Thread Cert.PackedReferenceIdeal.nD Cert.PackedReferenceIdeal.τ).loc Cert.PackedReferenceIdeal.main_arg18) = m' ((c.tc : Thread Cert.PackedReferenceIdeal.nD Cert.PackedReferenceIdeal.τ).loc Cert.PackedReferenceIdeal.main_arg18)
          ∧ r.2.mem ((c.tc : Thread Cert.PackedReferenceIdeal.nD Cert.PackedReferenceIdeal.τ).loc Cert.PackedReferenceIdeal.main_arg19) = m' ((c.tc : Thread Cert.PackedReferenceIdeal.nD Cert.PackedReferenceIdeal.τ).loc Cert.PackedReferenceIdeal.main_arg19)
          ∧ r.2.mem ((c.tc : Thread Cert.PackedReferenceIdeal.nD Cert.PackedReferenceIdeal.τ).loc Cert.PackedReferenceIdeal.main_arg20) = m' ((c.tc : Thread Cert.PackedReferenceIdeal.nD Cert.PackedReferenceIdeal.τ).loc Cert.PackedReferenceIdeal.main_arg20)
          ∧ r.2.mem ((c.tc : Thread Cert.PackedReferenceIdeal.nD Cert.PackedReferenceIdeal.τ).loc Cert.PackedReferenceIdeal.main_arg21) = m' ((c.tc : Thread Cert.PackedReferenceIdeal.nD Cert.PackedReferenceIdeal.τ).loc Cert.PackedReferenceIdeal.main_arg21)
          ∧ r.2.mem ((c.tc : Thread Cert.PackedReferenceIdeal.nD Cert.PackedReferenceIdeal.τ).loc Cert.PackedReferenceIdeal.main_arg22) = m' ((c.tc : Thread Cert.PackedReferenceIdeal.nD Cert.PackedReferenceIdeal.τ).loc Cert.PackedReferenceIdeal.main_arg22)
          ∧ r.2.mem ((c.tc : Thread Cert.PackedReferenceIdeal.nD Cert.PackedReferenceIdeal.τ).loc Cert.PackedReferenceIdeal.main_arg23) = m' ((c.tc : Thread Cert.PackedReferenceIdeal.nD Cert.PackedReferenceIdeal.τ).loc Cert.PackedReferenceIdeal.main_arg23)
          ∧ r.2.mem ((c.tc : Thread Cert.PackedReferenceIdeal.nD Cert.PackedReferenceIdeal.τ).loc Cert.PackedReferenceIdeal.main_arg24) = m' ((c.tc : Thread Cert.PackedReferenceIdeal.nD Cert.PackedReferenceIdeal.τ).loc Cert.PackedReferenceIdeal.main_arg24))

def Claim : Prop :=
  ∃ (hKernel : Cert.Kernel.Facts) (hKernelIdeal : Cert.KernelIdeal.Facts) (hReferenceIdeal : Cert.ReferenceIdeal.Facts) (hOuter : Cert.Outer.Facts) (hOuterIdeal : Cert.OuterIdeal.Facts) (hOuterReferenceIdeal : Cert.OuterReferenceIdeal.Facts) (hInput : Cert.Input.Facts) (hInputIdeal : Cert.InputIdeal.Facts) (hInputReferenceIdeal : Cert.InputReferenceIdeal.Facts) (hWin : Cert.Win.Facts) (hWinIdeal : Cert.WinIdeal.Facts) (hWinReferenceIdeal : Cert.WinReferenceIdeal.Facts) (hWout : Cert.Wout.Facts) (hWoutIdeal : Cert.WoutIdeal.Facts) (hWoutReferenceIdeal : Cert.WoutReferenceIdeal.Facts) (hWkv : Cert.Wkv.Facts) (hWkvIdeal : Cert.WkvIdeal.Facts) (hWkvReferenceIdeal : Cert.WkvReferenceIdeal.Facts) (hPool : Cert.Pool.Facts) (hPoolIdeal : Cert.PoolIdeal.Facts) (hPoolReferenceIdeal : Cert.PoolReferenceIdeal.Facts) (hNorm : Cert.Norm.Facts) (hNormIdeal : Cert.NormIdeal.Facts) (hNormReferenceIdeal : Cert.NormReferenceIdeal.Facts) (hPacked : Cert.Packed.Facts) (hPackedIdeal : Cert.PackedIdeal.Facts) (hPackedReferenceIdeal : Cert.PackedReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Outer (hOuter := hOuter)
    ∧ quiescent_OuterIdeal (hOuterIdeal := hOuterIdeal)
    ∧ quiescent_OuterReferenceIdeal (hOuterReferenceIdeal := hOuterReferenceIdeal)
    ∧ quiescent_Input (hInput := hInput)
    ∧ quiescent_InputIdeal (hInputIdeal := hInputIdeal)
    ∧ quiescent_InputReferenceIdeal (hInputReferenceIdeal := hInputReferenceIdeal)
    ∧ quiescent_Win (hWin := hWin)
    ∧ quiescent_WinIdeal (hWinIdeal := hWinIdeal)
    ∧ quiescent_WinReferenceIdeal (hWinReferenceIdeal := hWinReferenceIdeal)
    ∧ quiescent_Wout (hWout := hWout)
    ∧ quiescent_WoutIdeal (hWoutIdeal := hWoutIdeal)
    ∧ quiescent_WoutReferenceIdeal (hWoutReferenceIdeal := hWoutReferenceIdeal)
    ∧ quiescent_Wkv (hWkv := hWkv)
    ∧ quiescent_WkvIdeal (hWkvIdeal := hWkvIdeal)
    ∧ quiescent_WkvReferenceIdeal (hWkvReferenceIdeal := hWkvReferenceIdeal)
    ∧ quiescent_Pool (hPool := hPool)
    ∧ quiescent_PoolIdeal (hPoolIdeal := hPoolIdeal)
    ∧ quiescent_PoolReferenceIdeal (hPoolReferenceIdeal := hPoolReferenceIdeal)
    ∧ quiescent_Norm (hNorm := hNorm)
    ∧ quiescent_NormIdeal (hNormIdeal := hNormIdeal)
    ∧ quiescent_NormReferenceIdeal (hNormReferenceIdeal := hNormReferenceIdeal)
    ∧ quiescent_Packed (hPacked := hPacked)
    ∧ quiescent_PackedIdeal (hPackedIdeal := hPackedIdeal)
    ∧ quiescent_PackedReferenceIdeal (hPackedReferenceIdeal := hPackedReferenceIdeal)
    ∧ preserves_Kernel_KernelIdeal
    ∧ algebraic_KernelIdeal_ReferenceIdeal (hKernelIdeal := hKernelIdeal) (hReferenceIdeal := hReferenceIdeal)
    ∧ preserves_Outer_OuterIdeal
    ∧ algebraic_OuterIdeal_OuterReferenceIdeal (hOuterIdeal := hOuterIdeal) (hOuterReferenceIdeal := hOuterReferenceIdeal)
    ∧ preserves_Input_InputIdeal
    ∧ algebraic_InputIdeal_InputReferenceIdeal (hInputIdeal := hInputIdeal) (hInputReferenceIdeal := hInputReferenceIdeal)
    ∧ preserves_Win_WinIdeal
    ∧ algebraic_WinIdeal_WinReferenceIdeal (hWinIdeal := hWinIdeal) (hWinReferenceIdeal := hWinReferenceIdeal)
    ∧ preserves_Wout_WoutIdeal
    ∧ algebraic_WoutIdeal_WoutReferenceIdeal (hWoutIdeal := hWoutIdeal) (hWoutReferenceIdeal := hWoutReferenceIdeal)
    ∧ preserves_Wkv_WkvIdeal
    ∧ algebraic_WkvIdeal_WkvReferenceIdeal (hWkvIdeal := hWkvIdeal) (hWkvReferenceIdeal := hWkvReferenceIdeal)
    ∧ preserves_Pool_PoolIdeal
    ∧ algebraic_PoolIdeal_PoolReferenceIdeal (hPoolIdeal := hPoolIdeal) (hPoolReferenceIdeal := hPoolReferenceIdeal)
    ∧ preserves_Norm_NormIdeal
    ∧ algebraic_NormIdeal_NormReferenceIdeal (hNormIdeal := hNormIdeal) (hNormReferenceIdeal := hNormReferenceIdeal)
    ∧ preserves_Packed_PackedIdeal
    ∧ algebraic_PackedIdeal_PackedReferenceIdeal (hPackedIdeal := hPackedIdeal) (hPackedReferenceIdeal := hPackedReferenceIdeal)
-- ==== Kernel.lean ====
abbrev S4096x2048 : Shape := ⟨2, ![4096, 2048]⟩
abbrev S4096x7168 : Shape := ⟨2, ![4096, 7168]⟩
abbrev S4x256x2048 : Shape := ⟨3, ![4, 256, 2048]⟩
abbrev S4x128x256 : Shape := ⟨3, ![4, 128, 256]⟩
abbrev S4x1120x128 : Shape := ⟨3, ![4, 1120, 128]⟩
abbrev S4x384x2048 : Shape := ⟨3, ![4, 384, 2048]⟩
abbrev S8x2048x896 : Shape := ⟨3, ![8, 2048, 896]⟩
abbrev S4x2048x896 : Shape := ⟨3, ![4, 2048, 896]⟩
abbrev S1024x2048 : Shape := ⟨2, ![1024, 2048]⟩
abbrev S1024x1792 : Shape := ⟨2, ![1024, 1792]⟩
abbrev S2x2048x896 : Shape := ⟨3, ![2, 2048, 896]⟩
abbrev S2048x1792 : Shape := ⟨2, ![2048, 1792]⟩
abbrev S4 : Shape := ⟨1, ![4]⟩
abbrev S4x8 : Shape := ⟨2, ![4, 8]⟩
abbrev S1 : Shape := ⟨1, ![1]⟩
abbrev S_ : Shape := ⟨0, ![]⟩
abbrev S1x256x2048 : Shape := ⟨3, ![1, 256, 2048]⟩
abbrev S256x2048 : Shape := ⟨2, ![256, 2048]⟩
abbrev S1x128x256 : Shape := ⟨3, ![1, 128, 256]⟩
abbrev S128x256 : Shape := ⟨2, ![128, 256]⟩
abbrev S1x1120x128 : Shape := ⟨3, ![1, 1120, 128]⟩
abbrev S1120x128 : Shape := ⟨2, ![1120, 128]⟩
abbrev S1x384x2048 : Shape := ⟨3, ![1, 384, 2048]⟩
abbrev S384x2048 : Shape := ⟨2, ![384, 2048]⟩
abbrev S1x1 : Shape := ⟨2, ![1, 1]⟩
abbrev S1x2048x896 : Shape := ⟨3, ![1, 2048, 896]⟩
abbrev S2048x896 : Shape := ⟨2, ![2048, 896]⟩

abbrev nBuf : Space → Nat
  | .hbm => 12
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S4096x7168, .bf16⟩
  | .hbm, ⟨2, _⟩ => ⟨S4x256x2048, .bf16⟩
  | .hbm, ⟨3, _⟩ => ⟨S4x128x256, .bf16⟩
  | .hbm, ⟨4, _⟩ => ⟨S4x1120x128, .f32⟩
  | .hbm, ⟨5, _⟩ => ⟨S4x384x2048, .bf16⟩
  | .hbm, ⟨6, _⟩ => ⟨S8x2048x896, .bf16⟩
  | .hbm, ⟨7, _⟩ => ⟨S4x2048x896, .bf16⟩
  | .hbm, ⟨8, _⟩ => ⟨S4x256x2048, .bf16⟩
  | .hbm, ⟨9, _⟩ => ⟨S4x128x256, .bf16⟩
  | .hbm, ⟨10, _⟩ => ⟨S4x1120x128, .f32⟩
  | .hbm, ⟨11, _⟩ => ⟨S4x384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1792, .bf16⟩
  | .local _ .vmem, ⟨3, _⟩ => ⟨S1024x1792, .bf16⟩
  | .local _ .vmem, ⟨4, _⟩ => ⟨S2x2048x896, .bf16⟩
  | .local _ .vmem, ⟨5, _⟩ => ⟨S2x2048x896, .bf16⟩
  | .local _ .vmem, ⟨6, _⟩ => ⟨S2048x1792, .f32⟩
  | .local _ .vmem, ⟨7, _⟩ => ⟨S2x2048x896, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 82 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | _ => false

abbrev sig : RefSig :=
  ofTc nBuf bufTy 0 82 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev main_v1_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 8
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v20 : BitVec 1 := Scalar.cmpi .eq arg0 c0_i32
  let arg1 : BitVec 32 := BitVec.ofNat 32 (i 1).val
  let c0_i32_10 : BitVec 32 := 0#32
  let v21 : BitVec 1 := Scalar.cmpi .eq arg1 c0_i32_10
  let v22 : BitVec 1 := Scalar.andi v20 v21
  let v23 : BitVec 32 := Scalar.extui v22
  let c0_i32_11 : BitVec 32 := 0#32
  let v24 : BitVec 1 := Scalar.cmpi .ne v23 c0_i32_11
  v24

def k0_off1 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_62 : BitVec 32 := 0#32
  let c0_i32_63 : BitVec 32 := 0#32
  ![v10.toNat, 0, 0]
def k0_off2 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_67 : BitVec 32 := 0#32
  let c0_i32_68 : BitVec 32 := 0#32
  ![v10.toNat, 0, 0]
def k0_off3 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_72 : BitVec 32 := 0#32
  let c0_i32_73 : BitVec 32 := 0#32
  ![v10.toNat, 0, 0]
def k0_off4 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_77 : BitVec 32 := 0#32
  let c0_i32_78 : BitVec 32 := 0#32
  ![v10.toNat, 0, 0]
def k0_off5 (d0 : Dev nD) (c0_i32_25 : BitVec 32) (c1_i32_26 : BitVec 32) : Fin 3 → Nat :=
  let c2_i32_27 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v46 : BitVec 32 := Scalar.xori v2 c0_i32_25
  let v48 : BitVec 32 := Scalar.muli c2_i32_27 v46
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v47 : BitVec 32 := Scalar.xori v5 c1_i32_26
  let v49 : BitVec 32 := Scalar.addi v48 v47
  let c0_i32_91 : BitVec 32 := 0#32
  let c0_i32_92 : BitVec 32 := 0#32
  ![v49.toNat, 0, 0]
def k0_off5_at (r : Fin 3) : BitVec 32 × BitVec 32 :=
  if r.val < 1 then
    (0#32, 1#32)
  else
    if r.val < 2 then
      (1#32, 0#32)
    else
      (1#32, 1#32)
def k0_dev1 (d0 : Dev nD) : Nat :=
  let c0_i32_86 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_25 : BitVec 32 := 0#32
  let v46 : BitVec 32 := Scalar.xori v2 c0_i32_25
  let c4_i32_85 : BitVec 32 := 4#32
  let v118 : BitVec 32 := Scalar.muli v46 c4_i32_85
  let v119 : BitVec 32 := Scalar.addi c0_i32_86 v118
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_26 : BitVec 32 := 1#32
  let v47 : BitVec 32 := Scalar.xori v5 c1_i32_26
  let c2_i32_87 : BitVec 32 := 2#32
  let v120 : BitVec 32 := Scalar.muli v47 c2_i32_87
  let v121 : BitVec 32 := Scalar.addi v119 v120
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_88 : BitVec 32 := 1#32
  let v122 : BitVec 32 := Scalar.muli v8 c1_i32_88
  let v123 : BitVec 32 := Scalar.addi v121 v122
  v123.toNat
def k0_dev2 (d0 : Dev nD) : Nat :=
  let c0_i32_98 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_28 : BitVec 32 := 1#32
  let v50 : BitVec 32 := Scalar.xori v2 c1_i32_28
  let c4_i32_97 : BitVec 32 := 4#32
  let v132 : BitVec 32 := Scalar.muli v50 c4_i32_97
  let v133 : BitVec 32 := Scalar.addi c0_i32_98 v132
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_29 : BitVec 32 := 0#32
  let v51 : BitVec 32 := Scalar.xori v5 c0_i32_29
  let c2_i32_99 : BitVec 32 := 2#32
  let v134 : BitVec 32 := Scalar.muli v51 c2_i32_99
  let v135 : BitVec 32 := Scalar.addi v133 v134
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_100 : BitVec 32 := 1#32
  let v136 : BitVec 32 := Scalar.muli v8 c1_i32_100
  let v137 : BitVec 32 := Scalar.addi v135 v136
  v137.toNat
def k0_dev3 (d0 : Dev nD) : Nat :=
  let c0_i32_110 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_31 : BitVec 32 := 1#32
  let v54 : BitVec 32 := Scalar.xori v2 c1_i32_31
  let c4_i32_109 : BitVec 32 := 4#32
  let v146 : BitVec 32 := Scalar.muli v54 c4_i32_109
  let v147 : BitVec 32 := Scalar.addi c0_i32_110 v146
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_32 : BitVec 32 := 1#32
  let v55 : BitVec 32 := Scalar.xori v5 c1_i32_32
  let c2_i32_111 : BitVec 32 := 2#32
  let v148 : BitVec 32 := Scalar.muli v55 c2_i32_111
  let v149 : BitVec 32 := Scalar.addi v147 v148
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_112 : BitVec 32 := 1#32
  let v150 : BitVec 32 := Scalar.muli v8 c1_i32_112
  let v151 : BitVec 32 := Scalar.addi v149 v150
  v151.toNat
def k0_off6 (d0 : Dev nD) (c0_i32_34 : BitVec 32) (c1_i32_35 : BitVec 32) : Fin 3 → Nat :=
  let c2_i32_36 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v58 : BitVec 32 := Scalar.xori v2 c0_i32_34
  let v60 : BitVec 32 := Scalar.muli c2_i32_36 v58
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v59 : BitVec 32 := Scalar.xori v5 c1_i32_35
  let v61 : BitVec 32 := Scalar.addi v60 v59
  let c0_i32_127 : BitVec 32 := 0#32
  let c0_i32_128 : BitVec 32 := 0#32
  ![v61.toNat, 0, 0]
def k0_off6_at (r : Fin 3) : BitVec 32 × BitVec 32 :=
  if r.val < 1 then
    (0#32, 1#32)
  else
    if r.val < 2 then
      (1#32, 0#32)
    else
      (1#32, 1#32)
def k0_dev4 (d0 : Dev nD) : Nat :=
  let c0_i32_122 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_34 : BitVec 32 := 0#32
  let v58 : BitVec 32 := Scalar.xori v2 c0_i32_34
  let c4_i32_121 : BitVec 32 := 4#32
  let v160 : BitVec 32 := Scalar.muli v58 c4_i32_121
  let v161 : BitVec 32 := Scalar.addi c0_i32_122 v160
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_35 : BitVec 32 := 1#32
  let v59 : BitVec 32 := Scalar.xori v5 c1_i32_35
  let c2_i32_123 : BitVec 32 := 2#32
  let v162 : BitVec 32 := Scalar.muli v59 c2_i32_123
  let v163 : BitVec 32 := Scalar.addi v161 v162
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_124 : BitVec 32 := 1#32
  let v164 : BitVec 32 := Scalar.muli v8 c1_i32_124
  let v165 : BitVec 32 := Scalar.addi v163 v164
  v165.toNat
def k0_dev5 (d0 : Dev nD) : Nat :=
  let c0_i32_134 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_37 : BitVec 32 := 1#32
  let v62 : BitVec 32 := Scalar.xori v2 c1_i32_37
  let c4_i32_133 : BitVec 32 := 4#32
  let v174 : BitVec 32 := Scalar.muli v62 c4_i32_133
  let v175 : BitVec 32 := Scalar.addi c0_i32_134 v174
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_38 : BitVec 32 := 0#32
  let v63 : BitVec 32 := Scalar.xori v5 c0_i32_38
  let c2_i32_135 : BitVec 32 := 2#32
  let v176 : BitVec 32 := Scalar.muli v63 c2_i32_135
  let v177 : BitVec 32 := Scalar.addi v175 v176
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_136 : BitVec 32 := 1#32
  let v178 : BitVec 32 := Scalar.muli v8 c1_i32_136
  let v179 : BitVec 32 := Scalar.addi v177 v178
  v179.toNat
def k0_dev6 (d0 : Dev nD) : Nat :=
  let c0_i32_146 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_40 : BitVec 32 := 1#32
  let v66 : BitVec 32 := Scalar.xori v2 c1_i32_40
  let c4_i32_145 : BitVec 32 := 4#32
  let v188 : BitVec 32 := Scalar.muli v66 c4_i32_145
  let v189 : BitVec 32 := Scalar.addi c0_i32_146 v188
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_41 : BitVec 32 := 1#32
  let v67 : BitVec 32 := Scalar.xori v5 c1_i32_41
  let c2_i32_147 : BitVec 32 := 2#32
  let v190 : BitVec 32 := Scalar.muli v67 c2_i32_147
  let v191 : BitVec 32 := Scalar.addi v189 v190
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_148 : BitVec 32 := 1#32
  let v192 : BitVec 32 := Scalar.muli v8 c1_i32_148
  let v193 : BitVec 32 := Scalar.addi v191 v192
  v193.toNat
def k0_off7 (d0 : Dev nD) (c0_i32_43 : BitVec 32) (c1_i32_44 : BitVec 32) : Fin 3 → Nat :=
  let c2_i32_45 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v70 : BitVec 32 := Scalar.xori v2 c0_i32_43
  let v72 : BitVec 32 := Scalar.muli c2_i32_45 v70
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v71 : BitVec 32 := Scalar.xori v5 c1_i32_44
  let v73 : BitVec 32 := Scalar.addi v72 v71
  let c0_i32_163 : BitVec 32 := 0#32
  let c0_i32_164 : BitVec 32 := 0#32
  ![v73.toNat, 0, 0]
def k0_off7_at (r : Fin 3) : BitVec 32 × BitVec 32 :=
  if r.val < 1 then
    (0#32, 1#32)
  else
    if r.val < 2 then
      (1#32, 0#32)
    else
      (1#32, 1#32)
def k0_dev7 (d0 : Dev nD) : Nat :=
  let c0_i32_158 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_43 : BitVec 32 := 0#32
  let v70 : BitVec 32 := Scalar.xori v2 c0_i32_43
  let c4_i32_157 : BitVec 32 := 4#32
  let v202 : BitVec 32 := Scalar.muli v70 c4_i32_157
  let v203 : BitVec 32 := Scalar.addi c0_i32_158 v202
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_44 : BitVec 32 := 1#32
  let v71 : BitVec 32 := Scalar.xori v5 c1_i32_44
  let c2_i32_159 : BitVec 32 := 2#32
  let v204 : BitVec 32 := Scalar.muli v71 c2_i32_159
  let v205 : BitVec 32 := Scalar.addi v203 v204
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_160 : BitVec 32 := 1#32
  let v206 : BitVec 32 := Scalar.muli v8 c1_i32_160
  let v207 : BitVec 32 := Scalar.addi v205 v206
  v207.toNat
def k0_dev8 (d0 : Dev nD) : Nat :=
  let c0_i32_170 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_46 : BitVec 32 := 1#32
  let v74 : BitVec 32 := Scalar.xori v2 c1_i32_46
  let c4_i32_169 : BitVec 32 := 4#32
  let v216 : BitVec 32 := Scalar.muli v74 c4_i32_169
  let v217 : BitVec 32 := Scalar.addi c0_i32_170 v216
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_47 : BitVec 32 := 0#32
  let v75 : BitVec 32 := Scalar.xori v5 c0_i32_47
  let c2_i32_171 : BitVec 32 := 2#32
  let v218 : BitVec 32 := Scalar.muli v75 c2_i32_171
  let v219 : BitVec 32 := Scalar.addi v217 v218
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_172 : BitVec 32 := 1#32
  let v220 : BitVec 32 := Scalar.muli v8 c1_i32_172
  let v221 : BitVec 32 := Scalar.addi v219 v220
  v221.toNat
def k0_dev9 (d0 : Dev nD) : Nat :=
  let c0_i32_182 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_49 : BitVec 32 := 1#32
  let v78 : BitVec 32 := Scalar.xori v2 c1_i32_49
  let c4_i32_181 : BitVec 32 := 4#32
  let v230 : BitVec 32 := Scalar.muli v78 c4_i32_181
  let v231 : BitVec 32 := Scalar.addi c0_i32_182 v230
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_50 : BitVec 32 := 1#32
  let v79 : BitVec 32 := Scalar.xori v5 c1_i32_50
  let c2_i32_183 : BitVec 32 := 2#32
  let v232 : BitVec 32 := Scalar.muli v79 c2_i32_183
  let v233 : BitVec 32 := Scalar.addi v231 v232
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_184 : BitVec 32 := 1#32
  let v234 : BitVec 32 := Scalar.muli v8 c1_i32_184
  let v235 : BitVec 32 := Scalar.addi v233 v234
  v235.toNat
def k0_off8 (d0 : Dev nD) (c0_i32_52 : BitVec 32) (c1_i32_53 : BitVec 32) : Fin 3 → Nat :=
  let c2_i32_54 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v82 : BitVec 32 := Scalar.xori v2 c0_i32_52
  let v84 : BitVec 32 := Scalar.muli c2_i32_54 v82
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v83 : BitVec 32 := Scalar.xori v5 c1_i32_53
  let v85 : BitVec 32 := Scalar.addi v84 v83
  let c0_i32_199 : BitVec 32 := 0#32
  let c0_i32_200 : BitVec 32 := 0#32
  ![v85.toNat, 0, 0]
def k0_off8_at (r : Fin 3) : BitVec 32 × BitVec 32 :=
  if r.val < 1 then
    (0#32, 1#32)
  else
    if r.val < 2 then
      (1#32, 0#32)
    else
      (1#32, 1#32)
def k0_dev10 (d0 : Dev nD) : Nat :=
  let c0_i32_194 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_52 : BitVec 32 := 0#32
  let v82 : BitVec 32 := Scalar.xori v2 c0_i32_52
  let c4_i32_193 : BitVec 32 := 4#32
  let v244 : BitVec 32 := Scalar.muli v82 c4_i32_193
  let v245 : BitVec 32 := Scalar.addi c0_i32_194 v244
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_53 : BitVec 32 := 1#32
  let v83 : BitVec 32 := Scalar.xori v5 c1_i32_53
  let c2_i32_195 : BitVec 32 := 2#32
  let v246 : BitVec 32 := Scalar.muli v83 c2_i32_195
  let v247 : BitVec 32 := Scalar.addi v245 v246
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_196 : BitVec 32 := 1#32
  let v248 : BitVec 32 := Scalar.muli v8 c1_i32_196
  let v249 : BitVec 32 := Scalar.addi v247 v248
  v249.toNat
def k0_dev11 (d0 : Dev nD) : Nat :=
  let c0_i32_206 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_55 : BitVec 32 := 1#32
  let v86 : BitVec 32 := Scalar.xori v2 c1_i32_55
  let c4_i32_205 : BitVec 32 := 4#32
  let v258 : BitVec 32 := Scalar.muli v86 c4_i32_205
  let v259 : BitVec 32 := Scalar.addi c0_i32_206 v258
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_56 : BitVec 32 := 0#32
  let v87 : BitVec 32 := Scalar.xori v5 c0_i32_56
  let c2_i32_207 : BitVec 32 := 2#32
  let v260 : BitVec 32 := Scalar.muli v87 c2_i32_207
  let v261 : BitVec 32 := Scalar.addi v259 v260
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_208 : BitVec 32 := 1#32
  let v262 : BitVec 32 := Scalar.muli v8 c1_i32_208
  let v263 : BitVec 32 := Scalar.addi v261 v262
  v263.toNat
def k0_dev12 (d0 : Dev nD) : Nat :=
  let c0_i32_218 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_58 : BitVec 32 := 1#32
  let v90 : BitVec 32 := Scalar.xori v2 c1_i32_58
  let c4_i32_217 : BitVec 32 := 4#32
  let v272 : BitVec 32 := Scalar.muli v90 c4_i32_217
  let v273 : BitVec 32 := Scalar.addi c0_i32_218 v272
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_59 : BitVec 32 := 1#32
  let v91 : BitVec 32 := Scalar.xori v5 c1_i32_59
  let c2_i32_219 : BitVec 32 := 2#32
  let v274 : BitVec 32 := Scalar.muli v91 c2_i32_219
  let v275 : BitVec 32 := Scalar.addi v273 v274
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_220 : BitVec 32 := 1#32
  let v276 : BitVec 32 := Scalar.muli v8 c1_i32_220
  let v277 : BitVec 32 := Scalar.addi v275 v276
  v277.toNat
def k0_cond3 (i : grid0.Coords) : BitVec 1 :=
  let arg1 : BitVec 32 := BitVec.ofNat 32 (i 1).val
  let c3_i32 : BitVec 32 := 3#32
  let v38 : BitVec 1 := Scalar.cmpi .eq arg1 c3_i32
  let v39 : BitVec 32 := Scalar.extui v38
  let c0_i32_21 : BitVec 32 := 0#32
  let v40 : BitVec 1 := Scalar.cmpi .ne v39 c0_i32_21
  v40

def k0_cond4 (i : grid0.Coords) : BitVec 1 :=
  let arg0 : BitVec 32 := BitVec.ofNat 32 (i 0).val
  let c1_i32_25 : BitVec 32 := 1#32
  let v46 : BitVec 1 := Scalar.cmpi .eq arg0 c1_i32_25
  let v47 : BitVec 32 := Scalar.extui v46
  let c0_i32_26 : BitVec 32 := 0#32
  let v48 : BitVec 1 := Scalar.cmpi .ne v47 c0_i32_26
  v48

def k0_off9 (d0 : Dev nD) : Fin 3 → Nat :=
  let c1_i32_53 : BitVec 32 := 1#32
  let v17 : BitVec 32 := Dev.word d0
  let c1_i32_9 : BitVec 32 := 1#32
  let v18 : BitVec 32 := Scalar.divsi v17 c1_i32_9
  let c2_i32_8 : BitVec 32 := 2#32
  let v19 : BitVec 32 := Scalar.remsi v18 c2_i32_8
  let v83 : BitVec 32 := Scalar.subi c1_i32_53 v19
  let c0_i32_59 : BitVec 32 := 0#32
  let c0_i32_60 : BitVec 32 := 0#32
  ![v83.toNat, 0, 0]
def k0_cond5 (i : grid0.Coords) : BitVec 1 :=
  let arg0 : BitVec 32 := BitVec.ofNat 32 (i 0).val
  let c2_i32_27 : BitVec 32 := 2#32
  let v49 : BitVec 1 := Scalar.cmpi .eq arg0 c2_i32_27
  let v50 : BitVec 32 := Scalar.extui v49
  let c0_i32_28 : BitVec 32 := 0#32
  let v51 : BitVec 1 := Scalar.cmpi .ne v50 c0_i32_28
  v51

def k0_off10 (d0 : Dev nD) : Fin 3 → Nat :=
  let c1_i32_53 : BitVec 32 := 1#32
  let v17 : BitVec 32 := Dev.word d0
  let c1_i32_9 : BitVec 32 := 1#32
  let v18 : BitVec 32 := Scalar.divsi v17 c1_i32_9
  let c2_i32_8 : BitVec 32 := 2#32
  let v19 : BitVec 32 := Scalar.remsi v18 c2_i32_8
  let v83 : BitVec 32 := Scalar.subi c1_i32_53 v19
  let c0_i32_59 : BitVec 32 := 0#32
  let c0_i32_60 : BitVec 32 := 0#32
  ![v83.toNat, 0, 0]
def k0_cond6 (i : grid0.Coords) : BitVec 1 :=
  let arg0 : BitVec 32 := BitVec.ofNat 32 (i 0).val
  let c3_i32_29 : BitVec 32 := 3#32
  let v52 : BitVec 1 := Scalar.cmpi .eq arg0 c3_i32_29
  let v53 : BitVec 32 := Scalar.extui v52
  let c0_i32_30 : BitVec 32 := 0#32
  let v54 : BitVec 1 := Scalar.cmpi .ne v53 c0_i32_30
  v54

def k0_off11 (d0 : Dev nD) : Fin 3 → Nat :=
  let c1_i32_53 : BitVec 32 := 1#32
  let v17 : BitVec 32 := Dev.word d0
  let c1_i32_9 : BitVec 32 := 1#32
  let v18 : BitVec 32 := Scalar.divsi v17 c1_i32_9
  let c2_i32_8 : BitVec 32 := 2#32
  let v19 : BitVec 32 := Scalar.remsi v18 c2_i32_8
  let v83 : BitVec 32 := Scalar.subi c1_i32_53 v19
  let c0_i32_59 : BitVec 32 := 0#32
  let c0_i32_60 : BitVec 32 := 0#32
  ![v83.toNat, 0, 0]
def k0_cond7 (i : grid0.Coords) : BitVec 1 :=
  let arg0 : BitVec 32 := BitVec.ofNat 32 (i 0).val
  let c0_i32_45 : BitVec 32 := 0#32
  let v71 : BitVec 1 := Scalar.cmpi .eq arg0 c0_i32_45
  let v72 : BitVec 32 := Scalar.extui v71
  let c0_i32_46 : BitVec 32 := 0#32
  let v73 : BitVec 1 := Scalar.cmpi .ne v72 c0_i32_46
  v73

def k0_off12 (d0 : Dev nD) : Fin 3 → Nat :=
  let c1_i32_53 : BitVec 32 := 1#32
  let v17 : BitVec 32 := Dev.word d0
  let c1_i32_9 : BitVec 32 := 1#32
  let v18 : BitVec 32 := Scalar.divsi v17 c1_i32_9
  let c2_i32_8 : BitVec 32 := 2#32
  let v19 : BitVec 32 := Scalar.remsi v18 c2_i32_8
  let v83 : BitVec 32 := Scalar.subi c1_i32_53 v19
  let c0_i32_64 : BitVec 32 := 0#32
  let c0_i32_65 : BitVec 32 := 0#32
  ![v83.toNat, 0, 0]
def k0_dev13 (d0 : Dev nD) : Nat :=
  let c0_i32_59 : BitVec 32 := 0#32
  let v11 : BitVec 32 := Dev.word d0
  let c4_i32_5 : BitVec 32 := 4#32
  let v12 : BitVec 32 := Scalar.divsi v11 c4_i32_5
  let c2_i32_4 : BitVec 32 := 2#32
  let v13 : BitVec 32 := Scalar.remsi v12 c2_i32_4
  let c4_i32_58 : BitVec 32 := 4#32
  let v85 : BitVec 32 := Scalar.muli v13 c4_i32_58
  let v86 : BitVec 32 := Scalar.addi c0_i32_59 v85
  let v14 : BitVec 32 := Dev.word d0
  let c2_i32_7 : BitVec 32 := 2#32
  let v15 : BitVec 32 := Scalar.divsi v14 c2_i32_7
  let c2_i32_6 : BitVec 32 := 2#32
  let v16 : BitVec 32 := Scalar.remsi v15 c2_i32_6
  let c2_i32_60 : BitVec 32 := 2#32
  let v87 : BitVec 32 := Scalar.muli v16 c2_i32_60
  let v88 : BitVec 32 := Scalar.addi v86 v87
  let c1_i32_54 : BitVec 32 := 1#32
  let v17 : BitVec 32 := Dev.word d0
  let c1_i32_9 : BitVec 32 := 1#32
  let v18 : BitVec 32 := Scalar.divsi v17 c1_i32_9
  let c2_i32_8 : BitVec 32 := 2#32
  let v19 : BitVec 32 := Scalar.remsi v18 c2_i32_8
  let v84 : BitVec 32 := Scalar.subi c1_i32_54 v19
  let c1_i32_61 : BitVec 32 := 1#32
  let v89 : BitVec 32 := Scalar.muli v84 c1_i32_61
  let v90 : BitVec 32 := Scalar.addi v88 v89
  v90.toNat
def k0_cond8 (i : grid0.Coords) : BitVec 1 :=
  let arg0 : BitVec 32 := BitVec.ofNat 32 (i 0).val
  let c1_i32_47 : BitVec 32 := 1#32
  let v74 : BitVec 1 := Scalar.cmpi .eq arg0 c1_i32_47
  let v75 : BitVec 32 := Scalar.extui v74
  let c0_i32_48 : BitVec 32 := 0#32
  let v76 : BitVec 1 := Scalar.cmpi .ne v75 c0_i32_48
  v76

def k0_off13 (d0 : Dev nD) : Fin 3 → Nat :=
  let c1_i32_53 : BitVec 32 := 1#32
  let v17 : BitVec 32 := Dev.word d0
  let c1_i32_9 : BitVec 32 := 1#32
  let v18 : BitVec 32 := Scalar.divsi v17 c1_i32_9
  let c2_i32_8 : BitVec 32 := 2#32
  let v19 : BitVec 32 := Scalar.remsi v18 c2_i32_8
  let v83 : BitVec 32 := Scalar.subi c1_i32_53 v19
  let c0_i32_64 : BitVec 32 := 0#32
  let c0_i32_65 : BitVec 32 := 0#32
  ![v83.toNat, 0, 0]
def k0_dev14 (d0 : Dev nD) : Nat :=
  let c0_i32_59 : BitVec 32 := 0#32
  let v11 : BitVec 32 := Dev.word d0
  let c4_i32_5 : BitVec 32 := 4#32
  let v12 : BitVec 32 := Scalar.divsi v11 c4_i32_5
  let c2_i32_4 : BitVec 32 := 2#32
  let v13 : BitVec 32 := Scalar.remsi v12 c2_i32_4
  let c4_i32_58 : BitVec 32 := 4#32
  let v85 : BitVec 32 := Scalar.muli v13 c4_i32_58
  let v86 : BitVec 32 := Scalar.addi c0_i32_59 v85
  let v14 : BitVec 32 := Dev.word d0
  let c2_i32_7 : BitVec 32 := 2#32
  let v15 : BitVec 32 := Scalar.divsi v14 c2_i32_7
  let c2_i32_6 : BitVec 32 := 2#32
  let v16 : BitVec 32 := Scalar.remsi v15 c2_i32_6
  let c2_i32_60 : BitVec 32 := 2#32
  let v87 : BitVec 32 := Scalar.muli v16 c2_i32_60
  let v88 : BitVec 32 := Scalar.addi v86 v87
  let c1_i32_54 : BitVec 32 := 1#32
  let v17 : BitVec 32 := Dev.word d0
  let c1_i32_9 : BitVec 32 := 1#32
  let v18 : BitVec 32 := Scalar.divsi v17 c1_i32_9
  let c2_i32_8 : BitVec 32 := 2#32
  let v19 : BitVec 32 := Scalar.remsi v18 c2_i32_8
  let v84 : BitVec 32 := Scalar.subi c1_i32_54 v19
  let c1_i32_61 : BitVec 32 := 1#32
  let v89 : BitVec 32 := Scalar.muli v84 c1_i32_61
  let v90 : BitVec 32 := Scalar.addi v88 v89
  v90.toNat
def k0_cond9 (i : grid0.Coords) : BitVec 1 :=
  let arg0 : BitVec 32 := BitVec.ofNat 32 (i 0).val
  let c2_i32_49 : BitVec 32 := 2#32
  let v77 : BitVec 1 := Scalar.cmpi .eq arg0 c2_i32_49
  let v78 : BitVec 32 := Scalar.extui v77
  let c0_i32_50 : BitVec 32 := 0#32
  let v79 : BitVec 1 := Scalar.cmpi .ne v78 c0_i32_50
  v79

def k0_off14 (d0 : Dev nD) : Fin 3 → Nat :=
  let c1_i32_53 : BitVec 32 := 1#32
  let v17 : BitVec 32 := Dev.word d0
  let c1_i32_9 : BitVec 32 := 1#32
  let v18 : BitVec 32 := Scalar.divsi v17 c1_i32_9
  let c2_i32_8 : BitVec 32 := 2#32
  let v19 : BitVec 32 := Scalar.remsi v18 c2_i32_8
  let v83 : BitVec 32 := Scalar.subi c1_i32_53 v19
  let c0_i32_64 : BitVec 32 := 0#32
  let c0_i32_65 : BitVec 32 := 0#32
  ![v83.toNat, 0, 0]
def k0_dev15 (d0 : Dev nD) : Nat :=
  let c0_i32_59 : BitVec 32 := 0#32
  let v11 : BitVec 32 := Dev.word d0
  let c4_i32_5 : BitVec 32 := 4#32
  let v12 : BitVec 32 := Scalar.divsi v11 c4_i32_5
  let c2_i32_4 : BitVec 32 := 2#32
  let v13 : BitVec 32 := Scalar.remsi v12 c2_i32_4
  let c4_i32_58 : BitVec 32 := 4#32
  let v85 : BitVec 32 := Scalar.muli v13 c4_i32_58
  let v86 : BitVec 32 := Scalar.addi c0_i32_59 v85
  let v14 : BitVec 32 := Dev.word d0
  let c2_i32_7 : BitVec 32 := 2#32
  let v15 : BitVec 32 := Scalar.divsi v14 c2_i32_7
  let c2_i32_6 : BitVec 32 := 2#32
  let v16 : BitVec 32 := Scalar.remsi v15 c2_i32_6
  let c2_i32_60 : BitVec 32 := 2#32
  let v87 : BitVec 32 := Scalar.muli v16 c2_i32_60
  let v88 : BitVec 32 := Scalar.addi v86 v87
  let c1_i32_54 : BitVec 32 := 1#32
  let v17 : BitVec 32 := Dev.word d0
  let c1_i32_9 : BitVec 32 := 1#32
  let v18 : BitVec 32 := Scalar.divsi v17 c1_i32_9
  let c2_i32_8 : BitVec 32 := 2#32
  let v19 : BitVec 32 := Scalar.remsi v18 c2_i32_8
  let v84 : BitVec 32 := Scalar.subi c1_i32_54 v19
  let c1_i32_61 : BitVec 32 := 1#32
  let v89 : BitVec 32 := Scalar.muli v84 c1_i32_61
  let v90 : BitVec 32 := Scalar.addi v88 v89
  v90.toNat
def k0_cond10 (i : grid0.Coords) : BitVec 1 :=
  let arg0 : BitVec 32 := BitVec.ofNat 32 (i 0).val
  let c3_i32_51 : BitVec 32 := 3#32
  let v80 : BitVec 1 := Scalar.cmpi .eq arg0 c3_i32_51
  let v81 : BitVec 32 := Scalar.extui v80
  let c0_i32_52 : BitVec 32 := 0#32
  let v82 : BitVec 1 := Scalar.cmpi .ne v81 c0_i32_52
  v82

def k0_off15 (d0 : Dev nD) : Fin 3 → Nat :=
  let c1_i32_53 : BitVec 32 := 1#32
  let v17 : BitVec 32 := Dev.word d0
  let c1_i32_9 : BitVec 32 := 1#32
  let v18 : BitVec 32 := Scalar.divsi v17 c1_i32_9
  let c2_i32_8 : BitVec 32 := 2#32
  let v19 : BitVec 32 := Scalar.remsi v18 c2_i32_8
  let v83 : BitVec 32 := Scalar.subi c1_i32_53 v19
  let c0_i32_64 : BitVec 32 := 0#32
  let c0_i32_65 : BitVec 32 := 0#32
  ![v83.toNat, 0, 0]
def k0_dev16 (d0 : Dev nD) : Nat :=
  let c0_i32_59 : BitVec 32 := 0#32
  let v11 : BitVec 32 := Dev.word d0
  let c4_i32_5 : BitVec 32 := 4#32
  let v12 : BitVec 32 := Scalar.divsi v11 c4_i32_5
  let c2_i32_4 : BitVec 32 := 2#32
  let v13 : BitVec 32 := Scalar.remsi v12 c2_i32_4
  let c4_i32_58 : BitVec 32 := 4#32
  let v85 : BitVec 32 := Scalar.muli v13 c4_i32_58
  let v86 : BitVec 32 := Scalar.addi c0_i32_59 v85
  let v14 : BitVec 32 := Dev.word d0
  let c2_i32_7 : BitVec 32 := 2#32
  let v15 : BitVec 32 := Scalar.divsi v14 c2_i32_7
  let c2_i32_6 : BitVec 32 := 2#32
  let v16 : BitVec 32 := Scalar.remsi v15 c2_i32_6
  let c2_i32_60 : BitVec 32 := 2#32
  let v87 : BitVec 32 := Scalar.muli v16 c2_i32_60
  let v88 : BitVec 32 := Scalar.addi v86 v87
  let c1_i32_54 : BitVec 32 := 1#32
  let v17 : BitVec 32 := Dev.word d0
  let c1_i32_9 : BitVec 32 := 1#32
  let v18 : BitVec 32 := Scalar.divsi v17 c1_i32_9
  let c2_i32_8 : BitVec 32 := 2#32
  let v19 : BitVec 32 := Scalar.remsi v18 c2_i32_8
  let v84 : BitVec 32 := Scalar.subi c1_i32_54 v19
  let c1_i32_61 : BitVec 32 := 1#32
  let v89 : BitVec 32 := Scalar.muli v84 c1_i32_61
  let v90 : BitVec 32 := Scalar.addi v88 v89
  v90.toNat
def k0_cond11 (i : grid0.Coords) : BitVec 1 :=
  let arg0 : BitVec 32 := BitVec.ofNat 32 (i 0).val
  let c3_i32_22 : BitVec 32 := 3#32
  let v41 : BitVec 1 := Scalar.cmpi .eq arg0 c3_i32_22
  let arg1 : BitVec 32 := BitVec.ofNat 32 (i 1).val
  let c3_i32_23 : BitVec 32 := 3#32
  let v42 : BitVec 1 := Scalar.cmpi .eq arg1 c3_i32_23
  let v43 : BitVec 1 := Scalar.andi v41 v42
  let v44 : BitVec 32 := Scalar.extui v43
  let c0_i32_24 : BitVec 32 := 0#32
  let v45 : BitVec 1 := Scalar.cmpi .ne v44 c0_i32_24
  v45

def k0_off16 (d0 : Dev nD) : Fin 3 → Nat :=
  let c1_i32_25 : BitVec 32 := 1#32
  let v17 : BitVec 32 := Dev.word d0
  let c1_i32_9 : BitVec 32 := 1#32
  let v18 : BitVec 32 := Scalar.divsi v17 c1_i32_9
  let c2_i32_8 : BitVec 32 := 2#32
  let v19 : BitVec 32 := Scalar.remsi v18 c2_i32_8
  let v46 : BitVec 32 := Scalar.subi c1_i32_25 v19
  let c0_i32_31 : BitVec 32 := 0#32
  let c0_i32_32 : BitVec 32 := 0#32
  ![v46.toNat, 0, 0]
def k0_off17 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_131 : BitVec 32 := 0#32
  let c0_i32_132 : BitVec 32 := 0#32
  ![v10.toNat, 0, 0]
def k0_off18 (d0 : Dev nD) (c0_i32_87 : BitVec 32) (c1_i32_88 : BitVec 32) : Fin 3 → Nat :=
  let c2_i32_89 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v110 : BitVec 32 := Scalar.xori v2 c0_i32_87
  let v112 : BitVec 32 := Scalar.muli c2_i32_89 v110
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v111 : BitVec 32 := Scalar.xori v5 c1_i32_88
  let v113 : BitVec 32 := Scalar.addi v112 v111
  let c0_i32_133 : BitVec 32 := 0#32
  let c0_i32_134 : BitVec 32 := 0#32
  ![v113.toNat, 0, 0]
def k0_off18_at (r : Fin 3) : BitVec 32 × BitVec 32 :=
  if r.val < 1 then
    (0#32, 1#32)
  else
    if r.val < 2 then
      (1#32, 0#32)
    else
      (1#32, 1#32)
def k0_off19 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_167 : BitVec 32 := 0#32
  let c0_i32_168 : BitVec 32 := 0#32
  ![v10.toNat, 0, 0]
def k0_off20 (d0 : Dev nD) (c0_i32_96 : BitVec 32) (c1_i32_97 : BitVec 32) : Fin 3 → Nat :=
  let c2_i32_98 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v122 : BitVec 32 := Scalar.xori v2 c0_i32_96
  let v124 : BitVec 32 := Scalar.muli c2_i32_98 v122
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v123 : BitVec 32 := Scalar.xori v5 c1_i32_97
  let v125 : BitVec 32 := Scalar.addi v124 v123
  let c0_i32_169 : BitVec 32 := 0#32
  let c0_i32_170 : BitVec 32 := 0#32
  ![v125.toNat, 0, 0]
def k0_off20_at (r : Fin 3) : BitVec 32 × BitVec 32 :=
  if r.val < 1 then
    (0#32, 1#32)
  else
    if r.val < 2 then
      (1#32, 0#32)
    else
      (1#32, 1#32)
def k0_off21 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_203 : BitVec 32 := 0#32
  let c0_i32_204 : BitVec 32 := 0#32
  ![v10.toNat, 0, 0]
def k0_off22 (d0 : Dev nD) (c0_i32_105 : BitVec 32) (c1_i32_106 : BitVec 32) : Fin 3 → Nat :=
  let c2_i32_107 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v134 : BitVec 32 := Scalar.xori v2 c0_i32_105
  let v136 : BitVec 32 := Scalar.muli c2_i32_107 v134
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v135 : BitVec 32 := Scalar.xori v5 c1_i32_106
  let v137 : BitVec 32 := Scalar.addi v136 v135
  let c0_i32_205 : BitVec 32 := 0#32
  let c0_i32_206 : BitVec 32 := 0#32
  ![v137.toNat, 0, 0]
def k0_off22_at (r : Fin 3) : BitVec 32 × BitVec 32 :=
  if r.val < 1 then
    (0#32, 1#32)
  else
    if r.val < 2 then
      (1#32, 0#32)
    else
      (1#32, 1#32)
def k0_off23 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_239 : BitVec 32 := 0#32
  let c0_i32_240 : BitVec 32 := 0#32
  ![v10.toNat, 0, 0]
def k0_off24 (d0 : Dev nD) (c0_i32_114 : BitVec 32) (c1_i32_115 : BitVec 32) : Fin 3 → Nat :=
  let c2_i32_116 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v146 : BitVec 32 := Scalar.xori v2 c0_i32_114
  let v148 : BitVec 32 := Scalar.muli c2_i32_116 v146
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v147 : BitVec 32 := Scalar.xori v5 c1_i32_115
  let v149 : BitVec 32 := Scalar.addi v148 v147
  let c0_i32_241 : BitVec 32 := 0#32
  let c0_i32_242 : BitVec 32 := 0#32
  ![v149.toNat, 0, 0]
def k0_off24_at (r : Fin 3) : BitVec 32 × BitVec 32 :=
  if r.val < 1 then
    (0#32, 1#32)
  else
    if r.val < 2 then
      (1#32, 0#32)
    else
      (1#32, 1#32)
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x2048x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceIdeal.lean ====
abbrev S32768x2048 : Shape := ⟨2, ![32768, 2048]⟩
abbrev S32768x7168 : Shape := ⟨2, ![32768, 7168]⟩
abbrev S32x256x2048 : Shape := ⟨3, ![32, 256, 2048]⟩
abbrev S32x128x256 : Shape := ⟨3, ![32, 128, 256]⟩
abbrev S32x1120x128 : Shape := ⟨3, ![32, 1120, 128]⟩
abbrev S32x384x2048 : Shape := ⟨3, ![32, 384, 2048]⟩
abbrev S8x4096x2048 : Shape := ⟨3, ![8, 4096, 2048]⟩
abbrev S8x4096x8x896 : Shape := ⟨4, ![8, 4096, 8, 896]⟩
abbrev S8x8x896x2048 : Shape := ⟨4, ![8, 8, 896, 2048]⟩
abbrev S8x8x2048x896 : Shape := ⟨4, ![8, 8, 2048, 896]⟩
abbrev S4x4x2048x896 : Shape := ⟨4, ![4, 4, 2048, 896]⟩
abbrev S4x1x4x2048x896 : Shape := ⟨5, ![4, 1, 4, 2048, 896]⟩
abbrev S4x2x4x2048x896 : Shape := ⟨5, ![4, 2, 4, 2048, 896]⟩
abbrev S4x2x4x256x2048 : Shape := ⟨5, ![4, 2, 4, 256, 2048]⟩
abbrev S4x2x4x128x256 : Shape := ⟨5, ![4, 2, 4, 128, 256]⟩
abbrev S4x2x4x1120x128 : Shape := ⟨5, ![4, 2, 4, 1120, 128]⟩
abbrev S4x2x4x384x2048 : Shape := ⟨5, ![4, 2, 4, 384, 2048]⟩
abbrev S64x2048x896 : Shape := ⟨3, ![64, 2048, 896]⟩
abbrev S32x2048x896 : Shape := ⟨3, ![32, 2048, 896]⟩

abbrev nBuf : Space → Nat
  | .hbm => 32
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S32768x7168, .bf16⟩
  | .hbm, ⟨2, _⟩ => ⟨S32x256x2048, .bf16⟩
  | .hbm, ⟨3, _⟩ => ⟨S32x128x256, .bf16⟩
  | .hbm, ⟨4, _⟩ => ⟨S32x1120x128, .f32⟩
  | .hbm, ⟨5, _⟩ => ⟨S32x384x2048, .bf16⟩
  | .hbm, ⟨6, _⟩ => ⟨S32768x2048, .f32⟩
  | .hbm, ⟨7, _⟩ => ⟨S8x4096x2048, .f32⟩
  | .hbm, ⟨8, _⟩ => ⟨S32768x7168, .f32⟩
  | .hbm, ⟨9, _⟩ => ⟨S8x4096x8x896, .f32⟩
  | .hbm, ⟨10, _⟩ => ⟨S8x8x896x2048, .f32⟩
  | .hbm, ⟨11, _⟩ => ⟨S8x8x2048x896, .f32⟩
  | .hbm, ⟨12, _⟩ => ⟨S8x8x2048x896, .bf16⟩
  | .hbm, ⟨13, _⟩ => ⟨S4x4x2048x896, .bf16⟩
  | .hbm, ⟨14, _⟩ => ⟨S4x4x2048x896, .bf16⟩
  | .hbm, ⟨15, _⟩ => ⟨S4x1x4x2048x896, .bf16⟩
  | .hbm, ⟨16, _⟩ => ⟨S4x1x4x2048x896, .bf16⟩
  | .hbm, ⟨17, _⟩ => ⟨S4x2x4x2048x896, .bf16⟩
  | .hbm, ⟨18, _⟩ => ⟨S4x2x4x256x2048, .bf16⟩
  | .hbm, ⟨19, _⟩ => ⟨S4x2x4x256x2048, .bf16⟩
  | .hbm, ⟨20, _⟩ => ⟨S32x256x2048, .bf16⟩
  | .hbm, ⟨21, _⟩ => ⟨S4x2x4x128x256, .bf16⟩
  | .hbm, ⟨22, _⟩ => ⟨S4x2x4x128x256, .bf16⟩
  | .hbm, ⟨23, _⟩ => ⟨S32x128x256, .bf16⟩
  | .hbm, ⟨24, _⟩ => ⟨S4x2x4x1120x128, .f32⟩
  | .hbm, ⟨25, _⟩ => ⟨S4x2x4x1120x128, .f32⟩
  | .hbm, ⟨26, _⟩ => ⟨S32x1120x128, .f32⟩
  | .hbm, ⟨27, _⟩ => ⟨S4x2x4x384x2048, .bf16⟩
  | .hbm, ⟨28, _⟩ => ⟨S4x2x4x384x2048, .bf16⟩
  | .hbm, ⟨29, _⟩ => ⟨S32x384x2048, .bf16⟩
  | .hbm, ⟨30, _⟩ => ⟨S64x2048x896, .bf16⟩
  | .hbm, ⟨31, _⟩ => ⟨S32x2048x896, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]
-- ==== Outer.lean ====
abbrev S4096x3072 : Shape := ⟨2, ![4096, 3072]⟩
abbrev S4096x2048 : Shape := ⟨2, ![4096, 2048]⟩
abbrev S4x2x256x2048 : Shape := ⟨4, ![4, 2, 256, 2048]⟩
abbrev S4x2x128x256 : Shape := ⟨4, ![4, 2, 128, 256]⟩
abbrev S1x1x1120x128 : Shape := ⟨4, ![1, 1, 1120, 128]⟩
abbrev S8x384x2048 : Shape := ⟨3, ![8, 384, 2048]⟩
abbrev S4x384x2048 : Shape := ⟨3, ![4, 384, 2048]⟩
abbrev S4x256x2048 : Shape := ⟨3, ![4, 256, 2048]⟩
abbrev S4x128x256 : Shape := ⟨3, ![4, 128, 256]⟩
abbrev S4x1120x128 : Shape := ⟨3, ![4, 1120, 128]⟩
abbrev S1024x768 : Shape := ⟨2, ![1024, 768]⟩
abbrev S1024x2048 : Shape := ⟨2, ![1024, 2048]⟩
abbrev S2x384x2048 : Shape := ⟨3, ![2, 384, 2048]⟩
abbrev S768x2048 : Shape := ⟨2, ![768, 2048]⟩
abbrev S4 : Shape := ⟨1, ![4]⟩
abbrev S3x8 : Shape := ⟨2, ![3, 8]⟩
abbrev S3 : Shape := ⟨1, ![3]⟩
abbrev S1x1 : Shape := ⟨2, ![1, 1]⟩
abbrev S_ : Shape := ⟨0, ![]⟩
abbrev S4x1x256x2048 : Shape := ⟨4, ![4, 1, 256, 2048]⟩
abbrev S4x1x128x256 : Shape := ⟨4, ![4, 1, 128, 256]⟩
abbrev S1x1120x128 : Shape := ⟨3, ![1, 1120, 128]⟩
abbrev S1120x128 : Shape := ⟨2, ![1120, 128]⟩
abbrev S1 : Shape := ⟨1, ![1]⟩
abbrev S1x384x2048 : Shape := ⟨3, ![1, 384, 2048]⟩
abbrev S384x2048 : Shape := ⟨2, ![384, 2048]⟩

abbrev nBuf : Space → Nat
  | .hbm => 10
  | .vmem => 8
  | .smem => 0
  | _ => 0

abbrev bufTy : (tb : Table) → Fin (tcTables nBuf tb) → BufTy
  | .hbm, ⟨0, _⟩ => ⟨S4096x3072, .bf16⟩
  | .hbm, ⟨1, _⟩ => ⟨S4096x2048, .bf16⟩
  | .hbm, ⟨2, _⟩ => ⟨S4x2x256x2048, .bf16⟩
  | .hbm, ⟨3, _⟩ => ⟨S4x2x128x256, .bf16⟩
  | .hbm, ⟨4, _⟩ => ⟨S1x1x1120x128, .f32⟩
  | .hbm, ⟨5, _⟩ => ⟨S8x384x2048, .bf16⟩
  | .hbm, ⟨6, _⟩ => ⟨S4x384x2048, .bf16⟩
  | .hbm, ⟨7, _⟩ => ⟨S4x256x2048, .bf16⟩
  | .hbm, ⟨8, _⟩ => ⟨S4x128x256, .bf16⟩
  | .hbm, ⟨9, _⟩ => ⟨S4x1120x128, .f32⟩
  | .local _ .vmem, ⟨0, _⟩ => ⟨S1024x768, .bf16⟩
  | .local _ .vmem, ⟨1, _⟩ => ⟨S1024x768, .bf16⟩
  | .local _ .vmem, ⟨2, _⟩ => ⟨S1024x2048, .bf16⟩
  | .local _ .vmem, ⟨3, _⟩ => ⟨S1024x2048, .bf16⟩
  | .local _ .vmem, ⟨4, _⟩ => ⟨S2x384x2048, .bf16⟩
  | .local _ .vmem, ⟨5, _⟩ => ⟨S2x384x2048, .bf16⟩
  | .local _ .vmem, ⟨6, _⟩ => ⟨S768x2048, .f32⟩
  | .local _ .vmem, ⟨7, _⟩ => ⟨S2x384x2048, .bf16⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  ofTc nBuf bufTy 0 65 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 8
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v18 : BitVec 1 := Scalar.cmpi .eq arg0 c0_i32
  let arg1 : BitVec 32 := BitVec.ofNat 32 (i 1).val
  let c0_i32_9 : BitVec 32 := 0#32
  let v19 : BitVec 1 := Scalar.cmpi .eq arg1 c0_i32_9
  let v20 : BitVec 1 := Scalar.andi v18 v19
  let v21 : BitVec 32 := Scalar.extui v20
  let c0_i32_10 : BitVec 32 := 0#32
  let v22 : BitVec 1 := Scalar.cmpi .ne v21 c0_i32_10
  v22

def k0_off1 (d0 : Dev nD) : Fin 4 → Nat :=
  let c0_i32_40 : BitVec 32 := 0#32
  let c1_i32_24 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v44 : BitVec 32 := Scalar.subi c1_i32_24 v8
  let c0_i32_41 : BitVec 32 := 0#32
  let c0_i32_42 : BitVec 32 := 0#32
  ![0, v44.toNat, 0, 0]
def k0_dev1 (d0 : Dev nD) : Nat :=
  let c0_i32_37 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_36 : BitVec 32 := 4#32
  let v52 : BitVec 32 := Scalar.muli v2 c4_i32_36
  let v53 : BitVec 32 := Scalar.addi c0_i32_37 v52
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_38 : BitVec 32 := 2#32
  let v54 : BitVec 32 := Scalar.muli v5 c2_i32_38
  let v55 : BitVec 32 := Scalar.addi v53 v54
  let c1_i32_25 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v45 : BitVec 32 := Scalar.subi c1_i32_25 v8
  let c1_i32_39 : BitVec 32 := 1#32
  let v56 : BitVec 32 := Scalar.muli v45 c1_i32_39
  let v57 : BitVec 32 := Scalar.addi v55 v56
  v57.toNat
def k0_off2 (d0 : Dev nD) : Fin 4 → Nat :=
  let c0_i32_51 : BitVec 32 := 0#32
  let c1_i32_26 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v46 : BitVec 32 := Scalar.subi c1_i32_26 v8
  let c0_i32_52 : BitVec 32 := 0#32
  let c0_i32_53 : BitVec 32 := 0#32
  ![0, v46.toNat, 0, 0]
def k0_dev2 (d0 : Dev nD) : Nat :=
  let c0_i32_48 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_47 : BitVec 32 := 4#32
  let v64 : BitVec 32 := Scalar.muli v2 c4_i32_47
  let v65 : BitVec 32 := Scalar.addi c0_i32_48 v64
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_49 : BitVec 32 := 2#32
  let v66 : BitVec 32 := Scalar.muli v5 c2_i32_49
  let v67 : BitVec 32 := Scalar.addi v65 v66
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v47 : BitVec 32 := Scalar.subi c1_i32_27 v8
  let c1_i32_50 : BitVec 32 := 1#32
  let v68 : BitVec 32 := Scalar.muli v47 c1_i32_50
  let v69 : BitVec 32 := Scalar.addi v67 v68
  v69.toNat
def k0_dev3 (d0 : Dev nD) : Nat :=
  let c0_i32_62 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_61 : BitVec 32 := 4#32
  let v76 : BitVec 32 := Scalar.muli v2 c4_i32_61
  let v77 : BitVec 32 := Scalar.addi c0_i32_62 v76
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_63 : BitVec 32 := 2#32
  let v78 : BitVec 32 := Scalar.muli v5 c2_i32_63
  let v79 : BitVec 32 := Scalar.addi v77 v78
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v48 : BitVec 32 := Scalar.subi c1_i32_28 v8
  let c1_i32_64 : BitVec 32 := 1#32
  let v80 : BitVec 32 := Scalar.muli v48 c1_i32_64
  let v81 : BitVec 32 := Scalar.addi v79 v80
  v81.toNat
def k0_dev4 (d0 : Dev nD) : Nat :=
  let c0_i32_77 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_76 : BitVec 32 := 4#32
  let v90 : BitVec 32 := Scalar.muli v2 c4_i32_76
  let v91 : BitVec 32 := Scalar.addi c0_i32_77 v90
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_78 : BitVec 32 := 2#32
  let v92 : BitVec 32 := Scalar.muli v5 c2_i32_78
  let v93 : BitVec 32 := Scalar.addi v91 v92
  let c1_i32_29 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v49 : BitVec 32 := Scalar.subi c1_i32_29 v8
  let c1_i32_79 : BitVec 32 := 1#32
  let v94 : BitVec 32 := Scalar.muli v49 c1_i32_79
  let v95 : BitVec 32 := Scalar.addi v93 v94
  v95.toNat
def k0_dev5 (d0 : Dev nD) : Nat :=
  let c0_i32_92 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_91 : BitVec 32 := 4#32
  let v104 : BitVec 32 := Scalar.muli v2 c4_i32_91
  let v105 : BitVec 32 := Scalar.addi c0_i32_92 v104
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_93 : BitVec 32 := 2#32
  let v106 : BitVec 32 := Scalar.muli v5 c2_i32_93
  let v107 : BitVec 32 := Scalar.addi v105 v106
  let c1_i32_30 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v50 : BitVec 32 := Scalar.subi c1_i32_30 v8
  let c1_i32_94 : BitVec 32 := 1#32
  let v108 : BitVec 32 := Scalar.muli v50 c1_i32_94
  let v109 : BitVec 32 := Scalar.addi v107 v108
  v109.toNat
def k0_dev6 (d0 : Dev nD) : Nat :=
  let c0_i32_107 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_106 : BitVec 32 := 4#32
  let v118 : BitVec 32 := Scalar.muli v2 c4_i32_106
  let v119 : BitVec 32 := Scalar.addi c0_i32_107 v118
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_108 : BitVec 32 := 2#32
  let v120 : BitVec 32 := Scalar.muli v5 c2_i32_108
  let v121 : BitVec 32 := Scalar.addi v119 v120
  let c1_i32_31 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v51 : BitVec 32 := Scalar.subi c1_i32_31 v8
  let c1_i32_109 : BitVec 32 := 1#32
  let v122 : BitVec 32 := Scalar.muli v51 c1_i32_109
  let v123 : BitVec 32 := Scalar.addi v121 v122
  v123.toNat
def k0_cond3 (i : grid0.Coords) : BitVec 1 :=
  let arg1 : BitVec 32 := BitVec.ofNat 32 (i 1).val
  let c3_i32 : BitVec 32 := 3#32
  let v36 : BitVec 1 := Scalar.cmpi .eq arg1 c3_i32
  let v37 : BitVec 32 := Scalar.extui v36
  let c0_i32_20 : BitVec 32 := 0#32
  let v38 : BitVec 1 := Scalar.cmpi .ne v37 c0_i32_20
  v38

def k0_cond4 (i : grid0.Coords) : BitVec 1 :=
  let arg0 : BitVec 32 := BitVec.ofNat 32 (i 0).val
  let c1_i32_24 : BitVec 32 := 1#32
  let v44 : BitVec 1 := Scalar.cmpi .eq arg0 c1_i32_24
  let v45 : BitVec 32 := Scalar.extui v44
  let c0_i32_25 : BitVec 32 := 0#32
  let v46 : BitVec 1 := Scalar.cmpi .ne v45 c0_i32_25
  v46

def k0_off3 (d0 : Dev nD) : Fin 3 → Nat :=
  let c1_i32_52 : BitVec 32 := 1#32
  let v15 : BitVec 32 := Dev.word d0
  let c1_i32_8 : BitVec 32 := 1#32
  let v16 : BitVec 32 := Scalar.divsi v15 c1_i32_8
  let c2_i32_7 : BitVec 32 := 2#32
  let v17 : BitVec 32 := Scalar.remsi v16 c2_i32_7
  let v81 : BitVec 32 := Scalar.subi c1_i32_52 v17
  let c0_i32_58 : BitVec 32 := 0#32
  let c0_i32_59 : BitVec 32 := 0#32
  ![v81.toNat, 0, 0]
def k0_cond5 (i : grid0.Coords) : BitVec 1 :=
  let arg0 : BitVec 32 := BitVec.ofNat 32 (i 0).val
  let c2_i32_26 : BitVec 32 := 2#32
  let v47 : BitVec 1 := Scalar.cmpi .eq arg0 c2_i32_26
  let v48 : BitVec 32 := Scalar.extui v47
  let c0_i32_27 : BitVec 32 := 0#32
  let v49 : BitVec 1 := Scalar.cmpi .ne v48 c0_i32_27
  v49

def k0_off4 (d0 : Dev nD) : Fin 3 → Nat :=
  let c1_i32_52 : BitVec 32 := 1#32
  let v15 : BitVec 32 := Dev.word d0
  let c1_i32_8 : BitVec 32 := 1#32
  let v16 : BitVec 32 := Scalar.divsi v15 c1_i32_8
  let c2_i32_7 : BitVec 32 := 2#32
  let v17 : BitVec 32 := Scalar.remsi v16 c2_i32_7
  let v81 : BitVec 32 := Scalar.subi c1_i32_52 v17
  let c0_i32_58 : BitVec 32 := 0#32
  let c0_i32_59 : BitVec 32 := 0#32
  ![v81.toNat, 0, 0]
def k0_cond6 (i : grid0.Coords) : BitVec 1 :=
  let arg0 : BitVec 32 := BitVec.ofNat 32 (i 0).val
  let c3_i32_28 : BitVec 32 := 3#32
  let v50 : BitVec 1 := Scalar.cmpi .eq arg0 c3_i32_28
  let v51 : BitVec 32 := Scalar.extui v50
  let c0_i32_29 : BitVec 32 := 0#32
  let v52 : BitVec 1 := Scalar.cmpi .ne v51 c0_i32_29
  v52

def k0_off5 (d0 : Dev nD) : Fin 3 → Nat :=
  let c1_i32_52 : BitVec 32 := 1#32
  let v15 : BitVec 32 := Dev.word d0
  let c1_i32_8 : BitVec 32 := 1#32
  let v16 : BitVec 32 := Scalar.divsi v15 c1_i32_8
  let c2_i32_7 : BitVec 32 := 2#32
  let v17 : BitVec 32 := Scalar.remsi v16 c2_i32_7
  let v81 : BitVec 32 := Scalar.subi c1_i32_52 v17
  let c0_i32_58 : BitVec 32 := 0#32
  let c0_i32_59 : BitVec 32 := 0#32
  ![v81.toNat, 0, 0]
def k0_cond7 (i : grid0.Coords) : BitVec 1 :=
  let arg0 : BitVec 32 := BitVec.ofNat 32 (i 0).val
  let c0_i32_44 : BitVec 32 := 0#32
  let v69 : BitVec 1 := Scalar.cmpi .eq arg0 c0_i32_44
  let v70 : BitVec 32 := Scalar.extui v69
  let c0_i32_45 : BitVec 32 := 0#32
  let v71 : BitVec 1 := Scalar.cmpi .ne v70 c0_i32_45
  v71

def k0_off6 (d0 : Dev nD) : Fin 3 → Nat :=
  let c1_i32_52 : BitVec 32 := 1#32
  let v15 : BitVec 32 := Dev.word d0
  let c1_i32_8 : BitVec 32 := 1#32
  let v16 : BitVec 32 := Scalar.divsi v15 c1_i32_8
  let c2_i32_7 : BitVec 32 := 2#32
  let v17 : BitVec 32 := Scalar.remsi v16 c2_i32_7
  let v81 : BitVec 32 := Scalar.subi c1_i32_52 v17
  let c0_i32_63 : BitVec 32 := 0#32
  let c0_i32_64 : BitVec 32 := 0#32
  ![v81.toNat, 0, 0]
def k0_dev7 (d0 : Dev nD) : Nat :=
  let c0_i32_58 : BitVec 32 := 0#32
  let v9 : BitVec 32 := Dev.word d0
  let c4_i32_4 : BitVec 32 := 4#32
  let v10 : BitVec 32 := Scalar.divsi v9 c4_i32_4
  let c2_i32_3 : BitVec 32 := 2#32
  let v11 : BitVec 32 := Scalar.remsi v10 c2_i32_3
  let c4_i32_57 : BitVec 32 := 4#32
  let v83 : BitVec 32 := Scalar.muli v11 c4_i32_57
  let v84 : BitVec 32 := Scalar.addi c0_i32_58 v83
  let v12 : BitVec 32 := Dev.word d0
  let c2_i32_6 : BitVec 32 := 2#32
  let v13 : BitVec 32 := Scalar.divsi v12 c2_i32_6
  let c2_i32_5 : BitVec 32 := 2#32
  let v14 : BitVec 32 := Scalar.remsi v13 c2_i32_5
  let c2_i32_59 : BitVec 32 := 2#32
  let v85 : BitVec 32 := Scalar.muli v14 c2_i32_59
  let v86 : BitVec 32 := Scalar.addi v84 v85
  let c1_i32_53 : BitVec 32 := 1#32
  let v15 : BitVec 32 := Dev.word d0
  let c1_i32_8 : BitVec 32 := 1#32
  let v16 : BitVec 32 := Scalar.divsi v15 c1_i32_8
  let c2_i32_7 : BitVec 32 := 2#32
  let v17 : BitVec 32 := Scalar.remsi v16 c2_i32_7
  let v82 : BitVec 32 := Scalar.subi c1_i32_53 v17
  let c1_i32_60 : BitVec 32 := 1#32
  let v87 : BitVec 32 := Scalar.muli v82 c1_i32_60
  let v88 : BitVec 32 := Scalar.addi v86 v87
  v88.toNat
def k0_cond8 (i : grid0.Coords) : BitVec 1 :=
  let arg0 : BitVec 32 := BitVec.ofNat 32 (i 0).val
  let c1_i32_46 : BitVec 32 := 1#32
  let v72 : BitVec 1 := Scalar.cmpi .eq arg0 c1_i32_46
  let v73 : BitVec 32 := Scalar.extui v72
  let c0_i32_47 : BitVec 32 := 0#32
  let v74 : BitVec 1 := Scalar.cmpi .ne v73 c0_i32_47
  v74

def k0_off7 (d0 : Dev nD) : Fin 3 → Nat :=
  let c1_i32_52 : BitVec 32 := 1#32
  let v15 : BitVec 32 := Dev.word d0
  let c1_i32_8 : BitVec 32 := 1#32
  let v16 : BitVec 32 := Scalar.divsi v15 c1_i32_8
  let c2_i32_7 : BitVec 32 := 2#32
  let v17 : BitVec 32 := Scalar.remsi v16 c2_i32_7
  let v81 : BitVec 32 := Scalar.subi c1_i32_52 v17
  let c0_i32_63 : BitVec 32 := 0#32
  let c0_i32_64 : BitVec 32 := 0#32
  ![v81.toNat, 0, 0]
def k0_dev8 (d0 : Dev nD) : Nat :=
  let c0_i32_58 : BitVec 32 := 0#32
  let v9 : BitVec 32 := Dev.word d0
  let c4_i32_4 : BitVec 32 := 4#32
  let v10 : BitVec 32 := Scalar.divsi v9 c4_i32_4
  let c2_i32_3 : BitVec 32 := 2#32
  let v11 : BitVec 32 := Scalar.remsi v10 c2_i32_3
  let c4_i32_57 : BitVec 32 := 4#32
  let v83 : BitVec 32 := Scalar.muli v11 c4_i32_57
  let v84 : BitVec 32 := Scalar.addi c0_i32_58 v83
  let v12 : BitVec 32 := Dev.word d0
  let c2_i32_6 : BitVec 32 := 2#32
  let v13 : BitVec 32 := Scalar.divsi v12 c2_i32_6
  let c2_i32_5 : BitVec 32 := 2#32
  let v14 : BitVec 32 := Scalar.remsi v13 c2_i32_5
  let c2_i32_59 : BitVec 32 := 2#32
  let v85 : BitVec 32 := Scalar.muli v14 c2_i32_59
  let v86 : BitVec 32 := Scalar.addi v84 v85
  let c1_i32_53 : BitVec 32 := 1#32
  let v15 : BitVec 32 := Dev.word d0
  let c1_i32_8 : BitVec 32 := 1#32
  let v16 : BitVec 32 := Scalar.divsi v15 c1_i32_8
  let c2_i32_7 : BitVec 32 := 2#32
  let v17 : BitVec 32 := Scalar.remsi v16 c2_i32_7
  let v82 : BitVec 32 := Scalar.subi c1_i32_53 v17
  let c1_i32_60 : BitVec 32 := 1#32
  let v87 : BitVec 32 := Scalar.muli v82 c1_i32_60
  let v88 : BitVec 32 := Scalar.addi v86 v87
  v88.toNat
def k0_cond9 (i : grid0.Coords) : BitVec 1 :=
  let arg0 : BitVec 32 := BitVec.ofNat 32 (i 0).val
  let c2_i32_48 : BitVec 32 := 2#32
  let v75 : BitVec 1 := Scalar.cmpi .eq arg0 c2_i32_48
  let v76 : BitVec 32 := Scalar.extui v75
  let c0_i32_49 : BitVec 32 := 0#32
  let v77 : BitVec 1 := Scalar.cmpi .ne v76 c0_i32_49
  v77

def k0_off8 (d0 : Dev nD) : Fin 3 → Nat :=
  let c1_i32_52 : BitVec 32 := 1#32
  let v15 : BitVec 32 := Dev.word d0
  let c1_i32_8 : BitVec 32 := 1#32
  let v16 : BitVec 32 := Scalar.divsi v15 c1_i32_8
  let c2_i32_7 : BitVec 32 := 2#32
  let v17 : BitVec 32 := Scalar.remsi v16 c2_i32_7
  let v81 : BitVec 32 := Scalar.subi c1_i32_52 v17
  let c0_i32_63 : BitVec 32 := 0#32
  let c0_i32_64 : BitVec 32 := 0#32
  ![v81.toNat, 0, 0]
def k0_dev9 (d0 : Dev nD) : Nat :=
  let c0_i32_58 : BitVec 32 := 0#32
  let v9 : BitVec 32 := Dev.word d0
  let c4_i32_4 : BitVec 32 := 4#32
  let v10 : BitVec 32 := Scalar.divsi v9 c4_i32_4
  let c2_i32_3 : BitVec 32 := 2#32
  let v11 : BitVec 32 := Scalar.remsi v10 c2_i32_3
  let c4_i32_57 : BitVec 32 := 4#32
  let v83 : BitVec 32 := Scalar.muli v11 c4_i32_57
  let v84 : BitVec 32 := Scalar.addi c0_i32_58 v83
  let v12 : BitVec 32 := Dev.word d0
  let c2_i32_6 : BitVec 32 := 2#32
  let v13 : BitVec 32 := Scalar.divsi v12 c2_i32_6
  let c2_i32_5 : BitVec 32 := 2#32
  let v14 : BitVec 32 := Scalar.remsi v13 c2_i32_5
  let c2_i32_59 : BitVec 32 := 2#32
  let v85 : BitVec 32 := Scalar.muli v14 c2_i32_59
  let v86 : BitVec 32 := Scalar.addi v84 v85
  let c1_i32_53 : BitVec 32 := 1#32
  let v15 : BitVec 32 := Dev.word d0
  let c1_i32_8 : BitVec 32 := 1#32
  let v16 : BitVec 32 := Scalar.divsi v15 c1_i32_8
  let c2_i32_7 : BitVec 32 := 2#32
  let v17 : BitVec 32 := Scalar.remsi v16 c2_i32_7
  let v82 : BitVec 32 := Scalar.subi c1_i32_53 v17
  let c1_i32_60 : BitVec 32 := 1#32
  let v87 : BitVec 32 := Scalar.muli v82 c1_i32_60
  let v88 : BitVec 32 := Scalar.addi v86 v87
  v88.toNat
def k0_cond10 (i : grid0.Coords) : BitVec 1 :=
  let arg0 : BitVec 32 := BitVec.ofNat 32 (i 0).val
  let c3_i32_50 : BitVec 32 := 3#32
  let v78 : BitVec 1 := Scalar.cmpi .eq arg0 c3_i32_50
  let v79 : BitVec 32 := Scalar.extui v78
  let c0_i32_51 : BitVec 32 := 0#32
  let v80 : BitVec 1 := Scalar.cmpi .ne v79 c0_i32_51
  v80

def k0_off9 (d0 : Dev nD) : Fin 3 → Nat :=
  let c1_i32_52 : BitVec 32 := 1#32
  let v15 : BitVec 32 := Dev.word d0
  let c1_i32_8 : BitVec 32 := 1#32
  let v16 : BitVec 32 := Scalar.divsi v15 c1_i32_8
  let c2_i32_7 : BitVec 32 := 2#32
  let v17 : BitVec 32 := Scalar.remsi v16 c2_i32_7
  let v81 : BitVec 32 := Scalar.subi c1_i32_52 v17
  let c0_i32_63 : BitVec 32 := 0#32
  let c0_i32_64 : BitVec 32 := 0#32
  ![v81.toNat, 0, 0]
def k0_dev10 (d0 : Dev nD) : Nat :=
  let c0_i32_58 : BitVec 32 := 0#32
  let v9 : BitVec 32 := Dev.word d0
  let c4_i32_4 : BitVec 32 := 4#32
  let v10 : BitVec 32 := Scalar.divsi v9 c4_i32_4
  let c2_i32_3 : BitVec 32 := 2#32
  let v11 : BitVec 32 := Scalar.remsi v10 c2_i32_3
  let c4_i32_57 : BitVec 32 := 4#32
  let v83 : BitVec 32 := Scalar.muli v11 c4_i32_57
  let v84 : BitVec 32 := Scalar.addi c0_i32_58 v83
  let v12 : BitVec 32 := Dev.word d0
  let c2_i32_6 : BitVec 32 := 2#32
  let v13 : BitVec 32 := Scalar.divsi v12 c2_i32_6
  let c2_i32_5 : BitVec 32 := 2#32
  let v14 : BitVec 32 := Scalar.remsi v13 c2_i32_5
  let c2_i32_59 : BitVec 32 := 2#32
  let v85 : BitVec 32 := Scalar.muli v14 c2_i32_59
  let v86 : BitVec 32 := Scalar.addi v84 v85
  let c1_i32_53 : BitVec 32 := 1#32
  let v15 : BitVec 32 := Dev.word d0
  let c1_i32_8 : BitVec 32 := 1#32
  let v16 : BitVec 32 := Scalar.divsi v15 c1_i32_8
  let c2_i32_7 : BitVec 32 := 2#32
  let v17 : BitVec 32 := Scalar.remsi v16 c2_i32_7
  let v82 : BitVec 32 := Scalar.subi c1_i32_53 v17
  let c1_i32_60 : BitVec 32 := 1#32
  let v87 : BitVec 32 := Scalar.muli v82 c1_i32_60
  let v88 : BitVec 32 := Scalar.addi v86 v87
  v88.toNat
def k0_cond11 (i : grid0.Coords) : BitVec 1 :=
  let arg0 : BitVec 32 := BitVec.ofNat 32 (i 0).val
  let c3_i32_21 : BitVec 32 := 3#32
  let v39 : BitVec 1 := Scalar.cmpi .eq arg0 c3_i32_21
  let arg1 : BitVec 32 := BitVec.ofNat 32 (i 1).val
  let c3_i32_22 : BitVec 32 := 3#32
  let v40 : BitVec 1 := Scalar.cmpi .eq arg1 c3_i32_22
  let v41 : BitVec 1 := Scalar.andi v39 v40
  let v42 : BitVec 32 := Scalar.extui v41
  let c0_i32_23 : BitVec 32 := 0#32
  let v43 : BitVec 1 := Scalar.cmpi .ne v42 c0_i32_23
  v43

def k0_off10 (d0 : Dev nD) : Fin 3 → Nat :=
  let c1_i32_24 : BitVec 32 := 1#32
  let v15 : BitVec 32 := Dev.word d0
  let c1_i32_8 : BitVec 32 := 1#32
  let v16 : BitVec 32 := Scalar.divsi v15 c1_i32_8
  let c2_i32_7 : BitVec 32 := 2#32
  let v17 : BitVec 32 := Scalar.remsi v16 c2_i32_7
  let v44 : BitVec 32 := Scalar.subi c1_i32_24 v17
  let c0_i32_30 : BitVec 32 := 0#32
  let c0_i32_31 : BitVec 32 := 0#32
  ![v44.toNat, 0, 0]
def k0_off11 (d0 : Dev nD) : Fin 4 → Nat :=
  let c0_i32_102 : BitVec 32 := 0#32
  let c1_i32_86 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v108 : BitVec 32 := Scalar.subi c1_i32_86 v8
  let c0_i32_103 : BitVec 32 := 0#32
  let c0_i32_104 : BitVec 32 := 0#32
  ![0, v108.toNat, 0, 0]
def k0_off12 (d0 : Dev nD) : Fin 4 → Nat :=
  let c0_i32_113 : BitVec 32 := 0#32
  let c1_i32_88 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v110 : BitVec 32 := Scalar.subi c1_i32_88 v8
  let c0_i32_114 : BitVec 32 := 0#32
  let c0_i32_115 : BitVec 32 := 0#32
  ![0, v110.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x384x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== OuterReferenceIdeal.lean ====
abbrev S32768x3072 : Shape := ⟨2, ![32768, 3072]⟩
abbrev S32768x2048 : Shape := ⟨2, ![32768, 2048]⟩
abbrev S32x2x256x2048 : Shape := ⟨4, ![32, 2, 256, 2048]⟩
abbrev S32x2x128x256 : Shape := ⟨4, ![32, 2, 128, 256]⟩
abbrev S8x1x1120x128 : Shape := ⟨4, ![8, 1, 1120, 128]⟩
abbrev S8x4096x8x384 : Shape := ⟨4, ![8, 4096, 8, 384]⟩
abbrev S8x4096x2048 : Shape := ⟨3, ![8, 4096, 2048]⟩
abbrev S8x8x384x2048 : Shape := ⟨4, ![8, 8, 384, 2048]⟩
abbrev S4x4x384x2048 : Shape := ⟨4, ![4, 4, 384, 2048]⟩
abbrev S4x1x4x384x2048 : Shape := ⟨5, ![4, 1, 4, 384, 2048]⟩
abbrev S4x2x4x384x2048 : Shape := ⟨5, ![4, 2, 4, 384, 2048]⟩
abbrev S8x4x2x256x2048 : Shape := ⟨5, ![8, 4, 2, 256, 2048]⟩
abbrev S8x4x2x128x256 : Shape := ⟨5, ![8, 4, 2, 128, 256]⟩
abbrev S4x4x1x256x2048 : Shape := ⟨5, ![4, 4, 1, 256, 2048]⟩
abbrev S4x4x256x2048 : Shape := ⟨4, ![4, 4, 256, 2048]⟩
abbrev S4x1x4x256x2048 : Shape := ⟨5, ![4, 1, 4, 256, 2048]⟩
abbrev S4x2x4x256x2048 : Shape := ⟨5, ![4, 2, 4, 256, 2048]⟩
abbrev S4x4x1x128x256 : Shape := ⟨5, ![4, 4, 1, 128, 256]⟩
abbrev S4x4x128x256 : Shape := ⟨4, ![4, 4, 128, 256]⟩
abbrev S4x1x4x128x256 : Shape := ⟨5, ![4, 1, 4, 128, 256]⟩
abbrev S4x2x4x128x256 : Shape := ⟨5, ![4, 2, 4, 128, 256]⟩
abbrev S4x1x1120x128 : Shape := ⟨4, ![4, 1, 1120, 128]⟩
abbrev S4x1x1x1120x128 : Shape := ⟨5, ![4, 1, 1, 1120, 128]⟩
abbrev S4x2x1x1120x128 : Shape := ⟨5, ![4, 2, 1, 1120, 128]⟩
abbrev S4x2x4x1120x128 : Shape := ⟨5, ![4, 2, 4, 1120, 128]⟩
abbrev S64x384x2048 : Shape := ⟨3, ![64, 384, 2048]⟩
abbrev S32x384x2048 : Shape := ⟨3, ![32, 384, 2048]⟩
abbrev S32x256x2048 : Shape := ⟨3, ![32, 256, 2048]⟩
abbrev S32x128x256 : Shape := ⟨3, ![32, 128, 256]⟩
abbrev S32x1120x128 : Shape := ⟨3, ![32, 1120, 128]⟩

abbrev nBuf : Space → Nat
  | .hbm => 43
  | .vmem => 0
  | .smem => 0
  | _ => 0

abbrev bufTy : (tb : Table) → Fin (tcTables nBuf tb) → BufTy
  | .hbm, ⟨0, _⟩ => ⟨S32768x3072, .bf16⟩
  | .hbm, ⟨1, _⟩ => ⟨S32768x2048, .bf16⟩
  | .hbm, ⟨2, _⟩ => ⟨S32x2x256x2048, .bf16⟩
  | .hbm, ⟨3, _⟩ => ⟨S32x2x128x256, .bf16⟩
  | .hbm, ⟨4, _⟩ => ⟨S8x1x1120x128, .f32⟩
  | .hbm, ⟨5, _⟩ => ⟨S32768x3072, .f32⟩
  | .hbm, ⟨6, _⟩ => ⟨S8x4096x8x384, .f32⟩
  | .hbm, ⟨7, _⟩ => ⟨S32768x2048, .f32⟩
  | .hbm, ⟨8, _⟩ => ⟨S8x4096x2048, .f32⟩
  | .hbm, ⟨9, _⟩ => ⟨S8x8x384x2048, .f32⟩
  | .hbm, ⟨10, _⟩ => ⟨S8x8x384x2048, .bf16⟩
  | .hbm, ⟨11, _⟩ => ⟨S4x4x384x2048, .bf16⟩
  | .hbm, ⟨12, _⟩ => ⟨S4x4x384x2048, .bf16⟩
  | .hbm, ⟨13, _⟩ => ⟨S4x1x4x384x2048, .bf16⟩
  | .hbm, ⟨14, _⟩ => ⟨S4x1x4x384x2048, .bf16⟩
  | .hbm, ⟨15, _⟩ => ⟨S4x2x4x384x2048, .bf16⟩
  | .hbm, ⟨16, _⟩ => ⟨S8x4x2x256x2048, .bf16⟩
  | .hbm, ⟨17, _⟩ => ⟨S8x4x2x128x256, .bf16⟩
  | .hbm, ⟨18, _⟩ => ⟨S4x4x1x256x2048, .bf16⟩
  | .hbm, ⟨19, _⟩ => ⟨S4x4x256x2048, .bf16⟩
  | .hbm, ⟨20, _⟩ => ⟨S4x4x1x256x2048, .bf16⟩
  | .hbm, ⟨21, _⟩ => ⟨S4x4x256x2048, .bf16⟩
  | .hbm, ⟨22, _⟩ => ⟨S4x1x4x256x2048, .bf16⟩
  | .hbm, ⟨23, _⟩ => ⟨S4x1x4x256x2048, .bf16⟩
  | .hbm, ⟨24, _⟩ => ⟨S4x2x4x256x2048, .bf16⟩
  | .hbm, ⟨25, _⟩ => ⟨S4x4x1x128x256, .bf16⟩
  | .hbm, ⟨26, _⟩ => ⟨S4x4x128x256, .bf16⟩
  | .hbm, ⟨27, _⟩ => ⟨S4x4x1x128x256, .bf16⟩
  | .hbm, ⟨28, _⟩ => ⟨S4x4x128x256, .bf16⟩
  | .hbm, ⟨29, _⟩ => ⟨S4x1x4x128x256, .bf16⟩
  | .hbm, ⟨30, _⟩ => ⟨S4x1x4x128x256, .bf16⟩
  | .hbm, ⟨31, _⟩ => ⟨S4x2x4x128x256, .bf16⟩
  | .hbm, ⟨32, _⟩ => ⟨S4x1x1120x128, .f32⟩
  | .hbm, ⟨33, _⟩ => ⟨S4x1x1120x128, .f32⟩
  | .hbm, ⟨34, _⟩ => ⟨S4x1x1x1120x128, .f32⟩
  | .hbm, ⟨35, _⟩ => ⟨S4x1x1x1120x128, .f32⟩
  | .hbm, ⟨36, _⟩ => ⟨S4x2x1x1120x128, .f32⟩
  | .hbm, ⟨37, _⟩ => ⟨S4x2x4x1120x128, .f32⟩
  | .hbm, ⟨38, _⟩ => ⟨S64x384x2048, .bf16⟩
  | .hbm, ⟨39, _⟩ => ⟨S32x384x2048, .bf16⟩
  | .hbm, ⟨40, _⟩ => ⟨S32x256x2048, .bf16⟩
  | .hbm, ⟨41, _⟩ => ⟨S32x128x256, .bf16⟩
  | .hbm, ⟨42, _⟩ => ⟨S32x1120x128, .f32⟩
  | _, _ => ⟨S32768x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩

abbrev nD : Nat := 1
abbrev τ : Topo := Topo.v7x

variable {F : FTy → Type} [FloatOps F]
-- ==== Input.lean ====
abbrev S4096x7168 : Shape := ⟨2, ![4096, 7168]⟩
abbrev S7168x2048 : Shape := ⟨2, ![7168, 2048]⟩
abbrev S4096x2048 : Shape := ⟨2, ![4096, 2048]⟩
abbrev S1x2048 : Shape := ⟨2, ![1, 2048]⟩
abbrev S4x2048x896 : Shape := ⟨3, ![4, 2048, 896]⟩
abbrev S8x1x2048 : Shape := ⟨3, ![8, 1, 2048]⟩
abbrev S512x1792 : Shape := ⟨2, ![512, 1792]⟩
abbrev S1792x2048 : Shape := ⟨2, ![1792, 2048]⟩
abbrev S512x2048 : Shape := ⟨2, ![512, 2048]⟩
abbrev S8 : Shape := ⟨1, ![8]⟩
abbrev S_ : Shape := ⟨0, ![]⟩
abbrev S1x8 : Shape := ⟨2, ![1, 8]⟩
abbrev S1 : Shape := ⟨1, ![1]⟩
abbrev S1x2048x896 : Shape := ⟨3, ![1, 2048, 896]⟩
abbrev S2048x896 : Shape := ⟨2, ![2048, 896]⟩
abbrev S1x1 : Shape := ⟨2, ![1, 1]⟩
abbrev S512 : Shape := ⟨1, ![512]⟩
abbrev S512x1 : Shape := ⟨2, ![512, 1]⟩
abbrev S2048 : Shape := ⟨1, ![2048]⟩
abbrev S1x1x2048 : Shape := ⟨3, ![1, 1, 2048]⟩

abbrev nBuf : Space → Nat
  | .hbm => 9
  | .vmem => 13
  | .smem => 0
  | _ => 0

abbrev bufTy : (tb : Table) → Fin (tcTables nBuf tb) → BufTy
  | .hbm, ⟨0, _⟩ => ⟨S4096x7168, .bf16⟩
  | .hbm, ⟨1, _⟩ => ⟨S7168x2048, .bf16⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S4x2048x896, .bf16⟩
  | .hbm, ⟨6, _⟩ => ⟨S4096x2048, .f32⟩
  | .hbm, ⟨7, _⟩ => ⟨S8x1x2048, .f32⟩
  | .hbm, ⟨8, _⟩ => ⟨S4x2048x896, .bf16⟩
  | .local _ .vmem, ⟨0, _⟩ => ⟨S512x1792, .bf16⟩
  | .local _ .vmem, ⟨1, _⟩ => ⟨S512x1792, .bf16⟩
  | .local _ .vmem, ⟨2, _⟩ => ⟨S1792x2048, .bf16⟩
  | .local _ .vmem, ⟨3, _⟩ => ⟨S1792x2048, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | .local _ .vmem, ⟨12, _⟩ => ⟨S1x2048, .f32⟩
  | _, _ => ⟨S4096x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 8
abbrev τ : Topo := Topo.v7x

variable {F : FTy → Type} [FloatOps F]

abbrev grid0 : Pipeline.Grid := ⟨2, ![8, 4], ![false, false]⟩

def k0_cond1 (i : grid0.Coords) : BitVec 1 :=
  let arg0 : BitVec 32 := BitVec.ofNat 32 (i 0).val
  let c0_i32 : BitVec 32 := 0#32
  let v24 : BitVec 1 := Scalar.cmpi .eq arg0 c0_i32
  let arg1 : BitVec 32 := BitVec.ofNat 32 (i 1).val
  let c0_i32_12 : BitVec 32 := 0#32
  let v25 : BitVec 1 := Scalar.cmpi .eq arg1 c0_i32_12
  let v26 : BitVec 1 := Scalar.andi v24 v25
  let v27 : BitVec 32 := Scalar.extui v26
  let c0_i32_13 : BitVec 32 := 0#32
  let v28 : BitVec 1 := Scalar.cmpi .ne v27 c0_i32_13
  v28

def k0_off1 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_36 : BitVec 32 := 0#32
  let c0_i32_37 : BitVec 32 := 0#32
  ![v10.toNat, 0, 0]
def k0_off2 (d0 : Dev nD) (c0_i32_26 : BitVec 32) (c1_i32_27 : BitVec 32) : Fin 3 → Nat :=
  let c2_i32_28 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v50 : BitVec 32 := Scalar.xori v2 c0_i32_26
  let v52 : BitVec 32 := Scalar.muli c2_i32_28 v50
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v51 : BitVec 32 := Scalar.xori v5 c1_i32_27
  let v53 : BitVec 32 := Scalar.addi v52 v51
  let c0_i32_50 : BitVec 32 := 0#32
  let c0_i32_51 : BitVec 32 := 0#32
  ![v53.toNat, 0, 0]
def k0_off2_at (r : Fin 3) : BitVec 32 × BitVec 32 :=
  if r.val < 1 then
    (0#32, 1#32)
  else
    if r.val < 2 then
      (1#32, 0#32)
    else
      (1#32, 1#32)
def k0_dev1 (d0 : Dev nD) : Nat :=
  let c0_i32_45 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_26 : BitVec 32 := 0#32
  let v50 : BitVec 32 := Scalar.xori v2 c0_i32_26
  let c4_i32_44 : BitVec 32 := 4#32
  let v68 : BitVec 32 := Scalar.muli v50 c4_i32_44
  let v69 : BitVec 32 := Scalar.addi c0_i32_45 v68
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_27 : BitVec 32 := 1#32
  let v51 : BitVec 32 := Scalar.xori v5 c1_i32_27
  let c2_i32_46 : BitVec 32 := 2#32
  let v70 : BitVec 32 := Scalar.muli v51 c2_i32_46
  let v71 : BitVec 32 := Scalar.addi v69 v70
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v72 : BitVec 32 := Scalar.muli v8 c1_i32_47
  let v73 : BitVec 32 := Scalar.addi v71 v72
  v73.toNat
def k0_dev2 (d0 : Dev nD) : Nat :=
  let c0_i32_57 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_29 : BitVec 32 := 1#32
  let v54 : BitVec 32 := Scalar.xori v2 c1_i32_29
  let c4_i32_56 : BitVec 32 := 4#32
  let v82 : BitVec 32 := Scalar.muli v54 c4_i32_56
  let v83 : BitVec 32 := Scalar.addi c0_i32_57 v82
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_30 : BitVec 32 := 0#32
  let v55 : BitVec 32 := Scalar.xori v5 c0_i32_30
  let c2_i32_58 : BitVec 32 := 2#32
  let v84 : BitVec 32 := Scalar.muli v55 c2_i32_58
  let v85 : BitVec 32 := Scalar.addi v83 v84
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_59 : BitVec 32 := 1#32
  let v86 : BitVec 32 := Scalar.muli v8 c1_i32_59
  let v87 : BitVec 32 := Scalar.addi v85 v86
  v87.toNat
def k0_dev3 (d0 : Dev nD) : Nat :=
  let c0_i32_69 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_32 : BitVec 32 := 1#32
  let v58 : BitVec 32 := Scalar.xori v2 c1_i32_32
  let c4_i32_68 : BitVec 32 := 4#32
  let v96 : BitVec 32 := Scalar.muli v58 c4_i32_68
  let v97 : BitVec 32 := Scalar.addi c0_i32_69 v96
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_33 : BitVec 32 := 1#32
  let v59 : BitVec 32 := Scalar.xori v5 c1_i32_33
  let c2_i32_70 : BitVec 32 := 2#32
  let v98 : BitVec 32 := Scalar.muli v59 c2_i32_70
  let v99 : BitVec 32 := Scalar.addi v97 v98
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_71 : BitVec 32 := 1#32
  let v100 : BitVec 32 := Scalar.muli v8 c1_i32_71
  let v101 : BitVec 32 := Scalar.addi v99 v100
  v101.toNat
def k0_cond4 (i : grid0.Coords) : BitVec 1 :=
  let arg0 : BitVec 32 := BitVec.ofNat 32 (i 0).val
  let c7_i32 : BitVec 32 := 7#32
  let v45 : BitVec 1 := Scalar.cmpi .eq arg0 c7_i32
  let arg1 : BitVec 32 := BitVec.ofNat 32 (i 1).val
  let c3_i32_24 : BitVec 32 := 3#32
  let v46 : BitVec 1 := Scalar.cmpi .eq arg1 c3_i32_24
  let v47 : BitVec 1 := Scalar.andi v45 v46
  let v48 : BitVec 32 := Scalar.extui v47
  let c0_i32_25 : BitVec 32 := 0#32
  let v49 : BitVec 1 := Scalar.cmpi .ne v48 c0_i32_25
  v49

def k0_off3 (d0 : Dev nD) : Fin 3 → Nat :=
  let c4_i32_10 : BitVec 32 := 4#32
  let v11 : BitVec 32 := Dev.word d0
  let c4_i32_5 : BitVec 32 := 4#32
  let v12 : BitVec 32 := Scalar.divsi v11 c4_i32_5
  let c2_i32_4 : BitVec 32 := 2#32
  let v13 : BitVec 32 := Scalar.remsi v12 c2_i32_4
  let v20 : BitVec 32 := Scalar.muli c4_i32_10 v13
  let c2_i32_11 : BitVec 32 := 2#32
  let v14 : BitVec 32 := Dev.word d0
  let c2_i32_7 : BitVec 32 := 2#32
  let v15 : BitVec 32 := Scalar.divsi v14 c2_i32_7
  let c2_i32_6 : BitVec 32 := 2#32
  let v16 : BitVec 32 := Scalar.remsi v15 c2_i32_6
  let v21 : BitVec 32 := Scalar.muli c2_i32_11 v16
  let v22 : BitVec 32 := Scalar.addi v20 v21
  let v17 : BitVec 32 := Dev.word d0
  let c1_i32_9 : BitVec 32 := 1#32
  let v18 : BitVec 32 := Scalar.divsi v17 c1_i32_9
  let c2_i32_8 : BitVec 32 := 2#32
  let v19 : BitVec 32 := Scalar.remsi v18 c2_i32_8
  let v23 : BitVec 32 := Scalar.addi v22 v19
  let c0_i32_47 : BitVec 32 := 0#32
  let c0_i32_48 : BitVec 32 := 0#32
  ![v23.toNat, 0, 0]
def k0_dev4 (d0 : Dev nD) : Nat :=
  let c0_i32_52 : BitVec 32 := 0#32
  let v11 : BitVec 32 := Dev.word d0
  let c4_i32_5 : BitVec 32 := 4#32
  let v12 : BitVec 32 := Scalar.divsi v11 c4_i32_5
  let c2_i32_4 : BitVec 32 := 2#32
  let v13 : BitVec 32 := Scalar.remsi v12 c2_i32_4
  let c0_i32_26 : BitVec 32 := 0#32
  let v50 : BitVec 32 := Scalar.xori v13 c0_i32_26
  let c4_i32_51 : BitVec 32 := 4#32
  let v73 : BitVec 32 := Scalar.muli v50 c4_i32_51
  let v74 : BitVec 32 := Scalar.addi c0_i32_52 v73
  let v14 : BitVec 32 := Dev.word d0
  let c2_i32_7 : BitVec 32 := 2#32
  let v15 : BitVec 32 := Scalar.divsi v14 c2_i32_7
  let c2_i32_6 : BitVec 32 := 2#32
  let v16 : BitVec 32 := Scalar.remsi v15 c2_i32_6
  let c0_i32_27 : BitVec 32 := 0#32
  let v51 : BitVec 32 := Scalar.xori v16 c0_i32_27
  let c2_i32_53 : BitVec 32 := 2#32
  let v75 : BitVec 32 := Scalar.muli v51 c2_i32_53
  let v76 : BitVec 32 := Scalar.addi v74 v75
  let v17 : BitVec 32 := Dev.word d0
  let c1_i32_9 : BitVec 32 := 1#32
  let v18 : BitVec 32 := Scalar.divsi v17 c1_i32_9
  let c2_i32_8 : BitVec 32 := 2#32
  let v19 : BitVec 32 := Scalar.remsi v18 c2_i32_8
  let c1_i32_28 : BitVec 32 := 1#32
  let v52 : BitVec 32 := Scalar.xori v19 c1_i32_28
  let c1_i32_54 : BitVec 32 := 1#32
  let v77 : BitVec 32 := Scalar.muli v52 c1_i32_54
  let v78 : BitVec 32 := Scalar.addi v76 v77
  v78.toNat
def k0_dev5 (d0 : Dev nD) : Nat :=
  let c0_i32_60 : BitVec 32 := 0#32
  let v11 : BitVec 32 := Dev.word d0
  let c4_i32_5 : BitVec 32 := 4#32
  let v12 : BitVec 32 := Scalar.divsi v11 c4_i32_5
  let c2_i32_4 : BitVec 32 := 2#32
  let v13 : BitVec 32 := Scalar.remsi v12 c2_i32_4
  let c0_i32_29 : BitVec 32 := 0#32
  let v53 : BitVec 32 := Scalar.xori v13 c0_i32_29
  let c4_i32_59 : BitVec 32 := 4#32
  let v85 : BitVec 32 := Scalar.muli v53 c4_i32_59
  let v86 : BitVec 32 := Scalar.addi c0_i32_60 v85
  let v14 : BitVec 32 := Dev.word d0
  let c2_i32_7 : BitVec 32 := 2#32
  let v15 : BitVec 32 := Scalar.divsi v14 c2_i32_7
  let c2_i32_6 : BitVec 32 := 2#32
  let v16 : BitVec 32 := Scalar.remsi v15 c2_i32_6
  let c1_i32_30 : BitVec 32 := 1#32
  let v54 : BitVec 32 := Scalar.xori v16 c1_i32_30
  let c2_i32_61 : BitVec 32 := 2#32
  let v87 : BitVec 32 := Scalar.muli v54 c2_i32_61
  let v88 : BitVec 32 := Scalar.addi v86 v87
  let v17 : BitVec 32 := Dev.word d0
  let c1_i32_9 : BitVec 32 := 1#32
  let v18 : BitVec 32 := Scalar.divsi v17 c1_i32_9
  let c2_i32_8 : BitVec 32 := 2#32
  let v19 : BitVec 32 := Scalar.remsi v18 c2_i32_8
  let c0_i32_31 : BitVec 32 := 0#32
  let v55 : BitVec 32 := Scalar.xori v19 c0_i32_31
  let c1_i32_62 : BitVec 32 := 1#32
  let v89 : BitVec 32 := Scalar.muli v55 c1_i32_62
  let v90 : BitVec 32 := Scalar.addi v88 v89
  v90.toNat
def k0_dev6 (d0 : Dev nD) : Nat :=
  let c0_i32_68 : BitVec 32 := 0#32
  let v11 : BitVec 32 := Dev.word d0
  let c4_i32_5 : BitVec 32 := 4#32
  let v12 : BitVec 32 := Scalar.divsi v11 c4_i32_5
  let c2_i32_4 : BitVec 32 := 2#32
  let v13 : BitVec 32 := Scalar.remsi v12 c2_i32_4
  let c0_i32_32 : BitVec 32 := 0#32
  let v56 : BitVec 32 := Scalar.xori v13 c0_i32_32
  let c4_i32_67 : BitVec 32 := 4#32
  let v97 : BitVec 32 := Scalar.muli v56 c4_i32_67
  let v98 : BitVec 32 := Scalar.addi c0_i32_68 v97
  let v14 : BitVec 32 := Dev.word d0
  let c2_i32_7 : BitVec 32 := 2#32
  let v15 : BitVec 32 := Scalar.divsi v14 c2_i32_7
  let c2_i32_6 : BitVec 32 := 2#32
  let v16 : BitVec 32 := Scalar.remsi v15 c2_i32_6
  let c1_i32_33 : BitVec 32 := 1#32
  let v57 : BitVec 32 := Scalar.xori v16 c1_i32_33
  let c2_i32_69 : BitVec 32 := 2#32
  let v99 : BitVec 32 := Scalar.muli v57 c2_i32_69
  let v100 : BitVec 32 := Scalar.addi v98 v99
  let v17 : BitVec 32 := Dev.word d0
  let c1_i32_9 : BitVec 32 := 1#32
  let v18 : BitVec 32 := Scalar.divsi v17 c1_i32_9
  let c2_i32_8 : BitVec 32 := 2#32
  let v19 : BitVec 32 := Scalar.remsi v18 c2_i32_8
  let c1_i32_34 : BitVec 32 := 1#32
  let v58 : BitVec 32 := Scalar.xori v19 c1_i32_34
  let c1_i32_70 : BitVec 32 := 1#32
  let v101 : BitVec 32 := Scalar.muli v58 c1_i32_70
  let v102 : BitVec 32 := Scalar.addi v100 v101
  v102.toNat
def k0_dev7 (d0 : Dev nD) : Nat :=
  let c0_i32_76 : BitVec 32 := 0#32
  let v11 : BitVec 32 := Dev.word d0
  let c4_i32_5 : BitVec 32 := 4#32
  let v12 : BitVec 32 := Scalar.divsi v11 c4_i32_5
  let c2_i32_4 : BitVec 32 := 2#32
  let v13 : BitVec 32 := Scalar.remsi v12 c2_i32_4
  let c1_i32_35 : BitVec 32 := 1#32
  let v59 : BitVec 32 := Scalar.xori v13 c1_i32_35
  let c4_i32_75 : BitVec 32 := 4#32
  let v109 : BitVec 32 := Scalar.muli v59 c4_i32_75
  let v110 : BitVec 32 := Scalar.addi c0_i32_76 v109
  let v14 : BitVec 32 := Dev.word d0
  let c2_i32_7 : BitVec 32 := 2#32
  let v15 : BitVec 32 := Scalar.divsi v14 c2_i32_7
  let c2_i32_6 : BitVec 32 := 2#32
  let v16 : BitVec 32 := Scalar.remsi v15 c2_i32_6
  let c0_i32_36 : BitVec 32 := 0#32
  let v60 : BitVec 32 := Scalar.xori v16 c0_i32_36
  let c2_i32_77 : BitVec 32 := 2#32
  let v111 : BitVec 32 := Scalar.muli v60 c2_i32_77
  let v112 : BitVec 32 := Scalar.addi v110 v111
  let v17 : BitVec 32 := Dev.word d0
  let c1_i32_9 : BitVec 32 := 1#32
  let v18 : BitVec 32 := Scalar.divsi v17 c1_i32_9
  let c2_i32_8 : BitVec 32 := 2#32
  let v19 : BitVec 32 := Scalar.remsi v18 c2_i32_8
  let c0_i32_37 : BitVec 32 := 0#32
  let v61 : BitVec 32 := Scalar.xori v19 c0_i32_37
  let c1_i32_78 : BitVec 32 := 1#32
  let v113 : BitVec 32 := Scalar.muli v61 c1_i32_78
  let v114 : BitVec 32 := Scalar.addi v112 v113
  v114.toNat
def k0_dev8 (d0 : Dev nD) : Nat :=
  let c0_i32_83 : BitVec 32 := 0#32
  let v11 : BitVec 32 := Dev.word d0
  let c4_i32_5 : BitVec 32 := 4#32
  let v12 : BitVec 32 := Scalar.divsi v11 c4_i32_5
  let c2_i32_4 : BitVec 32 := 2#32
  let v13 : BitVec 32 := Scalar.remsi v12 c2_i32_4
  let c1_i32_38 : BitVec 32 := 1#32
  let v62 : BitVec 32 := Scalar.xori v13 c1_i32_38
  let c4_i32_82 : BitVec 32 := 4#32
  let v121 : BitVec 32 := Scalar.muli v62 c4_i32_82
  let v122 : BitVec 32 := Scalar.addi c0_i32_83 v121
  let v14 : BitVec 32 := Dev.word d0
  let c2_i32_7 : BitVec 32 := 2#32
  let v15 : BitVec 32 := Scalar.divsi v14 c2_i32_7
  let c2_i32_6 : BitVec 32 := 2#32
  let v16 : BitVec 32 := Scalar.remsi v15 c2_i32_6
  let c0_i32_39 : BitVec 32 := 0#32
  let v63 : BitVec 32 := Scalar.xori v16 c0_i32_39
  let c2_i32_84 : BitVec 32 := 2#32
  let v123 : BitVec 32 := Scalar.muli v63 c2_i32_84
  let v124 : BitVec 32 := Scalar.addi v122 v123
  let v17 : BitVec 32 := Dev.word d0
  let c1_i32_9 : BitVec 32 := 1#32
  let v18 : BitVec 32 := Scalar.divsi v17 c1_i32_9
  let c2_i32_8 : BitVec 32 := 2#32
  let v19 : BitVec 32 := Scalar.remsi v18 c2_i32_8
  let c1_i32_40 : BitVec 32 := 1#32
  let v64 : BitVec 32 := Scalar.xori v19 c1_i32_40
  let c1_i32_85 : BitVec 32 := 1#32
  let v125 : BitVec 32 := Scalar.muli v64 c1_i32_85
  let v126 : BitVec 32 := Scalar.addi v124 v125
  v126.toNat
def k0_dev9 (d0 : Dev nD) : Nat :=
  let c0_i32_90 : BitVec 32 := 0#32
  let v11 : BitVec 32 := Dev.word d0
  let c4_i32_5 : BitVec 32 := 4#32
  let v12 : BitVec 32 := Scalar.divsi v11 c4_i32_5
  let c2_i32_4 : BitVec 32 := 2#32
  let v13 : BitVec 32 := Scalar.remsi v12 c2_i32_4
  let c1_i32_41 : BitVec 32 := 1#32
  let v65 : BitVec 32 := Scalar.xori v13 c1_i32_41
  let c4_i32_89 : BitVec 32 := 4#32
  let v133 : BitVec 32 := Scalar.muli v65 c4_i32_89
  let v134 : BitVec 32 := Scalar.addi c0_i32_90 v133
  let v14 : BitVec 32 := Dev.word d0
  let c2_i32_7 : BitVec 32 := 2#32
  let v15 : BitVec 32 := Scalar.divsi v14 c2_i32_7
  let c2_i32_6 : BitVec 32 := 2#32
  let v16 : BitVec 32 := Scalar.remsi v15 c2_i32_6
  let c1_i32_42 : BitVec 32 := 1#32
  let v66 : BitVec 32 := Scalar.xori v16 c1_i32_42
  let c2_i32_91 : BitVec 32 := 2#32
  let v135 : BitVec 32 := Scalar.muli v66 c2_i32_91
  let v136 : BitVec 32 := Scalar.addi v134 v135
  let v17 : BitVec 32 := Dev.word d0
  let c1_i32_9 : BitVec 32 := 1#32
  let v18 : BitVec 32 := Scalar.divsi v17 c1_i32_9
  let c2_i32_8 : BitVec 32 := 2#32
  let v19 : BitVec 32 := Scalar.remsi v18 c2_i32_8
  let c0_i32_43 : BitVec 32 := 0#32
  let v67 : BitVec 32 := Scalar.xori v19 c0_i32_43
  let c1_i32_92 : BitVec 32 := 1#32
  let v137 : BitVec 32 := Scalar.muli v67 c1_i32_92
  let v138 : BitVec 32 := Scalar.addi v136 v137
  v138.toNat
def k0_dev10 (d0 : Dev nD) : Nat :=
  let c0_i32_98 : BitVec 32 := 0#32
  let v11 : BitVec 32 := Dev.word d0
  let c4_i32_5 : BitVec 32 := 4#32
  let v12 : BitVec 32 := Scalar.divsi v11 c4_i32_5
  let c2_i32_4 : BitVec 32 := 2#32
  let v13 : BitVec 32 := Scalar.remsi v12 c2_i32_4
  let c1_i32_44 : BitVec 32 := 1#32
  let v68 : BitVec 32 := Scalar.xori v13 c1_i32_44
  let c4_i32_97 : BitVec 32 := 4#32
  let v145 : BitVec 32 := Scalar.muli v68 c4_i32_97
  let v146 : BitVec 32 := Scalar.addi c0_i32_98 v145
  let v14 : BitVec 32 := Dev.word d0
  let c2_i32_7 : BitVec 32 := 2#32
  let v15 : BitVec 32 := Scalar.divsi v14 c2_i32_7
  let c2_i32_6 : BitVec 32 := 2#32
  let v16 : BitVec 32 := Scalar.remsi v15 c2_i32_6
  let c1_i32_45 : BitVec 32 := 1#32
  let v69 : BitVec 32 := Scalar.xori v16 c1_i32_45
  let c2_i32_99 : BitVec 32 := 2#32
  let v147 : BitVec 32 := Scalar.muli v69 c2_i32_99
  let v148 : BitVec 32 := Scalar.addi v146 v147
  let v17 : BitVec 32 := Dev.word d0
  let c1_i32_9 : BitVec 32 := 1#32
  let v18 : BitVec 32 := Scalar.divsi v17 c1_i32_9
  let c2_i32_8 : BitVec 32 := 2#32
  let v19 : BitVec 32 := Scalar.remsi v18 c2_i32_8
  let c1_i32_46 : BitVec 32 := 1#32
  let v70 : BitVec 32 := Scalar.xori v19 c1_i32_46
  let c1_i32_100 : BitVec 32 := 1#32
  let v149 : BitVec 32 := Scalar.muli v70 c1_i32_100
  let v150 : BitVec 32 := Scalar.addi v148 v149
  v150.toNat
def k0_off4 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_120 : BitVec 32 := 0#32
  let c0_i32_121 : BitVec 32 := 0#32
  ![v10.toNat, 0, 0]
def k0_off5 (d0 : Dev nD) (c0_i32_103 : BitVec 32) (c1_i32_104 : BitVec 32) : Fin 3 → Nat :=
  let c2_i32_105 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v157 : BitVec 32 := Scalar.xori v2 c0_i32_103
  let v159 : BitVec 32 := Scalar.muli c2_i32_105 v157
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v158 : BitVec 32 := Scalar.xori v5 c1_i32_104
  let v160 : BitVec 32 := Scalar.addi v159 v158
  let c0_i32_122 : BitVec 32 := 0#32
  let c0_i32_123 : BitVec 32 := 0#32
  ![v160.toNat, 0, 0]
def k0_off5_at (r : Fin 3) : BitVec 32 × BitVec 32 :=
  if r.val < 1 then
    (0#32, 1#32)
  else
    if r.val < 2 then
      (1#32, 0#32)
    else
      (1#32, 1#32)
def k0_cond3 (i : grid0.Coords) : BitVec 1 :=
  let arg1 : BitVec 32 := BitVec.ofNat 32 (i 1).val
  let c3_i32 : BitVec 32 := 3#32
  let v42 : BitVec 1 := Scalar.cmpi .eq arg1 c3_i32
  let v43 : BitVec 32 := Scalar.extui v42
  let c0_i32_23 : BitVec 32 := 0#32
  let v44 : BitVec 1 := Scalar.cmpi .ne v43 c0_i32_23
  v44

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1792x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== InputReferenceIdeal.lean ====
abbrev S32768x7168 : Shape := ⟨2, ![32768, 7168]⟩
abbrev S7168x2048 : Shape := ⟨2, ![7168, 2048]⟩
abbrev S32768x2048 : Shape := ⟨2, ![32768, 2048]⟩
abbrev S1x2048 : Shape := ⟨2, ![1, 2048]⟩
abbrev S32x2048x896 : Shape := ⟨3, ![32, 2048, 896]⟩
abbrev S_ : Shape := ⟨0, ![]⟩
abbrev S32768 : Shape := ⟨1, ![32768]⟩
abbrev S32768x1 : Shape := ⟨2, ![32768, 1]⟩
abbrev S8x4096x2048 : Shape := ⟨3, ![8, 4096, 2048]⟩
abbrev S8x2048 : Shape := ⟨2, ![8, 2048]⟩
abbrev S8x1x2048 : Shape := ⟨3, ![8, 1, 2048]⟩
abbrev S4x2x4x2048x896 : Shape := ⟨5, ![4, 2, 4, 2048, 896]⟩

abbrev nBuf : Space → Nat
  | .hbm => 45
  | .vmem => 0
  | .smem => 0
  | _ => 0

abbrev bufTy : (tb : Table) → Fin (tcTables nBuf tb) → BufTy
  | .hbm, ⟨0, _⟩ => ⟨S32768x7168, .bf16⟩
  | .hbm, ⟨1, _⟩ => ⟨S7168x2048, .bf16⟩
  | .hbm, ⟨2, _⟩ => ⟨S32768x2048, .f32⟩
  | .hbm, ⟨3, _⟩ => ⟨S32768x2048, .f32⟩
  | .hbm, ⟨4, _⟩ => ⟨S1x2048, .f32⟩
  | .hbm, ⟨5, _⟩ => ⟨S32x2048x896, .bf16⟩
  | .hbm, ⟨6, _⟩ => ⟨S32768x7168, .f32⟩
  | .hbm, ⟨7, _⟩ => ⟨S7168x2048, .f32⟩
  | .hbm, ⟨8, _⟩ => ⟨S32768x2048, .f32⟩
  | .hbm, ⟨9, _⟩ => ⟨S32768x2048, .f32⟩
  | .hbm, ⟨10, _⟩ => ⟨S_, .f32⟩
  | .hbm, ⟨11, _⟩ => ⟨S32768, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S32768x1, .f32⟩
  | .hbm, ⟨20, _⟩ => ⟨S32768x2048, .f32⟩
  | .hbm, ⟨21, _⟩ => ⟨S32768x2048, .f32⟩
  | .hbm, ⟨22, _⟩ => ⟨S32768x2048, .f32⟩
  | .hbm, ⟨23, _⟩ => ⟨S32768x2048, .f32⟩
  | .hbm, ⟨24, _⟩ => ⟨S32768x2048, .f32⟩
  | .hbm, ⟨25, _⟩ => ⟨S_, .f32⟩
  | .hbm, ⟨26, _⟩ => ⟨S32768, .f32⟩
  | .hbm, ⟨27, _⟩ => ⟨S32768x1, .f32⟩
  | .hbm, ⟨28, _⟩ => ⟨S_, .f32⟩
  | .hbm, ⟨29, _⟩ => ⟨S32768x1, .f32⟩
  | .hbm, ⟨30, _⟩ => ⟨S32768x1, .f32⟩
  | .hbm, ⟨31, _⟩ => ⟨S32768x2048, .f32⟩
  | .hbm, ⟨32, _⟩ => ⟨S32768x2048, .f32⟩
  | .hbm, ⟨33, _⟩ => ⟨S32768x2048, .f32⟩
  | .hbm, ⟨34, _⟩ => ⟨S32768x2048, .f32⟩
  | .hbm, ⟨35, _⟩ => ⟨S32768x2048, .f32⟩
  | .hbm, ⟨36, _⟩ => ⟨S32768x2048, .f32⟩
  | .hbm, ⟨37, _⟩ => ⟨S32768x2048, .f32⟩
  | .hbm, ⟨38, _⟩ => ⟨S8x4096x2048, .f32⟩
  | .hbm, ⟨39, _⟩ => ⟨S_, .f32⟩
  | .hbm, ⟨40, _⟩ => ⟨S8x2048, .f32⟩
  | .hbm, ⟨41, _⟩ => ⟨S8x1x2048, .f32⟩
  | .hbm, ⟨42, _⟩ => ⟨S4x2x4x2048x896, .bf16⟩
  | .hbm, ⟨43, _⟩ => ⟨S4x2x4x2048x896, .bf16⟩
  | .hbm, ⟨44, _⟩ => ⟨S32x2048x896, .bf16⟩
  | _, _ => ⟨S32768x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Win.lean ====
abbrev S4x2048x896 : Shape := ⟨3, ![4, 2048, 896]⟩
abbrev S2048x896 : Shape := ⟨2, ![2048, 896]⟩
abbrev S4x256x896 : Shape := ⟨3, ![4, 256, 896]⟩
abbrev S256x896 : Shape := ⟨2, ![256, 896]⟩
abbrev S1x256x896 : Shape := ⟨3, ![1, 256, 896]⟩

abbrev nBuf : Space → Nat
  | .hbm => 8
  | .vmem => 16
  | .smem => 0
  | _ => 0

abbrev bufTy : (tb : Table) → Fin (tcTables nBuf tb) → BufTy
  | .hbm, ⟨0, _⟩ => ⟨S4x2048x896, .bf16⟩
  | .hbm, ⟨1, _⟩ => ⟨S2048x896, .f32⟩
  | .hbm, ⟨2, _⟩ => ⟨S2048x896, .f32⟩
  | .hbm, ⟨3, _⟩ => ⟨S2048x896, .f32⟩
  | .hbm, ⟨4, _⟩ => ⟨S2048x896, .f32⟩
  | .hbm, ⟨5, _⟩ => ⟨S2048x896, .f32⟩
  | .hbm, ⟨6, _⟩ => ⟨S2048x896, .f32⟩
  | .hbm, ⟨7, _⟩ => ⟨S2048x896, .f32⟩
  | .local _ .vmem, ⟨0, _⟩ => ⟨S4x256x896, .bf16⟩
  | .local _ .vmem, ⟨1, _⟩ => ⟨S4x256x896, .bf16⟩
  | .local _ .vmem, ⟨2, _⟩ => ⟨S256x896, .f32⟩
  | .local _ .vmem, ⟨3, _⟩ => ⟨S256x896, .f32⟩
  | .local _ .vmem, ⟨4, _⟩ => ⟨S256x896, .f32⟩
  | .local _ .vmem, ⟨5, _⟩ => ⟨S256x896, .f32⟩
  | .local _ .vmem, ⟨6, _⟩ => ⟨S256x896, .f32⟩
  | .local _ .vmem, ⟨7, _⟩ => ⟨S256x896, .f32⟩
  | .local _ .vmem, ⟨8, _⟩ => ⟨S256x896, .f32⟩
  | .local _ .vmem, ⟨9, _⟩ => ⟨S256x896, .f32⟩
  | .local _ .vmem, ⟨10, _⟩ => ⟨S256x896, .f32⟩
  | .local _ .vmem, ⟨11, _⟩ => ⟨S256x896, .f32⟩
  | .local _ .vmem, ⟨12, _⟩ => ⟨S256x896, .f32⟩
  | .local _ .vmem, ⟨13, _⟩ => ⟨S256x896, .f32⟩
  | .local _ .vmem, ⟨14, _⟩ => ⟨S256x896, .f32⟩
  | .local _ .vmem, ⟨15, _⟩ => ⟨S256x896, .f32⟩
  | _, _ => ⟨S4x2048x896, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x896 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x896 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x896 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== WinReferenceIdeal.lean ====
abbrev S4x2048x896 : Shape := ⟨3, ![4, 2048, 896]⟩
abbrev S2048x896 : Shape := ⟨2, ![2048, 896]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x2048x896, .bf16⟩
  | .hbm, ⟨1, _⟩ => ⟨S2048x896, .f32⟩
  | .hbm, ⟨2, _⟩ => ⟨S2048x896, .f32⟩
  | .hbm, ⟨3, _⟩ => ⟨S2048x896, .f32⟩
  | .hbm, ⟨4, _⟩ => ⟨S4x2048x896, .f32⟩
  | .hbm, ⟨5, _⟩ => ⟨S_, .f32⟩
  | .hbm, ⟨6, _⟩ => ⟨S2048x896, .f32⟩
  | .hbm, ⟨7, _⟩ => ⟨S_, .f32⟩
  | .hbm, ⟨8, _⟩ => ⟨S2048x896, .f32⟩
  | .hbm, ⟨9, _⟩ => ⟨S2048x896, .f32⟩
  | .hbm, ⟨10, _⟩ => ⟨S_, .f32⟩
  | .hbm, ⟨11, _⟩ => ⟨S2048x896, .f32⟩
  | .hbm, ⟨12, _⟩ => ⟨S2048x896, .f32⟩
  | .hbm, ⟨13, _⟩ => ⟨S2048x896, .f32⟩
  | .hbm, ⟨14, _⟩ => ⟨S_, .f32⟩
  | .hbm, ⟨15, _⟩ => ⟨S2048x896, .f32⟩
  | .hbm, ⟨16, _⟩ => ⟨S2048x896, .f32⟩
  | .hbm, ⟨17, _⟩ => ⟨S2048x896, .f32⟩
  | .hbm, ⟨18, _⟩ => ⟨S_, .f32⟩
  | .hbm, ⟨19, _⟩ => ⟨S2048x896, .f32⟩
  | .hbm, ⟨20, _⟩ => ⟨S2048x896, .f32⟩
  | .hbm, ⟨21, _⟩ => ⟨S2048x896, .f32⟩
  | .hbm, ⟨22, _⟩ => ⟨S_, .f32⟩
  | .hbm, ⟨23, _⟩ => ⟨S2048x896, .f32⟩
  | .hbm, ⟨24, _⟩ => ⟨S2048x896, .f32⟩
  | .hbm, ⟨25, _⟩ => ⟨S_, .f32⟩
  | .hbm, ⟨26, _⟩ => ⟨S2048x896, .f32⟩
  | .hbm, ⟨27, _⟩ => ⟨S2048x896, .f32⟩
  | .hbm, ⟨28, _⟩ => ⟨S2048x896, .f32⟩
  | .hbm, ⟨29, _⟩ => ⟨S_, .f32⟩
  | .hbm, ⟨30, _⟩ => ⟨S2048x896, .f32⟩
  | .hbm, ⟨31, _⟩ => ⟨S2048x896, .f32⟩
  | .hbm, ⟨32, _⟩ => ⟨S2048x896, .f32⟩
  | .hbm, ⟨33, _⟩ => ⟨S_, .f32⟩
  | .hbm, ⟨34, _⟩ => ⟨S2048x896, .f32⟩
  | .hbm, ⟨35, _⟩ => ⟨S2048x896, .f32⟩
  | .hbm, ⟨36, _⟩ => ⟨S2048x896, .f32⟩
  | .hbm, ⟨37, _⟩ => ⟨S_, .f32⟩
  | .hbm, ⟨38, _⟩ => ⟨S2048x896, .f32⟩
  | .hbm, ⟨39, _⟩ => ⟨S2048x896, .f32⟩
  | _, _ => ⟨S4x2048x896, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Wout.lean ====
abbrev S4x384x2048 : Shape := ⟨3, ![4, 384, 2048]⟩
abbrev S384x2048 : Shape := ⟨2, ![384, 2048]⟩
abbrev S4x96x2048 : Shape := ⟨3, ![4, 96, 2048]⟩
abbrev S96x2048 : Shape := ⟨2, ![96, 2048]⟩
abbrev S1x96x2048 : Shape := ⟨3, ![1, 96, 2048]⟩

abbrev nBuf : Space → Nat
  | .hbm => 8
  | .vmem => 16
  | .smem => 0
  | _ => 0

abbrev bufTy : (tb : Table) → Fin (tcTables nBuf tb) → BufTy
  | .hbm, ⟨0, _⟩ => ⟨S4x384x2048, .bf16⟩
  | .hbm, ⟨1, _⟩ => ⟨S384x2048, .f32⟩
  | .hbm, ⟨2, _⟩ => ⟨S384x2048, .f32⟩
  | .hbm, ⟨3, _⟩ => ⟨S384x2048, .f32⟩
  | .hbm, ⟨4, _⟩ => ⟨S384x2048, .f32⟩
  | .hbm, ⟨5, _⟩ => ⟨S384x2048, .f32⟩
  | .hbm, ⟨6, _⟩ => ⟨S384x2048, .f32⟩
  | .hbm, ⟨7, _⟩ => ⟨S384x2048, .f32⟩
  | .local _ .vmem, ⟨0, _⟩ => ⟨S4x96x2048, .bf16⟩
  | .local _ .vmem, ⟨1, _⟩ => ⟨S4x96x2048, .bf16⟩
  | .local _ .vmem, ⟨2, _⟩ => ⟨S96x2048, .f32⟩
  | .local _ .vmem, ⟨3, _⟩ => ⟨S96x2048, .f32⟩
  | .local _ .vmem, ⟨4, _⟩ => ⟨S96x2048, .f32⟩
  | .local _ .vmem, ⟨5, _⟩ => ⟨S96x2048, .f32⟩
  | .local _ .vmem, ⟨6, _⟩ => ⟨S96x2048, .f32⟩
  | .local _ .vmem, ⟨7, _⟩ => ⟨S96x2048, .f32⟩
  | .local _ .vmem, ⟨8, _⟩ => ⟨S96x2048, .f32⟩
  | .local _ .vmem, ⟨9, _⟩ => ⟨S96x2048, .f32⟩
  | .local _ .vmem, ⟨10, _⟩ => ⟨S96x2048, .f32⟩
  | .local _ .vmem, ⟨11, _⟩ => ⟨S96x2048, .f32⟩
  | .local _ .vmem, ⟨12, _⟩ => ⟨S96x2048, .f32⟩
  | .local _ .vmem, ⟨13, _⟩ => ⟨S96x2048, .f32⟩
  | .local _ .vmem, ⟨14, _⟩ => ⟨S96x2048, .f32⟩
  | .local _ .vmem, ⟨15, _⟩ => ⟨S96x2048, .f32⟩
  | _, _ => ⟨S4x384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x96x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S96x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S96x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S96x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S96x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S96x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S96x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S96x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== WoutReferenceIdeal.lean ====
abbrev S4x384x2048 : Shape := ⟨3, ![4, 384, 2048]⟩
abbrev S384x2048 : Shape := ⟨2, ![384, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x384x2048, .bf16⟩
  | .hbm, ⟨1, _⟩ => ⟨S384x2048, .f32⟩
  | .hbm, ⟨2, _⟩ => ⟨S384x2048, .f32⟩
  | .hbm, ⟨3, _⟩ => ⟨S384x2048, .f32⟩
  | .hbm, ⟨4, _⟩ => ⟨S4x384x2048, .f32⟩
  | .hbm, ⟨5, _⟩ => ⟨S_, .f32⟩
  | .hbm, ⟨6, _⟩ => ⟨S384x2048, .f32⟩
  | .hbm, ⟨7, _⟩ => ⟨S_, .f32⟩
  | .hbm, ⟨8, _⟩ => ⟨S384x2048, .f32⟩
  | .hbm, ⟨9, _⟩ => ⟨S384x2048, .f32⟩
  | .hbm, ⟨10, _⟩ => ⟨S_, .f32⟩
  | .hbm, ⟨11, _⟩ => ⟨S384x2048, .f32⟩
  | .hbm, ⟨12, _⟩ => ⟨S384x2048, .f32⟩
  | .hbm, ⟨13, _⟩ => ⟨S384x2048, .f32⟩
  | .hbm, ⟨14, _⟩ => ⟨S_, .f32⟩
  | .hbm, ⟨15, _⟩ => ⟨S384x2048, .f32⟩
  | .hbm, ⟨16, _⟩ => ⟨S384x2048, .f32⟩
  | .hbm, ⟨17, _⟩ => ⟨S384x2048, .f32⟩
  | .hbm, ⟨18, _⟩ => ⟨S_, .f32⟩
  | .hbm, ⟨19, _⟩ => ⟨S384x2048, .f32⟩
  | .hbm, ⟨20, _⟩ => ⟨S384x2048, .f32⟩
  | .hbm, ⟨21, _⟩ => ⟨S384x2048, .f32⟩
  | .hbm, ⟨22, _⟩ => ⟨S_, .f32⟩
  | .hbm, ⟨23, _⟩ => ⟨S384x2048, .f32⟩
  | .hbm, ⟨24, _⟩ => ⟨S384x2048, .f32⟩
  | .hbm, ⟨25, _⟩ => ⟨S_, .f32⟩
  | .hbm, ⟨26, _⟩ => ⟨S384x2048, .f32⟩
  | .hbm, ⟨27, _⟩ => ⟨S384x2048, .f32⟩
  | .hbm, ⟨28, _⟩ => ⟨S384x2048, .f32⟩
  | .hbm, ⟨29, _⟩ => ⟨S_, .f32⟩
  | .hbm, ⟨30, _⟩ => ⟨S384x2048, .f32⟩
  | .hbm, ⟨31, _⟩ => ⟨S384x2048, .f32⟩
  | .hbm, ⟨32, _⟩ => ⟨S384x2048, .f32⟩
  | .hbm, ⟨33, _⟩ => ⟨S_, .f32⟩
  | .hbm, ⟨34, _⟩ => ⟨S384x2048, .f32⟩
  | .hbm, ⟨35, _⟩ => ⟨S384x2048, .f32⟩
  | .hbm, ⟨36, _⟩ => ⟨S384x2048, .f32⟩
  | .hbm, ⟨37, _⟩ => ⟨S_, .f32⟩
  | .hbm, ⟨38, _⟩ => ⟨S384x2048, .f32⟩
  | .hbm, ⟨39, _⟩ => ⟨S384x2048, .f32⟩
  | _, _ => ⟨S4x384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Wkv.lean ====
abbrev S4x256x2048 : Shape := ⟨3, ![4, 256, 2048]⟩
abbrev S256x2048 : Shape := ⟨2, ![256, 2048]⟩
abbrev S4x128x2048 : Shape := ⟨3, ![4, 128, 2048]⟩
abbrev S128x2048 : Shape := ⟨2, ![128, 2048]⟩
abbrev S1x128x2048 : Shape := ⟨3, ![1, 128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S4x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .local _ .vmem, ⟨0, _⟩ => ⟨S4x128x2048, .bf16⟩
  | .local _ .vmem, ⟨1, _⟩ => ⟨S4x128x2048, .bf16⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S4x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== WkvReferenceIdeal.lean ====
abbrev S4x256x2048 : Shape := ⟨3, ![4, 256, 2048]⟩
abbrev S256x2048 : Shape := ⟨2, ![256, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S4x256x2048, .f32⟩
  | .hbm, ⟨5, _⟩ => ⟨S_, .f32⟩
  | .hbm, ⟨6, _⟩ => ⟨S256x2048, .f32⟩
  | .hbm, ⟨7, _⟩ => ⟨S_, .f32⟩
  | .hbm, ⟨8, _⟩ => ⟨S256x2048, .f32⟩
  | .hbm, ⟨9, _⟩ => ⟨S256x2048, .f32⟩
  | .hbm, ⟨10, _⟩ => ⟨S_, .f32⟩
  | .hbm, ⟨11, _⟩ => ⟨S256x2048, .f32⟩
  | .hbm, ⟨12, _⟩ => ⟨S256x2048, .f32⟩
  | .hbm, ⟨13, _⟩ => ⟨S256x2048, .f32⟩
  | .hbm, ⟨14, _⟩ => ⟨S_, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S_, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S_, .f32⟩
  | .hbm, ⟨23, _⟩ => ⟨S256x2048, .f32⟩
  | .hbm, ⟨24, _⟩ => ⟨S256x2048, .f32⟩
  | .hbm, ⟨25, _⟩ => ⟨S_, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S256x2048, .f32⟩
  | .hbm, ⟨31, _⟩ => ⟨S256x2048, .f32⟩
  | .hbm, ⟨32, _⟩ => ⟨S256x2048, .f32⟩
  | .hbm, ⟨33, _⟩ => ⟨S_, .f32⟩
  | .hbm, ⟨34, _⟩ => ⟨S256x2048, .f32⟩
  | .hbm, ⟨35, _⟩ => ⟨S256x2048, .f32⟩
  | .hbm, ⟨36, _⟩ => ⟨S256x2048, .f32⟩
  | .hbm, ⟨37, _⟩ => ⟨S_, .f32⟩
  | .hbm, ⟨38, _⟩ => ⟨S256x2048, .f32⟩
  | .hbm, ⟨39, _⟩ => ⟨S256x2048, .f32⟩
  | _, _ => ⟨S4x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Pool.lean ====
abbrev S4x128x256 : Shape := ⟨3, ![4, 128, 256]⟩
abbrev S128x256 : Shape := ⟨2, ![128, 256]⟩
abbrev S1x128x256 : Shape := ⟨3, ![1, 128, 256]⟩

abbrev nBuf : Space → Nat
  | .hbm => 8
  | .vmem => 8
  | .smem => 0
  | _ => 0

abbrev bufTy : (tb : Table) → Fin (tcTables nBuf tb) → BufTy
  | .hbm, ⟨0, _⟩ => ⟨S4x128x256, .bf16⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S128x256, .f32⟩
  | .hbm, ⟨5, _⟩ => ⟨S128x256, .f32⟩
  | .hbm, ⟨6, _⟩ => ⟨S128x256, .f32⟩
  | .hbm, ⟨7, _⟩ => ⟨S128x256, .f32⟩
  | .local _ .vmem, ⟨0, _⟩ => ⟨S4x128x256, .bf16⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | _, _ => ⟨S4x128x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== PoolReferenceIdeal.lean ====
abbrev S4x128x256 : Shape := ⟨3, ![4, 128, 256]⟩
abbrev S128x256 : Shape := ⟨2, ![128, 256]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x128x256, .bf16⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S4x128x256, .f32⟩
  | .hbm, ⟨5, _⟩ => ⟨S_, .f32⟩
  | .hbm, ⟨6, _⟩ => ⟨S128x256, .f32⟩
  | .hbm, ⟨7, _⟩ => ⟨S_, .f32⟩
  | .hbm, ⟨8, _⟩ => ⟨S128x256, .f32⟩
  | .hbm, ⟨9, _⟩ => ⟨S128x256, .f32⟩
  | .hbm, ⟨10, _⟩ => ⟨S_, .f32⟩
  | .hbm, ⟨11, _⟩ => ⟨S128x256, .f32⟩
  | .hbm, ⟨12, _⟩ => ⟨S128x256, .f32⟩
  | .hbm, ⟨13, _⟩ => ⟨S128x256, .f32⟩
  | .hbm, ⟨14, _⟩ => ⟨S_, .f32⟩
  | .hbm, ⟨15, _⟩ => ⟨S128x256, .f32⟩
  | .hbm, ⟨16, _⟩ => ⟨S128x256, .f32⟩
  | .hbm, ⟨17, _⟩ => ⟨S128x256, .f32⟩
  | .hbm, ⟨18, _⟩ => ⟨S_, .f32⟩
  | .hbm, ⟨19, _⟩ => ⟨S128x256, .f32⟩
  | .hbm, ⟨20, _⟩ => ⟨S128x256, .f32⟩
  | .hbm, ⟨21, _⟩ => ⟨S128x256, .f32⟩
  | .hbm, ⟨22, _⟩ => ⟨S_, .f32⟩
  | .hbm, ⟨23, _⟩ => ⟨S128x256, .f32⟩
  | .hbm, ⟨24, _⟩ => ⟨S128x256, .f32⟩
  | .hbm, ⟨25, _⟩ => ⟨S_, .f32⟩
  | .hbm, ⟨26, _⟩ => ⟨S128x256, .f32⟩
  | .hbm, ⟨27, _⟩ => ⟨S128x256, .f32⟩
  | .hbm, ⟨28, _⟩ => ⟨S128x256, .f32⟩
  | .hbm, ⟨29, _⟩ => ⟨S_, .f32⟩
  | .hbm, ⟨30, _⟩ => ⟨S128x256, .f32⟩
  | .hbm, ⟨31, _⟩ => ⟨S128x256, .f32⟩
  | .hbm, ⟨32, _⟩ => ⟨S128x256, .f32⟩
  | .hbm, ⟨33, _⟩ => ⟨S_, .f32⟩
  | .hbm, ⟨34, _⟩ => ⟨S128x256, .f32⟩
  | .hbm, ⟨35, _⟩ => ⟨S128x256, .f32⟩
  | .hbm, ⟨36, _⟩ => ⟨S128x256, .f32⟩
  | .hbm, ⟨37, _⟩ => ⟨S_, .f32⟩
  | .hbm, ⟨38, _⟩ => ⟨S128x256, .f32⟩
  | .hbm, ⟨39, _⟩ => ⟨S128x256, .f32⟩
  | _, _ => ⟨S4x128x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Norm.lean ====
abbrev S8x16x128 : Shape := ⟨3, ![8, 16, 128]⟩
abbrev S16x128 : Shape := ⟨2, ![16, 128]⟩
abbrev S1x16x128 : Shape := ⟨3, ![1, 16, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x16x128, .f32⟩
  | .hbm, ⟨1, _⟩ => ⟨S16x128, .f32⟩
  | .hbm, ⟨2, _⟩ => ⟨S16x128, .f32⟩
  | .hbm, ⟨3, _⟩ => ⟨S16x128, .f32⟩
  | .hbm, ⟨4, _⟩ => ⟨S16x128, .f32⟩
  | .hbm, ⟨5, _⟩ => ⟨S16x128, .f32⟩
  | .hbm, ⟨6, _⟩ => ⟨S16x128, .f32⟩
  | .hbm, ⟨7, _⟩ => ⟨S16x128, .f32⟩
  | .local _ .vmem, ⟨0, _⟩ => ⟨S8x16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | .local _ .vmem, ⟨7, _⟩ => ⟨S16x128, .f32⟩
  | _, _ => ⟨S8x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== NormReferenceIdeal.lean ====
abbrev S8x16x128 : Shape := ⟨3, ![8, 16, 128]⟩
abbrev S16x128 : Shape := ⟨2, ![16, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x16x128, .f32⟩
  | .hbm, ⟨1, _⟩ => ⟨S16x128, .f32⟩
  | .hbm, ⟨2, _⟩ => ⟨S16x128, .f32⟩
  | .hbm, ⟨3, _⟩ => ⟨S16x128, .f32⟩
  | .hbm, ⟨4, _⟩ => ⟨S_, .f32⟩
  | .hbm, ⟨5, _⟩ => ⟨S16x128, .f32⟩
  | .hbm, ⟨6, _⟩ => ⟨S_, .f32⟩
  | .hbm, ⟨7, _⟩ => ⟨S16x128, .f32⟩
  | .hbm, ⟨8, _⟩ => ⟨S16x128, .f32⟩
  | .hbm, ⟨9, _⟩ => ⟨S_, .f32⟩
  | .hbm, ⟨10, _⟩ => ⟨S16x128, .f32⟩
  | .hbm, ⟨11, _⟩ => ⟨S16x128, .f32⟩
  | .hbm, ⟨12, _⟩ => ⟨S16x128, .f32⟩
  | .hbm, ⟨13, _⟩ => ⟨S_, .f32⟩
  | .hbm, ⟨14, _⟩ => ⟨S16x128, .f32⟩
  | .hbm, ⟨15, _⟩ => ⟨S16x128, .f32⟩
  | .hbm, ⟨16, _⟩ => ⟨S16x128, .f32⟩
  | .hbm, ⟨17, _⟩ => ⟨S_, .f32⟩
  | .hbm, ⟨18, _⟩ => ⟨S16x128, .f32⟩
  | .hbm, ⟨19, _⟩ => ⟨S16x128, .f32⟩
  | .hbm, ⟨20, _⟩ => ⟨S16x128, .f32⟩
  | .hbm, ⟨21, _⟩ => ⟨S_, .f32⟩
  | .hbm, ⟨22, _⟩ => ⟨S16x128, .f32⟩
  | .hbm, ⟨23, _⟩ => ⟨S16x128, .f32⟩
  | .hbm, ⟨24, _⟩ => ⟨S_, .f32⟩
  | .hbm, ⟨25, _⟩ => ⟨S16x128, .f32⟩
  | .hbm, ⟨26, _⟩ => ⟨S16x128, .f32⟩
  | .hbm, ⟨27, _⟩ => ⟨S16x128, .f32⟩
  | .hbm, ⟨28, _⟩ => ⟨S_, .f32⟩
  | .hbm, ⟨29, _⟩ => ⟨S16x128, .f32⟩
  | .hbm, ⟨30, _⟩ => ⟨S16x128, .f32⟩
  | .hbm, ⟨31, _⟩ => ⟨S16x128, .f32⟩
  | .hbm, ⟨32, _⟩ => ⟨S_, .f32⟩
  | .hbm, ⟨33, _⟩ => ⟨S16x128, .f32⟩
  | .hbm, ⟨34, _⟩ => ⟨S16x128, .f32⟩
  | .hbm, ⟨35, _⟩ => ⟨S16x128, .f32⟩
  | .hbm, ⟨36, _⟩ => ⟨S_, .f32⟩
  | .hbm, ⟨37, _⟩ => ⟨S16x128, .f32⟩
  | .hbm, ⟨38, _⟩ => ⟨S16x128, .f32⟩
  | _, _ => ⟨S8x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Packed.lean ====
abbrev S4x1120x128 : Shape := ⟨3, ![4, 1120, 128]⟩
abbrev S8x128 : Shape := ⟨2, ![8, 128]⟩
abbrev S1024x128 : Shape := ⟨2, ![1024, 128]⟩
abbrev S16x128 : Shape := ⟨2, ![16, 128]⟩
abbrev S24x128 : Shape := ⟨2, ![24, 128]⟩
abbrev S1x8x128 : Shape := ⟨3, ![1, 8, 128]⟩
abbrev S1x1024x128 : Shape := ⟨3, ![1, 1024, 128]⟩
abbrev S1x16x128 : Shape := ⟨3, ![1, 16, 128]⟩
abbrev S1x24x128 : Shape := ⟨3, ![1, 24, 128]⟩

abbrev nBuf : Space → Nat
  | .hbm => 58
  | .vmem => 58
  | .smem => 0
  | _ => 0

abbrev bufTy : (tb : Table) → Fin (tcTables nBuf tb) → BufTy
  | .hbm, ⟨0, _⟩ => ⟨S4x1120x128, .f32⟩
  | .hbm, ⟨1, _⟩ => ⟨S8x128, .f32⟩
  | .hbm, ⟨2, _⟩ => ⟨S8x128, .f32⟩
  | .hbm, ⟨3, _⟩ => ⟨S8x128, .f32⟩
  | .hbm, ⟨4, _⟩ => ⟨S8x128, .f32⟩
  | .hbm, ⟨5, _⟩ => ⟨S8x128, .f32⟩
  | .hbm, ⟨6, _⟩ => ⟨S8x128, .f32⟩
  | .hbm, ⟨7, _⟩ => ⟨S8x128, .f32⟩
  | .hbm, ⟨8, _⟩ => ⟨S8x128, .f32⟩
  | .hbm, ⟨9, _⟩ => ⟨S8x128, .f32⟩
  | .hbm, ⟨10, _⟩ => ⟨S1024x128, .f32⟩
  | .hbm, ⟨11, _⟩ => ⟨S1024x128, .f32⟩
  | .hbm, ⟨12, _⟩ => ⟨S1024x128, .f32⟩
  | .hbm, ⟨13, _⟩ => ⟨S8x128, .f32⟩
  | .hbm, ⟨14, _⟩ => ⟨S8x128, .f32⟩
  | .hbm, ⟨15, _⟩ => ⟨S8x128, .f32⟩
  | .hbm, ⟨16, _⟩ => ⟨S16x128, .f32⟩
  | .hbm, ⟨17, _⟩ => ⟨S16x128, .f32⟩
  | .hbm, ⟨18, _⟩ => ⟨S16x128, .f32⟩
  | .hbm, ⟨19, _⟩ => ⟨S24x128, .f32⟩
  | .hbm, ⟨20, _⟩ => ⟨S24x128, .f32⟩
  | .hbm, ⟨21, _⟩ => ⟨S24x128, .f32⟩
  | .hbm, ⟨22, _⟩ => ⟨S16x128, .f32⟩
  | .hbm, ⟨23, _⟩ => ⟨S16x128, .f32⟩
  | .hbm, ⟨24, _⟩ => ⟨S16x128, .f32⟩
  | .hbm, ⟨25, _⟩ => ⟨S8x128, .f32⟩
  | .hbm, ⟨26, _⟩ => ⟨S8x128, .f32⟩
  | .hbm, ⟨27, _⟩ => ⟨S8x128, .f32⟩
  | .hbm, ⟨28, _⟩ => ⟨S8x128, .f32⟩
  | .hbm, ⟨29, _⟩ => ⟨S8x128, .f32⟩
  | .hbm, ⟨30, _⟩ => ⟨S8x128, .f32⟩
  | .hbm, ⟨31, _⟩ => ⟨S8x128, .f32⟩
  | .hbm, ⟨32, _⟩ => ⟨S8x128, .f32⟩
  | .hbm, ⟨33, _⟩ => ⟨S8x128, .f32⟩
  | .hbm, ⟨34, _⟩ => ⟨S8x128, .f32⟩
  | .hbm, ⟨35, _⟩ => ⟨S8x128, .f32⟩
  | .hbm, ⟨36, _⟩ => ⟨S8x128, .f32⟩
  | .hbm, ⟨37, _⟩ => ⟨S1024x128, .f32⟩
  | .hbm, ⟨38, _⟩ => ⟨S1024x128, .f32⟩
  | .hbm, ⟨39, _⟩ => ⟨S1024x128, .f32⟩
  | .hbm, ⟨40, _⟩ => ⟨S1024x128, .f32⟩
  | .hbm, ⟨41, _⟩ => ⟨S8x128, .f32⟩
  | .hbm, ⟨42, _⟩ => ⟨S8x128, .f32⟩
  | .hbm, ⟨43, _⟩ => ⟨S8x128, .f32⟩
  | .hbm, ⟨44, _⟩ => ⟨S8x128, .f32⟩
  | .hbm, ⟨45, _⟩ => ⟨S16x128, .f32⟩
  | .hbm, ⟨46, _⟩ => ⟨S16x128, .f32⟩
  | .hbm, ⟨47, _⟩ => ⟨S16x128, .f32⟩
  | .hbm, ⟨48, _⟩ => ⟨S16x128, .f32⟩
  | .hbm, ⟨49, _⟩ => ⟨S24x128, .f32⟩
  | .hbm, ⟨50, _⟩ => ⟨S24x128, .f32⟩
  | .hbm, ⟨51, _⟩ => ⟨S24x128, .f32⟩
  | .hbm, ⟨52, _⟩ => ⟨S24x128, .f32⟩
  | .hbm, ⟨53, _⟩ => ⟨S16x128, .f32⟩
  | .hbm, ⟨54, _⟩ => ⟨S16x128, .f32⟩
  | .hbm, ⟨55, _⟩ => ⟨S16x128, .f32⟩
  | .hbm, ⟨56, _⟩ => ⟨S16x128, .f32⟩
  | .hbm, ⟨57, _⟩ => ⟨S8x128, .f32⟩
  | .local _ .vmem, ⟨0, _⟩ => ⟨S4x1120x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S8x128, .f32⟩
  | .local _ .vmem, ⟨14, _⟩ => ⟨S8x128, .f32⟩
  | .local _ .vmem, ⟨15, _⟩ => ⟨S8x128, .f32⟩
  | .local _ .vmem, ⟨16, _⟩ => ⟨S16x128, .f32⟩
  | .local _ .vmem, ⟨17, _⟩ => ⟨S16x128, .f32⟩
  | .local _ .vmem, ⟨18, _⟩ => ⟨S16x128, .f32⟩
  | .local _ .vmem, ⟨19, _⟩ => ⟨S24x128, .f32⟩
  | .local _ .vmem, ⟨20, _⟩ => ⟨S24x128, .f32⟩
  | .local _ .vmem, ⟨21, _⟩ => ⟨S24x128, .f32⟩
  | .local _ .vmem, ⟨22, _⟩ => ⟨S16x128, .f32⟩
  | .local _ .vmem, ⟨23, _⟩ => ⟨S16x128, .f32⟩
  | .local _ .vmem, ⟨24, _⟩ => ⟨S16x128, .f32⟩
  | .local _ .vmem, ⟨25, _⟩ => ⟨S8x128, .f32⟩
  | .local _ .vmem, ⟨26, _⟩ => ⟨S8x128, .f32⟩
  | .local _ .vmem, ⟨27, _⟩ => ⟨S8x128, .f32⟩
  | .local _ .vmem, ⟨28, _⟩ => ⟨S8x128, .f32⟩
  | .local _ .vmem, ⟨29, _⟩ => ⟨S8x128, .f32⟩
  | .local _ .vmem, ⟨30, _⟩ => ⟨S8x128, .f32⟩
  | .local _ .vmem, ⟨31, _⟩ => ⟨S8x128, .f32⟩
  | .local _ .vmem, ⟨32, _⟩ => ⟨S8x128, .f32⟩
  | .local _ .vmem, ⟨33, _⟩ => ⟨S8x128, .f32⟩
  | .local _ .vmem, ⟨34, _⟩ => ⟨S8x128, .f32⟩
  | .local _ .vmem, ⟨35, _⟩ => ⟨S8x128, .f32⟩
  | .local _ .vmem, ⟨36, _⟩ => ⟨S8x128, .f32⟩
  | .local _ .vmem, ⟨37, _⟩ => ⟨S1024x128, .f32⟩
  | .local _ .vmem, ⟨38, _⟩ => ⟨S1024x128, .f32⟩
  | .local _ .vmem, ⟨39, _⟩ => ⟨S1024x128, .f32⟩
  | .local _ .vmem, ⟨40, _⟩ => ⟨S1024x128, .f32⟩
  | .local _ .vmem, ⟨41, _⟩ => ⟨S8x128, .f32⟩
  | .local _ .vmem, ⟨42, _⟩ => ⟨S8x128, .f32⟩
  | .local _ .vmem, ⟨43, _⟩ => ⟨S8x128, .f32⟩
  | .local _ .vmem, ⟨44, _⟩ => ⟨S8x128, .f32⟩
  | .local _ .vmem, ⟨45, _⟩ => ⟨S16x128, .f32⟩
  | .local _ .vmem, ⟨46, _⟩ => ⟨S16x128, .f32⟩
  | .local _ .vmem, ⟨47, _⟩ => ⟨S16x128, .f32⟩
  | .local _ .vmem, ⟨48, _⟩ => ⟨S16x128, .f32⟩
  | .local _ .vmem, ⟨49, _⟩ => ⟨S24x128, .f32⟩
  | .local _ .vmem, ⟨50, _⟩ => ⟨S24x128, .f32⟩
  | .local _ .vmem, ⟨51, _⟩ => ⟨S24x128, .f32⟩
  | .local _ .vmem, ⟨52, _⟩ => ⟨S24x128, .f32⟩
  | .local _ .vmem, ⟨53, _⟩ => ⟨S16x128, .f32⟩
  | .local _ .vmem, ⟨54, _⟩ => ⟨S16x128, .f32⟩
  | .local _ .vmem, ⟨55, _⟩ => ⟨S16x128, .f32⟩
  | .local _ .vmem, ⟨56, _⟩ => ⟨S16x128, .f32⟩
  | .local _ .vmem, ⟨57, _⟩ => ⟨S8x128, .f32⟩
  | _, _ => ⟨S4x1120x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0_0 : Ref sig .tc := ⟨.hbm, 25, rfl⟩
abbrev main_v0_1 : Ref sig .tc := ⟨.hbm, 26, rfl⟩
abbrev main_v0_2 : Ref sig .tc := ⟨.hbm, 27, rfl⟩
abbrev main_v0_3 : Ref sig .tc := ⟨.hbm, 28, rfl⟩
abbrev main_v0_4 : Ref sig .tc := ⟨.hbm, 29, rfl⟩
abbrev main_v0_5 : Ref sig .tc := ⟨.hbm, 30, rfl⟩
abbrev main_v0_6 : Ref sig .tc := ⟨.hbm, 31, rfl⟩
abbrev main_v0_7 : Ref sig .tc := ⟨.hbm, 32, rfl⟩
abbrev main_v0_8 : Ref sig .tc := ⟨.hbm, 33, rfl⟩
abbrev main_v0_9 : Ref sig .tc := ⟨.hbm, 34, rfl⟩
abbrev main_v0_10 : Ref sig .tc := ⟨.hbm, 35, rfl⟩
abbrev main_v0_11 : Ref sig .tc := ⟨.hbm, 36, rfl⟩
abbrev main_v0_12 : Ref sig .tc := ⟨.hbm, 37, rfl⟩
abbrev main_v0_13 : Ref sig .tc := ⟨.hbm, 38, rfl⟩
abbrev main_v0_14 : Ref sig .tc := ⟨.hbm, 39, rfl⟩
abbrev main_v0_15 : Ref sig .tc := ⟨.hbm, 40, rfl⟩
abbrev main_v0_16 : Ref sig .tc := ⟨.hbm, 41, rfl⟩
abbrev main_v0_17 : Ref sig .tc := ⟨.hbm, 42, rfl⟩
abbrev main_v0_18 : Ref sig .tc := ⟨.hbm, 43, rfl⟩
abbrev main_v0_19 : Ref sig .tc := ⟨.hbm, 44, rfl⟩
abbrev main_v0_20 : Ref sig .tc := ⟨.hbm, 45, rfl⟩
abbrev main_v0_21 : Ref sig .tc := ⟨.hbm, 46, rfl⟩
abbrev main_v0_22 : Ref sig .tc := ⟨.hbm, 47, rfl⟩
abbrev main_v0_23 : Ref sig .tc := ⟨.hbm, 48, rfl⟩
abbrev main_v0_24 : Ref sig .tc := ⟨.hbm, 49, rfl⟩
abbrev main_v0_25 : Ref sig .tc := ⟨.hbm, 50, rfl⟩
abbrev main_v0_26 : Ref sig .tc := ⟨.hbm, 51, rfl⟩
abbrev main_v0_27 : Ref sig .tc := ⟨.hbm, 52, rfl⟩
abbrev main_v0_28 : Ref sig .tc := ⟨.hbm, 53, rfl⟩
abbrev main_v0_29 : Ref sig .tc := ⟨.hbm, 54, rfl⟩
abbrev main_v0_30 : Ref sig .tc := ⟨.hbm, 55, rfl⟩
abbrev main_v0_31 : Ref sig .tc := ⟨.hbm, 56, rfl⟩
abbrev main_v0_32 : Ref sig .tc := ⟨.hbm, 57, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_stg42_0 : Ref sig .tc := ⟨.vmem, 42, rfl⟩
abbrev cc0_stg43_0 : Ref sig .tc := ⟨.vmem, 43, rfl⟩
abbrev cc0_stg44_0 : Ref sig .tc := ⟨.vmem, 44, rfl⟩
abbrev cc0_stg45_0 : Ref sig .tc := ⟨.vmem, 45, rfl⟩
abbrev cc0_stg46_0 : Ref sig .tc := ⟨.vmem, 46, rfl⟩
abbrev cc0_stg47_0 : Ref sig .tc := ⟨.vmem, 47, rfl⟩
abbrev cc0_stg48_0 : Ref sig .tc := ⟨.vmem, 48, rfl⟩
abbrev cc0_stg49_0 : Ref sig .tc := ⟨.vmem, 49, rfl⟩
abbrev cc0_stg50_0 : Ref sig .tc := ⟨.vmem, 50, rfl⟩
abbrev cc0_stg51_0 : Ref sig .tc := ⟨.vmem, 51, rfl⟩
abbrev cc0_stg52_0 : Ref sig .tc := ⟨.vmem, 52, rfl⟩
abbrev cc0_stg53_0 : Ref sig .tc := ⟨.vmem, 53, rfl⟩
abbrev cc0_stg54_0 : Ref sig .tc := ⟨.vmem, 54, rfl⟩
abbrev cc0_stg55_0 : Ref sig .tc := ⟨.vmem, 55, rfl⟩
abbrev cc0_stg56_0 : Ref sig .tc := ⟨.vmem, 56, rfl⟩
abbrev cc0_stg57_0 : Ref sig .tc := ⟨.vmem, 57, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44
abbrev cc0_sem45_0 : DmaSem sig := 45
abbrev cc0_sem46_0 : DmaSem sig := 46
abbrev cc0_sem47_0 : DmaSem sig := 47
abbrev cc0_sem48_0 : DmaSem sig := 48
abbrev cc0_sem49_0 : DmaSem sig := 49
abbrev cc0_sem50_0 : DmaSem sig := 50
abbrev cc0_sem51_0 : DmaSem sig := 51
abbrev cc0_sem52_0 : DmaSem sig := 52
abbrev cc0_sem53_0 : DmaSem sig := 53
abbrev cc0_sem54_0 : DmaSem sig := 54
abbrev cc0_sem55_0 : DmaSem sig := 55
abbrev cc0_sem56_0 : DmaSem sig := 56
abbrev cc0_sem57_0 : DmaSem sig := 57

abbrev nD : Nat := 1
abbrev τ : Topo := Topo.v7x

variable {F : FTy → Type} [FloatOps F]

abbrev grid0 : Pipeline.Grid := .none

abbrev stage0_0 : Fin 1 → Memref sig .tc .vmem S4x1120x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1024x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1024x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1024x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S16x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S16x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S16x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S24x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S24x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S24x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S16x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S16x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S16x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S8x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S8x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S8x128 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S8x128 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S8x128 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S8x128 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S8x128 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S8x128 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S8x128 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S8x128 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S8x128 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S8x128 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S1024x128 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S1024x128 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))

abbrev stage0_39 : Fin 1 → Memref sig .tc .vmem S1024x128 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))

abbrev stage0_40 : Fin 1 → Memref sig .tc .vmem S1024x128 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))

abbrev stage0_41 : Fin 1 → Memref sig .tc .vmem S8x128 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))

abbrev stage0_42 : Fin 1 → Memref sig .tc .vmem S8x128 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))

abbrev stage0_43 : Fin 1 → Memref sig .tc .vmem S8x128 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))

abbrev stage0_44 : Fin 1 → Memref sig .tc .vmem S8x128 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))

abbrev stage0_45 : Fin 1 → Memref sig .tc .vmem S16x128 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))

abbrev stage0_46 : Fin 1 → Memref sig .tc .vmem S16x128 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))

abbrev stage0_47 : Fin 1 → Memref sig .tc .vmem S16x128 .f32 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))

abbrev stage0_48 : Fin 1 → Memref sig .tc .vmem S16x128 .f32 := fun | 0 => Memref.whole cc0_stg48_0 | ⟨_ + 1, h⟩ => absurd h (Nat.not_lt.2 (Nat.le_add_left _ _))
abbrev sem0_48 : Fin 1 → DmaSem sig := fun | 0 => cc0_sem48_0 | ⟨_ + 1, h⟩ => absurd h (Nat.not_lt.2 (Nat.le_add_left _ _))

abbrev stage0_49 : Fin 1 → Memref sig .tc .vmem S24x128 .f32 := fun | 0 => Memref.whole cc0_stg49_0 | ⟨_ + 1, h⟩ => absurd h (Nat.not_lt.2 (Nat.le_add_left _ _))
abbrev sem0_49 : Fin 1 → DmaSem sig := fun | 0 => cc0_sem49_0 | ⟨_ + 1, h⟩ => absurd h (Nat.not_lt.2 (Nat.le_add_left _ _))

abbrev stage0_50 : Fin 1 → Memref sig .tc .vmem S24x128 .f32 := fun | 0 => Memref.whole cc0_stg50_0 | ⟨_ + 1, h⟩ => absurd h (Nat.not_lt.2 (Nat.le_add_left _ _))
abbrev sem0_50 : Fin 1 → DmaSem sig := fun | 0 => cc0_sem50_0 | ⟨_ + 1, h⟩ => absurd h (Nat.not_lt.2 (Nat.le_add_left _ _))

abbrev stage0_51 : Fin 1 → Memref sig .tc .vmem S24x128 .f32 := fun | 0 => Memref.whole cc0_stg51_0 | ⟨_ + 1, h⟩ => absurd h (Nat.not_lt.2 (Nat.le_add_left _ _))
abbrev sem0_51 : Fin 1 → DmaSem sig := fun | 0 => cc0_sem51_0 | ⟨_ + 1, h⟩ => absurd h (Nat.not_lt.2 (Nat.le_add_left _ _))

abbrev stage0_52 : Fin 1 → Memref sig .tc .vmem S24x128 .f32 := fun | 0 => Memref.whole cc0_stg52_0 | ⟨_ + 1, h⟩ => absurd h (Nat.not_lt.2 (Nat.le_add_left _ _))
abbrev sem0_52 : Fin 1 → DmaSem sig := fun | 0 => cc0_sem52_0 | ⟨_ + 1, h⟩ => absurd h (Nat.not_lt.2 (Nat.le_add_left _ _))

abbrev stage0_53 : Fin 1 → Memref sig .tc .vmem S16x128 .f32 := fun | 0 => Memref.whole cc0_stg53_0 | ⟨_ + 1, h⟩ => absurd h (Nat.not_lt.2 (Nat.le_add_left _ _))
abbrev sem0_53 : Fin 1 → DmaSem sig := fun | 0 => cc0_sem53_0 | ⟨_ + 1, h⟩ => absurd h (Nat.not_lt.2 (Nat.le_add_left _ _))

abbrev stage0_54 : Fin 1 → Memref sig .tc .vmem S16x128 .f32 := fun | 0 => Memref.whole cc0_stg54_0 | ⟨_ + 1, h⟩ => absurd h (Nat.not_lt.2 (Nat.le_add_left _ _))
abbrev sem0_54 : Fin 1 → DmaSem sig := fun | 0 => cc0_sem54_0 | ⟨_ + 1, h⟩ => absurd h (Nat.not_lt.2 (Nat.le_add_left _ _))

abbrev stage0_55 : Fin 1 → Memref sig .tc .vmem S16x128 .f32 := fun | 0 => Memref.whole cc0_stg55_0 | ⟨_ + 1, h⟩ => absurd h (Nat.not_lt.2 (Nat.le_add_left _ _))
abbrev sem0_55 : Fin 1 → DmaSem sig := fun | 0 => cc0_sem55_0 | ⟨_ + 1, h⟩ => absurd h (Nat.not_lt.2 (Nat.le_add_left _ _))

abbrev stage0_56 : Fin 1 → Memref sig .tc .vmem S16x128 .f32 := fun | 0 => Memref.whole cc0_stg56_0 | ⟨_ + 1, h⟩ => absurd h (Nat.not_lt.2 (Nat.le_add_left _ _))
abbrev sem0_56 : Fin 1 → DmaSem sig := fun | 0 => cc0_sem56_0 | ⟨_ + 1, h⟩ => absurd h (Nat.not_lt.2 (Nat.le_add_left _ _))

abbrev stage0_57 : Fin 1 → Memref sig .tc .vmem S8x128 .f32 := fun | 0 => Memref.whole cc0_stg57_0 | ⟨_ + 1, h⟩ => absurd h (Nat.not_lt.2 (Nat.le_add_left _ _))
abbrev sem0_57 : Fin 1 → DmaSem sig := fun | 0 => cc0_sem57_0 | ⟨_ + 1, h⟩ => absurd h (Nat.not_lt.2 (Nat.le_add_left _ _))
-- ==== PackedReferenceIdeal.lean ====
abbrev S4x1120x128 : Shape := ⟨3, ![4, 1120, 128]⟩
abbrev S8x128 : Shape := ⟨2, ![8, 128]⟩
abbrev S1024x128 : Shape := ⟨2, ![1024, 128]⟩
abbrev S16x128 : Shape := ⟨2, ![16, 128]⟩
abbrev S24x128 : Shape := ⟨2, ![24, 128]⟩
abbrev S_ : Shape := ⟨0, ![]⟩
abbrev S1120x128 : Shape := ⟨2, ![1120, 128]⟩

abbrev nBuf : Space → Nat
  | .hbm => 300
  | .vmem => 0
  | .smem => 0
  | _ => 0

abbrev hbmTy0_0 (i : Nat) : BufTy := match i % 128 with
  | 0 => ⟨S4x1120x128, .f32⟩
  | 1 => ⟨S8x128, .f32⟩
  | 2 => ⟨S8x128, .f32⟩
  | 3 => ⟨S8x128, .f32⟩
  | 4 => ⟨S8x128, .f32⟩
  | 5 => ⟨S8x128, .f32⟩
  | 6 => ⟨S8x128, .f32⟩
  | 7 => ⟨S8x128, .f32⟩
  | 8 => ⟨S8x128, .f32⟩
  | 9 => ⟨S8x128, .f32⟩
  | 10 => ⟨S1024x128, .f32⟩
  | 11 => ⟨S1024x128, .f32⟩
  | 12 => ⟨S1024x128, .f32⟩
  | 13 => ⟨S8x128, .f32⟩
  | 14 => ⟨S8x128, .f32⟩
  | 15 => ⟨S8x128, .f32⟩
  | 16 => ⟨S16x128, .f32⟩
  | 17 => ⟨S16x128, .f32⟩
  | 18 => ⟨S16x128, .f32⟩
  | 19 => ⟨S24x128, .f32⟩
  | 20 => ⟨S24x128, .f32⟩
  | 21 => ⟨S24x128, .f32⟩
  | 22 => ⟨S16x128, .f32⟩
  | 23 => ⟨S16x128, .f32⟩
  | 24 => ⟨S16x128, .f32⟩
  | 25 => ⟨S_, .f32⟩
  | 26 => ⟨S1120x128, .f32⟩
  | 27 => ⟨S8x128, .f32⟩
  | 28 => ⟨S_, .f32⟩
  | 29 => ⟨S8x128, .f32⟩
  | 30 => ⟨S8x128, .f32⟩
  | 31 => ⟨S_, .f32⟩
  | 32 => ⟨S8x128, .f32⟩
  | 33 => ⟨S8x128, .f32⟩
  | 34 => ⟨S8x128, .f32⟩
  | 35 => ⟨S_, .f32⟩
  | 36 => ⟨S8x128, .f32⟩
  | 37 => ⟨S8x128, .f32⟩
  | 38 => ⟨S8x128, .f32⟩
  | 39 => ⟨S_, .f32⟩
  | 40 => ⟨S8x128, .f32⟩
  | 41 => ⟨S8x128, .f32⟩
  | 42 => ⟨S8x128, .f32⟩
  | 43 => ⟨S_, .f32⟩
  | 44 => ⟨S8x128, .f32⟩
  | 45 => ⟨S8x128, .f32⟩
  | 46 => ⟨S_, .f32⟩
  | 47 => ⟨S8x128, .f32⟩
  | 48 => ⟨S8x128, .f32⟩
  | 49 => ⟨S8x128, .f32⟩
  | 50 => ⟨S_, .f32⟩
  | 51 => ⟨S8x128, .f32⟩
  | 52 => ⟨S8x128, .f32⟩
  | 53 => ⟨S8x128, .f32⟩
  | 54 => ⟨S_, .f32⟩
  | 55 => ⟨S8x128, .f32⟩
  | 56 => ⟨S8x128, .f32⟩
  | 57 => ⟨S8x128, .f32⟩
  | 58 => ⟨S_, .f32⟩
  | 59 => ⟨S8x128, .f32⟩
  | 60 => ⟨S8x128, .f32⟩
  | 61 => ⟨S8x128, .f32⟩
  | 62 => ⟨S_, .f32⟩
  | 63 => ⟨S8x128, .f32⟩
  | 64 => ⟨S8x128, .f32⟩
  | 65 => ⟨S_, .f32⟩
  | 66 => ⟨S8x128, .f32⟩
  | 67 => ⟨S8x128, .f32⟩
  | 68 => ⟨S8x128, .f32⟩
  | 69 => ⟨S_, .f32⟩
  | 70 => ⟨S8x128, .f32⟩
  | 71 => ⟨S8x128, .f32⟩
  | 72 => ⟨S8x128, .f32⟩
  | 73 => ⟨S_, .f32⟩
  | 74 => ⟨S8x128, .f32⟩
  | 75 => ⟨S8x128, .f32⟩
  | 76 => ⟨S8x128, .f32⟩
  | 77 => ⟨S_, .f32⟩
  | 78 => ⟨S8x128, .f32⟩
  | 79 => ⟨S8x128, .f32⟩
  | 80 => ⟨S_, .f32⟩
  | 81 => ⟨S8x128, .f32⟩
  | 82 => ⟨S8x128, .f32⟩
  | 83 => ⟨S8x128, .f32⟩
  | 84 => ⟨S_, .f32⟩
  | 85 => ⟨S8x128, .f32⟩
  | 86 => ⟨S8x128, .f32⟩
  | 87 => ⟨S8x128, .f32⟩
  | 88 => ⟨S_, .f32⟩
  | 89 => ⟨S8x128, .f32⟩
  | 90 => ⟨S8x128, .f32⟩
  | 91 => ⟨S8x128, .f32⟩
  | 92 => ⟨S_, .f32⟩
  | 93 => ⟨S8x128, .f32⟩
  | 94 => ⟨S8x128, .f32⟩
  | 95 => ⟨S8x128, .f32⟩
  | 96 => ⟨S_, .f32⟩
  | 97 => ⟨S8x128, .f32⟩
  | 98 => ⟨S8x128, .f32⟩
  | 99 => ⟨S_, .f32⟩
  | 100 => ⟨S8x128, .f32⟩
  | 101 => ⟨S8x128, .f32⟩
  | 102 => ⟨S8x128, .f32⟩
  | 103 => ⟨S_, .f32⟩
  | 104 => ⟨S8x128, .f32⟩
  | 105 => ⟨S8x128, .f32⟩
  | 106 => ⟨S8x128, .f32⟩
  | 107 => ⟨S_, .f32⟩
  | 108 => ⟨S8x128, .f32⟩
  | 109 => ⟨S8x128, .f32⟩
  | 110 => ⟨S8x128, .f32⟩
  | 111 => ⟨S_, .f32⟩
  | 112 => ⟨S8x128, .f32⟩
  | 113 => ⟨S8x128, .f32⟩
  | 114 => ⟨S_, .f32⟩
  | 115 => ⟨S8x128, .f32⟩
  | 116 => ⟨S8x128, .f32⟩
  | 117 => ⟨S8x128, .f32⟩
  | 118 => ⟨S_, .f32⟩
  | 119 => ⟨S8x128, .f32⟩
  | 120 => ⟨S8x128, .f32⟩
  | 121 => ⟨S8x128, .f32⟩
  | 122 => ⟨S_, .f32⟩
  | 123 => ⟨S8x128, .f32⟩
  | 124 => ⟨S8x128, .f32⟩
  | 125 => ⟨S8x128, .f32⟩
  | 126 => ⟨S_, .f32⟩
  | 127 => ⟨S8x128, .f32⟩
  | _ => ⟨S4x1120x128, .f32⟩

abbrev hbmTy0_1 (i : Nat) : BufTy := match i % 128 with
  | 0 => ⟨S8x128, .f32⟩
  | 1 => ⟨S1024x128, .f32⟩
  | 2 => ⟨S_, .f32⟩
  | 3 => ⟨S1024x128, .f32⟩
  | 4 => ⟨S1024x128, .f32⟩
  | 5 => ⟨S_, .f32⟩
  | 6 => ⟨S1024x128, .f32⟩
  | 7 => ⟨S1024x128, .f32⟩
  | 8 => ⟨S1024x128, .f32⟩
  | 9 => ⟨S_, .f32⟩
  | 10 => ⟨S1024x128, .f32⟩
  | 11 => ⟨S1024x128, .f32⟩
  | 12 => ⟨S1024x128, .f32⟩
  | 13 => ⟨S_, .f32⟩
  | 14 => ⟨S1024x128, .f32⟩
  | 15 => ⟨S1024x128, .f32⟩
  | 16 => ⟨S1024x128, .f32⟩
  | 17 => ⟨S_, .f32⟩
  | 18 => ⟨S1024x128, .f32⟩
  | 19 => ⟨S1024x128, .f32⟩
  | 20 => ⟨S_, .f32⟩
  | 21 => ⟨S1024x128, .f32⟩
  | 22 => ⟨S1024x128, .f32⟩
  | 23 => ⟨S1024x128, .f32⟩
  | 24 => ⟨S_, .f32⟩
  | 25 => ⟨S1024x128, .f32⟩
  | 26 => ⟨S1024x128, .f32⟩
  | 27 => ⟨S1024x128, .f32⟩
  | 28 => ⟨S_, .f32⟩
  | 29 => ⟨S1024x128, .f32⟩
  | 30 => ⟨S1024x128, .f32⟩
  | 31 => ⟨S1024x128, .f32⟩
  | 32 => ⟨S_, .f32⟩
  | 33 => ⟨S1024x128, .f32⟩
  | 34 => ⟨S1024x128, .f32⟩
  | 35 => ⟨S8x128, .f32⟩
  | 36 => ⟨S_, .f32⟩
  | 37 => ⟨S8x128, .f32⟩
  | 38 => ⟨S8x128, .f32⟩
  | 39 => ⟨S_, .f32⟩
  | 40 => ⟨S8x128, .f32⟩
  | 41 => ⟨S8x128, .f32⟩
  | 42 => ⟨S8x128, .f32⟩
  | 43 => ⟨S_, .f32⟩
  | 44 => ⟨S8x128, .f32⟩
  | 45 => ⟨S8x128, .f32⟩
  | 46 => ⟨S8x128, .f32⟩
  | 47 => ⟨S_, .f32⟩
  | 48 => ⟨S8x128, .f32⟩
  | 49 => ⟨S8x128, .f32⟩
  | 50 => ⟨S8x128, .f32⟩
  | 51 => ⟨S_, .f32⟩
  | 52 => ⟨S8x128, .f32⟩
  | 53 => ⟨S8x128, .f32⟩
  | 54 => ⟨S_, .f32⟩
  | 55 => ⟨S8x128, .f32⟩
  | 56 => ⟨S8x128, .f32⟩
  | 57 => ⟨S8x128, .f32⟩
  | 58 => ⟨S_, .f32⟩
  | 59 => ⟨S8x128, .f32⟩
  | 60 => ⟨S8x128, .f32⟩
  | 61 => ⟨S8x128, .f32⟩
  | 62 => ⟨S_, .f32⟩
  | 63 => ⟨S8x128, .f32⟩
  | 64 => ⟨S8x128, .f32⟩
  | 65 => ⟨S8x128, .f32⟩
  | 66 => ⟨S_, .f32⟩
  | 67 => ⟨S8x128, .f32⟩
  | 68 => ⟨S8x128, .f32⟩
  | 69 => ⟨S16x128, .f32⟩
  | 70 => ⟨S_, .f32⟩
  | 71 => ⟨S16x128, .f32⟩
  | 72 => ⟨S16x128, .f32⟩
  | 73 => ⟨S_, .f32⟩
  | 74 => ⟨S16x128, .f32⟩
  | 75 => ⟨S16x128, .f32⟩
  | 76 => ⟨S16x128, .f32⟩
  | 77 => ⟨S_, .f32⟩
  | 78 => ⟨S16x128, .f32⟩
  | 79 => ⟨S16x128, .f32⟩
  | 80 => ⟨S16x128, .f32⟩
  | 81 => ⟨S_, .f32⟩
  | 82 => ⟨S16x128, .f32⟩
  | 83 => ⟨S16x128, .f32⟩
  | 84 => ⟨S16x128, .f32⟩
  | 85 => ⟨S_, .f32⟩
  | 86 => ⟨S16x128, .f32⟩
  | 87 => ⟨S16x128, .f32⟩
  | 88 => ⟨S_, .f32⟩
  | 89 => ⟨S16x128, .f32⟩
  | 90 => ⟨S16x128, .f32⟩
  | 91 => ⟨S16x128, .f32⟩
  | 92 => ⟨S_, .f32⟩
  | 93 => ⟨S16x128, .f32⟩
  | 94 => ⟨S16x128, .f32⟩
  | 95 => ⟨S16x128, .f32⟩
  | 96 => ⟨S_, .f32⟩
  | 97 => ⟨S16x128, .f32⟩
  | 98 => ⟨S16x128, .f32⟩
  | 99 => ⟨S16x128, .f32⟩
  | 100 => ⟨S_, .f32⟩
  | 101 => ⟨S16x128, .f32⟩
  | 102 => ⟨S16x128, .f32⟩
  | 103 => ⟨S24x128, .f32⟩
  | 104 => ⟨S_, .f32⟩
  | 105 => ⟨S24x128, .f32⟩
  | 106 => ⟨S24x128, .f32⟩
  | 107 => ⟨S_, .f32⟩
  | 108 => ⟨S24x128, .f32⟩
  | 109 => ⟨S24x128, .f32⟩
  | 110 => ⟨S24x128, .f32⟩
  | 111 => ⟨S_, .f32⟩
  | 112 => ⟨S24x128, .f32⟩
  | 113 => ⟨S24x128, .f32⟩
  | 114 => ⟨S24x128, .f32⟩
  | 115 => ⟨S_, .f32⟩
  | 116 => ⟨S24x128, .f32⟩
  | 117 => ⟨S24x128, .f32⟩
  | 118 => ⟨S24x128, .f32⟩
  | 119 => ⟨S_, .f32⟩
  | 120 => ⟨S24x128, .f32⟩
  | 121 => ⟨S24x128, .f32⟩
  | 122 => ⟨S_, .f32⟩
  | 123 => ⟨S24x128, .f32⟩
  | 124 => ⟨S24x128, .f32⟩
  | 125 => ⟨S24x128, .f32⟩
  | 126 => ⟨S_, .f32⟩
  | 127 => ⟨S24x128, .f32⟩
  | _ => ⟨S4x1120x128, .f32⟩

abbrev hbmTy0_2 (i : Nat) : BufTy := match i % 128 with
  | 0 => ⟨S24x128, .f32⟩
  | 1 => ⟨S24x128, .f32⟩
  | 2 => ⟨S_, .f32⟩
  | 3 => ⟨S24x128, .f32⟩
  | 4 => ⟨S24x128, .f32⟩
  | 5 => ⟨S24x128, .f32⟩
  | 6 => ⟨S_, .f32⟩
  | 7 => ⟨S24x128, .f32⟩
  | 8 => ⟨S24x128, .f32⟩
  | 9 => ⟨S16x128, .f32⟩
  | 10 => ⟨S_, .f32⟩
  | 11 => ⟨S16x128, .f32⟩
  | 12 => ⟨S16x128, .f32⟩
  | 13 => ⟨S_, .f32⟩
  | 14 => ⟨S16x128, .f32⟩
  | 15 => ⟨S16x128, .f32⟩
  | 16 => ⟨S16x128, .f32⟩
  | 17 => ⟨S_, .f32⟩
  | 18 => ⟨S16x128, .f32⟩
  | 19 => ⟨S16x128, .f32⟩
  | 20 => ⟨S16x128, .f32⟩
  | 21 => ⟨S_, .f32⟩
  | 22 => ⟨S16x128, .f32⟩
  | 23 => ⟨S16x128, .f32⟩
  | 24 => ⟨S16x128, .f32⟩
  | 25 => ⟨S_, .f32⟩
  | 26 => ⟨S16x128, .f32⟩
  | 27 => ⟨S16x128, .f32⟩
  | 28 => ⟨S_, .f32⟩
  | 29 => ⟨S16x128, .f32⟩
  | 30 => ⟨S16x128, .f32⟩
  | 31 => ⟨S16x128, .f32⟩
  | 32 => ⟨S_, .f32⟩
  | 33 => ⟨S16x128, .f32⟩
  | 34 => ⟨S16x128, .f32⟩
  | 35 => ⟨S16x128, .f32⟩
  | 36 => ⟨S_, .f32⟩
  | 37 => ⟨S16x128, .f32⟩
  | 38 => ⟨S16x128, .f32⟩
  | 39 => ⟨S16x128, .f32⟩
  | 40 => ⟨S_, .f32⟩
  | 41 => ⟨S16x128, .f32⟩
  | 42 => ⟨S16x128, .f32⟩
  | 43 => ⟨S8x128, .f32⟩
  | _ => ⟨S4x1120x128, .f32⟩

abbrev hbmTy (i : Nat) : BufTy := match i / 128 with
  | 0 => hbmTy0_0 i
  | 1 => hbmTy0_1 i
  | 2 => hbmTy0_2 i
  | _ => ⟨S4x1120x128, .f32⟩

abbrev bufTy : (tb : Table) → Fin (tcTables nBuf tb) → BufTy
  | .hbm, ⟨i, _⟩ => hbmTy i
  | _, _ => ⟨S4x1120x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_cst : Ref sig .tc := ⟨.hbm, 25, rfl⟩
abbrev main_v0 : Ref sig .tc := ⟨.hbm, 26, rfl⟩
abbrev main_v1 : Ref sig .tc := ⟨.hbm, 27, rfl⟩
abbrev main_cst_0 : Ref sig .tc := ⟨.hbm, 28, rfl⟩
abbrev main_v2 : Ref sig .tc := ⟨.hbm, 29, rfl⟩
abbrev main_v3 : Ref sig .tc := ⟨.hbm, 30, rfl⟩
abbrev main_cst_1 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_cst_2 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_cst_3 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_cst_4 : Ref sig .tc := ⟨.hbm, 43, rfl⟩
abbrev main_v13 : Ref sig .tc := ⟨.hbm, 44, rfl⟩
abbrev main_v14 : Ref sig .tc := ⟨.hbm, 45, rfl⟩
abbrev main_cst_5 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_cst_6 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_cst_7 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_cst_8 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_cst_9 : Ref sig .tc := ⟨.hbm, 62, rfl⟩
abbrev main_v27 : Ref sig .tc := ⟨.hbm, 63, rfl⟩
abbrev main_v28 : Ref sig .tc := ⟨.hbm, 64, rfl⟩
abbrev main_cst_10 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_cst_11 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_cst_12 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_cst_13 : Ref sig .tc := ⟨.hbm, 77, rfl⟩
abbrev main_v38 : Ref sig .tc := ⟨.hbm, 78, rfl⟩
abbrev main_v39 : Ref sig .tc := ⟨.hbm, 79, rfl⟩
abbrev main_cst_14 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_cst_15 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_cst_16 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_cst_17 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_cst_18 : Ref sig .tc := ⟨.hbm, 96, rfl⟩
abbrev main_v52 : Ref sig .tc := ⟨.hbm, 97, rfl⟩
abbrev main_v53 : Ref sig .tc := ⟨.hbm, 98, rfl⟩
abbrev main_cst_19 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_cst_20 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_cst_21 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_cst_22 : Ref sig .tc := ⟨.hbm, 111, rfl⟩
abbrev main_v63 : Ref sig .tc := ⟨.hbm, 112, rfl⟩
abbrev main_v64 : Ref sig .tc := ⟨.hbm, 113, rfl⟩
abbrev main_cst_23 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_cst_24 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_cst_25 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_cst_26 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_cst_27 : Ref sig .tc := ⟨.hbm, 130, rfl⟩
abbrev main_v77 : Ref sig .tc := ⟨.hbm, 131, rfl⟩
abbrev main_v78 : Ref sig .tc := ⟨.hbm, 132, rfl⟩
abbrev main_cst_28 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_cst_29 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_cst_30 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_cst_31 : Ref sig .tc := ⟨.hbm, 145, rfl⟩
abbrev main_v88 : Ref sig .tc := ⟨.hbm, 146, rfl⟩
abbrev main_v89 : Ref sig .tc := ⟨.hbm, 147, rfl⟩
abbrev main_cst_32 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_cst_33 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_cst_34 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_cst_35 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_cst_36 : Ref sig .tc := ⟨.hbm, 164, rfl⟩
abbrev main_v102 : Ref sig .tc := ⟨.hbm, 165, rfl⟩
abbrev main_v103 : Ref sig .tc := ⟨.hbm, 166, rfl⟩
abbrev main_cst_37 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_cst_38 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_cst_39 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_cst_40 : Ref sig .tc := ⟨.hbm, 179, rfl⟩
abbrev main_v113 : Ref sig .tc := ⟨.hbm, 180, rfl⟩
abbrev main_v114 : Ref sig .tc := ⟨.hbm, 181, rfl⟩
abbrev main_cst_41 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_cst_42 : Ref sig .tc := ⟨.hbm, 186, rfl⟩
abbrev main_v118 : Ref sig .tc := ⟨.hbm, 187, rfl⟩
abbrev main_v119 : Ref sig .tc := ⟨.hbm, 188, rfl⟩
abbrev main_v120 : Ref sig .tc := ⟨.hbm, 189, rfl⟩
abbrev main_cst_43 : Ref sig .tc := ⟨.hbm, 190, rfl⟩
abbrev main_v121 : Ref sig .tc := ⟨.hbm, 191, rfl⟩
abbrev main_v122 : Ref sig .tc := ⟨.hbm, 192, rfl⟩
abbrev main_v123 : Ref sig .tc := ⟨.hbm, 193, rfl⟩
abbrev main_cst_44 : Ref sig .tc := ⟨.hbm, 194, rfl⟩
abbrev main_v124 : Ref sig .tc := ⟨.hbm, 195, rfl⟩
abbrev main_v125 : Ref sig .tc := ⟨.hbm, 196, rfl⟩
abbrev main_v126 : Ref sig .tc := ⟨.hbm, 197, rfl⟩
abbrev main_cst_45 : Ref sig .tc := ⟨.hbm, 198, rfl⟩
abbrev main_v127 : Ref sig .tc := ⟨.hbm, 199, rfl⟩
abbrev main_v128 : Ref sig .tc := ⟨.hbm, 200, rfl⟩
abbrev main_cst_46 : Ref sig .tc := ⟨.hbm, 201, rfl⟩
abbrev main_v129 : Ref sig .tc := ⟨.hbm, 202, rfl⟩
abbrev main_v130 : Ref sig .tc := ⟨.hbm, 203, rfl⟩
abbrev main_v131 : Ref sig .tc := ⟨.hbm, 204, rfl⟩
abbrev main_cst_47 : Ref sig .tc := ⟨.hbm, 205, rfl⟩
abbrev main_v132 : Ref sig .tc := ⟨.hbm, 206, rfl⟩
abbrev main_v133 : Ref sig .tc := ⟨.hbm, 207, rfl⟩
abbrev main_v134 : Ref sig .tc := ⟨.hbm, 208, rfl⟩
abbrev main_cst_48 : Ref sig .tc := ⟨.hbm, 209, rfl⟩
abbrev main_v135 : Ref sig .tc := ⟨.hbm, 210, rfl⟩
abbrev main_v136 : Ref sig .tc := ⟨.hbm, 211, rfl⟩
abbrev main_v137 : Ref sig .tc := ⟨.hbm, 212, rfl⟩
abbrev main_cst_49 : Ref sig .tc := ⟨.hbm, 213, rfl⟩
abbrev main_v138 : Ref sig .tc := ⟨.hbm, 214, rfl⟩
abbrev main_v139 : Ref sig .tc := ⟨.hbm, 215, rfl⟩
abbrev main_cst_50 : Ref sig .tc := ⟨.hbm, 216, rfl⟩
abbrev main_v140 : Ref sig .tc := ⟨.hbm, 217, rfl⟩
abbrev main_v141 : Ref sig .tc := ⟨.hbm, 218, rfl⟩
abbrev main_v142 : Ref sig .tc := ⟨.hbm, 219, rfl⟩
abbrev main_cst_51 : Ref sig .tc := ⟨.hbm, 220, rfl⟩
abbrev main_v143 : Ref sig .tc := ⟨.hbm, 221, rfl⟩
abbrev main_v144 : Ref sig .tc := ⟨.hbm, 222, rfl⟩
abbrev main_v145 : Ref sig .tc := ⟨.hbm, 223, rfl⟩
abbrev main_cst_52 : Ref sig .tc := ⟨.hbm, 224, rfl⟩
abbrev main_v146 : Ref sig .tc := ⟨.hbm, 225, rfl⟩
abbrev main_v147 : Ref sig .tc := ⟨.hbm, 226, rfl⟩
abbrev main_v148 : Ref sig .tc := ⟨.hbm, 227, rfl⟩
abbrev main_cst_53 : Ref sig .tc := ⟨.hbm, 228, rfl⟩
abbrev main_v149 : Ref sig .tc := ⟨.hbm, 229, rfl⟩
abbrev main_v150 : Ref sig .tc := ⟨.hbm, 230, rfl⟩
abbrev main_v151 : Ref sig .tc := ⟨.hbm, 231, rfl⟩
abbrev main_cst_54 : Ref sig .tc := ⟨.hbm, 232, rfl⟩
abbrev main_v152 : Ref sig .tc := ⟨.hbm, 233, rfl⟩
abbrev main_v153 : Ref sig .tc := ⟨.hbm, 234, rfl⟩
abbrev main_cst_55 : Ref sig .tc := ⟨.hbm, 235, rfl⟩
abbrev main_v154 : Ref sig .tc := ⟨.hbm, 236, rfl⟩
abbrev main_v155 : Ref sig .tc := ⟨.hbm, 237, rfl⟩
abbrev main_v156 : Ref sig .tc := ⟨.hbm, 238, rfl⟩
abbrev main_cst_56 : Ref sig .tc := ⟨.hbm, 239, rfl⟩
abbrev main_v157 : Ref sig .tc := ⟨.hbm, 240, rfl⟩
abbrev main_v158 : Ref sig .tc := ⟨.hbm, 241, rfl⟩
abbrev main_v159 : Ref sig .tc := ⟨.hbm, 242, rfl⟩
abbrev main_cst_57 : Ref sig .tc := ⟨.hbm, 243, rfl⟩
abbrev main_v160 : Ref sig .tc := ⟨.hbm, 244, rfl⟩
abbrev main_v161 : Ref sig .tc := ⟨.hbm, 245, rfl⟩
abbrev main_v162 : Ref sig .tc := ⟨.hbm, 246, rfl⟩
abbrev main_cst_58 : Ref sig .tc := ⟨.hbm, 247, rfl⟩
abbrev main_v163 : Ref sig .tc := ⟨.hbm, 248, rfl⟩
abbrev main_v164 : Ref sig .tc := ⟨.hbm, 249, rfl⟩
abbrev main_cst_59 : Ref sig .tc := ⟨.hbm, 250, rfl⟩
abbrev main_v165 : Ref sig .tc := ⟨.hbm, 251, rfl⟩
abbrev main_v166 : Ref sig .tc := ⟨.hbm, 252, rfl⟩
abbrev main_v167 : Ref sig .tc := ⟨.hbm, 253, rfl⟩
abbrev main_cst_60 : Ref sig .tc := ⟨.hbm, 254, rfl⟩
abbrev main_v168 : Ref sig .tc := ⟨.hbm, 255, rfl⟩
abbrev main_v169 : Ref sig .tc := ⟨.hbm, 256, rfl⟩
abbrev main_v170 : Ref sig .tc := ⟨.hbm, 257, rfl⟩
abbrev main_cst_61 : Ref sig .tc := ⟨.hbm, 258, rfl⟩
abbrev main_v171 : Ref sig .tc := ⟨.hbm, 259, rfl⟩
abbrev main_v172 : Ref sig .tc := ⟨.hbm, 260, rfl⟩
abbrev main_v173 : Ref sig .tc := ⟨.hbm, 261, rfl⟩
abbrev main_cst_62 : Ref sig .tc := ⟨.hbm, 262, rfl⟩
abbrev main_v174 : Ref sig .tc := ⟨.hbm, 263, rfl⟩
abbrev main_v175 : Ref sig .tc := ⟨.hbm, 264, rfl⟩
abbrev main_v176 : Ref sig .tc := ⟨.hbm, 265, rfl⟩
abbrev main_cst_63 : Ref sig .tc := ⟨.hbm, 266, rfl⟩
abbrev main_v177 : Ref sig .tc := ⟨.hbm, 267, rfl⟩
abbrev main_v178 : Ref sig .tc := ⟨.hbm, 268, rfl⟩
abbrev main_cst_64 : Ref sig .tc := ⟨.hbm, 269, rfl⟩
abbrev main_v179 : Ref sig .tc := ⟨.hbm, 270, rfl⟩
abbrev main_v180 : Ref sig .tc := ⟨.hbm, 271, rfl⟩
abbrev main_v181 : Ref sig .tc := ⟨.hbm, 272, rfl⟩
abbrev main_cst_65 : Ref sig .tc := ⟨.hbm, 273, rfl⟩
abbrev main_v182 : Ref sig .tc := ⟨.hbm, 274, rfl⟩
abbrev main_v183 : Ref sig .tc := ⟨.hbm, 275, rfl⟩
abbrev main_v184 : Ref sig .tc := ⟨.hbm, 276, rfl⟩
abbrev main_cst_66 : Ref sig .tc := ⟨.hbm, 277, rfl⟩
abbrev main_v185 : Ref sig .tc := ⟨.hbm, 278, rfl⟩
abbrev main_v186 : Ref sig .tc := ⟨.hbm, 279, rfl⟩
abbrev main_v187 : Ref sig .tc := ⟨.hbm, 280, rfl⟩
abbrev main_cst_67 : Ref sig .tc := ⟨.hbm, 281, rfl⟩
abbrev main_v188 : Ref sig .tc := ⟨.hbm, 282, rfl⟩
abbrev main_v189 : Ref sig .tc := ⟨.hbm, 283, rfl⟩
abbrev main_cst_68 : Ref sig .tc := ⟨.hbm, 284, rfl⟩
abbrev main_v190 : Ref sig .tc := ⟨.hbm, 285, rfl⟩
abbrev main_v191 : Ref sig .tc := ⟨.hbm, 286, rfl⟩
abbrev main_v192 : Ref sig .tc := ⟨.hbm, 287, rfl⟩
abbrev main_cst_69 : Ref sig .tc := ⟨.hbm, 288, rfl⟩
abbrev main_v193 : Ref sig .tc := ⟨.hbm, 289, rfl⟩
abbrev main_v194 : Ref sig .tc := ⟨.hbm, 290, rfl⟩
abbrev main_v195 : Ref sig .tc := ⟨.hbm, 291, rfl⟩
abbrev main_cst_70 : Ref sig .tc := ⟨.hbm, 292, rfl⟩
abbrev main_v196 : Ref sig .tc := ⟨.hbm, 293, rfl⟩
abbrev main_v197 : Ref sig .tc := ⟨.hbm, 294, rfl⟩
abbrev main_v198 : Ref sig .tc := ⟨.hbm, 295, rfl⟩
abbrev main_cst_71 : Ref sig .tc := ⟨.hbm, 296, rfl⟩
abbrev main_v199 : Ref sig .tc := ⟨.hbm, 297, rfl⟩
abbrev main_v200 : Ref sig .tc := ⟨.hbm, 298, rfl⟩
abbrev main_v201 : Ref sig .tc := ⟨.hbm, 299, rfl⟩

abbrev nD : Nat := 1
abbrev τ : Topo := Topo.v7x

variable {F : FTy → Type} [FloatOps F]
-- ==== Proof.Once.lean ====
module

public import Idealize.ShloMosaic.Lib.Pipeline.Launch
public import Idealize.ShloMosaic.Lib.Rounds

@[expose] public section

noncomputable section

/-! # Transfers that each use their own semaphore cells once

Every device has one cell per key.  A cell is paid once, by one device, and waited for once, by its owner.  A near cell
is paid by its owner (the end of a copy it issued); a far cell is paid by another device, whose landing zone the
owner gives away before anything runs.  A plan lists the keys, the amounts, who pays and what a payment hands over. -/

namespace Once

open Idealize.ShloMosaic
open Idealize.SL
open Idealize.SL.BI
open scoped Idealize.SL.BI
open Idealize.SL.BI.BIBase Idealize.SL.BI.Laws Idealize.SL.Sem Idealize.SL.ProofMode
open Idealize.SL.RA
open Idealize.ShloMosaic.TcCoe
open Idealize.ShloMosaic.Rounds

set_option Elab.async false

variable {nD : Nat} {τ : Topo} {sig : RefSig} {Val : EltTy → Type} {U : Type} [URA U] {K : Type} [Fintype K] [DecidableEq K]

local notation "𝕄" => MT nD τ sig Unit Val ℕ U ℕ

variable (nD τ sig Val U K) in
/-- The keys' cells, amounts, payers, payments and landing zones. -/
structure Plan where
  /-- The semaphore of a key. -/
  osem : K → SemLoc sig
  /-- Two keys have two semaphores. -/
  inj : Function.Injective osem
  /-- The units of the one payment. -/
  amt : K → ℕ
  /-- There is something to pay. -/
  pos : ∀ k, 0 < amt k
  /-- Whose cell a device pays. -/
  peer : K → Equiv.Perm (Dev nD)
  /-- The keys paid by another device. -/
  far : K → Bool
  /-- What the payment hands to the cell's owner. -/
  pay : Dev nD → K → sProp 𝕄
  /-- What the owner gives the payer before the run. -/
  gift : Dev nD → K → sProp 𝕄
  /-- Payments can be kept in an invariant. -/
  store : ∀ c k, Storable (upEmb : UEmb _ 𝕄) (pay c k)

variable (P : Plan nD τ sig Val U K)
variable (ER : Emb (URounds (GSem nD τ sig) Unit) (MT nD τ sig Unit Val ℕ U ℕ))

/-- The cell of a key on a device. -/
def cell (c : Dev nD) (k : K) : GSem nD τ sig := ((c.tc : Thread nD τ), P.osem k)

theorem cell_inj : Function.Injective fun x : Dev nD × K => cell P x.1 x.2 := by
  rintro ⟨c, k⟩ ⟨c', k'⟩ h
  have h1 : c = c' := congrArg (fun g : GSem nD τ sig => g.1.1) h
  have h2 : k = k' := P.inj (congrArg Prod.snd h)
  subst h1; subst h2; rfl

open Classical in
/-- The one round of every cell of the plan. -/
def sched : Schedule (GSem nD τ sig) Unit 𝕄 where
  duties g r := if r = 0 ∧ ∃ x : Dev nD × K, cell P x.1 x.2 = g then {()} else ∅
  amount g _ _ := if h : ∃ x : Dev nD × K, cell P x.1 x.2 = g then P.amt h.choose.2 else 0
  payload g _ _ := if h : ∃ x : Dev nD × K, cell P x.1 x.2 = g then P.pay h.choose.1 h.choose.2 else iprop(emp)
  amount_pos := by
    intro g r d hd
    have h : r = 0 ∧ ∃ x : Dev nD × K, cell P x.1 x.2 = g := by
      by_contra hn; rw [if_neg hn] at hd; exact absurd hd (Finset.notMem_empty _)
    rw [dif_pos h.2]; exact P.pos _

theorem chosen (c : Dev nD) (k : K) (h : ∃ x : Dev nD × K, cell P x.1 x.2 = cell P c k) : h.choose = (c, k) :=
  cell_inj P h.choose_spec

theorem duties_cell (c : Dev nD) (k : K) : (sched P).duties (cell P c k) 0 = {()} := if_pos ⟨rfl, (c, k), rfl⟩
theorem duties_later (c : Dev nD) (k : K) (r : ℕ) (h : 1 ≤ r) : (sched P).duties (cell P c k) r = ∅ := if_neg fun h' => by omega
theorem amount_cell (c : Dev nD) (k : K) : (sched P).amount (cell P c k) 0 () = P.amt k := by
  have h : ∃ x : Dev nD × K, cell P x.1 x.2 = cell P c k := ⟨(c, k), rfl⟩
  show (if h : _ then _ else _) = _
  rw [dif_pos h, chosen]
theorem payload_cell (c : Dev nD) (k : K) : (sched P).payload (cell P c k) 0 () = P.pay c k := by
  have h : ∃ x : Dev nD × K, cell P x.1 x.2 = cell P c k := ⟨(c, k), rfl⟩
  show (if h : _ then _ else _) = _
  rw [dif_pos h, chosen]
theorem expect_cell (c : Dev nD) (k : K) : (sched P).expect (cell P c k) 0 = P.amt k := by
  unfold Schedule.expect Schedule.amountOf
  rw [duties_cell, Finset.sum_singleton, amount_cell]

instance storable (g : GSem nD τ sig) (r : ℕ) (d : Unit) : Storable (upEmb : UEmb _ 𝕄) ((sched P).payload g r d) := by
  by_cases h : ∃ x : Dev nD × K, cell P x.1 x.2 = g
  · rw [show (sched P).payload g r d = P.pay h.choose.1 h.choose.2 from dif_pos h]; exact P.store _ _
  · rw [show (sched P).payload g r d = iprop(emp) from dif_neg h]; infer_instance

/-! ## What is owed, and the levels -/

/-- What device `c` still owes when the cells of `S` are unpaid. -/
def owe (c : Dev nD) (S : Finset K) : CellTallies nD τ sig Unit :=
  ∑ k ∈ S.filter fun k => P.far k = true, tallyAt (cell P (P.peer k c) k) () (P.amt k)

def L (g : GSem nD τ sig) : Finset Unit := if g.1.2 = .tc then {()} else ∅
/-- Far cells lie above everything else. -/
def lv (g : GSem nD τ sig) (_ : Unit) : ℕ := by
  classical exact if ∃ k, P.far k = true ∧ P.osem k = g.2 then 1 else 0
theorem L_of_ne (g : GSem nD τ sig) (h : g.1.2 ≠ .tc) : L g = ∅ := if_neg h
theorem L_tc (c : Dev nD) (sm : SemLoc sig) : L ((c.tc : Thread nD τ), sm) = {()} := if_pos rfl

theorem owe_pos {c : Dev nD} {S : Finset K} {g : GSem nD τ sig} {u : Unit} (h : 0 < owe P c S g u) :
    ∃ k, P.far k = true ∧ g = cell P (P.peer k c) k := by
  unfold owe at h
  rw [Finset.sum_apply, Finsupp.finsetSum_apply] at h
  obtain ⟨k, hk, hne⟩ := Finset.exists_ne_zero_of_sum_ne_zero (Nat.pos_iff_ne_zero.mp h)
  refine ⟨k, (Finset.mem_filter.mp hk).2, ?_⟩
  rw [tallyAt_apply] at hne
  by_contra hg
  exact hne (if_neg fun h' => hg h'.1)

/-- A device may wait at a semaphore that is no far cell's whatever it owes. -/
theorem mayWait_low (c : Dev nD) (sm : SemLoc sig) (h : ∀ k, P.far k = true → P.osem k ≠ sm) (S : Finset K) :
    (levAts L (lv P) : sProp 𝕄) ⊢ MayWait (c.tc : Thread nD τ) sm () (owe P c S) := by
  refine MayOwe.of_cut (L := L) (lev := lv P) 0 (fun p hp => by rw [Finset.mem_singleton.mp hp, L_tc]; exact Finset.mem_singleton_self _)
    (fun g u hg => by obtain ⟨k, -, rfl⟩ := owe_pos P hg; exact Finset.mem_singleton_self _)
    (fun p hp => ?_) (fun g u hg => ?_)
  · rw [Finset.mem_singleton.mp hp]
    show (if _ then 1 else 0) ≤ 0
    rw [if_neg fun ⟨k, hk, hs⟩ => h k hk hs]
  · obtain ⟨k, hk, rfl⟩ := owe_pos P hg
    show 0 < (if _ then 1 else 0)
    rw [if_pos ⟨k, hk, rfl⟩]; decide

theorem owe_none (c : Dev nD) (S : Finset K) (h : ∀ k ∈ S, P.far k = false) : owe P c S = 0 := by
  unfold owe
  rw [Finset.filter_eq_empty_iff.mpr fun k hk => by rw [h k hk]; decide, Finset.sum_empty]

theorem owe_erase (c : Dev nD) (S : Finset K) (k : K) (hk : k ∈ S) (hf : P.far k = true) :
    owe P c S = owe P c (S.erase k) + tallyAt (cell P (P.peer k c) k) () (P.amt k) := by
  unfold owe
  rw [← Finset.sum_erase_add _ _ (Finset.mem_filter.mpr ⟨hk, hf⟩), Finset.filter_erase]

theorem owe_erase_near (c : Dev nD) (S : Finset K) (k : K) (hf : P.far k = false) : owe P c (S.erase k) = owe P c S := by
  unfold owe
  rw [Finset.filter_erase, Finset.erase_eq_of_notMem]
  rw [Finset.mem_filter, hf]; rintro ⟨-, h⟩; cases h

/-! ## What a device holds of the plan -/

/-- A cell is in the plan, and open. -/
def known (c : Dev nD) (k : K) : sProp 𝕄 := iprop((∃ κ, cellInv ER (sched P) κ (cell P c k)) ∗ reached ER (cell P c k) 0)

instance (c : Dev nD) (k : K) : Persistent (known P ER c k) := by unfold known; infer_instance

/-- Every cell is known, and the levels are fixed. -/
def facts : sProp 𝕄 := iprop((bigSep Finset.univ fun x : Dev nD × K => known P ER x.1 x.2) ∗ levAts L (lv P))

instance : Persistent (facts P ER) := by unfold facts; infer_instance

theorem facts_known (c : Dev nD) (k : K) : facts P ER ⊢ known P ER c k := by
  have h : (bigSep Finset.univ fun x : Dev nD × K => known P ER x.1 x.2) ⊢ known P ER c k :=
    bigSep_elim (Φ := fun x : Dev nD × K => known P ER x.1 x.2) (Finset.mem_univ (c, k))
  unfold facts
  iintro ⟨H, -⟩
  iapply h
  iexact H

theorem facts_levels : facts P ER ⊢ (levAts L (lv P) : sProp 𝕄) := by
  unfold facts; iintro ⟨-, H⟩; iexact H

/-- The right to pay one cell, with its landing zone. -/
def due (c : Dev nD) (k : K) : sProp 𝕄 := iprop(dutyTok ER (cell P (P.peer k c) k) 0 () ∗ P.gift (P.peer k c) k)

/-- The keys whose credit a device holds when `S` is unpaid and `T` not waited for. -/
def credited (S T : Finset K) : Finset K := T.filter fun k => P.far k = true ∨ k ∉ S

/-- What device `c` holds when it has still to pay the cells of `S` and to wait for those of `T`. -/
def st (c : Dev nD) (S T : Finset K) : sProp 𝕄 :=
  iprop(facts P ER ∗ bigSep S (due P ER c) ∗ (bigSep T fun k => atPos ER (cell P c k) 0 (∅ : Finset Unit) 0)
    ∗ (bigSep Tᶜ fun k => semVal (cell P c k) 0) ∗ bigSep (credited P S T) fun k => cred (tallyAt (cell P c k) () (P.amt k)))

/-- The same with what it owes. -/
def sto (c : Dev nD) (S T : Finset K) : sProp 𝕄 := iprop(st P ER c S T ∗ ∃ W, owes (c.tc : Thread nD τ) (owe P c S) W)

theorem st_end (c : Dev nD) (S : Finset K) : st P ER c S ∅ ⊢ (bigSep Finset.univ fun k => semVal (cell P c k) 0 : sProp 𝕄) := by
  unfold st
  rw [Finset.compl_empty]
  iintro ⟨-, -, -, H, -⟩
  iexact H

section Rules

variable {Λ : Labels} {defs : Defs nD τ sig Val Λ} {𝒱 : Variants} {bd : Option 𝒱.V}

/-- A wait for one's own cell: near cells at any time, far cells once nothing is owed. -/
theorem wait (c : Dev nD) {α : Type} {Q : α → sProp 𝕄} (k : K) (S T : Finset K) (hT : k ∈ T) (hS : P.far k = false → k ∉ S)
    (hfar : P.far k = true → ∀ k' ∈ S, P.far k' = false)
    {w : TpuEff nD τ sig Val Λ .tc PUnit}
    (hw : ∀ R : PUnit → sProp 𝕄, wpE defs 𝒱 (c.tc : Thread nD τ) bd Set.univ w R = waitSpec (c.tc : Thread nD τ) Set.univ (P.osem k) (P.amt k) R)
    {n : PUnit → Prog (TpuEff nD τ sig Val Λ .tc) α} :
    sto P ER c S T ⊢ iprop(((P.pay c k ∗ sto P ER c S (T.erase k)) -∗ wp frame (wpE defs 𝒱 (c.tc : Thread nD τ) bd) Set.univ (n ⟨⟩) Q)
      -∗ wp frame (wpE defs 𝒱 (c.tc : Thread nD τ) bd) Set.univ (.op w n) Q) := by
  have hcr : k ∈ credited P S T := Finset.mem_filter.mpr ⟨hT, by
    cases h : P.far k
    · exact Or.inr (hS h)
    · exact Or.inl rfl⟩
  have hcr' : (credited P S T).erase k = credited P S (T.erase k) := by unfold credited; rw [Finset.filter_erase]
  have hcompl : (T.erase k)ᶜ = insert k Tᶜ := Finset.compl_erase
  have hmay : facts P ER ⊢ MayWait (c.tc : Thread nD τ) (P.osem k) () (owe P c S) := by
    cases h : P.far k
    · exact (facts_levels P ER).trans (mayWait_low P c _ (fun k' hk' he => by rw [P.inj he] at hk'; rw [hk'] at h; cases h) S)
    · rw [owe_none P c S (hfar h), MayWait_zero]; iintro -; iempintro
  unfold sto st
  rw [hcompl, ← hcr', show (bigSep (insert k Tᶜ) fun k => (semVal (cell P c k) 0 : sProp 𝕄)) = iprop(semVal (cell P c k) 0 ∗ bigSep Tᶜ fun k => semVal (cell P c k) 0) from bigSep_insert (by rw [Finset.mem_compl]; exact fun h => h hT),
    show (bigSep T fun k => (atPos ER (cell P c k) 0 (∅ : Finset Unit) 0 : sProp 𝕄)) = iprop(atPos ER (cell P c k) 0 (∅ : Finset Unit) 0 ∗ bigSep (T.erase k) fun k => atPos ER (cell P c k) 0 (∅ : Finset Unit) 0) from bigSep_erase hT,
    show (bigSep (credited P S T) fun k => (cred (tallyAt (cell P c k) () (P.amt k)) : sProp 𝕄)) = iprop(cred (tallyAt (cell P c k) () (P.amt k)) ∗ bigSep ((credited P S T).erase k) fun k => cred (tallyAt (cell P c k) () (P.amt k))) from bigSep_erase hcr]
  iintro ⟨⟨#Hf, Hdue, ⟨Hat, Hats⟩, Hz, ⟨Hcr, Hcrs⟩⟩, ⟨%W, HO⟩⟩ Hk
  ihave Hkn := (facts_known P ER c k) $$ Hf
  unfold known
  icases Hkn with ⟨⟨%κ, #HI⟩, -⟩
  iapply (Rounds.wp_wait_rest_token 𝒱 ER (sched P) (c.tc : Thread nD τ) bd (κ := κ) hw (Set.mem_univ _) () (O := owe P c S) (W := W) (R := 0) (m := 0) (T := ∅)
    (by rw [Nat.zero_add]; exact (expect_cell P c k).symm)) $$ [Hcr HO Hat]
  · isplitr; · iexact HI
    isplitl [Hcr]; · iexact Hcr
    isplitl [HO]; · iexact HO
    isplitr; · iapply hmay; iexact Hf
    iexact Hat
  iintro ⟨HO, Hat, -, Hp⟩
  ihave Hp' := (show (bigSep ((sched P).duties ((c.tc : Thread nD τ), P.osem k) 0 \ ∅) fun d => (sched P).payload ((c.tc : Thread nD τ), P.osem k) 0 d) ⊢ P.pay c k from by
    rw [Finset.sdiff_empty, show (sched P).duties ((c.tc : Thread nD τ), P.osem k) 0 = {()} from duties_cell P c k, bigSep_singleton]
    exact Entails.of_eq (payload_cell P c k)) $$ Hp
  iapply (fupd_wp frame (wpE defs 𝒱 (c.tc : Thread nD τ) bd) Set.univ _ _)
  imod (Rounds.cell_close ER (sched P) (g := cell P c k) (κ := κ) (Set.mem_univ κ) (fun h => h) (R := 1) (fun r hr => duties_later P c k r hr)) $$ [Hat] with Hzk
  · isplitr; · iexact HI
    iexact Hat
  imodintro
  iapply Hk
  isplitl [Hp']; · iexact Hp'
  isplitr [HO]
  · isplitr; · iexact Hf
    isplitl [Hdue]; · iexact Hdue
    isplitl [Hats]; · iexact Hats
    isplitl [Hz Hzk]
    · isplitl [Hzk] <;> iassumption
    iexact Hcrs
  · iexists _; iexact HO

theorem credited_pay (S T : Finset K) (k : K) (hT : k ∈ T) (hS : k ∈ S) (hf : P.far k = false) :
    credited P (S.erase k) T = insert k (credited P S T) ∧ k ∉ credited P S T := by
  unfold credited
  constructor
  · ext k'
    simp only [Finset.mem_filter, Finset.mem_insert, Finset.mem_erase]
    by_cases h : k' = k
    · subst h; simp [hT]
    · simp [h]
  · rw [Finset.mem_filter, hf]; rintro ⟨-, h | h⟩
    · cases h
    · exact h hS

theorem credited_far (S T : Finset K) (k : K) (hf : P.far k = true) : credited P (S.erase k) T = credited P S T := by
  unfold credited
  refine Finset.filter_congr fun k' _ => ?_
  by_cases h : k' = k
  · subst h; simp [hf]
  · simp [Finset.mem_erase, h]

/-- A copy within the device, paying a near cell. -/
theorem copy (c : Dev nD) {α : Type} {Q : α → sProp 𝕄} (k : K) (S T : Finset K) (hS : k ∈ S) (hT : k ∈ T) (hnear : P.far k = false) (hto : P.peer k c = c)
    {sp sp' : Space} {s : Shape} {e : EltTy}
    {src : Memref sig .tc sp s e} {dst : Memref sig .tc sp' s e} {sem : SemLoc sig}
    {hsrc : src.view.WordExact} {hdst : dst.view.WordExact} {hsem : DmaTarget.Typed (nD := nD) sp sem (DmaTarget.here (nD := nD) (p := (c.tc : Thread nD τ).2) dst)}
    {n : PUnit → Prog (TpuEff nD τ sig Val Λ .tc) α} {q : PosShare TreeShare} {fs : Buf Val (src.view.loc (c.tc : Thread nD τ))}
    (hs : sem = P.osem k) (hN : dst.view.amount sem = P.amt k)
    {fd : Buf Val (dst.view.loc (c.tc : Thread nD τ))}
    (hpay : iprop((dst.view.loc (c.tc : Thread nD τ) ↦[dst.view.set]{fullShare} (dst.view.write Val fd (src.view.read Val fs) Finset.univ))
              ∗ (src.view.loc (c.tc : Thread nD τ) ↦[src.view.set]{q} fs)) ⊢ P.pay c k) :
    iprop(sto P ER c S T ∗ (src.view.loc (c.tc : Thread nD τ) ↦[src.view.set]{q} fs) ∗ (dst.view.loc (c.tc : Thread nD τ) ↦[dst.view.set]{fullShare} fd))
      ⊢ iprop((sto P ER c (S.erase k) T -∗ wp frame (wpE defs 𝒱 (c.tc : Thread nD τ) bd) Set.univ (n ⟨⟩) Q)
      -∗ wp frame (wpE defs 𝒱 (c.tc : Thread nD τ) bd) Set.univ (.op (.enqueueDma src (.here dst) sem hsrc hdst hsem) n) Q) := by
  subst hs
  obtain ⟨hcr, hcr'⟩ := credited_pay P S T k hT hS hnear
  unfold sto st
  rw [owe_erase_near P c S k hnear, hcr, show (bigSep (insert k (credited P S T)) fun k => (cred (tallyAt (cell P c k) () (P.amt k)) : sProp 𝕄)) = iprop(cred (tallyAt (cell P c k) () (P.amt k)) ∗ bigSep (credited P S T) fun k => cred (tallyAt (cell P c k) () (P.amt k))) from bigSep_insert hcr',
    show bigSep S (due P ER c) = iprop(due P ER c k ∗ bigSep (S.erase k) (due P ER c)) from bigSep_erase hS]
  unfold due
  rw [hto]
  iintro ⟨⟨⟨#Hf, ⟨⟨Htok, -⟩, Hdue⟩, Hats, Hz, Hcrs⟩, ⟨%W, HO⟩⟩, Hsrc, Hdst⟩ Hk
  ihave Hkn := (facts_known P ER c k) $$ Hf
  unfold known
  icases Hkn with ⟨⟨%κ, #HI⟩, #Hr⟩
  iapply (Rounds.wp_copy_pointsTo 𝒱 ER (sched P) (c.tc : Thread nD τ) bd (κ := κ) (r := 0) (d := ())
      (by rw [show (sched P).duties ((c.tc : Thread nD τ), P.osem k) 0 = {()} from duties_cell P c k]; exact Finset.mem_singleton_self _) () (P.amt k)
      hN (amount_cell P c k) (hpay.trans (Entails.of_eq (payload_cell P c k).symm))) $$ [Hsrc Hdst Htok]
  · isplitr; · iexact HI
    isplitl [Hsrc]; · iexact Hsrc
    isplitl [Hdst]; · iexact Hdst
    isplitl [Htok]; · iexact Htok
    iexact Hr
  iintro Hcr
  iapply Hk
  isplitr [HO]
  · isplitr; · iexact Hf
    isplitl [Hdue]; · iexact Hdue
    isplitl [Hats]; · iexact Hats
    isplitl [Hz]; · iexact Hz
    isplitl [Hcr]; · iexact Hcr
    iexact Hcrs
  · iexists W; iexact HO

/-- A copy to another device, paying a near cell when it has left and the peer's far cell when it has landed. -/
theorem send (c : Dev nD) {α : Type} {Q : α → sProp 𝕄} (ks kr : K) (S T : Finset K) (hks : ks ∈ S) (hT : ks ∈ T) (hkr : kr ∈ S)
    (hnear : P.far ks = false) (hfar : P.far kr = true) (hto : P.peer ks c = c)
    {sp sp' : Space} {s : Shape} {e : EltTy} {c' : Dev nD}
    {src : Memref sig .tc sp s e} {dst : Memref sig .tc sp' s e} {hsc : dst.view.ref.isScScratch = false} {sS sem : SemLoc sig}
    {hsrc : src.view.WordExact} {hdst : dst.view.WordExact} {hsem : DmaTarget.Typed sp sem (.remote (c'.tc : Thread nD τ) dst sS hsc)}
    {n : PUnit → Prog (TpuEff nD τ sig Val Λ .tc) α} {q : PosShare TreeShare} {fs : Buf Val (src.view.loc (c.tc : Thread nD τ))}
    (hc' : c' = P.peer kr c) (hsS : sS = P.osem ks) (hs : sem = P.osem kr) (hN : dst.view.amount sem = P.amt kr) (hNs : P.amt ks = P.amt kr)
    (hgift : P.gift c' kr ⊢ iprop(∃ fd, dst.view.loc (c'.tc : Thread nD τ) ↦[dst.view.set]{fullShare} fd))
    (hpay₁ : (src.view.loc (c.tc : Thread nD τ) ↦[src.view.set]{q} fs) ⊢ P.pay c ks)
    (hpay₂ : ∀ fd, (dst.view.loc (c'.tc : Thread nD τ) ↦[dst.view.set]{fullShare} (dst.view.write Val fd (src.view.read Val fs) Finset.univ)) ⊢ P.pay c' kr)
    (hr : τ.routes (c.tc : Thread nD τ) (c'.tc : Thread nD τ) = true := by routes) :
    iprop(sto P ER c S T ∗ (src.view.loc (c.tc : Thread nD τ) ↦[src.view.set]{q} fs))
      ⊢ iprop((sto P ER c ((S.erase ks).erase kr) T -∗ wp frame (wpE defs 𝒱 (c.tc : Thread nD τ) bd) Set.univ (n ⟨⟩) Q)
      -∗ wp frame (wpE defs 𝒱 (c.tc : Thread nD τ) bd) Set.univ (.op (.enqueueDma src (.remote (c'.tc : Thread nD τ) dst sS hsc) sem hsrc hdst hsem) n) Q) := by
  subst hs; subst hsS; subst hc'
  obtain ⟨hcr, hcr'⟩ := credited_pay P S T ks hT hks hnear
  have hne : kr ≠ ks := fun h => by rw [h, hnear] at hfar; cases hfar
  unfold sto st
  rw [credited_far P (S.erase ks) T kr hfar, hcr, show (bigSep (insert ks (credited P S T)) fun k => (cred (tallyAt (cell P c k) () (P.amt k)) : sProp 𝕄)) = iprop(cred (tallyAt (cell P c ks) () (P.amt ks)) ∗ bigSep (credited P S T) fun k => cred (tallyAt (cell P c k) () (P.amt k))) from bigSep_insert hcr',
    show bigSep S (due P ER c) = iprop(due P ER c ks ∗ bigSep (S.erase ks) (due P ER c)) from bigSep_erase hks,
    show bigSep (S.erase ks) (due P ER c) = iprop(due P ER c kr ∗ bigSep ((S.erase ks).erase kr) (due P ER c)) from bigSep_erase (Finset.mem_erase.mpr ⟨hne, hkr⟩),
    ← owe_erase_near P c S ks hnear, owe_erase P c (S.erase ks) kr (Finset.mem_erase.mpr ⟨hne, hkr⟩) hfar]
  unfold due
  rw [hto]
  iintro ⟨⟨⟨#Hf, ⟨⟨Htok, -⟩, ⟨Htok', Hg⟩, Hdue⟩, Hats, Hz, Hcrs⟩, ⟨%W, HO⟩⟩, Hsrc⟩ Hk
  ihave Hkn := (facts_known P ER c ks) $$ Hf
  ihave Hkn' := (facts_known P ER (P.peer kr c) kr) $$ Hf
  ihave Hg' := hgift $$ Hg
  unfold known
  icases Hkn with ⟨⟨%κ, #HI⟩, #Hr⟩
  icases Hkn' with ⟨⟨%κ', #HI'⟩, #Hr'⟩
  icases Hg' with ⟨%fd, Hdst⟩
  iapply (Rounds.wp_send_pointsTo 𝒱 ER (sched P) (c.tc : Thread nD τ) bd (κ₁ := κ) (κ₂ := κ') (r₁ := 0) (r₂ := 0) (d₁ := ()) (d₂ := ())
      (by rw [show (sched P).duties ((c.tc : Thread nD τ), P.osem ks) 0 = {()} from duties_cell P c ks]; exact Finset.mem_singleton_self _)
      (by rw [show (sched P).duties (((P.peer kr c).tc : Thread nD τ), P.osem kr) 0 = {()} from duties_cell P (P.peer kr c) kr]; exact Finset.mem_singleton_self _)
      () () (P.amt kr) hN ((amount_cell P c ks).trans hNs) (amount_cell P (P.peer kr c) kr) (owe P c ((S.erase ks).erase kr)) rfl
      (hpay₁.trans (Entails.of_eq (payload_cell P c ks).symm)) ((hpay₂ fd).trans (Entails.of_eq (payload_cell P (P.peer kr c) kr).symm)) hr) $$ [Hsrc Hdst HO Htok Htok']
  · isplitr; · iexact HI
    isplitr; · iexact HI'
    isplitl [Hsrc]; · iexact Hsrc
    isplitl [Hdst]; · iexact Hdst
    isplitl [HO]; · iexact HO
    isplitl [Htok]; · iexact Htok
    isplitr; · iexact Hr
    isplitl [Htok']; · iexact Htok'
    iexact Hr'
  rw [← hNs]
  iintro ⟨Hcr, HO⟩
  iapply Hk
  isplitr [HO]
  · isplitr; · iexact Hf
    isplitl [Hdue]; · iexact Hdue
    isplitl [Hats]; · iexact Hats
    isplitl [Hz]; · iexact Hz
    isplitl [Hcr]; · iexact Hcr
    iexact Hcrs
  · iexists W; iexact HO

end Rules

/-! ## The launch -/

/-- The cells of the plan. -/
def cells : Finset (GSem nD τ sig) := Finset.univ.map ⟨fun x : Dev nD × K => cell P x.1 x.2, cell_inj P⟩
/-- One payment each. -/
def toks : Finset (GSem nD τ sig × ℕ × Unit) :=
  Finset.univ.map ⟨fun x : Dev nD × K => (cell P x.1 x.2, 0, ()), fun _ _ h => cell_inj P (congrArg Prod.fst h)⟩

/-- The ghost state of the plan before its cells are opened. -/
def ghost : sProp 𝕄 := iprop((bigSep Finset.univ fun x : Dev nD × K => roundState ER (sched P) (cell P x.1 x.2) 0)
  ∗ (bigSep Finset.univ fun x : Dev nD × K => reached ER (cell P x.1 x.2) 0)
  ∗ (bigSep Finset.univ fun x : Dev nD × K => atPos ER (cell P x.1 x.2) 0 (∅ : Finset Unit) 0)
  ∗ bigSep Finset.univ fun x : Dev nD × K => dutyTok ER (cell P x.1 x.2) 0 ())

theorem fund : BI.own (ER (initOf (cells P) (toks P))) ⊢ (|==> ghost P ER : sProp 𝕄) := by
  have hX (Φ : GSem nD τ sig → sProp 𝕄) : bigSep (cells P) Φ = bigSep Finset.univ fun x : Dev nD × K => Φ (cell P x.1 x.2) := by
    unfold cells; rw [bigSep_map]; rfl
  have hT : bigSep (toks P) (fun x => (dutyTok ER x.1 x.2.1 x.2.2 : sProp 𝕄)) = bigSep Finset.univ fun x : Dev nD × K => dutyTok ER (cell P x.1 x.2) 0 () := by
    unfold toks; rw [bigSep_map]; rfl
  refine (Rounds.fund ER (sched P) (cells P) (toks P)).trans (Entails.of_eq ?_)
  unfold ghost
  rw [hX, hX, hX, hT]

/-- What every device owes at the start. -/
def owe₀ (c : Dev nD) : CellTallies nD τ sig Unit := owe P c Finset.univ

theorem credits (c : Dev nD) : (Pipeline.launchCred (owe₀ P) c : sProp 𝕄)
    ⊢ bigSep (credited P Finset.univ Finset.univ) fun k => cred (tallyAt (cell P c k) () (P.amt k)) := by
  have h : credited P Finset.univ Finset.univ = Finset.univ.filter fun k => P.far k = true :=
    Finset.filter_congr fun k _ => by simp
  rw [h, show owe₀ P = fun d => ∑ k ∈ Finset.univ.filter (fun k => P.far k = true), tallyAt (cell P (P.peer k d) k) () (P.amt k) from rfl,
    Pipeline.launchCred_sum]
  exact bigSep_mono fun k _ => Pipeline.launchCred_tallyAt (P.osem k) (P.peer k) (P.peer k).symm (fun c => (P.peer k).apply_symm_apply c)
    (fun d => (P.peer k).symm_apply_apply d) () (P.amt k) c

theorem around (Φ : Dev nD → K → sProp 𝕄) :
    (bigSep Finset.univ fun x : Dev nD × K => Φ x.1 x.2) = bigSep Finset.univ fun c : Dev nD => bigSep Finset.univ fun k => Φ (P.peer k c) k := by
  have h1 := bigSep_univ_equiv (⟨fun x => (P.peer x.2 x.1, x.2), fun x => ((P.peer x.2).symm x.1, x.2),
    fun x => by simp, fun x => by simp⟩ : Dev nD × K ≃ Dev nD × K) (fun x : Dev nD × K => Φ x.1 x.2)
  rw [h1, bigSep_univ_prod]
  rfl

theorem with_facts {I : Type} [DecidableEq I] {S : Finset I} {R : sProp 𝕄} [Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- Opening every cell and dealing the rights, the landing zones and the credits. -/
theorem deal [ER.LandsIn (upEmb : UEmb _ (MT nD τ sig Unit Val ℕ U ℕ))] (Z : Dev nD → sProp 𝕄) :
    iprop((bigSep Finset.univ fun c => Pipeline.ownSems0 (Ix := Unit) (Name := ℕ) (U := U) (Lvl := ℕ) (Val := Val) (τ := τ) P.osem c)
        ∗ (bigSep Finset.univ fun c => iprop((bigSep Finset.univ fun k => P.gift c k) ∗ Z c))
        ∗ (bigSep Finset.univ fun c => Pipeline.launchCred (owe₀ P) c) ∗ levAts L (lv P) ∗ ghost P ER)
      ⊢ |={Set.univ}=> bigSep Finset.univ fun c => iprop(st P ER c Finset.univ Finset.univ ∗ Z c) := by
  have h : iprop(facts P ER ∗ bigSep Finset.univ fun c : Dev nD => iprop((bigSep Finset.univ fun k => dutyTok ER (cell P (P.peer k c) k) 0 ())
    ∗ (bigSep Finset.univ fun k => P.gift (P.peer k c) k) ∗ (bigSep Finset.univ fun k => atPos ER (cell P c k) 0 (∅ : Finset Unit) 0)
    ∗ Pipeline.launchCred (owe₀ P) c ∗ Z c)) ⊢ bigSep Finset.univ fun c => iprop(st P ER c Finset.univ Finset.univ ∗ Z c) := by
    refine with_facts fun c _ => ?_
    unfold st due
    rw [Finset.compl_univ, bigSep_empty, bigSep_sep']
    iintro ⟨Hf, Htok, Hg, Hat, Hcr, HZ⟩
    isplitr [HZ]
    · isplitl [Hf]; · iexact Hf
      isplitl [Htok Hg]
      · isplitl [Htok] <;> iassumption
      isplitl [Hat]; · iexact Hat
      isplitr; · iempintro
      iapply (credits P c); iexact Hcr
    · iexact HZ
  unfold ghost
  rw [bigSep_sep', ← bigSep_univ_prod (fun x : Dev nD × K => P.gift x.1 x.2), around P (fun c k => P.gift c k),
    around P (fun c k => dutyTok ER (cell P c k) 0 ()),
    show (bigSep Finset.univ fun c => Pipeline.ownSems0 (Ix := Unit) (Name := ℕ) (U := U) (Lvl := ℕ) (Val := Val) (τ := τ) P.osem c)
      = bigSep Finset.univ fun x : Dev nD × K => (semVal (cell P x.1 x.2) 0 : sProp 𝕄) from by rw [bigSep_univ_prod]; rfl]
  iintro ⟨Hz, ⟨Hgift, HZ⟩, Hcr, #Hlev, Hst, #Hr, Hat, Htok⟩
  imod (show iprop((bigSep Finset.univ fun x : Dev nD × K => semVal (cell P x.1 x.2) 0) ∗ bigSep Finset.univ fun x : Dev nD × K => roundState ER (sched P) (cell P x.1 x.2) 0)
      ⊢ (|={Set.univ}=> bigSep Finset.univ fun x : Dev nD × K => iprop(∃ κ : ℕ, cellInv ER (sched P) κ (cell P x.1 x.2)) : sProp 𝕄) from by
        rw [← bigSep_sep']
        exact (bigSep_mono fun (x : Dev nD × K) _ => (Rounds.body_intro ER (sched P) (cell P x.1 x.2)).trans
          (inv_alloc (P := Rounds.body ER (sched P) (cell P x.1 x.2)))).trans (bigSep_fupd _ _)) $$ [Hz Hst] with #HI
  · isplitl [Hz] <;> iassumption
  imodintro
  iapply h
  isplitr
  · unfold facts known
    isplitr
    · rw [bigSep_sep']; isplitr
      · iexact HI
      · iexact Hr
    · iexact Hlev
  · simp only [bigSep_sep']
    isplitl [Htok]; · iexact Htok
    isplitl [Hgift]; · iexact Hgift
    isplitl [Hat]
    · iapply (Entails.of_eq (bigSep_univ_prod (fun x : Dev nD × K => (atPos ER (cell P x.1 x.2) 0 (∅ : Finset Unit) 0 : sProp 𝕄)))); iexact Hat
    isplitl [Hcr] <;> iassumption

end Once
-- ==== Proof.Rows.lean ====
module

public import Idealize.ShloMosaic.Lib.ValueLayout
public import Idealize.ShloMosaic.Lib.Ring
public import proofs.«01_k».proof.Proof.Once

@[expose] public section

noncomputable section

/-! # Transfers of one plane of a stack of planes

A stack is a buffer of shape `[n, p, r]`; its plane `q` is the `[p, r]` part with leading coordinate `q`.  A stack held
whole is held plane by plane, and a transfer from one plane to another carries the plane's entries. -/

namespace Rows

open Idealize.ShloMosaic
open Idealize.SL
open Idealize.SL.BI
open scoped Idealize.SL.BI
open Idealize.SL.BI.BIBase Idealize.SL.BI.Laws Idealize.SL.Sem Idealize.SL.ProofMode
open Idealize.SL.RA
open Idealize.ShloMosaic.TcCoe
open Idealize.ShloMosaic.Rounds
open Idealize.ShloMosaic.Pipeline Idealize.ShloMosaic.Ring
open Idealize.ShloMosaic.ValueIdx

set_option Elab.async false

section Geometry

variable {sig : RefSig} {sp : Space} {e : EltTy} {n p r : ℕ}

theorem plane_inb (q : Fin n) : ∀ a, (![q.val, 0, 0] : Fin 3 → ℕ) a + (⟨3, ![1, p, r]⟩ : Shape).size a ≤ (⟨3, ![n, p, r]⟩ : Shape).size a := by
  intro a
  fin_cases a
  · show q.val + 1 ≤ n; exact q.isLt
  · show 0 + p ≤ p; omega
  · show 0 + r ≤ r; omega

theorem plane_drop (h : (⟨3, ![1, p, r]⟩ : Shape).Squeezes ⟨2, ![p, r]⟩ := by decide) : (⟨3, ![1, p, r]⟩ : Shape).Squeezes ⟨2, ![p, r]⟩ := h

variable (sq : (⟨3, ![1, p, r]⟩ : Shape).Squeezes ⟨2, ![p, r]⟩)

/-- Plane `q` of a stack. -/
abbrev row (M : Memref sig .tc sp ⟨3, ![n, p, r]⟩ e) (q : Fin n) : Memref sig .tc sp ⟨2, ![p, r]⟩ e :=
  (M.slice (Rect.unit (s := ⟨3, ![n, p, r]⟩) ![q.val, 0, 0] (⟨3, ![1, p, r]⟩ : Shape).size (plane_inb q)) (fun _ => rfl)).squeeze ⟨2, ![p, r]⟩ sq

theorem row_emb (M : Memref sig .tc sp ⟨3, ![n, p, r]⟩ e) (q : Fin n) (y : Fin p) (z : Fin r) :
    (row sq M q).view.emb (ix2 y z) = M.view.emb (ix3 q y z) := by
  show M.view.emb ((Rect.unit (s := ⟨3, ![n, p, r]⟩) ![q.val, 0, 0] (⟨3, ![1, p, r]⟩ : Shape).size (plane_inb q)).emb (Shape.reshapeEquiv _ (ix2 y z))) = _
  congr 1
  rw [reshapeEquiv_ix2_1ab]
  funext a
  apply Fin.ext
  rw [Rect.emb_apply]
  fin_cases a
  · show q.val + 1 * 0 = q.val; omega
  · show 0 + 1 * y.val = y.val; omega
  · show 0 + 1 * z.val = z.val; omega

theorem mem_row (M : Memref sig .tc sp ⟨3, ![n, p, r]⟩ e) (q : Fin n) (i) :
    i ∈ (row sq M q).view.set ↔ ∃ y z, M.view.emb (ix3 q y z) = i := by
  constructor
  · intro h
    obtain ⟨j, -, rfl⟩ := Finset.mem_map.mp h
    refine ⟨j 0, j 1, ?_⟩
    have := row_emb sq M q (j 0) (j 1)
    rw [← this]
    congr 1
    exact (eq_ix2 j).symm
  · rintro ⟨y, z, rfl⟩
    rw [← row_emb sq M q y z]
    exact View.emb_mem_set _ _

theorem row_disjoint (M : Memref sig .tc sp ⟨3, ![n, p, r]⟩ e) (q q' : Fin n) (h : q ≠ q') :
    Disjoint (row sq M q).view.set (row sq M q').view.set := by
  rw [Finset.disjoint_left]
  intro i hi hi'
  obtain ⟨y, z, rfl⟩ := (mem_row sq M q i).mp hi
  obtain ⟨y', z', h'⟩ := (mem_row sq M q' _).mp hi'
  have := M.view.emb.injective h'
  exact h (congrFun this 0).symm

/-- The elements of plane `q`. -/
abbrev rowSet (M : Memref sig .tc sp ⟨3, ![n, p, r]⟩ e) (q : Fin n) : Finset M.view.ty.Idx := (row sq M q).view.set

theorem row_cover (M : Memref sig .tc sp ⟨3, ![n, p, r]⟩ e) (hM : M.view.set = Finset.univ) (σ : Fin n → Fin n) (hσ : Function.Injective σ) :
    (Finset.univ : Finset (Fin n)).biUnion (fun q => rowSet sq M (σ q)) = Finset.univ := by
  ext i
  simp only [Finset.mem_biUnion, Finset.mem_univ, true_and, iff_true]
  have hi : i ∈ M.view.set := by rw [hM]; exact Finset.mem_univ _
  obtain ⟨x, -, rfl⟩ := Finset.mem_map.mp hi
  obtain ⟨q, hq⟩ := (Finite.injective_iff_surjective.mp hσ) (x 0)
  refine ⟨q, (mem_row sq M (σ q) _).mpr ⟨x 1, x 2, ?_⟩⟩
  rw [hq]
  congr 1
  exact (eq_ix3 x).symm

variable {Val : EltTy → Type}

theorem row_read (M : Memref sig .tc sp ⟨3, ![n, p, r]⟩ e) (q : Fin n) (f : M.view.ty.Contents Val) (y : Fin p) (z : Fin r) :
    (row sq M q).view.read Val f (ix2 y z) = M.view.read Val f (ix3 q y z) := by
  unfold View.read
  rw [row_emb]

/-- What a plane holds once another plane's entries were written to it. -/
theorem write_agrees {sp' : Space} {n' : ℕ} (A : Memref sig .tc sp ⟨3, ![n, p, r]⟩ e) (D : Memref sig .tc sp' ⟨3, ![n', p, r]⟩ e)
    (qa : Fin n) (qd : Fin n') (fA : A.view.ty.Contents Val) (fd g : D.view.ty.Contents Val)
    (hg : ∀ y z, D.view.read Val g (ix3 qd y z) = A.view.read Val fA (ix3 qa y z)) :
    ∀ i ∈ (row sq D qd).view.set, (row sq D qd).view.write Val fd ((row sq A qa).view.read Val fA) Finset.univ i = g i := by
  intro i hi
  obtain ⟨j, -, rfl⟩ := Finset.mem_map.mp hi
  obtain ⟨y, z, rfl⟩ : ∃ (y : Fin p) (z : Fin r), j = ix2 y z := ⟨j 0, j 1, eq_ix2 j⟩
  have e1 : (row sq D qd).view.read Val ((row sq D qd).view.write Val fd ((row sq A qa).view.read Val fA) Finset.univ) (ix2 y z)
      = (row sq D qd).view.read Val g (ix2 y z) := by
    rw [View.read_write_univ, row_read, row_read]
    exact (hg _ _).symm
  unfold View.read at e1
  exact (cast_inj _).mp e1

end Geometry

section Held

variable {nD : Nat} {τ : Topo} {sig : RefSig} {Val : EltTy → Type} {U : Type} [URA U]

local notation "𝕄" => MT nD τ sig Unit Val ℕ U ℕ

variable {sp : Space} {e : EltTy} {n p r : ℕ} (sq : (⟨3, ![1, p, r]⟩ : Shape).Squeezes ⟨2, ![p, r]⟩)

/-- Device `c` holds plane `q` of its stack at the entries of `f`. -/
def own (c : Dev nD) (M : Memref sig .tc sp ⟨3, ![n, p, r]⟩ e) (q : Fin n) (f : Buf Val (M.view.loc (c.tc : Thread nD τ))) : sProp 𝕄 :=
  (row sq M q).view.loc (c.tc : Thread nD τ) ↦[(row sq M q).view.set]{fullShare} f

theorem own_storable (c : Dev nD) (M : Memref sig .tc sp ⟨3, ![n, p, r]⟩ e) (q : Fin n) (f : Buf Val (M.view.loc (c.tc : Thread nD τ))) :
    Storable (upEmb : UEmb _ 𝕄) (own (U := U) sq c M q f) := by
  unfold own; infer_instance

/-- A stack held whole is held plane by plane, the planes in any order. -/
theorem whole_rows (c : Dev nD) (M : Memref sig .tc sp ⟨3, ![n, p, r]⟩ e) (hM : M.view.set = Finset.univ) (σ : Fin n → Fin n)
    (hσ : Function.Injective σ) (f : Buf Val (M.view.loc (c.tc : Thread nD τ))) :
    (M.view.loc (c.tc : Thread nD τ) ↦{fullShare} f : sProp 𝕄) = bigSep Finset.univ fun q => own sq c M (σ q) f :=
  pointsTo_blocks (ℓ := M.view.loc (c.tc : Thread nD τ)) (fun q => rowSet sq M (σ q)) (fun q q' h => row_disjoint sq M _ _ fun e => h (hσ e))
    (row_cover sq M hM σ hσ) f

theorem rows_whole_exists (c : Dev nD) (M : Memref sig .tc sp ⟨3, ![n, p, r]⟩ e) (hM : M.view.set = Finset.univ) (σ : Fin n → Fin n)
    (hσ : Function.Injective σ) (f₀ : Buf Val (M.view.loc (c.tc : Thread nD τ))) :
    (bigSep Finset.univ fun q => iprop(∃ f, own sq c M (σ q) f)) ⊢ (iprop(∃ f, M.view.loc (c.tc : Thread nD τ) ↦{fullShare} f) : sProp 𝕄) :=
  pointsTo_blocks_join_exists (ℓ := M.view.loc (c.tc : Thread nD τ)) (fun q => rowSet sq M (σ q)) (fun q q' h => row_disjoint sq M _ _ fun e => h (hσ e))
    (row_cover sq M hM σ hσ) f₀

section Rules

variable {K : Type} [Fintype K] [DecidableEq K] (P : Once.Plan nD τ sig Val U K)
variable (ER : Emb (URounds (GSem nD τ sig) Unit) (MT nD τ sig Unit Val ℕ U ℕ))
variable {Λ : Labels} {defs : Defs nD τ sig Val Λ} {𝒱 : Variants} {bd : Option 𝒱.V}

/-- A plane copied to a plane of the device's own. -/
theorem copyRow (c : Dev nD) {α : Type} {Q : α → sProp 𝕄} (k : K) (S T : Finset K) (hS : k ∈ S) (hT : k ∈ T) (hnear : P.far k = false)
    (hto : P.peer k c = c) {sp' : Space} {n' : ℕ}
    (A : Memref sig .tc sp ⟨3, ![n, p, r]⟩ e) (D : Memref sig .tc sp' ⟨3, ![n', p, r]⟩ e) (qa : Fin n) (qd : Fin n')
    {oa od : Fin 3 → ℕ} (ha : oa = ![qa.val, 0, 0]) (hd : od = ![qd.val, 0, 0]) {ia id sa sd za zd} {sem : SemLoc sig}
    {hsrc hdst hsem} {k' : PUnit → Prog (TpuEff nD τ sig Val Λ .tc) α}
    (hs : sem = P.osem k) (hN : (row sq D qd).view.amount sem = P.amt k)
    (fA : Buf Val (A.view.loc (c.tc : Thread nD τ))) (g fd : Buf Val (D.view.loc (c.tc : Thread nD τ)))
    (hg : ∀ y z, D.view.read Val g (ix3 qd y z) = A.view.read Val fA (ix3 qa y z))
    (hpay : iprop(own sq c D qd g ∗ own sq c A qa fA) ⊢ P.pay c k) :
    iprop(Once.sto P ER c S T ∗ own sq c A qa fA ∗ own sq c D qd fd)
      ⊢ iprop((Once.sto P ER c (S.erase k) T -∗ wp frame (wpE defs 𝒱 (c.tc : Thread nD τ) bd) Set.univ (k' ⟨⟩) Q)
      -∗ wp frame (wpE defs 𝒱 (c.tc : Thread nD τ) bd) Set.univ
          (.op (.enqueueDma ((A.slice (Rect.unit (s := ⟨3, ![n, p, r]⟩) oa (⟨3, ![1, p, r]⟩ : Shape).size ia) sa).squeeze ⟨2, ![p, r]⟩ za)
            (.here ((D.slice (Rect.unit (s := ⟨3, ![n', p, r]⟩) od (⟨3, ![1, p, r]⟩ : Shape).size id) sd).squeeze ⟨2, ![p, r]⟩ zd)) sem hsrc hdst hsem) k') Q) := by
  subst ha hd
  refine Once.copy P ER c k S T hS hT hnear hto (src := row sq A qa) (dst := row sq D qd) hs hN (fs := fA) (fd := fd) (q := fullShare) ?_
  refine BIBase.Entails.trans ?_ hpay
  unfold own
  rw [pointsTo_congr (write_agrees sq A D qa qd fA fd g hg)]

/-- A plane sent to a plane of another device. -/
theorem sendRow (c : Dev nD) {α : Type} {Q : α → sProp 𝕄} (ks kr : K) (S T : Finset K) (hks : ks ∈ S) (hT : ks ∈ T) (hkr : kr ∈ S)
    (hnear : P.far ks = false) (hfar : P.far kr = true) (hto : P.peer ks c = c) {sp' : Space} {n' : ℕ} {c' : Dev nD}
    (A : Memref sig .tc sp ⟨3, ![n, p, r]⟩ e) (D : Memref sig .tc sp' ⟨3, ![n', p, r]⟩ e) (qa : Fin n) (qd : Fin n')
    {oa od : Fin 3 → ℕ} (ha : oa = ![qa.val, 0, 0]) (hd : od = ![qd.val, 0, 0]) {ia id sa sd za zd hsc} {sS sem : SemLoc sig}
    {hsrc hdst hsem} {k' : PUnit → Prog (TpuEff nD τ sig Val Λ .tc) α}
    (hc' : c' = P.peer kr c) (hsS : sS = P.osem ks) (hs : sem = P.osem kr) (hN : (row sq D qd).view.amount sem = P.amt kr)
    (hNs : P.amt ks = P.amt kr)
    (fA : Buf Val (A.view.loc (c.tc : Thread nD τ))) (g : Buf Val (D.view.loc ((P.peer kr c).tc : Thread nD τ)))
    (hg : ∀ y z, D.view.read Val g (ix3 qd y z) = A.view.read Val fA (ix3 qa y z))
    (hgift : P.gift (P.peer kr c) kr ⊢ iprop(∃ fd, own sq (P.peer kr c) D qd fd))
    (hpay₁ : own sq c A qa fA ⊢ P.pay c ks)
    (hpay₂ : own sq (P.peer kr c) D qd g ⊢ P.pay (P.peer kr c) kr)
    (hr : τ.routes (c.tc : Thread nD τ) (c'.tc : Thread nD τ) = true := by routes) :
    iprop(Once.sto P ER c S T ∗ own sq c A qa fA)
      ⊢ iprop((Once.sto P ER c ((S.erase ks).erase kr) T -∗ wp frame (wpE defs 𝒱 (c.tc : Thread nD τ) bd) Set.univ (k' ⟨⟩) Q)
      -∗ wp frame (wpE defs 𝒱 (c.tc : Thread nD τ) bd) Set.univ
          (.op (.enqueueDma ((A.slice (Rect.unit (s := ⟨3, ![n, p, r]⟩) oa (⟨3, ![1, p, r]⟩ : Shape).size ia) sa).squeeze ⟨2, ![p, r]⟩ za)
            (.remote (c'.tc : Thread nD τ) ((D.slice (Rect.unit (s := ⟨3, ![n', p, r]⟩) od (⟨3, ![1, p, r]⟩ : Shape).size id) sd).squeeze ⟨2, ![p, r]⟩ zd) sS hsc)
            sem hsrc hdst hsem) k') Q) := by
  subst ha hd hc'
  refine Once.send P ER c ks kr S T hks hT hkr hnear hfar hto (src := row sq A qa) (dst := row sq D qd) rfl hsS hs hN hNs (fs := fA) (q := fullShare) hgift hpay₁ ?_ hr
  intro fd
  refine BIBase.Entails.trans ?_ hpay₂
  unfold own
  rw [pointsTo_congr (write_agrees sq A D qa qd fA fd g hg)]

end Rules

end Held

end Rows

end
-- ==== Proof.Plan.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Frame
public import Mathlib.Tactic.DeriveFintype
public import proofs.«01_k».proof.Proof.Rows

@[expose] public section

noncomputable section

/-! # The exchange of the weight-gradient kernel, as a plan

A device is numbered `2 * chip + core`.  While the kernel multiplies, every device sends three planes of each of four
stacks to the device of the same core on each of the three other chips and copies the fourth plane to itself, and after
each of the four pairs of output blocks it sends one of the pair's two blocks to the other core of its chip. -/

namespace Cert.KernelIdeal.GW

open Idealize.ShloMosaic
open Idealize.SL
open Idealize.SL.BI
open scoped Idealize.SL.BI
open Idealize.SL.BI.BIBase Idealize.SL.BI.Laws Idealize.SL.Sem Idealize.SL.ProofMode
open Idealize.SL.RA
open Idealize.ShloMosaic.TcCoe
open Idealize.ShloMosaic.Rounds
open Idealize.ShloMosaic.ValueIdx
open Cert.KernelIdeal.Gen

set_option Elab.async false

variable {F : FTy → Type} [FloatOps F]

/-! ## Devices -/

/-- The device whose number differs from `c`'s in the bits of `e`. -/
def flip (e : Fin 8) : Equiv.Perm (Dev nD) :=
  Function.Involutive.toPerm (fun d : Fin 8 => d ^^^ e) (by unfold Function.Involutive; revert e; decide)

def chip (c : Dev nD) : Fin 4 := ⟨c.val / 2, by have := c.isLt; change c.val < 8 at this; omega⟩
def core (c : Dev nD) : Fin 2 := ⟨c.val % 2, by omega⟩
/-- The other core. -/
def other (c : Dev nD) : Fin 2 := ⟨1 - c.val % 2, by omega⟩
/-- The chip whose number differs from that of `c`'s chip in the bits of `k`. -/
def opp (c : Dev nD) (k : Fin 4) : Fin 4 := chip c ^^^ k
/-- The device of `c`'s core on chip `q`. -/
def onChip (c : Dev nD) (q : Fin 4) : Dev nD := ⟨2 * q.val + c.val % 2, by have := q.isLt; show _ < 8; omega⟩

/-- The offset of a far partner: three chips. -/
def bits (k : Fin 3) : Fin 8 := ⟨2 * (k.val + 1), by omega⟩

theorem opp_zero (c : Dev nD) : opp c 0 = chip c := by revert c; decide
theorem opp_injective (c : Dev nD) : Function.Injective (opp c) := by
  unfold Function.Injective; revert c; decide
theorem opp_flip (c : Dev nD) (k : Fin 3) : opp (flip (bits k) c) k.succ = chip c := by revert c k; decide
theorem opp_flip' (c : Dev nD) (k : Fin 3) : chip (flip (bits k) c) = opp c k.succ := by revert c k; decide
theorem onChip_flip (c : Dev nD) (k : Fin 3) : onChip (flip (bits k) c) (chip c) = c := by revert c k; decide
theorem onChip_self (c : Dev nD) : onChip c (chip c) = c := by revert c; decide
theorem core_flip (c : Dev nD) : core (flip 1 c) = other c := by revert c; decide
theorem flip_flip (e : Fin 8) (c : Dev nD) : flip e (flip e c) = c := by revert e c; decide

/-! ## Keys -/

/-- The single-use cells: `ps`, `pr` a block sent to and received from the other core; `sd`, `rv` a plane sent to and received
    from another chip; `lc` a plane copied on the device. -/
inductive Key
  | ps (j : Fin 4)
  | pr (j : Fin 4)
  | sd (a : Fin 4) (k : Fin 3)
  | rv (a : Fin 4) (k : Fin 3)
  | lc (a : Fin 4)
  deriving DecidableEq, Fintype

/-- The number of a key's semaphore. -/
def num : Key → ℕ
  | .ps j => 6 + j.val
  | .pr j => 10 + j.val
  | .sd a k => 15 + 8 * a.val + k.val
  | .rv a k => 47 + 8 * a.val + k.val
  | .lc a => 78 + a.val

theorem num_lt (k : Key) : num k < 82 := by revert k; decide
theorem num_ge (k : Key) : 6 ≤ num k := by revert k; decide

/-- A key's semaphore. -/
def osem (k : Key) : SemLoc sig := .dma ⟨num k, num_lt k⟩

theorem num_inj : ∀ k k' : Key, num k = num k' → k = k' := by decide +kernel

theorem osem_inj : Function.Injective osem := by
  intro k k' h
  unfold osem at h
  injection h with h
  exact num_inj k k' (congrArg Fin.val h)

def far : Key → Bool
  | .pr _ => true
  | .rv _ _ => true
  | _ => false

def peer : Key → Equiv.Perm (Dev nD)
  | .pr _ => flip 1
  | .rv _ k => flip (bits k)
  | _ => Equiv.refl _

/-! ## Stacks -/

abbrev A0 : Memref sig .tc .hbm S4x256x2048 .bf16 := Memref.whole main_arg2
abbrev A1 : Memref sig .tc .hbm S4x128x256 .bf16 := Memref.whole main_arg3
abbrev A2 : Memref sig .tc .hbm S4x1120x128 .f32 := Memref.whole main_arg4
abbrev A3 : Memref sig .tc .hbm S4x384x2048 .bf16 := Memref.whole main_arg5
abbrev D0 : Memref sig .tc .hbm S4x256x2048 .bf16 := Memref.whole main_v1_2
abbrev D1 : Memref sig .tc .hbm S4x128x256 .bf16 := Memref.whole main_v1_3
abbrev D2 : Memref sig .tc .hbm S4x1120x128 .f32 := Memref.whole main_v1_4
abbrev D3 : Memref sig .tc .hbm S4x384x2048 .bf16 := Memref.whole main_v1_5
abbrev TH : Memref sig .tc .hbm S4x2048x896 .bf16 := Memref.whole main_v1_1
abbrev SB : Memref sig .tc .vmem S2x2048x896 .bf16 := Memref.whole cc0_scratch1
abbrev AC : Memref sig .tc .vmem S2048x1792 .f32 := Memref.whole cc0_scratch0

theorem q0 : S1x256x2048.Squeezes S256x2048 := squeezes_S1x256x2048_S256x2048
theorem q1 : S1x128x256.Squeezes S128x256 := squeezes_S1x128x256_S128x256
theorem q2 : S1x1120x128.Squeezes S1120x128 := squeezes_S1x1120x128_S1120x128
theorem q3 : S1x384x2048.Squeezes S384x2048 := squeezes_S1x384x2048_S384x2048
theorem q4 : S1x2048x896.Squeezes S2048x896 := squeezes_S1x2048x896_S2048x896

/-- The units of a key's payment. -/
def amt : Key → ℕ
  | .ps _ | .pr _ => (Rows.row q4 TH 0).view.dmaCredit
  | .sd 0 _ | .rv 0 _ | .lc 0 => (Rows.row q0 D0 0).view.dmaCredit
  | .sd 1 _ | .rv 1 _ | .lc 1 => (Rows.row q1 D1 0).view.dmaCredit
  | .sd 2 _ | .rv 2 _ | .lc 2 => (Rows.row q2 D2 0).view.dmaCredit
  | .sd 3 _ | .rv 3 _ | .lc 3 => (Rows.row q3 D3 0).view.dmaCredit

theorem amt_pos (k : Key) : 0 < amt k := by
  unfold amt
  split <;> exact View.dmaCredit_pos _ (by decide)

/-! ## Contents -/

variable (m : (ℓ : Loc nD τ sig) → Buf (Elt F) ℓ)

/-- Plane `q` of what arrives: plane `chip c` of the stack of the device of the same core on chip `q`. -/
def arrived {p r : ℕ} {α : Type} (f : Dev nD → (⟨3, ![4, p, r]⟩ : Shape).Idx → α) (c : Dev nD) : (⟨3, ![4, p, r]⟩ : Shape).Idx → α :=
  fun x => f (onChip c (x 0)) (ix3 (chip c) (x 1) (x 2))

def s0 (c : Dev nD) : S4x256x2048.Idx → Elt F .bf16 := m (c.tc.loc main_arg2)
def s1 (c : Dev nD) : S4x128x256.Idx → Elt F .bf16 := m (c.tc.loc main_arg3)
def s2 (c : Dev nD) : S4x1120x128.Idx → Elt F .f32 := m (c.tc.loc main_arg4)
def s3 (c : Dev nD) : S4x384x2048.Idx → Elt F .bf16 := m (c.tc.loc main_arg5)

/-- The staged rows of the left factor at point `t`. -/
def ablk (c : Dev nD) (t : ℕ) : Vec F S1024x2048 .bf16 := if h : t < cfg0.N then iblk m c 0 ⟨t, h⟩ else fun _ => Scalar.ofBits .bf16 0
/-- The staged rows of the right factor at point `t`. -/
def bblk (c : Dev nD) (t : ℕ) : Vec F S1024x1792 .bf16 := if h : t < cfg0.N then iblk m c 1 ⟨t, h⟩ else fun _ => Scalar.ofBits .bf16 0

/-- The accumulator after point `t`: restarted at each multiple of four. -/
def accAt (c : Dev nD) : ℕ → Vec F S2048x1792 .f32
  | 0 => k0_pay1 k0_pay8 (k0_pay9 (ablk m c 0)) (bblk m c 0)
  | t + 1 => k0_pay1 (if (t + 1) % 4 = 0 then k0_pay8 else accAt c t) (k0_pay9 (ablk m c (t + 1))) (bblk m c (t + 1))

/-- The columns `o, …, o + 895` of the accumulator. -/
def half (A : Vec F S2048x1792 .f32) (b : Fin 2) : Vec F S2048x896 .f32 :=
  fun x => A (ix2 (x 0) ⟨896 * b.val + (x 1).val, by have h : (x 1).val < 896 := (x 1).isLt; have := b.isLt; omega⟩)

/-- The two blocks of pair `j`. -/
def blocks (c : Dev nD) (j : ℕ) : S2x2048x896.Idx → Elt F .bf16 :=
  fun x => k0_pay3 (half (accAt m c (4 * j + 3)) (x 0)) (ix3 (0 : Fin 1) (x 1) (x 2))

/-- What arrives from the other core: of each of its pairs the block with this core's number. -/
def theirs (c : Dev nD) : S4x2048x896.Idx → Elt F .bf16 :=
  fun x => blocks m (flip 1 c) (x 0).val (ix3 (core c) (x 1) (x 2))

/-! ## The plan -/

variable {U : Type} [URA U]
local notation "𝕄" => MT nD τ sig Unit (Elt F) ℕ U ℕ

def pay (c : Dev nD) : Key → sProp 𝕄
  | .ps j => Rows.own q4 c SB (other c) (blocks m c j.val)
  | .pr j => Rows.own q4 c TH j (theirs m c)
  | .sd 0 k => Rows.own q0 c A0 (opp c k.succ) (s0 m c)
  | .sd 1 k => Rows.own q1 c A1 (opp c k.succ) (s1 m c)
  | .sd 2 k => Rows.own q2 c A2 (opp c k.succ) (s2 m c)
  | .sd 3 k => Rows.own q3 c A3 (opp c k.succ) (s3 m c)
  | .rv 0 k => Rows.own q0 c D0 (opp c k.succ) (arrived (s0 m) c)
  | .rv 1 k => Rows.own q1 c D1 (opp c k.succ) (arrived (s1 m) c)
  | .rv 2 k => Rows.own q2 c D2 (opp c k.succ) (arrived (s2 m) c)
  | .rv 3 k => Rows.own q3 c D3 (opp c k.succ) (arrived (s3 m) c)
  | .lc 0 => iprop(Rows.own q0 c D0 (opp c 0) (arrived (s0 m) c) ∗ Rows.own q0 c A0 (opp c 0) (s0 m c))
  | .lc 1 => iprop(Rows.own q1 c D1 (opp c 0) (arrived (s1 m) c) ∗ Rows.own q1 c A1 (opp c 0) (s1 m c))
  | .lc 2 => iprop(Rows.own q2 c D2 (opp c 0) (arrived (s2 m) c) ∗ Rows.own q2 c A2 (opp c 0) (s2 m c))
  | .lc 3 => iprop(Rows.own q3 c D3 (opp c 0) (arrived (s3 m) c) ∗ Rows.own q3 c A3 (opp c 0) (s3 m c))

def gift (c : Dev nD) : Key → sProp 𝕄
  | .pr j => iprop(∃ f, Rows.own q4 c TH j f)
  | .rv 0 k => iprop(∃ f, Rows.own q0 c D0 (opp c k.succ) f)
  | .rv 1 k => iprop(∃ f, Rows.own q1 c D1 (opp c k.succ) f)
  | .rv 2 k => iprop(∃ f, Rows.own q2 c D2 (opp c k.succ) f)
  | .rv 3 k => iprop(∃ f, Rows.own q3 c D3 (opp c k.succ) f)
  | _ => iprop(emp)

theorem pay_storable (c : Dev nD) (k : Key) : Storable (upEmb : UEmb _ 𝕄) (pay m c k) := by
  unfold pay Rows.own
  split <;> infer_instance

/-- The plan of the exchange. -/
def plan : Once.Plan nD τ sig (Elt F) U Key where
  osem := osem
  inj := osem_inj
  amt := amt
  pos := amt_pos
  peer := peer
  far := far
  pay := pay m
  gift := gift
  store := pay_storable m

end Cert.KernelIdeal.GW

end
-- ==== Proof.Steps.lean ====
module

public import proofs.«01_k».proof.Proof.Plan

@[expose] public section

noncomputable section

/-! # One transfer, one wait

The order in which a device starts its transfers and takes their ends, and the rule of each operation at its place. -/

namespace Cert.KernelIdeal.GW

open Idealize.ShloMosaic
open Idealize.SL
open Idealize.SL.BI
open scoped Idealize.SL.BI
open Idealize.SL.BI.BIBase Idealize.SL.BI.Laws Idealize.SL.Sem Idealize.SL.ProofMode
open Idealize.SL.RA
open Idealize.ShloMosaic.TcCoe
open Idealize.ShloMosaic.Rounds
open Idealize.ShloMosaic.ValueIdx
open Cert.KernelIdeal.Gen

set_option Elab.async false

variable {F : FTy → Type} [FloatOps F]

/-! ## Offsets and partners -/

theorem off1_eq : ∀ d : Dev nD, k0_off1 d = ![(chip d).val, 0, 0] := by decide +kernel
theorem off2_eq : ∀ d : Dev nD, k0_off2 d = ![(chip d).val, 0, 0] := by decide +kernel
theorem off3_eq : ∀ d : Dev nD, k0_off3 d = ![(chip d).val, 0, 0] := by decide +kernel
theorem off4_eq : ∀ d : Dev nD, k0_off4 d = ![(chip d).val, 0, 0] := by decide +kernel
theorem off9_eq : ∀ d : Dev nD, k0_off9 d = ![(other d).val, 0, 0] := by decide +kernel
theorem off10_eq : ∀ d : Dev nD, k0_off10 d = ![(other d).val, 0, 0] := by decide +kernel
theorem off11_eq : ∀ d : Dev nD, k0_off11 d = ![(other d).val, 0, 0] := by decide +kernel
theorem off12_eq : ∀ d : Dev nD, k0_off12 d = ![(other d).val, 0, 0] := by decide +kernel
theorem off13_eq : ∀ d : Dev nD, k0_off13 d = ![(other d).val, 0, 0] := by decide +kernel
theorem off14_eq : ∀ d : Dev nD, k0_off14 d = ![(other d).val, 0, 0] := by decide +kernel
theorem off15_eq : ∀ d : Dev nD, k0_off15 d = ![(other d).val, 0, 0] := by decide +kernel
theorem off16_eq : ∀ d : Dev nD, k0_off16 d = ![(other d).val, 0, 0] := by decide +kernel
theorem off17_eq : ∀ d : Dev nD, k0_off17 d = ![(chip d).val, 0, 0] := by decide +kernel
theorem off19_eq : ∀ d : Dev nD, k0_off19 d = ![(chip d).val, 0, 0] := by decide +kernel
theorem off21_eq : ∀ d : Dev nD, k0_off21 d = ![(chip d).val, 0, 0] := by decide +kernel
theorem off23_eq : ∀ d : Dev nD, k0_off23 d = ![(chip d).val, 0, 0] := by decide +kernel
theorem off5_0_eq : ∀ d : Dev nD, k0_off5 d 0#32 1#32 = ![(opp d (Fin.succ (0 : Fin 3))).val, 0, 0] := by decide +kernel
theorem off5_1_eq : ∀ d : Dev nD, k0_off5 d 1#32 0#32 = ![(opp d (Fin.succ (1 : Fin 3))).val, 0, 0] := by decide +kernel
theorem off5_2_eq : ∀ d : Dev nD, k0_off5 d 1#32 1#32 = ![(opp d (Fin.succ (2 : Fin 3))).val, 0, 0] := by decide +kernel
theorem off6_0_eq : ∀ d : Dev nD, k0_off6 d 0#32 1#32 = ![(opp d (Fin.succ (0 : Fin 3))).val, 0, 0] := by decide +kernel
theorem off6_1_eq : ∀ d : Dev nD, k0_off6 d 1#32 0#32 = ![(opp d (Fin.succ (1 : Fin 3))).val, 0, 0] := by decide +kernel
theorem off6_2_eq : ∀ d : Dev nD, k0_off6 d 1#32 1#32 = ![(opp d (Fin.succ (2 : Fin 3))).val, 0, 0] := by decide +kernel
theorem off7_0_eq : ∀ d : Dev nD, k0_off7 d 0#32 1#32 = ![(opp d (Fin.succ (0 : Fin 3))).val, 0, 0] := by decide +kernel
theorem off7_1_eq : ∀ d : Dev nD, k0_off7 d 1#32 0#32 = ![(opp d (Fin.succ (1 : Fin 3))).val, 0, 0] := by decide +kernel
theorem off7_2_eq : ∀ d : Dev nD, k0_off7 d 1#32 1#32 = ![(opp d (Fin.succ (2 : Fin 3))).val, 0, 0] := by decide +kernel
theorem off8_0_eq : ∀ d : Dev nD, k0_off8 d 0#32 1#32 = ![(opp d (Fin.succ (0 : Fin 3))).val, 0, 0] := by decide +kernel
theorem off8_1_eq : ∀ d : Dev nD, k0_off8 d 1#32 0#32 = ![(opp d (Fin.succ (1 : Fin 3))).val, 0, 0] := by decide +kernel
theorem off8_2_eq : ∀ d : Dev nD, k0_off8 d 1#32 1#32 = ![(opp d (Fin.succ (2 : Fin 3))).val, 0, 0] := by decide +kernel
theorem off18_0_eq : ∀ d : Dev nD, k0_off18 d 0#32 1#32 = ![(opp d (Fin.succ (0 : Fin 3))).val, 0, 0] := by decide +kernel
theorem off18_1_eq : ∀ d : Dev nD, k0_off18 d 1#32 0#32 = ![(opp d (Fin.succ (1 : Fin 3))).val, 0, 0] := by decide +kernel
theorem off18_2_eq : ∀ d : Dev nD, k0_off18 d 1#32 1#32 = ![(opp d (Fin.succ (2 : Fin 3))).val, 0, 0] := by decide +kernel
theorem off20_0_eq : ∀ d : Dev nD, k0_off20 d 0#32 1#32 = ![(opp d (Fin.succ (0 : Fin 3))).val, 0, 0] := by decide +kernel
theorem off20_1_eq : ∀ d : Dev nD, k0_off20 d 1#32 0#32 = ![(opp d (Fin.succ (1 : Fin 3))).val, 0, 0] := by decide +kernel
theorem off20_2_eq : ∀ d : Dev nD, k0_off20 d 1#32 1#32 = ![(opp d (Fin.succ (2 : Fin 3))).val, 0, 0] := by decide +kernel
theorem off22_0_eq : ∀ d : Dev nD, k0_off22 d 0#32 1#32 = ![(opp d (Fin.succ (0 : Fin 3))).val, 0, 0] := by decide +kernel
theorem off22_1_eq : ∀ d : Dev nD, k0_off22 d 1#32 0#32 = ![(opp d (Fin.succ (1 : Fin 3))).val, 0, 0] := by decide +kernel
theorem off22_2_eq : ∀ d : Dev nD, k0_off22 d 1#32 1#32 = ![(opp d (Fin.succ (2 : Fin 3))).val, 0, 0] := by decide +kernel
theorem off24_0_eq : ∀ d : Dev nD, k0_off24 d 0#32 1#32 = ![(opp d (Fin.succ (0 : Fin 3))).val, 0, 0] := by decide +kernel
theorem off24_1_eq : ∀ d : Dev nD, k0_off24 d 1#32 0#32 = ![(opp d (Fin.succ (1 : Fin 3))).val, 0, 0] := by decide +kernel
theorem off24_2_eq : ∀ d : Dev nD, k0_off24 d 1#32 1#32 = ![(opp d (Fin.succ (2 : Fin 3))).val, 0, 0] := by decide +kernel
theorem dev1_eq : ∀ d : Dev nD, k0_dev1 d = (flip (bits 0) d).val := by decide +kernel
theorem dev2_eq : ∀ d : Dev nD, k0_dev2 d = (flip (bits 1) d).val := by decide +kernel
theorem dev3_eq : ∀ d : Dev nD, k0_dev3 d = (flip (bits 2) d).val := by decide +kernel
theorem dev4_eq : ∀ d : Dev nD, k0_dev4 d = (flip (bits 0) d).val := by decide +kernel
theorem dev5_eq : ∀ d : Dev nD, k0_dev5 d = (flip (bits 1) d).val := by decide +kernel
theorem dev6_eq : ∀ d : Dev nD, k0_dev6 d = (flip (bits 2) d).val := by decide +kernel
theorem dev7_eq : ∀ d : Dev nD, k0_dev7 d = (flip (bits 0) d).val := by decide +kernel
theorem dev8_eq : ∀ d : Dev nD, k0_dev8 d = (flip (bits 1) d).val := by decide +kernel
theorem dev9_eq : ∀ d : Dev nD, k0_dev9 d = (flip (bits 2) d).val := by decide +kernel
theorem dev10_eq : ∀ d : Dev nD, k0_dev10 d = (flip (bits 0) d).val := by decide +kernel
theorem dev11_eq : ∀ d : Dev nD, k0_dev11 d = (flip (bits 1) d).val := by decide +kernel
theorem dev12_eq : ∀ d : Dev nD, k0_dev12 d = (flip (bits 2) d).val := by decide +kernel
theorem dev13_eq : ∀ d : Dev nD, k0_dev13 d = (flip 1 d).val := by decide +kernel
theorem dev14_eq : ∀ d : Dev nD, k0_dev14 d = (flip 1 d).val := by decide +kernel
theorem dev15_eq : ∀ d : Dev nD, k0_dev15 d = (flip 1 d).val := by decide +kernel
theorem dev16_eq : ∀ d : Dev nD, k0_dev16 d = (flip 1 d).val := by decide +kernel

/-! ## The order -/

/-- The place of a transfer in the order they are started. -/
def place : Key → ℕ
  | .lc a => a.val
  | .sd a k | .rv a k => 4 + 3 * a.val + k.val
  | .ps j | .pr j => 16 + j.val

/-- The place of a wait in the order they are made. -/
def turn : Key → ℕ
  | .ps j => j.val
  | .pr j => 4 + j.val
  | .rv a k => 8 + 3 * a.val + k.val
  | .sd a k => 20 + 3 * a.val + k.val
  | .lc a => 32 + a.val

/-- The transfers still to start once the first `n` have been. -/
def due (n : ℕ) : Finset Key := Finset.univ.filter fun k => n ≤ place k
/-- The waits still to make once the first `w` have been. -/
def rem (w : ℕ) : Finset Key := Finset.univ.filter fun k => w ≤ turn k

theorem due_start : due 0 = Finset.univ := by decide +kernel
theorem rem_start : rem 0 = Finset.univ := by decide +kernel
theorem rem_end : rem 36 = ∅ := by decide +kernel
theorem due_end : due 20 = ∅ := by decide +kernel

variable (m : (ℓ : Loc nD τ sig) → Buf (Elt F) ℓ)
variable {U : Type} [URA U]
variable (ER : Emb (URounds (GSem nD τ sig) Unit) (MT nD τ sig Unit (Elt F) ℕ U ℕ))
local notation "𝕄" => MT nD τ sig Unit (Elt F) ℕ U ℕ

/-- The device's part of the exchange after `n` starts and `w` waits. -/
abbrev stage (c : Dev nD) (n w : ℕ) : sProp 𝕄 := Once.sto (plan m) ER c (due n) (rem w)

/-- A program of the body on device `c`. -/
abbrev run (c : Dev nD) {α : Type} (p : Prog (TpuEff nD τ sig (Elt F) Λ₀ .tc) α) (Q : α → sProp 𝕄) : sProp 𝕄 :=
  wp frame (wpE (defs₀ (F := F)) Variants.none (c.tc : Thread nD τ) none) Set.univ p Q

theorem copy0 (c : Dev nD) {α : Type} {Q : α → sProp 𝕄} (w : ℕ)
    {oa od : Fin 3 → ℕ} (ha : oa = ![(chip c).val, 0, 0]) (hd : od = ![(chip c).val, 0, 0]) {ia id sa sd za zd} {sem : SemLoc sig}
    {hsrc hdst hsem} {k' : PUnit → Prog (TpuEff nD τ sig (Elt F) Λ₀ .tc) α}
    (hs : sem = osem (.lc 0)) (hT : Key.lc 0 ∈ rem w) :
    iprop(stage m ER c 0 w ∗ Rows.own q0 c A0 (opp c 0) (s0 m c) ∗ ∃ f, Rows.own q0 c D0 (opp c 0) f)
      ⊢ iprop((stage m ER c 1 w -∗ run c (k' ⟨⟩) Q)
      -∗ run c (.op (.enqueueDma ((A0.slice (Rect.unit (s := S4x256x2048) oa S1x256x2048.size ia) sa).squeeze S256x2048 za)
            (.here ((D0.slice (Rect.unit (s := S4x256x2048) od S1x256x2048.size id) sd).squeeze S256x2048 zd)) sem hsrc hdst hsem) k') Q) := by
  unfold stage
  iintro ⟨Hs, Ha, %f, Hd⟩
  rw [show due 1 = (due 0).erase (.lc 0) from by decide +kernel]
  iapply (Rows.copyRow q0 (plan m) ER c (.lc 0) (due 0) (rem w) (by decide +kernel) hT rfl rfl A0 D0 (opp c 0) (opp c 0)
    (ha.trans (by rw [opp_zero])) (hd.trans (by rw [opp_zero])) hs (by rw [hs]; rfl) (s0 m c) (arrived (s0 m) c) f
    (by intro y z
        show s0 m (onChip c (opp c 0)) (ix3 (chip c) y z) = s0 m c (ix3 (opp c 0) y z)
        rw [opp_zero, onChip_self]) BIBase.Entails.rfl)
  isplitl [Hs]; · iexact Hs
  isplitl [Ha]; · iexact Ha
  iexact Hd

theorem send0 (c : Dev nD) {α : Type} {Q : α → sProp 𝕄} (w : ℕ) (k : Fin 3) (n : ℕ)
    (hn : due (n + 1) = ((due n).erase (.sd 0 k)).erase (.rv 0 k) ∧ Key.sd 0 k ∈ due n ∧ Key.rv 0 k ∈ due n) (hT : Key.sd 0 k ∈ rem w)
    {c' : Dev nD} {oa od : Fin 3 → ℕ} (ha : oa = ![(opp c k.succ).val, 0, 0]) (hd : od = ![(chip c).val, 0, 0]) {ia id sa sd za zd hsc}
    {sS sem : SemLoc sig} {hsrc hdst hsem} {k' : PUnit → Prog (TpuEff nD τ sig (Elt F) Λ₀ .tc) α}
    (hc' : c'.val = (flip (bits k) c).val) (hsS : sS = osem (.sd 0 k)) (hs : sem = osem (.rv 0 k)) :
    iprop(stage m ER c n w ∗ Rows.own q0 c A0 (opp c k.succ) (s0 m c))
      ⊢ iprop((stage m ER c (n + 1) w -∗ run c (k' ⟨⟩) Q)
      -∗ run c (.op (.enqueueDma ((A0.slice (Rect.unit (s := S4x256x2048) oa S1x256x2048.size ia) sa).squeeze S256x2048 za)
            (.remote (c'.tc : Thread nD τ) ((D0.slice (Rect.unit (s := S4x256x2048) od S1x256x2048.size id) sd).squeeze S256x2048 zd) sS hsc)
            sem hsrc hdst hsem) k') Q) := by
  unfold stage
  rw [hn.1]
  exact Rows.sendRow q0 (plan m) ER c (.sd 0 k) (.rv 0 k) (due n) (rem w) hn.2.1 hT hn.2.2 rfl rfl rfl A0 D0 (opp c k.succ) (chip c)
    ha hd (Fin.ext hc') hsS hs (by rw [hs]; rfl) rfl (s0 m c) (arrived (s0 m) (flip (bits k) c))
    (by intro y z
        show s0 m (onChip (flip (bits k) c) (chip c)) (ix3 (chip (flip (bits k) c)) y z) = s0 m c (ix3 (opp c k.succ) y z)
        rw [onChip_flip, opp_flip'])
    (by show iprop(∃ f, Rows.own q0 (flip (bits k) c) D0 (opp (flip (bits k) c) k.succ) f) ⊢ _
        rw [opp_flip]; exact BIBase.Entails.rfl)
    BIBase.Entails.rfl
    (by show _ ⊢ Rows.own q0 (flip (bits k) c) D0 (opp (flip (bits k) c) k.succ) (arrived (s0 m) (flip (bits k) c))
        rw [opp_flip]; exact BIBase.Entails.rfl)

theorem copy1 (c : Dev nD) {α : Type} {Q : α → sProp 𝕄} (w : ℕ)
    {oa od : Fin 3 → ℕ} (ha : oa = ![(chip c).val, 0, 0]) (hd : od = ![(chip c).val, 0, 0]) {ia id sa sd za zd} {sem : SemLoc sig}
    {hsrc hdst hsem} {k' : PUnit → Prog (TpuEff nD τ sig (Elt F) Λ₀ .tc) α}
    (hs : sem = osem (.lc 1)) (hT : Key.lc 1 ∈ rem w) :
    iprop(stage m ER c 1 w ∗ Rows.own q1 c A1 (opp c 0) (s1 m c) ∗ ∃ f, Rows.own q1 c D1 (opp c 0) f)
      ⊢ iprop((stage m ER c 2 w -∗ run c (k' ⟨⟩) Q)
      -∗ run c (.op (.enqueueDma ((A1.slice (Rect.unit (s := S4x128x256) oa S1x128x256.size ia) sa).squeeze S128x256 za)
            (.here ((D1.slice (Rect.unit (s := S4x128x256) od S1x128x256.size id) sd).squeeze S128x256 zd)) sem hsrc hdst hsem) k') Q) := by
  unfold stage
  iintro ⟨Hs, Ha, %f, Hd⟩
  rw [show due 2 = (due 1).erase (.lc 1) from by decide +kernel]
  iapply (Rows.copyRow q1 (plan m) ER c (.lc 1) (due 1) (rem w) (by decide +kernel) hT rfl rfl A1 D1 (opp c 0) (opp c 0)
    (ha.trans (by rw [opp_zero])) (hd.trans (by rw [opp_zero])) hs (by rw [hs]; rfl) (s1 m c) (arrived (s1 m) c) f
    (by intro y z
        show s1 m (onChip c (opp c 0)) (ix3 (chip c) y z) = s1 m c (ix3 (opp c 0) y z)
        rw [opp_zero, onChip_self]) BIBase.Entails.rfl)
  isplitl [Hs]; · iexact Hs
  isplitl [Ha]; · iexact Ha
  iexact Hd

theorem send1 (c : Dev nD) {α : Type} {Q : α → sProp 𝕄} (w : ℕ) (k : Fin 3) (n : ℕ)
    (hn : due (n + 1) = ((due n).erase (.sd 1 k)).erase (.rv 1 k) ∧ Key.sd 1 k ∈ due n ∧ Key.rv 1 k ∈ due n) (hT : Key.sd 1 k ∈ rem w)
    {c' : Dev nD} {oa od : Fin 3 → ℕ} (ha : oa = ![(opp c k.succ).val, 0, 0]) (hd : od = ![(chip c).val, 0, 0]) {ia id sa sd za zd hsc}
    {sS sem : SemLoc sig} {hsrc hdst hsem} {k' : PUnit → Prog (TpuEff nD τ sig (Elt F) Λ₀ .tc) α}
    (hc' : c'.val = (flip (bits k) c).val) (hsS : sS = osem (.sd 1 k)) (hs : sem = osem (.rv 1 k)) :
    iprop(stage m ER c n w ∗ Rows.own q1 c A1 (opp c k.succ) (s1 m c))
      ⊢ iprop((stage m ER c (n + 1) w -∗ run c (k' ⟨⟩) Q)
      -∗ run c (.op (.enqueueDma ((A1.slice (Rect.unit (s := S4x128x256) oa S1x128x256.size ia) sa).squeeze S128x256 za)
            (.remote (c'.tc : Thread nD τ) ((D1.slice (Rect.unit (s := S4x128x256) od S1x128x256.size id) sd).squeeze S128x256 zd) sS hsc)
            sem hsrc hdst hsem) k') Q) := by
  unfold stage
  rw [hn.1]
  exact Rows.sendRow q1 (plan m) ER c (.sd 1 k) (.rv 1 k) (due n) (rem w) hn.2.1 hT hn.2.2 rfl rfl rfl A1 D1 (opp c k.succ) (chip c)
    ha hd (Fin.ext hc') hsS hs (by rw [hs]; rfl) rfl (s1 m c) (arrived (s1 m) (flip (bits k) c))
    (by intro y z
        show s1 m (onChip (flip (bits k) c) (chip c)) (ix3 (chip (flip (bits k) c)) y z) = s1 m c (ix3 (opp c k.succ) y z)
        rw [onChip_flip, opp_flip'])
    (by show iprop(∃ f, Rows.own q1 (flip (bits k) c) D1 (opp (flip (bits k) c) k.succ) f) ⊢ _
        rw [opp_flip]; exact BIBase.Entails.rfl)
    BIBase.Entails.rfl
    (by show _ ⊢ Rows.own q1 (flip (bits k) c) D1 (opp (flip (bits k) c) k.succ) (arrived (s1 m) (flip (bits k) c))
        rw [opp_flip]; exact BIBase.Entails.rfl)

theorem copy2 (c : Dev nD) {α : Type} {Q : α → sProp 𝕄} (w : ℕ)
    {oa od : Fin 3 → ℕ} (ha : oa = ![(chip c).val, 0, 0]) (hd : od = ![(chip c).val, 0, 0]) {ia id sa sd za zd} {sem : SemLoc sig}
    {hsrc hdst hsem} {k' : PUnit → Prog (TpuEff nD τ sig (Elt F) Λ₀ .tc) α}
    (hs : sem = osem (.lc 2)) (hT : Key.lc 2 ∈ rem w) :
    iprop(stage m ER c 2 w ∗ Rows.own q2 c A2 (opp c 0) (s2 m c) ∗ ∃ f, Rows.own q2 c D2 (opp c 0) f)
      ⊢ iprop((stage m ER c 3 w -∗ run c (k' ⟨⟩) Q)
      -∗ run c (.op (.enqueueDma ((A2.slice (Rect.unit (s := S4x1120x128) oa S1x1120x128.size ia) sa).squeeze S1120x128 za)
            (.here ((D2.slice (Rect.unit (s := S4x1120x128) od S1x1120x128.size id) sd).squeeze S1120x128 zd)) sem hsrc hdst hsem) k') Q) := by
  unfold stage
  iintro ⟨Hs, Ha, %f, Hd⟩
  rw [show due 3 = (due 2).erase (.lc 2) from by decide +kernel]
  iapply (Rows.copyRow q2 (plan m) ER c (.lc 2) (due 2) (rem w) (by decide +kernel) hT rfl rfl A2 D2 (opp c 0) (opp c 0)
    (ha.trans (by rw [opp_zero])) (hd.trans (by rw [opp_zero])) hs (by rw [hs]; rfl) (s2 m c) (arrived (s2 m) c) f
    (by intro y z
        show s2 m (onChip c (opp c 0)) (ix3 (chip c) y z) = s2 m c (ix3 (opp c 0) y z)
        rw [opp_zero, onChip_self]) BIBase.Entails.rfl)
  isplitl [Hs]; · iexact Hs
  isplitl [Ha]; · iexact Ha
  iexact Hd

theorem send2 (c : Dev nD) {α : Type} {Q : α → sProp 𝕄} (w : ℕ) (k : Fin 3) (n : ℕ)
    (hn : due (n + 1) = ((due n).erase (.sd 2 k)).erase (.rv 2 k) ∧ Key.sd 2 k ∈ due n ∧ Key.rv 2 k ∈ due n) (hT : Key.sd 2 k ∈ rem w)
    {c' : Dev nD} {oa od : Fin 3 → ℕ} (ha : oa = ![(opp c k.succ).val, 0, 0]) (hd : od = ![(chip c).val, 0, 0]) {ia id sa sd za zd hsc}
    {sS sem : SemLoc sig} {hsrc hdst hsem} {k' : PUnit → Prog (TpuEff nD τ sig (Elt F) Λ₀ .tc) α}
    (hc' : c'.val = (flip (bits k) c).val) (hsS : sS = osem (.sd 2 k)) (hs : sem = osem (.rv 2 k)) :
    iprop(stage m ER c n w ∗ Rows.own q2 c A2 (opp c k.succ) (s2 m c))
      ⊢ iprop((stage m ER c (n + 1) w -∗ run c (k' ⟨⟩) Q)
      -∗ run c (.op (.enqueueDma ((A2.slice (Rect.unit (s := S4x1120x128) oa S1x1120x128.size ia) sa).squeeze S1120x128 za)
            (.remote (c'.tc : Thread nD τ) ((D2.slice (Rect.unit (s := S4x1120x128) od S1x1120x128.size id) sd).squeeze S1120x128 zd) sS hsc)
            sem hsrc hdst hsem) k') Q) := by
  unfold stage
  rw [hn.1]
  exact Rows.sendRow q2 (plan m) ER c (.sd 2 k) (.rv 2 k) (due n) (rem w) hn.2.1 hT hn.2.2 rfl rfl rfl A2 D2 (opp c k.succ) (chip c)
    ha hd (Fin.ext hc') hsS hs (by rw [hs]; rfl) rfl (s2 m c) (arrived (s2 m) (flip (bits k) c))
    (by intro y z
        show s2 m (onChip (flip (bits k) c) (chip c)) (ix3 (chip (flip (bits k) c)) y z) = s2 m c (ix3 (opp c k.succ) y z)
        rw [onChip_flip, opp_flip'])
    (by show iprop(∃ f, Rows.own q2 (flip (bits k) c) D2 (opp (flip (bits k) c) k.succ) f) ⊢ _
        rw [opp_flip]; exact BIBase.Entails.rfl)
    BIBase.Entails.rfl
    (by show _ ⊢ Rows.own q2 (flip (bits k) c) D2 (opp (flip (bits k) c) k.succ) (arrived (s2 m) (flip (bits k) c))
        rw [opp_flip]; exact BIBase.Entails.rfl)

theorem copy3 (c : Dev nD) {α : Type} {Q : α → sProp 𝕄} (w : ℕ)
    {oa od : Fin 3 → ℕ} (ha : oa = ![(chip c).val, 0, 0]) (hd : od = ![(chip c).val, 0, 0]) {ia id sa sd za zd} {sem : SemLoc sig}
    {hsrc hdst hsem} {k' : PUnit → Prog (TpuEff nD τ sig (Elt F) Λ₀ .tc) α}
    (hs : sem = osem (.lc 3)) (hT : Key.lc 3 ∈ rem w) :
    iprop(stage m ER c 3 w ∗ Rows.own q3 c A3 (opp c 0) (s3 m c) ∗ ∃ f, Rows.own q3 c D3 (opp c 0) f)
      ⊢ iprop((stage m ER c 4 w -∗ run c (k' ⟨⟩) Q)
      -∗ run c (.op (.enqueueDma ((A3.slice (Rect.unit (s := S4x384x2048) oa S1x384x2048.size ia) sa).squeeze S384x2048 za)
            (.here ((D3.slice (Rect.unit (s := S4x384x2048) od S1x384x2048.size id) sd).squeeze S384x2048 zd)) sem hsrc hdst hsem) k') Q) := by
  unfold stage
  iintro ⟨Hs, Ha, %f, Hd⟩
  rw [show due 4 = (due 3).erase (.lc 3) from by decide +kernel]
  iapply (Rows.copyRow q3 (plan m) ER c (.lc 3) (due 3) (rem w) (by decide +kernel) hT rfl rfl A3 D3 (opp c 0) (opp c 0)
    (ha.trans (by rw [opp_zero])) (hd.trans (by rw [opp_zero])) hs (by rw [hs]; rfl) (s3 m c) (arrived (s3 m) c) f
    (by intro y z
        show s3 m (onChip c (opp c 0)) (ix3 (chip c) y z) = s3 m c (ix3 (opp c 0) y z)
        rw [opp_zero, onChip_self]) BIBase.Entails.rfl)
  isplitl [Hs]; · iexact Hs
  isplitl [Ha]; · iexact Ha
  iexact Hd

theorem send3 (c : Dev nD) {α : Type} {Q : α → sProp 𝕄} (w : ℕ) (k : Fin 3) (n : ℕ)
    (hn : due (n + 1) = ((due n).erase (.sd 3 k)).erase (.rv 3 k) ∧ Key.sd 3 k ∈ due n ∧ Key.rv 3 k ∈ due n) (hT : Key.sd 3 k ∈ rem w)
    {c' : Dev nD} {oa od : Fin 3 → ℕ} (ha : oa = ![(opp c k.succ).val, 0, 0]) (hd : od = ![(chip c).val, 0, 0]) {ia id sa sd za zd hsc}
    {sS sem : SemLoc sig} {hsrc hdst hsem} {k' : PUnit → Prog (TpuEff nD τ sig (Elt F) Λ₀ .tc) α}
    (hc' : c'.val = (flip (bits k) c).val) (hsS : sS = osem (.sd 3 k)) (hs : sem = osem (.rv 3 k)) :
    iprop(stage m ER c n w ∗ Rows.own q3 c A3 (opp c k.succ) (s3 m c))
      ⊢ iprop((stage m ER c (n + 1) w -∗ run c (k' ⟨⟩) Q)
      -∗ run c (.op (.enqueueDma ((A3.slice (Rect.unit (s := S4x384x2048) oa S1x384x2048.size ia) sa).squeeze S384x2048 za)
            (.remote (c'.tc : Thread nD τ) ((D3.slice (Rect.unit (s := S4x384x2048) od S1x384x2048.size id) sd).squeeze S384x2048 zd) sS hsc)
            sem hsrc hdst hsem) k') Q) := by
  unfold stage
  rw [hn.1]
  exact Rows.sendRow q3 (plan m) ER c (.sd 3 k) (.rv 3 k) (due n) (rem w) hn.2.1 hT hn.2.2 rfl rfl rfl A3 D3 (opp c k.succ) (chip c)
    ha hd (Fin.ext hc') hsS hs (by rw [hs]; rfl) rfl (s3 m c) (arrived (s3 m) (flip (bits k) c))
    (by intro y z
        show s3 m (onChip (flip (bits k) c) (chip c)) (ix3 (chip (flip (bits k) c)) y z) = s3 m c (ix3 (opp c k.succ) y z)
        rw [onChip_flip, opp_flip'])
    (by show iprop(∃ f, Rows.own q3 (flip (bits k) c) D3 (opp (flip (bits k) c) k.succ) f) ⊢ _
        rw [opp_flip]; exact BIBase.Entails.rfl)
    BIBase.Entails.rfl
    (by show _ ⊢ Rows.own q3 (flip (bits k) c) D3 (opp (flip (bits k) c) k.succ) (arrived (s3 m) (flip (bits k) c))
        rw [opp_flip]; exact BIBase.Entails.rfl)

/-- A block sent to the other core. -/
theorem sendPair (c : Dev nD) {α : Type} {Q : α → sProp 𝕄} (w : ℕ) (j : Fin 4) (n : ℕ)
    (hn : due (n + 1) = ((due n).erase (.ps j)).erase (.pr j) ∧ Key.ps j ∈ due n ∧ Key.pr j ∈ due n) (hT : Key.ps j ∈ rem w)
    {c' : Dev nD} {oa od : Fin 3 → ℕ} (ha : oa = ![(other c).val, 0, 0]) (hd : od = ![j.val, 0, 0]) {ia id sa sd za zd hsc}
    {sS sem : SemLoc sig} {hsrc hdst hsem} {k' : PUnit → Prog (TpuEff nD τ sig (Elt F) Λ₀ .tc) α}
    (hc' : c'.val = (flip 1 c).val) (hsS : sS = osem (.ps j)) (hs : sem = osem (.pr j)) :
    iprop(stage m ER c n w ∗ Rows.own q4 c SB (other c) (blocks m c j.val))
      ⊢ iprop((stage m ER c (n + 1) w -∗ run c (k' ⟨⟩) Q)
      -∗ run c (.op (.enqueueDma ((SB.slice (Rect.unit (s := S2x2048x896) oa S1x2048x896.size ia) sa).squeeze S2048x896 za)
            (.remote (c'.tc : Thread nD τ) ((TH.slice (Rect.unit (s := S4x2048x896) od S1x2048x896.size id) sd).squeeze S2048x896 zd) sS hsc)
            sem hsrc hdst hsem) k') Q) := by
  unfold stage
  rw [hn.1]
  exact Rows.sendRow q4 (plan m) ER c (.ps j) (.pr j) (due n) (rem w) hn.2.1 hT hn.2.2 rfl rfl rfl SB TH (other c) j
    ha hd (Fin.ext hc') hsS hs (by rw [hs]; rfl) rfl (blocks m c j.val) (theirs m (flip 1 c))
    (by intro y z
        show blocks m (flip 1 (flip 1 c)) j.val (ix3 (core (flip 1 c)) y z) = blocks m c j.val (ix3 (other c) y z)
        rw [flip_flip, core_flip])
    BIBase.Entails.rfl BIBase.Entails.rfl BIBase.Entails.rfl

/-- A wait at its place in the order. -/
theorem take (c : Dev nD) {α : Type} {Q : α → sProp 𝕄} (n w : ℕ) (k : Key)
    (hw : rem (w + 1) = (rem w).erase k ∧ k ∈ rem w) (hn : (far k = false → k ∉ due n) ∧ (far k = true → due n = ∅))
    {op : TpuEff nD τ sig (Elt F) Λ₀ .tc PUnit} {k' : PUnit → Prog (TpuEff nD τ sig (Elt F) Λ₀ .tc) α}
    (hop : ∀ R : PUnit → sProp 𝕄, wpE (defs₀ (F := F)) Variants.none (c.tc : Thread nD τ) none Set.univ op R = waitSpec (c.tc : Thread nD τ) Set.univ (osem k) (amt k) R) :
    stage m ER c n w
      ⊢ iprop(((pay m c k ∗ stage m ER c n (w + 1)) -∗ run c (k' ⟨⟩) Q) -∗ run c (.op op k') Q) := by
  unfold stage
  rw [hw.1]
  exact Once.wait (plan m) ER c k (due n) (rem w) hw.2 hn.1 (fun h k' hk' => by rw [hn.2 h] at hk'; exact absurd hk' (Finset.notMem_empty _)) hop

end Cert.KernelIdeal.GW

end
-- ==== Proof.Moves.lean ====
module

public import proofs.«01_k».proof.Proof.Steps

@[expose] public section

noncomputable section

/-! The opening copies and sends, and the closing waits, one stretch of the body at a time. -/

namespace Cert.KernelIdeal.GW

open Idealize.ShloMosaic
open Idealize.SL
open Idealize.SL.BI
open scoped Idealize.SL.BI
open Idealize.SL.BI.BIBase Idealize.SL.BI.Laws Idealize.SL.Sem Idealize.SL.ProofMode
open Idealize.SL.RA
open Idealize.ShloMosaic.TcCoe
open Idealize.ShloMosaic.Rounds
open Idealize.ShloMosaic.ValueIdx
open Cert.KernelIdeal.Gen

set_option Elab.async false

variable {F : FTy → Type} [FloatOps F]
variable (m : (ℓ : Loc nD τ sig) → Buf (Elt F) ℓ)
variable {U : Type} [URA U]
variable (ER : Emb (URounds (GSem nD τ sig) Unit) (MT nD τ sig Unit (Elt F) ℕ U ℕ))
local notation "𝕄" => MT nD τ sig Unit (Elt F) ℕ U ℕ

/-- A finished program needs what it promises of its value. -/
theorem run_ret (c : Dev nD) {α : Type} (a : α) (Q : α → sProp 𝕄) : Q a ⊢ run c (.ret a) Q := by
  unfold run
  rw [wp_ret]
  iintro H
  imodintro
  iexact H

/-- Operations 0–2 of the opening: each uses the rows it reads and writes. -/
theorem issue2 (c : Dev nD) (i : grid0.Coords) {arg2 harg2 arg3 harg3 arg8 harg8} (v2 : BitVec 32) (v5 : BitVec 32) (k0_h1 : k0_cond1 i = 1#1) (v78 : BitVec 32) (v79 : BitVec 32) {Q : (Σ' (v82 : BitVec 32) (v83 : BitVec 32) (v86 : BitVec 32) (v87 : BitVec 32) (v90 : BitVec 32), BitVec 32) → sProp 𝕄} :
    iprop(stage m ER c 0 0 ∗ Rows.own q0 c A0 (opp c 0) (s0 m c) ∗ (∃ f, Rows.own q0 c D0 (opp c 0) f) ∗ Rows.own q1 c A1 (opp c 0) (s1 m c) ∗ (∃ f, Rows.own q1 c D1 (opp c 0) f) ∗ Rows.own q2 c A2 (opp c 0) (s2 m c) ∗ (∃ f, Rows.own q2 c D2 (opp c 0) f))
      ⊢ iprop((∀ r, stage m ER c 3 0 -∗ Q r) -∗ run c (k0_part2 i arg2 harg2 arg3 harg3 A0 (Memref.isWhole_whole _) A1 (Memref.isWhole_whole _) A2 (Memref.isWhole_whole _) A3 (Memref.isWhole_whole _) arg8 harg8 TH (Memref.isWhole_whole _) D0 (Memref.isWhole_whole _) D1 (Memref.isWhole_whole _) D2 (Memref.isWhole_whole _) D3 (Memref.isWhole_whole _) AC (Memref.isWhole_whole _) SB (Memref.isWhole_whole _) cc0_scratch2 cc0_scratch3 cc0_scratch4 cc0_scratch5 cc0_scratch6 c v2 v5 k0_h1 v78 v79) Q) := by
  rw [k0_part2_eq_skeleton]; unfold k0_part2_skel
  simp only [Prog.lift, Prog.bind_op, Prog.bind_ret, Prog.pure_eq_ret]
  iintro ⟨Hs, Ha0, Hd0, Ha1, Hd1, Ha2, Hd2⟩ HK
  iapply (copy0 m ER c 0 (off1_eq c) (off1_eq c) rfl (by decide +kernel)) $$ [Hs Ha0 Hd0]
  · isplitl [Hs]; · iexact Hs
    isplitl [Ha0]; · iexact Ha0
    iexact Hd0
  iintro Hs
  iapply (copy1 m ER c 0 (off2_eq c) (off2_eq c) rfl (by decide +kernel)) $$ [Hs Ha1 Hd1]
  · isplitl [Hs]; · iexact Hs
    isplitl [Ha1]; · iexact Ha1
    iexact Hd1
  iintro Hs
  iapply (copy2 m ER c 0 (off3_eq c) (off3_eq c) rfl (by decide +kernel)) $$ [Hs Ha2 Hd2]
  · isplitl [Hs]; · iexact Hs
    isplitl [Ha2]; · iexact Ha2
    iexact Hd2
  iintro Hs
  iapply (run_ret c _ Q)
  iapply HK
  iexact Hs

/-- Operations 3–4 of the opening: each uses the rows it reads and writes. -/
theorem issue3 (c : Dev nD) (i : grid0.Coords) {arg2 harg2 arg3 harg3 arg8 harg8} (v8 : BitVec 32) (k0_h1 : k0_cond1 i = 1#1) (v46 : BitVec 32) (v47 : BitVec 32) (v50 : BitVec 32) (v51 : BitVec 32) {Q : (PUnit) → sProp 𝕄} :
    iprop(stage m ER c 3 0 ∗ Rows.own q3 c A3 (opp c 0) (s3 m c) ∗ (∃ f, Rows.own q3 c D3 (opp c 0) f) ∗ Rows.own q0 c A0 (opp c (Fin.succ 0)) (s0 m c))
      ⊢ iprop((∀ r, stage m ER c 5 0 -∗ Q r) -∗ run c (k0_part3 i arg2 harg2 arg3 harg3 A0 (Memref.isWhole_whole _) A1 (Memref.isWhole_whole _) A2 (Memref.isWhole_whole _) A3 (Memref.isWhole_whole _) arg8 harg8 TH (Memref.isWhole_whole _) D0 (Memref.isWhole_whole _) D1 (Memref.isWhole_whole _) D2 (Memref.isWhole_whole _) D3 (Memref.isWhole_whole _) AC (Memref.isWhole_whole _) SB (Memref.isWhole_whole _) cc0_scratch2 cc0_scratch3 cc0_scratch4 cc0_scratch5 cc0_scratch6 c v8 k0_h1 v46 v47 v50 v51) Q) := by
  rw [k0_part3_eq_skeleton]; unfold k0_part3_skel
  simp only [Prog.lift, Prog.bind_op, Prog.bind_ret, Prog.pure_eq_ret]
  iintro ⟨Hs, Ha3, Hd3, Ha4⟩ HK
  iapply (copy3 m ER c 0 (off4_eq c) (off4_eq c) rfl (by decide +kernel)) $$ [Hs Ha3 Hd3]
  · isplitl [Hs]; · iexact Hs
    isplitl [Ha3]; · iexact Ha3
    iexact Hd3
  iintro Hs
  iapply (send0 m ER c 0 0 4 (by decide +kernel) (by decide +kernel) (off5_0_eq c) (off1_eq c) (dev1_eq c) rfl rfl) $$ [Hs Ha4]
  · isplitl [Hs] <;> iassumption
  iintro Hs
  iapply (run_ret c _ Q)
  iapply HK
  iexact Hs

/-- Operations 5–7 of the opening: each uses the rows it reads and writes. -/
theorem issue4 (c : Dev nD) (i : grid0.Coords) {arg2 harg2 arg3 harg3 arg8 harg8} (v8 : BitVec 32) (k0_h1 : k0_cond1 i = 1#1) (v54 : BitVec 32) (v55 : BitVec 32) (v58 : BitVec 32) (v59 : BitVec 32) {Q : (PUnit) → sProp 𝕄} :
    iprop(stage m ER c 5 0 ∗ Rows.own q0 c A0 (opp c (Fin.succ 1)) (s0 m c) ∗ Rows.own q0 c A0 (opp c (Fin.succ 2)) (s0 m c) ∗ Rows.own q1 c A1 (opp c (Fin.succ 0)) (s1 m c))
      ⊢ iprop((∀ r, stage m ER c 8 0 -∗ Q r) -∗ run c (k0_part4 i arg2 harg2 arg3 harg3 A0 (Memref.isWhole_whole _) A1 (Memref.isWhole_whole _) A2 (Memref.isWhole_whole _) A3 (Memref.isWhole_whole _) arg8 harg8 TH (Memref.isWhole_whole _) D0 (Memref.isWhole_whole _) D1 (Memref.isWhole_whole _) D2 (Memref.isWhole_whole _) D3 (Memref.isWhole_whole _) AC (Memref.isWhole_whole _) SB (Memref.isWhole_whole _) cc0_scratch2 cc0_scratch3 cc0_scratch4 cc0_scratch5 cc0_scratch6 c v8 k0_h1 v54 v55 v58 v59) Q) := by
  rw [k0_part4_eq_skeleton]; unfold k0_part4_skel
  simp only [Prog.lift, Prog.bind_op, Prog.bind_ret, Prog.pure_eq_ret]
  iintro ⟨Hs, Ha5, Ha6, Ha7⟩ HK
  iapply (send0 m ER c 0 1 5 (by decide +kernel) (by decide +kernel) (off5_1_eq c) (off1_eq c) (dev2_eq c) rfl rfl) $$ [Hs Ha5]
  · isplitl [Hs] <;> iassumption
  iintro Hs
  iapply (send0 m ER c 0 2 6 (by decide +kernel) (by decide +kernel) (off5_2_eq c) (off1_eq c) (dev3_eq c) rfl rfl) $$ [Hs Ha6]
  · isplitl [Hs] <;> iassumption
  iintro Hs
  iapply (send1 m ER c 0 0 7 (by decide +kernel) (by decide +kernel) (off6_0_eq c) (off2_eq c) (dev4_eq c) rfl rfl) $$ [Hs Ha7]
  · isplitl [Hs] <;> iassumption
  iintro Hs
  iapply (run_ret c _ Q)
  iapply HK
  iexact Hs

/-- Operations 8–9 of the opening: each uses the rows it reads and writes. -/
theorem issue5 (c : Dev nD) (i : grid0.Coords) {arg2 harg2 arg3 harg3 arg8 harg8} (v8 : BitVec 32) (k0_h1 : k0_cond1 i = 1#1) (v62 : BitVec 32) (v63 : BitVec 32) (v66 : BitVec 32) (v67 : BitVec 32) (v70 : BitVec 32) {Q : (BitVec 32) → sProp 𝕄} :
    iprop(stage m ER c 8 0 ∗ Rows.own q1 c A1 (opp c (Fin.succ 1)) (s1 m c) ∗ Rows.own q1 c A1 (opp c (Fin.succ 2)) (s1 m c))
      ⊢ iprop((∀ r, stage m ER c 10 0 -∗ Q r) -∗ run c (k0_part5 i arg2 harg2 arg3 harg3 A0 (Memref.isWhole_whole _) A1 (Memref.isWhole_whole _) A2 (Memref.isWhole_whole _) A3 (Memref.isWhole_whole _) arg8 harg8 TH (Memref.isWhole_whole _) D0 (Memref.isWhole_whole _) D1 (Memref.isWhole_whole _) D2 (Memref.isWhole_whole _) D3 (Memref.isWhole_whole _) AC (Memref.isWhole_whole _) SB (Memref.isWhole_whole _) cc0_scratch2 cc0_scratch3 cc0_scratch4 cc0_scratch5 cc0_scratch6 c v8 k0_h1 v62 v63 v66 v67 v70) Q) := by
  rw [k0_part5_eq_skeleton]; unfold k0_part5_skel
  simp only [Prog.lift, Prog.bind_op, Prog.bind_ret, Prog.pure_eq_ret]
  iintro ⟨Hs, Ha8, Ha9⟩ HK
  iapply (send1 m ER c 0 1 8 (by decide +kernel) (by decide +kernel) (off6_1_eq c) (off2_eq c) (dev5_eq c) rfl rfl) $$ [Hs Ha8]
  · isplitl [Hs] <;> iassumption
  iintro Hs
  iapply (send1 m ER c 0 2 9 (by decide +kernel) (by decide +kernel) (off6_2_eq c) (off2_eq c) (dev6_eq c) rfl rfl) $$ [Hs Ha9]
  · isplitl [Hs] <;> iassumption
  iintro Hs
  iapply (run_ret c _ Q)
  iapply HK
  iexact Hs

/-- Operations 10–11 of the opening: each uses the rows it reads and writes. -/
theorem issue6 (c : Dev nD) (i : grid0.Coords) {arg2 harg2 arg3 harg3 arg8 harg8} (v8 : BitVec 32) (k0_h1 : k0_cond1 i = 1#1) (v71 : BitVec 32) (v74 : BitVec 32) (v75 : BitVec 32) (v78 : BitVec 32) (v79 : BitVec 32) (v202 : BitVec 32) {Q : (Σ' (v233 : BitVec 32), BitVec 32) → sProp 𝕄} :
    iprop(stage m ER c 10 0 ∗ Rows.own q2 c A2 (opp c (Fin.succ 0)) (s2 m c) ∗ Rows.own q2 c A2 (opp c (Fin.succ 1)) (s2 m c))
      ⊢ iprop((∀ r, stage m ER c 12 0 -∗ Q r) -∗ run c (k0_part6 i arg2 harg2 arg3 harg3 A0 (Memref.isWhole_whole _) A1 (Memref.isWhole_whole _) A2 (Memref.isWhole_whole _) A3 (Memref.isWhole_whole _) arg8 harg8 TH (Memref.isWhole_whole _) D0 (Memref.isWhole_whole _) D1 (Memref.isWhole_whole _) D2 (Memref.isWhole_whole _) D3 (Memref.isWhole_whole _) AC (Memref.isWhole_whole _) SB (Memref.isWhole_whole _) cc0_scratch2 cc0_scratch3 cc0_scratch4 cc0_scratch5 cc0_scratch6 c v8 k0_h1 v71 v74 v75 v78 v79 v202) Q) := by
  rw [k0_part6_eq_skeleton]; unfold k0_part6_skel
  simp only [Prog.lift, Prog.bind_op, Prog.bind_ret, Prog.pure_eq_ret]
  iintro ⟨Hs, Ha10, Ha11⟩ HK
  iapply (send2 m ER c 0 0 10 (by decide +kernel) (by decide +kernel) (off7_0_eq c) (off3_eq c) (dev7_eq c) rfl rfl) $$ [Hs Ha10]
  · isplitl [Hs] <;> iassumption
  iintro Hs
  iapply (send2 m ER c 0 1 11 (by decide +kernel) (by decide +kernel) (off7_1_eq c) (off3_eq c) (dev8_eq c) rfl rfl) $$ [Hs Ha11]
  · isplitl [Hs] <;> iassumption
  iintro Hs
  iapply (run_ret c _ Q)
  iapply HK
  iexact Hs

/-- Operations 12–13 of the opening: each uses the rows it reads and writes. -/
theorem issue7 (c : Dev nD) (i : grid0.Coords) {arg2 harg2 arg3 harg3 arg8 harg8} (v8 : BitVec 32) (k0_h1 : k0_cond1 i = 1#1) (v82 : BitVec 32) (v83 : BitVec 32) (v86 : BitVec 32) (v87 : BitVec 32) (v233 : BitVec 32) (c1_i32_184 : BitVec 32) {Q : (PUnit) → sProp 𝕄} :
    iprop(stage m ER c 12 0 ∗ Rows.own q2 c A2 (opp c (Fin.succ 2)) (s2 m c) ∗ Rows.own q3 c A3 (opp c (Fin.succ 0)) (s3 m c))
      ⊢ iprop((∀ r, stage m ER c 14 0 -∗ Q r) -∗ run c (k0_part7 i arg2 harg2 arg3 harg3 A0 (Memref.isWhole_whole _) A1 (Memref.isWhole_whole _) A2 (Memref.isWhole_whole _) A3 (Memref.isWhole_whole _) arg8 harg8 TH (Memref.isWhole_whole _) D0 (Memref.isWhole_whole _) D1 (Memref.isWhole_whole _) D2 (Memref.isWhole_whole _) D3 (Memref.isWhole_whole _) AC (Memref.isWhole_whole _) SB (Memref.isWhole_whole _) cc0_scratch2 cc0_scratch3 cc0_scratch4 cc0_scratch5 cc0_scratch6 c v8 k0_h1 v82 v83 v86 v87 v233 c1_i32_184) Q) := by
  rw [k0_part7_eq_skeleton]; unfold k0_part7_skel
  simp only [Prog.lift, Prog.bind_op, Prog.bind_ret, Prog.pure_eq_ret]
  iintro ⟨Hs, Ha12, Ha13⟩ HK
  iapply (send2 m ER c 0 2 12 (by decide +kernel) (by decide +kernel) (off7_2_eq c) (off3_eq c) (dev9_eq c) rfl rfl) $$ [Hs Ha12]
  · isplitl [Hs] <;> iassumption
  iintro Hs
  iapply (send3 m ER c 0 0 13 (by decide +kernel) (by decide +kernel) (off8_0_eq c) (off4_eq c) (dev10_eq c) rfl rfl) $$ [Hs Ha13]
  · isplitl [Hs] <;> iassumption
  iintro Hs
  iapply (run_ret c _ Q)
  iapply HK
  iexact Hs

/-- The closing waits 3–4, with what each hands back. -/
theorem take9 (c : Dev nD) (i : grid0.Coords) {arg2 harg2 arg3 harg3 arg8 harg8} (v13 : BitVec 32) (v16 : BitVec 32) (v19 : BitVec 32) (k0_h11 : k0_cond11 i = 1#1) {Q : (Σ' (v69 : BitVec 32) (v71 : BitVec 32), BitVec 32) → sProp 𝕄} :
    stage m ER c 20 3
      ⊢ iprop((∀ r, (pay m c (.ps 3) ∗ pay m c (.pr 0) ∗ stage m ER c 20 5) -∗ Q r) -∗ run c (k0_part9 i arg2 harg2 arg3 harg3 A0 (Memref.isWhole_whole _) A1 (Memref.isWhole_whole _) A2 (Memref.isWhole_whole _) A3 (Memref.isWhole_whole _) arg8 harg8 TH (Memref.isWhole_whole _) D0 (Memref.isWhole_whole _) D1 (Memref.isWhole_whole _) D2 (Memref.isWhole_whole _) D3 (Memref.isWhole_whole _) AC (Memref.isWhole_whole _) SB (Memref.isWhole_whole _) cc0_scratch2 cc0_scratch3 cc0_scratch4 cc0_scratch5 cc0_scratch6 c v13 v16 v19 k0_h11) Q) := by
  rw [k0_part9_eq_skeleton]; unfold k0_part9_skel
  simp only [Prog.lift, Prog.bind_op, Prog.bind_ret, Prog.pure_eq_ret]
  iintro Hs HK
  iapply (take m ER c 20 3 (.ps 3) (by decide +kernel) (by decide +kernel) ?_) $$ Hs
  · intro R; exact wpE_waitDma2_eq _ _ none Set.univ R
  iintro ⟨Hp3, Hs⟩
  iapply (take m ER c 20 4 (.pr 0) (by decide +kernel) (by decide +kernel) ?_) $$ Hs
  · intro R; exact wpE_waitDma2_eq _ _ none Set.univ R
  iintro ⟨Hp4, Hs⟩
  iapply (run_ret c _ Q)
  iapply HK
  isplitl [Hp3]; · iexact Hp3
  isplitl [Hp4]; · iexact Hp4
  iexact Hs

/-- The closing waits 5–6, with what each hands back. -/
theorem take10 (c : Dev nD) (i : grid0.Coords) {arg2 harg2 arg3 harg3 arg8 harg8} (v13 : BitVec 32) (v16 : BitVec 32) (v19 : BitVec 32) (k0_h11 : k0_cond11 i = 1#1) (v69 : BitVec 32) (v71 : BitVec 32) (v72 : BitVec 32) {Q : (PUnit) → sProp 𝕄} :
    stage m ER c 20 5
      ⊢ iprop((∀ r, (pay m c (.pr 1) ∗ pay m c (.pr 2) ∗ stage m ER c 20 7) -∗ Q r) -∗ run c (k0_part10 i arg2 harg2 arg3 harg3 A0 (Memref.isWhole_whole _) A1 (Memref.isWhole_whole _) A2 (Memref.isWhole_whole _) A3 (Memref.isWhole_whole _) arg8 harg8 TH (Memref.isWhole_whole _) D0 (Memref.isWhole_whole _) D1 (Memref.isWhole_whole _) D2 (Memref.isWhole_whole _) D3 (Memref.isWhole_whole _) AC (Memref.isWhole_whole _) SB (Memref.isWhole_whole _) cc0_scratch2 cc0_scratch3 cc0_scratch4 cc0_scratch5 cc0_scratch6 c v13 v16 v19 k0_h11 v69 v71 v72) Q) := by
  rw [k0_part10_eq_skeleton]; unfold k0_part10_skel
  simp only [Prog.lift, Prog.bind_op, Prog.bind_ret, Prog.pure_eq_ret]
  iintro Hs HK
  iapply (take m ER c 20 5 (.pr 1) (by decide +kernel) (by decide +kernel) ?_) $$ Hs
  · intro R; exact wpE_waitDma2_eq _ _ none Set.univ R
  iintro ⟨Hp5, Hs⟩
  iapply (take m ER c 20 6 (.pr 2) (by decide +kernel) (by decide +kernel) ?_) $$ Hs
  · intro R; exact wpE_waitDma2_eq _ _ none Set.univ R
  iintro ⟨Hp6, Hs⟩
  iapply (run_ret c _ Q)
  iapply HK
  isplitl [Hp5]; · iexact Hp5
  isplitl [Hp6]; · iexact Hp6
  iexact Hs

/-- The closing waits 7–7, with what each hands back. -/
theorem take11 (c : Dev nD) (i : grid0.Coords) {arg2 harg2 arg3 harg3 arg8 harg8} (v2 : BitVec 32) (v5 : BitVec 32) (k0_h11 : k0_cond11 i = 1#1) {Q : (Σ' (v110 : BitVec 32) (v111 : BitVec 32) (v114 : BitVec 32) (v115 : BitVec 32) (v118 : BitVec 32) (v119 : BitVec 32) (v122 : BitVec 32) (v123 : BitVec 32) (v126 : BitVec 32) (v127 : BitVec 32) (v130 : BitVec 32) (v131 : BitVec 32) (v134 : BitVec 32), BitVec 32) → sProp 𝕄} :
    stage m ER c 20 7
      ⊢ iprop((∀ r, (pay m c (.pr 3) ∗ stage m ER c 20 8) -∗ Q r) -∗ run c (k0_part11 i arg2 harg2 arg3 harg3 A0 (Memref.isWhole_whole _) A1 (Memref.isWhole_whole _) A2 (Memref.isWhole_whole _) A3 (Memref.isWhole_whole _) arg8 harg8 TH (Memref.isWhole_whole _) D0 (Memref.isWhole_whole _) D1 (Memref.isWhole_whole _) D2 (Memref.isWhole_whole _) D3 (Memref.isWhole_whole _) AC (Memref.isWhole_whole _) SB (Memref.isWhole_whole _) cc0_scratch2 cc0_scratch3 cc0_scratch4 cc0_scratch5 cc0_scratch6 c v2 v5 k0_h11) Q) := by
  rw [k0_part11_eq_skeleton]; unfold k0_part11_skel
  simp only [Prog.lift, Prog.bind_op, Prog.bind_ret, Prog.pure_eq_ret]
  iintro Hs HK
  iapply (take m ER c 20 7 (.pr 3) (by decide +kernel) (by decide +kernel) ?_) $$ Hs
  · intro R; exact wpE_waitDma2_eq _ _ none Set.univ R
  iintro ⟨Hp7, Hs⟩
  iapply (run_ret c _ Q)
  iapply HK
  isplitl [Hp7]; · iexact Hp7
  iexact Hs

/-- The closing waits 8–8, with what each hands back. -/
theorem take12 (c : Dev nD) (i : grid0.Coords) {arg2 harg2 arg3 harg3 arg8 harg8} (v2 : BitVec 32) (v5 : BitVec 32) (v8 : BitVec 32) (k0_h11 : k0_cond11 i = 1#1) (v110 : BitVec 32) (v111 : BitVec 32) {Q : (Σ' (v138 : BitVec 32) (v139 : BitVec 32) (v142 : BitVec 32) (v143 : BitVec 32) (v146 : BitVec 32) (v147 : BitVec 32) (v150 : BitVec 32) (v151 : BitVec 32) (v154 : BitVec 32), BitVec 32) → sProp 𝕄} :
    stage m ER c 20 8
      ⊢ iprop((∀ r, (pay m c (.rv 0 0) ∗ stage m ER c 20 9) -∗ Q r) -∗ run c (k0_part12 i arg2 harg2 arg3 harg3 A0 (Memref.isWhole_whole _) A1 (Memref.isWhole_whole _) A2 (Memref.isWhole_whole _) A3 (Memref.isWhole_whole _) arg8 harg8 TH (Memref.isWhole_whole _) D0 (Memref.isWhole_whole _) D1 (Memref.isWhole_whole _) D2 (Memref.isWhole_whole _) D3 (Memref.isWhole_whole _) AC (Memref.isWhole_whole _) SB (Memref.isWhole_whole _) cc0_scratch2 cc0_scratch3 cc0_scratch4 cc0_scratch5 cc0_scratch6 c v2 v5 v8 k0_h11 v110 v111) Q) := by
  rw [k0_part12_eq_skeleton]; unfold k0_part12_skel
  simp only [Prog.lift, Prog.bind_op, Prog.bind_ret, Prog.pure_eq_ret]
  iintro Hs HK
  iapply (take m ER c 20 8 (.rv 0 0) (by decide +kernel) (by decide +kernel) ?_) $$ Hs
  · intro R; exact wpE_waitDma2_eq _ _ none Set.univ R
  iintro ⟨Hp8, Hs⟩
  iapply (run_ret c _ Q)
  iapply HK
  isplitl [Hp8]; · iexact Hp8
  iexact Hs

/-- The closing waits 9–10, with what each hands back. -/
theorem take13 (c : Dev nD) (i : grid0.Coords) {arg2 harg2 arg3 harg3 arg8 harg8} (v8 : BitVec 32) (k0_h11 : k0_cond11 i = 1#1) (v114 : BitVec 32) (v115 : BitVec 32) (v118 : BitVec 32) (v119 : BitVec 32) (v122 : BitVec 32) (v123 : BitVec 32) {Q : (Σ' (v195 : BitVec 32), BitVec 32) → sProp 𝕄} :
    stage m ER c 20 9
      ⊢ iprop((∀ r, (pay m c (.rv 0 1) ∗ pay m c (.rv 0 2) ∗ stage m ER c 20 11) -∗ Q r) -∗ run c (k0_part13 i arg2 harg2 arg3 harg3 A0 (Memref.isWhole_whole _) A1 (Memref.isWhole_whole _) A2 (Memref.isWhole_whole _) A3 (Memref.isWhole_whole _) arg8 harg8 TH (Memref.isWhole_whole _) D0 (Memref.isWhole_whole _) D1 (Memref.isWhole_whole _) D2 (Memref.isWhole_whole _) D3 (Memref.isWhole_whole _) AC (Memref.isWhole_whole _) SB (Memref.isWhole_whole _) cc0_scratch2 cc0_scratch3 cc0_scratch4 cc0_scratch5 cc0_scratch6 c v8 k0_h11 v114 v115 v118 v119 v122 v123) Q) := by
  rw [k0_part13_eq_skeleton]; unfold k0_part13_skel
  simp only [Prog.lift, Prog.bind_op, Prog.bind_ret, Prog.pure_eq_ret]
  iintro Hs HK
  iapply (take m ER c 20 9 (.rv 0 1) (by decide +kernel) (by decide +kernel) ?_) $$ Hs
  · intro R; exact wpE_waitDma2_eq _ _ none Set.univ R
  iintro ⟨Hp9, Hs⟩
  iapply (take m ER c 20 10 (.rv 0 2) (by decide +kernel) (by decide +kernel) ?_) $$ Hs
  · intro R; exact wpE_waitDma2_eq _ _ none Set.univ R
  iintro ⟨Hp10, Hs⟩
  iapply (run_ret c _ Q)
  iapply HK
  isplitl [Hp9]; · iexact Hp9
  isplitl [Hp10]; · iexact Hp10
  iexact Hs

/-- The closing waits 11–12, with what each hands back. -/
theorem take14 (c : Dev nD) (i : grid0.Coords) {arg2 harg2 arg3 harg3 arg8 harg8} (v8 : BitVec 32) (k0_h11 : k0_cond11 i = 1#1) (v126 : BitVec 32) (v127 : BitVec 32) (v130 : BitVec 32) (v131 : BitVec 32) (v195 : BitVec 32) (v196 : BitVec 32) {Q : (PUnit) → sProp 𝕄} :
    stage m ER c 20 11
      ⊢ iprop((∀ r, (pay m c (.rv 1 0) ∗ pay m c (.rv 1 1) ∗ stage m ER c 20 13) -∗ Q r) -∗ run c (k0_part14 i arg2 harg2 arg3 harg3 A0 (Memref.isWhole_whole _) A1 (Memref.isWhole_whole _) A2 (Memref.isWhole_whole _) A3 (Memref.isWhole_whole _) arg8 harg8 TH (Memref.isWhole_whole _) D0 (Memref.isWhole_whole _) D1 (Memref.isWhole_whole _) D2 (Memref.isWhole_whole _) D3 (Memref.isWhole_whole _) AC (Memref.isWhole_whole _) SB (Memref.isWhole_whole _) cc0_scratch2 cc0_scratch3 cc0_scratch4 cc0_scratch5 cc0_scratch6 c v8 k0_h11 v126 v127 v130 v131 v195 v196) Q) := by
  rw [k0_part14_eq_skeleton]; unfold k0_part14_skel
  simp only [Prog.lift, Prog.bind_op, Prog.bind_ret, Prog.pure_eq_ret]
  iintro Hs HK
  iapply (take m ER c 20 11 (.rv 1 0) (by decide +kernel) (by decide +kernel) ?_) $$ Hs
  · intro R; exact wpE_waitDma2_eq _ _ none Set.univ R
  iintro ⟨Hp11, Hs⟩
  iapply (take m ER c 20 12 (.rv 1 1) (by decide +kernel) (by decide +kernel) ?_) $$ Hs
  · intro R; exact wpE_waitDma2_eq _ _ none Set.univ R
  iintro ⟨Hp12, Hs⟩
  iapply (run_ret c _ Q)
  iapply HK
  isplitl [Hp11]; · iexact Hp11
  isplitl [Hp12]; · iexact Hp12
  iexact Hs

/-- The closing waits 13–15, with what each hands back. -/
theorem take15 (c : Dev nD) (i : grid0.Coords) {arg2 harg2 arg3 harg3 arg8 harg8} (v8 : BitVec 32) (k0_h11 : k0_cond11 i = 1#1) (v134 : BitVec 32) (v135 : BitVec 32) (v138 : BitVec 32) (v139 : BitVec 32) {Q : (BitVec 32) → sProp 𝕄} :
    stage m ER c 20 13
      ⊢ iprop((∀ r, (pay m c (.rv 1 2) ∗ pay m c (.rv 2 0) ∗ pay m c (.rv 2 1) ∗ stage m ER c 20 16) -∗ Q r) -∗ run c (k0_part15 i arg2 harg2 arg3 harg3 A0 (Memref.isWhole_whole _) A1 (Memref.isWhole_whole _) A2 (Memref.isWhole_whole _) A3 (Memref.isWhole_whole _) arg8 harg8 TH (Memref.isWhole_whole _) D0 (Memref.isWhole_whole _) D1 (Memref.isWhole_whole _) D2 (Memref.isWhole_whole _) D3 (Memref.isWhole_whole _) AC (Memref.isWhole_whole _) SB (Memref.isWhole_whole _) cc0_scratch2 cc0_scratch3 cc0_scratch4 cc0_scratch5 cc0_scratch6 c v8 k0_h11 v134 v135 v138 v139) Q) := by
  rw [k0_part15_eq_skeleton]; unfold k0_part15_skel
  simp only [Prog.lift, Prog.bind_op, Prog.bind_ret, Prog.pure_eq_ret]
  iintro Hs HK
  iapply (take m ER c 20 13 (.rv 1 2) (by decide +kernel) (by decide +kernel) ?_) $$ Hs
  · intro R; exact wpE_waitDma2_eq _ _ none Set.univ R
  iintro ⟨Hp13, Hs⟩
  iapply (take m ER c 20 14 (.rv 2 0) (by decide +kernel) (by decide +kernel) ?_) $$ Hs
  · intro R; exact wpE_waitDma2_eq _ _ none Set.univ R
  iintro ⟨Hp14, Hs⟩
  iapply (take m ER c 20 15 (.rv 2 1) (by decide +kernel) (by decide +kernel) ?_) $$ Hs
  · intro R; exact wpE_waitDma2_eq _ _ none Set.univ R
  iintro ⟨Hp15, Hs⟩
  iapply (run_ret c _ Q)
  iapply HK
  isplitl [Hp13]; · iexact Hp13
  isplitl [Hp14]; · iexact Hp14
  isplitl [Hp15]; · iexact Hp15
  iexact Hs

/-- The closing waits 16–17, with what each hands back. -/
theorem take16 (c : Dev nD) (i : grid0.Coords) {arg2 harg2 arg3 harg3 arg8 harg8} (v8 : BitVec 32) (k0_h11 : k0_cond11 i = 1#1) (v142 : BitVec 32) (v143 : BitVec 32) (v146 : BitVec 32) (v147 : BitVec 32) (v150 : BitVec 32) (v151 : BitVec 32) (c4_i32_223 : BitVec 32) {Q : (PUnit) → sProp 𝕄} :
    stage m ER c 20 16
      ⊢ iprop((∀ r, (pay m c (.rv 2 2) ∗ pay m c (.rv 3 0) ∗ stage m ER c 20 18) -∗ Q r) -∗ run c (k0_part16 i arg2 harg2 arg3 harg3 A0 (Memref.isWhole_whole _) A1 (Memref.isWhole_whole _) A2 (Memref.isWhole_whole _) A3 (Memref.isWhole_whole _) arg8 harg8 TH (Memref.isWhole_whole _) D0 (Memref.isWhole_whole _) D1 (Memref.isWhole_whole _) D2 (Memref.isWhole_whole _) D3 (Memref.isWhole_whole _) AC (Memref.isWhole_whole _) SB (Memref.isWhole_whole _) cc0_scratch2 cc0_scratch3 cc0_scratch4 cc0_scratch5 cc0_scratch6 c v8 k0_h11 v142 v143 v146 v147 v150 v151 c4_i32_223) Q) := by
  rw [k0_part16_eq_skeleton]; unfold k0_part16_skel
  simp only [Prog.lift, Prog.bind_op, Prog.bind_ret, Prog.pure_eq_ret]
  iintro Hs HK
  iapply (take m ER c 20 16 (.rv 2 2) (by decide +kernel) (by decide +kernel) ?_) $$ Hs
  · intro R; exact wpE_waitDma2_eq _ _ none Set.univ R
  iintro ⟨Hp16, Hs⟩
  iapply (take m ER c 20 17 (.rv 3 0) (by decide +kernel) (by decide +kernel) ?_) $$ Hs
  · intro R; exact wpE_waitDma2_eq _ _ none Set.univ R
  iintro ⟨Hp17, Hs⟩
  iapply (run_ret c _ Q)
  iapply HK
  isplitl [Hp16]; · iexact Hp16
  isplitl [Hp17]; · iexact Hp17
  iexact Hs

/-- The closing waits 18–20, with what each hands back. -/
theorem take17 (c : Dev nD) (i : grid0.Coords) {arg2 harg2 arg3 harg3 arg8 harg8} (v8 : BitVec 32) (k0_h11 : k0_cond11 i = 1#1) (v154 : BitVec 32) (v155 : BitVec 32) {Q : (PUnit) → sProp 𝕄} :
    stage m ER c 20 18
      ⊢ iprop((∀ r, (pay m c (.rv 3 1) ∗ pay m c (.rv 3 2) ∗ pay m c (.sd 0 0) ∗ stage m ER c 20 21) -∗ Q r) -∗ run c (k0_part17 i arg2 harg2 arg3 harg3 A0 (Memref.isWhole_whole _) A1 (Memref.isWhole_whole _) A2 (Memref.isWhole_whole _) A3 (Memref.isWhole_whole _) arg8 harg8 TH (Memref.isWhole_whole _) D0 (Memref.isWhole_whole _) D1 (Memref.isWhole_whole _) D2 (Memref.isWhole_whole _) D3 (Memref.isWhole_whole _) AC (Memref.isWhole_whole _) SB (Memref.isWhole_whole _) cc0_scratch2 cc0_scratch3 cc0_scratch4 cc0_scratch5 cc0_scratch6 c v8 k0_h11 v154 v155) Q) := by
  rw [k0_part17_eq_skeleton]; unfold k0_part17_skel
  simp only [Prog.lift, Prog.bind_op, Prog.bind_ret, Prog.pure_eq_ret]
  iintro Hs HK
  iapply (take m ER c 20 18 (.rv 3 1) (by decide +kernel) (by decide +kernel) ?_) $$ Hs
  · intro R; exact wpE_waitDma2_eq _ _ none Set.univ R
  iintro ⟨Hp18, Hs⟩
  iapply (take m ER c 20 19 (.rv 3 2) (by decide +kernel) (by decide +kernel) ?_) $$ Hs
  · intro R; exact wpE_waitDma2_eq _ _ none Set.univ R
  iintro ⟨Hp19, Hs⟩
  iapply (take m ER c 20 20 (.sd 0 0) (by decide +kernel) (by decide +kernel) ?_) $$ Hs
  · intro R; exact wpE_waitDma2_eq _ _ none Set.univ R
  iintro ⟨Hp20, Hs⟩
  iapply (run_ret c _ Q)
  iapply HK
  isplitl [Hp18]; · iexact Hp18
  isplitl [Hp19]; · iexact Hp19
  isplitl [Hp20]; · iexact Hp20
  iexact Hs

/-- The closing waits 21–24, with what each hands back. -/
theorem take18 (c : Dev nD) (i : grid0.Coords) {arg2 harg2 arg3 harg3 arg8 harg8} (k0_h11 : k0_cond11 i = 1#1) {Q : (PUnit) → sProp 𝕄} :
    stage m ER c 20 21
      ⊢ iprop((∀ r, (pay m c (.sd 0 1) ∗ pay m c (.sd 0 2) ∗ pay m c (.sd 1 0) ∗ pay m c (.sd 1 1) ∗ stage m ER c 20 25) -∗ Q r) -∗ run c (k0_part18 i arg2 harg2 arg3 harg3 A0 (Memref.isWhole_whole _) A1 (Memref.isWhole_whole _) A2 (Memref.isWhole_whole _) A3 (Memref.isWhole_whole _) arg8 harg8 TH (Memref.isWhole_whole _) D0 (Memref.isWhole_whole _) D1 (Memref.isWhole_whole _) D2 (Memref.isWhole_whole _) D3 (Memref.isWhole_whole _) AC (Memref.isWhole_whole _) SB (Memref.isWhole_whole _) cc0_scratch2 cc0_scratch3 cc0_scratch4 cc0_scratch5 cc0_scratch6 c k0_h11) Q) := by
  rw [k0_part18_eq_skeleton]; unfold k0_part18_skel
  simp only [Prog.lift, Prog.bind_op, Prog.bind_ret, Prog.pure_eq_ret]
  iintro Hs HK
  iapply (take m ER c 20 21 (.sd 0 1) (by decide +kernel) (by decide +kernel) ?_) $$ Hs
  · intro R; exact wpE_waitDma2_eq _ _ none Set.univ R
  iintro ⟨Hp21, Hs⟩
  iapply (take m ER c 20 22 (.sd 0 2) (by decide +kernel) (by decide +kernel) ?_) $$ Hs
  · intro R; exact wpE_waitDma2_eq _ _ none Set.univ R
  iintro ⟨Hp22, Hs⟩
  iapply (take m ER c 20 23 (.sd 1 0) (by decide +kernel) (by decide +kernel) ?_) $$ Hs
  · intro R; exact wpE_waitDma2_eq _ _ none Set.univ R
  iintro ⟨Hp23, Hs⟩
  iapply (take m ER c 20 24 (.sd 1 1) (by decide +kernel) (by decide +kernel) ?_) $$ Hs
  · intro R; exact wpE_waitDma2_eq _ _ none Set.univ R
  iintro ⟨Hp24, Hs⟩
  iapply (run_ret c _ Q)
  iapply HK
  isplitl [Hp21]; · iexact Hp21
  isplitl [Hp22]; · iexact Hp22
  isplitl [Hp23]; · iexact Hp23
  isplitl [Hp24]; · iexact Hp24
  iexact Hs

/-- The closing waits 25–28, with what each hands back. -/
theorem take19 (c : Dev nD) (i : grid0.Coords) {arg2 harg2 arg3 harg3 arg8 harg8} (k0_h11 : k0_cond11 i = 1#1) {Q : (PUnit) → sProp 𝕄} :
    stage m ER c 20 25
      ⊢ iprop((∀ r, (pay m c (.sd 1 2) ∗ pay m c (.sd 2 0) ∗ pay m c (.sd 2 1) ∗ pay m c (.sd 2 2) ∗ stage m ER c 20 29) -∗ Q r) -∗ run c (k0_part19 i arg2 harg2 arg3 harg3 A0 (Memref.isWhole_whole _) A1 (Memref.isWhole_whole _) A2 (Memref.isWhole_whole _) A3 (Memref.isWhole_whole _) arg8 harg8 TH (Memref.isWhole_whole _) D0 (Memref.isWhole_whole _) D1 (Memref.isWhole_whole _) D2 (Memref.isWhole_whole _) D3 (Memref.isWhole_whole _) AC (Memref.isWhole_whole _) SB (Memref.isWhole_whole _) cc0_scratch2 cc0_scratch3 cc0_scratch4 cc0_scratch5 cc0_scratch6 c k0_h11) Q) := by
  rw [k0_part19_eq_skeleton]; unfold k0_part19_skel
  simp only [Prog.lift, Prog.bind_op, Prog.bind_ret, Prog.pure_eq_ret]
  iintro Hs HK
  iapply (take m ER c 20 25 (.sd 1 2) (by decide +kernel) (by decide +kernel) ?_) $$ Hs
  · intro R; exact wpE_waitDma2_eq _ _ none Set.univ R
  iintro ⟨Hp25, Hs⟩
  iapply (take m ER c 20 26 (.sd 2 0) (by decide +kernel) (by decide +kernel) ?_) $$ Hs
  · intro R; exact wpE_waitDma2_eq _ _ none Set.univ R
  iintro ⟨Hp26, Hs⟩
  iapply (take m ER c 20 27 (.sd 2 1) (by decide +kernel) (by decide +kernel) ?_) $$ Hs
  · intro R; exact wpE_waitDma2_eq _ _ none Set.univ R
  iintro ⟨Hp27, Hs⟩
  iapply (take m ER c 20 28 (.sd 2 2) (by decide +kernel) (by decide +kernel) ?_) $$ Hs
  · intro R; exact wpE_waitDma2_eq _ _ none Set.univ R
  iintro ⟨Hp28, Hs⟩
  iapply (run_ret c _ Q)
  iapply HK
  isplitl [Hp25]; · iexact Hp25
  isplitl [Hp26]; · iexact Hp26
  isplitl [Hp27]; · iexact Hp27
  isplitl [Hp28]; · iexact Hp28
  iexact Hs

/-- The closing waits 29–32, with what each hands back. -/
theorem take20 (c : Dev nD) (i : grid0.Coords) {arg2 harg2 arg3 harg3 arg8 harg8} (k0_h11 : k0_cond11 i = 1#1) {Q : (PUnit) → sProp 𝕄} :
    stage m ER c 20 29
      ⊢ iprop((∀ r, (pay m c (.sd 3 0) ∗ pay m c (.sd 3 1) ∗ pay m c (.sd 3 2) ∗ pay m c (.lc 0) ∗ stage m ER c 20 33) -∗ Q r) -∗ run c (k0_part20 i arg2 harg2 arg3 harg3 A0 (Memref.isWhole_whole _) A1 (Memref.isWhole_whole _) A2 (Memref.isWhole_whole _) A3 (Memref.isWhole_whole _) arg8 harg8 TH (Memref.isWhole_whole _) D0 (Memref.isWhole_whole _) D1 (Memref.isWhole_whole _) D2 (Memref.isWhole_whole _) D3 (Memref.isWhole_whole _) AC (Memref.isWhole_whole _) SB (Memref.isWhole_whole _) cc0_scratch2 cc0_scratch3 cc0_scratch4 cc0_scratch5 cc0_scratch6 c k0_h11) Q) := by
  rw [k0_part20_eq_skeleton]; unfold k0_part20_skel
  simp only [Prog.lift, Prog.bind_op, Prog.bind_ret, Prog.pure_eq_ret]
  iintro Hs HK
  iapply (take m ER c 20 29 (.sd 3 0) (by decide +kernel) (by decide +kernel) ?_) $$ Hs
  · intro R; exact wpE_waitDma2_eq _ _ none Set.univ R
  iintro ⟨Hp29, Hs⟩
  iapply (take m ER c 20 30 (.sd 3 1) (by decide +kernel) (by decide +kernel) ?_) $$ Hs
  · intro R; exact wpE_waitDma2_eq _ _ none Set.univ R
  iintro ⟨Hp30, Hs⟩
  iapply (take m ER c 20 31 (.sd 3 2) (by decide +kernel) (by decide +kernel) ?_) $$ Hs
  · intro R; exact wpE_waitDma2_eq _ _ none Set.univ R
  iintro ⟨Hp31, Hs⟩
  iapply (take m ER c 20 32 (.lc 0) (by decide +kernel) (by decide +kernel) ?_) $$ Hs
  · intro R; exact wpE_waitDma2_eq _ _ none Set.univ R
  iintro ⟨Hp32, Hs⟩
  iapply (run_ret c _ Q)
  iapply HK
  isplitl [Hp29]; · iexact Hp29
  isplitl [Hp30]; · iexact Hp30
  isplitl [Hp31]; · iexact Hp31
  isplitl [Hp32]; · iexact Hp32
  iexact Hs

end Cert.KernelIdeal.GW

end
-- ==== Proof.Work.lean ====
module

public import Idealize.ShloMosaic.Lib.WritesUnit
public import proofs.«01_k».proof.Proof.Moves

@[expose] public section

noncomputable section

/-! The body at each kind of grid point. -/

namespace Cert.KernelIdeal.GW

open Idealize.ShloMosaic
open Idealize.SL
open Idealize.SL.BI
open scoped Idealize.SL.BI
open Idealize.SL.BI.BIBase Idealize.SL.BI.Laws Idealize.SL.Sem Idealize.SL.ProofMode
open Idealize.SL.RA
open Idealize.ShloMosaic.TcCoe
open Idealize.ShloMosaic.Rounds
open Idealize.ShloMosaic.ValueIdx
open Idealize.ShloMosaic.Pipeline
open Cert.KernelIdeal.Gen

set_option Elab.async false

variable {F : FTy → Type} [FloatOps F]
variable (m : (ℓ : Loc nD τ sig) → Buf (Elt F) ℓ)
variable {U : Type} [URA U]
variable (ER : Emb (URounds (GSem nD τ sig) Unit) (MT nD τ sig Unit (Elt F) ℕ U ℕ))
local notation "𝕄" => MT nD τ sig Unit (Elt F) ℕ U ℕ

/-! ### Loads and stores of a memref that is held whole -/

/-- A memref and what is read through it. -/
abbrev has (c : Dev nD) {sp : Space} {s : Shape} {e : EltTy} (M : Memref sig .tc sp s e) (X : s.Idx → Elt F e) : sProp 𝕄 :=
  owns (c.tc : Thread nD τ) M fullShare X

theorem load (c : Dev nD) {α : Type} {Q : α → sProp 𝕄} {cs : CoreSpace} {s : Shape} {e : EltTy} (M : Memref sig .tc cs s e) (X : s.Idx → Elt F e)
    {r : LoadRect s} {hl : M.view.LoadsAt r} {k : (r.shape.Idx → Elt F e) → Prog (TpuEff nD τ sig (Elt F) Λ₀ .tc) α} :
    has c M X ⊢ iprop((has c M X -∗ run c (k fun x => X (r.idx x)) Q) -∗ run c (.op (.load M r hl) k) Q) := by
  unfold has owns
  iintro ⟨%f, %hf, H⟩ HK
  have hsub : M.view.setOn r.set ⊆ M.view.set := View.setOn_subset_set _ _
  iapply (wp_load Variants.none (c.tc : Thread nD τ) none Set.univ (m := M) (r := r) (q := fullShare) (f := f) hsub) $$ H
  iintro H
  rw [show M.view.readAt (Elt F) r f = fun x => X (r.idx x) from by subst hf; rfl]
  iapply HK
  iexists f
  isplitr; · ipureintro; exact hf
  iexact H

theorem store (c : Dev nD) {α : Type} {Q : α → sProp 𝕄} {cs : CoreSpace} {s : Shape} {e : EltTy} (M : Memref sig .tc cs s e) (X X' : s.Idx → Elt F e)
    {r : Rect s} {w : r.shape.Idx → Elt F e} {hx : (M.access r).Stores Finset.univ} {hm : (Finset.univ : Finset r.shape.Idx) = Finset.univ ∨ ∀ a, r.stride a = 1}
    {k : PUnit → Prog (TpuEff nD τ sig (Elt F) Λ₀ .tc) α}
    (hX : ∀ f : M.view.ty.Contents (Elt F), M.view.read (Elt F) f = X → M.view.read (Elt F) (M.view.writes (Elt F) f [⟨r, w⟩]) = X') :
    has c M X ⊢ iprop((has c M X' -∗ run c (k ⟨⟩) Q) -∗ run c (.op (.store M r w Finset.univ hx hm) k) Q) := by
  unfold has owns
  iintro ⟨%f, %hf, H⟩ HK
  have hsub : (M.access r).setOn Finset.univ ⊆ M.view.set := by
    rw [View.setOn_univ]; exact View.set_slice_subset _ _
  iapply (wp_store Variants.none (c.tc : Thread nD τ) none Set.univ (m := M) (r := r) (w := w) (Mk := Finset.univ) (f := f) hsub) $$ H
  iintro H
  iapply HK
  iexists (M.view.writes (Elt F) f [⟨r, w⟩])
  isplitr; · ipureintro; exact hX f hf
  iexact H

theorem loadFull (c : Dev nD) {α : Type} {Q : α → sProp 𝕄} {cs : CoreSpace} {s : Shape} {e : EltTy} (M : Memref sig .tc cs s e) (X : s.Idx → Elt F e)
    {off : Fin s.rank → ℕ} {inb : ∀ a, off a + s.size a ≤ s.size a} {hl : M.view.LoadsAt (Rect.unit off s.size inb).toLoadRect}
    {k : ((Rect.unit off s.size inb).toLoadRect.shape.Idx → Elt F e) → Prog (TpuEff nD τ sig (Elt F) Λ₀ .tc) α} :
    has c M X ⊢ iprop((has c M X -∗ run c (k X) Q) -∗ run c (.op (.load M (Rect.unit off s.size inb).toLoadRect hl) k) Q) := by
  have h := load c (Q := Q) M X (hl := hl) (k := k)
  rw [show (fun x => X ((Rect.unit off s.size inb).toLoadRect.idx x)) = X from funext fun y => congrArg X (funext fun a => Fin.ext (by
    show off a + 1 * (y a).val = (y a).val
    have := inb a; omega))] at h
  exact h

theorem storeFull (c : Dev nD) {α : Type} {Q : α → sProp 𝕄} {cs : CoreSpace} {s : Shape} {e : EltTy} (M : Memref sig .tc cs s e) (X w : s.Idx → Elt F e)
    {off : Fin s.rank → ℕ} {inb : ∀ a, off a + s.size a ≤ s.size a} {hx : (M.access (Rect.unit off s.size inb)).Stores Finset.univ}
    {hm : (Finset.univ : Finset (Rect.unit off s.size inb).shape.Idx) = Finset.univ ∨ ∀ a, (Rect.unit off s.size inb).stride a = 1}
    {k : PUnit → Prog (TpuEff nD τ sig (Elt F) Λ₀ .tc) α} :
    has c M X ⊢ iprop((has c M w -∗ run c (k ⟨⟩) Q) -∗ run c (.op (.store M (Rect.unit off s.size inb) w Finset.univ hx hm) k) Q) := by
  refine store c M X w (r := Rect.unit off s.size inb) (w := w) ?_
  intro f _
  funext y
  have h0 : ∀ a, off a = 0 := fun a => by have := inb a; omega
  exact View.read_writes_cons_unit_of_mem (off' := off) M.view f inb w [] y (y : s.Idx) rfl fun a => by rw [h0 a, Nat.zero_add]

/-! ### The first half of the body: opening, accumulator, left factor -/

/-- The body asks whether it is at the start of a pair. -/
abbrev isFirst (i : grid0.Coords) : Prop := Scalar.cmpi .ne (Scalar.extui (Scalar.cmpi .eq (BitVec.ofNat 32 (i 1).val) 0#32)) 0#32 = 1#1

theorem part1 (c : Dev nD) (i : grid0.Coords) {arg2 harg2 arg3 harg3 arg8 harg8} (v2 v5 : BitVec 32) {Q : _ → sProp 𝕄} :
    iprop(∀ r, Q r) ⊢ run c (k0_part1 (F := F) i arg2 harg2 arg3 harg3 A0 (Memref.isWhole_whole _) A1 (Memref.isWhole_whole _) A2 (Memref.isWhole_whole _) A3 (Memref.isWhole_whole _) arg8 harg8 TH (Memref.isWhole_whole _) D0 (Memref.isWhole_whole _) D1 (Memref.isWhole_whole _) D2 (Memref.isWhole_whole _) D3 (Memref.isWhole_whole _) AC (Memref.isWhole_whole _) SB (Memref.isWhole_whole _) cc0_scratch2 cc0_scratch3 cc0_scratch4 cc0_scratch5 cc0_scratch6 v2 v5) Q := by
  rw [k0_part1_eq_skeleton]; unfold k0_part1_skel
  simp only [Prog.pure_eq_ret]
  iintro H
  iapply (run_ret c _ Q)
  iapply H

theorem head_first (c : Dev nD) (i : grid0.Coords) {arg2 harg2 arg3 harg3 arg8 harg8} (h1 : k0_cond1 i = 1#1) (hz : isFirst i) (X : Vec F S2048x1792 .f32) (a : Vec F S1024x2048 .bf16)
    {Q : _ → sProp 𝕄} :
    iprop(stage m ER c 0 0 ∗ Rows.own q0 c A0 (opp c 0) (s0 m c) ∗ (∃ f, Rows.own q0 c D0 (opp c 0) f) ∗ Rows.own q1 c A1 (opp c 0) (s1 m c) ∗ (∃ f, Rows.own q1 c D1 (opp c 0) f) ∗ Rows.own q2 c A2 (opp c 0) (s2 m c) ∗ (∃ f, Rows.own q2 c D2 (opp c 0) f) ∗ Rows.own q3 c A3 (opp c 0) (s3 m c) ∗ (∃ f, Rows.own q3 c D3 (opp c 0) f) ∗ Rows.own q0 c A0 (opp c (Fin.succ 0)) (s0 m c) ∗ Rows.own q0 c A0 (opp c (Fin.succ 1)) (s0 m c) ∗ Rows.own q0 c A0 (opp c (Fin.succ 2)) (s0 m c) ∗ Rows.own q1 c A1 (opp c (Fin.succ 0)) (s1 m c) ∗ Rows.own q1 c A1 (opp c (Fin.succ 1)) (s1 m c) ∗ Rows.own q1 c A1 (opp c (Fin.succ 2)) (s1 m c) ∗ Rows.own q2 c A2 (opp c (Fin.succ 0)) (s2 m c) ∗ Rows.own q2 c A2 (opp c (Fin.succ 1)) (s2 m c) ∗ Rows.own q2 c A2 (opp c (Fin.succ 2)) (s2 m c) ∗ Rows.own q3 c A3 (opp c (Fin.succ 0)) (s3 m c) ∗ Rows.own q3 c A3 (opp c (Fin.succ 1)) (s3 m c) ∗ Rows.own q3 c A3 (opp c (Fin.succ 2)) (s3 m c) ∗ has c AC X ∗ has c arg2 a)
      ⊢ iprop((∀ a0 a1 v2 v5 v8 v13 v16 v19, (stage m ER c 16 0 ∗ has c AC k0_pay8 ∗ has c arg2 a) -∗ Q ⟨a0, a1, c, v2, v5, v8, v13, v16, v19, k0_pay8, k0_pay9 a⟩)
        -∗ run c (k0_part21 i arg2 harg2 arg3 harg3 A0 (Memref.isWhole_whole _) A1 (Memref.isWhole_whole _) A2 (Memref.isWhole_whole _) A3 (Memref.isWhole_whole _) arg8 harg8 TH (Memref.isWhole_whole _) D0 (Memref.isWhole_whole _) D1 (Memref.isWhole_whole _) D2 (Memref.isWhole_whole _) D3 (Memref.isWhole_whole _) AC (Memref.isWhole_whole _) SB (Memref.isWhole_whole _) cc0_scratch2 cc0_scratch3 cc0_scratch4 cc0_scratch5 cc0_scratch6) Q) := by
  rw [k0_part21_eq_skeleton]; unfold k0_part21_skel run
  simp only [Prog.lift, Prog.bind_op, Prog.bind_ret, Prog.pure_eq_ret, dif_pos h1, dif_pos hz, wp_bind, wp_deviceId]
  iintro ⟨Hs, Ha0, Hd0, Ha1, Hd1, Ha2, Hd2, Ha3, Hd3, Ha4, Ha5, Ha6, Ha7, Ha8, Ha9, Ha10, Ha11, Ha12, Ha13, Ha14, Ha15, HX, HA⟩ HK
  iapply (part1 c i)
  iintro %r1
  iapply (issue2 m ER c i) $$ [Hs Ha0 Hd0 Ha1 Hd1 Ha2 Hd2]
  · isplitl [Hs]; · iexact Hs
    isplitl [Ha0]; · iexact Ha0
    isplitl [Hd0]; · iexact Hd0
    isplitl [Ha1]; · iexact Ha1
    isplitl [Hd1]; · iexact Hd1
    isplitl [Ha2]; · iexact Ha2
    iexact Hd2
  iintro %r2 Hs
  iapply (issue3 m ER c i) $$ [Hs Ha3 Hd3 Ha4]
  · isplitl [Hs]; · iexact Hs
    isplitl [Ha3]; · iexact Ha3
    isplitl [Hd3]; · iexact Hd3
    iexact Ha4
  iintro %r3 Hs
  iapply (issue4 m ER c i) $$ [Hs Ha5 Ha6 Ha7]
  · isplitl [Hs]; · iexact Hs
    isplitl [Ha5]; · iexact Ha5
    isplitl [Ha6]; · iexact Ha6
    iexact Ha7
  iintro %r4 Hs
  iapply (issue5 m ER c i) $$ [Hs Ha8 Ha9]
  · isplitl [Hs]; · iexact Hs
    isplitl [Ha8]; · iexact Ha8
    iexact Ha9
  iintro %r5 Hs
  iapply (issue6 m ER c i) $$ [Hs Ha10 Ha11]
  · isplitl [Hs]; · iexact Hs
    isplitl [Ha10]; · iexact Ha10
    iexact Ha11
  iintro %r6 Hs
  iapply (issue7 m ER c i) $$ [Hs Ha12 Ha13]
  · isplitl [Hs]; · iexact Hs
    isplitl [Ha12]; · iexact Ha12
    iexact Ha13
  iintro %r7 Hs
  iapply (send3 m ER c 0 1 14 (by decide +kernel) (by decide +kernel) (off8_1_eq c) (off4_eq c) (dev11_eq c) rfl rfl) $$ [Hs Ha14]
  · isplitl [Hs] <;> iassumption
  iintro Hs
  iapply (send3 m ER c 0 2 15 (by decide +kernel) (by decide +kernel) (off8_2_eq c) (off4_eq c) (dev12_eq c) rfl rfl) $$ [Hs Ha15]
  · isplitl [Hs] <;> iassumption
  iintro Hs
  iapply (loadFull c AC X) $$ HX; iintro HX
  iapply (storeFull c AC X k0_pay8) $$ HX; iintro HX
  iapply (loadFull c AC k0_pay8) $$ HX; iintro HX
  iapply (loadFull c arg2 a) $$ HA; iintro HA
  iapply (run_ret c _ Q)
  iapply HK
  isplitl [Hs]; · iexact Hs
  isplitl [HX] <;> iassumption

theorem head_zero (c : Dev nD) (i : grid0.Coords) {arg2 harg2 arg3 harg3 arg8 harg8} (h1 : ¬ k0_cond1 i = 1#1) (hz : isFirst i) (X : Vec F S2048x1792 .f32) (a : Vec F S1024x2048 .bf16)
    {Q : _ → sProp 𝕄} :
    iprop(has c AC X ∗ has c arg2 a)
      ⊢ iprop((∀ a0 a1 v2 v5 v8 v13 v16 v19, (has c AC k0_pay8 ∗ has c arg2 a) -∗ Q ⟨a0, a1, c, v2, v5, v8, v13, v16, v19, k0_pay8, k0_pay9 a⟩)
        -∗ run c (k0_part21 (F := F) i arg2 harg2 arg3 harg3 A0 (Memref.isWhole_whole _) A1 (Memref.isWhole_whole _) A2 (Memref.isWhole_whole _) A3 (Memref.isWhole_whole _) arg8 harg8 TH (Memref.isWhole_whole _) D0 (Memref.isWhole_whole _) D1 (Memref.isWhole_whole _) D2 (Memref.isWhole_whole _) D3 (Memref.isWhole_whole _) AC (Memref.isWhole_whole _) SB (Memref.isWhole_whole _) cc0_scratch2 cc0_scratch3 cc0_scratch4 cc0_scratch5 cc0_scratch6) Q) := by
  rw [k0_part21_eq_skeleton]; unfold k0_part21_skel run
  simp only [Prog.lift, Prog.bind_op, Prog.bind_ret, Prog.pure_eq_ret, dif_neg h1, dif_pos hz, wp_bind, wp_deviceId]
  iintro ⟨HX, HA⟩ HK
  iapply (loadFull c AC X) $$ HX; iintro HX
  iapply (storeFull c AC X k0_pay8) $$ HX; iintro HX
  iapply (loadFull c AC k0_pay8) $$ HX; iintro HX
  iapply (loadFull c arg2 a) $$ HA; iintro HA
  iapply (run_ret c _ Q)
  iapply HK
  isplitl [HX] <;> iassumption

theorem head_next (c : Dev nD) (i : grid0.Coords) {arg2 harg2 arg3 harg3 arg8 harg8} (h1 : ¬ k0_cond1 i = 1#1) (hz : ¬ isFirst i) (X : Vec F S2048x1792 .f32) (a : Vec F S1024x2048 .bf16)
    {Q : _ → sProp 𝕄} :
    iprop(has c AC X ∗ has c arg2 a)
      ⊢ iprop((∀ a0 a1 v2 v5 v8 v13 v16 v19, (has c AC X ∗ has c arg2 a) -∗ Q ⟨a0, a1, c, v2, v5, v8, v13, v16, v19, X, k0_pay9 a⟩)
        -∗ run c (k0_part21 (F := F) i arg2 harg2 arg3 harg3 A0 (Memref.isWhole_whole _) A1 (Memref.isWhole_whole _) A2 (Memref.isWhole_whole _) A3 (Memref.isWhole_whole _) arg8 harg8 TH (Memref.isWhole_whole _) D0 (Memref.isWhole_whole _) D1 (Memref.isWhole_whole _) D2 (Memref.isWhole_whole _) D3 (Memref.isWhole_whole _) AC (Memref.isWhole_whole _) SB (Memref.isWhole_whole _) cc0_scratch2 cc0_scratch3 cc0_scratch4 cc0_scratch5 cc0_scratch6) Q) := by
  rw [k0_part21_eq_skeleton]; unfold k0_part21_skel run
  simp only [Prog.lift, Prog.bind_op, Prog.bind_ret, Prog.pure_eq_ret, dif_neg h1, dif_neg hz, wp_bind, wp_deviceId]
  iintro ⟨HX, HA⟩ HK
  iapply (loadFull c AC X) $$ HX; iintro HX
  iapply (loadFull c arg2 a) $$ HA; iintro HA
  iapply (run_ret c _ Q)
  iapply HK
  isplitl [HX] <;> iassumption

/-! ### The end of a pair: the four stores -/

/-- What the accumulator `A` leaves in a buffer of two blocks. -/
def out (A : Vec F S2048x1792 .f32) : S2x2048x896.Idx → Elt F .bf16 :=
  fun x => k0_pay3 (half A (x 0)) (ix3 (0 : Fin 1) (x 1) (x 2))

theorem blocks_eq (c : Dev nD) (j : ℕ) : blocks m c j = out (accAt m c (4 * j + 3)) := rfl

/-- The load of one half of the accumulator. -/
theorem load_half (A : Vec F S2048x1792 .f32) (b : Fin 2) (off : Fin 2 → ℕ) (ho : off = ![0, 896 * b.val]) (inb : ∀ a, off a + S2048x896.size a ≤ S2048x1792.size a) :
    (fun x => A ((Rect.unit (s := S2048x1792) off S2048x896.size inb).toLoadRect.idx x)) = half A b := by
  subst ho
  funext x
  refine congrArg A (funext fun a => Fin.ext ?_)
  match a with
  | 0 => show 0 + 1 * (x 0).val = (x 0).val; omega
  | 1 => show 896 * b.val + 1 * (x 1).val = 896 * b.val + (x 1).val; omega

theorem writes_two {sp : Space} {s : Shape} {e : EltTy} (v : View sig .tc sp s e) (f : v.ty.Contents (Elt F)) (p q : View.Piece (Elt F) s e) :
    v.writes (Elt F) (v.writes (Elt F) f [p]) [q] = v.writes (Elt F) f [q, p] := rfl

/-- Both planes stored, whatever was there. -/
theorem stored (v : View sig .tc .vmem S2x2048x896 .bf16) (f : v.ty.Contents (Elt F)) (A : Vec F S2048x1792 .f32)
    (p0 p1 : Vec F S1x2048x896 .bf16) (h0 : p0 = k0_pay3 (half A 0)) (h1 : p1 = k0_pay3 (half A 1)) :
    v.read (Elt F) (v.writes (Elt F) (v.writes (Elt F) f [⟨Rect.unit (s := S2x2048x896) ![0, 0, 0] S1x2048x896.size inb_S2x2048x896_S1x2048x896_0_0_0, p0⟩]) [⟨Rect.unit (s := S2x2048x896) ![1, 0, 0] S1x2048x896.size inb_S2x2048x896_S1x2048x896_1_0_0, p1⟩]) = out A := by
  rw [writes_two]
  subst h0 h1
  funext x
  obtain ⟨p, y, z, rfl⟩ : ∃ p y z, x = ix3 p y z := ⟨x 0, x 1, x 2, eq_ix3 x⟩
  have hp : p = 0 ∨ p = 1 := by
    rcases p with ⟨p, hp⟩
    match p, hp with
    | 0, _ => exact Or.inl rfl
    | 1, _ => exact Or.inr rfl
  rcases hp with rfl | rfl
  · rw [View.read_writes_cons_unit_of_not_mem v f _ _ _ _ rfl (0 : Fin 3) (Or.inl (by show 0 < 1; omega))]
    exact View.read_writes_cons_unit_of_mem v f _ _ [] _ (ix3 (0 : Fin 1) y z) rfl fun a => by
      match a with
      | 0 => rfl
      | 1 => show y.val = 0 + y.val; omega
      | 2 => show z.val = 0 + z.val; omega
  · exact View.read_writes_cons_unit_of_mem v f _ _ _ _ (ix3 (0 : Fin 1) y z) rfl fun a => by
      match a with
      | 0 => rfl
      | 1 => show y.val = 0 + y.val; omega
      | 2 => show z.val = 0 + z.val; omega

end Cert.KernelIdeal.GW

end
-- ==== Proof.Turn.lean ====
module

public import proofs.«01_k».proof.Proof.Work

@[expose] public section

noncomputable section

/-! The end of a pair, and the last point. -/

namespace Cert.KernelIdeal.GW

open Idealize.ShloMosaic
open Idealize.SL
open Idealize.SL.BI
open scoped Idealize.SL.BI
open Idealize.SL.BI.BIBase Idealize.SL.BI.Laws Idealize.SL.Sem Idealize.SL.ProofMode
open Idealize.SL.RA
open Idealize.ShloMosaic.TcCoe
open Idealize.ShloMosaic.Rounds
open Idealize.ShloMosaic.ValueIdx
open Idealize.ShloMosaic.Pipeline
open Cert.KernelIdeal.Gen

set_option Elab.async false

variable {F : FTy → Type} [FloatOps F]
variable (m : (ℓ : Loc nD τ sig) → Buf (Elt F) ℓ)
variable {U : Type} [URA U]
variable (ER : Emb (URounds (GSem nD τ sig) Unit) (MT nD τ sig Unit (Elt F) ℕ U ℕ))
local notation "𝕄" => MT nD τ sig Unit (Elt F) ℕ U ℕ

/-! ### Loads and stores at raw contents -/

theorem loadRaw (c : Dev nD) {α : Type} {Q : α → sProp 𝕄} {cs : CoreSpace} {s : Shape} {e : EltTy} (M : Memref sig .tc cs s e) (f : M.view.ty.Contents (Elt F))
    {r : LoadRect s} {hl : M.view.LoadsAt r} {k : (r.shape.Idx → Elt F e) → Prog (TpuEff nD τ sig (Elt F) Λ₀ .tc) α} :
    (M.view.loc (c.tc : Thread nD τ) ↦[M.view.set]{fullShare} f : sProp 𝕄) ⊢ iprop(((M.view.loc (c.tc : Thread nD τ) ↦[M.view.set]{fullShare} f) -∗ run c (k (M.view.readAt (Elt F) r f)) Q) -∗ run c (.op (.load M r hl) k) Q) := by
  have hsub : M.view.setOn r.set ⊆ M.view.set := View.setOn_subset_set _ _
  exact wp_load Variants.none (c.tc : Thread nD τ) none Set.univ (m := M) (r := r) (q := fullShare) (f := f) hsub

theorem storeRaw (c : Dev nD) {α : Type} {Q : α → sProp 𝕄} {cs : CoreSpace} {s : Shape} {e : EltTy} (M : Memref sig .tc cs s e) (f : M.view.ty.Contents (Elt F))
    {r : Rect s} {w : r.shape.Idx → Elt F e} {hx : (M.access r).Stores Finset.univ} {hm : (Finset.univ : Finset r.shape.Idx) = Finset.univ ∨ ∀ a, r.stride a = 1}
    {k : PUnit → Prog (TpuEff nD τ sig (Elt F) Λ₀ .tc) α} :
    (M.view.loc (c.tc : Thread nD τ) ↦[M.view.set]{fullShare} f : sProp 𝕄) ⊢ iprop(((M.view.loc (c.tc : Thread nD τ) ↦[M.view.set]{fullShare} M.view.writes (Elt F) f [⟨r, w⟩]) -∗ run c (k ⟨⟩) Q) -∗ run c (.op (.store M r w Finset.univ hx hm) k) Q) := by
  have hsub : (M.access r).setOn Finset.univ ⊆ M.view.set := by
    rw [View.setOn_univ]; exact View.set_slice_subset _ _
  exact wp_store Variants.none (c.tc : Thread nD τ) none Set.univ (m := M) (r := r) (w := w) (Mk := Finset.univ) (f := f) hsub

theorem has_raw (c : Dev nD) {sp : Space} {s : Shape} {e : EltTy} (M : Memref sig .tc sp s e) (X : s.Idx → Elt F e) :
    (has c M X : sProp 𝕄) ⊢ iprop(∃ f, (M.view.loc (c.tc : Thread nD τ) ↦[M.view.set]{fullShare} f)) := by
  unfold has owns
  iintro ⟨%f, %hf, H⟩
  iexists f
  iexact H

theorem raw_has (c : Dev nD) {sp : Space} {s : Shape} {e : EltTy} (M : Memref sig .tc sp s e) {X : s.Idx → Elt F e} (f : M.view.ty.Contents (Elt F))
    (h : M.view.read (Elt F) f = X) : (M.view.loc (c.tc : Thread nD τ) ↦[M.view.set]{fullShare} f : sProp 𝕄) ⊢ has c M X := by
  unfold has owns
  iintro H
  iexists f
  isplitr; · ipureintro; exact h
  iexact H

theorem pay4_eq {A : Vec F S2048x896 .f32} : k0_pay4 A = k0_pay3 A := rfl
theorem pay6_eq {A : Vec F S2048x896 .f32} : k0_pay6 A = k0_pay3 A := rfl
theorem pay7_eq {A : Vec F S2048x896 .f32} : k0_pay7 A = k0_pay3 A := rfl

theorem stores (c : Dev nD) {α : Type} {Q : α → sProp 𝕄} (arg8 : Memref sig .tc .vmem S2x2048x896 .bf16) (A : Vec F S2048x1792 .f32) (Y Z : S2x2048x896.Idx → Elt F .bf16)
    {a1 a2 a3 a4 a5 a6 a7 a8 a9 a10 a11 a12 a13 a14} {k : PUnit → Prog (TpuEff nD τ sig (Elt F) Λ₀ .tc) α} :
    iprop(has c AC A ∗ has c arg8 Y ∗ has c SB Z)
      ⊢ iprop(((has c AC A ∗ has c arg8 (out A) ∗ has c SB (out A)) -∗ run c (k ⟨⟩) Q)
        -∗ run c (.op (.load AC (Rect.unit (s := S2048x1792) ![0, 0] S2048x896.size inb_S2048x1792_S2048x896_0_0).toLoadRect a1) fun v55 =>
          .op (.load arg8 (Rect.unit (s := S2x2048x896) ![0, 0, 0] S1x2048x896.size inb_S2x2048x896_S1x2048x896_0_0_0).toLoadRect a2) fun _ =>
          .op (.store arg8 (Rect.unit (s := S2x2048x896) ![0, 0, 0] S1x2048x896.size inb_S2x2048x896_S1x2048x896_0_0_0) (k0_pay3 v55) Finset.univ a3 a4) fun _ =>
          .op (.load SB (Rect.unit (s := S2x2048x896) ![0, 0, 0] S1x2048x896.size inb_S2x2048x896_S1x2048x896_0_0_0).toLoadRect a5) fun _ =>
          .op (.store SB (Rect.unit (s := S2x2048x896) ![0, 0, 0] S1x2048x896.size inb_S2x2048x896_S1x2048x896_0_0_0) (k0_pay4 v55) Finset.univ a6 a7) fun _ =>
          .op (.load AC (Rect.unit (s := S2048x1792) ![0, 896] S2048x896.size inb_S2048x1792_S2048x896_0_896).toLoadRect a8) fun v63 =>
          .op (.load arg8 (Rect.unit (s := S2x2048x896) ![1, 0, 0] S1x2048x896.size inb_S2x2048x896_S1x2048x896_1_0_0).toLoadRect a9) fun _ =>
          .op (.store arg8 (Rect.unit (s := S2x2048x896) ![1, 0, 0] S1x2048x896.size inb_S2x2048x896_S1x2048x896_1_0_0) (k0_pay6 v63) Finset.univ a10 a11) fun _ =>
          .op (.load SB (Rect.unit (s := S2x2048x896) ![1, 0, 0] S1x2048x896.size inb_S2x2048x896_S1x2048x896_1_0_0).toLoadRect a12) fun _ =>
          .op (.store SB (Rect.unit (s := S2x2048x896) ![1, 0, 0] S1x2048x896.size inb_S2x2048x896_S1x2048x896_1_0_0) (k0_pay7 v63) Finset.univ a13 a14) k) Q) := by
  iintro ⟨HX, HY, HZ⟩ HK
  iapply (load c AC A) $$ HX; iintro HX
  rw [load_half A 0 ![0, 0] rfl inb_S2048x1792_S2048x896_0_0]
  ihave HY := (has_raw c arg8 Y) $$ HY
  icases HY with ⟨%f, HY⟩
  ihave HZ := (has_raw c SB Z) $$ HZ
  icases HZ with ⟨%g, HZ⟩
  iapply (loadRaw c arg8 f) $$ HY; iintro HY
  iapply (storeRaw c arg8 f) $$ HY; iintro HY
  iapply (loadRaw c SB g) $$ HZ; iintro HZ
  iapply (storeRaw c SB g) $$ HZ; iintro HZ
  iapply (load c AC A) $$ HX; iintro HX
  rw [load_half A 1 ![0, 896] rfl inb_S2048x1792_S2048x896_0_896]
  iapply (loadRaw c arg8 _) $$ HY; iintro HY
  iapply (storeRaw c arg8 _) $$ HY; iintro HY
  iapply (loadRaw c SB _) $$ HZ; iintro HZ
  iapply (storeRaw c SB _) $$ HZ; iintro HZ
  have h8 := stored arg8.view f A (k0_pay3 (half A 0)) (k0_pay6 (half A 1)) rfl pay6_eq
  have hS := stored SB.view g A (k0_pay4 (half A 0)) (k0_pay7 (half A 1)) pay4_eq pay7_eq
  ihave HY' := (raw_has c arg8 _ h8) $$ HY
  ihave HZ' := (raw_has c SB _ hS) $$ HZ
  iapply HK
  isplitl [HX]; · iexact HX
  isplitl [HY']; · iexact HY'
  iexact HZ'

/-! ### The two blocks of the outgoing pair, one by one -/

theorem has_whole (c : Dev nD) (b : Ref sig .tc) (X : b.ty.Contents (Elt F)) :
    (has c (Memref.whole b) X : sProp 𝕄) = ((Memref.whole b).view.loc (c.tc : Thread nD τ) ↦{fullShare} X) := by
  have hS : (Memref.whole b : Memref sig .tc _ _ _).view.set = Finset.univ := View.set_whole _
  have hR : ∀ f, (Memref.whole b : Memref sig .tc _ _ _).view.read (Elt F) f = f := fun f => View.read_whole _ f
  have h1 : (has c (Memref.whole b) X : sProp 𝕄) ⊢ ((Memref.whole b).view.loc (c.tc : Thread nD τ) ↦{fullShare} X) := by
    unfold has owns
    iintro ⟨%f, %hf, H⟩
    rw [hR] at hf
    subst hf
    rw [hS]
    iexact H
  have h2 : ((Memref.whole b).view.loc (c.tc : Thread nD τ) ↦{fullShare} X : sProp 𝕄) ⊢ has c (Memref.whole b) X := by
    iintro H
    iapply (raw_has c (Memref.whole b) X (hR X))
    rw [hS]
    iexact H
  exact Idealize.SL.BI.Entails.antisymm h1 h2

def sbOrder (c : Dev nD) : Fin 2 → Fin 2 := ![core c, other c]
theorem sbOrder_injective (c : Dev nD) : Function.Injective (sbOrder c) := by
  revert c; decide +kernel

theorem bigSep_two (Φ : Fin 2 → sProp 𝕄) : bigSep Finset.univ Φ = iprop(Φ 0 ∗ Φ 1) := bigSep_univ_eq_bigSepL [0, 1] (by decide) (by decide) Φ

theorem sb_split (c : Dev nD) (X : S2x2048x896.Idx → Elt F .bf16) :
    (has c SB X : sProp 𝕄) = iprop(Rows.own q4 c SB (core c) X ∗ Rows.own q4 c SB (other c) X) := by
  rw [has_whole, Rows.whole_rows q4 c SB (View.set_whole _) (sbOrder c) (sbOrder_injective c), bigSep_two]
  rfl

theorem sb_join (c : Dev nD) (X : S2x2048x896.Idx → Elt F .bf16) :
    iprop((∃ f, Rows.own q4 c SB (core c) f) ∗ Rows.own q4 c SB (other c) X) ⊢ (iprop(∃ Z : S2x2048x896.Idx → Elt F .bf16, has c SB Z) : sProp 𝕄) := by
  have h := Rows.rows_whole_exists (τ := τ) (U := U) (Val := Elt F) q4 c SB (View.set_whole _) (sbOrder c) (sbOrder_injective c) X
  rw [bigSep_two] at h
  iintro ⟨⟨%f, H0⟩, H1⟩
  have h' : iprop((∃ f, Rows.own q4 c SB (sbOrder c 0) f) ∗ ∃ f, Rows.own q4 c SB (sbOrder c 1) f) ⊢ (iprop(∃ f, (SB.view.loc (c.tc : Thread nD τ) ↦{fullShare} f)) : sProp 𝕄) := h
  ihave H := h' $$ [H0 H1]
  · isplitl [H0]
    · iexists f; iexact H0
    iexists X; iexact H1
  icases H with ⟨%Z, H⟩
  iexists Z
  rw [has_whole]
  iexact H

theorem pair0 (c : Dev nD) (i : grid0.Coords) {arg2 harg2 arg3 harg3 arg8 harg8} (arg0 v13 v16 v19 : BitVec 32) (h3 : k0_cond3 i = 1#1) (h4 : ¬ k0_cond4 i = 1#1) (h5 : ¬ k0_cond5 i = 1#1) (h6 : ¬ k0_cond6 i = 1#1) (h7 : k0_cond7 i = 1#1)
    (Z : S2x2048x896.Idx → Elt F .bf16) (Y : S2x2048x896.Idx → Elt F .bf16) {Q : PUnit → sProp 𝕄} :
    iprop(stage m ER c 16 0 ∗ has c SB Z ∗ has c AC (accAt m c 3) ∗ has c arg8 Y)
      ⊢ iprop(((stage m ER c 17 0 ∗ Rows.own q4 c SB (core c) (blocks m c 0) ∗ has c AC (accAt m c 3) ∗ has c arg8 (blocks m c 0)) -∗ Q ⟨⟩) -∗ run c (k0_part8 (F := F) i arg2 harg2 arg3 harg3 A0 (Memref.isWhole_whole _) A1 (Memref.isWhole_whole _) A2 (Memref.isWhole_whole _) A3 (Memref.isWhole_whole _) arg8 harg8 TH (Memref.isWhole_whole _) D0 (Memref.isWhole_whole _) D1 (Memref.isWhole_whole _) D2 (Memref.isWhole_whole _) D3 (Memref.isWhole_whole _) AC (Memref.isWhole_whole _) SB (Memref.isWhole_whole _) cc0_scratch2 cc0_scratch3 cc0_scratch4 cc0_scratch5 cc0_scratch6 arg0 c v13 v16 v19 h3) Q) := by
  rw [k0_part8_eq_skeleton]; unfold k0_part8_skel run
  simp only [Prog.lift, Prog.bind_op, Prog.bind_ret, Prog.pure_eq_ret, dif_neg h4, dif_neg h5, dif_neg h6, dif_pos h7]
  iintro ⟨Hs, HZ, HX, HY⟩ HK
  iapply (stores c arg8 (accAt m c 3) Y Z) $$ [HX HY HZ]
  · isplitl [HX]; · iexact HX
    isplitl [HY]; · iexact HY
    iexact HZ
  iintro ⟨HX, HY, HZ⟩
  ihave HZ := (Entails.of_eq (sb_split c (out (accAt m c 3)))) $$ HZ
  icases HZ with ⟨H0, H1⟩
  iapply (sendPair m ER c 0 0 16 (by decide +kernel) (by decide +kernel) (off12_eq c) rfl (dev13_eq c) rfl rfl) $$ [Hs H1]
  · isplitl [Hs]; · iexact Hs
    iexact H1
  iintro Hs
  iapply (run_ret c _ Q)
  iapply HK
  isplitl [Hs]; · iexact Hs
  isplitl [H0]; · iexact H0
  isplitl [HX]; · iexact HX
  iexact HY

theorem pair1 (c : Dev nD) (i : grid0.Coords) {arg2 harg2 arg3 harg3 arg8 harg8} (arg0 v13 v16 v19 : BitVec 32) (h3 : k0_cond3 i = 1#1) (h4 : k0_cond4 i = 1#1) (h5 : ¬ k0_cond5 i = 1#1) (h6 : ¬ k0_cond6 i = 1#1) (h7 : ¬ k0_cond7 i = 1#1)
    (Y : S2x2048x896.Idx → Elt F .bf16) {Q : PUnit → sProp 𝕄} :
    iprop(stage m ER c 17 0 ∗ (∃ f, Rows.own q4 c SB (core c) f) ∗ has c AC (accAt m c 7) ∗ has c arg8 Y)
      ⊢ iprop(((stage m ER c 17 1 ∗ has c SB (blocks m c 1) ∗ has c AC (accAt m c 7) ∗ has c arg8 (blocks m c 1)) -∗ Q ⟨⟩) -∗ run c (k0_part8 (F := F) i arg2 harg2 arg3 harg3 A0 (Memref.isWhole_whole _) A1 (Memref.isWhole_whole _) A2 (Memref.isWhole_whole _) A3 (Memref.isWhole_whole _) arg8 harg8 TH (Memref.isWhole_whole _) D0 (Memref.isWhole_whole _) D1 (Memref.isWhole_whole _) D2 (Memref.isWhole_whole _) D3 (Memref.isWhole_whole _) AC (Memref.isWhole_whole _) SB (Memref.isWhole_whole _) cc0_scratch2 cc0_scratch3 cc0_scratch4 cc0_scratch5 cc0_scratch6 arg0 c v13 v16 v19 h3) Q) := by
  rw [k0_part8_eq_skeleton]; unfold k0_part8_skel run
  simp only [Prog.lift, Prog.bind_op, Prog.bind_ret, Prog.pure_eq_ret, dif_pos h4, dif_neg h5, dif_neg h6, dif_neg h7]
  iintro ⟨Hs, H0, HX, HY⟩ HK
  iapply (take m ER c 17 0 (.ps 0) (by decide +kernel) (by decide +kernel) ?_) $$ Hs
  · intro R; exact wpE_waitDma2_eq _ _ none Set.univ R
  iintro ⟨H1, Hs⟩
  ihave H1 := (Entails.of_eq (show (pay m c (.ps 0) : sProp 𝕄) = Rows.own q4 c SB (other c) (blocks m c 0) from rfl)) $$ H1
  ihave HZ := (sb_join c (blocks m c 0)) $$ [H0 H1]
  · isplitl [H0]; · iexact H0
    iexact H1
  icases HZ with ⟨%Z, HZ⟩
  iapply (stores c arg8 (accAt m c 7) Y Z) $$ [HX HY HZ]
  · isplitl [HX]; · iexact HX
    isplitl [HY]; · iexact HY
    iexact HZ
  iintro ⟨HX, HY, HZ⟩
  iapply (run_ret c _ Q)
  iapply HK
  isplitl [Hs]; · iexact Hs
  isplitl [HZ]; · iexact HZ
  isplitl [HX]; · iexact HX
  iexact HY

theorem pair2 (c : Dev nD) (i : grid0.Coords) {arg2 harg2 arg3 harg3 arg8 harg8} (arg0 v13 v16 v19 : BitVec 32) (h3 : k0_cond3 i = 1#1) (h4 : ¬ k0_cond4 i = 1#1) (h5 : k0_cond5 i = 1#1) (h6 : ¬ k0_cond6 i = 1#1) (h7 : ¬ k0_cond7 i = 1#1)
    (Y : S2x2048x896.Idx → Elt F .bf16) {Q : PUnit → sProp 𝕄} :
    iprop(stage m ER c 18 1 ∗ (∃ f, Rows.own q4 c SB (core c) f) ∗ has c AC (accAt m c 11) ∗ has c arg8 Y)
      ⊢ iprop(((stage m ER c 18 2 ∗ has c SB (blocks m c 2) ∗ has c AC (accAt m c 11) ∗ has c arg8 (blocks m c 2)) -∗ Q ⟨⟩) -∗ run c (k0_part8 (F := F) i arg2 harg2 arg3 harg3 A0 (Memref.isWhole_whole _) A1 (Memref.isWhole_whole _) A2 (Memref.isWhole_whole _) A3 (Memref.isWhole_whole _) arg8 harg8 TH (Memref.isWhole_whole _) D0 (Memref.isWhole_whole _) D1 (Memref.isWhole_whole _) D2 (Memref.isWhole_whole _) D3 (Memref.isWhole_whole _) AC (Memref.isWhole_whole _) SB (Memref.isWhole_whole _) cc0_scratch2 cc0_scratch3 cc0_scratch4 cc0_scratch5 cc0_scratch6 arg0 c v13 v16 v19 h3) Q) := by
  rw [k0_part8_eq_skeleton]; unfold k0_part8_skel run
  simp only [Prog.lift, Prog.bind_op, Prog.bind_ret, Prog.pure_eq_ret, dif_neg h4, dif_pos h5, dif_neg h6, dif_neg h7]
  iintro ⟨Hs, H0, HX, HY⟩ HK
  iapply (take m ER c 18 1 (.ps 1) (by decide +kernel) (by decide +kernel) ?_) $$ Hs
  · intro R; exact wpE_waitDma2_eq _ _ none Set.univ R
  iintro ⟨H1, Hs⟩
  ihave H1 := (Entails.of_eq (show (pay m c (.ps 1) : sProp 𝕄) = Rows.own q4 c SB (other c) (blocks m c 1) from rfl)) $$ H1
  ihave HZ := (sb_join c (blocks m c 1)) $$ [H0 H1]
  · isplitl [H0]; · iexact H0
    iexact H1
  icases HZ with ⟨%Z, HZ⟩
  iapply (stores c arg8 (accAt m c 11) Y Z) $$ [HX HY HZ]
  · isplitl [HX]; · iexact HX
    isplitl [HY]; · iexact HY
    iexact HZ
  iintro ⟨HX, HY, HZ⟩
  iapply (run_ret c _ Q)
  iapply HK
  isplitl [Hs]; · iexact Hs
  isplitl [HZ]; · iexact HZ
  isplitl [HX]; · iexact HX
  iexact HY

theorem pair3 (c : Dev nD) (i : grid0.Coords) {arg2 harg2 arg3 harg3 arg8 harg8} (arg0 v13 v16 v19 : BitVec 32) (h3 : k0_cond3 i = 1#1) (h4 : ¬ k0_cond4 i = 1#1) (h5 : ¬ k0_cond5 i = 1#1) (h6 : k0_cond6 i = 1#1) (h7 : ¬ k0_cond7 i = 1#1)
    (Y : S2x2048x896.Idx → Elt F .bf16) {Q : PUnit → sProp 𝕄} :
    iprop(stage m ER c 19 2 ∗ (∃ f, Rows.own q4 c SB (core c) f) ∗ has c AC (accAt m c 15) ∗ has c arg8 Y)
      ⊢ iprop(((stage m ER c 19 3 ∗ has c SB (blocks m c 3) ∗ has c AC (accAt m c 15) ∗ has c arg8 (blocks m c 3)) -∗ Q ⟨⟩) -∗ run c (k0_part8 (F := F) i arg2 harg2 arg3 harg3 A0 (Memref.isWhole_whole _) A1 (Memref.isWhole_whole _) A2 (Memref.isWhole_whole _) A3 (Memref.isWhole_whole _) arg8 harg8 TH (Memref.isWhole_whole _) D0 (Memref.isWhole_whole _) D1 (Memref.isWhole_whole _) D2 (Memref.isWhole_whole _) D3 (Memref.isWhole_whole _) AC (Memref.isWhole_whole _) SB (Memref.isWhole_whole _) cc0_scratch2 cc0_scratch3 cc0_scratch4 cc0_scratch5 cc0_scratch6 arg0 c v13 v16 v19 h3) Q) := by
  rw [k0_part8_eq_skeleton]; unfold k0_part8_skel run
  simp only [Prog.lift, Prog.bind_op, Prog.bind_ret, Prog.pure_eq_ret, dif_neg h4, dif_neg h5, dif_pos h6, dif_neg h7]
  iintro ⟨Hs, H0, HX, HY⟩ HK
  iapply (take m ER c 19 2 (.ps 2) (by decide +kernel) (by decide +kernel) ?_) $$ Hs
  · intro R; exact wpE_waitDma2_eq _ _ none Set.univ R
  iintro ⟨H1, Hs⟩
  ihave H1 := (Entails.of_eq (show (pay m c (.ps 2) : sProp 𝕄) = Rows.own q4 c SB (other c) (blocks m c 2) from rfl)) $$ H1
  ihave HZ := (sb_join c (blocks m c 2)) $$ [H0 H1]
  · isplitl [H0]; · iexact H0
    iexact H1
  icases HZ with ⟨%Z, HZ⟩
  iapply (stores c arg8 (accAt m c 15) Y Z) $$ [HX HY HZ]
  · isplitl [HX]; · iexact HX
    isplitl [HY]; · iexact HY
    iexact HZ
  iintro ⟨HX, HY, HZ⟩
  iapply (run_ret c _ Q)
  iapply HK
  isplitl [Hs]; · iexact Hs
  isplitl [HZ]; · iexact HZ
  isplitl [HX]; · iexact HX
  iexact HY

end Cert.KernelIdeal.GW

end
-- ==== Proof.Kinds.lean ====
module

public import proofs.«01_k».proof.Proof.Turn

@[expose] public section

noncomputable section

/-! The body at each kind of grid point. -/

namespace Cert.KernelIdeal.GW

open Idealize.ShloMosaic
open Idealize.SL
open Idealize.SL.BI
open scoped Idealize.SL.BI
open Idealize.SL.BI.BIBase Idealize.SL.BI.Laws Idealize.SL.Sem Idealize.SL.ProofMode
open Idealize.SL.RA
open Idealize.ShloMosaic.TcCoe
open Idealize.ShloMosaic.Rounds
open Idealize.ShloMosaic.ValueIdx
open Idealize.ShloMosaic.Pipeline
open Cert.KernelIdeal.Gen

set_option Elab.async false

variable {F : FTy → Type} [FloatOps F]
variable (m : (ℓ : Loc nD τ sig) → Buf (Elt F) ℓ)
variable {U : Type} [URA U]
variable (ER : Emb (URounds (GSem nD τ sig) Unit) (MT nD τ sig Unit (Elt F) ℕ U ℕ))
local notation "𝕄" => MT nD τ sig Unit (Elt F) ℕ U ℕ

/-! ### What the last waits hand back, put together -/

theorem bigSep_four (Φ : Fin 4 → sProp 𝕄) : bigSep Finset.univ Φ = iprop(Φ 0 ∗ Φ 1 ∗ Φ 2 ∗ Φ 3) := bigSep_univ_eq_bigSepL [0, 1, 2, 3] (by decide) (by decide) Φ

section Four
variable {sp : Space} {e : EltTy} {p r : ℕ} (sq : (⟨3, ![1, p, r]⟩ : Shape).Squeezes ⟨2, ![p, r]⟩)

theorem rows_four (c : Dev nD) (M : Memref sig .tc sp ⟨3, ![4, p, r]⟩ e) (hM : M.view.set = Finset.univ) (f : Buf (Elt F) (M.view.loc (c.tc : Thread nD τ))) :
    (M.view.loc (c.tc : Thread nD τ) ↦{fullShare} f : sProp 𝕄)
      = iprop(Rows.own sq c M (opp c 0) f ∗ Rows.own sq c M (opp c (Fin.succ 0)) f ∗ Rows.own sq c M (opp c (Fin.succ 1)) f ∗ Rows.own sq c M (opp c (Fin.succ 2)) f) := by
  rw [Rows.whole_rows sq c M hM (opp c) (opp_injective c), bigSep_four]
  rfl

theorem rows_plain (c : Dev nD) (M : Memref sig .tc sp ⟨3, ![4, p, r]⟩ e) (hM : M.view.set = Finset.univ) (f : Buf (Elt F) (M.view.loc (c.tc : Thread nD τ))) :
    (M.view.loc (c.tc : Thread nD τ) ↦{fullShare} f : sProp 𝕄)
      = iprop(Rows.own sq c M 0 f ∗ Rows.own sq c M 1 f ∗ Rows.own sq c M 2 f ∗ Rows.own sq c M 3 f) := by
  rw [Rows.whole_rows sq c M hM id Function.injective_id, bigSep_four]
  rfl
end Four

/-- A memref's whole buffer at contents `f`. -/
abbrev full (c : Dev nD) {sp : Space} {s : Shape} {e : EltTy} (M : Memref sig .tc sp s e) (f : Buf (Elt F) (M.view.loc (c.tc : Thread nD τ))) : sProp 𝕄 :=
  M.view.loc (c.tc : Thread nD τ) ↦{fullShare} f

theorem gather_pairs (c : Dev nD) :
    iprop(pay m c (.pr 0) ∗ pay m c (.pr 1) ∗ pay m c (.pr 2) ∗ pay m c (.pr 3)) ⊢ (full c TH (theirs m c) : sProp 𝕄) :=
  Entails.of_eq (rows_plain q4 c TH (View.set_whole _) (theirs m c)).symm

theorem gather0 (c : Dev nD) :
    iprop(pay m c (.sd 0 0) ∗ pay m c (.sd 0 1) ∗ pay m c (.sd 0 2) ∗ pay m c (.rv 0 0) ∗ pay m c (.rv 0 1) ∗ pay m c (.rv 0 2) ∗ pay m c (.lc 0))
      ⊢ (iprop(full c A0 (s0 m c) ∗ full c D0 (arrived (s0 m) c)) : sProp 𝕄) := by
  rw [show (full c A0 (s0 m c) : sProp 𝕄) = _ from rows_four q0 c A0 (View.set_whole _) (s0 m c),
    show (full c D0 (arrived (s0 m) c) : sProp 𝕄) = _ from rows_four q0 c D0 (View.set_whole _) (arrived (s0 m) c)]
  iintro ⟨H0, H1, H2, K0, K1, K2, HL⟩
  ihave HL := (Entails.of_eq (show (pay m c (.lc 0) : sProp 𝕄) = iprop(Rows.own q0 c D0 (opp c 0) (arrived (s0 m) c) ∗ Rows.own q0 c A0 (opp c 0) (s0 m c)) from rfl)) $$ HL
  icases HL with ⟨L0, L1⟩
  isplitl [L1 H0 H1 H2]
  · isplitl [L1]; · iexact L1
    isplitl [H0]; · iapply (Entails.of_eq (show (pay m c (.sd 0 0) : sProp 𝕄) = Rows.own q0 c A0 (opp c (Fin.succ 0)) (s0 m c) from rfl)); iexact H0
    isplitl [H1]; · iapply (Entails.of_eq (show (pay m c (.sd 0 1) : sProp 𝕄) = Rows.own q0 c A0 (opp c (Fin.succ 1)) (s0 m c) from rfl)); iexact H1
    iapply (Entails.of_eq (show (pay m c (.sd 0 2) : sProp 𝕄) = Rows.own q0 c A0 (opp c (Fin.succ 2)) (s0 m c) from rfl)); iexact H2
  isplitl [L0]; · iexact L0
  isplitl [K0]; · iapply (Entails.of_eq (show (pay m c (.rv 0 0) : sProp 𝕄) = Rows.own q0 c D0 (opp c (Fin.succ 0)) (arrived (s0 m) c) from rfl)); iexact K0
  isplitl [K1]; · iapply (Entails.of_eq (show (pay m c (.rv 0 1) : sProp 𝕄) = Rows.own q0 c D0 (opp c (Fin.succ 1)) (arrived (s0 m) c) from rfl)); iexact K1
  iapply (Entails.of_eq (show (pay m c (.rv 0 2) : sProp 𝕄) = Rows.own q0 c D0 (opp c (Fin.succ 2)) (arrived (s0 m) c) from rfl)); iexact K2

theorem gather1 (c : Dev nD) :
    iprop(pay m c (.sd 1 0) ∗ pay m c (.sd 1 1) ∗ pay m c (.sd 1 2) ∗ pay m c (.rv 1 0) ∗ pay m c (.rv 1 1) ∗ pay m c (.rv 1 2) ∗ pay m c (.lc 1))
      ⊢ (iprop(full c A1 (s1 m c) ∗ full c D1 (arrived (s1 m) c)) : sProp 𝕄) := by
  rw [show (full c A1 (s1 m c) : sProp 𝕄) = _ from rows_four q1 c A1 (View.set_whole _) (s1 m c),
    show (full c D1 (arrived (s1 m) c) : sProp 𝕄) = _ from rows_four q1 c D1 (View.set_whole _) (arrived (s1 m) c)]
  iintro ⟨H0, H1, H2, K0, K1, K2, HL⟩
  ihave HL := (Entails.of_eq (show (pay m c (.lc 1) : sProp 𝕄) = iprop(Rows.own q1 c D1 (opp c 0) (arrived (s1 m) c) ∗ Rows.own q1 c A1 (opp c 0) (s1 m c)) from rfl)) $$ HL
  icases HL with ⟨L0, L1⟩
  isplitl [L1 H0 H1 H2]
  · isplitl [L1]; · iexact L1
    isplitl [H0]; · iapply (Entails.of_eq (show (pay m c (.sd 1 0) : sProp 𝕄) = Rows.own q1 c A1 (opp c (Fin.succ 0)) (s1 m c) from rfl)); iexact H0
    isplitl [H1]; · iapply (Entails.of_eq (show (pay m c (.sd 1 1) : sProp 𝕄) = Rows.own q1 c A1 (opp c (Fin.succ 1)) (s1 m c) from rfl)); iexact H1
    iapply (Entails.of_eq (show (pay m c (.sd 1 2) : sProp 𝕄) = Rows.own q1 c A1 (opp c (Fin.succ 2)) (s1 m c) from rfl)); iexact H2
  isplitl [L0]; · iexact L0
  isplitl [K0]; · iapply (Entails.of_eq (show (pay m c (.rv 1 0) : sProp 𝕄) = Rows.own q1 c D1 (opp c (Fin.succ 0)) (arrived (s1 m) c) from rfl)); iexact K0
  isplitl [K1]; · iapply (Entails.of_eq (show (pay m c (.rv 1 1) : sProp 𝕄) = Rows.own q1 c D1 (opp c (Fin.succ 1)) (arrived (s1 m) c) from rfl)); iexact K1
  iapply (Entails.of_eq (show (pay m c (.rv 1 2) : sProp 𝕄) = Rows.own q1 c D1 (opp c (Fin.succ 2)) (arrived (s1 m) c) from rfl)); iexact K2

theorem gather2 (c : Dev nD) :
    iprop(pay m c (.sd 2 0) ∗ pay m c (.sd 2 1) ∗ pay m c (.sd 2 2) ∗ pay m c (.rv 2 0) ∗ pay m c (.rv 2 1) ∗ pay m c (.rv 2 2) ∗ pay m c (.lc 2))
      ⊢ (iprop(full c A2 (s2 m c) ∗ full c D2 (arrived (s2 m) c)) : sProp 𝕄) := by
  rw [show (full c A2 (s2 m c) : sProp 𝕄) = _ from rows_four q2 c A2 (View.set_whole _) (s2 m c),
    show (full c D2 (arrived (s2 m) c) : sProp 𝕄) = _ from rows_four q2 c D2 (View.set_whole _) (arrived (s2 m) c)]
  iintro ⟨H0, H1, H2, K0, K1, K2, HL⟩
  ihave HL := (Entails.of_eq (show (pay m c (.lc 2) : sProp 𝕄) = iprop(Rows.own q2 c D2 (opp c 0) (arrived (s2 m) c) ∗ Rows.own q2 c A2 (opp c 0) (s2 m c)) from rfl)) $$ HL
  icases HL with ⟨L0, L1⟩
  isplitl [L1 H0 H1 H2]
  · isplitl [L1]; · iexact L1
    isplitl [H0]; · iapply (Entails.of_eq (show (pay m c (.sd 2 0) : sProp 𝕄) = Rows.own q2 c A2 (opp c (Fin.succ 0)) (s2 m c) from rfl)); iexact H0
    isplitl [H1]; · iapply (Entails.of_eq (show (pay m c (.sd 2 1) : sProp 𝕄) = Rows.own q2 c A2 (opp c (Fin.succ 1)) (s2 m c) from rfl)); iexact H1
    iapply (Entails.of_eq (show (pay m c (.sd 2 2) : sProp 𝕄) = Rows.own q2 c A2 (opp c (Fin.succ 2)) (s2 m c) from rfl)); iexact H2
  isplitl [L0]; · iexact L0
  isplitl [K0]; · iapply (Entails.of_eq (show (pay m c (.rv 2 0) : sProp 𝕄) = Rows.own q2 c D2 (opp c (Fin.succ 0)) (arrived (s2 m) c) from rfl)); iexact K0
  isplitl [K1]; · iapply (Entails.of_eq (show (pay m c (.rv 2 1) : sProp 𝕄) = Rows.own q2 c D2 (opp c (Fin.succ 1)) (arrived (s2 m) c) from rfl)); iexact K1
  iapply (Entails.of_eq (show (pay m c (.rv 2 2) : sProp 𝕄) = Rows.own q2 c D2 (opp c (Fin.succ 2)) (arrived (s2 m) c) from rfl)); iexact K2

theorem gather3 (c : Dev nD) :
    iprop(pay m c (.sd 3 0) ∗ pay m c (.sd 3 1) ∗ pay m c (.sd 3 2) ∗ pay m c (.rv 3 0) ∗ pay m c (.rv 3 1) ∗ pay m c (.rv 3 2) ∗ pay m c (.lc 3))
      ⊢ (iprop(full c A3 (s3 m c) ∗ full c D3 (arrived (s3 m) c)) : sProp 𝕄) := by
  rw [show (full c A3 (s3 m c) : sProp 𝕄) = _ from rows_four q3 c A3 (View.set_whole _) (s3 m c),
    show (full c D3 (arrived (s3 m) c) : sProp 𝕄) = _ from rows_four q3 c D3 (View.set_whole _) (arrived (s3 m) c)]
  iintro ⟨H0, H1, H2, K0, K1, K2, HL⟩
  ihave HL := (Entails.of_eq (show (pay m c (.lc 3) : sProp 𝕄) = iprop(Rows.own q3 c D3 (opp c 0) (arrived (s3 m) c) ∗ Rows.own q3 c A3 (opp c 0) (s3 m c)) from rfl)) $$ HL
  icases HL with ⟨L0, L1⟩
  isplitl [L1 H0 H1 H2]
  · isplitl [L1]; · iexact L1
    isplitl [H0]; · iapply (Entails.of_eq (show (pay m c (.sd 3 0) : sProp 𝕄) = Rows.own q3 c A3 (opp c (Fin.succ 0)) (s3 m c) from rfl)); iexact H0
    isplitl [H1]; · iapply (Entails.of_eq (show (pay m c (.sd 3 1) : sProp 𝕄) = Rows.own q3 c A3 (opp c (Fin.succ 1)) (s3 m c) from rfl)); iexact H1
    iapply (Entails.of_eq (show (pay m c (.sd 3 2) : sProp 𝕄) = Rows.own q3 c A3 (opp c (Fin.succ 2)) (s3 m c) from rfl)); iexact H2
  isplitl [L0]; · iexact L0
  isplitl [K0]; · iapply (Entails.of_eq (show (pay m c (.rv 3 0) : sProp 𝕄) = Rows.own q3 c D3 (opp c (Fin.succ 0)) (arrived (s3 m) c) from rfl)); iexact K0
  isplitl [K1]; · iapply (Entails.of_eq (show (pay m c (.rv 3 1) : sProp 𝕄) = Rows.own q3 c D3 (opp c (Fin.succ 1)) (arrived (s3 m) c) from rfl)); iexact K1
  iapply (Entails.of_eq (show (pay m c (.rv 3 2) : sProp 𝕄) = Rows.own q3 c D3 (opp c (Fin.succ 2)) (arrived (s3 m) c) from rfl)); iexact K2

/-! ### The body at each kind of grid point -/

/-- The first point: everything that can be sent is sent, and the accumulator starts. -/
theorem point_first (c : Dev nD) (i : grid0.Coords) {arg2 harg2 arg3 harg3 arg8 harg8} (h1 : k0_cond1 i = 1#1) (hz : isFirst i) (h3 : ¬ k0_cond3 i = 1#1) (h11 : ¬ k0_cond11 i = 1#1)
    (X : Vec F S2048x1792 .f32) (a : Vec F S1024x2048 .bf16) (b : Vec F S1024x1792 .bf16) {Q : PUnit → sProp 𝕄} :
    iprop(stage m ER c 0 0 ∗ Rows.own q0 c A0 (opp c 0) (s0 m c) ∗ (∃ f, Rows.own q0 c D0 (opp c 0) f) ∗ Rows.own q1 c A1 (opp c 0) (s1 m c) ∗ (∃ f, Rows.own q1 c D1 (opp c 0) f) ∗ Rows.own q2 c A2 (opp c 0) (s2 m c) ∗ (∃ f, Rows.own q2 c D2 (opp c 0) f) ∗ Rows.own q3 c A3 (opp c 0) (s3 m c) ∗ (∃ f, Rows.own q3 c D3 (opp c 0) f) ∗ Rows.own q0 c A0 (opp c (Fin.succ 0)) (s0 m c) ∗ Rows.own q0 c A0 (opp c (Fin.succ 1)) (s0 m c) ∗ Rows.own q0 c A0 (opp c (Fin.succ 2)) (s0 m c) ∗ Rows.own q1 c A1 (opp c (Fin.succ 0)) (s1 m c) ∗ Rows.own q1 c A1 (opp c (Fin.succ 1)) (s1 m c) ∗ Rows.own q1 c A1 (opp c (Fin.succ 2)) (s1 m c) ∗ Rows.own q2 c A2 (opp c (Fin.succ 0)) (s2 m c) ∗ Rows.own q2 c A2 (opp c (Fin.succ 1)) (s2 m c) ∗ Rows.own q2 c A2 (opp c (Fin.succ 2)) (s2 m c) ∗ Rows.own q3 c A3 (opp c (Fin.succ 0)) (s3 m c) ∗ Rows.own q3 c A3 (opp c (Fin.succ 1)) (s3 m c) ∗ Rows.own q3 c A3 (opp c (Fin.succ 2)) (s3 m c) ∗ has c AC X ∗ has c arg2 a ∗ has c arg3 b)
      ⊢ iprop(((stage m ER c 16 0 ∗ has c AC (k0_pay1 k0_pay8 (k0_pay9 a) b) ∗ has c arg2 a ∗ has c arg3 b) -∗ Q ⟨⟩)
        -∗ run c (cc0_grad_w_in i arg2 harg2 arg3 harg3 A0 (Memref.isWhole_whole _) A1 (Memref.isWhole_whole _) A2 (Memref.isWhole_whole _) A3 (Memref.isWhole_whole _) arg8 harg8 TH (Memref.isWhole_whole _) D0 (Memref.isWhole_whole _) D1 (Memref.isWhole_whole _) D2 (Memref.isWhole_whole _) D3 (Memref.isWhole_whole _) AC (Memref.isWhole_whole _) SB (Memref.isWhole_whole _) cc0_scratch2 cc0_scratch3 cc0_scratch4 cc0_scratch5 cc0_scratch6) Q) := by
  rw [cc0_grad_w_in_eq_skeleton]; unfold cc0_grad_w_in_skel run
  simp only [Prog.lift, Prog.bind_op, Prog.bind_ret, Prog.pure_eq_ret, dif_neg h3, dif_neg h11, wp_bind]
  iintro ⟨Hs, Ha0, Hd0, Ha1, Hd1, Ha2, Hd2, Ha3, Hd3, Ha4, Ha5, Ha6, Ha7, Ha8, Ha9, Ha10, Ha11, Ha12, Ha13, Ha14, Ha15, HX, HA, HB⟩ HK
  iapply (head_first m ER c i h1 hz X a) $$ [Hs Ha0 Hd0 Ha1 Hd1 Ha2 Hd2 Ha3 Hd3 Ha4 Ha5 Ha6 Ha7 Ha8 Ha9 Ha10 Ha11 Ha12 Ha13 Ha14 Ha15 HX HA]
  · isplitl [Hs]; · iexact Hs
    isplitl [Ha0]; · iexact Ha0
    isplitl [Hd0]; · iexact Hd0
    isplitl [Ha1]; · iexact Ha1
    isplitl [Hd1]; · iexact Hd1
    isplitl [Ha2]; · iexact Ha2
    isplitl [Hd2]; · iexact Hd2
    isplitl [Ha3]; · iexact Ha3
    isplitl [Hd3]; · iexact Hd3
    isplitl [Ha4]; · iexact Ha4
    isplitl [Ha5]; · iexact Ha5
    isplitl [Ha6]; · iexact Ha6
    isplitl [Ha7]; · iexact Ha7
    isplitl [Ha8]; · iexact Ha8
    isplitl [Ha9]; · iexact Ha9
    isplitl [Ha10]; · iexact Ha10
    isplitl [Ha11]; · iexact Ha11
    isplitl [Ha12]; · iexact Ha12
    isplitl [Ha13]; · iexact Ha13
    isplitl [Ha14]; · iexact Ha14
    isplitl [Ha15]; · iexact Ha15
    isplitl [HX]; · iexact HX
    iexact HA
  iintro %a0 %a1 %v2 %v5 %v8 %v13 %v16 %v19 ⟨Hs, HX, HA⟩
  iapply (loadFull c arg3 b) $$ HB; iintro HB
  iapply (loadFull c AC k0_pay8) $$ HX; iintro HX
  iapply (storeFull c AC k0_pay8 (k0_pay1 k0_pay8 (k0_pay9 a) b)) $$ HX; iintro HX
  iapply (run_ret c _ Q)
  iapply HK
  isplitl [Hs]; · iexact Hs
  isplitl [HX]; · iexact HX
  isplitl [HA]; · iexact HA
  iexact HB

theorem point_zero (c : Dev nD) (i : grid0.Coords) {arg2 harg2 arg3 harg3 arg8 harg8} (h1 : ¬ k0_cond1 i = 1#1) (hz : isFirst i) (h3 : ¬ k0_cond3 i = 1#1) (h11 : ¬ k0_cond11 i = 1#1)
    (X : Vec F S2048x1792 .f32) (a : Vec F S1024x2048 .bf16) (b : Vec F S1024x1792 .bf16) {Q : PUnit → sProp 𝕄} :
    iprop(has c AC X ∗ has c arg2 a ∗ has c arg3 b)
      ⊢ iprop(((has c AC (k0_pay1 k0_pay8 (k0_pay9 a) b) ∗ has c arg2 a ∗ has c arg3 b) -∗ Q ⟨⟩)
        -∗ run c (cc0_grad_w_in (F := F) i arg2 harg2 arg3 harg3 A0 (Memref.isWhole_whole _) A1 (Memref.isWhole_whole _) A2 (Memref.isWhole_whole _) A3 (Memref.isWhole_whole _) arg8 harg8 TH (Memref.isWhole_whole _) D0 (Memref.isWhole_whole _) D1 (Memref.isWhole_whole _) D2 (Memref.isWhole_whole _) D3 (Memref.isWhole_whole _) AC (Memref.isWhole_whole _) SB (Memref.isWhole_whole _) cc0_scratch2 cc0_scratch3 cc0_scratch4 cc0_scratch5 cc0_scratch6) Q) := by
  rw [cc0_grad_w_in_eq_skeleton]; unfold cc0_grad_w_in_skel run
  simp only [Prog.lift, Prog.bind_op, Prog.bind_ret, Prog.pure_eq_ret, dif_neg h3, dif_neg h11, wp_bind]
  iintro ⟨HX, HA, HB⟩ HK
  iapply (head_zero c i h1 hz X a) $$ [HX HA]
  · isplitl [HX]; · iexact HX
    iexact HA
  iintro %a0 %a1 %v2 %v5 %v8 %v13 %v16 %v19 ⟨HX, HA⟩
  iapply (loadFull c arg3 b) $$ HB; iintro HB
  iapply (loadFull c AC k0_pay8) $$ HX; iintro HX
  iapply (storeFull c AC k0_pay8 (k0_pay1 k0_pay8 (k0_pay9 a) b)) $$ HX; iintro HX
  iapply (run_ret c _ Q)
  iapply HK
  isplitl [HX]; · iexact HX
  isplitl [HA]; · iexact HA
  iexact HB

theorem point_next (c : Dev nD) (i : grid0.Coords) {arg2 harg2 arg3 harg3 arg8 harg8} (h1 : ¬ k0_cond1 i = 1#1) (hz : ¬ isFirst i) (h3 : ¬ k0_cond3 i = 1#1) (h11 : ¬ k0_cond11 i = 1#1)
    (X : Vec F S2048x1792 .f32) (a : Vec F S1024x2048 .bf16) (b : Vec F S1024x1792 .bf16) {Q : PUnit → sProp 𝕄} :
    iprop(has c AC X ∗ has c arg2 a ∗ has c arg3 b)
      ⊢ iprop(((has c AC (k0_pay1 X (k0_pay9 a) b) ∗ has c arg2 a ∗ has c arg3 b) -∗ Q ⟨⟩)
        -∗ run c (cc0_grad_w_in (F := F) i arg2 harg2 arg3 harg3 A0 (Memref.isWhole_whole _) A1 (Memref.isWhole_whole _) A2 (Memref.isWhole_whole _) A3 (Memref.isWhole_whole _) arg8 harg8 TH (Memref.isWhole_whole _) D0 (Memref.isWhole_whole _) D1 (Memref.isWhole_whole _) D2 (Memref.isWhole_whole _) D3 (Memref.isWhole_whole _) AC (Memref.isWhole_whole _) SB (Memref.isWhole_whole _) cc0_scratch2 cc0_scratch3 cc0_scratch4 cc0_scratch5 cc0_scratch6) Q) := by
  rw [cc0_grad_w_in_eq_skeleton]; unfold cc0_grad_w_in_skel run
  simp only [Prog.lift, Prog.bind_op, Prog.bind_ret, Prog.pure_eq_ret, dif_neg h3, dif_neg h11, wp_bind]
  iintro ⟨HX, HA, HB⟩ HK
  iapply (head_next c i h1 hz X a) $$ [HX HA]
  · isplitl [HX]; · iexact HX
    iexact HA
  iintro %a0 %a1 %v2 %v5 %v8 %v13 %v16 %v19 ⟨HX, HA⟩
  iapply (loadFull c arg3 b) $$ HB; iintro HB
  iapply (loadFull c AC X) $$ HX; iintro HX
  iapply (storeFull c AC X (k0_pay1 X (k0_pay9 a) b)) $$ HX; iintro HX
  iapply (run_ret c _ Q)
  iapply HK
  isplitl [HX]; · iexact HX
  isplitl [HA]; · iexact HA
  iexact HB

theorem point_pair0 (c : Dev nD) (i : grid0.Coords) {arg2 harg2 arg3 harg3 arg8 harg8} (h1 : ¬ k0_cond1 i = 1#1) (hz : ¬ isFirst i) (h3 : k0_cond3 i = 1#1)
    (h4 : ¬ k0_cond4 i = 1#1) (h5 : ¬ k0_cond5 i = 1#1) (h6 : ¬ k0_cond6 i = 1#1) (h7 : k0_cond7 i = 1#1) (h8 : ¬ k0_cond8 i = 1#1) (h9 : ¬ k0_cond9 i = 1#1) (h10 : ¬ k0_cond10 i = 1#1) (h11 : ¬ k0_cond11 i = 1#1)
    (Z : S2x2048x896.Idx → Elt F .bf16) (Y : S2x2048x896.Idx → Elt F .bf16) (X : Vec F S2048x1792 .f32) (a : Vec F S1024x2048 .bf16) (b : Vec F S1024x1792 .bf16)
    (hX : k0_pay1 X (k0_pay9 a) b = accAt m c 3) {Q : PUnit → sProp 𝕄} :
    iprop(stage m ER c 16 0 ∗ has c SB Z ∗ has c AC X ∗ has c arg2 a ∗ has c arg3 b ∗ has c arg8 Y)
      ⊢ iprop(((stage m ER c 17 0 ∗ (∃ f, Rows.own q4 c SB (core c) f) ∗ has c AC (accAt m c 3) ∗ has c arg2 a ∗ has c arg3 b ∗ has c arg8 (blocks m c 0)) -∗ Q ⟨⟩)
        -∗ run c (cc0_grad_w_in (F := F) i arg2 harg2 arg3 harg3 A0 (Memref.isWhole_whole _) A1 (Memref.isWhole_whole _) A2 (Memref.isWhole_whole _) A3 (Memref.isWhole_whole _) arg8 harg8 TH (Memref.isWhole_whole _) D0 (Memref.isWhole_whole _) D1 (Memref.isWhole_whole _) D2 (Memref.isWhole_whole _) D3 (Memref.isWhole_whole _) AC (Memref.isWhole_whole _) SB (Memref.isWhole_whole _) cc0_scratch2 cc0_scratch3 cc0_scratch4 cc0_scratch5 cc0_scratch6) Q) := by
  rw [cc0_grad_w_in_eq_skeleton]; unfold cc0_grad_w_in_skel run
  simp only [Prog.lift, Prog.bind_op, Prog.bind_ret, Prog.pure_eq_ret, dif_pos h3, dif_neg h8, dif_neg h9, dif_neg h10, dif_neg h11, wp_bind]
  iintro ⟨Hs, HZ, HX, HA, HB, HY⟩ HK
  iapply (head_next c i h1 hz X a) $$ [HX HA]
  · isplitl [HX]; · iexact HX
    iexact HA
  iintro %a0 %a1 %v2 %v5 %v8 %v13 %v16 %v19 ⟨HX, HA⟩
  iapply (loadFull c arg3 b) $$ HB; iintro HB
  iapply (loadFull c AC X) $$ HX; iintro HX
  iapply (storeFull c AC X (k0_pay1 X (k0_pay9 a) b)) $$ HX; iintro HX
  rw [hX]
  simp only [run, wp_bind]

  iapply (pair0 m ER c i a0 v13 v16 v19 h3 h4 h5 h6 h7 Z Y) $$ [Hs HZ HX HY]
  · isplitl [Hs]; · iexact Hs
    isplitl [HZ]; · iexact HZ
    isplitl [HX]; · iexact HX
    iexact HY
  iintro ⟨Hs, H0, HX, HY⟩
  iapply (run_ret c _ Q)
  iapply HK
  isplitl [Hs]; · iexact Hs
  isplitl [H0]; · iexists (blocks m c 0); iexact H0
  isplitl [HX]; · iexact HX
  isplitl [HA]; · iexact HA
  isplitl [HB]; · iexact HB
  iexact HY

theorem point_pair1 (c : Dev nD) (i : grid0.Coords) {arg2 harg2 arg3 harg3 arg8 harg8} (h1 : ¬ k0_cond1 i = 1#1) (hz : ¬ isFirst i) (h3 : k0_cond3 i = 1#1)
    (h4 : k0_cond4 i = 1#1) (h5 : ¬ k0_cond5 i = 1#1) (h6 : ¬ k0_cond6 i = 1#1) (h7 : ¬ k0_cond7 i = 1#1) (h8 : k0_cond8 i = 1#1) (h9 : ¬ k0_cond9 i = 1#1) (h10 : ¬ k0_cond10 i = 1#1) (h11 : ¬ k0_cond11 i = 1#1)
    (Y : S2x2048x896.Idx → Elt F .bf16) (X : Vec F S2048x1792 .f32) (a : Vec F S1024x2048 .bf16) (b : Vec F S1024x1792 .bf16)
    (hX : k0_pay1 X (k0_pay9 a) b = accAt m c 7) {Q : PUnit → sProp 𝕄} :
    iprop(stage m ER c 17 0 ∗ (∃ f, Rows.own q4 c SB (core c) f) ∗ has c AC X ∗ has c arg2 a ∗ has c arg3 b ∗ has c arg8 Y)
      ⊢ iprop(((stage m ER c 18 1 ∗ (∃ f, Rows.own q4 c SB (core c) f) ∗ has c AC (accAt m c 7) ∗ has c arg2 a ∗ has c arg3 b ∗ has c arg8 (blocks m c 1)) -∗ Q ⟨⟩)
        -∗ run c (cc0_grad_w_in (F := F) i arg2 harg2 arg3 harg3 A0 (Memref.isWhole_whole _) A1 (Memref.isWhole_whole _) A2 (Memref.isWhole_whole _) A3 (Memref.isWhole_whole _) arg8 harg8 TH (Memref.isWhole_whole _) D0 (Memref.isWhole_whole _) D1 (Memref.isWhole_whole _) D2 (Memref.isWhole_whole _) D3 (Memref.isWhole_whole _) AC (Memref.isWhole_whole _) SB (Memref.isWhole_whole _) cc0_scratch2 cc0_scratch3 cc0_scratch4 cc0_scratch5 cc0_scratch6) Q) := by
  rw [cc0_grad_w_in_eq_skeleton]; unfold cc0_grad_w_in_skel run
  simp only [Prog.lift, Prog.bind_op, Prog.bind_ret, Prog.pure_eq_ret, dif_pos h3, dif_pos h8, dif_neg h9, dif_neg h10, dif_neg h11, wp_bind]
  iintro ⟨Hs, HZ, HX, HA, HB, HY⟩ HK
  iapply (head_next c i h1 hz X a) $$ [HX HA]
  · isplitl [HX]; · iexact HX
    iexact HA
  iintro %a0 %a1 %v2 %v5 %v8 %v13 %v16 %v19 ⟨HX, HA⟩
  iapply (loadFull c arg3 b) $$ HB; iintro HB
  iapply (loadFull c AC X) $$ HX; iintro HX
  iapply (storeFull c AC X (k0_pay1 X (k0_pay9 a) b)) $$ HX; iintro HX
  rw [hX]
  simp only [run, wp_bind]

  iapply (pair1 m ER c i a0 v13 v16 v19 h3 h4 h5 h6 h7 Y) $$ [Hs HZ HX HY]
  · isplitl [Hs]; · iexact Hs
    isplitl [HZ]; · iexact HZ
    isplitl [HX]; · iexact HX
    iexact HY
  iintro ⟨Hs, H0, HX, HY⟩
  ihave H0 := (Entails.of_eq (sb_split c (blocks m c 1))) $$ H0
  icases H0 with ⟨H0, H1⟩
  iapply (sendPair m ER c 1 1 17 (by decide +kernel) (by decide +kernel) (off13_eq c) rfl (dev14_eq c) rfl rfl) $$ [Hs H1]
  · isplitl [Hs]; · iexact Hs
    iexact H1
  iintro Hs
  simp only [run, wp_bind]
  iapply (run_ret c _ Q)
  iapply HK
  isplitl [Hs]; · iexact Hs
  isplitl [H0]; · iexists (blocks m c 1); iexact H0
  isplitl [HX]; · iexact HX
  isplitl [HA]; · iexact HA
  isplitl [HB]; · iexact HB
  iexact HY

theorem point_pair2 (c : Dev nD) (i : grid0.Coords) {arg2 harg2 arg3 harg3 arg8 harg8} (h1 : ¬ k0_cond1 i = 1#1) (hz : ¬ isFirst i) (h3 : k0_cond3 i = 1#1)
    (h4 : ¬ k0_cond4 i = 1#1) (h5 : k0_cond5 i = 1#1) (h6 : ¬ k0_cond6 i = 1#1) (h7 : ¬ k0_cond7 i = 1#1) (h8 : ¬ k0_cond8 i = 1#1) (h9 : k0_cond9 i = 1#1) (h10 : ¬ k0_cond10 i = 1#1) (h11 : ¬ k0_cond11 i = 1#1)
    (Y : S2x2048x896.Idx → Elt F .bf16) (X : Vec F S2048x1792 .f32) (a : Vec F S1024x2048 .bf16) (b : Vec F S1024x1792 .bf16)
    (hX : k0_pay1 X (k0_pay9 a) b = accAt m c 11) {Q : PUnit → sProp 𝕄} :
    iprop(stage m ER c 18 1 ∗ (∃ f, Rows.own q4 c SB (core c) f) ∗ has c AC X ∗ has c arg2 a ∗ has c arg3 b ∗ has c arg8 Y)
      ⊢ iprop(((stage m ER c 19 2 ∗ (∃ f, Rows.own q4 c SB (core c) f) ∗ has c AC (accAt m c 11) ∗ has c arg2 a ∗ has c arg3 b ∗ has c arg8 (blocks m c 2)) -∗ Q ⟨⟩)
        -∗ run c (cc0_grad_w_in (F := F) i arg2 harg2 arg3 harg3 A0 (Memref.isWhole_whole _) A1 (Memref.isWhole_whole _) A2 (Memref.isWhole_whole _) A3 (Memref.isWhole_whole _) arg8 harg8 TH (Memref.isWhole_whole _) D0 (Memref.isWhole_whole _) D1 (Memref.isWhole_whole _) D2 (Memref.isWhole_whole _) D3 (Memref.isWhole_whole _) AC (Memref.isWhole_whole _) SB (Memref.isWhole_whole _) cc0_scratch2 cc0_scratch3 cc0_scratch4 cc0_scratch5 cc0_scratch6) Q) := by
  rw [cc0_grad_w_in_eq_skeleton]; unfold cc0_grad_w_in_skel run
  simp only [Prog.lift, Prog.bind_op, Prog.bind_ret, Prog.pure_eq_ret, dif_pos h3, dif_neg h8, dif_pos h9, dif_neg h10, dif_neg h11, wp_bind]
  iintro ⟨Hs, HZ, HX, HA, HB, HY⟩ HK
  iapply (head_next c i h1 hz X a) $$ [HX HA]
  · isplitl [HX]; · iexact HX
    iexact HA
  iintro %a0 %a1 %v2 %v5 %v8 %v13 %v16 %v19 ⟨HX, HA⟩
  iapply (loadFull c arg3 b) $$ HB; iintro HB
  iapply (loadFull c AC X) $$ HX; iintro HX
  iapply (storeFull c AC X (k0_pay1 X (k0_pay9 a) b)) $$ HX; iintro HX
  rw [hX]
  simp only [run, wp_bind]

  iapply (pair2 m ER c i a0 v13 v16 v19 h3 h4 h5 h6 h7 Y) $$ [Hs HZ HX HY]
  · isplitl [Hs]; · iexact Hs
    isplitl [HZ]; · iexact HZ
    isplitl [HX]; · iexact HX
    iexact HY
  iintro ⟨Hs, H0, HX, HY⟩
  ihave H0 := (Entails.of_eq (sb_split c (blocks m c 2))) $$ H0
  icases H0 with ⟨H0, H1⟩
  iapply (sendPair m ER c 2 2 18 (by decide +kernel) (by decide +kernel) (off14_eq c) rfl (dev15_eq c) rfl rfl) $$ [Hs H1]
  · isplitl [Hs]; · iexact Hs
    iexact H1
  iintro Hs
  simp only [run, wp_bind]
  iapply (run_ret c _ Q)
  iapply HK
  isplitl [Hs]; · iexact Hs
  isplitl [H0]; · iexists (blocks m c 2); iexact H0
  isplitl [HX]; · iexact HX
  isplitl [HA]; · iexact HA
  isplitl [HB]; · iexact HB
  iexact HY

set_option maxHeartbeats 400000 in
theorem point_pair3 (c : Dev nD) (i : grid0.Coords) {arg2 harg2 arg3 harg3 arg8 harg8} (h1 : ¬ k0_cond1 i = 1#1) (hz : ¬ isFirst i) (h3 : k0_cond3 i = 1#1)
    (h4 : ¬ k0_cond4 i = 1#1) (h5 : ¬ k0_cond5 i = 1#1) (h6 : k0_cond6 i = 1#1) (h7 : ¬ k0_cond7 i = 1#1) (h8 : ¬ k0_cond8 i = 1#1) (h9 : ¬ k0_cond9 i = 1#1) (h10 : k0_cond10 i = 1#1) (h11 : k0_cond11 i = 1#1)
    (Y : S2x2048x896.Idx → Elt F .bf16) (X : Vec F S2048x1792 .f32) (a : Vec F S1024x2048 .bf16) (b : Vec F S1024x1792 .bf16)
    (hX : k0_pay1 X (k0_pay9 a) b = accAt m c 15) {Q : PUnit → sProp 𝕄} :
    iprop(stage m ER c 19 2 ∗ (∃ f, Rows.own q4 c SB (core c) f) ∗ has c AC X ∗ has c arg2 a ∗ has c arg3 b ∗ has c arg8 Y)
      ⊢ iprop(((stage m ER c 20 36 ∗ (∃ Z : S2x2048x896.Idx → Elt F .bf16, has c SB Z) ∗ full c TH (theirs m c) ∗ full c A0 (s0 m c) ∗ full c D0 (arrived (s0 m) c) ∗ full c A1 (s1 m c) ∗ full c D1 (arrived (s1 m) c) ∗ full c A2 (s2 m c) ∗ full c D2 (arrived (s2 m) c) ∗ full c A3 (s3 m c) ∗ full c D3 (arrived (s3 m) c) ∗ has c AC (accAt m c 15) ∗ has c arg2 a ∗ has c arg3 b ∗ has c arg8 (blocks m c 3)) -∗ Q ⟨⟩)
        -∗ run c (cc0_grad_w_in (F := F) i arg2 harg2 arg3 harg3 A0 (Memref.isWhole_whole _) A1 (Memref.isWhole_whole _) A2 (Memref.isWhole_whole _) A3 (Memref.isWhole_whole _) arg8 harg8 TH (Memref.isWhole_whole _) D0 (Memref.isWhole_whole _) D1 (Memref.isWhole_whole _) D2 (Memref.isWhole_whole _) D3 (Memref.isWhole_whole _) AC (Memref.isWhole_whole _) SB (Memref.isWhole_whole _) cc0_scratch2 cc0_scratch3 cc0_scratch4 cc0_scratch5 cc0_scratch6) Q) := by
  rw [cc0_grad_w_in_eq_skeleton]; unfold cc0_grad_w_in_skel run
  simp only [Prog.lift, Prog.bind_op, Prog.bind_ret, Prog.pure_eq_ret, dif_pos h3, dif_neg h8, dif_neg h9, dif_pos h10, dif_pos h11, wp_bind]
  iintro ⟨Hs, HZ, HX, HA, HB, HY⟩ HK
  iapply (head_next c i h1 hz X a) $$ [HX HA]
  · isplitl [HX]; · iexact HX
    iexact HA
  iintro %a0 %a1 %v2 %v5 %v8 %v13 %v16 %v19 ⟨HX, HA⟩
  iapply (loadFull c arg3 b) $$ HB; iintro HB
  iapply (loadFull c AC X) $$ HX; iintro HX
  iapply (storeFull c AC X (k0_pay1 X (k0_pay9 a) b)) $$ HX; iintro HX
  rw [hX]
  simp only [run, wp_bind]

  iapply (pair3 m ER c i a0 v13 v16 v19 h3 h4 h5 h6 h7 Y) $$ [Hs HZ HX HY]
  · isplitl [Hs]; · iexact Hs
    isplitl [HZ]; · iexact HZ
    isplitl [HX]; · iexact HX
    iexact HY
  iintro ⟨Hs, H0, HX, HY⟩
  ihave H0 := (Entails.of_eq (sb_split c (blocks m c 3))) $$ H0
  icases H0 with ⟨H0, H1⟩
  iapply (sendPair m ER c 3 3 19 (by decide +kernel) (by decide +kernel) (off15_eq c) rfl (dev16_eq c) rfl rfl) $$ [Hs H1]
  · isplitl [Hs]; · iexact Hs
    iexact H1
  iintro Hs
  simp only [run, wp_bind]
  iapply (take9 m ER c i) $$ Hs
  iintro %r9 ⟨P3, P4, Hs⟩
  iapply (take10 m ER c i) $$ Hs
  iintro %r10 ⟨P5, P6, Hs⟩
  iapply (take11 m ER c i) $$ Hs
  iintro %r11 ⟨P7, Hs⟩
  iapply (take12 m ER c i) $$ Hs
  iintro %r12 ⟨P8, Hs⟩
  iapply (take13 m ER c i) $$ Hs
  iintro %r13 ⟨P9, P10, Hs⟩
  iapply (take14 m ER c i) $$ Hs
  iintro %r14 ⟨P11, P12, Hs⟩
  iapply (take15 m ER c i) $$ Hs
  iintro %r15 ⟨P13, P14, P15, Hs⟩
  iapply (take16 m ER c i) $$ Hs
  iintro %r16 ⟨P16, P17, Hs⟩
  iapply (take17 m ER c i) $$ Hs
  iintro %r17 ⟨P18, P19, P20, Hs⟩
  iapply (take18 m ER c i) $$ Hs
  iintro %r18 ⟨P21, P22, P23, P24, Hs⟩
  iapply (take19 m ER c i) $$ Hs
  iintro %r19 ⟨P25, P26, P27, P28, Hs⟩
  iapply (take20 m ER c i) $$ Hs
  iintro %r20 ⟨P29, P30, P31, P32, Hs⟩
  iapply (take m ER c 20 33 (.lc 1) (by decide +kernel) (by decide +kernel) ?_) $$ Hs
  · intro R; exact wpE_waitDma2_eq _ _ none Set.univ R
  iintro ⟨P33, Hs⟩
  iapply (take m ER c 20 34 (.lc 2) (by decide +kernel) (by decide +kernel) ?_) $$ Hs
  · intro R; exact wpE_waitDma2_eq _ _ none Set.univ R
  iintro ⟨P34, Hs⟩
  iapply (take m ER c 20 35 (.lc 3) (by decide +kernel) (by decide +kernel) ?_) $$ Hs
  · intro R; exact wpE_waitDma2_eq _ _ none Set.univ R
  iintro ⟨P35, Hs⟩
  ihave G0 := (gather0 m c) $$ [P20 P21 P22 P8 P9 P10 P32]
  · isplitl [P20]; · iexact P20
    isplitl [P21]; · iexact P21
    isplitl [P22]; · iexact P22
    isplitl [P8]; · iexact P8
    isplitl [P9]; · iexact P9
    isplitl [P10]; · iexact P10
    iexact P32
  icases G0 with ⟨GA0, GD0⟩
  ihave G1 := (gather1 m c) $$ [P23 P24 P25 P11 P12 P13 P33]
  · isplitl [P23]; · iexact P23
    isplitl [P24]; · iexact P24
    isplitl [P25]; · iexact P25
    isplitl [P11]; · iexact P11
    isplitl [P12]; · iexact P12
    isplitl [P13]; · iexact P13
    iexact P33
  icases G1 with ⟨GA1, GD1⟩
  ihave G2 := (gather2 m c) $$ [P26 P27 P28 P14 P15 P16 P34]
  · isplitl [P26]; · iexact P26
    isplitl [P27]; · iexact P27
    isplitl [P28]; · iexact P28
    isplitl [P14]; · iexact P14
    isplitl [P15]; · iexact P15
    isplitl [P16]; · iexact P16
    iexact P34
  icases G2 with ⟨GA2, GD2⟩
  ihave G3 := (gather3 m c) $$ [P29 P30 P31 P17 P18 P19 P35]
  · isplitl [P29]; · iexact P29
    isplitl [P30]; · iexact P30
    isplitl [P31]; · iexact P31
    isplitl [P17]; · iexact P17
    isplitl [P18]; · iexact P18
    isplitl [P19]; · iexact P19
    iexact P35
  icases G3 with ⟨GA3, GD3⟩
  ihave GT := (gather_pairs m c) $$ [P4 P5 P6 P7]
  · isplitl [P4]; · iexact P4
    isplitl [P5]; · iexact P5
    isplitl [P6]; · iexact P6
    iexact P7
  ihave P3 := (Entails.of_eq (show (pay m c (.ps 3) : sProp 𝕄) = Rows.own q4 c SB (other c) (blocks m c 3) from rfl)) $$ P3
  ihave H0 := (sb_join c (blocks m c 3)) $$ [H0 P3]
  · isplitl [H0]
    · iexists (blocks m c 3); iexact H0
    iexact P3
  iapply (run_ret c _ Q)
  iapply HK
  isplitl [Hs]; · iexact Hs
  isplitl [H0]; · iexact H0
  isplitl [GT]; · iexact GT
  isplitl [GA0]; · iexact GA0
  isplitl [GD0]; · iexact GD0
  isplitl [GA1]; · iexact GA1
  isplitl [GD1]; · iexact GD1
  isplitl [GA2]; · iexact GA2
  isplitl [GD2]; · iexact GD2
  isplitl [GA3]; · iexact GA3
  isplitl [GD3]; · iexact GD3
  isplitl [HX]; · iexact HX
  isplitl [HA]; · iexact HA
  isplitl [HB]; · iexact HB
  iexact HY

end Cert.KernelIdeal.GW

end
-- ==== Proof.Body.lean ====
module

public import proofs.«01_k».proof.Proof.Kinds
public import proofs.«01_k».proof.Proof.Gen.KernelIdeal.Points

@[expose] public section

noncomputable section

/-! The invariant, and the body at every point. -/

namespace Cert.KernelIdeal.GW

open Idealize.ShloMosaic
open Idealize.SL
open Idealize.SL.BI
open scoped Idealize.SL.BI
open Idealize.SL.BI.BIBase Idealize.SL.BI.Laws Idealize.SL.Sem Idealize.SL.ProofMode
open Idealize.SL.RA
open Idealize.ShloMosaic.TcCoe
open Idealize.ShloMosaic.Rounds
open Idealize.ShloMosaic.ValueIdx
open Idealize.ShloMosaic.Pipeline
open Cert.KernelIdeal.Gen

set_option Elab.async false

variable {F : FTy → Type} [FloatOps F]
variable (m : (ℓ : Loc nD τ sig) → Buf (Elt F) ℓ)
variable {U : Type} [URA U]
variable (ER : Emb (URounds (GSem nD τ sig) Unit) (MT nD τ sig Unit (Elt F) ℕ U ℕ))
local notation "𝕄" => MT nD τ sig Unit (Elt F) ℕ U ℕ

/-! ### What the accumulator holds -/

theorem ablk_eq (c : Dev nD) (t : Fin cfg0.N) : ablk m c t.val = iblk m c 0 t := by unfold ablk; rw [dif_pos t.isLt]
theorem bblk_eq (c : Dev nD) (t : Fin cfg0.N) : bblk m c t.val = iblk m c 1 t := by unfold bblk; rw [dif_pos t.isLt]

theorem accAt_start (c : Dev nD) (t : Fin cfg0.N) (h : t.val % 4 = 0) : accAt m c t.val = k0_pay1 k0_pay8 (k0_pay9 (iblk m c 0 t)) (iblk m c 1 t) := by
  rw [← ablk_eq, ← bblk_eq]
  generalize t.val = n at h
  cases n with
  | zero => rfl
  | succ n => show k0_pay1 (if (n + 1) % 4 = 0 then _ else _) _ _ = _; rw [if_pos h]

theorem accAt_step (c : Dev nD) (t : Fin cfg0.N) (h : ¬ t.val % 4 = 0) :
    accAt m c t.val = k0_pay1 (accAt m c (t.val - 1)) (k0_pay9 (iblk m c 0 t)) (iblk m c 1 t) := by
  rw [← ablk_eq, ← bblk_eq]
  generalize t.val = n at h
  cases n with
  | zero => exact absurd rfl h
  | succ n => show k0_pay1 (if (n + 1) % 4 = 0 then _ else _) _ _ = _; rw [if_neg h]; rfl

/-! ### The invariant -/

/-- How many sends have been issued before point `t`, and how many waits have passed. -/
def issued (t : ℕ) : ℕ := if t = 0 then 0 else 16 + t / 4
def passed (t : ℕ) : ℕ := if t = 16 then 36 else t / 4 - 1

/-- The stacks as they are found: the planes to send, the plane to copy and the plane it is copied to. -/
def opening (c : Dev nD) : sProp 𝕄 := iprop(Rows.own q0 c A0 (opp c 0) (s0 m c) ∗ (∃ f, Rows.own q0 c D0 (opp c 0) f) ∗ Rows.own q1 c A1 (opp c 0) (s1 m c) ∗ (∃ f, Rows.own q1 c D1 (opp c 0) f) ∗ Rows.own q2 c A2 (opp c 0) (s2 m c) ∗ (∃ f, Rows.own q2 c D2 (opp c 0) f) ∗ Rows.own q3 c A3 (opp c 0) (s3 m c) ∗ (∃ f, Rows.own q3 c D3 (opp c 0) f) ∗ Rows.own q0 c A0 (opp c (Fin.succ 0)) (s0 m c) ∗ Rows.own q0 c A0 (opp c (Fin.succ 1)) (s0 m c) ∗ Rows.own q0 c A0 (opp c (Fin.succ 2)) (s0 m c) ∗ Rows.own q1 c A1 (opp c (Fin.succ 0)) (s1 m c) ∗ Rows.own q1 c A1 (opp c (Fin.succ 1)) (s1 m c) ∗ Rows.own q1 c A1 (opp c (Fin.succ 2)) (s1 m c) ∗ Rows.own q2 c A2 (opp c (Fin.succ 0)) (s2 m c) ∗ Rows.own q2 c A2 (opp c (Fin.succ 1)) (s2 m c) ∗ Rows.own q2 c A2 (opp c (Fin.succ 2)) (s2 m c) ∗ Rows.own q3 c A3 (opp c (Fin.succ 0)) (s3 m c) ∗ Rows.own q3 c A3 (opp c (Fin.succ 1)) (s3 m c) ∗ Rows.own q3 c A3 (opp c (Fin.succ 2)) (s3 m c))
/-- The stacks as they are left. -/
def closing (c : Dev nD) : sProp 𝕄 := iprop(full c TH (theirs m c) ∗ full c A0 (s0 m c) ∗ full c D0 (arrived (s0 m) c) ∗ full c A1 (s1 m c) ∗ full c D1 (arrived (s1 m) c) ∗ full c A2 (s2 m c) ∗ full c D2 (arrived (s2 m) c) ∗ full c A3 (s3 m c) ∗ full c D3 (arrived (s3 m) c))

def accInv (c : Dev nD) (t : ℕ) : sProp 𝕄 := if t % 4 = 0 then iprop(∃ X, has c AC X) else has c AC (accAt m c (t - 1))
def sbInv (c : Dev nD) (t : ℕ) : sProp 𝕄 :=
  if t < 4 ∨ t = 16 then iprop(∃ Z : S2x2048x896.Idx → Elt F .bf16, has c SB Z) else iprop(∃ f, Rows.own q4 c SB (core c) f)
def endsInv (c : Dev nD) (t : ℕ) : sProp 𝕄 := if t = 0 then opening m c else if t = 16 then closing m c else iprop(emp)

def inv (c : Dev nD) (t : ℕ) : sProp 𝕄 :=
  iprop(Once.st (plan m) ER c (due (issued t)) (rem (passed t)) ∗ accInv m c t ∗ sbInv c t ∗ endsInv m c t)

def after (c : Dev nD) : (w : Fin cfg0.W) → Fin cfg0.N → (cfg0.win w).block.Idx → Elt F (cfg0.win w).elt
  | 0 => fun t => iblk m c 0 t
  | 1 => fun t => iblk m c 1 t
  | 2 => fun t => blocks m c (t.val / 4)
  | ⟨n + 3, h⟩ => absurd h (Nat.not_lt.2 (Nat.le_add_left 3 n))

def dat (c : Dev nD) : Dat τ (Elt F) Unit ℕ U ℕ cfg0 c where
  A w := V m c (Pipeline.arrRef spec0 w)
  after := after m c
  Φ t := inv m ER c t.val
  q _ := fullShare
  owed t := Once.owe (plan (U := U) m) c (due (issued t.val))

theorem before_left (c : Dev nD) (t : Fin cfg0.N) (d) : (dat m ER c).before 0 t d = iblk m c 0 t :=
  ((dat m ER c).before_in_eq_fetched 0 rfl (fun _ => rfl) (fun _ _ _ => rfl) (fun _ => rfl) t d).trans rfl
theorem before_right (c : Dev nD) (t : Fin cfg0.N) (d) : (dat m ER c).before 1 t d = iblk m c 1 t :=
  ((dat m ER c).before_in_eq_fetched 1 rfl (fun _ => rfl) (fun _ _ _ => rfl) (fun _ => rfl) t d).trans rfl

theorem idle_out (t : Fin cfg0.N) : cfg0.idle 2 (cfg0.grid.coords t) = decide (¬ t.val % 4 = 3) := by revert t; decide +kernel
theorem flush_out (t : Fin cfg0.N) : (cfg0.win 2).flush t = decide (t.val % 4 = 3) := by revert t; decide +kernel

/-! ### The conditions, as facts about the point's number -/

theorem on_first (t : Fin cfg0.N) : k0_cond1 (grid0.coords t) = 1#1 ↔ t.val = 0 := by revert t; decide +kernel
theorem on_start (t : Fin cfg0.N) : isFirst (grid0.coords t) ↔ t.val % 4 = 0 := by revert t; decide +kernel
theorem on_end (t : Fin cfg0.N) : k0_cond3 (grid0.coords t) = 1#1 ↔ t.val % 4 = 3 := by revert t; decide +kernel
theorem on_last (t : Fin cfg0.N) : k0_cond11 (grid0.coords t) = 1#1 ↔ t.val = 15 := by revert t; decide +kernel
theorem on_4 (t : Fin cfg0.N) : k0_cond4 (grid0.coords t) = 1#1 ↔ t.val / 4 = 1 := by revert t; decide +kernel
theorem on_5 (t : Fin cfg0.N) : k0_cond5 (grid0.coords t) = 1#1 ↔ t.val / 4 = 2 := by revert t; decide +kernel
theorem on_6 (t : Fin cfg0.N) : k0_cond6 (grid0.coords t) = 1#1 ↔ t.val / 4 = 3 := by revert t; decide +kernel
theorem on_7 (t : Fin cfg0.N) : k0_cond7 (grid0.coords t) = 1#1 ↔ t.val / 4 = 0 := by revert t; decide +kernel
theorem on_8 (t : Fin cfg0.N) : k0_cond8 (grid0.coords t) = 1#1 ↔ t.val / 4 = 1 := by revert t; decide +kernel
theorem on_9 (t : Fin cfg0.N) : k0_cond9 (grid0.coords t) = 1#1 ↔ t.val / 4 = 2 := by revert t; decide +kernel
theorem on_10 (t : Fin cfg0.N) : k0_cond10 (grid0.coords t) = 1#1 ↔ t.val / 4 = 3 := by revert t; decide +kernel

/-! ### The body's obligation -/

/-- What is held at point `t`'s body besides the windows. -/
def side (c : Dev nD) (t : ℕ) : sProp 𝕄 := iprop(inv m ER c t ∗ ∃ W, owes (c.tc : Thread nD τ) (Once.owe (plan (U := U) m) c (due (issued t))) W)

theorem side_eq (c : Dev nD) (t : ℕ) : side m ER c t ⊢ iprop(stage m ER c (issued t) (passed t) ∗ accInv m c t ∗ sbInv c t ∗ endsInv m c t) := by
  unfold side inv stage Once.sto
  iintro ⟨⟨H1, H2⟩, H3⟩
  isplitl [H1 H3]
  · isplitl [H1]; · iexact H1
    iexact H3
  iexact H2

theorem side_of (c : Dev nD) (t n w : ℕ) (hn : issued t = n) (hw : passed t = w) : iprop(stage m ER c n w ∗ accInv m c t ∗ sbInv c t ∗ endsInv m c t) ⊢ side m ER c t := by
  subst hn hw
  unfold side inv stage Once.sto
  iintro ⟨⟨H1, H3⟩, H2⟩
  isplitl [H1 H2]
  · isplitl [H1]; · iexact H1
    iexact H2
  iexact H3

theorem ends_none (c : Dev nD) (t : ℕ) (h0 : t ≠ 0) (h1 : t ≠ 16) : (endsInv m c t : sProp 𝕄) = iprop(emp) := by unfold endsInv; rw [if_neg h0, if_neg h1]

/-- One point, the window written back treated by `out`. -/
abbrev goes (c : Dev nD) (t : Fin cfg0.N) (pre post : sProp 𝕄) : Prop :=
  iprop(side m ER c t.val ∗ has c (st0_0 t) (iblk m c 0 t) ∗ has c (st0_1 t) (iblk m c 1 t) ∗ pre)
    ⊢ run c (bodyAt0 t) fun _ => iprop(side m ER c (t.val + 1) ∗ has c (st0_0 t) (iblk m c 0 t) ∗ has c (st0_1 t) (iblk m c 1 t) ∗ post)

theorem goes_first (c : Dev nD) (t : Fin cfg0.N) (R : sProp 𝕄) (h : t.val = 0) : goes m ER c t R R := by
  have hs := side_eq m ER c t.val
  have hf := side_of m ER c (t.val + 1) 16 0 (by rw [h]; rfl) (by rw [h]; rfl)
  have h3 : ¬ k0_cond3 (grid0.coords t) = 1#1 := fun e => by have := (on_end t).1 e; omega
  have h11 : ¬ k0_cond11 (grid0.coords t) = 1#1 := fun e => by have := (on_last t).1 e; omega
  have hacc := accAt_start m c t (by omega)
  rw [show accInv m c t.val = (iprop(∃ X, has c AC X) : sProp 𝕄) from by unfold accInv; rw [if_pos (by omega)],
    show sbInv c t.val = (iprop(∃ Z : S2x2048x896.Idx → Elt F .bf16, has c SB Z) : sProp 𝕄) from by unfold sbInv; rw [if_pos (by omega)],
    show endsInv m c t.val = (opening m c : sProp 𝕄) from by unfold endsInv; rw [if_pos h],
    show issued t.val = 0 from by rw [h]; rfl, show passed t.val = 0 from by rw [h]; rfl] at hs
  rw [show accInv m c (t.val + 1) = (has c AC (accAt m c t.val) : sProp 𝕄) from by unfold accInv; rw [if_neg (by omega)]; rfl,
    show sbInv c (t.val + 1) = (iprop(∃ Z : S2x2048x896.Idx → Elt F .bf16, has c SB Z) : sProp 𝕄) from by unfold sbInv; rw [if_pos (by omega)],
    ends_none m c (t.val + 1) (by omega) (by omega), hacc] at hf
  unfold goes
  iintro ⟨Hside, HA, HB, HR⟩
  ihave Hside := hs $$ Hside
  icases Hside with ⟨Hs, ⟨%X, HX⟩, HZ, HO⟩
  ihave HO := (Entails.of_eq (show opening m c = (iprop(Rows.own q0 c A0 (opp c 0) (s0 m c) ∗ (∃ f, Rows.own q0 c D0 (opp c 0) f) ∗ Rows.own q1 c A1 (opp c 0) (s1 m c) ∗ (∃ f, Rows.own q1 c D1 (opp c 0) f) ∗ Rows.own q2 c A2 (opp c 0) (s2 m c) ∗ (∃ f, Rows.own q2 c D2 (opp c 0) f) ∗ Rows.own q3 c A3 (opp c 0) (s3 m c) ∗ (∃ f, Rows.own q3 c D3 (opp c 0) f) ∗ Rows.own q0 c A0 (opp c (Fin.succ 0)) (s0 m c) ∗ Rows.own q0 c A0 (opp c (Fin.succ 1)) (s0 m c) ∗ Rows.own q0 c A0 (opp c (Fin.succ 2)) (s0 m c) ∗ Rows.own q1 c A1 (opp c (Fin.succ 0)) (s1 m c) ∗ Rows.own q1 c A1 (opp c (Fin.succ 1)) (s1 m c) ∗ Rows.own q1 c A1 (opp c (Fin.succ 2)) (s1 m c) ∗ Rows.own q2 c A2 (opp c (Fin.succ 0)) (s2 m c) ∗ Rows.own q2 c A2 (opp c (Fin.succ 1)) (s2 m c) ∗ Rows.own q2 c A2 (opp c (Fin.succ 2)) (s2 m c) ∗ Rows.own q3 c A3 (opp c (Fin.succ 0)) (s3 m c) ∗ Rows.own q3 c A3 (opp c (Fin.succ 1)) (s3 m c) ∗ Rows.own q3 c A3 (opp c (Fin.succ 2)) (s3 m c)) : sProp 𝕄) from rfl)) $$ HO
  icases HO with ⟨Ha0, Hd0, Ha1, Hd1, Ha2, Hd2, Ha3, Hd3, Ha4, Ha5, Ha6, Ha7, Ha8, Ha9, Ha10, Ha11, Ha12, Ha13, Ha14, Ha15⟩
  iapply (point_first m ER c (grid0.coords t) ((on_first t).2 h) ((on_start t).2 (by omega)) h3 h11 X (iblk m c 0 t) (iblk m c 1 t)) $$ [Hs Ha0 Hd0 Ha1 Hd1 Ha2 Hd2 Ha3 Hd3 Ha4 Ha5 Ha6 Ha7 Ha8 Ha9 Ha10 Ha11 Ha12 Ha13 Ha14 Ha15 HX HA HB]
  · isplitl [Hs]; · iexact Hs
    isplitl [Ha0]; · iexact Ha0
    isplitl [Hd0]; · iexact Hd0
    isplitl [Ha1]; · iexact Ha1
    isplitl [Hd1]; · iexact Hd1
    isplitl [Ha2]; · iexact Ha2
    isplitl [Hd2]; · iexact Hd2
    isplitl [Ha3]; · iexact Ha3
    isplitl [Hd3]; · iexact Hd3
    isplitl [Ha4]; · iexact Ha4
    isplitl [Ha5]; · iexact Ha5
    isplitl [Ha6]; · iexact Ha6
    isplitl [Ha7]; · iexact Ha7
    isplitl [Ha8]; · iexact Ha8
    isplitl [Ha9]; · iexact Ha9
    isplitl [Ha10]; · iexact Ha10
    isplitl [Ha11]; · iexact Ha11
    isplitl [Ha12]; · iexact Ha12
    isplitl [Ha13]; · iexact Ha13
    isplitl [Ha14]; · iexact Ha14
    isplitl [Ha15]; · iexact Ha15
    isplitl [HX]; · iexact HX
    isplitl [HA]; · iexact HA
    iexact HB
  iintro ⟨Hs, HX, HA, HB⟩
  isplitl [Hs HX HZ]
  · iapply hf
    isplitl [Hs]; · iexact Hs
    isplitl [HX]; · iexact HX
    isplitl [HZ]; · iexact HZ
    iempintro
  isplitl [HA]; · iexact HA
  isplitl [HB]; · iexact HB
  iexact HR

theorem goes_zero (c : Dev nD) (t : Fin cfg0.N) (R : sProp 𝕄) (h0 : t.val ≠ 0) (h : t.val % 4 = 0) : goes m ER c t R R := by
  have hN : t.val < 16 := t.isLt
  have hs := side_eq m ER c t.val
  have hf := side_of m ER c (t.val + 1) (issued t.val) (passed t.val) (by unfold issued; rw [if_neg (by omega), if_neg h0]; omega) (by unfold passed; rw [if_neg (by omega), if_neg (by omega)]; omega)
  have h1 : ¬ k0_cond1 (grid0.coords t) = 1#1 := fun e => h0 ((on_first t).1 e)
  have h3 : ¬ k0_cond3 (grid0.coords t) = 1#1 := fun e => by have := (on_end t).1 e; omega
  have h11 : ¬ k0_cond11 (grid0.coords t) = 1#1 := fun e => by have := (on_last t).1 e; omega
  have hacc := accAt_start m c t h
  have hsb : (sbInv c (t.val + 1) : sProp 𝕄) = sbInv c t.val := by
    unfold sbInv
    by_cases h4 : t.val < 4
    · rw [if_pos (by omega), if_pos (by omega)]
    · rw [if_neg (by omega), if_neg (by omega)]
  rw [show accInv m c t.val = (iprop(∃ X, has c AC X) : sProp 𝕄) from by unfold accInv; rw [if_pos h],
    ends_none m c t.val h0 (by omega)] at hs
  rw [show accInv m c (t.val + 1) = (has c AC (accAt m c t.val) : sProp 𝕄) from by unfold accInv; rw [if_neg (by omega)]; rfl,
    hsb, ends_none m c (t.val + 1) (by omega) (by omega), hacc] at hf
  unfold goes
  iintro ⟨Hside, HA, HB, HR⟩
  ihave Hside := hs $$ Hside
  icases Hside with ⟨Hs, ⟨%X, HX⟩, HZ, -⟩
  iapply (point_zero c (grid0.coords t) h1 ((on_start t).2 h) h3 h11 X (iblk m c 0 t) (iblk m c 1 t)) $$ [HX HA HB]
  · isplitl [HX]; · iexact HX
    isplitl [HA]; · iexact HA
    iexact HB
  iintro ⟨HX, HA, HB⟩
  isplitl [Hs HX HZ]
  · iapply hf
    isplitl [Hs]; · iexact Hs
    isplitl [HX]; · iexact HX
    isplitl [HZ]; · iexact HZ
    iempintro
  isplitl [HA]; · iexact HA
  isplitl [HB]; · iexact HB
  iexact HR

theorem goes_next (c : Dev nD) (t : Fin cfg0.N) (R : sProp 𝕄) (h0 : t.val ≠ 0) (h : t.val % 4 = 1 ∨ t.val % 4 = 2) : goes m ER c t R R := by
  have hN : t.val < 16 := t.isLt
  have hs := side_eq m ER c t.val
  have hf := side_of m ER c (t.val + 1) (issued t.val) (passed t.val) (by unfold issued; rw [if_neg (by omega), if_neg h0]; omega) (by unfold passed; rw [if_neg (by omega), if_neg (by omega)]; omega)
  have h1 : ¬ k0_cond1 (grid0.coords t) = 1#1 := fun e => h0 ((on_first t).1 e)
  have h3 : ¬ k0_cond3 (grid0.coords t) = 1#1 := fun e => by have := (on_end t).1 e; omega
  have h11 : ¬ k0_cond11 (grid0.coords t) = 1#1 := fun e => by have := (on_last t).1 e; omega
  have hacc := accAt_step m c t (by omega)
  have hsb : (sbInv c (t.val + 1) : sProp 𝕄) = sbInv c t.val := by
    unfold sbInv
    by_cases h4 : t.val < 4
    · rw [if_pos (by omega), if_pos (by omega)]
    · rw [if_neg (by omega), if_neg (by omega)]
  rw [show accInv m c t.val = (has c AC (accAt m c (t.val - 1)) : sProp 𝕄) from by unfold accInv; rw [if_neg (by omega)],
    ends_none m c t.val h0 (by omega)] at hs
  rw [show accInv m c (t.val + 1) = (has c AC (accAt m c t.val) : sProp 𝕄) from by unfold accInv; rw [if_neg (by omega)]; rfl,
    hsb, ends_none m c (t.val + 1) (by omega) (by omega), hacc] at hf
  unfold goes
  iintro ⟨Hside, HA, HB, HR⟩
  ihave Hside := hs $$ Hside
  icases Hside with ⟨Hs, HX, HZ, -⟩
  iapply (point_next c (grid0.coords t) h1 (fun e => by have := (on_start t).1 e; omega) h3 h11 (accAt m c (t.val - 1)) (iblk m c 0 t) (iblk m c 1 t)) $$ [HX HA HB]
  · isplitl [HX]; · iexact HX
    isplitl [HA]; · iexact HA
    iexact HB
  iintro ⟨HX, HA, HB⟩
  isplitl [Hs HX HZ]
  · iapply hf
    isplitl [Hs]; · iexact Hs
    isplitl [HX]; · iexact HX
    isplitl [HZ]; · iexact HZ
    iempintro
  isplitl [HA]; · iexact HA
  isplitl [HB]; · iexact HB
  iexact HR

theorem goes_pair0 (c : Dev nD) (t : Fin cfg0.N) (Y : S2x2048x896.Idx → Elt F .bf16) (h : t.val = 3) :
    goes m ER c t (has c (st0_2 t) Y) (has c (st0_2 t) (blocks m c 0)) := by
  have hs := side_eq m ER c t.val
  have hf := side_of m ER c (t.val + 1) 17 0 (by rw [h]; rfl) (by rw [h]; rfl)
  have hacc := (accAt_step m c t (by omega)).symm
  rw [show accInv m c t.val = (has c AC (accAt m c (t.val - 1)) : sProp 𝕄) from by unfold accInv; rw [if_neg (by omega)],
    show sbInv c t.val = (iprop(∃ Z : S2x2048x896.Idx → Elt F .bf16, has c SB Z) : sProp 𝕄) from by unfold sbInv; rw [if_pos (by omega)],
    ends_none m c t.val (by omega) (by omega), show issued t.val = 16 from by rw [h]; rfl, show passed t.val = 0 from by rw [h]; rfl] at hs
  rw [show accInv m c (t.val + 1) = (iprop(∃ X, has c AC X) : sProp 𝕄) from by unfold accInv; rw [if_pos (by omega)],
    show sbInv c (t.val + 1) = (iprop(∃ f, Rows.own q4 c SB (core c) f) : sProp 𝕄) from by unfold sbInv; rw [if_neg (by omega)],
    ends_none m c (t.val + 1) (by omega) (by omega)] at hf
  rw [show accAt m c t.val = accAt m c 3 from by rw [h]] at hacc
  unfold goes
  iintro ⟨Hside, HA, HB, HY⟩
  ihave Hside := hs $$ Hside
  icases Hside with ⟨Hs, HX, ⟨%Z, HZ⟩, -⟩
  iapply (point_pair0 m ER c (grid0.coords t) (fun e => by have := (on_first t).1 e; omega) (fun e => by have := (on_start t).1 e; omega) ((on_end t).2 (by omega))
    (fun e => by have := (on_4 t).1 e; omega) (fun e => by have := (on_5 t).1 e; omega) (fun e => by have := (on_6 t).1 e; omega) ((on_7 t).2 (by omega)) (fun e => by have := (on_8 t).1 e; omega) (fun e => by have := (on_9 t).1 e; omega) (fun e => by have := (on_10 t).1 e; omega) (fun e => by have := (on_last t).1 e; omega) Z Y (accAt m c (t.val - 1)) (iblk m c 0 t) (iblk m c 1 t) hacc) $$ [Hs HZ HX HA HB HY]
  · isplitl [Hs]; · iexact Hs
    isplitl [HZ]; · iexact HZ
    isplitl [HX]; · iexact HX
    isplitl [HA]; · iexact HA
    isplitl [HB]; · iexact HB
    iexact HY
  iintro ⟨Hs, HZ, HX, HA, HB, HY⟩
  isplitl [Hs HX HZ]
  · iapply hf
    isplitl [Hs]; · iexact Hs
    isplitl [HX]; · iexists (accAt m c 3); iexact HX
    isplitl [HZ]; · iexact HZ
    iempintro
  isplitl [HA]; · iexact HA
  isplitl [HB]; · iexact HB
  iexact HY

theorem goes_pair1 (c : Dev nD) (t : Fin cfg0.N) (Y : S2x2048x896.Idx → Elt F .bf16) (h : t.val = 7) :
    goes m ER c t (has c (st0_2 t) Y) (has c (st0_2 t) (blocks m c 1)) := by
  have hs := side_eq m ER c t.val
  have hf := side_of m ER c (t.val + 1) 18 1 (by rw [h]; rfl) (by rw [h]; rfl)
  have hacc := (accAt_step m c t (by omega)).symm
  rw [show accInv m c t.val = (has c AC (accAt m c (t.val - 1)) : sProp 𝕄) from by unfold accInv; rw [if_neg (by omega)],
    show sbInv c t.val = (iprop(∃ f, Rows.own q4 c SB (core c) f) : sProp 𝕄) from by unfold sbInv; rw [if_neg (by omega)],
    ends_none m c t.val (by omega) (by omega), show issued t.val = 17 from by rw [h]; rfl, show passed t.val = 0 from by rw [h]; rfl] at hs
  rw [show accInv m c (t.val + 1) = (iprop(∃ X, has c AC X) : sProp 𝕄) from by unfold accInv; rw [if_pos (by omega)],
    show sbInv c (t.val + 1) = (iprop(∃ f, Rows.own q4 c SB (core c) f) : sProp 𝕄) from by unfold sbInv; rw [if_neg (by omega)],
    ends_none m c (t.val + 1) (by omega) (by omega)] at hf
  rw [show accAt m c t.val = accAt m c 7 from by rw [h]] at hacc
  unfold goes
  iintro ⟨Hside, HA, HB, HY⟩
  ihave Hside := hs $$ Hside
  icases Hside with ⟨Hs, HX, HZ, -⟩
  iapply (point_pair1 m ER c (grid0.coords t) (fun e => by have := (on_first t).1 e; omega) (fun e => by have := (on_start t).1 e; omega) ((on_end t).2 (by omega))
    ((on_4 t).2 (by omega)) (fun e => by have := (on_5 t).1 e; omega) (fun e => by have := (on_6 t).1 e; omega) (fun e => by have := (on_7 t).1 e; omega) ((on_8 t).2 (by omega)) (fun e => by have := (on_9 t).1 e; omega) (fun e => by have := (on_10 t).1 e; omega) (fun e => by have := (on_last t).1 e; omega) Y (accAt m c (t.val - 1)) (iblk m c 0 t) (iblk m c 1 t) hacc) $$ [Hs HZ HX HA HB HY]
  · isplitl [Hs]; · iexact Hs
    isplitl [HZ]; · iexact HZ
    isplitl [HX]; · iexact HX
    isplitl [HA]; · iexact HA
    isplitl [HB]; · iexact HB
    iexact HY
  iintro ⟨Hs, HZ, HX, HA, HB, HY⟩
  isplitl [Hs HX HZ]
  · iapply hf
    isplitl [Hs]; · iexact Hs
    isplitl [HX]; · iexists (accAt m c 7); iexact HX
    isplitl [HZ]; · iexact HZ
    iempintro
  isplitl [HA]; · iexact HA
  isplitl [HB]; · iexact HB
  iexact HY

theorem goes_pair2 (c : Dev nD) (t : Fin cfg0.N) (Y : S2x2048x896.Idx → Elt F .bf16) (h : t.val = 11) :
    goes m ER c t (has c (st0_2 t) Y) (has c (st0_2 t) (blocks m c 2)) := by
  have hs := side_eq m ER c t.val
  have hf := side_of m ER c (t.val + 1) 19 2 (by rw [h]; rfl) (by rw [h]; rfl)
  have hacc := (accAt_step m c t (by omega)).symm
  rw [show accInv m c t.val = (has c AC (accAt m c (t.val - 1)) : sProp 𝕄) from by unfold accInv; rw [if_neg (by omega)],
    show sbInv c t.val = (iprop(∃ f, Rows.own q4 c SB (core c) f) : sProp 𝕄) from by unfold sbInv; rw [if_neg (by omega)],
    ends_none m c t.val (by omega) (by omega), show issued t.val = 18 from by rw [h]; rfl, show passed t.val = 1 from by rw [h]; rfl] at hs
  rw [show accInv m c (t.val + 1) = (iprop(∃ X, has c AC X) : sProp 𝕄) from by unfold accInv; rw [if_pos (by omega)],
    show sbInv c (t.val + 1) = (iprop(∃ f, Rows.own q4 c SB (core c) f) : sProp 𝕄) from by unfold sbInv; rw [if_neg (by omega)],
    ends_none m c (t.val + 1) (by omega) (by omega)] at hf
  rw [show accAt m c t.val = accAt m c 11 from by rw [h]] at hacc
  unfold goes
  iintro ⟨Hside, HA, HB, HY⟩
  ihave Hside := hs $$ Hside
  icases Hside with ⟨Hs, HX, HZ, -⟩
  iapply (point_pair2 m ER c (grid0.coords t) (fun e => by have := (on_first t).1 e; omega) (fun e => by have := (on_start t).1 e; omega) ((on_end t).2 (by omega))
    (fun e => by have := (on_4 t).1 e; omega) ((on_5 t).2 (by omega)) (fun e => by have := (on_6 t).1 e; omega) (fun e => by have := (on_7 t).1 e; omega) (fun e => by have := (on_8 t).1 e; omega) ((on_9 t).2 (by omega)) (fun e => by have := (on_10 t).1 e; omega) (fun e => by have := (on_last t).1 e; omega) Y (accAt m c (t.val - 1)) (iblk m c 0 t) (iblk m c 1 t) hacc) $$ [Hs HZ HX HA HB HY]
  · isplitl [Hs]; · iexact Hs
    isplitl [HZ]; · iexact HZ
    isplitl [HX]; · iexact HX
    isplitl [HA]; · iexact HA
    isplitl [HB]; · iexact HB
    iexact HY
  iintro ⟨Hs, HZ, HX, HA, HB, HY⟩
  isplitl [Hs HX HZ]
  · iapply hf
    isplitl [Hs]; · iexact Hs
    isplitl [HX]; · iexists (accAt m c 11); iexact HX
    isplitl [HZ]; · iexact HZ
    iempintro
  isplitl [HA]; · iexact HA
  isplitl [HB]; · iexact HB
  iexact HY

theorem goes_pair3 (c : Dev nD) (t : Fin cfg0.N) (Y : S2x2048x896.Idx → Elt F .bf16) (h : t.val = 15) :
    goes m ER c t (has c (st0_2 t) Y) (has c (st0_2 t) (blocks m c 3)) := by
  have hs := side_eq m ER c t.val
  have hf := side_of m ER c (t.val + 1) 20 36 (by rw [h]; rfl) (by rw [h]; rfl)
  have hacc := (accAt_step m c t (by omega)).symm
  rw [show accInv m c t.val = (has c AC (accAt m c (t.val - 1)) : sProp 𝕄) from by unfold accInv; rw [if_neg (by omega)],
    show sbInv c t.val = (iprop(∃ f, Rows.own q4 c SB (core c) f) : sProp 𝕄) from by unfold sbInv; rw [if_neg (by omega)],
    ends_none m c t.val (by omega) (by omega), show issued t.val = 19 from by rw [h]; rfl, show passed t.val = 2 from by rw [h]; rfl] at hs
  rw [show accInv m c (t.val + 1) = (iprop(∃ X, has c AC X) : sProp 𝕄) from by unfold accInv; rw [if_pos (by omega)],
    show sbInv c (t.val + 1) = (iprop(∃ Z : S2x2048x896.Idx → Elt F .bf16, has c SB Z) : sProp 𝕄) from by unfold sbInv; rw [if_pos (by omega)],
    show endsInv m c (t.val + 1) = (closing m c : sProp 𝕄) from by unfold endsInv; rw [if_neg (by omega), if_pos (by omega)]] at hf
  rw [show accAt m c t.val = accAt m c 15 from by rw [h]] at hacc
  unfold goes
  iintro ⟨Hside, HA, HB, HY⟩
  ihave Hside := hs $$ Hside
  icases Hside with ⟨Hs, HX, HZ, -⟩
  iapply (point_pair3 m ER c (grid0.coords t) (fun e => by have := (on_first t).1 e; omega) (fun e => by have := (on_start t).1 e; omega) ((on_end t).2 (by omega))
    (fun e => by have := (on_4 t).1 e; omega) (fun e => by have := (on_5 t).1 e; omega) ((on_6 t).2 (by omega)) (fun e => by have := (on_7 t).1 e; omega) (fun e => by have := (on_8 t).1 e; omega) (fun e => by have := (on_9 t).1 e; omega) ((on_10 t).2 (by omega)) ((on_last t).2 h) Y (accAt m c (t.val - 1)) (iblk m c 0 t) (iblk m c 1 t) hacc) $$ [Hs HZ HX HA HB HY]
  · isplitl [Hs]; · iexact Hs
    isplitl [HZ]; · iexact HZ
    isplitl [HX]; · iexact HX
    isplitl [HA]; · iexact HA
    isplitl [HB]; · iexact HB
    iexact HY
  iintro ⟨Hs, HZ, GT, GA0, GD0, GA1, GD1, GA2, GD2, GA3, GD3, HX, HA, HB, HY⟩
  isplitl [Hs HX HZ GT GA0 GD0 GA1 GD1 GA2 GD2 GA3 GD3]
  · iapply hf
    isplitl [Hs]; · iexact Hs
    isplitl [HX]; · iexists (accAt m c 15); iexact HX
    isplitl [HZ]; · iexact HZ
    unfold closing
    isplitl [GT]; · iexact GT
    isplitl [GA0]; · iexact GA0
    isplitl [GD0]; · iexact GD0
    isplitl [GA1]; · iexact GA1
    isplitl [GD1]; · iexact GD1
    isplitl [GA2]; · iexact GA2
    isplitl [GD2]; · iexact GD2
    isplitl [GA3]; · iexact GA3
    iexact GD3
  isplitl [HA]; · iexact HA
  isplitl [HB]; · iexact HB
  iexact HY

/-- The window written back, before and after point `t`. -/
def outPre (c : Dev nD) (t : Fin cfg0.N) : sProp 𝕄 := iprop(∃ d, has c (st0_2 t) ((dat m ER c).before 2 t d))
def outPost (c : Dev nD) (t : Fin cfg0.N) : sProp 𝕄 := if t.val % 4 = 3 then has c (st0_2 t) (blocks m c (t.val / 4)) else outPre m ER c t

theorem goes_all (c : Dev nD) (t : Fin cfg0.N) : goes m ER c t (outPre m ER c t) (outPost m ER c t) := by
  have hN : t.val < 16 := t.isLt
  by_cases h : t.val % 4 = 3
  · have hp : outPost m ER c t = has c (st0_2 t) (blocks m c (t.val / 4)) := by unfold outPost; rw [if_pos h]
    have key : ∀ Y, goes m ER c t (has c (st0_2 t) Y) (has c (st0_2 t) (blocks m c (t.val / 4))) := by
      intro Y
      have hc : t.val = 3 ∨ t.val = 7 ∨ t.val = 11 ∨ t.val = 15 := by omega
      rcases hc with e | e | e | e
      · rw [show t.val / 4 = 0 by omega]; exact goes_pair0 m ER c t Y e
      · rw [show t.val / 4 = 1 by omega]; exact goes_pair1 m ER c t Y e
      · rw [show t.val / 4 = 2 by omega]; exact goes_pair2 m ER c t Y e
      · rw [show t.val / 4 = 3 by omega]; exact goes_pair3 m ER c t Y e
    rw [hp]; unfold goes outPre
    iintro ⟨HS, HA, HB, ⟨%d, HY⟩⟩
    iapply (key ((dat m ER c).before 2 t d))
    isplitl [HS]; · iexact HS
    isplitl [HA]; · iexact HA
    isplitl [HB]; · iexact HB
    iexact HY
  · have hp : outPost m ER c t = outPre m ER c t := by unfold outPost; rw [if_neg h]
    rw [hp]
    by_cases h0 : t.val = 0
    · exact goes_first m ER c t _ h0
    · by_cases hz : t.val % 4 = 0
      · exact goes_zero m ER c t _ h0 hz
      · exact goes_next m ER c t _ h0 (by omega)

theorem inv_before (c : Dev nD) (t : Fin cfg0.N) : (dat m ER c).Φ t.castSucc = inv m ER c t.val := rfl
theorem inv_after (c : Dev nD) (t : Fin cfg0.N) : (dat m ER c).Φ t.succ = inv m ER c (t.val + 1) := rfl
theorem owed_before (c : Dev nD) (t : Fin cfg0.N) : (dat m ER c).owed t.castSucc = Once.owe (plan (U := U) m) c (due (issued t.val)) := rfl
theorem owed_after (c : Dev nD) (t : Fin cfg0.N) : (dat m ER c).owed t.succ = Once.owe (plan (U := U) m) c (due (issued (t.val + 1))) := rfl

theorem body (c : Dev nD) : Pipeline.BodyObligation (dat m ER c) (defs₀ (F := F)) Variants.none () Set.univ := fun t => by
  have h := goes_all m ER c t
  have hpost : (match cfg0.idle 2 (cfg0.grid.coords t) with
      | true => match (cfg0.win 2).flush t with
        | false => iprop(∃ d, owns (c.tc : Thread nD τ) ((cfg0.win 2).stage (cfg0.slots t 2)) fullShare ((dat m ER c).before 2 t d))
        | true => owns (c.tc : Thread nD τ) ((cfg0.win 2).stage (cfg0.slots t 2)) fullShare ((dat m ER c).after 2 t)
      | false => owns (c.tc : Thread nD τ) ((cfg0.win 2).stage (cfg0.slots t 2)) fullShare ((dat m ER c).after 2 t)) = outPost m ER c t := by
    rw [idle_out, flush_out]
    unfold outPost outPre
    by_cases h : t.val % 4 = 3
    · rw [if_pos h, decide_eq_false (by simpa using h), decide_eq_true h]; rfl
    · rw [if_neg h, decide_eq_true h, decide_eq_false h]
  rw [bigSep_W0, bigSep_W0]
  have hb : iprop(side m ER c t.val ∗ has c (st0_0 t) (iblk m c 0 t) ∗ has c (st0_1 t) (iblk m c 1 t) ∗ outPre m ER c t)
      ⊢ wp frame (wpE (defs₀ (F := F)) Variants.none c.tc none) Set.univ (bodyAt0 t) fun _ => iprop((dat m ER c).Φ t.succ ∗ (dat m ER c).owesAt () t.succ
        ∗ has c (st0_0 t) (iblk m c 0 t) ∗ has c (st0_1 t) (iblk m c 1 t)
        ∗ (match cfg0.idle 2 (cfg0.grid.coords t) with
      | true => match (cfg0.win 2).flush t with
        | false => iprop(∃ d, owns (c.tc : Thread nD τ) ((cfg0.win 2).stage (cfg0.slots t 2)) fullShare ((dat m ER c).before 2 t d))
        | true => owns (c.tc : Thread nD τ) ((cfg0.win 2).stage (cfg0.slots t 2)) fullShare ((dat m ER c).after 2 t)
      | false => owns (c.tc : Thread nD τ) ((cfg0.win 2).stage (cfg0.slots t 2)) fullShare ((dat m ER c).after 2 t))) := by
    rw [hpost]
    refine h.trans (wp_mono _ _ _ fun _ => ?_)
    unfold side Dat.owesAt Pipeline.owesWithin
    rw [inv_after, owed_after]
    iintro ⟨⟨H1, ⟨%W, H2⟩⟩, H3, H4, H5⟩
    isplitl [H1]; · iexact H1
    isplitl [H2]
    · iexists W; isplitr; · ipureintro; exact fun _ _ => Or.inl trivial
      iexact H2
    isplitl [H3]; · iexact H3
    isplitl [H4]; · iexact H4
    iexact H5
  refine BIBase.Entails.trans ?_ hb
  unfold side outPre Dat.owesAt Pipeline.owesWithin
  rw [inv_before, owed_before]
  iintro ⟨H1, ⟨%W, %hW, H2⟩, ⟨%d0, H3⟩, ⟨%d1, H4⟩, H5⟩
  isplitl [H1 H2]
  · isplitl [H1]; · iexact H1
    iexists W; iexact H2
  isplitl [H3]
  · iapply (Entails.of_eq (congrArg (fun X => has c (st0_0 t) X) (before_left m ER c t d0))); iexact H3
  isplitl [H4]
  · iapply (Entails.of_eq (congrArg (fun X => has c (st0_1 t) X) (before_right m ER c t d1))); iexact H4
  iexact H5
end Cert.KernelIdeal.GW

end
-- ==== Proof.Dealt.lean ====
module

public import Idealize.ShloMosaic.Lib.Pipeline.Launch

@[expose] public section

noncomputable section

/-! # A launch whose devices trade memory before they start

The library's launch theorems split one device's arrays inside that device's own run.  Here a device writes into
arrays of its peers with nothing to tell it that the peer has started, so the arrays must change hands before any
device runs.  `θ_run_dealt` is the launch theorem for that: its step `hdeal` receives what every device holds, all at
once, and answers with what each device starts from. -/

namespace Dealt

open Idealize.ShloMosaic
open Idealize.SL
open Idealize.SL.BI (sProp bigSep bigSep_sep' bigSep_mono bigSep_congr bigSep_univ_prod bigSep_elim)
open scoped Idealize.SL.BI
open Idealize.SL.BI.BIBase Idealize.SL.BI.Laws Idealize.SL.Sem Idealize.SL.ProofMode
open Idealize.SL.RA
open Idealize.ShloMosaic.TcCoe
open Idealize.ShloMosaic.Pipeline Idealize.ShloMosaic.Pipeline.PerCore PCS
open Idealize.ShloMosaic.Rounds

set_option Elab.async false

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

/-- The levels of every TensorCore's cells, fixed for the whole machine; no other thread has a cell with a level. -/
theorem levels_fix (L : GSem nD τ sig → Finset Ix) (lv : GSem nD τ sig → Ix → Lvl)
    (hL : ∀ g : GSem nD τ sig, g.1.2 ≠ .tc → L g = ∅) :
    (bigSep Finset.univ fun c : Dev nD => levels0 (Ix := Ix) (Val := Val) (Name := Name) (U := U) (Lvl := Lvl) (τ := τ) (sig := sig) c)
      ⊢ (|==> levAts L lv : sProp 𝕄) := by
  classical
  have hall : (levAts L lv : sProp 𝕄) = iprop((bigSep Finset.univ fun d : Dev nD => coreLevAts (d.tc : Thread nD τ) L lv)
      ∗ bigSep Finset.univ fun d : Dev nD => bigSep (Finset.univ.erase Proc.tc) fun p => (coreLevAts ((d, p) : Thread nD τ) L lv : sProp 𝕄)) := by
    rw [show (levAts L lv : sProp 𝕄) = bigSep Finset.univ fun c : Thread nD τ => coreLevAts c L lv
      from (bigSep_univ_prod fun g : GSem nD τ sig => bigSep (L g) fun ι => levAt g ι (lv g ι)),
      bigSep_threads (fun c : Thread nD τ => coreLevAts c L lv)]
  have hrest : (bigSep Finset.univ fun d : Dev nD => bigSep (Finset.univ.erase Proc.tc)
      fun p => (coreLevAts ((d, p) : Thread nD τ) L lv : sProp 𝕄)) = BI.emp := by
    have h1 (d : Dev nD) (p : Proc τ) (hp : p ∈ Finset.univ.erase Proc.tc) :
        (coreLevAts ((d, p) : Thread nD τ) L lv : sProp 𝕄) = BI.emp := by
      unfold coreLevAts
      rw [bigSep_congr (Ψ := fun _ : SemLoc sig => (BI.emp : sProp 𝕄)) fun sm _ => by
        rw [hL (((d, p) : Thread nD τ), sm) (Finset.ne_of_mem_erase hp), BI.bigSep_empty]]
      exact BI.bigSep_emp_const _
    rw [bigSep_congr (Ψ := fun _ : Dev nD => (BI.emp : sProp 𝕄)) fun d _ =>
      (bigSep_congr (h1 d)).trans (BI.bigSep_emp_const _)]
    exact BI.bigSep_emp_const _
  refine (bigSep_mono fun c _ => lev_assign_cells (c.tc : Thread nD τ) L lv).trans <| (BI.bigSep_bupd _ _).trans <| BI.bupd_mono ?_
  rw [hall, hrest]
  refine (Entails.of_eq (bigSep_sep' _ _ _)).trans ?_
  iintro ⟨-, H⟩
  isplitl [H]; · iexact H
  iempintro

variable {Λ₀ : Labels} {P : Type} [Fintype P]
variable (pcs : P → PCfg sig Λ₀ Val) (a : Dev nD → (p : P) → (pcs p).Adm)
  (pdats : (p : P) → (c : Dev nD) → Dat τ Val Ix Name U Lvl (pinD pcs a c p) c) (ι : Ix)
  (phinj : Function.Injective (cellOf (nD := nD) (pinD pcs a))) (p : P)
variable {K : Type} [Fintype K] {osem : K → SemLoc sig} (hw : WinFacts₀ (pcs p).spec) (ho : OwnSemFacts (pcs p).spec osem)
  (hp : PreFacts (pcs p).spec (pcs p).pre)
variable (EP : Emb (URounds (GSem nD τ sig) Unit) (MT nD τ sig Ix Val Name U Lvl))
  (defs₀ : Defs nD τ sig Val Λ₀) (𝒱₀ : Variants)

local notation "𝔻" => Pipeline.defs pcs defs₀
local notation "𝕍" => Variants.lift 𝒱₀
/-- The relational form of the pipelines' data. -/
abbrev rel : (p : P) → (c : Dev nD) → RDat τ Val Ix Name U Lvl (pinD pcs a c p) c := fun p c => (pdats p c).toR
local notation "rdats" => rel pcs a pdats

include phinj hw ho hp in
/-- The launch theorem of a one-region program whose devices trade holdings before they start: `hdeal` turns every
    device's own semaphores, its arrays outside the windows, its launch credit and its ghost resources into what each
    device starts from, `X c`, and what it sets aside, `Z c`. -/
theorem θ_run_dealt [DecidableEq P] [Preorder Lvl] [∀ e, Nonempty (Val e)] [Infinite Name]
    [EP.LandsIn (upEmb : UEmb _ 𝕄)]
    (m : (ℓ : Loc nD τ sig) → Buf Val ℓ) (g : Dev nD → PrngReg)
    (main : Dev nD → Prog (TpuEff nD τ sig Val (Sig Λ₀ P fun p => (pcs p).Adm) .tc) PUnit)
    (hmain : ∀ c, main c = .op (.customCall (entry p) ()) fun _ => .ret ⟨⟩)
    (hbody : ∀ c, (rdats p c).BodyObligation defs₀ 𝒱₀ ι Set.univ)
    (hne : ∀ w : Fin (pcs p).W, 0 < ((pcs p).spec w).block.numel)
    (harr : ∀ w, ((pcs p).spec w).arr.IsWhole) (hstage : ∀ w s, (((pcs p).spec w).stage s).IsWhole)
    (hshare : ∀ c w, (pdats p c).share w = fullShare) (hdistinct : Function.Injective (arrRef (pcs p).spec))
    (O₀ : Dev nD → CellTallies nD τ sig Ix) (howed₀ : ∀ c, (pdats p c).owed 0 = O₀ c) (howedN : ∀ c, (pdats p c).owed (Fin.last _) = 0)
    (L : GSem nD τ sig → Finset Ix) (lv : GSem nD τ sig → Ix → Lvl) (hL : ∀ g : GSem nD τ sig, g.1.2 ≠ .tc → L g = ∅)
    (hwaits : ∀ c, (levAts L lv : sProp 𝕄) ⊢ PerCore.RDat.cellsWaits (pinD pcs a) (rdats) ι p c)
    (G : sProp 𝕄) (u₀ : U)
    (hu₀ : (ownU u₀ : sProp 𝕄)
      ⊢ |={Set.univ}=> iprop(BI.own (EP (initOf (cells (pinD pcs a) phinj) (launchToks (pinD pcs a) phinj))) ∗ G))
    (hA : ∀ c w, (pdats p c).A w = m (((pinD pcs a c p).spec w).arr.view.loc (c.tc : Thread nD τ)))
    (hpf : ∀ (c : Dev nD) k, m (c.tc.loc ((pcs p).pre.ref k)) = (a c p).1 k)
    (X Y Z : Dev nD → sProp 𝕄)
    (hdeal : iprop((bigSep Finset.univ fun c => ownSems0 osem c)
        ∗ (bigSep Finset.univ fun c => unscopedRestP (pcs p).pre (pinD pcs a c p).spec c (fun b => m (c.tc.loc b)))
        ∗ (bigSep Finset.univ fun c => launchCred O₀ c) ∗ levAts L lv ∗ G)
      ⊢ |={Set.univ}=> bigSep Finset.univ fun c => iprop(X c ∗ Z c))
    (hin : ∀ c, iprop(X c ∗ scopedRest (pinD pcs a c p).spec c) ⊢ (pdats p c).Φ 0)
    (hout : ∀ c, (pdats p c).Φ (Fin.last (pinD pcs a c p).N) ⊢ iprop(Y c ∗ ownSems0 osem c ∗ scopedRest (pinD pcs a c p).spec c))
    (QY : Dev nD → MemSt nD τ sig Val → Prop)
    (hY : ∀ c (s' : Phys nD τ sig Val), iprop(Y c ∗ Z c ∗ SI s') ⊢ |={Set.univ}=> iprop(⌜QY c s'.mem⌝ ∗ SI s'))
    {Q : PUnit × MemSt nD τ sig Val → Prop}
    (hQ : ∀ s : MemSt nD τ sig Val,
      (∀ c : Dev nD, (∀ w, s.mem (((pinD pcs a c p).spec w).arr.view.loc (c.tc : Thread nD τ)) = (pdats p c).arrAt w (pinD pcs a c p).N) ∧ QY c s) →
      (∀ g' : GSem nD τ sig, (g'.1.2 ≠ .tc ∨ g'.2.isScoped .tc = true) → s.sem g' = 0) → Q (⟨⟩, s)) :
    θ_run 𝔻 (onTc main) ⟨m, fun _ => 0, g⟩ Q := by
  classical
  have hsems := fun c : Dev nD => scopedSems0_split (pinD pcs a) phinj p (fun _ => hw) (fun _ => ho) (Ix := Ix) (Val := Val) (Name := Name) (U := U) (Lvl := Lvl) c
  have hbufs := fun c : Dev nD => scopedBufs_split (pinD pcs a) p c hw.stage_scoped hw.stage_inj hstage (nD := nD) (τ := τ) (Ix := Ix) (Val := Val) (Name := Name) (U := U) (Lvl := Lvl)
  have hsplit := fun c : Dev nD => unscopedBufs_split (pinD pcs a) p c hw.arr_unscoped hdistinct (Ix := Ix) (Name := Name) (U := U) (Lvl := Lvl) (fun b => m (c.tc.loc b))
  have hrest : ∀ c : Dev nD, _ := fun c => unscopedRest_split (Ix := Ix) (Name := Name) (U := U) (Lvl := Lvl) hp c (fun b => m (c.tc.loc b))
  have harr₀ (c : Dev nD) : (bigSep Finset.univ fun w => ((c.tc.loc (arrRef (pinD pcs a c p).spec w)) ↦{fullShare} m (c.tc.loc (arrRef (pinD pcs a c p).spec w)) : sProp 𝕄))
      = (rdats p c).arrays (pdats p c).A := by
    rw [RDat.arrays_eq pcs a (rdats) p c harr (hshare c)]
    exact bigSep_congr fun w _ => by rw [hA]
  -- what a device holds when its run starts, and when it has returned
  let pre : Dev nD → sProp 𝕄 := fun c => iprop(scopedBufs (c.tc : Thread nD τ) ∗ cellsSems0 (pinD pcs a) p c
    ∗ idleSems0 (pinD pcs a) phinj p (fun _ => ho) c ∗ (rdats p c).arrays (pdats p c).A
    ∗ prefHeld (pcs p).pre c (fun _ => fullShare) (fun k => m (c.tc.loc ((pcs p).pre.ref k)))
    ∗ owes (c.tc : Thread nD τ) (O₀ c) ∅ ∗ levAts L lv
    ∗ cellsGhost (pinD pcs a) EP p c ∗ toksInit (pinD pcs a) EP p c ∗ (X c ∗ Z c))
  let fin : Dev nD → sProp 𝕄 := fun c => iprop((rdats p c).arraysAt (pinD pcs a c p).N ∗ Y c ∗ Z c ∗ scopedSems0 (c.tc : Thread nD τ))
  refine (θ_run 𝔻 _ _).mono (Q := fun r => (∀ c : Dev nD,
        ((∀ w, (rdats p c).ArrAt w (pinD pcs a c p).N (r.2.mem (((pinD pcs a c p).spec w).arr.view.loc (c.tc : Thread nD τ)))) ∧ QY c r.2)
        ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => ⟨fun w => ((pdats p c).toR_arrAt_iff w _ _).mp ((hr.1 c).1.1 w), (hr.1 c).1.2⟩)
      (sems_of_reads (fun c => (hr.1 c).2) hr.2)) (adequate_tpu 𝔻 _ _ _
    (reflect_intro_fupd_tc_sems (X := Unit) 𝕍 (owing O₀) 0 (noBookings fun _ => le_rfl) (owing_of_ne O₀) u₀ (fun _ => pre) (fun _ => fin)
      (fun _ => iprop(emp)) Set.univ ?_ (fun _ c => ?_) fun _ => ?_))
  · let held : Dev nD → sProp 𝕄 := fun c => iprop(scopedBufs (c.tc : Thread nD τ) ∗ cellsSems0 (pinD pcs a) p c ∗ idleSems0 (pinD pcs a) phinj p (fun _ => ho) c
        ∗ (rdats p c).arrays (pdats p c).A
        ∗ prefHeld (pcs p).pre c (fun _ => fullShare) (fun k => m (c.tc.loc ((pcs p).pre.ref k)))
        ∗ owes (c.tc : Thread nD τ) (O₀ c) ∅ ∗ levels0 c ∗ ownSems0 osem c
        ∗ unscopedRestP (pcs p).pre (pinD pcs a c p).spec c (fun b => m (c.tc.loc b)) ∗ launchCred O₀ c)
    have hone (c : Dev nD) :
        coreInit (Ix := Ix) (Name := Name) (U := U) (Lvl := Lvl) (owing O₀) 0 (⟨m, fun _ => 0, g⟩ : MemSt nD τ sig Val) (c.tc : Thread nD τ)
          ⊢ held c := by
      refine (coreInit_boundary_owing O₀ m g c).trans ?_
      unfold boundary
      rw [hsems c, hsplit c, hrest c, harr₀ c]
      simp only [held]
      iintro ⟨⟨Hbufs, ⟨⟨Hcells, Hown⟩, Hidle⟩, -⟩, ⟨Harr, Hpf, Hur⟩, -, HO, Hlev, -, Hcr⟩
      isplitl [Hbufs]; · iexact Hbufs
      isplitl [Hcells]; · iexact Hcells
      isplitl [Hidle]; · iexact Hidle
      isplitl [Harr]; · iexact Harr
      isplitl [Hpf]; · iexact Hpf
      isplitl [HO]; · iexact HO
      isplitl [Hlev]; · iexact Hlev
      isplitl [Hown]; · iexact Hown
      isplitl [Hur] <;> iassumption
    have hcores : (bigSep Finset.univ fun c : Dev nD => coreInit (Ix := Ix) (Name := Name) (U := U) (Lvl := Lvl) (owing O₀) 0 (⟨m, fun _ => 0, g⟩ : MemSt nD τ sig Val) (c.tc : Thread nD τ))
        ⊢ bigSep Finset.univ held := bigSep_mono fun c _ => hone c
    have hpick (Φ : P → Dev nD → sProp 𝕄) :
        (bigSep Finset.univ fun c : Dev nD => bigSep Finset.univ fun p' => Φ p' c) ⊢ bigSep Finset.univ fun c : Dev nD => Φ p c :=
      bigSep_mono fun c _ => bigSep_elim (Finset.mem_univ p)
    iintro ⟨Hcores, Hu⟩
    ihave Hc := hcores $$ Hcores
    simp only [held, bigSep_sep']
    icases Hc with ⟨Hbufs, Hcells, Hidle, Harr, Hpf, HO, Hlev, Hown, Hur, Hcr⟩
    imod (levels_fix L lv hL) $$ Hlev with #Hla
    imod hu₀ $$ Hu with ⟨HP, HG⟩
    imod (fund_ghost (pinD pcs a) EP phinj) $$ HP with ⟨Hg, Ht⟩
    imod hdeal $$ [Hown Hur Hcr HG] with HXZ
    · isplitl [Hown]; · iexact Hown
      isplitl [Hur]; · iexact Hur
      isplitl [Hcr]; · iexact Hcr
      isplitr; · iexact Hla
      iexact HG
    imodintro
    iexists ()
    isplitr []
    · simp only [pre, bigSep_sep']
      isplitl [Hbufs]; · iexact Hbufs
      isplitl [Hcells]; · iexact Hcells
      isplitl [Hidle]; · iexact Hidle
      isplitl [Harr]; · iexact Harr
      isplitl [Hpf]; · iexact Hpf
      isplitl [HO]; · iexact HO
      isplitr
      · iapply (BI.bigSep_intro_persistent (S := Finset.univ) fun (c : Dev nD) _ => (BI.Entails.refl (levAts L lv : sProp 𝕄))); iexact Hla
      isplitl [Hg]; · iapply (hpick fun p' c => cellsGhost (pinD pcs a) EP p' c); iexact Hg
      isplitl [Ht]; · iapply (hpick fun p' c => toksInit (pinD pcs a) EP p' c); iexact Ht
      iexact HXZ
    · iempintro
  · have hpre : (fun k => m (c.tc.loc ((pcs p).pre.ref k))) = (a c p).1 := funext (hpf c)
    have hend : iprop((rdats p c).Φ (Fin.last (pinD pcs a c p).N) ∗ cellsSems0 (pinD pcs a) p c ∗ Dat.staging (pinD pcs a c p) c ∗ idleSems0 (pinD pcs a) phinj p (fun _ => ho) c)
        ⊢ iprop(Y c ∗ scopedSems0 (c.tc : Thread nD τ) ∗ scopedBufs (c.tc : Thread nD τ)) := by
      rw [hsems c, hbufs c]
      iintro ⟨HΦ, Hcells, Hst, Hidle⟩
      ihave H := (show (rdats p c).Φ (Fin.last (pinD pcs a c p).N) ⊢ _ from hout c) $$ HΦ
      icases H with ⟨HY, Hos, Hr⟩
      isplitl [HY]; · iexact HY
      isplitr [Hst Hr]
      · isplitr [Hidle]
        · isplitl [Hcells] <;> iassumption
        · iexact Hidle
      · isplitl [Hst] <;> iassumption
    simp only [pre]
    rw [hmain c, hpre]
    iintro ⟨Hbufs, Hcells, Hidle, Harr, Hpf, HO, #Hla, Hg, Ht, ⟨HX, HZ⟩⟩
    ihave Hw := (hwaits c) $$ Hla
    iapply (fupd_wp frame (wpE 𝔻 𝕍 (c.tc : Thread nD τ) none) Set.univ _ _)
    imod (PerCore.RDat.cellsInit_alloc (pinD pcs a) (rdats) EP phinj p c) $$ [Hcells Hg] with ⟨%κ, -, Hinit⟩
    · isplitl [Hcells] <;> iassumption
    imodintro
    iapply (PerCore.RDat.wp_customCall_entry_frame pcs a (rdats) ι EP κ phinj p defs₀ 𝒱₀ (fun _ => fullShare) c Set.univ (fun _ _ => Set.mem_univ _)
        (hbody c) hne none (fun u h => nomatch h) (X := X c) (Y := Y c) (R := scopedRest (pinD pcs a c p).spec c) (I := idleSems0 (pinD pcs a) phinj p (fun _ => ho) c)
        (Entails.of_eq (hbufs c)) (by iintro ⟨H1, -, H3⟩; iapply (show _ ⊢ (rdats p c).Φ 0 from hin c); isplitl [H1] <;> iassumption) hend
        (k := fun _ => .ret ⟨⟩) (Q := fun _ => post (liftTc fin BI.emp) (c.tc : Thread nD τ))) $$ [Harr HO Hinit Ht Hpf HX Hidle Hbufs Hw]
    · isplitl [Harr HO Hinit Ht Hw]
      · unfold PerCore.RDat.EntryPre RDat.owesAt owesWithin
        rw [show (rdats p c).owed 0 = O₀ c from howed₀ c]
        isplitl [Harr]; · iexact Harr
        isplitl [HO]
        · iexists ∅; isplitr; · ipureintro; rw [Finset.coe_empty]; exact Set.empty_subset _
          iexact HO
        isplitl [Hw]; · iexact Hw
        isplitl [Hinit] <;> iassumption
      isplitl [Hpf]; · iexact Hpf
      isplitl [HX]; · iexact HX
      isplitl [Hidle]; · iexact Hidle
      iexact Hbufs
    unfold PerCore.RDat.EntryPost RDat.owesAt owesWithin
    rw [show (rdats p c).owed (Fin.last _) = 0 from howedN c]
    iintro ⟨⟨Ha, ⟨%W, -, HW⟩⟩, HY, Hss, -⟩
    rw [wp_ret]; imodintro
    unfold post; simp only [liftTc_tc, fin]
    isplitr [HW]
    · isplitl [Ha]; · iexact Ha
      isplitl [HY]; · iexact HY
      isplitl [HZ] <;> iassumption
    · iexists W; iexact HW
  · have hread (c : Dev nD) (s' : Phys nD τ sig Val) : iprop(fin c ∗ SI s') ⊢ |={Set.univ}=>
        iprop(⌜((∀ w, (rdats p c).ArrAt w (pinD pcs a c p).N (s'.mem.mem (((pinD pcs a c p).spec w).arr.view.loc (c.tc : Thread nD τ)))) ∧ QY c s'.mem)
          ∧ ∀ sm : SemLoc sig, sm.isScoped .tc = true → s'.mem.sem ((c.tc : Thread nD τ), sm) = 0⌝ ∗ SI s') := by
      simp only [fin]
      iintro ⟨⟨Ha, HY, HZ, Hss⟩, HSI⟩
      ihave %hz := (tcScoped_read_pers c s') $$ [Hss HSI]
      · isplitl [Hss] <;> iassumption
      ihave Hr := (RDat.arraysAt_read pcs a (rdats) p c harr (pinD pcs a c p).N s') $$ [Ha HSI]
      · isplitl [Ha] <;> iassumption
      icases Hr with ⟨%ha, HSI⟩
      imod (hY c s') $$ [HY HZ HSI] with ⟨%hy, HSI⟩
      · isplitl [HY]; · iexact HY
        isplitl [HZ] <;> iassumption
      imodintro
      isplitr
      · ipureintro; exact ⟨⟨ha, hy⟩, hz⟩
      · iexact HSI
    iintro ⟨H, -, Hsc⟩ %s' HSI
    ihave %hsc := (scSems_read_zero m g s') $$ [Hsc HSI]
    · isplitl [Hsc] <;> iassumption
    imod (posts_fupd Finset.univ hread s') $$ [H HSI] with %h
    · isplitl [H] <;> iassumption
    imodintro
    ipureintro
    exact ⟨fun c => h c (Finset.mem_univ c), hsc⟩

end Dealt
-- ==== Proof.Run.lean ====
module

public import proofs.«01_k».proof.Proof.Body
public import proofs.«01_k».proof.Proof.Dealt

@[expose] public section

noncomputable section

/-! The launch: what every device starts from, and what a run leaves. -/

namespace Cert.KernelIdeal.GW

open Idealize.ShloMosaic
open Idealize.SL
open Idealize.SL.BI
open scoped Idealize.SL.BI
open Idealize.SL.BI.BIBase Idealize.SL.BI.Laws Idealize.SL.Sem Idealize.SL.ProofMode
open Idealize.SL.RA
open Idealize.ShloMosaic.TcCoe
open Idealize.ShloMosaic.Rounds
open Idealize.ShloMosaic.ValueIdx
open Idealize.ShloMosaic.Pipeline
open Cert.KernelIdeal.Gen

set_option Elab.async false

variable {F : FTy → Type} [FloatOps F]
variable (m : (ℓ : Loc nD τ sig) → Buf (Elt F) ℓ)
variable {U : Type} [URA U]
variable (ER : Emb (URounds (GSem nD τ sig) Unit) (MT nD τ sig Unit (Elt F) ℕ U ℕ))
local notation "𝕄" => MT nD τ sig Unit (Elt F) ℕ U ℕ

/-! ### What the devices give each other before they start -/

theorem bigSep_keys (Φ : Key → sProp 𝕄) : bigSep Finset.univ Φ = iprop(Φ (.ps 0) ∗ Φ (.ps 1) ∗ Φ (.ps 2) ∗ Φ (.ps 3) ∗ Φ (.pr 0) ∗ Φ (.pr 1) ∗ Φ (.pr 2) ∗ Φ (.pr 3) ∗ Φ (.rv 0 0) ∗ Φ (.rv 0 1) ∗ Φ (.rv 0 2) ∗ Φ (.rv 1 0) ∗ Φ (.rv 1 1) ∗ Φ (.rv 1 2) ∗ Φ (.rv 2 0) ∗ Φ (.rv 2 1) ∗ Φ (.rv 2 2) ∗ Φ (.rv 3 0) ∗ Φ (.rv 3 1) ∗ Φ (.rv 3 2) ∗ Φ (.sd 0 0) ∗ Φ (.sd 0 1) ∗ Φ (.sd 0 2) ∗ Φ (.sd 1 0) ∗ Φ (.sd 1 1) ∗ Φ (.sd 1 2) ∗ Φ (.sd 2 0) ∗ Φ (.sd 2 1) ∗ Φ (.sd 2 2) ∗ Φ (.sd 3 0) ∗ Φ (.sd 3 1) ∗ Φ (.sd 3 2) ∗ Φ (.lc 0) ∗ Φ (.lc 1) ∗ Φ (.lc 2) ∗ Φ (.lc 3)) :=
  bigSep_univ_eq_bigSepL (Key.ps 0 :: Key.ps 1 :: Key.ps 2 :: Key.ps 3 :: Key.pr 0 :: Key.pr 1 :: Key.pr 2 :: Key.pr 3 :: Key.rv 0 0 :: Key.rv 0 1 :: Key.rv 0 2 :: Key.rv 1 0 :: Key.rv 1 1 :: Key.rv 1 2 :: Key.rv 2 0 :: Key.rv 2 1 :: Key.rv 2 2 :: Key.rv 3 0 :: Key.rv 3 1 :: Key.rv 3 2 :: Key.sd 0 0 :: Key.sd 0 1 :: Key.sd 0 2 :: Key.sd 1 0 :: Key.sd 1 1 :: Key.sd 1 2 :: Key.sd 2 0 :: Key.sd 2 1 :: Key.sd 2 2 :: Key.sd 3 0 :: Key.sd 3 1 :: Key.sd 3 2 :: Key.lc 0 :: Key.lc 1 :: Key.lc 2 :: Key.lc 3 :: []) (by decide) (by decide) Φ

theorem gifts (c : Dev nD) : (bigSep Finset.univ fun k => gift c k : sProp 𝕄) = iprop(emp ∗ emp ∗ emp ∗ emp ∗ (∃ f, Rows.own q4 c TH 0 f) ∗ (∃ f, Rows.own q4 c TH 1 f) ∗ (∃ f, Rows.own q4 c TH 2 f) ∗ (∃ f, Rows.own q4 c TH 3 f) ∗ (∃ f, Rows.own q0 c D0 (opp c (Fin.succ 0)) f) ∗ (∃ f, Rows.own q0 c D0 (opp c (Fin.succ 1)) f) ∗ (∃ f, Rows.own q0 c D0 (opp c (Fin.succ 2)) f) ∗ (∃ f, Rows.own q1 c D1 (opp c (Fin.succ 0)) f) ∗ (∃ f, Rows.own q1 c D1 (opp c (Fin.succ 1)) f) ∗ (∃ f, Rows.own q1 c D1 (opp c (Fin.succ 2)) f) ∗ (∃ f, Rows.own q2 c D2 (opp c (Fin.succ 0)) f) ∗ (∃ f, Rows.own q2 c D2 (opp c (Fin.succ 1)) f) ∗ (∃ f, Rows.own q2 c D2 (opp c (Fin.succ 2)) f) ∗ (∃ f, Rows.own q3 c D3 (opp c (Fin.succ 0)) f) ∗ (∃ f, Rows.own q3 c D3 (opp c (Fin.succ 1)) f) ∗ (∃ f, Rows.own q3 c D3 (opp c (Fin.succ 2)) f) ∗ emp ∗ emp ∗ emp ∗ emp ∗ emp ∗ emp ∗ emp ∗ emp ∗ emp ∗ emp ∗ emp ∗ emp ∗ emp ∗ emp ∗ emp ∗ emp) := bigSep_keys fun k => gift c k

/-- A device's arrays outside the windows, cut into what it gives away and what it keeps. -/
theorem share_out (c : Dev nD) :
    (Pipeline.unscopedRest (Ix := Unit) (Name := ℕ) (U := U) (Lvl := ℕ) spec0 c (fun b => m (c.tc.loc b)) : sProp 𝕄)
      ⊢ iprop((bigSep Finset.univ fun k => gift c k) ∗ opening m c) := by
  rw [unscopedRest0_eq, gifts]
  have hT (f : Buf (Elt F) (TH.view.loc (c.tc : Thread nD τ))) : (full c TH f : sProp 𝕄) ⊢ _ := Entails.of_eq (rows_plain q4 c TH (View.set_whole _) f)
  have ha0 (f : Buf (Elt F) (A0.view.loc (c.tc : Thread nD τ))) : (full c A0 f : sProp 𝕄) ⊢ _ := Entails.of_eq (rows_four q0 c A0 (View.set_whole _) f)
  have hd0 (f : Buf (Elt F) (D0.view.loc (c.tc : Thread nD τ))) : (full c D0 f : sProp 𝕄) ⊢ _ := Entails.of_eq (rows_four q0 c D0 (View.set_whole _) f)
  have ha1 (f : Buf (Elt F) (A1.view.loc (c.tc : Thread nD τ))) : (full c A1 f : sProp 𝕄) ⊢ _ := Entails.of_eq (rows_four q1 c A1 (View.set_whole _) f)
  have hd1 (f : Buf (Elt F) (D1.view.loc (c.tc : Thread nD τ))) : (full c D1 f : sProp 𝕄) ⊢ _ := Entails.of_eq (rows_four q1 c D1 (View.set_whole _) f)
  have ha2 (f : Buf (Elt F) (A2.view.loc (c.tc : Thread nD τ))) : (full c A2 f : sProp 𝕄) ⊢ _ := Entails.of_eq (rows_four q2 c A2 (View.set_whole _) f)
  have hd2 (f : Buf (Elt F) (D2.view.loc (c.tc : Thread nD τ))) : (full c D2 f : sProp 𝕄) ⊢ _ := Entails.of_eq (rows_four q2 c D2 (View.set_whole _) f)
  have ha3 (f : Buf (Elt F) (A3.view.loc (c.tc : Thread nD τ))) : (full c A3 f : sProp 𝕄) ⊢ _ := Entails.of_eq (rows_four q3 c A3 (View.set_whole _) f)
  have hd3 (f : Buf (Elt F) (D3.view.loc (c.tc : Thread nD τ))) : (full c D3 f : sProp 𝕄) ⊢ _ := Entails.of_eq (rows_four q3 c D3 (View.set_whole _) f)
  iintro ⟨HA0, HA1, HA2, HA3, HT, HD0, HD1, HD2, HD3⟩
  ihave HT := (hT _) $$ HT
  icases HT with ⟨T0, T1, T2, T3⟩
  ihave HA0 := (ha0 _) $$ HA0
  icases HA0 with ⟨Ha0, Ha4, Ha5, Ha6⟩
  ihave HD0 := (hd0 _) $$ HD0
  icases HD0 with ⟨Hd0, R00, R01, R02⟩
  ihave HA1 := (ha1 _) $$ HA1
  icases HA1 with ⟨Ha1, Ha7, Ha8, Ha9⟩
  ihave HD1 := (hd1 _) $$ HD1
  icases HD1 with ⟨Hd1, R10, R11, R12⟩
  ihave HA2 := (ha2 _) $$ HA2
  icases HA2 with ⟨Ha2, Ha10, Ha11, Ha12⟩
  ihave HD2 := (hd2 _) $$ HD2
  icases HD2 with ⟨Hd2, R20, R21, R22⟩
  ihave HA3 := (ha3 _) $$ HA3
  icases HA3 with ⟨Ha3, Ha13, Ha14, Ha15⟩
  ihave HD3 := (hd3 _) $$ HD3
  icases HD3 with ⟨Hd3, R30, R31, R32⟩
  isplitl [T0 T1 T2 T3 R00 R01 R02 R10 R11 R12 R20 R21 R22 R30 R31 R32]
  · isplitr; · iempintro
    isplitr; · iempintro
    isplitr; · iempintro
    isplitr; · iempintro
    isplitl [T0]; · iexists _; iexact T0
    isplitl [T1]; · iexists _; iexact T1
    isplitl [T2]; · iexists _; iexact T2
    isplitl [T3]; · iexists _; iexact T3
    isplitl [R00]; · iexists _; iexact R00
    isplitl [R01]; · iexists _; iexact R01
    isplitl [R02]; · iexists _; iexact R02
    isplitl [R10]; · iexists _; iexact R10
    isplitl [R11]; · iexists _; iexact R11
    isplitl [R12]; · iexists _; iexact R12
    isplitl [R20]; · iexists _; iexact R20
    isplitl [R21]; · iexists _; iexact R21
    isplitl [R22]; · iexists _; iexact R22
    isplitl [R30]; · iexists _; iexact R30
    isplitl [R31]; · iexists _; iexact R31
    isplitl [R32]; · iexists _; iexact R32
    isplitr; · iempintro
    isplitr; · iempintro
    isplitr; · iempintro
    isplitr; · iempintro
    isplitr; · iempintro
    isplitr; · iempintro
    isplitr; · iempintro
    isplitr; · iempintro
    isplitr; · iempintro
    isplitr; · iempintro
    isplitr; · iempintro
    isplitr; · iempintro
    isplitr; · iempintro
    isplitr; · iempintro
    isplitr; · iempintro
    iempintro
  unfold opening
  isplitl [Ha0]; · iexact Ha0
  isplitl [Hd0]; · iexists _; iexact Hd0
  isplitl [Ha1]; · iexact Ha1
  isplitl [Hd1]; · iexists _; iexact Hd1
  isplitl [Ha2]; · iexact Ha2
  isplitl [Hd2]; · iexists _; iexact Hd2
  isplitl [Ha3]; · iexact Ha3
  isplitl [Hd3]; · iexists _; iexact Hd3
  isplitl [Ha4]; · iexact Ha4
  isplitl [Ha5]; · iexact Ha5
  isplitl [Ha6]; · iexact Ha6
  isplitl [Ha7]; · iexact Ha7
  isplitl [Ha8]; · iexact Ha8
  isplitl [Ha9]; · iexact Ha9
  isplitl [Ha10]; · iexact Ha10
  isplitl [Ha11]; · iexact Ha11
  isplitl [Ha12]; · iexact Ha12
  isplitl [Ha13]; · iexact Ha13
  isplitl [Ha14]; · iexact Ha14
  iexact Ha15

/-! ### The launch -/

section Launch

/-- The ghost state: the pipelines' own beside the exchange's. -/
abbrev UU := UR sig nD τ × UR sig nD τ
abbrev EP : Emb (UR sig nD τ) (MT nD τ sig Unit (Elt F) ℕ UU ℕ) := embL
abbrev EX : Emb (UR sig nD τ) (MT nD τ sig Unit (Elt F) ℕ UU ℕ) := embR
local notation "𝕄𝕄" => MT nD τ sig Unit (Elt F) ℕ UU ℕ

variable (ρ : Dev nD → PrngReg)

abbrev dats (_ : Fin 1) (c : Dev nD) : Dat τ (Elt F) Unit ℕ UU ℕ cfg0 c := dat m EX c

def u₀ : UU := (initOf (Pipeline.cells cfgs cellOf_inj) (Pipeline.launchToks cfgs cellOf_inj), initOf (Once.cells (plan (U := UU) m)) (Once.toks (plan (U := UU) m)))

theorem ownSemFacts : Pipeline.OwnSemFacts cfg0.spec osem := by decide +kernel

theorem share_full (c : Dev nD) (w : Fin cfg0.W) : (dats m 0 c).share w = fullShare := by unfold Dat.share; split <;> rfl

/-- Nothing of the plan waits or sends on a window's semaphore. -/
theorem own_far (w : Fin cfg0.W) (s : Fin (cfg0.win w).nbuf) (k : Key) : osem k ≠ .dma ((cfg0.win w).sem s) := by
  revert w s k; decide +kernel

theorem waits (c : Dev nD) : (levAts Once.L (Once.lv (plan (U := UU) m)) : sProp 𝕄𝕄) ⊢ Pipeline.cellsWaits cfgs (dats m) () 0 c :=
  Pipeline.cellsWaits_intro cfgs (dats m) () 0 c fun w s t =>
    Once.mayWait_low (plan m) c _ (fun k _ => own_far w s k) _

theorem owed_end (c : Dev nD) : (dats m 0 c).owed (Fin.last cfg0.N) = 0 := by
  have h : due (issued (Fin.last cfg0.N).val) = ∅ := by rw [show (Fin.last cfg0.N).val = 16 from N_0]; exact due_end
  exact (congrArg (Once.owe (plan (U := UU) m) c) h).trans (Once.owe_none _ c ∅ fun k h => absurd h (Finset.notMem_empty k))

def start (c : Dev nD) : sProp 𝕄𝕄 := iprop(Once.st (plan m) EX c Finset.univ Finset.univ ∗ opening m c)

theorem enter (c : Dev nD) : iprop(start m c ∗ Pipeline.scopedRest (Ix := Unit) (Name := ℕ) (U := UU) (Lvl := ℕ) (Val := Elt F) spec0 c) ⊢ inv m EX c 0 := by
  rw [scopedRest0_eq]
  unfold start inv
  rw [show due (issued 0) = Finset.univ from due_start, show rem (passed 0) = Finset.univ from rem_start,
    show accInv m c 0 = (iprop(∃ X, has c AC X) : sProp 𝕄𝕄) from by unfold accInv; rw [if_pos rfl],
    show sbInv c 0 = (iprop(∃ Z : S2x2048x896.Idx → Elt F .bf16, has c SB Z) : sProp 𝕄𝕄) from by unfold sbInv; rw [if_pos (Or.inl (by decide))],
    show endsInv m c 0 = (opening m c : sProp 𝕄𝕄) from by unfold endsInv; rw [if_pos rfl]]
  iintro ⟨⟨Hst, HO⟩, ⟨%f, Hf⟩, ⟨%g, Hg⟩⟩
  isplitl [Hst]; · iexact Hst
  isplitl [Hf]
  · iexists f; iapply (Entails.of_eq (has_whole (U := UU) c cc0_scratch0 f).symm); iexact Hf
  isplitl [Hg]
  · iexists g; iapply (Entails.of_eq (has_whole (U := UU) c cc0_scratch1 g).symm); iexact Hg
  iexact HO

theorem leave (c : Dev nD) : inv m EX c 16 ⊢ iprop(closing m c ∗ Pipeline.ownSems0 (Ix := Unit) (Name := ℕ) (U := UU) (Lvl := ℕ) (Val := Elt F) (τ := τ) osem c
    ∗ Pipeline.scopedRest (Ix := Unit) (Name := ℕ) (U := UU) (Lvl := ℕ) (Val := Elt F) spec0 c) := by
  rw [scopedRest0_eq]
  unfold inv
  rw [show rem (passed 16) = ∅ from rem_end,
    show accInv m c 16 = (iprop(∃ X, has c AC X) : sProp 𝕄𝕄) from by unfold accInv; rw [if_pos rfl],
    show sbInv c 16 = (iprop(∃ Z : S2x2048x896.Idx → Elt F .bf16, has c SB Z) : sProp 𝕄𝕄) from by unfold sbInv; rw [if_pos (Or.inr rfl)],
    show endsInv m c 16 = (closing m c : sProp 𝕄𝕄) from by unfold endsInv; rw [if_neg (by decide), if_pos rfl]]
  iintro ⟨Hst, ⟨%f, Hf⟩, ⟨%g, Hg⟩, HC⟩
  isplitl [HC]; · iexact HC
  isplitl [Hst]
  · ihave Hst := (Once.st_end (plan m) EX c _) $$ Hst
    iapply (Entails.of_eq (show (bigSep Finset.univ fun k => semVal (Once.cell (plan (U := UU) m) c k) 0 : sProp 𝕄𝕄)
      = Pipeline.ownSems0 (Ix := Unit) (Name := ℕ) (U := UU) (Lvl := ℕ) (Val := Elt F) (τ := τ) osem c from rfl))
    iexact Hst
  isplitl [Hf]
  · iexists f; iapply (Entails.of_eq (has_whole (U := UU) c cc0_scratch0 f)); iexact Hf
  iexists g; iapply (Entails.of_eq (has_whole (U := UU) c cc0_scratch1 g)); iexact Hg

theorem dealt :
    iprop((bigSep Finset.univ fun c => Pipeline.ownSems0 (Ix := Unit) (Name := ℕ) (U := UU) (Lvl := ℕ) (Val := Elt F) (τ := τ) osem c)
        ∗ (bigSep Finset.univ fun c => Pipeline.unscopedRestP (Ix := Unit) (Name := ℕ) (U := UU) (Lvl := ℕ) Pipeline.Prefetch.none spec0 c (fun b => m (c.tc.loc b)))
        ∗ (bigSep Finset.univ fun c => Pipeline.launchCred (Once.owe₀ (plan (U := UU) m)) c) ∗ levAts Once.L (Once.lv (plan (U := UU) m)) ∗ Once.ghost (plan m) EX)
      ⊢ |={Set.univ}=> bigSep Finset.univ fun c => (iprop(start m c ∗ emp) : sProp 𝕄𝕄) := by
  have h1 : (bigSep Finset.univ fun c : Dev nD => Pipeline.unscopedRestP (Ix := Unit) (Name := ℕ) (U := UU) (Lvl := ℕ) Pipeline.Prefetch.none spec0 c (fun b => m (c.tc.loc b)))
      ⊢ (bigSep Finset.univ fun c : Dev nD => iprop((bigSep Finset.univ fun k => (plan m).gift c k) ∗ opening m c) : sProp 𝕄𝕄) :=
    bigSep_mono fun c _ => by rw [Pipeline.unscopedRestP_none]; exact share_out m c
  have h2 : (bigSep Finset.univ fun c : Dev nD => iprop(Once.st (plan m) EX c Finset.univ Finset.univ ∗ opening m c) : sProp 𝕄𝕄)
      ⊢ bigSep Finset.univ fun c : Dev nD => iprop(start m c ∗ emp) := by
    have h (c : Dev nD) : (iprop(Once.st (plan m) EX c Finset.univ Finset.univ ∗ opening m c) : sProp 𝕄𝕄) ⊢ iprop(start m c ∗ emp) := by
      unfold start
      iintro H
      isplitl; · iexact H
      iempintro
    exact bigSep_mono fun c _ => h c
  have h3 := Once.deal (plan m) EX (fun c => (opening m c : sProp 𝕄𝕄))
  refine BIBase.Entails.trans ?_ (h3.trans (BI.fupd_mono h2))
  iintro ⟨H1, H2, H3, H4, H5⟩
  isplitl [H1]; · iexact H1
  isplitl [H2]; · iapply h1; iexact H2
  isplitl [H3]; · iexact H3
  isplitl [H4]; · iexact H4
  iexact H5

/-- What a device's stacks hold at the end. -/
def Ends (c : Dev nD) (s : MemSt nD τ sig (Elt F)) : Prop :=
  s.mem (c.tc.loc main_v1_1) = theirs m c
  ∧ s.mem (c.tc.loc main_arg2) = s0 m c ∧ s.mem (c.tc.loc main_v1_2) = arrived (s0 m) c
  ∧ s.mem (c.tc.loc main_arg3) = s1 m c ∧ s.mem (c.tc.loc main_v1_3) = arrived (s1 m) c
  ∧ s.mem (c.tc.loc main_arg4) = s2 m c ∧ s.mem (c.tc.loc main_v1_4) = arrived (s2 m) c
  ∧ s.mem (c.tc.loc main_arg5) = s3 m c ∧ s.mem (c.tc.loc main_v1_5) = arrived (s3 m) c

theorem read (c : Dev nD) (s' : Phys nD τ sig (Elt F)) :
    iprop(closing m c ∗ emp ∗ SI s') ⊢ |={Set.univ}=> (iprop(⌜Ends m c s'.mem⌝ ∗ SI s') : sProp 𝕄𝕄) := by
  unfold closing
  iintro ⟨⟨HT, A0, D0, A1, D1, A2, D2, A3, D3⟩, -, HSI⟩
  icombine HSI HT gives %hT
  icombine HSI A0 gives %hA0
  icombine HSI D0 gives %hD0
  icombine HSI A1 gives %hA1
  icombine HSI D1 gives %hD1
  icombine HSI A2 gives %hA2
  icombine HSI D2 gives %hD2
  icombine HSI A3 gives %hA3
  icombine HSI D3 gives %hD3
  imodintro
  isplitr
  · ipureintro
    exact ⟨Buf.eq_of_forall_mem_univ hT, Buf.eq_of_forall_mem_univ hA0, Buf.eq_of_forall_mem_univ hD0, Buf.eq_of_forall_mem_univ hA1, Buf.eq_of_forall_mem_univ hD1, Buf.eq_of_forall_mem_univ hA2, Buf.eq_of_forall_mem_univ hD2, Buf.eq_of_forall_mem_univ hA3, Buf.eq_of_forall_mem_univ hD3⟩
  iexact HSI

/-- What a run leaves: the windows' arrays as the body's steps leave them, the stacks as `Ends` says. -/
def Final (r : PUnit × MemSt nD τ sig (Elt F)) : Prop :=
  ∀ c : Dev nD, (∀ w : Fin cfg0.W, r.2.mem ((cfg0.win w).arr.view.loc (c.tc : Thread nD τ)) = (dats m 0 c).arrAt w cfg0.N) ∧ Ends m c r.2

set_option maxRecDepth 8000 in
theorem run_main : θ_run defs (onTc (τ := τ) (main (F := F))) (s₀ m ρ) (fun r => Final m r ∧ r.2.sem = fun _ => 0) :=
  Dealt.θ_run_dealt (fun p => (cfgs p).toPCfg) (fun _ p => (cfgs p).toPCfg_adm) (dats m) () cellOf_inj (0 : Fin 1)
    winFacts0.to₀ ownSemFacts (Pipeline.PreFacts.none _) EP defs₀ Variants.none m ρ main
    (hmain := fun _ => rfl)
    (hbody := fun c => (body m EX c).toR) (hne := fun w => by fin_cases w <;> exact Nat.succ_pos _) (harr := arr_whole0) (hstage := stage_whole0) (hshare := share_full m)
    (hdistinct := winFacts0.arr_inj)
    (O₀ := Once.owe₀ (plan (U := UU) m)) (howed₀ := fun c => congrArg (Once.owe (plan (U := UU) m) c) (show due (issued 0) = Finset.univ from due_start))
    (howedN := owed_end m)
    (L := Once.L) (lv := Once.lv (plan (U := UU) m)) (hL := Once.L_of_ne) (hwaits := waits m)
    (G := Once.ghost (plan m) EX) (u₀ := u₀ m)
    (hu₀ := by
      unfold u₀
      iintro Hu
      ihave H := (ownU_pair _ _) $$ Hu
      icases H with ⟨HP, HX⟩
      imod (Once.fund (plan m) EX) $$ HX with HG
      imodintro
      isplitl [HP]; · iexact HP
      iexact HG)
    (hA := fun _ _ => rfl) (hpf := fun _ k => k.elim0)
    (X := start m) (Y := fun c => closing m c) (Z := fun _ => iprop(emp))
    (hdeal := dealt m) (hin := enter m) (hout := leave m)
    (QY := Ends m)
    (hY := read m)
    (hQ := fun _ h hs => ⟨h, sem_eq_zero_of_scoped (by decide) hs⟩)

/-- No argument changes. -/
theorem args_kept (r : PUnit × MemSt nD τ sig (Elt F)) (h : Final m r) (c : Dev nD) :
    r.2.mem (c.tc.loc main_arg0) = m (c.tc.loc main_arg0)
    ∧ r.2.mem (c.tc.loc main_arg1) = m (c.tc.loc main_arg1)
    ∧ r.2.mem (c.tc.loc main_arg2) = m (c.tc.loc main_arg2)
    ∧ r.2.mem (c.tc.loc main_arg3) = m (c.tc.loc main_arg3)
    ∧ r.2.mem (c.tc.loc main_arg4) = m (c.tc.loc main_arg4)
    ∧ r.2.mem (c.tc.loc main_arg5) = m (c.tc.loc main_arg5) := by
  obtain ⟨hw, -, h0, -, h1, -, h2, -, h3, -⟩ := h c
  exact ⟨(hw 0).trans ((dats m 0 c).arrAt_in 0 rfl _), (hw 1).trans ((dats m 0 c).arrAt_in 1 rfl _), h0, h1, h2, h3⟩

end Launch
end Cert.KernelIdeal.GW

end
-- ==== Proof.Adam.lean ====
module

public import Idealize.ShloMosaic.Lib.Pipeline.ValueKit
public import Idealize.ShloMosaic.Lib.Pointwise
public import Idealize.ShloMosaic.PureOps.Ideal

@[expose] public section

noncomputable section

/-! One step of AdamW for one number, over the reals, and what the updates' proofs share. -/

namespace Cert.Adam

open Idealize.ShloMosaic
open scoped BigOperators

/-- The number a float word stands for. -/
abbrev lit (w : BitVec 32) : EReal := Ideal.ofBits .f32 w

/-- The mean of the gradients, moved towards `g`. -/
def first (g m : EReal) : EReal := lit 0x3F666666#32 * m + lit 0x3DCCCCCD#32 * g

/-- The mean of their squares, moved towards that of `g`. -/
def second (g v : EReal) : EReal := lit 0x3F7FBE77#32 * v + lit 0x3A83126F#32 * (g * g)

/-- What is added to the weight `w`. -/
def delta (g w m v : EReal) : EReal :=
  lit 0xBA83126F#32 * (Ideal.div (Ideal.div (first g m) (lit 0x3F26BD02#32)) (Ideal.sqrt (Ideal.div (second g v) (lit 0x3C231ACC#32)) + lit 0x322BCC77#32)
    + lit 0x3C23D70A#32 * w)

/-- One chip's plane of a block. -/
theorem plane {f : EltTy} {K R L : ℕ} (x : Vec Ideal ⟨3, ![K, R, L]⟩ f) (o : Fin K) (inb) (r : Fin R) (l : Fin L) :
    View.ld x (Rect.unit ![o.val, 0, 0] ![1, R, L] inb) (ix3 (0 : Fin 1) r l) = x (ix3 o r l) :=
  View.ld_unit_apply_of _ _ _ _ _ _ fun a => by fin_cases a <;> simp [ix3]

theorem slot {f : EltTy} {K R L : ℕ} (x : Vec Ideal ⟨3, ![K, R, L]⟩ f) (o : Fin K) (inb) (h) (r : Fin R) (l : Fin L) :
    shapeCast ⟨2, ![R, L]⟩ (View.ld x (Rect.unit ![o.val, 0, 0] ![1, R, L] inb)) h (ix2 r l) = x (ix3 o r l) := by
  rw [← plane x o inb r l]
  exact (shapeCast_dropUnit_apply ![R, L] _ h _).trans (congrArg _ (funext fun a => by fin_cases a <;> rfl))

/-- The sum over the chips, as the reference has it. -/
theorem summed {K R L : ℕ} (x : FVec Ideal ⟨3, ![K, R, L]⟩ .f32) (h : (⟨3, ![K, R, L]⟩ : Shape).ReducesTo [0] ⟨2, ![R, L]⟩) (hu) (i : (⟨2, ![R, L]⟩ : Shape).Idx) :
    Host.reduceAdd x (constant (F := Ideal) ⟨0, ![]⟩ .f32 0x00000000#32) h hu i = ∑ k : Fin K, x (ix3 k (i 0) (i 1)) := by
  rw [eq_ix2 i]
  pointwise

end Cert.Adam

end
-- ==== Proof.WinStep.lean ====
module

public import proofs.«01_k».proof.Defs
public import proofs.«01_k».proof.Proof.Adam
public import proofs.«01_k».proof.Proof.Gen.Win.Frame
public import proofs.«01_k».proof.Proof.Gen.WinIdeal.Value
public import proofs.«01_k».proof.Proof.Gen.WinReferenceIdeal.Read

@[expose] public section

noncomputable section

/-! The update of the input projection's weight. -/

namespace Cert.WinIdeal.Step

open Idealize.ShloMosaic Idealize.ShloMosaic.Pipeline Idealize.ShloMosaic.TcCoe Idealize.SL.Sem
open Cert.WinIdeal.Gen Cert.Adam Cert.WinReferenceIdeal.Read
open scoped BigOperators

variable (m : (ℓ : Loc nD τ sig) → Buf (Elt Ideal) ℓ) (c : Dev nD)

abbrev arg0 := m (c.tc.loc main_arg0)
abbrev arg1 := m (c.tc.loc main_arg1)
abbrev arg2 := m (c.tc.loc main_arg2)
abbrev arg3 := m (c.tc.loc main_arg3)

/-- The sum of the chips' planes of one block. -/
def total (x : Vec Ideal S4x256x896 .bf16) : Vec Ideal S256x896 .f32 :=
  k0_pay2 (View.ld x r0_0) (View.ld x r0_1) (View.ld x r0_2) (View.ld x r0_3)

theorem total_at (x : Vec Ideal S4x256x896 .bf16) (r : Fin 256) (l : Fin 896) :
    total x (ix2 r l) = ∑ k : Fin 4, x (ix3 k r l) := by
  rw [Fin.sum_univ_four]
  exact congrArg₂ (· + ·) (congrArg₂ (· + ·) (congrArg₂ (· + ·) (slot x 0 _ _ r l) (slot x 1 _ _ r l)) (slot x 2 _ _ r l)) (slot x 3 _ _ r l)

/-- What is left in the four result blocks. -/
theorem outs (x : Vec Ideal S4x256x896 .bf16) (w m v : Vec Ideal S256x896 .f32) : out0_4 x w m v = total x ∧
    (out0_5 x w m v = fun i => delta (total x i) (w i) (m i) (v i)) ∧ (out0_6 x w m v = fun i => first (total x i) (m i)) ∧
    out0_7 x w m v = fun i => second (total x i) (v i) := by
  unfold out0_4 out0_5 out0_6 out0_7
  refine ⟨?_, ?_, ?_, ?_⟩ <;> rw [View.canon_cons_unit_lit _ _ _ (by decide)]
  · rfl
  · rw [View.ld_unit_lit (X := w) _ (by decide), View.ld_unit_lit (X := m) _ (by decide), View.ld_unit_lit (X := v) _ (by decide)]
    rfl
  · rw [View.ld_unit_lit (X := m) _ (by decide)]
    rfl
  · rw [View.ld_unit_lit (X := v) _ (by decide)]
    rfl

theorem at_point : ∀ t : Fin cfg0.N, win0_0.index t = ![0, t.val, 0] ∧ win0_4.index t = ![t.val, 0] := by decide +kernel

/-- The sum at a place of a block is the sum at that place of the array. -/
theorem total_block (t : Fin cfg0.N) (y : S256x896.Idx) :
    total (iblk m c 0 t) y = val_main_v1 (F := Ideal) (arg0 m c) ((win0_4.blk t).view.emb y) := by
  obtain ⟨r, l, rfl⟩ : ∃ (r : Fin 256) (l : Fin 896), y = ix2 r l := ⟨y 0, y 1, eq_ix2 y⟩
  have ⟨e, e'⟩ := at_point t
  refine (total_at _ r l).trans (.trans ?_ (summed _ _ _ _).symm)
  refine Finset.sum_congr rfl fun k _ => ?_
  blk_ext [iblk, V, e, e']

theorem arrays : (dats m 0 c).arrAt 4 cfg0.N = val_main_v1 (F := Ideal) (arg0 m c) ∧
    (dats m 0 c).arrAt 5 cfg0.N = val_main_v25 (F := Ideal) (arg0 m c) (arg1 m c) (arg2 m c) (arg3 m c) ∧
    (dats m 0 c).arrAt 6 cfg0.N = val_main_v6 (F := Ideal) (arg0 m c) (arg2 m c) ∧
    (dats m 0 c).arrAt 7 cfg0.N = val_main_v12 (F := Ideal) (arg0 m c) (arg3 m c) := by
  refine ⟨?_, ?_, ?_, ?_⟩ <;> refine (dats m 0 c).arrAt_eq_of_covers _ _ (by decide +kernel) fun t hf y => ?_ <;> blk_simp
  · rw [after0_4, (outs _ _ _ _).1]
    exact total_block m c t y
  · rw [after0_5, (outs _ _ _ _).2.1]
    exact congrArg (fun g => delta g _ _ _) (total_block m c t y)
  · rw [after0_6, (outs _ _ _ _).2.2.1]
    exact congrArg (fun g => first g _) (total_block m c t y)
  · rw [after0_7, (outs _ _ _ _).2.2.2]
    exact congrArg (fun g => second g _) (total_block m c t y)

theorem frame : Cert.quiescent_WinReferenceIdeal (hWinReferenceIdeal := Cert.WinReferenceIdeal.Gen.facts) := fun m ρ _ =>
  (θ_run Cert.WinReferenceIdeal.defs _ _).mono (fun r h => ⟨fun c => (h c).2.2.2.2, sem_eq_zero_of_no_sems (by decide) r.2⟩)
    (Cert.WinReferenceIdeal.Value.run (F := Ideal) m ρ)

theorem same : Cert.algebraic_WinIdeal_WinReferenceIdeal (hWinIdeal := Cert.WinIdeal.Gen.facts)
    (hWinReferenceIdeal := Cert.WinReferenceIdeal.Gen.facts) := by
  intro m ρ m' ρ' _ agree
  refine ⟨_, _, _, _, Cert.WinIdeal.Value.run_blocks m ρ, (θ_run Cert.WinReferenceIdeal.defs _ _).mono (fun r h c => ?_)
    (Cert.WinReferenceIdeal.Value.run (F := Ideal) m' ρ')⟩
  obtain ⟨a0, a1, a2, a3⟩ := agree c
  obtain ⟨w0, w1, w2, w3⟩ := arrays m c
  obtain ⟨e0, e1, e2, e3, k⟩ := h c
  simp only [arg0, arg1, arg2, arg3, ← a0, ← a1, ← a2, ← a3] at w0 w1 w2 w3
  exact ⟨(e0.trans (val_main_v1_eq _)).trans w0.symm, (e1.trans (val_main_v25_eq _ _ _ _)).trans w1.symm, (e2.trans (val_main_v6_eq _ _)).trans w2.symm,
    (e3.trans (val_main_v12_eq _ _)).trans w3.symm, k⟩

end Cert.WinIdeal.Step

end
-- ==== Proof.NormStep.lean ====
module

public import proofs.«01_k».proof.Defs
public import proofs.«01_k».proof.Proof.Adam
public import proofs.«01_k».proof.Proof.Gen.Norm.Frame
public import proofs.«01_k».proof.Proof.Gen.NormIdeal.Value
public import proofs.«01_k».proof.Proof.Gen.NormReferenceIdeal.Read

@[expose] public section

noncomputable section

/-! The update of the input norm's gain. -/

namespace Cert.NormIdeal.Step

open Idealize.ShloMosaic Idealize.ShloMosaic.Pipeline Idealize.ShloMosaic.TcCoe Idealize.SL.Sem
open Cert.NormIdeal.Gen Cert.Adam Cert.NormReferenceIdeal.Read
open scoped BigOperators

variable (m : (ℓ : Loc nD τ sig) → Buf (Elt Ideal) ℓ) (c : Dev nD)

abbrev arg0 := m (c.tc.loc main_arg0)
abbrev arg1 := m (c.tc.loc main_arg1)
abbrev arg2 := m (c.tc.loc main_arg2)
abbrev arg3 := m (c.tc.loc main_arg3)

/-- The sum of the chips' planes of one block. -/
def total (x : Vec Ideal S8x16x128 .f32) : Vec Ideal S16x128 .f32 :=
  k0_pay4 (View.ld x r0_0) (View.ld x r0_1) (View.ld x r0_2) (View.ld x r0_3) (View.ld x r0_4) (View.ld x r0_5) (View.ld x r0_6) (View.ld x r0_7)

theorem total_at (x : Vec Ideal S8x16x128 .f32) (r : Fin 16) (l : Fin 128) :
    total x (ix2 r l) = ∑ k : Fin 8, x (ix3 k r l) := by
  rw [Fin.sum_univ_eight]
  have p (o : Fin 8) (inb) (h) := slot x o inb h r l
  exact congrArg₂ (· + ·) (congrArg₂ (· + ·) (congrArg₂ (· + ·) (congrArg₂ (· + ·) (congrArg₂ (· + ·) (congrArg₂ (· + ·) (congrArg₂ (· + ·) (p 0 _ _) (p 1 _ _))
    (p 2 _ _)) (p 3 _ _)) (p 4 _ _)) (p 5 _ _)) (p 6 _ _)) (p 7 _ _)

/-- What is left in the four result blocks. -/
theorem outs (x : Vec Ideal S8x16x128 .f32) (w m v : Vec Ideal S16x128 .f32) : out0_4 x w m v = total x ∧
    (out0_5 x w m v = fun i => delta (total x i) (w i) (m i) (v i)) ∧ (out0_6 x w m v = fun i => first (total x i) (m i)) ∧
    out0_7 x w m v = fun i => second (total x i) (v i) := by
  unfold out0_4 out0_5 out0_6 out0_7 k0_pay7
  refine ⟨?_, ?_, ?_, ?_⟩ <;> rw [View.canon_cons_unit_lit _ _ _ (by decide)]
  · rfl
  · rw [View.ld_unit_lit (X := w) _ (by decide), View.ld_unit_lit (X := m) _ (by decide), View.ld_unit_lit (X := v) _ (by decide)]
    rfl
  · rw [View.ld_unit_lit (X := m) _ (by decide)]
    rfl
  · rw [View.ld_unit_lit (X := v) _ (by decide)]
    rfl

theorem at_point : ∀ t : Fin cfg0.N, win0_0.index t = ![0, 0, 0] ∧ win0_4.index t = ![0, 0] := by decide +kernel

/-- The sum at a place of a block is the sum at that place of the array. -/
theorem total_block (t : Fin cfg0.N) (y : S16x128.Idx) :
    total (iblk m c 0 t) y = val_main_v0 (F := Ideal) (arg0 m c) ((win0_4.blk t).view.emb y) := by
  obtain ⟨r, l, rfl⟩ : ∃ (r : Fin 16) (l : Fin 128), y = ix2 r l := ⟨y 0, y 1, eq_ix2 y⟩
  have ⟨e, e'⟩ := at_point t
  refine (total_at _ r l).trans (.trans ?_ (summed _ _ _ _).symm)
  refine Finset.sum_congr rfl fun k _ => ?_
  blk_ext [iblk, V, e, e']

theorem arrays : (dats m 0 c).arrAt 4 cfg0.N = val_main_v0 (F := Ideal) (arg0 m c) ∧
    (dats m 0 c).arrAt 5 cfg0.N = val_main_v24 (F := Ideal) (arg0 m c) (arg1 m c) (arg2 m c) (arg3 m c) ∧
    (dats m 0 c).arrAt 6 cfg0.N = val_main_v5 (F := Ideal) (arg0 m c) (arg2 m c) ∧
    (dats m 0 c).arrAt 7 cfg0.N = val_main_v11 (F := Ideal) (arg0 m c) (arg3 m c) := by
  refine ⟨?_, ?_, ?_, ?_⟩ <;> refine (dats m 0 c).arrAt_eq_of_covers _ _ (by decide +kernel) fun t hf y => ?_ <;> blk_simp
  · rw [after0_4, (outs _ _ _ _).1]
    exact total_block m c t y
  · rw [after0_5, (outs _ _ _ _).2.1]
    exact congrArg (fun g => delta g _ _ _) (total_block m c t y)
  · rw [after0_6, (outs _ _ _ _).2.2.1]
    exact congrArg (fun g => first g _) (total_block m c t y)
  · rw [after0_7, (outs _ _ _ _).2.2.2]
    exact congrArg (fun g => second g _) (total_block m c t y)

theorem frame : Cert.quiescent_NormReferenceIdeal (hNormReferenceIdeal := Cert.NormReferenceIdeal.Gen.facts) := fun m ρ _ =>
  (θ_run Cert.NormReferenceIdeal.defs _ _).mono (fun r h => ⟨fun c => (h c).2.2.2.2, sem_eq_zero_of_no_sems (by decide) r.2⟩)
    (Cert.NormReferenceIdeal.Value.run (F := Ideal) m ρ)

theorem same : Cert.algebraic_NormIdeal_NormReferenceIdeal (hNormIdeal := Cert.NormIdeal.Gen.facts)
    (hNormReferenceIdeal := Cert.NormReferenceIdeal.Gen.facts) := by
  intro m ρ m' ρ' _ agree
  refine ⟨_, _, _, _, Cert.NormIdeal.Value.run_blocks m ρ, (θ_run Cert.NormReferenceIdeal.defs _ _).mono (fun r h c => ?_)
    (Cert.NormReferenceIdeal.Value.run (F := Ideal) m' ρ')⟩
  obtain ⟨a0, a1, a2, a3⟩ := agree c
  obtain ⟨w0, w1, w2, w3⟩ := arrays m c
  obtain ⟨e0, e1, e2, e3, k⟩ := h c
  simp only [arg0, arg1, arg2, arg3, ← a0, ← a1, ← a2, ← a3] at w0 w1 w2 w3
  exact ⟨(e0.trans (val_main_v0_eq _)).trans w0.symm, (e1.trans (val_main_v24_eq _ _ _ _)).trans w1.symm, (e2.trans (val_main_v5_eq _ _)).trans w2.symm,
    (e3.trans (val_main_v11_eq _ _)).trans w3.symm, k⟩

end Cert.NormIdeal.Step

end
-- ==== Proof.PackedRun.lean ====
module

public import proofs.«01_k».proof.Proof.Gen.PackedIdeal.Launch
public import proofs.«01_k».proof.Proof.Gen.PackedIdeal.Skeleton
public import proofs.«01_k».proof.Proof.Gen.PackedIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.Pipeline.ValueKit

@[expose] public section

set_option maxRecDepth 16384

noncomputable section

/-! The run of the update of the eight small weights: one point, 25 blocks read and 33 written. -/

namespace Cert.PackedIdeal.Eight

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.PackedIdeal.Gen

variable {F : FTy → Type} [FloatOps F]

local notation "𝕄" => MT nD τ sig Unit (Elt F) ℕ (UR sig nD τ) ℕ

/-! ## What the body computes, for any number of rows -/

abbrev Rows (R : ℕ) : Shape := ⟨2, ![R, 128]⟩

theorem fits {k at' R : ℕ} (hk : k < 4) (h : at' + R ≤ 1120) : ∀ a, (![k, at', 0] : Fin 3 → ℕ) a + (![1, R, 128] : Fin 3 → ℕ) a ≤ S4x1120x128.size a := by
  intro a; fin_cases a <;> simp <;> omega

theorem flat (R : ℕ) : (⟨3, ![1, R, 128]⟩ : Shape).ShapeCasts (Rows R) := by
  simp [Shape.ShapeCasts, Shape.numel, Fin.prod_univ_succ]

theorem inside (R : ℕ) : ∀ a, (![0, 0] : Fin 2 → ℕ) a + (![R, 128] : Fin 2 → ℕ) a ≤ (Rows R).size a := by
  intro a; fin_cases a <;> simp

/-- One chip's rows of one weight. -/
def rows (x : Vec F S4x1120x128 .f32) (k at' R : ℕ) (hk : k < 4) (h : at' + R ≤ 1120) : FVec F (Rows R) .f32 :=
  shapeCast (Rows R) (View.ld x (Rect.unit (s := S4x1120x128) ![k, at', 0] ![1, R, 128] (fits hk h))) (flat R)

/-- Their sum over the four chips. -/
def total (x : Vec F S4x1120x128 .f32) (at' R : ℕ) (h : at' + R ≤ 1120) : FVec F (Rows R) .f32 :=
  addf (addf (addf (rows x 0 at' R (by decide) h) (rows x 1 at' R (by decide) h)) (rows x 2 at' R (by decide) h)) (rows x 3 at' R (by decide) h)

section Step

variable {R : ℕ}

/-- A block as the body loads it. -/
def loaded (w : Vec F (Rows R) .f32) : Vec F (Rows R) .f32 := View.ld w (Rect.unit (s := Rows R) ![0, 0] ![R, 128] (inside R))

def all (b : BitVec 32) : FVec F (Rows R) .f32 := broadcast (Rows R) (Scalar.ofBits (F := F) .f32 b)

def mean (g : FVec F (Rows R) .f32) (m : Vec F (Rows R) .f32) : FVec F (Rows R) .f32 :=
  addf (mulf (all 0x3F666666#32) (loaded m)) (mulf (all 0x3DCCCCCD#32) g)

def square (g : FVec F (Rows R) .f32) (v : Vec F (Rows R) .f32) : FVec F (Rows R) .f32 :=
  addf (mulf (all 0x3F7FBE77#32) (loaded v)) (mulf (all 0x3A83126F#32) (mulf g g))

def change (g : FVec F (Rows R) .f32) (w m v : Vec F (Rows R) .f32) : FVec F (Rows R) .f32 :=
  mulf (all 0xBA83126F#32) (addf (divf (divf (mean g m) (all 0x3F26BD02#32)) (addf (sqrt (divf (square g v) (all 0x3C231ACC#32))) (all 0x322BCC77#32)))
    (mulf (all 0x3C23D70A#32) (loaded w)))

end Step

/-! ## The body -/

abbrev Block (s : Shape) := {a : Memref sig .tc .vmem s .f32 // a.IsWhole}

abbrev has (c : Dev nD) {s : Shape} (b : Block s) (x : Vec F s .f32) : sProp 𝕄 := owns (c : Thread nD τ) b.1 fullShare x

abbrev spare (c : Dev nD) {s : Shape} (b : Block s) : sProp 𝕄 := iprop(∃ d, has (F := F) c b d)

theorem held {c : Dev nD} {s : Shape} {b : Block s} {f : b.1.view.ty.Contents (Elt F)} :
    (b.1.view.loc (c : Thread nD τ) ↦[b.1.view.set]{fullShare} f : sProp 𝕄) ⊢
      iprop(∃ g, ⌜b.1.view.read (Elt F) g = b.1.view.read (Elt F) f⌝ ∗ (b.1.view.loc (c : Thread nD τ) ↦[b.1.view.set]{fullShare} g)) := by
  iintro H; iexists f; isplitr
  · ipureintro; rfl
  · iexact H

theorem read_whole {s : Shape} (v : View sig .tc .vmem s .f32) (f : v.ty.Contents (Elt F)) (off : Fin s.rank → ℕ) (z : ∀ a, off a = 0) (inb) (x : Vec F s .f32) :
    v.read (Elt F) (v.writes (Elt F) f [⟨Rect.unit (s := s) off s.size inb, x⟩]) = x := by
  have all : ∀ y : s.Idx, y ∈ (Rect.unit (s := s) off s.size inb).set := fun y =>
    Rect.mem_set_unit.2 fun a => ⟨(z a).trans_le (Nat.zero_le _), lt_of_lt_of_eq (y a).isLt (by rw [z a, Nat.zero_add])⟩
  rw [View.read_writes_eq_canon _ _ _ fun y => ⟨_, List.mem_singleton_self _, all y⟩]
  exact View.canon_cons_unit_lit inb x [] z

/-- A block overwritten whole holds what was written. -/
theorem wrote {c : Dev nD} {R : ℕ} {b : Block (Rows R)} {f : b.1.view.ty.Contents (Elt F)} {inb} {x : Vec F (Rows R) .f32} :
    (b.1.view.loc (c : Thread nD τ) ↦[b.1.view.set]{fullShare} b.1.view.writes (Elt F) f [⟨Rect.unit (s := Rows R) ![0, 0] ![R, 128] inb, x⟩] : sProp 𝕄) ⊢
      iprop(∃ g, ⌜b.1.view.read (Elt F) g = x⌝ ∗ (b.1.view.loc (c : Thread nD τ) ↦[b.1.view.set]{fullShare} g)) := by
  iintro H; iexists _; isplitr
  swap; · iexact H
  ipureintro
  exact read_whole b.1.view f ![0, 0] (by intro a; fin_cases a <;> rfl) inb x

set_option maxHeartbeats 4000000 in
theorem body {c : Dev nD} {P Q : sProp 𝕄}
    {b0 : Block S4x1120x128}
    {b1 b2 b3 b4 b5 b6 b7 b8 b9 b13 b14 b15 b25 b26 b27 b28 b29 b30 b31 b32 b33 b34 b35 b36 b41 b42 b43 b44 b57 : Block S8x128}
    {b10 b11 b12 b37 b38 b39 b40 : Block S1024x128}
    {b16 b17 b18 b22 b23 b24 b45 b46 b47 b48 b53 b54 b55 b56 : Block S16x128}
    {b19 b20 b21 b49 b50 b51 b52 : Block S24x128}
    {x0 : Vec F S4x1120x128 .f32}
    {x1 x2 x3 x4 x5 x6 x7 x8 x9 x13 x14 x15 : Vec F S8x128 .f32}
    {x10 x11 x12 : Vec F S1024x128 .f32}
    {x16 x17 x18 x22 x23 x24 : Vec F S16x128 .f32}
    {x19 x20 x21 : Vec F S24x128 .f32} :
    iprop(
    P ∗ Q ∗ has c b0 x0 ∗ has c b1 x1 ∗ has c b2 x2 ∗ has c b3 x3 ∗ has c b4 x4 ∗ has c b5 x5 ∗ has c b6 x6 ∗ has c b7 x7 ∗ has c b8 x8 ∗ has c b9 x9 ∗ has c b10 x10 ∗
    has c b11 x11 ∗ has c b12 x12 ∗ has c b13 x13 ∗ has c b14 x14 ∗ has c b15 x15 ∗ has c b16 x16 ∗ has c b17 x17 ∗ has c b18 x18 ∗ has c b19 x19 ∗ has c b20 x20 ∗
    has c b21 x21 ∗ has c b22 x22 ∗ has c b23 x23 ∗ has c b24 x24 ∗ spare c b25 ∗ spare c b26 ∗ spare c b27 ∗ spare c b28 ∗ spare c b29 ∗ spare c b30 ∗ spare c b31 ∗
    spare c b32 ∗ spare c b33 ∗ spare c b34 ∗ spare c b35 ∗ spare c b36 ∗ spare c b37 ∗ spare c b38 ∗ spare c b39 ∗ spare c b40 ∗ spare c b41 ∗ spare c b42 ∗
    spare c b43 ∗ spare c b44 ∗ spare c b45 ∗ spare c b46 ∗ spare c b47 ∗ spare c b48 ∗ spare c b49 ∗ spare c b50 ∗ spare c b51 ∗ spare c b52 ∗ spare c b53 ∗
    spare c b54 ∗ spare c b55 ∗ spare c b56 ∗ spare c b57)
      ⊢ wp frame (wpE (defs₀ (F := F)) Variants.none c none) Set.univ (cc0_adamw_replicated
    b0.1 b0.2 b1.1 b1.2 b2.1 b2.2 b3.1 b3.2 b4.1 b4.2 b5.1 b5.2 b6.1 b6.2 b7.1 b7.2 b8.1 b8.2 b9.1 b9.2 b10.1 b10.2 b11.1 b11.2 b12.1 b12.2 b13.1 b13.2 b14.1 b14.2
    b15.1 b15.2 b16.1 b16.2 b17.1 b17.2 b18.1 b18.2 b19.1 b19.2 b20.1 b20.2 b21.1 b21.2 b22.1 b22.2 b23.1 b23.2 b24.1 b24.2 b25.1 b25.2 b26.1 b26.2 b27.1 b27.2
    b28.1 b28.2 b29.1 b29.2 b30.1 b30.2 b31.1 b31.2 b32.1 b32.2 b33.1 b33.2 b34.1 b34.2 b35.1 b35.2 b36.1 b36.2 b37.1 b37.2 b38.1 b38.2 b39.1 b39.2 b40.1 b40.2
    b41.1 b41.2 b42.1 b42.2 b43.1 b43.2 b44.1 b44.2 b45.1 b45.2 b46.1 b46.2 b47.1 b47.2 b48.1 b48.2 b49.1 b49.2 b50.1 b50.2 b51.1 b51.2 b52.1 b52.2 b53.1 b53.2
    b54.1 b54.2 b55.1 b55.2 b56.1 b56.2 b57.1 b57.2)
    fun _ => iprop(
    P ∗ Q ∗ has c b0 x0 ∗ has c b1 x1 ∗ has c b2 x2 ∗ has c b3 x3 ∗ has c b4 x4 ∗ has c b5 x5 ∗ has c b6 x6 ∗ has c b7 x7 ∗ has c b8 x8 ∗ has c b9 x9 ∗ has c b10 x10 ∗
    has c b11 x11 ∗ has c b12 x12 ∗ has c b13 x13 ∗ has c b14 x14 ∗ has c b15 x15 ∗ has c b16 x16 ∗ has c b17 x17 ∗ has c b18 x18 ∗ has c b19 x19 ∗ has c b20 x20 ∗
    has c b21 x21 ∗ has c b22 x22 ∗ has c b23 x23 ∗ has c b24 x24 ∗ has c b25 (total x0 0 8 (by decide)) ∗ has c b26 (change (total x0 0 8 (by decide)) x1 x2 x3) ∗
    has c b27 (mean (total x0 0 8 (by decide)) x2) ∗ has c b28 (square (total x0 0 8 (by decide)) x3) ∗ has c b29 (total x0 8 8 (by decide)) ∗
    has c b30 (change (total x0 8 8 (by decide)) x4 x5 x6) ∗ has c b31 (mean (total x0 8 8 (by decide)) x5) ∗ has c b32 (square (total x0 8 8 (by decide)) x6) ∗
    has c b33 (total x0 16 8 (by decide)) ∗ has c b34 (change (total x0 16 8 (by decide)) x7 x8 x9) ∗ has c b35 (mean (total x0 16 8 (by decide)) x8) ∗
    has c b36 (square (total x0 16 8 (by decide)) x9) ∗ has c b37 (total x0 24 1024 (by decide)) ∗ has c b38 (change (total x0 24 1024 (by decide)) x10 x11 x12) ∗
    has c b39 (mean (total x0 24 1024 (by decide)) x11) ∗ has c b40 (square (total x0 24 1024 (by decide)) x12) ∗ has c b41 (total x0 1048 8 (by decide)) ∗
    has c b42 (change (total x0 1048 8 (by decide)) x13 x14 x15) ∗ has c b43 (mean (total x0 1048 8 (by decide)) x14) ∗
    has c b44 (square (total x0 1048 8 (by decide)) x15) ∗ has c b45 (total x0 1056 16 (by decide)) ∗ has c b46 (change (total x0 1056 16 (by decide)) x16 x17 x18) ∗
    has c b47 (mean (total x0 1056 16 (by decide)) x17) ∗ has c b48 (square (total x0 1056 16 (by decide)) x18) ∗ has c b49 (total x0 1072 24 (by decide)) ∗
    has c b50 (change (total x0 1072 24 (by decide)) x19 x20 x21) ∗ has c b51 (mean (total x0 1072 24 (by decide)) x20) ∗
    has c b52 (square (total x0 1072 24 (by decide)) x21) ∗ has c b53 (total x0 1096 16 (by decide)) ∗ has c b54 (change (total x0 1096 16 (by decide)) x22 x23 x24) ∗
    has c b55 (mean (total x0 1096 16 (by decide)) x23) ∗ has c b56 (square (total x0 1096 16 (by decide)) x24) ∗ has c b57 (total x0 1112 8 (by decide))) := by
  simp only [cc0_adamw_replicated_eq_skeleton]; unfold cc0_adamw_replicated_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold spare has owns
  iintro ⟨
    HP, HQ, ⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩,
    ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩,
    ⟨%f17, %e17, H17⟩, ⟨%f18, %e18, H18⟩, ⟨%f19, %e19, H19⟩, ⟨%f20, %e20, H20⟩, ⟨%f21, %e21, H21⟩, ⟨%f22, %e22, H22⟩, ⟨%f23, %e23, H23⟩, ⟨%f24, %e24, H24⟩,
    ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩,
    ⟨%d32, %f32, -, H32⟩, ⟨%d33, %f33, -, H33⟩, ⟨%d34, %f34, -, H34⟩, ⟨%d35, %f35, -, H35⟩, ⟨%d36, %f36, -, H36⟩, ⟨%d37, %f37, -, H37⟩, ⟨%d38, %f38, -, H38⟩,
    ⟨%d39, %f39, -, H39⟩, ⟨%d40, %f40, -, H40⟩, ⟨%d41, %f41, -, H41⟩, ⟨%d42, %f42, -, H42⟩, ⟨%d43, %f43, -, H43⟩, ⟨%d44, %f44, -, H44⟩, ⟨%d45, %f45, -, H45⟩,
    ⟨%d46, %f46, -, H46⟩, ⟨%d47, %f47, -, H47⟩, ⟨%d48, %f48, -, H48⟩, ⟨%d49, %f49, -, H49⟩, ⟨%d50, %f50, -, H50⟩, ⟨%d51, %f51, -, H51⟩, ⟨%d52, %f52, -, H52⟩,
    ⟨%d53, %f53, -, H53⟩, ⟨%d54, %f54, -, H54⟩, ⟨%d55, %f55, -, H55⟩, ⟨%d56, %f56, -, H56⟩, ⟨%d57, %f57, -, H57⟩⟩
  subst e0 e1 e2 e3 e4 e5 e6 e7 e8 e9 e10 e11 e12 e13 e14 e15 e16 e17 e18 e19 e20 e21 e22 e23 e24
  sl_exec
  sl_step
  isplitl [HP]; · iexact HP
  isplitl [HQ]; · iexact HQ
  isplitl [H0]; · iapply held; iexact H0
  isplitl [H1]; · iapply held; iexact H1
  isplitl [H2]; · iapply held; iexact H2
  isplitl [H3]; · iapply held; iexact H3
  isplitl [H4]; · iapply held; iexact H4
  isplitl [H5]; · iapply held; iexact H5
  isplitl [H6]; · iapply held; iexact H6
  isplitl [H7]; · iapply held; iexact H7
  isplitl [H8]; · iapply held; iexact H8
  isplitl [H9]; · iapply held; iexact H9
  isplitl [H10]; · iapply held; iexact H10
  isplitl [H11]; · iapply held; iexact H11
  isplitl [H12]; · iapply held; iexact H12
  isplitl [H13]; · iapply held; iexact H13
  isplitl [H14]; · iapply held; iexact H14
  isplitl [H15]; · iapply held; iexact H15
  isplitl [H16]; · iapply held; iexact H16
  isplitl [H17]; · iapply held; iexact H17
  isplitl [H18]; · iapply held; iexact H18
  isplitl [H19]; · iapply held; iexact H19
  isplitl [H20]; · iapply held; iexact H20
  isplitl [H21]; · iapply held; iexact H21
  isplitl [H22]; · iapply held; iexact H22
  isplitl [H23]; · iapply held; iexact H23
  isplitl [H24]; · iapply held; iexact H24
  isplitl [H25]; · iapply wrote; iexact H25
  isplitl [H26]; · iapply wrote; iexact H26
  isplitl [H27]; · iapply wrote; iexact H27
  isplitl [H28]; · iapply wrote; iexact H28
  isplitl [H29]; · iapply wrote; iexact H29
  isplitl [H30]; · iapply wrote; iexact H30
  isplitl [H31]; · iapply wrote; iexact H31
  isplitl [H32]; · iapply wrote; iexact H32
  isplitl [H33]; · iapply wrote; iexact H33
  isplitl [H34]; · iapply wrote; iexact H34
  isplitl [H35]; · iapply wrote; iexact H35
  isplitl [H36]; · iapply wrote; iexact H36
  isplitl [H37]; · iapply wrote; iexact H37
  isplitl [H38]; · iapply wrote; iexact H38
  isplitl [H39]; · iapply wrote; iexact H39
  isplitl [H40]; · iapply wrote; iexact H40
  isplitl [H41]; · iapply wrote; iexact H41
  isplitl [H42]; · iapply wrote; iexact H42
  isplitl [H43]; · iapply wrote; iexact H43
  isplitl [H44]; · iapply wrote; iexact H44
  isplitl [H45]; · iapply wrote; iexact H45
  isplitl [H46]; · iapply wrote; iexact H46
  isplitl [H47]; · iapply wrote; iexact H47
  isplitl [H48]; · iapply wrote; iexact H48
  isplitl [H49]; · iapply wrote; iexact H49
  isplitl [H50]; · iapply wrote; iexact H50
  isplitl [H51]; · iapply wrote; iexact H51
  isplitl [H52]; · iapply wrote; iexact H52
  isplitl [H53]; · iapply wrote; iexact H53
  isplitl [H54]; · iapply wrote; iexact H54
  isplitl [H55]; · iapply wrote; iexact H55
  isplitl [H56]; · iapply wrote; iexact H56
  iapply wrote; iexact H57

/-! ## The launch -/

variable (m : (ℓ : Loc nD τ sig) → Buf (Elt F) ℓ) (ρ : Dev nD → PrngReg)

abbrev V (c : Dev nD) (b : Ref sig .tc) : Buf (Elt F) ((c : Thread nD τ).loc b) := m ((c : Thread nD τ).loc b)

/-- What a window's block holds at the launch. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => (total (iblk m c 0 t) 0 8 (by decide))
    | ⟨26, _⟩ => (change (total (iblk m c 0 t) 0 8 (by decide)) (iblk m c 1 t) (iblk m c 2 t) (iblk m c 3 t))
    | ⟨27, _⟩ => (mean (total (iblk m c 0 t) 0 8 (by decide)) (iblk m c 2 t))
    | ⟨28, _⟩ => (square (total (iblk m c 0 t) 0 8 (by decide)) (iblk m c 3 t))
    | ⟨29, _⟩ => (total (iblk m c 0 t) 8 8 (by decide))
    | ⟨30, _⟩ => (change (total (iblk m c 0 t) 8 8 (by decide)) (iblk m c 4 t) (iblk m c 5 t) (iblk m c 6 t))
    | ⟨31, _⟩ => (mean (total (iblk m c 0 t) 8 8 (by decide)) (iblk m c 5 t))
    | ⟨32, _⟩ => (square (total (iblk m c 0 t) 8 8 (by decide)) (iblk m c 6 t))
    | ⟨33, _⟩ => (total (iblk m c 0 t) 16 8 (by decide))
    | ⟨34, _⟩ => (change (total (iblk m c 0 t) 16 8 (by decide)) (iblk m c 7 t) (iblk m c 8 t) (iblk m c 9 t))
    | ⟨35, _⟩ => (mean (total (iblk m c 0 t) 16 8 (by decide)) (iblk m c 8 t))
    | ⟨36, _⟩ => (square (total (iblk m c 0 t) 16 8 (by decide)) (iblk m c 9 t))
    | ⟨37, _⟩ => (total (iblk m c 0 t) 24 1024 (by decide))
    | ⟨38, _⟩ => (change (total (iblk m c 0 t) 24 1024 (by decide)) (iblk m c 10 t) (iblk m c 11 t) (iblk m c 12 t))
    | ⟨39, _⟩ => (mean (total (iblk m c 0 t) 24 1024 (by decide)) (iblk m c 11 t))
    | ⟨40, _⟩ => (square (total (iblk m c 0 t) 24 1024 (by decide)) (iblk m c 12 t))
    | ⟨41, _⟩ => (total (iblk m c 0 t) 1048 8 (by decide))
    | ⟨42, _⟩ => (change (total (iblk m c 0 t) 1048 8 (by decide)) (iblk m c 13 t) (iblk m c 14 t) (iblk m c 15 t))
    | ⟨43, _⟩ => (mean (total (iblk m c 0 t) 1048 8 (by decide)) (iblk m c 14 t))
    | ⟨44, _⟩ => (square (total (iblk m c 0 t) 1048 8 (by decide)) (iblk m c 15 t))
    | ⟨45, _⟩ => (total (iblk m c 0 t) 1056 16 (by decide))
    | ⟨46, _⟩ => (change (total (iblk m c 0 t) 1056 16 (by decide)) (iblk m c 16 t) (iblk m c 17 t) (iblk m c 18 t))
    | ⟨47, _⟩ => (mean (total (iblk m c 0 t) 1056 16 (by decide)) (iblk m c 17 t))
    | ⟨48, _⟩ => (square (total (iblk m c 0 t) 1056 16 (by decide)) (iblk m c 18 t))
    | ⟨49, _⟩ => (total (iblk m c 0 t) 1072 24 (by decide))
    | ⟨50, _⟩ => (change (total (iblk m c 0 t) 1072 24 (by decide)) (iblk m c 19 t) (iblk m c 20 t) (iblk m c 21 t))
    | ⟨51, _⟩ => (mean (total (iblk m c 0 t) 1072 24 (by decide)) (iblk m c 20 t))
    | ⟨52, _⟩ => (square (total (iblk m c 0 t) 1072 24 (by decide)) (iblk m c 21 t))
    | ⟨53, _⟩ => (total (iblk m c 0 t) 1096 16 (by decide))
    | ⟨54, _⟩ => (change (total (iblk m c 0 t) 1096 16 (by decide)) (iblk m c 22 t) (iblk m c 23 t) (iblk m c 24 t))
    | ⟨55, _⟩ => (mean (total (iblk m c 0 t) 1096 16 (by decide)) (iblk m c 23 t))
    | ⟨56, _⟩ => (square (total (iblk m c 0 t) 1096 16 (by decide)) (iblk m c 24 t))
    | ⟨57, _⟩ => (total (iblk m c 0 t) 1112 8 (by decide))
    | ⟨n + 58, h⟩ => absurd h (Nat.not_lt.2 (Nat.le_add_left _ _))
  Φ _ := Pipeline.ΦA spec0 c
  q _ := fullShare
  owed _ := 0

/-- A block read is found as it was at the launch. -/
theorem found {c : Dev nD} (w : Fin cfg0.W) (hw : (cfg0.win w).isOut = false) (hlive : ∀ i, cfg0.idle w i = false)
    (hclip : ∀ t t' : Fin cfg0.N, (cfg0.win w).index t = (cfg0.win w).index t' →
      (cfg0.win w).clip (cfg0.grid.coords t) = (cfg0.win w).clip (cfg0.grid.coords t'))
    (hkeep : ∀ t, (cfg0.win w).cut (cfg0.grid.coords t) ((dats m 0 c).after w t) = (dats m 0 c).blockOf w t)
    (hsame : ∀ t d, (dats m 0 c).fetched w t d = (dats m 0 c).after w t) (t : Fin cfg0.N) :
    iprop(∃ d, owns (c : Thread nD τ) ((cfg0.win w).stage (cfg0.slots t w)) fullShare ((dats m 0 c).before w t d)) ⊢
      (owns (c : Thread nD τ) ((cfg0.win w).stage (cfg0.slots t w)) fullShare ((dats m 0 c).after w t) : sProp 𝕄) := by
  iintro ⟨%d, H⟩
  rw [((dats m 0 c).before_in_eq_fetched w hw hlive hclip hkeep t d).trans (hsame t d)]
  iexact H

theorem loose {c : Dev nD} {s : Shape} {b : Memref sig .tc .vmem s .f32} (f : Vec F s .f32 → Vec F s .f32) :
    iprop(∃ d, owns (c : Thread nD τ) b fullShare (f d)) ⊢ (iprop(∃ d, owns (c : Thread nD τ) b fullShare d) : sProp 𝕄) := by
  iintro ⟨%d, H⟩; iexists f d; iexact H

set_option maxHeartbeats 4000000 in
theorem obligation (c : Dev nD) : BodyObligation (dats (F := F) m 0 c) (defs₀ (F := F)) Variants.none () Set.univ := fun t => by
  have row : defs₀ (F := F) .tc cfg0.body (cfg0.bodyArgs t (cfg0.slots t)) = bodyAt0 t := by unfold defs₀; rw [Defs.onTc_tc]
  rw [bigSep_W0, bigSep_W0, row]
  refine triple_restated (body (c := c) (P := (dats m 0 c).Φ t.castSucc) (Q := (dats m 0 c).owesAt () t.castSucc)
      (b0 := ⟨win0_0.stage (cfg0.slots t 0), hstage0_0 0⟩) (x0 := iblk m c 0 t) (b1 := ⟨win0_1.stage (cfg0.slots t 1), hstage0_1 0⟩) (x1 := iblk m c 1 t)
      (b2 := ⟨win0_2.stage (cfg0.slots t 2), hstage0_2 0⟩) (x2 := iblk m c 2 t) (b3 := ⟨win0_3.stage (cfg0.slots t 3), hstage0_3 0⟩) (x3 := iblk m c 3 t)
      (b4 := ⟨win0_4.stage (cfg0.slots t 4), hstage0_4 0⟩) (x4 := iblk m c 4 t) (b5 := ⟨win0_5.stage (cfg0.slots t 5), hstage0_5 0⟩) (x5 := iblk m c 5 t)
      (b6 := ⟨win0_6.stage (cfg0.slots t 6), hstage0_6 0⟩) (x6 := iblk m c 6 t) (b7 := ⟨win0_7.stage (cfg0.slots t 7), hstage0_7 0⟩) (x7 := iblk m c 7 t)
      (b8 := ⟨win0_8.stage (cfg0.slots t 8), hstage0_8 0⟩) (x8 := iblk m c 8 t) (b9 := ⟨win0_9.stage (cfg0.slots t 9), hstage0_9 0⟩) (x9 := iblk m c 9 t)
      (b10 := ⟨win0_10.stage (cfg0.slots t 10), hstage0_10 0⟩) (x10 := iblk m c 10 t) (b11 := ⟨win0_11.stage (cfg0.slots t 11), hstage0_11 0⟩) (x11 := iblk m c 11 t)
      (b12 := ⟨win0_12.stage (cfg0.slots t 12), hstage0_12 0⟩) (x12 := iblk m c 12 t) (b13 := ⟨win0_13.stage (cfg0.slots t 13), hstage0_13 0⟩) (x13 := iblk m c 13 t)
      (b14 := ⟨win0_14.stage (cfg0.slots t 14), hstage0_14 0⟩) (x14 := iblk m c 14 t) (b15 := ⟨win0_15.stage (cfg0.slots t 15), hstage0_15 0⟩) (x15 := iblk m c 15 t)
      (b16 := ⟨win0_16.stage (cfg0.slots t 16), hstage0_16 0⟩) (x16 := iblk m c 16 t) (b17 := ⟨win0_17.stage (cfg0.slots t 17), hstage0_17 0⟩) (x17 := iblk m c 17 t)
      (b18 := ⟨win0_18.stage (cfg0.slots t 18), hstage0_18 0⟩) (x18 := iblk m c 18 t) (b19 := ⟨win0_19.stage (cfg0.slots t 19), hstage0_19 0⟩) (x19 := iblk m c 19 t)
      (b20 := ⟨win0_20.stage (cfg0.slots t 20), hstage0_20 0⟩) (x20 := iblk m c 20 t) (b21 := ⟨win0_21.stage (cfg0.slots t 21), hstage0_21 0⟩) (x21 := iblk m c 21 t)
      (b22 := ⟨win0_22.stage (cfg0.slots t 22), hstage0_22 0⟩) (x22 := iblk m c 22 t) (b23 := ⟨win0_23.stage (cfg0.slots t 23), hstage0_23 0⟩) (x23 := iblk m c 23 t)
      (b24 := ⟨win0_24.stage (cfg0.slots t 24), hstage0_24 0⟩) (x24 := iblk m c 24 t) (b25 := ⟨win0_25.stage (cfg0.slots t 25), hstage0_25 0⟩)
      (b26 := ⟨win0_26.stage (cfg0.slots t 26), hstage0_26 0⟩) (b27 := ⟨win0_27.stage (cfg0.slots t 27), hstage0_27 0⟩)
      (b28 := ⟨win0_28.stage (cfg0.slots t 28), hstage0_28 0⟩) (b29 := ⟨win0_29.stage (cfg0.slots t 29), hstage0_29 0⟩)
      (b30 := ⟨win0_30.stage (cfg0.slots t 30), hstage0_30 0⟩) (b31 := ⟨win0_31.stage (cfg0.slots t 31), hstage0_31 0⟩)
      (b32 := ⟨win0_32.stage (cfg0.slots t 32), hstage0_32 0⟩) (b33 := ⟨win0_33.stage (cfg0.slots t 33), hstage0_33 0⟩)
      (b34 := ⟨win0_34.stage (cfg0.slots t 34), hstage0_34 0⟩) (b35 := ⟨win0_35.stage (cfg0.slots t 35), hstage0_35 0⟩)
      (b36 := ⟨win0_36.stage (cfg0.slots t 36), hstage0_36 0⟩) (b37 := ⟨win0_37.stage (cfg0.slots t 37), hstage0_37 0⟩)
      (b38 := ⟨win0_38.stage (cfg0.slots t 38), hstage0_38 0⟩) (b39 := ⟨win0_39.stage (cfg0.slots t 39), hstage0_39 0⟩)
      (b40 := ⟨win0_40.stage (cfg0.slots t 40), hstage0_40 0⟩) (b41 := ⟨win0_41.stage (cfg0.slots t 41), hstage0_41 0⟩)
      (b42 := ⟨win0_42.stage (cfg0.slots t 42), hstage0_42 0⟩) (b43 := ⟨win0_43.stage (cfg0.slots t 43), hstage0_43 0⟩)
      (b44 := ⟨win0_44.stage (cfg0.slots t 44), hstage0_44 0⟩) (b45 := ⟨win0_45.stage (cfg0.slots t 45), hstage0_45 0⟩)
      (b46 := ⟨win0_46.stage (cfg0.slots t 46), hstage0_46 0⟩) (b47 := ⟨win0_47.stage (cfg0.slots t 47), hstage0_47 0⟩)
      (b48 := ⟨win0_48.stage (cfg0.slots t 48), hstage0_48 0⟩) (b49 := ⟨win0_49.stage (cfg0.slots t 49), hstage0_49 0⟩)
      (b50 := ⟨win0_50.stage (cfg0.slots t 50), hstage0_50 0⟩) (b51 := ⟨win0_51.stage (cfg0.slots t 51), hstage0_51 0⟩)
      (b52 := ⟨win0_52.stage (cfg0.slots t 52), hstage0_52 0⟩) (b53 := ⟨win0_53.stage (cfg0.slots t 53), hstage0_53 0⟩)
      (b54 := ⟨win0_54.stage (cfg0.slots t 54), hstage0_54 0⟩) (b55 := ⟨win0_55.stage (cfg0.slots t 55), hstage0_55 0⟩)
      (b56 := ⟨win0_56.stage (cfg0.slots t 56), hstage0_56 0⟩) (b57 := ⟨win0_57.stage (cfg0.slots t 57), hstage0_57 0⟩))
    rfl ?_ fun _ => ?_
  rotate_left
  · refine BIClass.sep_mono .rfl (BIClass.sep_mono .rfl ?_)
    iterate 57
      refine BIClass.sep_mono ?_ ?_
      · dsimp only [dats]; exact .rfl
    dsimp only [dats]; exact .rfl
  refine BIClass.sep_mono .rfl (BIClass.sep_mono .rfl ?_)
  iterate 25 refine BIClass.sep_mono (found m _ (by rfl) (by intro; rfl) (by intros; rfl) (by intro; rfl) (by intros; rfl) t) ?_
  iterate 32 refine BIClass.sep_mono (loose _) ?_
  exact loose _

set_option maxHeartbeats 1000000 in
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

set_option backward.isDefEq.respectTransparency.types false in
set_option maxHeartbeats 1000000 in
/-- Every run ends with each array at what its window leaves in it, and no signal left over. -/
theorem run : θ_run defs (onTc (τ := τ) (main (F := F))) ⟨m, fun _ => 0, ρ⟩ (fun r => Pipeline.FramePost cfgs (dats m) 0 (V m) r ∧ r.2.sem = fun _ => 0) :=
  Pipeline.θ_run_frame (Q' := _) cfgs (dats m) (0 : Fin 1) launch0 defs₀ Variants.none m ρ main (hbody := fun c => (obligation m c).loose)
    (hshare := fun c => (dats m 0 c).share_full fun _ => rfl) (howed := fun _ _ => rfl) (V := V m) (hmain := hmain m Variants.none)
    (hA := fun _ _ => rfl) (hΦ := fun _ _ => rfl)

/-- An array only read is as it was. -/
theorem kept {r : PUnit × MemSt nD τ sig (Elt F)} (h : Pipeline.FramePost cfgs (dats m) 0 (V m) r) (c : Dev nD) (w : Fin cfg0.W)
    (hw : (cfg0.win w).isOut = false) : r.2.mem ((spec0 w).arr.view.loc (c.tc : Thread nD τ)) = V m c (Pipeline.arrRef spec0 w) :=
  ((h c).1 w).trans ((dats m 0 c).arrAt_in w hw _)

theorem args_kept {r : PUnit × MemSt nD τ sig (Elt F)} (h : Pipeline.FramePost cfgs (dats m) 0 (V m) r) (c : Dev nD) :
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8)
      ∧ r.2.mem (c.tc.loc main_arg9) = m (c.tc.loc main_arg9)
      ∧ r.2.mem (c.tc.loc main_arg10) = m (c.tc.loc main_arg10)
      ∧ r.2.mem (c.tc.loc main_arg11) = m (c.tc.loc main_arg11)
      ∧ r.2.mem (c.tc.loc main_arg12) = m (c.tc.loc main_arg12)
      ∧ r.2.mem (c.tc.loc main_arg13) = m (c.tc.loc main_arg13)
      ∧ r.2.mem (c.tc.loc main_arg14) = m (c.tc.loc main_arg14)
      ∧ r.2.mem (c.tc.loc main_arg15) = m (c.tc.loc main_arg15)
      ∧ r.2.mem (c.tc.loc main_arg16) = m (c.tc.loc main_arg16)
      ∧ r.2.mem (c.tc.loc main_arg17) = m (c.tc.loc main_arg17)
      ∧ r.2.mem (c.tc.loc main_arg18) = m (c.tc.loc main_arg18)
      ∧ r.2.mem (c.tc.loc main_arg19) = m (c.tc.loc main_arg19)
      ∧ r.2.mem (c.tc.loc main_arg20) = m (c.tc.loc main_arg20)
      ∧ r.2.mem (c.tc.loc main_arg21) = m (c.tc.loc main_arg21)
      ∧ r.2.mem (c.tc.loc main_arg22) = m (c.tc.loc main_arg22)
      ∧ r.2.mem (c.tc.loc main_arg23) = m (c.tc.loc main_arg23)
      ∧ r.2.mem (c.tc.loc main_arg24) = m (c.tc.loc main_arg24) :=
  ⟨kept m h c 0 rfl, kept m h c 1 rfl, kept m h c 2 rfl, kept m h c 3 rfl, kept m h c 4 rfl, kept m h c 5 rfl, kept m h c 6 rfl, kept m h c 7 rfl, kept m h c 8 rfl,
    kept m h c 9 rfl, kept m h c 10 rfl, kept m h c 11 rfl, kept m h c 12 rfl, kept m h c 13 rfl, kept m h c 14 rfl, kept m h c 15 rfl, kept m h c 16 rfl,
    kept m h c 17 rfl, kept m h c 18 rfl, kept m h c 19 rfl, kept m h c 20 rfl, kept m h c 21 rfl, kept m h c 22 rfl, kept m h c 23 rfl, kept m h c 24 rfl⟩

end Cert.PackedIdeal.Eight

end
-- ==== Proof.PackedStep.lean ====
module

public import proofs.«01_k».proof.Defs
public import proofs.«01_k».proof.Proof.Adam
public import proofs.«01_k».proof.Proof.PackedRun
public import proofs.«01_k».proof.Proof.Gen.Packed
public import proofs.«01_k».proof.Proof.Gen.PackedReferenceIdeal.Run

@[expose] public section

set_option maxRecDepth 16384

noncomputable section

/-! The update of the eight small weights, and the sum of the loss. -/

namespace Cert.PackedIdeal.Eight

open Idealize.ShloMosaic Idealize.ShloMosaic.Pipeline Idealize.ShloMosaic.TcCoe Idealize.SL.Sem
open Cert.PackedIdeal.Gen
open scoped BigOperators

/-! ## The reference's terms -/

theorem rows_at (x : Vec Ideal S4x1120x128 .f32) (k at' R : ℕ) (hk : k < 4) (h : at' + R ≤ 1120) (r : Fin R) (l : Fin 128) :
    rows x k at' R hk h (ix2 r l) = x (ix3 (⟨k, hk⟩ : Fin 4) (⟨at' + r.val, by omega⟩ : Fin 1120) l) := by
  refine (shapeCast_dropUnit_apply ![R, 128] _ _ _).trans (View.ld_unit_apply_of _ _ _ _ _ _ fun a => ?_)
  fin_cases a <;> first | rfl | (simp [ix3]; done) | (simp [ix3]; rfl)

/-- The sum over the chips, as the reference has it: one sum over all rows, then the weight's rows of it. -/
theorem sums {x y : Vec Ideal S4x1120x128 .f32} {at' R : ℕ} (h : at' + R ≤ 1120) (e : x = y) {hr} {hu} {hs} :
    extractStridedSlice (Rows R) ![at', 0] (Host.reduceAdd x (constant (F := Ideal) ⟨0, ![]⟩ .f32 0x00000000#32)
      (hr : (S4x1120x128 : Shape).ReducesTo [0] ⟨2, ![1120, 128]⟩) hu) hs = total y at' R h := by
  subst e
  funext i
  obtain ⟨r, l, rfl⟩ : ∃ (r : Fin R) (l : Fin 128), i = ix2 r l := ⟨i 0, i 1, eq_ix2 i⟩
  refine (Adam.summed (K := 4) (R := 1120) (L := 128) x _ _ _).trans ?_
  rw [Fin.sum_univ_four]
  have p (k : ℕ) (hk : k < 4) := rows_at x k at' R hk h r l
  refine .trans ?_ (congrArg₂ (· + ·) (congrArg₂ (· + ·) (congrArg₂ (· + ·) (p 0 _) (p 1 _)) (p 2 _)) (p 3 _)).symm
  simp [ix2, ix3]

theorem loaded_eq {R : ℕ} (w : Vec Ideal (Rows R) .f32) : loaded w = w :=
  View.ld_unit_lit (X := w) _ (by intro a; fin_cases a <;> rfl)

/-- The reference's step from equal operands. -/
theorem step {R : ℕ} {g g' : FVec Ideal (Rows R) .f32} {w w' m m' v v' : Vec Ideal (Rows R) .f32} (hg : g = g') (hw : w = w') (hm : m = m') (hv : v = v')
    {b : (⟨0, ![]⟩ : Shape).BroadcastsInDim (Rows R) ![]} :
    let all (c : BitVec 32) : FVec Ideal (Rows R) .f32 := broadcastInDim (Rows R) ![] b (constant (F := Ideal) ⟨0, ![]⟩ .f32 c)
    let p := addf (mulf (all 0x3F666666#32) m) (mulf (all 0x3DCCCCCD#32) g)
    let q := addf (mulf (all 0x3F7FBE77#32) v) (mulf (all 0x3A83126F#32) (mulf g g))
    g = g' ∧ mulf (all 0xBA83126F#32) (addf (Host.divf (Host.divf p (all 0x3F26BD02#32)) (addf (Host.sqrt (Host.divf q (all 0x3C231ACC#32))) (all 0x322BCC77#32)))
      (mulf (all 0x3C23D70A#32) w)) = change g' w' m' v' ∧ p = mean g' m' ∧ q = square g' v' := by
  subst hg hw hm hv
  refine ⟨rfl, ?_, ?_, ?_⟩ <;> simp only [change, mean, square, loaded_eq] <;> rfl

/-! ## The arrays -/

variable (m : (ℓ : Loc nD τ sig) → Buf (Elt Ideal) ℓ) (c : Dev nD)

set_option maxHeartbeats 4000000 in
/-- Each block read is a whole argument. -/
theorem blocks :
    iblk m c 0 t0_0 = V m c main_arg0
    ∧ iblk m c 1 t0_0 = V m c main_arg1
    ∧ iblk m c 2 t0_0 = V m c main_arg2
    ∧ iblk m c 3 t0_0 = V m c main_arg3
    ∧ iblk m c 4 t0_0 = V m c main_arg4
    ∧ iblk m c 5 t0_0 = V m c main_arg5
    ∧ iblk m c 6 t0_0 = V m c main_arg6
    ∧ iblk m c 7 t0_0 = V m c main_arg7
    ∧ iblk m c 8 t0_0 = V m c main_arg8
    ∧ iblk m c 9 t0_0 = V m c main_arg9
    ∧ iblk m c 10 t0_0 = V m c main_arg10
    ∧ iblk m c 11 t0_0 = V m c main_arg11
    ∧ iblk m c 12 t0_0 = V m c main_arg12
    ∧ iblk m c 13 t0_0 = V m c main_arg13
    ∧ iblk m c 14 t0_0 = V m c main_arg14
    ∧ iblk m c 15 t0_0 = V m c main_arg15
    ∧ iblk m c 16 t0_0 = V m c main_arg16
    ∧ iblk m c 17 t0_0 = V m c main_arg17
    ∧ iblk m c 18 t0_0 = V m c main_arg18
    ∧ iblk m c 19 t0_0 = V m c main_arg19
    ∧ iblk m c 20 t0_0 = V m c main_arg20
    ∧ iblk m c 21 t0_0 = V m c main_arg21
    ∧ iblk m c 22 t0_0 = V m c main_arg22
    ∧ iblk m c 23 t0_0 = V m c main_arg23
    ∧ iblk m c 24 t0_0 = V m c main_arg24 := by
  refine ⟨?_, ?_, ?_, ?_, ?_, ?_, ?_, ?_, ?_, ?_, ?_, ?_, ?_, ?_, ?_, ?_, ?_, ?_, ?_, ?_, ?_, ?_, ?_, ?_, ?_⟩ <;>
    (funext y; blk_ext [iblk, V]) <;> exact Nat.add_eq_right.2 (by decide)

set_option maxHeartbeats 4000000 in
theorem arrays :
    (dats m 0 c).arrAt 25 cfg0.N = total (V m c main_arg0) 0 8 (by decide)
    ∧ (dats m 0 c).arrAt 26 cfg0.N = change (total (V m c main_arg0) 0 8 (by decide)) (V m c main_arg1) (V m c main_arg2) (V m c main_arg3)
    ∧ (dats m 0 c).arrAt 27 cfg0.N = mean (total (V m c main_arg0) 0 8 (by decide)) (V m c main_arg2)
    ∧ (dats m 0 c).arrAt 28 cfg0.N = square (total (V m c main_arg0) 0 8 (by decide)) (V m c main_arg3)
    ∧ (dats m 0 c).arrAt 29 cfg0.N = total (V m c main_arg0) 8 8 (by decide)
    ∧ (dats m 0 c).arrAt 30 cfg0.N = change (total (V m c main_arg0) 8 8 (by decide)) (V m c main_arg4) (V m c main_arg5) (V m c main_arg6)
    ∧ (dats m 0 c).arrAt 31 cfg0.N = mean (total (V m c main_arg0) 8 8 (by decide)) (V m c main_arg5)
    ∧ (dats m 0 c).arrAt 32 cfg0.N = square (total (V m c main_arg0) 8 8 (by decide)) (V m c main_arg6)
    ∧ (dats m 0 c).arrAt 33 cfg0.N = total (V m c main_arg0) 16 8 (by decide)
    ∧ (dats m 0 c).arrAt 34 cfg0.N = change (total (V m c main_arg0) 16 8 (by decide)) (V m c main_arg7) (V m c main_arg8) (V m c main_arg9)
    ∧ (dats m 0 c).arrAt 35 cfg0.N = mean (total (V m c main_arg0) 16 8 (by decide)) (V m c main_arg8)
    ∧ (dats m 0 c).arrAt 36 cfg0.N = square (total (V m c main_arg0) 16 8 (by decide)) (V m c main_arg9)
    ∧ (dats m 0 c).arrAt 37 cfg0.N = total (V m c main_arg0) 24 1024 (by decide)
    ∧ (dats m 0 c).arrAt 38 cfg0.N = change (total (V m c main_arg0) 24 1024 (by decide)) (V m c main_arg10) (V m c main_arg11) (V m c main_arg12)
    ∧ (dats m 0 c).arrAt 39 cfg0.N = mean (total (V m c main_arg0) 24 1024 (by decide)) (V m c main_arg11)
    ∧ (dats m 0 c).arrAt 40 cfg0.N = square (total (V m c main_arg0) 24 1024 (by decide)) (V m c main_arg12)
    ∧ (dats m 0 c).arrAt 41 cfg0.N = total (V m c main_arg0) 1048 8 (by decide)
    ∧ (dats m 0 c).arrAt 42 cfg0.N = change (total (V m c main_arg0) 1048 8 (by decide)) (V m c main_arg13) (V m c main_arg14) (V m c main_arg15)
    ∧ (dats m 0 c).arrAt 43 cfg0.N = mean (total (V m c main_arg0) 1048 8 (by decide)) (V m c main_arg14)
    ∧ (dats m 0 c).arrAt 44 cfg0.N = square (total (V m c main_arg0) 1048 8 (by decide)) (V m c main_arg15)
    ∧ (dats m 0 c).arrAt 45 cfg0.N = total (V m c main_arg0) 1056 16 (by decide)
    ∧ (dats m 0 c).arrAt 46 cfg0.N = change (total (V m c main_arg0) 1056 16 (by decide)) (V m c main_arg16) (V m c main_arg17) (V m c main_arg18)
    ∧ (dats m 0 c).arrAt 47 cfg0.N = mean (total (V m c main_arg0) 1056 16 (by decide)) (V m c main_arg17)
    ∧ (dats m 0 c).arrAt 48 cfg0.N = square (total (V m c main_arg0) 1056 16 (by decide)) (V m c main_arg18)
    ∧ (dats m 0 c).arrAt 49 cfg0.N = total (V m c main_arg0) 1072 24 (by decide)
    ∧ (dats m 0 c).arrAt 50 cfg0.N = change (total (V m c main_arg0) 1072 24 (by decide)) (V m c main_arg19) (V m c main_arg20) (V m c main_arg21)
    ∧ (dats m 0 c).arrAt 51 cfg0.N = mean (total (V m c main_arg0) 1072 24 (by decide)) (V m c main_arg20)
    ∧ (dats m 0 c).arrAt 52 cfg0.N = square (total (V m c main_arg0) 1072 24 (by decide)) (V m c main_arg21)
    ∧ (dats m 0 c).arrAt 53 cfg0.N = total (V m c main_arg0) 1096 16 (by decide)
    ∧ (dats m 0 c).arrAt 54 cfg0.N = change (total (V m c main_arg0) 1096 16 (by decide)) (V m c main_arg22) (V m c main_arg23) (V m c main_arg24)
    ∧ (dats m 0 c).arrAt 55 cfg0.N = mean (total (V m c main_arg0) 1096 16 (by decide)) (V m c main_arg23)
    ∧ (dats m 0 c).arrAt 56 cfg0.N = square (total (V m c main_arg0) 1096 16 (by decide)) (V m c main_arg24)
    ∧ (dats m 0 c).arrAt 57 cfg0.N = total (V m c main_arg0) 1112 8 (by decide) := by
  obtain ⟨b0, b1, b2, b3, b4, b5, b6, b7, b8, b9, b10, b11, b12, b13, b14, b15, b16, b17, b18, b19, b20, b21, b22, b23, b24⟩ := blocks m c
  simp only [← b0, ← b1, ← b2, ← b3, ← b4, ← b5, ← b6, ← b7, ← b8, ← b9, ← b10, ← b11, ← b12, ← b13, ← b14, ← b15, ← b16, ← b17, ← b18, ← b19, ← b20, ← b21, ← b22, ← b23, ← b24]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    exact (dats m 0 c).arrAt_eq_of_after_last _ t0_0 (by decide +kernel) _ fun j => rfl

/-! ## The claims -/

set_option maxHeartbeats 4000000 in
theorem reference_frame : Cert.quiescent_PackedReferenceIdeal (hPackedReferenceIdeal := Cert.PackedReferenceIdeal.Gen.facts) := fun m ρ _ =>
  (θ_run Cert.PackedReferenceIdeal.defs _ _).mono (fun r h => ⟨fun c => by
    obtain ⟨-, -, -, -, -, -, -, -, -, -, -, -, -, -, -, -, -, -, -, -, -, -, -, -, -, -, -, -, -, -, -, -, -, k⟩ := h c
    exact k, sem_eq_zero_of_no_sems (by decide) r.2⟩)
    (Cert.PackedReferenceIdeal.Value.run (F := Ideal) m ρ)

set_option maxHeartbeats 4000000 in
theorem ideal_frame : Cert.quiescent_PackedIdeal (hPackedIdeal := Cert.PackedIdeal.Gen.facts) := fun m ρ _ =>
  (θ_run defs _ _).mono (fun _ h => ⟨fun c => args_kept m h.1 c, h.2⟩) (run m ρ)

set_option maxHeartbeats 2000000 in
theorem bodies_same {F : FTy → Type} [FloatOps F] : Cert.Packed.defs₀ (F := F) = defs₀ := by
  unfold Cert.Packed.defs₀ defs₀
  refine congrArg Defs.onTc ?_
  funext l x
  match l, x with
  | 0, (t, s) => rfl
  | ⟨n + 1, h⟩, _ => exact absurd h (Nat.not_lt.2 (Nat.le_add_left _ _))

set_option maxHeartbeats 4000000 in
theorem tables_same {F : FTy → Type} [FloatOps F] : Cert.Packed.defs (F := F) = defs := by
  show Pipeline.defs pcfgs (Cert.Packed.defs₀ (F := F)) = _
  rw [bodies_same]; rfl

set_option maxHeartbeats 2000000 in
theorem frame : Cert.quiescent_Packed (hPacked := Cert.Packed.Gen.facts) := fun m ρ _ => by
  have h := (θ_run defs _ _).mono (fun _ h => And.intro (fun c : Dev nD => args_kept m h.1 c) h.2) (run (F := Bits) m ρ)
  rw [← tables_same] at h
  exact h

set_option maxHeartbeats 4000000 in
theorem same : Cert.algebraic_PackedIdeal_PackedReferenceIdeal (hPackedIdeal := Cert.PackedIdeal.Gen.facts)
    (hPackedReferenceIdeal := Cert.PackedReferenceIdeal.Gen.facts) := by
  intro m ρ m' ρ' _ agree
  refine ⟨
    fun c => (dats m 0 c).arrAt 25 cfg0.N, fun c => (dats m 0 c).arrAt 26 cfg0.N, fun c => (dats m 0 c).arrAt 27 cfg0.N, fun c => (dats m 0 c).arrAt 28 cfg0.N,
    fun c => (dats m 0 c).arrAt 29 cfg0.N, fun c => (dats m 0 c).arrAt 30 cfg0.N, fun c => (dats m 0 c).arrAt 31 cfg0.N, fun c => (dats m 0 c).arrAt 32 cfg0.N,
    fun c => (dats m 0 c).arrAt 33 cfg0.N, fun c => (dats m 0 c).arrAt 34 cfg0.N, fun c => (dats m 0 c).arrAt 35 cfg0.N, fun c => (dats m 0 c).arrAt 36 cfg0.N,
    fun c => (dats m 0 c).arrAt 37 cfg0.N, fun c => (dats m 0 c).arrAt 38 cfg0.N, fun c => (dats m 0 c).arrAt 39 cfg0.N, fun c => (dats m 0 c).arrAt 40 cfg0.N,
    fun c => (dats m 0 c).arrAt 41 cfg0.N, fun c => (dats m 0 c).arrAt 42 cfg0.N, fun c => (dats m 0 c).arrAt 43 cfg0.N, fun c => (dats m 0 c).arrAt 44 cfg0.N,
    fun c => (dats m 0 c).arrAt 45 cfg0.N, fun c => (dats m 0 c).arrAt 46 cfg0.N, fun c => (dats m 0 c).arrAt 47 cfg0.N, fun c => (dats m 0 c).arrAt 48 cfg0.N,
    fun c => (dats m 0 c).arrAt 49 cfg0.N, fun c => (dats m 0 c).arrAt 50 cfg0.N, fun c => (dats m 0 c).arrAt 51 cfg0.N, fun c => (dats m 0 c).arrAt 52 cfg0.N,
    fun c => (dats m 0 c).arrAt 53 cfg0.N, fun c => (dats m 0 c).arrAt 54 cfg0.N, fun c => (dats m 0 c).arrAt 55 cfg0.N, fun c => (dats m 0 c).arrAt 56 cfg0.N,
    fun c => (dats m 0 c).arrAt 57 cfg0.N,
    (θ_run defs _ _).mono (fun _ h c => ⟨
    (h.1 c).1 25, (h.1 c).1 26, (h.1 c).1 27, (h.1 c).1 28, (h.1 c).1 29, (h.1 c).1 30, (h.1 c).1 31, (h.1 c).1 32, (h.1 c).1 33, (h.1 c).1 34, (h.1 c).1 35,
    (h.1 c).1 36, (h.1 c).1 37, (h.1 c).1 38, (h.1 c).1 39, (h.1 c).1 40, (h.1 c).1 41, (h.1 c).1 42, (h.1 c).1 43, (h.1 c).1 44, (h.1 c).1 45, (h.1 c).1 46,
    (h.1 c).1 47, (h.1 c).1 48, (h.1 c).1 49, (h.1 c).1 50, (h.1 c).1 51, (h.1 c).1 52, (h.1 c).1 53, (h.1 c).1 54, (h.1 c).1 55, (h.1 c).1 56, (h.1 c).1 57, args_kept m h.1 c⟩) (run m ρ), (θ_run Cert.PackedReferenceIdeal.defs _ _).mono (fun r h c => ?_)
    (Cert.PackedReferenceIdeal.Value.run (F := Ideal) m' ρ')⟩
  obtain ⟨a0, a1, a2, a3, a4, a5, a6, a7, a8, a9, a10, a11, a12, a13, a14, a15, a16, a17, a18, a19, a20, a21, a22, a23, a24⟩ := agree c
  obtain ⟨w0, w1, w2, w3, w4, w5, w6, w7, w8, w9, w10, w11, w12, w13, w14, w15, w16, w17, w18, w19, w20, w21, w22, w23, w24, w25, w26, w27, w28, w29, w30, w31, w32⟩ := arrays m c
  obtain ⟨e0, e1, e2, e3, e4, e5, e6, e7, e8, e9, e10, e11, e12, e13, e14, e15, e16, e17, e18, e19, e20, e21, e22, e23, e24, e25, e26, e27, e28, e29, e30, e31, e32, k⟩ := h c
  obtain ⟨g0, d0, p0, q0⟩ := step (sums (at' := 0) (R := 8) (by decide) a0) a1 a2 a3
  obtain ⟨g1, d1, p1, q1⟩ := step (sums (at' := 8) (R := 8) (by decide) a0) a4 a5 a6
  obtain ⟨g2, d2, p2, q2⟩ := step (sums (at' := 16) (R := 8) (by decide) a0) a7 a8 a9
  obtain ⟨g3, d3, p3, q3⟩ := step (sums (at' := 24) (R := 1024) (by decide) a0) a10 a11 a12
  obtain ⟨g4, d4, p4, q4⟩ := step (sums (at' := 1048) (R := 8) (by decide) a0) a13 a14 a15
  obtain ⟨g5, d5, p5, q5⟩ := step (sums (at' := 1056) (R := 16) (by decide) a0) a16 a17 a18
  obtain ⟨g6, d6, p6, q6⟩ := step (sums (at' := 1072) (R := 24) (by decide) a0) a19 a20 a21
  obtain ⟨g7, d7, p7, q7⟩ := step (sums (at' := 1096) (R := 16) (by decide) a0) a22 a23 a24
  exact ⟨
    e0.trans (g0.trans w0.symm), e1.trans (d0.trans w1.symm), e2.trans (p0.trans w2.symm), e3.trans (q0.trans w3.symm), e4.trans (g1.trans w4.symm),
    e5.trans (d1.trans w5.symm), e6.trans (p1.trans w6.symm), e7.trans (q1.trans w7.symm), e8.trans (g2.trans w8.symm), e9.trans (d2.trans w9.symm),
    e10.trans (p2.trans w10.symm), e11.trans (q2.trans w11.symm), e12.trans (g3.trans w12.symm), e13.trans (d3.trans w13.symm), e14.trans (p3.trans w14.symm),
    e15.trans (q3.trans w15.symm), e16.trans (g4.trans w16.symm), e17.trans (d4.trans w17.symm), e18.trans (p4.trans w18.symm), e19.trans (q4.trans w19.symm),
    e20.trans (g5.trans w20.symm), e21.trans (d5.trans w21.symm), e22.trans (p5.trans w22.symm), e23.trans (q5.trans w23.symm), e24.trans (g6.trans w24.symm),
    e25.trans (d6.trans w25.symm), e26.trans (p6.trans w26.symm), e27.trans (q6.trans w27.symm), e28.trans (g7.trans w28.symm), e29.trans (d7.trans w29.symm),
    e30.trans (p7.trans w30.symm), e31.trans (q7.trans w31.symm), e32.trans ((sums (by decide) a0).trans w32.symm), k⟩

end Cert.PackedIdeal.Eight

end
-- ==== Proof.PoolStep.lean ====
module

public import proofs.«01_k».proof.Defs
public import proofs.«01_k».proof.Proof.Adam
public import proofs.«01_k».proof.Proof.Gen.Pool.Frame
public import proofs.«01_k».proof.Proof.Gen.PoolIdeal.Value
public import proofs.«01_k».proof.Proof.Gen.PoolReferenceIdeal.Read

@[expose] public section

noncomputable section

/-! The update of the pooling mixer's weight. -/

namespace Cert.PoolIdeal.Step

open Idealize.ShloMosaic Idealize.ShloMosaic.Pipeline Idealize.ShloMosaic.TcCoe Idealize.SL.Sem
open Cert.PoolIdeal.Gen Cert.Adam Cert.PoolReferenceIdeal.Read
open scoped BigOperators

variable (m : (ℓ : Loc nD τ sig) → Buf (Elt Ideal) ℓ) (c : Dev nD)

abbrev arg0 := m (c.tc.loc main_arg0)
abbrev arg1 := m (c.tc.loc main_arg1)
abbrev arg2 := m (c.tc.loc main_arg2)
abbrev arg3 := m (c.tc.loc main_arg3)

/-- The sum of the chips' planes of one block. -/
def total (x : Vec Ideal S4x128x256 .bf16) : Vec Ideal S128x256 .f32 :=
  k0_pay2 (View.ld x r0_0) (View.ld x r0_1) (View.ld x r0_2) (View.ld x r0_3)

theorem total_at (x : Vec Ideal S4x128x256 .bf16) (r : Fin 128) (l : Fin 256) :
    total x (ix2 r l) = ∑ k : Fin 4, x (ix3 k r l) := by
  rw [Fin.sum_univ_four]
  exact congrArg₂ (· + ·) (congrArg₂ (· + ·) (congrArg₂ (· + ·) (slot x 0 _ _ r l) (slot x 1 _ _ r l)) (slot x 2 _ _ r l)) (slot x 3 _ _ r l)

/-- What is left in the four result blocks. -/
theorem outs (x : Vec Ideal S4x128x256 .bf16) (w m v : Vec Ideal S128x256 .f32) : out0_4 x w m v = total x ∧
    (out0_5 x w m v = fun i => delta (total x i) (w i) (m i) (v i)) ∧ (out0_6 x w m v = fun i => first (total x i) (m i)) ∧
    out0_7 x w m v = fun i => second (total x i) (v i) := by
  unfold out0_4 out0_5 out0_6 out0_7
  refine ⟨?_, ?_, ?_, ?_⟩ <;> rw [View.canon_cons_unit_lit _ _ _ (by decide)]
  · rfl
  · rw [View.ld_unit_lit (X := w) _ (by decide), View.ld_unit_lit (X := m) _ (by decide), View.ld_unit_lit (X := v) _ (by decide)]
    rfl
  · rw [View.ld_unit_lit (X := m) _ (by decide)]
    rfl
  · rw [View.ld_unit_lit (X := v) _ (by decide)]
    rfl

theorem at_point : ∀ t : Fin cfg0.N, win0_0.index t = ![0, t.val, 0] ∧ win0_4.index t = ![t.val, 0] := by decide +kernel

/-- The sum at a place of a block is the sum at that place of the array. -/
theorem total_block (t : Fin cfg0.N) (y : S128x256.Idx) :
    total (iblk m c 0 t) y = val_main_v1 (F := Ideal) (arg0 m c) ((win0_4.blk t).view.emb y) := by
  obtain ⟨r, l, rfl⟩ : ∃ (r : Fin 128) (l : Fin 256), y = ix2 r l := ⟨y 0, y 1, eq_ix2 y⟩
  have ⟨e, e'⟩ := at_point t
  refine (total_at _ r l).trans (.trans ?_ (summed _ _ _ _).symm)
  refine Finset.sum_congr rfl fun k _ => ?_
  blk_ext [iblk, V, e, e']

theorem arrays : (dats m 0 c).arrAt 4 cfg0.N = val_main_v1 (F := Ideal) (arg0 m c) ∧
    (dats m 0 c).arrAt 5 cfg0.N = val_main_v25 (F := Ideal) (arg0 m c) (arg1 m c) (arg2 m c) (arg3 m c) ∧
    (dats m 0 c).arrAt 6 cfg0.N = val_main_v6 (F := Ideal) (arg0 m c) (arg2 m c) ∧
    (dats m 0 c).arrAt 7 cfg0.N = val_main_v12 (F := Ideal) (arg0 m c) (arg3 m c) := by
  refine ⟨?_, ?_, ?_, ?_⟩ <;> refine (dats m 0 c).arrAt_eq_of_covers _ _ (by decide +kernel) fun t hf y => ?_ <;> blk_simp
  · rw [after0_4, (outs _ _ _ _).1]
    exact total_block m c t y
  · rw [after0_5, (outs _ _ _ _).2.1]
    exact congrArg (fun g => delta g _ _ _) (total_block m c t y)
  · rw [after0_6, (outs _ _ _ _).2.2.1]
    exact congrArg (fun g => first g _) (total_block m c t y)
  · rw [after0_7, (outs _ _ _ _).2.2.2]
    exact congrArg (fun g => second g _) (total_block m c t y)

theorem frame : Cert.quiescent_PoolReferenceIdeal (hPoolReferenceIdeal := Cert.PoolReferenceIdeal.Gen.facts) := fun m ρ _ =>
  (θ_run Cert.PoolReferenceIdeal.defs _ _).mono (fun r h => ⟨fun c => (h c).2.2.2.2, sem_eq_zero_of_no_sems (by decide) r.2⟩)
    (Cert.PoolReferenceIdeal.Value.run (F := Ideal) m ρ)

theorem same : Cert.algebraic_PoolIdeal_PoolReferenceIdeal (hPoolIdeal := Cert.PoolIdeal.Gen.facts)
    (hPoolReferenceIdeal := Cert.PoolReferenceIdeal.Gen.facts) := by
  intro m ρ m' ρ' _ agree
  refine ⟨_, _, _, _, Cert.PoolIdeal.Value.run_blocks m ρ, (θ_run Cert.PoolReferenceIdeal.defs _ _).mono (fun r h c => ?_)
    (Cert.PoolReferenceIdeal.Value.run (F := Ideal) m' ρ')⟩
  obtain ⟨a0, a1, a2, a3⟩ := agree c
  obtain ⟨w0, w1, w2, w3⟩ := arrays m c
  obtain ⟨e0, e1, e2, e3, k⟩ := h c
  simp only [arg0, arg1, arg2, arg3, ← a0, ← a1, ← a2, ← a3] at w0 w1 w2 w3
  exact ⟨(e0.trans (val_main_v1_eq _)).trans w0.symm, (e1.trans (val_main_v25_eq _ _ _ _)).trans w1.symm, (e2.trans (val_main_v6_eq _ _)).trans w2.symm,
    (e3.trans (val_main_v12_eq _ _)).trans w3.symm, k⟩

end Cert.PoolIdeal.Step

end
-- ==== Proof.WkvStep.lean ====
module

public import proofs.«01_k».proof.Defs
public import proofs.«01_k».proof.Proof.Adam
public import proofs.«01_k».proof.Proof.Gen.Wkv.Frame
public import proofs.«01_k».proof.Proof.Gen.WkvIdeal.Value
public import proofs.«01_k».proof.Proof.Gen.WkvReferenceIdeal.Read

@[expose] public section

noncomputable section

/-! The update of the memory's projection's weight. -/

namespace Cert.WkvIdeal.Step

open Idealize.ShloMosaic Idealize.ShloMosaic.Pipeline Idealize.ShloMosaic.TcCoe Idealize.SL.Sem
open Cert.WkvIdeal.Gen Cert.Adam Cert.WkvReferenceIdeal.Read
open scoped BigOperators

variable (m : (ℓ : Loc nD τ sig) → Buf (Elt Ideal) ℓ) (c : Dev nD)

abbrev arg0 := m (c.tc.loc main_arg0)
abbrev arg1 := m (c.tc.loc main_arg1)
abbrev arg2 := m (c.tc.loc main_arg2)
abbrev arg3 := m (c.tc.loc main_arg3)

/-- The sum of the chips' planes of one block. -/
def total (x : Vec Ideal S4x128x2048 .bf16) : Vec Ideal S128x2048 .f32 :=
  k0_pay2 (View.ld x r0_0) (View.ld x r0_1) (View.ld x r0_2) (View.ld x r0_3)

theorem total_at (x : Vec Ideal S4x128x2048 .bf16) (r : Fin 128) (l : Fin 2048) :
    total x (ix2 r l) = ∑ k : Fin 4, x (ix3 k r l) := by
  rw [Fin.sum_univ_four]
  exact congrArg₂ (· + ·) (congrArg₂ (· + ·) (congrArg₂ (· + ·) (slot x 0 _ _ r l) (slot x 1 _ _ r l)) (slot x 2 _ _ r l)) (slot x 3 _ _ r l)

/-- What is left in the four result blocks. -/
theorem outs (x : Vec Ideal S4x128x2048 .bf16) (w m v : Vec Ideal S128x2048 .f32) : out0_4 x w m v = total x ∧
    (out0_5 x w m v = fun i => delta (total x i) (w i) (m i) (v i)) ∧ (out0_6 x w m v = fun i => first (total x i) (m i)) ∧
    out0_7 x w m v = fun i => second (total x i) (v i) := by
  unfold out0_4 out0_5 out0_6 out0_7
  refine ⟨?_, ?_, ?_, ?_⟩ <;> rw [View.canon_cons_unit_lit _ _ _ (by decide)]
  · rfl
  · rw [View.ld_unit_lit (X := w) _ (by decide), View.ld_unit_lit (X := m) _ (by decide), View.ld_unit_lit (X := v) _ (by decide)]
    rfl
  · rw [View.ld_unit_lit (X := m) _ (by decide)]
    rfl
  · rw [View.ld_unit_lit (X := v) _ (by decide)]
    rfl

theorem at_point : ∀ t : Fin cfg0.N, win0_0.index t = ![0, t.val, 0] ∧ win0_4.index t = ![t.val, 0] := by decide +kernel

/-- The sum at a place of a block is the sum at that place of the array. -/
theorem total_block (t : Fin cfg0.N) (y : S128x2048.Idx) :
    total (iblk m c 0 t) y = val_main_v1 (F := Ideal) (arg0 m c) ((win0_4.blk t).view.emb y) := by
  obtain ⟨r, l, rfl⟩ : ∃ (r : Fin 128) (l : Fin 2048), y = ix2 r l := ⟨y 0, y 1, eq_ix2 y⟩
  have ⟨e, e'⟩ := at_point t
  refine (total_at _ r l).trans (.trans ?_ (summed _ _ _ _).symm)
  refine Finset.sum_congr rfl fun k _ => ?_
  blk_ext [iblk, V, e, e']

theorem arrays : (dats m 0 c).arrAt 4 cfg0.N = val_main_v1 (F := Ideal) (arg0 m c) ∧
    (dats m 0 c).arrAt 5 cfg0.N = val_main_v25 (F := Ideal) (arg0 m c) (arg1 m c) (arg2 m c) (arg3 m c) ∧
    (dats m 0 c).arrAt 6 cfg0.N = val_main_v6 (F := Ideal) (arg0 m c) (arg2 m c) ∧
    (dats m 0 c).arrAt 7 cfg0.N = val_main_v12 (F := Ideal) (arg0 m c) (arg3 m c) := by
  refine ⟨?_, ?_, ?_, ?_⟩ <;> refine (dats m 0 c).arrAt_eq_of_covers _ _ (by decide +kernel) fun t hf y => ?_ <;> blk_simp
  · rw [after0_4, (outs _ _ _ _).1]
    exact total_block m c t y
  · rw [after0_5, (outs _ _ _ _).2.1]
    exact congrArg (fun g => delta g _ _ _) (total_block m c t y)
  · rw [after0_6, (outs _ _ _ _).2.2.1]
    exact congrArg (fun g => first g _) (total_block m c t y)
  · rw [after0_7, (outs _ _ _ _).2.2.2]
    exact congrArg (fun g => second g _) (total_block m c t y)

theorem frame : Cert.quiescent_WkvReferenceIdeal (hWkvReferenceIdeal := Cert.WkvReferenceIdeal.Gen.facts) := fun m ρ _ =>
  (θ_run Cert.WkvReferenceIdeal.defs _ _).mono (fun r h => ⟨fun c => (h c).2.2.2.2, sem_eq_zero_of_no_sems (by decide) r.2⟩)
    (Cert.WkvReferenceIdeal.Value.run (F := Ideal) m ρ)

theorem same : Cert.algebraic_WkvIdeal_WkvReferenceIdeal (hWkvIdeal := Cert.WkvIdeal.Gen.facts)
    (hWkvReferenceIdeal := Cert.WkvReferenceIdeal.Gen.facts) := by
  intro m ρ m' ρ' _ agree
  refine ⟨_, _, _, _, Cert.WkvIdeal.Value.run_blocks m ρ, (θ_run Cert.WkvReferenceIdeal.defs _ _).mono (fun r h c => ?_)
    (Cert.WkvReferenceIdeal.Value.run (F := Ideal) m' ρ')⟩
  obtain ⟨a0, a1, a2, a3⟩ := agree c
  obtain ⟨w0, w1, w2, w3⟩ := arrays m c
  obtain ⟨e0, e1, e2, e3, k⟩ := h c
  simp only [arg0, arg1, arg2, arg3, ← a0, ← a1, ← a2, ← a3] at w0 w1 w2 w3
  exact ⟨(e0.trans (val_main_v1_eq _)).trans w0.symm, (e1.trans (val_main_v25_eq _ _ _ _)).trans w1.symm, (e2.trans (val_main_v6_eq _ _)).trans w2.symm,
    (e3.trans (val_main_v12_eq _ _)).trans w3.symm, k⟩

end Cert.WkvIdeal.Step

end
-- ==== Proof.WoutStep.lean ====
module

public import proofs.«01_k».proof.Defs
public import proofs.«01_k».proof.Proof.Adam
public import proofs.«01_k».proof.Proof.Gen.Wout.Frame
public import proofs.«01_k».proof.Proof.Gen.WoutIdeal.Value
public import proofs.«01_k».proof.Proof.Gen.WoutReferenceIdeal.Read

@[expose] public section

noncomputable section

/-! The update of the output projection's weight. -/

namespace Cert.WoutIdeal.Step

open Idealize.ShloMosaic Idealize.ShloMosaic.Pipeline Idealize.ShloMosaic.TcCoe Idealize.SL.Sem
open Cert.WoutIdeal.Gen Cert.Adam Cert.WoutReferenceIdeal.Read
open scoped BigOperators

variable (m : (ℓ : Loc nD τ sig) → Buf (Elt Ideal) ℓ) (c : Dev nD)

abbrev arg0 := m (c.tc.loc main_arg0)
abbrev arg1 := m (c.tc.loc main_arg1)
abbrev arg2 := m (c.tc.loc main_arg2)
abbrev arg3 := m (c.tc.loc main_arg3)

/-- The sum of the chips' planes of one block. -/
def total (x : Vec Ideal S4x96x2048 .bf16) : Vec Ideal S96x2048 .f32 :=
  k0_pay2 (View.ld x r0_0) (View.ld x r0_1) (View.ld x r0_2) (View.ld x r0_3)

theorem total_at (x : Vec Ideal S4x96x2048 .bf16) (r : Fin 96) (l : Fin 2048) :
    total x (ix2 r l) = ∑ k : Fin 4, x (ix3 k r l) := by
  rw [Fin.sum_univ_four]
  exact congrArg₂ (· + ·) (congrArg₂ (· + ·) (congrArg₂ (· + ·) (slot x 0 _ _ r l) (slot x 1 _ _ r l)) (slot x 2 _ _ r l)) (slot x 3 _ _ r l)

/-- What is left in the four result blocks. -/
theorem outs (x : Vec Ideal S4x96x2048 .bf16) (w m v : Vec Ideal S96x2048 .f32) : out0_4 x w m v = total x ∧
    (out0_5 x w m v = fun i => delta (total x i) (w i) (m i) (v i)) ∧ (out0_6 x w m v = fun i => first (total x i) (m i)) ∧
    out0_7 x w m v = fun i => second (total x i) (v i) := by
  unfold out0_4 out0_5 out0_6 out0_7
  refine ⟨?_, ?_, ?_, ?_⟩ <;> rw [View.canon_cons_unit_lit _ _ _ (by decide)]
  · rfl
  · rw [View.ld_unit_lit (X := w) _ (by decide), View.ld_unit_lit (X := m) _ (by decide), View.ld_unit_lit (X := v) _ (by decide)]
    rfl
  · rw [View.ld_unit_lit (X := m) _ (by decide)]
    rfl
  · rw [View.ld_unit_lit (X := v) _ (by decide)]
    rfl

theorem at_point : ∀ t : Fin cfg0.N, win0_0.index t = ![0, t.val, 0] ∧ win0_4.index t = ![t.val, 0] := by decide +kernel

/-- The sum at a place of a block is the sum at that place of the array. -/
theorem total_block (t : Fin cfg0.N) (y : S96x2048.Idx) :
    total (iblk m c 0 t) y = val_main_v1 (F := Ideal) (arg0 m c) ((win0_4.blk t).view.emb y) := by
  obtain ⟨r, l, rfl⟩ : ∃ (r : Fin 96) (l : Fin 2048), y = ix2 r l := ⟨y 0, y 1, eq_ix2 y⟩
  have ⟨e, e'⟩ := at_point t
  refine (total_at _ r l).trans (.trans ?_ (summed _ _ _ _).symm)
  refine Finset.sum_congr rfl fun k _ => ?_
  blk_ext [iblk, V, e, e']

theorem arrays : (dats m 0 c).arrAt 4 cfg0.N = val_main_v1 (F := Ideal) (arg0 m c) ∧
    (dats m 0 c).arrAt 5 cfg0.N = val_main_v25 (F := Ideal) (arg0 m c) (arg1 m c) (arg2 m c) (arg3 m c) ∧
    (dats m 0 c).arrAt 6 cfg0.N = val_main_v6 (F := Ideal) (arg0 m c) (arg2 m c) ∧
    (dats m 0 c).arrAt 7 cfg0.N = val_main_v12 (F := Ideal) (arg0 m c) (arg3 m c) := by
  refine ⟨?_, ?_, ?_, ?_⟩ <;> refine (dats m 0 c).arrAt_eq_of_covers _ _ (by decide +kernel) fun t hf y => ?_ <;> blk_simp
  · rw [after0_4, (outs _ _ _ _).1]
    exact total_block m c t y
  · rw [after0_5, (outs _ _ _ _).2.1]
    exact congrArg (fun g => delta g _ _ _) (total_block m c t y)
  · rw [after0_6, (outs _ _ _ _).2.2.1]
    exact congrArg (fun g => first g _) (total_block m c t y)
  · rw [after0_7, (outs _ _ _ _).2.2.2]
    exact congrArg (fun g => second g _) (total_block m c t y)

theorem frame : Cert.quiescent_WoutReferenceIdeal (hWoutReferenceIdeal := Cert.WoutReferenceIdeal.Gen.facts) := fun m ρ _ =>
  (θ_run Cert.WoutReferenceIdeal.defs _ _).mono (fun r h => ⟨fun c => (h c).2.2.2.2, sem_eq_zero_of_no_sems (by decide) r.2⟩)
    (Cert.WoutReferenceIdeal.Value.run (F := Ideal) m ρ)

theorem same : Cert.algebraic_WoutIdeal_WoutReferenceIdeal (hWoutIdeal := Cert.WoutIdeal.Gen.facts)
    (hWoutReferenceIdeal := Cert.WoutReferenceIdeal.Gen.facts) := by
  intro m ρ m' ρ' _ agree
  refine ⟨_, _, _, _, Cert.WoutIdeal.Value.run_blocks m ρ, (θ_run Cert.WoutReferenceIdeal.defs _ _).mono (fun r h c => ?_)
    (Cert.WoutReferenceIdeal.Value.run (F := Ideal) m' ρ')⟩
  obtain ⟨a0, a1, a2, a3⟩ := agree c
  obtain ⟨w0, w1, w2, w3⟩ := arrays m c
  obtain ⟨e0, e1, e2, e3, k⟩ := h c
  simp only [arg0, arg1, arg2, arg3, ← a0, ← a1, ← a2, ← a3] at w0 w1 w2 w3
  exact ⟨(e0.trans (val_main_v1_eq _)).trans w0.symm, (e1.trans (val_main_v25_eq _ _ _ _)).trans w1.symm, (e2.trans (val_main_v6_eq _ _)).trans w2.symm,
    (e3.trans (val_main_v12_eq _ _)).trans w3.symm, k⟩

end Cert.WoutIdeal.Step

end
-- ==== Proof.Step.lean ====
module

public import proofs.«01_k».proof.Proof.Gen.KernelIdeal.Skeleton
public import Idealize.ShloMosaic.Lib.Pointwise
public import Idealize.ShloMosaic.PureOps.Ideal

@[expose] public section

noncomputable section

/-! One addition to the accumulator, entry by entry: the two tiles' product, a sum over their rows. -/

namespace Cert.KernelIdeal.GW

open Idealize.ShloMosaic Idealize.SL.Sem
open Idealize.ShloMosaic.TcCoe
open Idealize.ShloMosaic.Pipeline
open Cert.KernelIdeal.Gen
open scoped BigOperators

set_option Elab.async false

theorem pay_step (A : Vec Ideal S2048x1792 .f32) (a : Vec Ideal S1024x2048 .bf16) (b : Vec Ideal S1024x1792 .bf16)
    (k : Fin 2048) (l : Fin 1792) :
    k0_pay1 A (k0_pay9 a) b (ValueIdx.ix2 k l) = A (ValueIdx.ix2 k l) + ∑ r : Fin 1024, a (ValueIdx.ix2 r k) * b (ValueIdx.ix2 r l) := by
  show k0_pay1 A (k0_pay9 a) b (ix2 k l) = A (ix2 k l) + ∑ r : Fin 1024, a (ix2 r k) * b (ix2 r l)
  unfold k0_pay1 k0_pay9
  pointwise

theorem pay_zero (k : Fin 2048) (l : Fin 1792) : k0_pay8 (F := Ideal) (ValueIdx.ix2 k l) = 0 := by
  show k0_pay8 (F := Ideal) (ix2 k l) = 0
  unfold k0_pay8
  pointwise

theorem pay_block (A : Vec Ideal S2048x896 .f32) (k : Fin 2048) (l : Fin 896) :
    k0_pay3 A (ValueIdx.ix3 (0 : Fin 1) k l) = A (ValueIdx.ix2 k l) := by
  show k0_pay3 A (ix3 (0 : Fin 1) k l) = A (ix2 k l)
  unfold k0_pay3 k0_pay2
  pointwise

end Cert.KernelIdeal.GW

end
-- ==== Proof.Sums.lean ====
module

public import proofs.«01_k».proof.Proof.Run
public import proofs.«01_k».proof.Proof.Step
public import Idealize.ShloMosaic.Lib.Pipeline.ValueKit
public import Idealize.ShloMosaic.PureOps.Ideal

@[expose] public section

noncomputable section

/-! What the device's own products come to: each entry of a block is one sum over the
4096 rows of the two factors. -/

namespace Cert.KernelIdeal.GW

open Idealize.ShloMosaic Idealize.SL.Sem
open Idealize.ShloMosaic.TcCoe
open Idealize.ShloMosaic.ValueIdx hiding ix2 ix3
open Idealize.ShloMosaic.Pipeline
open Cert.KernelIdeal.Gen
open scoped BigOperators

set_option Elab.async false

section Blocks

variable {F : FTy → Type} [FloatOps F]
variable (m : (ℓ : Loc nD τ sig) → Buf (Elt F) ℓ)

/-- The two factors, as the device is given them. -/
def left (c : Dev nD) : S4096x2048.Idx → Elt F .bf16 := m (c.tc.loc main_arg0)
def right (c : Dev nD) : S4096x7168.Idx → Elt F .bf16 := m (c.tc.loc main_arg1)

/-- Which blocks point `t` works on. -/
theorem at_point : ∀ t : Fin cfg0.N, win0_0.index t = ![t.val % 4, 0] ∧ win0_1.index t = ![t.val % 4, t.val / 4] ∧
    win0_2.index t = ![t.val / 4, 0, 0] := by decide +kernel

theorem left_at (c : Dev nD) (t : ℕ) (h : t < 16) (r : Fin 1024) (k : Fin 2048) :
    ablk m c t (ix2 r k) = left m c (ix2 ⟨1024 * (t % 4) + r.val, by omega⟩ k) := by
  have e := (at_point ⟨t, h⟩).1
  unfold ablk left
  rw [dif_pos (show t < cfg0.N from h)]
  blk_ext [iblk, V, e]

theorem right_at (c : Dev nD) (t : ℕ) (h : t < 16) (r : Fin 1024) (l : Fin 1792) :
    bblk m c t (ix2 r l) = right m c (ix2 ⟨1024 * (t % 4) + r.val, by omega⟩ ⟨1792 * (t / 4) + l.val, by omega⟩) := by
  have e := (at_point ⟨t, h⟩).2.1
  unfold bblk right
  rw [dif_pos (show t < cfg0.N from h)]
  blk_ext [iblk, V, e]

/-- The kept blocks after the run, eight in a row. -/
def kept (c : Dev nD) : S8x2048x896.Idx → Elt F .bf16 :=
  fun x => blocks m c ((x 0).val / 2) (ix3 (⟨(x 0).val % 2, by omega⟩ : Fin 2) (x 1) (x 2))

theorem kept_of (c : Dev nD) (x : S8x2048x896.Idx) (j : ℕ) (y : S2x2048x896.Idx) (h0 : (x 0).val = 2 * j + (y 0).val)
    (h1 : (x 1).val = (y 1).val) (h2 : (x 2).val = (y 2).val) : kept m c x = blocks m c j y := by
  have hy : (y 0).val < 2 := (y 0).isLt
  have hj : (x 0).val / 2 = j := by omega
  unfold kept
  rw [hj]
  refine congrArg (blocks m c j) (funext fun a => ?_)
  fin_cases a
  · exact Fin.ext (show (x 0).val % 2 = (y 0).val by omega)
  · exact Fin.ext h1
  · exact Fin.ext h2

theorem kept_all (c : Dev nD) : (dats m 0 c).arrAt 2 cfg0.N = kept m c := by
  refine (dats m 0 c).arrAt_eq_of_covers 2 _ (by decide +kernel) fun t hf y => ?_
  have e := (at_point t).2.2
  blk_simp
  show blocks m c (t.val / 4) y = _
  refine (kept_of m c _ (t.val / 4) y ?_ ?_ ?_).symm
  · exact (win0_2.rect_emb_val t y 0).trans (by rw [e]; show t.val / 4 * 2 + (y 0).val = _; omega)
  · exact (win0_2.rect_emb_val t y 1).trans (by rw [e]; show 0 * 2048 + (y 1).val = _; omega)
  · exact (win0_2.rect_emb_val t y 2).trans (by rw [e]; show 0 * 896 + (y 2).val = _; omega)

end Blocks

/-! ### Over the reals -/

section Reals

variable (m : (ℓ : Loc nD τ sig) → Buf (Elt Ideal) ℓ)

theorem acc_step (c : Dev nD) (t : ℕ) (h : t < 16) (k : Fin 2048) (l : Fin 1792) :
    accAt m c t (ix2 k l) = (if t % 4 = 0 then 0 else accAt m c (t - 1) (ix2 k l))
      + ∑ r : Fin 1024, left m c (ix2 ⟨1024 * (t % 4) + r.val, by omega⟩ k) * right m c (ix2 ⟨1024 * (t % 4) + r.val, by omega⟩ ⟨1792 * (t / 4) + l.val, by omega⟩) := by
  have e : accAt m c t = k0_pay1 (if t % 4 = 0 then k0_pay8 else accAt m c (t - 1)) (k0_pay9 (ablk m c t)) (bblk m c t) := by
    cases t with
    | zero => rfl
    | succ n => rfl
  rw [e]
  refine (pay_step _ _ _ k l).trans (congrArg₂ (· + ·) ?_ (Finset.sum_congr rfl fun r _ => ?_))
  · by_cases hz : t % 4 = 0
    · rw [if_pos hz, if_pos hz]; exact pay_zero k l
    · rw [if_neg hz, if_neg hz]; rfl
  · exact congrArg₂ (· * ·) (left_at m c t h r k) (right_at m c t h r l)

/-- A sum over 4096 rows, a quarter at a time. -/
theorem quarters (f : Fin 4096 → EReal) :
    ∑ s : Fin 4096, f s = 0 + (∑ r : Fin 1024, f ⟨1024 * 0 + r.val, by omega⟩) + (∑ r : Fin 1024, f ⟨1024 * 1 + r.val, by omega⟩)
      + (∑ r : Fin 1024, f ⟨1024 * 2 + r.val, by omega⟩) + ∑ r : Fin 1024, f ⟨1024 * 3 + r.val, by omega⟩ := by
  have e1 := Fin.sum_univ_add (a := 3072) (b := 1024) f
  have e2 := Fin.sum_univ_add (a := 2048) (b := 1024) fun i => f (Fin.castAdd 1024 i : Fin (3072 + 1024))
  have e3 := Fin.sum_univ_add (a := 1024) (b := 1024) fun i => f (Fin.castAdd 1024 (Fin.castAdd 1024 i : Fin (2048 + 1024)) : Fin (3072 + 1024))
  refine e1.trans ((congrArg (· + _) (e2.trans (congrArg (· + _) e3))).trans ?_)
  rw [zero_add]
  refine congrArg₂ (· + ·) (congrArg₂ (· + ·) (congrArg₂ (· + ·) ?_ ?_) ?_) ?_ <;>
    exact Finset.sum_congr rfl fun r _ => congrArg f (Fin.ext (by simp [Fin.castAdd, Fin.natAdd, Fin.castLE]))

theorem total (c : Dev nD) (j : ℕ) (h : j < 4) (k : Fin 2048) (l : Fin 1792) :
    accAt m c (4 * j + 3) (ix2 k l) = ∑ s : Fin 4096, left m c (ix2 s k) * right m c (ix2 s ⟨1792 * j + l.val, by omega⟩) := by
  rw [quarters]
  have st (i : ℕ) (hi : i < 4) := acc_step m c (4 * j + i) (by omega) k l
  have e3 := st 3 (by omega)
  have e2 := st 2 (by omega)
  have e1 := st 1 (by omega)
  have e0 := st 0 (by omega)
  have md (i : ℕ) (hi : i < 4) : (4 * j + i) % 4 = i := by omega
  have dv (i : ℕ) (hi : i < 4) : (4 * j + i) / 4 = j := by omega
  simp only [md 3 (by omega), dv 3 (by omega)] at e3
  simp only [md 2 (by omega), dv 2 (by omega)] at e2
  simp only [md 1 (by omega), dv 1 (by omega)] at e1
  simp only [md 0 (by omega), dv 0 (by omega)] at e0
  rw [if_neg (by omega)] at e3 e2 e1
  rw [if_pos trivial] at e0
  rw [e3, show 4 * j + 3 - 1 = 4 * j + 2 by omega, e2, show 4 * j + 2 - 1 = 4 * j + 1 by omega, e1,
    show 4 * j + 1 - 1 = 4 * j + 0 by omega, e0]

/-- Block `b` of pair `j`: columns `896 (2 j + b)` onward of the one product. -/
theorem blocks_sum (c : Dev nD) (j : ℕ) (h : j < 4) (b : Fin 2) (k : Fin 2048) (l : Fin 896) :
    blocks m c j (ix3 b k l)
      = ∑ s : Fin 4096, left m c (ix2 s k) * right m c (ix2 s ⟨896 * (2 * j + b.val) + l.val, by omega⟩) := by
  refine (pay_block _ k l).trans ((total m c j h k ⟨896 * b.val + l.val, by omega⟩).trans ?_)
  refine Finset.sum_congr rfl fun s _ => congrArg (fun q => left m c (ix2 s k) * right m c (ix2 s q)) (Fin.ext ?_)
  show 1792 * j + (896 * b.val + l.val) = 896 * (2 * j + b.val) + l.val
  omega

end Reals

end Cert.KernelIdeal.GW

end
-- ==== Proof.Whole.lean ====
module

public import proofs.«01_k».proof.Proof.Gen.ReferenceIdeal.Read
public import Idealize.ShloMosaic.Lib.Pointwise
public import Idealize.ShloMosaic.PureOps.Ideal

@[expose] public section

noncomputable section

/-! The reference on the whole arrays, entry by entry: each product a sum over one device's 4096 rows, each
exchanged array a rearrangement of its rows of blocks. -/

namespace Cert.ReferenceIdeal.Whole

open Idealize.ShloMosaic Idealize.SL.Sem
open Idealize.ShloMosaic.TcCoe
open Cert.ReferenceIdeal Cert.ReferenceIdeal.Gen Cert.ReferenceIdeal.Read
open scoped BigOperators

set_option Elab.async false

theorem same2 {n0 n1 : ℕ} (x : (⟨2, ![n0, n1]⟩ : Shape).Idx) (a : Fin n0) (b : Fin n1) (h0 : (x 0).val = a.val) (h1 : (x 1).val = b.val) :
    x = ix2 a b := funext fun i => match i with
  | ⟨0, _⟩ => Fin.ext h0
  | ⟨1, _⟩ => Fin.ext h1

theorem same3 {n0 n1 n2 : ℕ} (x : (⟨3, ![n0, n1, n2]⟩ : Shape).Idx) (a : Fin n0) (b : Fin n1) (c : Fin n2)
    (h0 : (x 0).val = a.val) (h1 : (x 1).val = b.val) (h2 : (x 2).val = c.val) : x = ix3 a b c := funext fun i => match i with
  | ⟨0, _⟩ => Fin.ext h0
  | ⟨1, _⟩ => Fin.ext h1
  | ⟨2, _⟩ => Fin.ext h2

theorem same4 {n0 n1 n2 n3 : ℕ} (x : (⟨4, ![n0, n1, n2, n3]⟩ : Shape).Idx) (a : Fin n0) (b : Fin n1) (c : Fin n2) (d : Fin n3)
    (h0 : (x 0).val = a.val) (h1 : (x 1).val = b.val) (h2 : (x 2).val = c.val) (h3 : (x 3).val = d.val) :
    x = ix4 a b c d := funext fun i => match i with
  | ⟨0, _⟩ => Fin.ext h0
  | ⟨1, _⟩ => Fin.ext h1
  | ⟨2, _⟩ => Fin.ext h2
  | ⟨3, _⟩ => Fin.ext h3

theorem same5 {n0 n1 n2 n3 n4 : ℕ} (x : (⟨5, ![n0, n1, n2, n3, n4]⟩ : Shape).Idx) (a : Fin n0) (b : Fin n1) (c : Fin n2) (d : Fin n3) (e : Fin n4)
    (h0 : (x 0).val = a.val) (h1 : (x 1).val = b.val) (h2 : (x 2).val = c.val) (h3 : (x 3).val = d.val) (h4 : (x 4).val = e.val) :
    x = ix5 a b c d e := funext fun i => match i with
  | ⟨0, _⟩ => Fin.ext h0
  | ⟨1, _⟩ => Fin.ext h1
  | ⟨2, _⟩ => Fin.ext h2
  | ⟨3, _⟩ => Fin.ext h3
  | ⟨4, _⟩ => Fin.ext h4

/-! ### The products -/

section Products

variable (A : S32768x2048.Idx → Elt Ideal .bf16) (B : S32768x7168.Idx → Elt Ideal .bf16)

/-- Block `b` of device `d`. -/
def block (d b : Fin 8) (k : Fin 2048) (l : Fin 896) : EReal :=
  ∑ s : Fin 4096, A (ix2 ⟨4096 * d.val + s.val, by omega⟩ k) * B (ix2 ⟨4096 * d.val + s.val, by omega⟩ ⟨896 * b.val + l.val, by omega⟩)

theorem product_at (d b : Fin 8) (k : Fin 2048) (l : Fin 896) : val_main_v6 A B (ix4 d b k l) = block A B d b k l := by
  have hd := d.isLt
  have hb := b.isLt
  have hk := k.isLt
  have hl := l.isLt
  show val_main_v5 A B (ix4 d b k l) = _
  rw [val_main_v5_apply, val_main_v4_apply]
  refine Finset.sum_congr rfl fun s _ => ?_
  have hs := s.isLt
  rw [mul_comm, val_main_v1_apply, val_main_v3_apply]
  refine congrArg₂ (fun x y : EReal => x * y) (congrArg A (same2 _ _ _ ?_ ?_)) (congrArg B (same2 _ _ _ ?_ ?_))
  · show ((d.val * 4096 + s.val) * 2048 + k.val) / 2048 = 4096 * d.val + s.val
    omega
  · show ((d.val * 4096 + s.val) * 2048 + k.val) % 2048 = k.val
    omega
  · show (((d.val * 4096 + s.val) * 8 + b.val) * 896 + l.val) / 7168 = 4096 * d.val + s.val
    omega
  · show (((d.val * 4096 + s.val) * 8 + b.val) * 896 + l.val) % 7168 = 896 * b.val + l.val
    omega

/-- The first result: the blocks in order, eight of each device. -/
theorem own_at (d b : Fin 8) (k : Fin 2048) (l : Fin 896) (i : S64x2048x896.Idx) (h0 : (i 0).val = 8 * d.val + b.val)
    (h1 : (i 1).val = k.val) (h2 : (i 2).val = l.val) : val_main_v24 A B i = block A B d b k l := by
  have hb := b.isLt
  have hk := k.isLt
  have hl := l.isLt
  rw [val_main_v24_apply, ← product_at]
  refine congrArg (val_main_v6 A B) (same4 _ _ _ _ _ ?_ ?_ ?_ ?_)
  · show (((i 0).val * 2048 + (i 1).val) * 896 + (i 2).val) / 14680064 = d.val
    rw [h0, h1, h2]; omega
  · show (((i 0).val * 2048 + (i 1).val) * 896 + (i 2).val) / 1835008 % 8 = b.val
    rw [h0, h1, h2]; omega
  · show (((i 0).val * 2048 + (i 1).val) * 896 + (i 2).val) / 896 % 2048 = k.val
    rw [h0, h1, h2]; omega
  · show (((i 0).val * 2048 + (i 1).val) * 896 + (i 2).val) % 896 = l.val
    rw [h0, h1, h2]; omega

theorem even_at (q p : Fin 4) (k : Fin 2048) (l : Fin 896) :
    val_main_v9 A B (ix5 q (0 : Fin 1) p k l) = block A B ⟨2 * q.val + 1, by omega⟩ ⟨2 * p.val, by omega⟩ k l := by
  rw [val_main_v9_apply, ← product_at]
  refine congrArg (val_main_v6 A B) (same4 _ _ _ _ _ ?_ ?_ ?_ ?_)
  · show 1 + 2 * q.val = 2 * q.val + 1
    omega
  · show 0 + 2 * p.val = 2 * p.val
    omega
  · show 0 + 1 * k.val = k.val
    omega
  · show 0 + 1 * l.val = l.val
    omega

theorem odd_at (q p : Fin 4) (k : Fin 2048) (l : Fin 896) :
    val_main_v10 A B (ix5 q (0 : Fin 1) p k l) = block A B ⟨2 * q.val, by omega⟩ ⟨2 * p.val + 1, by omega⟩ k l := by
  rw [val_main_v10_apply, ← product_at]
  refine congrArg (val_main_v6 A B) (same4 _ _ _ _ _ ?_ ?_ ?_ ?_)
  · show 0 + 2 * q.val = 2 * q.val
    omega
  · show 1 + 2 * p.val = 2 * p.val + 1
    omega
  · show 0 + 1 * k.val = k.val
    omega
  · show 0 + 1 * l.val = l.val
    omega

theorem crossed_even (q p : Fin 4) (k : Fin 2048) (l : Fin 896) :
    val_main_v11 A B (ix5 q (0 : Fin 2) p k l) = block A B ⟨2 * q.val + 1, by omega⟩ ⟨2 * p.val, by omega⟩ k l := by
  rw [← even_at]
  unfold val_main_v11
  exact concatenate_pair_apply_left (1 : Fin S4x2x4x2048x896.rank) (val_main_v9 A B) (val_main_v10 A B)
    concatenates_S4x1x4x2048x896_S4x1x4x2048x896_S4x2x4x2048x896_d1 (ix5 q (0 : Fin 2) p k l) rfl (ix5 q (0 : Fin 1) p k l) (fun b => match b with
    | ⟨0, _⟩ => rfl
    | ⟨1, _⟩ => rfl
    | ⟨2, _⟩ => rfl
    | ⟨3, _⟩ => rfl
    | ⟨4, _⟩ => rfl)

theorem crossed_odd (q p : Fin 4) (k : Fin 2048) (l : Fin 896) :
    val_main_v11 A B (ix5 q (1 : Fin 2) p k l) = block A B ⟨2 * q.val, by omega⟩ ⟨2 * p.val + 1, by omega⟩ k l := by
  rw [← odd_at]
  unfold val_main_v11
  exact concatenate_pair_apply_right (1 : Fin S4x2x4x2048x896.rank) (val_main_v9 A B) (val_main_v10 A B)
    concatenates_S4x1x4x2048x896_S4x1x4x2048x896_S4x2x4x2048x896_d1 (ix5 q (1 : Fin 2) p k l) rfl rfl (ix5 q (0 : Fin 1) p k l) (fun b hb => match b, hb with
    | ⟨0, _⟩, _ => rfl
    | ⟨1, _⟩, hb => absurd rfl hb
    | ⟨2, _⟩, _ => rfl
    | ⟨3, _⟩, _ => rfl
    | ⟨4, _⟩, _ => rfl) rfl

theorem swapped_at (q : Fin 4) (c : Fin 2) (p : Fin 4) (k : Fin 2048) (l : Fin 896) (i : S32x2048x896.Idx)
    (h0 : (i 0).val = 4 * (2 * q.val + c.val) + p.val) (h1 : (i 1).val = k.val) (h2 : (i 2).val = l.val) :
    val_main_v25 A B i = val_main_v11 A B (ix5 q c p k l) := by
  have hc := c.isLt
  have hp := p.isLt
  have hk := k.isLt
  have hl := l.isLt
  rw [val_main_v25_apply]
  refine congrArg (val_main_v11 A B) (same5 _ _ _ _ _ _ ?_ ?_ ?_ ?_ ?_)
  · show (((i 0).val * 2048 + (i 1).val) * 896 + (i 2).val) / 14680064 = q.val
    rw [h0, h1, h2]; omega
  · show (((i 0).val * 2048 + (i 1).val) * 896 + (i 2).val) / 7340032 % 2 = c.val
    rw [h0, h1, h2]; omega
  · show (((i 0).val * 2048 + (i 1).val) * 896 + (i 2).val) / 1835008 % 4 = p.val
    rw [h0, h1, h2]; omega
  · show (((i 0).val * 2048 + (i 1).val) * 896 + (i 2).val) / 896 % 2048 = k.val
    rw [h0, h1, h2]; omega
  · show (((i 0).val * 2048 + (i 1).val) * 896 + (i 2).val) % 896 = l.val
    rw [h0, h1, h2]; omega

/-- The second result: of each pair of the other core's blocks, the one with this core's number. -/
theorem crossed_at (d e : Fin 8) (p : Fin 4) (b : Fin 8) (he : e.val = 2 * (d.val / 2) + (1 - d.val % 2)) (hb : b.val = 2 * p.val + d.val % 2)
    (k : Fin 2048) (l : Fin 896) (i : S32x2048x896.Idx)
    (h0 : (i 0).val = 4 * d.val + p.val) (h1 : (i 1).val = k.val) (h2 : (i 2).val = l.val) :
    val_main_v25 A B i = block A B e b k l := by
  rcases Nat.mod_two_eq_zero_or_one d.val with h | h
  · refine (swapped_at A B ⟨d.val / 2, by omega⟩ 0 p k l i (h0.trans ?_) h1 h2).trans ((crossed_even A B _ p k l).trans ?_)
    · show 4 * d.val + p.val = 4 * (2 * (d.val / 2) + 0) + p.val
      omega
    · exact congrArg₂ (fun x y => block A B x y k l) (Fin.ext (show 2 * (d.val / 2) + 1 = e.val by omega)) (Fin.ext (show 2 * p.val = b.val by omega))
  · refine (swapped_at A B ⟨d.val / 2, by omega⟩ 1 p k l i (h0.trans ?_) h1 h2).trans ((crossed_odd A B _ p k l).trans ?_)
    · show 4 * d.val + p.val = 4 * (2 * (d.val / 2) + 1) + p.val
      omega
    · exact congrArg₂ (fun x y => block A B x y k l) (Fin.ext (show 2 * (d.val / 2) = e.val by omega)) (Fin.ext (show 2 * p.val + 1 = b.val by omega))

end Products

/-! ### The rearranged arrays: chip and row of the stack trade places -/

section Rearranged

variable {F : FTy → Type} [FloatOps F]

theorem moved2_at (S : S32x256x2048.Idx → Elt F .bf16) (h q : Fin 4) (c : Fin 2) (a : Fin 256) (z : Fin 2048) (i : S32x256x2048.Idx)
    (h0 : (i 0).val = 4 * (2 * h.val + c.val) + q.val) (h1 : (i 1).val = a.val) (h2 : (i 2).val = z.val) :
    val_main_v14 S i = S (ix3 ⟨4 * (2 * q.val + c.val) + h.val, by omega⟩ a z) := by
  have hh := h.isLt
  have hq := q.isLt
  have hc := c.isLt
  have ha := a.isLt
  have hz := z.isLt
  have e : idx_main_v14 i = ix5 h c q a z := same5 _ _ _ _ _ _
    (show (((i 0).val * 256 + (i 1).val) * 2048 + (i 2).val) / 4194304 = h.val by rw [h0, h1, h2]; omega)
    (show (((i 0).val * 256 + (i 1).val) * 2048 + (i 2).val) / 2097152 % 2 = c.val by rw [h0, h1, h2]; omega)
    (show (((i 0).val * 256 + (i 1).val) * 2048 + (i 2).val) / 524288 % 4 = q.val by rw [h0, h1, h2]; omega)
    (show (((i 0).val * 256 + (i 1).val) * 2048 + (i 2).val) / 2048 % 256 = a.val by rw [h0, h1, h2]; omega)
    (show (((i 0).val * 256 + (i 1).val) * 2048 + (i 2).val) % 2048 = z.val by rw [h0, h1, h2]; omega)
  rw [val_main_v14_apply, e, val_main_v13_apply, val_main_v12_apply]
  refine congrArg S (same3 _ _ _ _ ?_ ?_ ?_)
  · show ((((q.val * 2 + c.val) * 4 + h.val) * 256 + a.val) * 2048 + z.val) / 524288 = 4 * (2 * q.val + c.val) + h.val
    omega
  · show ((((q.val * 2 + c.val) * 4 + h.val) * 256 + a.val) * 2048 + z.val) / 2048 % 256 = a.val
    omega
  · show ((((q.val * 2 + c.val) * 4 + h.val) * 256 + a.val) * 2048 + z.val) % 2048 = z.val
    omega

theorem moved3_at (S : S32x128x256.Idx → Elt F .bf16) (h q : Fin 4) (c : Fin 2) (a : Fin 128) (z : Fin 256) (i : S32x128x256.Idx)
    (h0 : (i 0).val = 4 * (2 * h.val + c.val) + q.val) (h1 : (i 1).val = a.val) (h2 : (i 2).val = z.val) :
    val_main_v17 S i = S (ix3 ⟨4 * (2 * q.val + c.val) + h.val, by omega⟩ a z) := by
  have hh := h.isLt
  have hq := q.isLt
  have hc := c.isLt
  have ha := a.isLt
  have hz := z.isLt
  have e : idx_main_v17 i = ix5 h c q a z := same5 _ _ _ _ _ _
    (show (((i 0).val * 128 + (i 1).val) * 256 + (i 2).val) / 262144 = h.val by rw [h0, h1, h2]; omega)
    (show (((i 0).val * 128 + (i 1).val) * 256 + (i 2).val) / 131072 % 2 = c.val by rw [h0, h1, h2]; omega)
    (show (((i 0).val * 128 + (i 1).val) * 256 + (i 2).val) / 32768 % 4 = q.val by rw [h0, h1, h2]; omega)
    (show (((i 0).val * 128 + (i 1).val) * 256 + (i 2).val) / 256 % 128 = a.val by rw [h0, h1, h2]; omega)
    (show (((i 0).val * 128 + (i 1).val) * 256 + (i 2).val) % 256 = z.val by rw [h0, h1, h2]; omega)
  rw [val_main_v17_apply, e, val_main_v16_apply, val_main_v15_apply]
  refine congrArg S (same3 _ _ _ _ ?_ ?_ ?_)
  · show ((((q.val * 2 + c.val) * 4 + h.val) * 128 + a.val) * 256 + z.val) / 32768 = 4 * (2 * q.val + c.val) + h.val
    omega
  · show ((((q.val * 2 + c.val) * 4 + h.val) * 128 + a.val) * 256 + z.val) / 256 % 128 = a.val
    omega
  · show ((((q.val * 2 + c.val) * 4 + h.val) * 128 + a.val) * 256 + z.val) % 256 = z.val
    omega

theorem moved4_at (S : S32x1120x128.Idx → Elt F .f32) (h q : Fin 4) (c : Fin 2) (a : Fin 1120) (z : Fin 128) (i : S32x1120x128.Idx)
    (h0 : (i 0).val = 4 * (2 * h.val + c.val) + q.val) (h1 : (i 1).val = a.val) (h2 : (i 2).val = z.val) :
    val_main_v20 S i = S (ix3 ⟨4 * (2 * q.val + c.val) + h.val, by omega⟩ a z) := by
  have hh := h.isLt
  have hq := q.isLt
  have hc := c.isLt
  have ha := a.isLt
  have hz := z.isLt
  have e : idx_main_v20 i = ix5 h c q a z := same5 _ _ _ _ _ _
    (show (((i 0).val * 1120 + (i 1).val) * 128 + (i 2).val) / 1146880 = h.val by rw [h0, h1, h2]; omega)
    (show (((i 0).val * 1120 + (i 1).val) * 128 + (i 2).val) / 573440 % 2 = c.val by rw [h0, h1, h2]; omega)
    (show (((i 0).val * 1120 + (i 1).val) * 128 + (i 2).val) / 143360 % 4 = q.val by rw [h0, h1, h2]; omega)
    (show (((i 0).val * 1120 + (i 1).val) * 128 + (i 2).val) / 128 % 1120 = a.val by rw [h0, h1, h2]; omega)
    (show (((i 0).val * 1120 + (i 1).val) * 128 + (i 2).val) % 128 = z.val by rw [h0, h1, h2]; omega)
  rw [val_main_v20_apply, e, val_main_v19_apply, val_main_v18_apply]
  refine congrArg S (same3 _ _ _ _ ?_ ?_ ?_)
  · show ((((q.val * 2 + c.val) * 4 + h.val) * 1120 + a.val) * 128 + z.val) / 143360 = 4 * (2 * q.val + c.val) + h.val
    omega
  · show ((((q.val * 2 + c.val) * 4 + h.val) * 1120 + a.val) * 128 + z.val) / 128 % 1120 = a.val
    omega
  · show ((((q.val * 2 + c.val) * 4 + h.val) * 1120 + a.val) * 128 + z.val) % 128 = z.val
    omega

theorem moved5_at (S : S32x384x2048.Idx → Elt F .bf16) (h q : Fin 4) (c : Fin 2) (a : Fin 384) (z : Fin 2048) (i : S32x384x2048.Idx)
    (h0 : (i 0).val = 4 * (2 * h.val + c.val) + q.val) (h1 : (i 1).val = a.val) (h2 : (i 2).val = z.val) :
    val_main_v23 S i = S (ix3 ⟨4 * (2 * q.val + c.val) + h.val, by omega⟩ a z) := by
  have hh := h.isLt
  have hq := q.isLt
  have hc := c.isLt
  have ha := a.isLt
  have hz := z.isLt
  have e : idx_main_v23 i = ix5 h c q a z := same5 _ _ _ _ _ _
    (show (((i 0).val * 384 + (i 1).val) * 2048 + (i 2).val) / 6291456 = h.val by rw [h0, h1, h2]; omega)
    (show (((i 0).val * 384 + (i 1).val) * 2048 + (i 2).val) / 3145728 % 2 = c.val by rw [h0, h1, h2]; omega)
    (show (((i 0).val * 384 + (i 1).val) * 2048 + (i 2).val) / 786432 % 4 = q.val by rw [h0, h1, h2]; omega)
    (show (((i 0).val * 384 + (i 1).val) * 2048 + (i 2).val) / 2048 % 384 = a.val by rw [h0, h1, h2]; omega)
    (show (((i 0).val * 384 + (i 1).val) * 2048 + (i 2).val) % 2048 = z.val by rw [h0, h1, h2]; omega)
  rw [val_main_v23_apply, e, val_main_v22_apply, val_main_v21_apply]
  refine congrArg S (same3 _ _ _ _ ?_ ?_ ?_)
  · show ((((q.val * 2 + c.val) * 4 + h.val) * 384 + a.val) * 2048 + z.val) / 786432 = 4 * (2 * q.val + c.val) + h.val
    omega
  · show ((((q.val * 2 + c.val) * 4 + h.val) * 384 + a.val) * 2048 + z.val) / 2048 % 384 = a.val
    omega
  · show ((((q.val * 2 + c.val) * 4 + h.val) * 384 + a.val) * 2048 + z.val) % 2048 = z.val
    omega

end Rearranged

end Cert.ReferenceIdeal.Whole

end
-- ==== Proof.Match.lean ====
module

public import proofs.«01_k».proof.Proof.Sums
public import proofs.«01_k».proof.Proof.Whole
public import Idealize.ShloMosaic.Lib.Layout

@[expose] public section

noncomputable section

/-! Each device's results are its parts of the reference's. -/

namespace Cert.KernelIdeal.GW

open Idealize.ShloMosaic Idealize.SL.Sem
open Idealize.ShloMosaic.TcCoe
open Idealize.ShloMosaic.ValueIdx hiding ix2 ix3
open Idealize.ShloMosaic.Pipeline
open Cert.KernelIdeal.Gen
open Cert.ReferenceIdeal.Whole (block own_at crossed_at moved2_at moved3_at moved4_at moved5_at)
open scoped BigOperators

set_option Elab.async false
set_option backward.proofsInPublic true

theorem sibling_val (c : Dev nD) : (flip 1 c).val = 2 * (c.val / 2) + (1 - c.val % 2) := by revert c; decide

variable (m : (ℓ : Loc nD τ sig) → Buf (Elt Ideal) ℓ)

section Products

variable (A : (⟨2, ![32768, 2048]⟩ : Shape).Idx → Elt Ideal .bf16) (B : (⟨2, ![32768, 7168]⟩ : Shape).Idx → Elt Ideal .bf16)
  (hA : ∀ c : Dev nD, left m c = Layout.block ⟨2, ![4096, 2048]⟩ ⟨2, ![32768, 2048]⟩ 0 8 c A)
  (hB : ∀ c : Dev nD, right m c = Layout.block ⟨2, ![4096, 7168]⟩ ⟨2, ![32768, 7168]⟩ 0 8 c B)

include hA hB

theorem blocks_block (c : Dev nD) (j : ℕ) (h : j < 4) (b : Fin 2) (k : Fin 2048) (l : Fin 896) (d e : Fin 8) (hd : d.val = c.val) (he : e.val = 2 * j + b.val) :
    blocks m c j (ix3 b k l) = block A B d e k l := by
  refine (blocks_sum m c j h b k l).trans (Finset.sum_congr rfl fun s _ => ?_)
  rw [hA c, hB c]
  refine congrArg₂ (fun x y : EReal => x * y) (congrArg A (Cert.ReferenceIdeal.Whole.same2 _ _ _ ?_ ?_)) (congrArg B (Cert.ReferenceIdeal.Whole.same2 _ _ _ ?_ ?_))
  · show c.val * 4096 + s.val = 4096 * d.val + s.val
    omega
  · rfl
  · show c.val * 4096 + s.val = 4096 * d.val + s.val
    omega
  · show 896 * (2 * j + b.val) + l.val = 896 * e.val + l.val
    omega

theorem kept_match (c : Dev nD) :
    kept m c = Layout.block ⟨3, ![8, 2048, 896]⟩ ⟨3, ![64, 2048, 896]⟩ 0 8 c (Cert.ReferenceIdeal.Read.val_main_v24 A B) := by
  funext x
  rw [Layout.block_apply]
  have hx : (x 0).val < 8 := (x 0).isLt
  refine (blocks_block m A B hA hB c ((x 0).val / 2) (by omega) _ _ _ ⟨c.val, c.isLt⟩ ⟨(x 0).val, hx⟩ rfl ?_).trans
    (own_at A B ⟨c.val, c.isLt⟩ ⟨(x 0).val, hx⟩ (x 1) (x 2) _ ?_ rfl rfl).symm
  · show (x 0).val = 2 * ((x 0).val / 2) + (x 0).val % 2
    omega
  · show c.val * 8 + (x 0).val = 8 * c.val + (x 0).val
    omega

theorem theirs_match (c : Dev nD) :
    theirs m c = Layout.block ⟨3, ![4, 2048, 896]⟩ ⟨3, ![32, 2048, 896]⟩ 0 8 c (Cert.ReferenceIdeal.Read.val_main_v25 A B) := by
  funext x
  rw [Layout.block_apply]
  have hx : (x 0).val < 4 := (x 0).isLt
  have hc : c.val < 8 := c.isLt
  refine (blocks_block m A B hA hB (flip 1 c) (x 0).val hx _ _ _ ⟨(flip 1 c).val, (flip 1 c).isLt⟩ ⟨2 * (x 0).val + c.val % 2, by omega⟩ rfl rfl).trans
    (crossed_at A B ⟨c.val, c.isLt⟩ ⟨(flip 1 c).val, (flip 1 c).isLt⟩ ⟨(x 0).val, hx⟩ _ (sibling_val c) rfl (x 1) (x 2) _ ?_ rfl rfl).symm
  show c.val * 4 + (x 0).val = 4 * c.val + (x 0).val
  omega

end Products

theorem arrived0_match (S : (⟨3, ![32, 256, 2048]⟩ : Shape).Idx → Elt Ideal .bf16)
    (hS : ∀ c : Dev nD, s0 m c = Layout.block ⟨3, ![4, 256, 2048]⟩ ⟨3, ![32, 256, 2048]⟩ 0 8 c S) (c : Dev nD) :
    arrived (s0 m) c = Layout.block ⟨3, ![4, 256, 2048]⟩ ⟨3, ![32, 256, 2048]⟩ 0 8 c (Cert.ReferenceIdeal.Read.val_main_v14 S) := by
  funext x
  rw [Layout.block_apply]
  have hc : c.val < 8 := c.isLt
  refine Eq.trans ?_ (moved2_at S (chip c) (x 0) (core c) (x 1) (x 2) _ ?_ rfl rfl).symm
  · unfold arrived
    rw [hS]
    refine congrArg S (Cert.ReferenceIdeal.Whole.same3 _ _ _ _ ?_ rfl rfl)
    show (2 * (x 0).val + c.val % 2) * 4 + c.val / 2 = 4 * (2 * (x 0).val + c.val % 2) + c.val / 2
    omega
  · show c.val * 4 + (x 0).val = 4 * (2 * (c.val / 2) + c.val % 2) + (x 0).val
    omega

theorem arrived1_match (S : (⟨3, ![32, 128, 256]⟩ : Shape).Idx → Elt Ideal .bf16)
    (hS : ∀ c : Dev nD, s1 m c = Layout.block ⟨3, ![4, 128, 256]⟩ ⟨3, ![32, 128, 256]⟩ 0 8 c S) (c : Dev nD) :
    arrived (s1 m) c = Layout.block ⟨3, ![4, 128, 256]⟩ ⟨3, ![32, 128, 256]⟩ 0 8 c (Cert.ReferenceIdeal.Read.val_main_v17 S) := by
  funext x
  rw [Layout.block_apply]
  have hc : c.val < 8 := c.isLt
  refine Eq.trans ?_ (moved3_at S (chip c) (x 0) (core c) (x 1) (x 2) _ ?_ rfl rfl).symm
  · unfold arrived
    rw [hS]
    refine congrArg S (Cert.ReferenceIdeal.Whole.same3 _ _ _ _ ?_ rfl rfl)
    show (2 * (x 0).val + c.val % 2) * 4 + c.val / 2 = 4 * (2 * (x 0).val + c.val % 2) + c.val / 2
    omega
  · show c.val * 4 + (x 0).val = 4 * (2 * (c.val / 2) + c.val % 2) + (x 0).val
    omega

theorem arrived2_match (S : (⟨3, ![32, 1120, 128]⟩ : Shape).Idx → Elt Ideal .f32)
    (hS : ∀ c : Dev nD, s2 m c = Layout.block ⟨3, ![4, 1120, 128]⟩ ⟨3, ![32, 1120, 128]⟩ 0 8 c S) (c : Dev nD) :
    arrived (s2 m) c = Layout.block ⟨3, ![4, 1120, 128]⟩ ⟨3, ![32, 1120, 128]⟩ 0 8 c (Cert.ReferenceIdeal.Read.val_main_v20 S) := by
  funext x
  rw [Layout.block_apply]
  have hc : c.val < 8 := c.isLt
  refine Eq.trans ?_ (moved4_at S (chip c) (x 0) (core c) (x 1) (x 2) _ ?_ rfl rfl).symm
  · unfold arrived
    rw [hS]
    refine congrArg S (Cert.ReferenceIdeal.Whole.same3 _ _ _ _ ?_ rfl rfl)
    show (2 * (x 0).val + c.val % 2) * 4 + c.val / 2 = 4 * (2 * (x 0).val + c.val % 2) + c.val / 2
    omega
  · show c.val * 4 + (x 0).val = 4 * (2 * (c.val / 2) + c.val % 2) + (x 0).val
    omega

theorem arrived3_match (S : (⟨3, ![32, 384, 2048]⟩ : Shape).Idx → Elt Ideal .bf16)
    (hS : ∀ c : Dev nD, s3 m c = Layout.block ⟨3, ![4, 384, 2048]⟩ ⟨3, ![32, 384, 2048]⟩ 0 8 c S) (c : Dev nD) :
    arrived (s3 m) c = Layout.block ⟨3, ![4, 384, 2048]⟩ ⟨3, ![32, 384, 2048]⟩ 0 8 c (Cert.ReferenceIdeal.Read.val_main_v23 S) := by
  funext x
  rw [Layout.block_apply]
  have hc : c.val < 8 := c.isLt
  refine Eq.trans ?_ (moved5_at S (chip c) (x 0) (core c) (x 1) (x 2) _ ?_ rfl rfl).symm
  · unfold arrived
    rw [hS]
    refine congrArg S (Cert.ReferenceIdeal.Whole.same3 _ _ _ _ ?_ rfl rfl)
    show (2 * (x 0).val + c.val % 2) * 4 + c.val / 2 = 4 * (2 * (x 0).val + c.val % 2) + c.val / 2
    omega
  · show c.val * 4 + (x 0).val = 4 * (2 * (c.val / 2) + c.val % 2) + (x 0).val
    omega

end Cert.KernelIdeal.GW

end
-- ==== Proof.OuterPlan.lean ====
module

public import proofs.«01_k».proof.Proof.Gen.OuterIdeal
public import proofs.«01_k».proof.Proof.Gen.OuterIdeal.Skeleton
public import proofs.«01_k».proof.Proof.Gen.OuterIdeal.Launch
public import proofs.«01_k».proof.Proof.Gen.OuterIdeal.Frame
public import Mathlib.Tactic.DeriveFintype
public import proofs.«01_k».proof.Proof.Plan

@[expose] public section

noncomputable section

/-! # The exchange of the output-weight gradient, as a plan

While the kernel multiplies, every device sends to the other core of its chip the half of two stacks that belongs to that
core, and one plane four times over, and after each of the four pairs of output blocks one of the pair's two blocks. -/

namespace Cert.OuterIdeal.GO

open Idealize.ShloMosaic
open Idealize.SL
open Idealize.SL.BI
open scoped Idealize.SL.BI
open Idealize.SL.BI.BIBase Idealize.SL.BI.Laws Idealize.SL.Sem Idealize.SL.ProofMode
open Idealize.SL.RA
open Idealize.ShloMosaic.TcCoe
open Idealize.ShloMosaic.Rounds
open Idealize.ShloMosaic.ValueIdx
open Cert.OuterIdeal.Gen
open Cert.KernelIdeal.GW (flip core other core_flip)

set_option Elab.async false

variable {F : FTy → Type} [FloatOps F]

/-! ## Keys -/

/-- The single-use cells: `ps`, `pr` a block sent to and received from the other core; `ss`, `rs` half a stack sent and
    received; `sf`, `rf` a copy of the plane sent and received. -/
inductive Key
  | ps (j : Fin 4)
  | pr (j : Fin 4)
  | ss (x : Fin 2)
  | rs (x : Fin 2)
  | sf (b : Fin 4)
  | rf (b : Fin 4)
  deriving DecidableEq, Fintype

/-- The number of a key's semaphore. -/
def num : Key → ℕ
  | .ps j => 6 + j.val
  | .pr j => 10 + j.val
  | .ss x => 15 + 8 * x.val
  | .rs x => 39 + 8 * x.val
  | .sf b => 31 + b.val
  | .rf b => 55 + b.val

theorem num_lt (k : Key) : num k < 65 := by revert k; decide

/-- A key's semaphore. -/
def osem (k : Key) : SemLoc sig := .dma ⟨num k, num_lt k⟩

theorem num_inj : ∀ k k' : Key, num k = num k' → k = k' := by decide +kernel

theorem osem_inj : Function.Injective osem := by
  intro k k' h
  unfold osem at h
  injection h with h
  exact num_inj k k' (congrArg Fin.val h)

def far : Key → Bool
  | .pr _ | .rs _ | .rf _ => true
  | _ => false

def peer : Key → Equiv.Perm (Dev nD)
  | .pr _ | .rs _ | .rf _ => flip 1
  | _ => Equiv.refl _

/-! ## Stacks -/

abbrev A0 : Memref sig .tc .hbm S4x2x256x2048 .bf16 := Memref.whole main_arg2
abbrev A1 : Memref sig .tc .hbm S4x2x128x256 .bf16 := Memref.whole main_arg3
abbrev A2 : Memref sig .tc .hbm S1x1x1120x128 .f32 := Memref.whole main_arg4
abbrev D0 : Memref sig .tc .hbm S4x256x2048 .bf16 := Memref.whole main_v1_2
abbrev D1 : Memref sig .tc .hbm S4x128x256 .bf16 := Memref.whole main_v1_3
abbrev D2 : Memref sig .tc .hbm S4x1120x128 .f32 := Memref.whole main_v1_4
abbrev TH : Memref sig .tc .hbm S4x384x2048 .bf16 := Memref.whole main_v1_1
abbrev SB : Memref sig .tc .vmem S2x384x2048 .bf16 := Memref.whole cc0_scratch1
abbrev AC : Memref sig .tc .vmem S768x2048 .f32 := Memref.whole cc0_scratch0

theorem q2 : S1x1120x128.Squeezes S1120x128 := squeezes_S1x1120x128_S1120x128
theorem q4 : S1x384x2048.Squeezes S384x2048 := squeezes_S1x384x2048_S384x2048

theorem col0_inb (q : Fin 2) : ∀ a, (![0, q.val, 0, 0] : Fin 4 → ℕ) a + S4x1x256x2048.size a ≤ S4x2x256x2048.size a := by revert q; decide
theorem col1_inb (q : Fin 2) : ∀ a, (![0, q.val, 0, 0] : Fin 4 → ℕ) a + S4x1x128x256.size a ≤ S4x2x128x256.size a := by revert q; decide

/-- The half of the first stack that belongs to core `q`. -/
abbrev col0 (q : Fin 2) : Memref sig .tc .hbm S4x256x2048 .bf16 :=
  (A0.slice (Rect.unit (s := S4x2x256x2048) ![0, q.val, 0, 0] S4x1x256x2048.size (col0_inb q)) (fun _ => rfl)).squeeze S4x256x2048 squeezes_S4x1x256x2048_S4x256x2048
/-- The half of the second stack that belongs to core `q`. -/
abbrev col1 (q : Fin 2) : Memref sig .tc .hbm S4x128x256 .bf16 :=
  (A1.slice (Rect.unit (s := S4x2x128x256) ![0, q.val, 0, 0] S4x1x128x256.size (col1_inb q)) (fun _ => rfl)).squeeze S4x128x256 squeezes_S4x1x128x256_S4x128x256
/-- The plane that is sent four times. -/
abbrev pln : Memref sig .tc .hbm S1120x128 .f32 :=
  (A2.slice (Rect.unit (s := S1x1x1120x128) ![0, 0, 0, 0] S1x1x1120x128.size inb_S1x1x1120x128_S1x1x1120x128_0_0_0_0) (fun _ => rfl)).squeeze S1120x128 squeezes_S1x1x1120x128_S1120x128

/-- The units of a key's payment. -/
def amt : Key → ℕ
  | .ps _ | .pr _ => (Rows.row q4 TH 0).view.dmaCredit
  | .ss 0 | .rs 0 => D0.view.dmaCredit
  | .ss 1 | .rs 1 => D1.view.dmaCredit
  | .sf _ | .rf _ => (Rows.row q2 D2 0).view.dmaCredit

theorem amt_pos (k : Key) : 0 < amt k := by
  unfold amt
  split <;> exact View.dmaCredit_pos _ (by decide)

/-! ## Contents -/

variable (m : (ℓ : Loc nD τ sig) → Buf (Elt F) ℓ)

def s0 (c : Dev nD) : S4x2x256x2048.Idx → Elt F .bf16 := m (c.tc.loc main_arg2)
def s1 (c : Dev nD) : S4x2x128x256.Idx → Elt F .bf16 := m (c.tc.loc main_arg3)
def s2 (c : Dev nD) : S1x1x1120x128.Idx → Elt F .f32 := m (c.tc.loc main_arg4)

/-- What arrives of the first stack: this core's half of the other core's. -/
def arr0 (c : Dev nD) : S4x256x2048.Idx → Elt F .bf16 := (col0 (core c)).view.read (Elt F) (s0 m (flip 1 c))
/-- What arrives of the second stack. -/
def arr1 (c : Dev nD) : S4x128x256.Idx → Elt F .bf16 := (col1 (core c)).view.read (Elt F) (s1 m (flip 1 c))
/-- What arrives of the plane: four copies of the other core's. -/
def arr2 (c : Dev nD) : S4x1120x128.Idx → Elt F .f32 := fun x => pln.view.read (Elt F) (s2 m (flip 1 c)) (ix2 (x 1) (x 2))

/-- The staged rows of the left factor at point `t`. -/
def ablk (c : Dev nD) (t : ℕ) : Vec F S1024x768 .bf16 := if h : t < cfg0.N then iblk m c 0 ⟨t, h⟩ else fun _ => Scalar.ofBits .bf16 0
/-- The staged rows of the right factor at point `t`. -/
def bblk (c : Dev nD) (t : ℕ) : Vec F S1024x2048 .bf16 := if h : t < cfg0.N then iblk m c 1 ⟨t, h⟩ else fun _ => Scalar.ofBits .bf16 0

/-- One step of the accumulator. -/
def step (A : Vec F S768x2048 .f32) (a : Vec F S1024x768 .bf16) (b : Vec F S1024x2048 .bf16) : Vec F S768x2048 .f32 :=
  k0_pay1 A (k0_pay9 a) (k0_pay10 b) (constant S768x2048 .f32 0x00000000#32)

/-- The accumulator after point `t`: restarted at each multiple of four. -/
def accAt (c : Dev nD) : ℕ → Vec F S768x2048 .f32
  | 0 => step k0_pay8 (ablk m c 0) (bblk m c 0)
  | t + 1 => step (if (t + 1) % 4 = 0 then k0_pay8 else accAt c t) (ablk m c (t + 1)) (bblk m c (t + 1))

/-- The rows `o, …, o + 383` of the accumulator. -/
def half (A : Vec F S768x2048 .f32) (b : Fin 2) : Vec F S384x2048 .f32 :=
  fun x => A (ix2 ⟨384 * b.val + (x 0).val, by have h : (x 0).val < 384 := (x 0).isLt; have := b.isLt; omega⟩ (x 1))

/-- The two blocks of pair `j`. -/
def blocks (c : Dev nD) (j : ℕ) : S2x384x2048.Idx → Elt F .bf16 :=
  fun x => k0_pay3 (half (accAt m c (4 * j + 3)) (x 0)) (ix3 (0 : Fin 1) (x 1) (x 2))

/-- What arrives from the other core: of each of its pairs the block with this core's number. -/
def theirs (c : Dev nD) : S4x384x2048.Idx → Elt F .bf16 :=
  fun x => blocks m (flip 1 c) (x 0).val (ix3 (core c) (x 1) (x 2))

/-- The four shares in which the plane is lent to its four transfers. -/
def quarter : Fin 4 → PosShare TreeShare
  | 0 => fullShare.left.left
  | 1 => fullShare.left.right
  | 2 => fullShare.right.left
  | 3 => fullShare.right.right

/-! ## The plan -/

variable {U : Type} [URA U]
local notation "𝕄" => MT nD τ sig Unit (Elt F) ℕ U ℕ

/-- Device `c` holds what memref `M` covers, at share `q` and with the contents `f`. -/
abbrev holds {sp : Space} {s : Shape} {e : EltTy} (c : Dev nD) (M : Memref sig .tc sp s e) (q : PosShare TreeShare)
    (f : Buf (Elt F) (M.view.loc (c.tc : Thread nD τ))) : sProp 𝕄 :=
  M.view.loc (c.tc : Thread nD τ) ↦[M.view.set]{q} f

def pay (c : Dev nD) : Key → sProp 𝕄
  | .ps j => Rows.own q4 c SB (other c) (blocks m c j.val)
  | .pr j => Rows.own q4 c TH j (theirs m c)
  | .ss 0 => holds c (col0 (other c)) fullShare (s0 m c)
  | .ss 1 => holds c (col1 (other c)) fullShare (s1 m c)
  | .rs 0 => holds c D0 fullShare (arr0 m c)
  | .rs 1 => holds c D1 fullShare (arr1 m c)
  | .sf b => holds c pln (quarter b) (s2 m c)
  | .rf b => Rows.own q2 c D2 b (arr2 m c)

def gift (c : Dev nD) : Key → sProp 𝕄
  | .pr j => iprop(∃ f, Rows.own q4 c TH j f)
  | .rs 0 => iprop(∃ f, holds c D0 fullShare f)
  | .rs 1 => iprop(∃ f, holds c D1 fullShare f)
  | .rf b => iprop(∃ f, Rows.own q2 c D2 b f)
  | _ => iprop(emp)

theorem pay_storable (c : Dev nD) (k : Key) : Storable (upEmb : UEmb _ 𝕄) (pay m c k) := by
  unfold pay Rows.own holds
  split <;> infer_instance

/-- The plan of the exchange. -/
def plan : Once.Plan nD τ sig (Elt F) U Key where
  osem := osem
  inj := osem_inj
  amt := amt
  pos := amt_pos
  peer := peer
  far := far
  pay := pay m
  gift := gift
  store := pay_storable m

end Cert.OuterIdeal.GO

end
-- ==== Proof.OuterSteps.lean ====
module

public import proofs.«01_k».proof.Proof.OuterPlan

@[expose] public section

noncomputable section

/-! # One transfer, one wait

The order in which a device starts its transfers and takes their ends, and the rule of each operation at its place. -/

namespace Cert.OuterIdeal.GO

open Idealize.ShloMosaic
open Idealize.SL
open Idealize.SL.BI
open scoped Idealize.SL.BI
open Idealize.SL.BI.BIBase Idealize.SL.BI.Laws Idealize.SL.Sem Idealize.SL.ProofMode
open Idealize.SL.RA
open Idealize.ShloMosaic.TcCoe
open Idealize.ShloMosaic.Rounds
open Idealize.ShloMosaic.ValueIdx
open Idealize.ShloMosaic.Pipeline
open Cert.OuterIdeal.Gen
open Cert.KernelIdeal.GW (flip core other core_flip)

set_option Elab.async false

variable {F : FTy → Type} [FloatOps F]
variable (m : (ℓ : Loc nD τ sig) → Buf (Elt F) ℓ)
variable {U : Type} [URA U]
variable (ER : Emb (URounds (GSem nD τ sig) Unit) (MT nD τ sig Unit (Elt F) ℕ U ℕ))
local notation "𝕄" => MT nD τ sig Unit (Elt F) ℕ U ℕ

/-! ## Offsets and partners -/

theorem off1_eq : ∀ d : Dev nD, k0_off1 d = ![0, (other d).val, 0, 0] := by decide +kernel
theorem off2_eq : ∀ d : Dev nD, k0_off2 d = ![0, (other d).val, 0, 0] := by decide +kernel
theorem off6_eq : ∀ d : Dev nD, k0_off6 d = ![(other d).val, 0, 0] := by decide +kernel
theorem off7_eq : ∀ d : Dev nD, k0_off7 d = ![(other d).val, 0, 0] := by decide +kernel
theorem off8_eq : ∀ d : Dev nD, k0_off8 d = ![(other d).val, 0, 0] := by decide +kernel
theorem off9_eq : ∀ d : Dev nD, k0_off9 d = ![(other d).val, 0, 0] := by decide +kernel
theorem dev1_eq : ∀ d : Dev nD, k0_dev1 d = (flip 1 d).val := by decide +kernel
theorem dev2_eq : ∀ d : Dev nD, k0_dev2 d = (flip 1 d).val := by decide +kernel
theorem dev3_eq : ∀ d : Dev nD, k0_dev3 d = (flip 1 d).val := by decide +kernel
theorem dev4_eq : ∀ d : Dev nD, k0_dev4 d = (flip 1 d).val := by decide +kernel
theorem dev5_eq : ∀ d : Dev nD, k0_dev5 d = (flip 1 d).val := by decide +kernel
theorem dev6_eq : ∀ d : Dev nD, k0_dev6 d = (flip 1 d).val := by decide +kernel
theorem dev7_eq : ∀ d : Dev nD, k0_dev7 d = (flip 1 d).val := by decide +kernel
theorem dev8_eq : ∀ d : Dev nD, k0_dev8 d = (flip 1 d).val := by decide +kernel
theorem dev9_eq : ∀ d : Dev nD, k0_dev9 d = (flip 1 d).val := by decide +kernel
theorem dev10_eq : ∀ d : Dev nD, k0_dev10 d = (flip 1 d).val := by decide +kernel

theorem back (c : Dev nD) : flip 1 (flip 1 c) = c := Cert.KernelIdeal.GW.flip_flip 1 c

/-! ## The order -/

/-- The place of a transfer in the order they are started. -/
def place : Key → ℕ
  | .ss x | .rs x => x.val
  | .sf b | .rf b => 2 + b.val
  | .ps j | .pr j => 6 + j.val

/-- The place of a wait in the order they are made. -/
def turn : Key → ℕ
  | .ps j => j.val
  | .pr j => 4 + j.val
  | .rs x => 8 + x.val
  | .rf b => 10 + b.val
  | .ss x => 14 + x.val
  | .sf b => 16 + b.val

/-- The transfers still to start once the first `n` have been. -/
def due (n : ℕ) : Finset Key := Finset.univ.filter fun k => n ≤ place k
/-- The waits still to make once the first `w` have been. -/
def rem (w : ℕ) : Finset Key := Finset.univ.filter fun k => w ≤ turn k

theorem due_start : due 0 = Finset.univ := by decide +kernel
theorem rem_start : rem 0 = Finset.univ := by decide +kernel
theorem rem_end : rem 20 = ∅ := by decide +kernel
theorem due_end : due 10 = ∅ := by decide +kernel

/-- The device's part of the exchange after `n` starts and `w` waits. -/
abbrev stage (c : Dev nD) (n w : ℕ) : sProp 𝕄 := Once.sto (plan m) ER c (due n) (rem w)

/-- A program of the body on device `c`. -/
abbrev run (c : Dev nD) {α : Type} (p : Prog (TpuEff nD τ sig (Elt F) Λ₀ .tc) α) (Q : α → sProp 𝕄) : sProp 𝕄 :=
  wp frame (wpE (defs₀ (F := F)) Variants.none (c.tc : Thread nD τ) none) Set.univ p Q

/-! ## What a memref holds once it was written -/

/-- A memref written with the entries it already has in `g` agrees with `g`. -/
theorem write_agrees {sp : Space} {s : Shape} {e : EltTy} (D : Memref sig .tc sp s e) (fd g : D.view.ty.Contents (Elt F)) (X : s.Idx → Elt F e)
    (hg : ∀ x, D.view.read (Elt F) g x = X x) : ∀ i ∈ D.view.set, D.view.write (Elt F) fd X Finset.univ i = g i := by
  intro i hi
  obtain ⟨j, -, rfl⟩ := Finset.mem_map.mp hi
  have e1 : D.view.read (Elt F) (D.view.write (Elt F) fd X Finset.univ) j = D.view.read (Elt F) g j := by
    rw [View.read_write_univ]; exact (hg j).symm
  unfold View.read at e1
  exact (cast_inj _).mp e1

/-- The first stack's half sent to the other core. -/
theorem send0 (c : Dev nD) {α : Type} {Q : α → sProp 𝕄} (w : ℕ) (hT : Key.ss 0 ∈ rem w)
    {c' : Dev nD} {oa : Fin 4 → ℕ} (ha : oa = ![0, (other c).val, 0, 0]) {ia sa za hsc}
    {sS sem : SemLoc sig} {hsrc hdst hsem} {k' : PUnit → Prog (TpuEff nD τ sig (Elt F) Λ₀ .tc) α}
    (hc' : c'.val = (flip 1 c).val) (hsS : sS = osem (.ss 0)) (hs : sem = osem (.rs 0)) :
    iprop(stage m ER c 0 w ∗ holds c (col0 (other c)) fullShare (s0 m c))
      ⊢ iprop((stage m ER c 1 w -∗ run c (k' ⟨⟩) Q)
      -∗ run c (.op (.enqueueDma ((A0.slice (Rect.unit (s := S4x2x256x2048) oa S4x1x256x2048.size ia) sa).squeeze S4x256x2048 za)
            (.remote (c'.tc : Thread nD τ) D0 sS hsc) sem hsrc hdst hsem) k') Q) := by
  subst ha
  obtain rfl : c' = flip 1 c := Fin.ext hc'
  unfold stage
  rw [show due 1 = ((due 0).erase (.ss 0)).erase (.rs 0) from by decide +kernel]
  refine Once.send (plan m) ER c (.ss 0) (.rs 0) (due 0) (rem w) (by decide +kernel) hT (by decide +kernel) rfl rfl rfl
    (src := col0 (other c)) (dst := D0) rfl hsS hs (by rw [hs]; rfl) rfl (fs := s0 m c) (q := fullShare) BIBase.Entails.rfl BIBase.Entails.rfl ?_
  intro fd
  show _ ⊢ holds (flip 1 c) D0 fullShare (arr0 m (flip 1 c))
  unfold holds
  rw [pointsTo_congr (write_agrees D0 fd (arr0 m (flip 1 c)) _ fun x => by
    show arr0 m (flip 1 c) x = _
    unfold arr0; rw [core_flip, back])]

/-- The second stack's half sent to the other core. -/
theorem send1 (c : Dev nD) {α : Type} {Q : α → sProp 𝕄} (w : ℕ) (hT : Key.ss 1 ∈ rem w)
    {c' : Dev nD} {oa : Fin 4 → ℕ} (ha : oa = ![0, (other c).val, 0, 0]) {ia sa za hsc}
    {sS sem : SemLoc sig} {hsrc hdst hsem} {k' : PUnit → Prog (TpuEff nD τ sig (Elt F) Λ₀ .tc) α}
    (hc' : c'.val = (flip 1 c).val) (hsS : sS = osem (.ss 1)) (hs : sem = osem (.rs 1)) :
    iprop(stage m ER c 1 w ∗ holds c (col1 (other c)) fullShare (s1 m c))
      ⊢ iprop((stage m ER c 2 w -∗ run c (k' ⟨⟩) Q)
      -∗ run c (.op (.enqueueDma ((A1.slice (Rect.unit (s := S4x2x128x256) oa S4x1x128x256.size ia) sa).squeeze S4x128x256 za)
            (.remote (c'.tc : Thread nD τ) D1 sS hsc) sem hsrc hdst hsem) k') Q) := by
  subst ha
  obtain rfl : c' = flip 1 c := Fin.ext hc'
  unfold stage
  rw [show due 2 = ((due 1).erase (.ss 1)).erase (.rs 1) from by decide +kernel]
  refine Once.send (plan m) ER c (.ss 1) (.rs 1) (due 1) (rem w) (by decide +kernel) hT (by decide +kernel) rfl rfl rfl
    (src := col1 (other c)) (dst := D1) rfl hsS hs (by rw [hs]; rfl) rfl (fs := s1 m c) (q := fullShare) BIBase.Entails.rfl BIBase.Entails.rfl ?_
  intro fd
  show _ ⊢ holds (flip 1 c) D1 fullShare (arr1 m (flip 1 c))
  unfold holds
  rw [pointsTo_congr (write_agrees D1 fd (arr1 m (flip 1 c)) _ fun x => by
    show arr1 m (flip 1 c) x = _
    unfold arr1; rw [core_flip, back])]

/-- A copy of the plane sent to the other core. -/
theorem sendPlane (c : Dev nD) {α : Type} {Q : α → sProp 𝕄} (w : ℕ) (b : Fin 4) (n : ℕ)
    (hn : due (n + 1) = ((due n).erase (.sf b)).erase (.rf b) ∧ Key.sf b ∈ due n ∧ Key.rf b ∈ due n) (hT : Key.sf b ∈ rem w)
    {c' : Dev nD} {od : Fin 3 → ℕ} (hd : od = ![b.val, 0, 0]) {ia id sa sd za zd hsc}
    {sS sem : SemLoc sig} {hsrc hdst hsem} {k' : PUnit → Prog (TpuEff nD τ sig (Elt F) Λ₀ .tc) α}
    (hc' : c'.val = (flip 1 c).val) (hsS : sS = osem (.sf b)) (hs : sem = osem (.rf b)) :
    iprop(stage m ER c n w ∗ holds c pln (quarter b) (s2 m c))
      ⊢ iprop((stage m ER c (n + 1) w -∗ run c (k' ⟨⟩) Q)
      -∗ run c (.op (.enqueueDma ((A2.slice (Rect.unit (s := S1x1x1120x128) ![0, 0, 0, 0] S1x1x1120x128.size ia) sa).squeeze S1120x128 za)
            (.remote (c'.tc : Thread nD τ) ((D2.slice (Rect.unit (s := S4x1120x128) od S1x1120x128.size id) sd).squeeze S1120x128 zd) sS hsc)
            sem hsrc hdst hsem) k') Q) := by
  subst hd
  obtain rfl : c' = flip 1 c := Fin.ext hc'
  unfold stage
  rw [hn.1]
  refine Once.send (plan m) ER c (.sf b) (.rf b) (due n) (rem w) hn.2.1 hT hn.2.2 rfl rfl rfl
    (src := pln) (dst := Rows.row q2 D2 b) rfl hsS hs (by rw [hs]; rfl) rfl (fs := s2 m c) (q := quarter b) BIBase.Entails.rfl BIBase.Entails.rfl ?_
  intro fd
  show _ ⊢ Rows.own q2 (flip 1 c) D2 b (arr2 m (flip 1 c))
  unfold Rows.own
  rw [pointsTo_congr (write_agrees (Rows.row q2 D2 b) fd (arr2 m (flip 1 c)) _ fun x => by
    obtain ⟨y, z, rfl⟩ : ∃ (y : Fin 1120) (z : Fin 128), x = ix2 y z := ⟨x 0, x 1, eq_ix2 x⟩
    rw [Rows.row_read]
    show pln.view.read (Elt F) (s2 m (flip 1 (flip 1 c))) (ix2 y z) = _
    rw [back])]

/-- A block sent to the other core. -/
theorem sendPair (c : Dev nD) {α : Type} {Q : α → sProp 𝕄} (w : ℕ) (j : Fin 4) (n : ℕ)
    (hn : due (n + 1) = ((due n).erase (.ps j)).erase (.pr j) ∧ Key.ps j ∈ due n ∧ Key.pr j ∈ due n) (hT : Key.ps j ∈ rem w)
    {c' : Dev nD} {oa od : Fin 3 → ℕ} (ha : oa = ![(other c).val, 0, 0]) (hd : od = ![j.val, 0, 0]) {ia id sa sd za zd hsc}
    {sS sem : SemLoc sig} {hsrc hdst hsem} {k' : PUnit → Prog (TpuEff nD τ sig (Elt F) Λ₀ .tc) α}
    (hc' : c'.val = (flip 1 c).val) (hsS : sS = osem (.ps j)) (hs : sem = osem (.pr j)) :
    iprop(stage m ER c n w ∗ Rows.own q4 c SB (other c) (blocks m c j.val))
      ⊢ iprop((stage m ER c (n + 1) w -∗ run c (k' ⟨⟩) Q)
      -∗ run c (.op (.enqueueDma ((SB.slice (Rect.unit (s := S2x384x2048) oa S1x384x2048.size ia) sa).squeeze S384x2048 za)
            (.remote (c'.tc : Thread nD τ) ((TH.slice (Rect.unit (s := S4x384x2048) od S1x384x2048.size id) sd).squeeze S384x2048 zd) sS hsc)
            sem hsrc hdst hsem) k') Q) := by
  unfold stage
  rw [hn.1]
  exact Rows.sendRow q4 (plan m) ER c (.ps j) (.pr j) (due n) (rem w) hn.2.1 hT hn.2.2 rfl rfl rfl SB TH (other c) j
    ha hd (Fin.ext hc') hsS hs (by rw [hs]; rfl) rfl (blocks m c j.val) (theirs m (flip 1 c))
    (by intro y z
        show blocks m (flip 1 (flip 1 c)) j.val (ix3 (core (flip 1 c)) y z) = blocks m c j.val (ix3 (other c) y z)
        rw [back, core_flip])
    BIBase.Entails.rfl BIBase.Entails.rfl BIBase.Entails.rfl

/-- A wait at its place in the order. -/
theorem take (c : Dev nD) {α : Type} {Q : α → sProp 𝕄} (n w : ℕ) (k : Key)
    (hw : rem (w + 1) = (rem w).erase k ∧ k ∈ rem w) (hn : (far k = false → k ∉ due n) ∧ (far k = true → due n = ∅))
    {op : TpuEff nD τ sig (Elt F) Λ₀ .tc PUnit} {k' : PUnit → Prog (TpuEff nD τ sig (Elt F) Λ₀ .tc) α}
    (hop : ∀ R : PUnit → sProp 𝕄, wpE (defs₀ (F := F)) Variants.none (c.tc : Thread nD τ) none Set.univ op R = waitSpec (c.tc : Thread nD τ) Set.univ (osem k) (amt k) R) :
    stage m ER c n w
      ⊢ iprop(((pay m c k ∗ stage m ER c n (w + 1)) -∗ run c (k' ⟨⟩) Q) -∗ run c (.op op k') Q) := by
  unfold stage
  rw [hw.1]
  exact Once.wait (plan m) ER c k (due n) (rem w) hw.2 hn.1 (fun h k' hk' => by rw [hn.2 h] at hk'; exact absurd hk' (Finset.notMem_empty _)) hop

end Cert.OuterIdeal.GO

end
-- ==== Proof.OuterMoves.lean ====
module

public import proofs.«01_k».proof.Proof.OuterSteps

@[expose] public section

noncomputable section

/-! The opening sends and the closing waits of the second kernel, one stretch of the body at a time. -/

namespace Cert.OuterIdeal.GO

open Idealize.ShloMosaic
open Idealize.SL
open Idealize.SL.BI
open scoped Idealize.SL.BI
open Idealize.SL.BI.BIBase Idealize.SL.BI.Laws Idealize.SL.Sem Idealize.SL.ProofMode
open Idealize.SL.RA
open Idealize.ShloMosaic.TcCoe
open Idealize.ShloMosaic.Rounds
open Idealize.ShloMosaic.ValueIdx
open Idealize.ShloMosaic.Pipeline
open Cert.OuterIdeal.Gen
open Cert.KernelIdeal.GW (flip core other core_flip)

set_option Elab.async false

variable {F : FTy → Type} [FloatOps F]
variable (m : (ℓ : Loc nD τ sig) → Buf (Elt F) ℓ)
variable {U : Type} [URA U]
variable (ER : Emb (URounds (GSem nD τ sig) Unit) (MT nD τ sig Unit (Elt F) ℕ U ℕ))
local notation "𝕄" => MT nD τ sig Unit (Elt F) ℕ U ℕ
/-- A finished program needs what it promises of its value. -/
theorem run_ret (c : Dev nD) {α : Type} (a : α) (Q : α → sProp 𝕄) : Q a ⊢ run c (.ret a) Q := by
  unfold run
  rw [wp_ret]
  iintro H
  imodintro
  iexact H

/-- The first send of the opening. -/
theorem issue1 (c : Dev nD) (i : grid0.Coords) {arg2 harg2 arg3 harg3 arg7 harg7} (v2 v5 v8 : BitVec 32) (h1 : k0_cond1 i = 1#1) {Q : (Σ' (v48 : BitVec 32) (v49 : BitVec 32) (v50 : BitVec 32), BitVec 32) → sProp 𝕄} :
    iprop(stage m ER c 0 0 ∗ holds c (col0 (other c)) fullShare (s0 m c))
      ⊢ iprop((∀ r, stage m ER c 1 0 -∗ Q r) -∗ run c (k0_part1 i arg2 harg2 arg3 harg3 A0 (Memref.isWhole_whole _) A1 (Memref.isWhole_whole _) A2 (Memref.isWhole_whole _) arg7 harg7 TH (Memref.isWhole_whole _) D0 (Memref.isWhole_whole _) D1 (Memref.isWhole_whole _) D2 (Memref.isWhole_whole _) AC (Memref.isWhole_whole _) SB (Memref.isWhole_whole _) cc0_scratch2 cc0_scratch3 cc0_scratch4 cc0_scratch5 cc0_scratch6 c v2 v5 v8 h1) Q) := by
  rw [k0_part1_eq_skeleton]; unfold k0_part1_skel
  simp only [Prog.lift, Prog.bind_op, Prog.bind_ret, Prog.pure_eq_ret]
  iintro ⟨Hs, Ha0⟩ HK
  iapply (send0 m ER c 0 (by decide +kernel) (off1_eq c) (dev1_eq c) rfl rfl) $$ [Hs Ha0]
  · isplitl [Hs]; · iexact Hs
    iexact Ha0
  iintro Hs
  iapply (run_ret c _ Q)
  iapply HK
  iexact Hs

/-- The sends 1–2 of the opening. -/
theorem issue2 (c : Dev nD) (i : grid0.Coords) {arg2 harg2 arg3 harg3 arg7 harg7} (v2 v5 : BitVec 32) (h1 : k0_cond1 i = 1#1) (v48 v49 : BitVec 32) {Q : PUnit → sProp 𝕄} :
    iprop(stage m ER c 1 0 ∗ holds c (col1 (other c)) fullShare (s1 m c) ∗ holds c pln (quarter 0) (s2 m c))
      ⊢ iprop((∀ r, stage m ER c 3 0 -∗ Q r) -∗ run c (k0_part2 i arg2 harg2 arg3 harg3 A0 (Memref.isWhole_whole _) A1 (Memref.isWhole_whole _) A2 (Memref.isWhole_whole _) arg7 harg7 TH (Memref.isWhole_whole _) D0 (Memref.isWhole_whole _) D1 (Memref.isWhole_whole _) D2 (Memref.isWhole_whole _) AC (Memref.isWhole_whole _) SB (Memref.isWhole_whole _) cc0_scratch2 cc0_scratch3 cc0_scratch4 cc0_scratch5 cc0_scratch6 c v2 v5 h1 v48 v49) Q) := by
  rw [k0_part2_eq_skeleton]; unfold k0_part2_skel
  simp only [Prog.lift, Prog.bind_op, Prog.bind_ret, Prog.pure_eq_ret]
  iintro ⟨Hs, Ha0, Ha1⟩ HK
  iapply (send1 m ER c 0 (by decide +kernel) (off2_eq c) (dev2_eq c) rfl rfl) $$ [Hs Ha0]
  · isplitl [Hs]; · iexact Hs
    iexact Ha0
  iintro Hs
  iapply (sendPlane m ER c 0 0 2 (by decide +kernel) (by decide +kernel) rfl (dev3_eq c) rfl rfl) $$ [Hs Ha1]
  · isplitl [Hs]; · iexact Hs
    iexact Ha1
  iintro Hs
  iapply (run_ret c _ Q)
  iapply HK
  iexact Hs

/-- The sends 3–4 of the opening. -/
theorem issue3 (c : Dev nD) (i : grid0.Coords) {arg2 harg2 arg3 harg3 arg7 harg7} (v2 v5 : BitVec 32) (h1 : k0_cond1 i = 1#1) (v50 v51 : BitVec 32) {Q : PUnit → sProp 𝕄} :
    iprop(stage m ER c 3 0 ∗ holds c pln (quarter 1) (s2 m c) ∗ holds c pln (quarter 2) (s2 m c))
      ⊢ iprop((∀ r, stage m ER c 5 0 -∗ Q r) -∗ run c (k0_part3 i arg2 harg2 arg3 harg3 A0 (Memref.isWhole_whole _) A1 (Memref.isWhole_whole _) A2 (Memref.isWhole_whole _) arg7 harg7 TH (Memref.isWhole_whole _) D0 (Memref.isWhole_whole _) D1 (Memref.isWhole_whole _) D2 (Memref.isWhole_whole _) AC (Memref.isWhole_whole _) SB (Memref.isWhole_whole _) cc0_scratch2 cc0_scratch3 cc0_scratch4 cc0_scratch5 cc0_scratch6 c v2 v5 h1 v50 v51) Q) := by
  rw [k0_part3_eq_skeleton]; unfold k0_part3_skel
  simp only [Prog.lift, Prog.bind_op, Prog.bind_ret, Prog.pure_eq_ret]
  iintro ⟨Hs, Ha0, Ha1⟩ HK
  iapply (sendPlane m ER c 0 1 3 (by decide +kernel) (by decide +kernel) rfl (dev4_eq c) rfl rfl) $$ [Hs Ha0]
  · isplitl [Hs]; · iexact Hs
    iexact Ha0
  iintro Hs
  iapply (sendPlane m ER c 0 2 4 (by decide +kernel) (by decide +kernel) rfl (dev5_eq c) rfl rfl) $$ [Hs Ha1]
  · isplitl [Hs]; · iexact Hs
    iexact Ha1
  iintro Hs
  iapply (run_ret c _ Q)
  iapply HK
  iexact Hs

/-- The waits 3–4. -/
theorem take5 (c : Dev nD) (i : grid0.Coords) {arg2 harg2 arg3 harg3 arg7 harg7} (v11 v14 v17 : BitVec 32) (h11 : k0_cond11 i = 1#1) {Q : (Σ' (v67 : BitVec 32) (v69 : BitVec 32), BitVec 32) → sProp 𝕄} :
    stage m ER c 10 3
      ⊢ iprop((∀ r, (pay m c (.ps 3) ∗ pay m c (.pr 0) ∗ stage m ER c 10 5) -∗ Q r) -∗ run c (k0_part5 i arg2 harg2 arg3 harg3 A0 (Memref.isWhole_whole _) A1 (Memref.isWhole_whole _) A2 (Memref.isWhole_whole _) arg7 harg7 TH (Memref.isWhole_whole _) D0 (Memref.isWhole_whole _) D1 (Memref.isWhole_whole _) D2 (Memref.isWhole_whole _) AC (Memref.isWhole_whole _) SB (Memref.isWhole_whole _) cc0_scratch2 cc0_scratch3 cc0_scratch4 cc0_scratch5 cc0_scratch6 c v11 v14 v17 h11) Q) := by
  rw [k0_part5_eq_skeleton]; unfold k0_part5_skel
  simp only [Prog.lift, Prog.bind_op, Prog.bind_ret, Prog.pure_eq_ret]
  iintro Hs HK
  iapply (take m ER c 10 3 (.ps 3) (by decide +kernel) (by decide +kernel) ?_) $$ Hs
  · intro R; exact wpE_waitDma2_eq _ _ none Set.univ R
  iintro ⟨Hp0, Hs⟩
  iapply (take m ER c 10 4 (.pr 0) (by decide +kernel) (by decide +kernel) ?_) $$ Hs
  · intro R; exact wpE_waitDma2_eq _ _ none Set.univ R
  iintro ⟨Hp1, Hs⟩
  iapply (run_ret c _ Q)
  iapply HK
  isplitl [Hp0]; · iexact Hp0
  isplitl [Hp1]; · iexact Hp1
  iexact Hs

/-- The waits 5–6. -/
theorem take6 (c : Dev nD) (i : grid0.Coords) {arg2 harg2 arg3 harg3 arg7 harg7} (v11 v14 v17 : BitVec 32) (h11 : k0_cond11 i = 1#1) (v67 v69 v70 : BitVec 32) {Q : PUnit → sProp 𝕄} :
    stage m ER c 10 5
      ⊢ iprop((∀ r, (pay m c (.pr 1) ∗ pay m c (.pr 2) ∗ stage m ER c 10 7) -∗ Q r) -∗ run c (k0_part6 i arg2 harg2 arg3 harg3 A0 (Memref.isWhole_whole _) A1 (Memref.isWhole_whole _) A2 (Memref.isWhole_whole _) arg7 harg7 TH (Memref.isWhole_whole _) D0 (Memref.isWhole_whole _) D1 (Memref.isWhole_whole _) D2 (Memref.isWhole_whole _) AC (Memref.isWhole_whole _) SB (Memref.isWhole_whole _) cc0_scratch2 cc0_scratch3 cc0_scratch4 cc0_scratch5 cc0_scratch6 c v11 v14 v17 h11 v67 v69 v70) Q) := by
  rw [k0_part6_eq_skeleton]; unfold k0_part6_skel
  simp only [Prog.lift, Prog.bind_op, Prog.bind_ret, Prog.pure_eq_ret]
  iintro Hs HK
  iapply (take m ER c 10 5 (.pr 1) (by decide +kernel) (by decide +kernel) ?_) $$ Hs
  · intro R; exact wpE_waitDma2_eq _ _ none Set.univ R
  iintro ⟨Hp0, Hs⟩
  iapply (take m ER c 10 6 (.pr 2) (by decide +kernel) (by decide +kernel) ?_) $$ Hs
  · intro R; exact wpE_waitDma2_eq _ _ none Set.univ R
  iintro ⟨Hp1, Hs⟩
  iapply (run_ret c _ Q)
  iapply HK
  isplitl [Hp0]; · iexact Hp0
  isplitl [Hp1]; · iexact Hp1
  iexact Hs

/-- The waits 7–8. -/
theorem take7 (c : Dev nD) (i : grid0.Coords) {arg2 harg2 arg3 harg3 arg7 harg7} (v2 v5 v8 : BitVec 32) (h11 : k0_cond11 i = 1#1) {Q : (Σ' (v111 : BitVec 32) (v112 : BitVec 32) (v113 : BitVec 32) (v114 : BitVec 32) (v115 : BitVec 32), BitVec 32) → sProp 𝕄} :
    stage m ER c 10 7
      ⊢ iprop((∀ r, (pay m c (.pr 3) ∗ pay m c (.rs 0) ∗ stage m ER c 10 9) -∗ Q r) -∗ run c (k0_part7 i arg2 harg2 arg3 harg3 A0 (Memref.isWhole_whole _) A1 (Memref.isWhole_whole _) A2 (Memref.isWhole_whole _) arg7 harg7 TH (Memref.isWhole_whole _) D0 (Memref.isWhole_whole _) D1 (Memref.isWhole_whole _) D2 (Memref.isWhole_whole _) AC (Memref.isWhole_whole _) SB (Memref.isWhole_whole _) cc0_scratch2 cc0_scratch3 cc0_scratch4 cc0_scratch5 cc0_scratch6 c v2 v5 v8 h11) Q) := by
  rw [k0_part7_eq_skeleton]; unfold k0_part7_skel
  simp only [Prog.lift, Prog.bind_op, Prog.bind_ret, Prog.pure_eq_ret]
  iintro Hs HK
  iapply (take m ER c 10 7 (.pr 3) (by decide +kernel) (by decide +kernel) ?_) $$ Hs
  · intro R; exact wpE_waitDma2_eq _ _ none Set.univ R
  iintro ⟨Hp0, Hs⟩
  iapply (take m ER c 10 8 (.rs 0) (by decide +kernel) (by decide +kernel) ?_) $$ Hs
  · intro R; exact wpE_waitDma2_eq _ _ none Set.univ R
  iintro ⟨Hp1, Hs⟩
  iapply (run_ret c _ Q)
  iapply HK
  isplitl [Hp0]; · iexact Hp0
  isplitl [Hp1]; · iexact Hp1
  iexact Hs

/-- The waits 9–10. -/
theorem take8 (c : Dev nD) (i : grid0.Coords) {arg2 harg2 arg3 harg3 arg7 harg7} (v2 v5 : BitVec 32) (h11 : k0_cond11 i = 1#1) (v111 v112 v113 v129 : BitVec 32) {Q : PUnit → sProp 𝕄} :
    stage m ER c 10 9
      ⊢ iprop((∀ r, (pay m c (.rs 1) ∗ pay m c (.rf 0) ∗ stage m ER c 10 11) -∗ Q r) -∗ run c (k0_part8 i arg2 harg2 arg3 harg3 A0 (Memref.isWhole_whole _) A1 (Memref.isWhole_whole _) A2 (Memref.isWhole_whole _) arg7 harg7 TH (Memref.isWhole_whole _) D0 (Memref.isWhole_whole _) D1 (Memref.isWhole_whole _) D2 (Memref.isWhole_whole _) AC (Memref.isWhole_whole _) SB (Memref.isWhole_whole _) cc0_scratch2 cc0_scratch3 cc0_scratch4 cc0_scratch5 cc0_scratch6 c v2 v5 h11 v111 v112 v113 v129) Q) := by
  rw [k0_part8_eq_skeleton]; unfold k0_part8_skel
  simp only [Prog.lift, Prog.bind_op, Prog.bind_ret, Prog.pure_eq_ret]
  iintro Hs HK
  iapply (take m ER c 10 9 (.rs 1) (by decide +kernel) (by decide +kernel) ?_) $$ Hs
  · intro R; exact wpE_waitDma2_eq _ _ none Set.univ R
  iintro ⟨Hp0, Hs⟩
  iapply (take m ER c 10 10 (.rf 0) (by decide +kernel) (by decide +kernel) ?_) $$ Hs
  · intro R; exact wpE_waitDma2_eq _ _ none Set.univ R
  iintro ⟨Hp1, Hs⟩
  iapply (run_ret c _ Q)
  iapply HK
  isplitl [Hp0]; · iexact Hp0
  isplitl [Hp1]; · iexact Hp1
  iexact Hs

/-- The waits 11–12. -/
theorem take9 (c : Dev nD) (i : grid0.Coords) {arg2 harg2 arg3 harg3 arg7 harg7} (v2 v5 v114 v115 : BitVec 32) {Q : PUnit → sProp 𝕄} :
    stage m ER c 10 11
      ⊢ iprop((∀ r, (pay m c (.rf 1) ∗ pay m c (.rf 2) ∗ stage m ER c 10 13) -∗ Q r) -∗ run c (k0_part9 (F := F) i arg2 harg2 arg3 harg3 A0 (Memref.isWhole_whole _) A1 (Memref.isWhole_whole _) A2 (Memref.isWhole_whole _) arg7 harg7 TH (Memref.isWhole_whole _) D0 (Memref.isWhole_whole _) D1 (Memref.isWhole_whole _) D2 (Memref.isWhole_whole _) AC (Memref.isWhole_whole _) SB (Memref.isWhole_whole _) cc0_scratch2 cc0_scratch3 cc0_scratch4 cc0_scratch5 cc0_scratch6 v2 v5 v114 v115) Q) := by
  rw [k0_part9_eq_skeleton]; unfold k0_part9_skel
  simp only [Prog.lift, Prog.bind_op, Prog.bind_ret, Prog.pure_eq_ret]
  iintro Hs HK
  iapply (take m ER c 10 11 (.rf 1) (by decide +kernel) (by decide +kernel) ?_) $$ Hs
  · intro R; exact wpE_waitDma2_eq _ _ none Set.univ R
  iintro ⟨Hp0, Hs⟩
  iapply (take m ER c 10 12 (.rf 2) (by decide +kernel) (by decide +kernel) ?_) $$ Hs
  · intro R; exact wpE_waitDma2_eq _ _ none Set.univ R
  iintro ⟨Hp1, Hs⟩
  iapply (run_ret c _ Q)
  iapply HK
  isplitl [Hp0]; · iexact Hp0
  isplitl [Hp1]; · iexact Hp1
  iexact Hs

/-- The waits 13–16. -/
theorem take10 (c : Dev nD) (i : grid0.Coords) {arg2 harg2 arg3 harg3 arg7 harg7} (h11 : k0_cond11 i = 1#1) {Q : PUnit → sProp 𝕄} :
    stage m ER c 10 13
      ⊢ iprop((∀ r, (pay m c (.rf 3) ∗ pay m c (.ss 0) ∗ pay m c (.ss 1) ∗ pay m c (.sf 0) ∗ stage m ER c 10 17) -∗ Q r) -∗ run c (k0_part10 i arg2 harg2 arg3 harg3 A0 (Memref.isWhole_whole _) A1 (Memref.isWhole_whole _) A2 (Memref.isWhole_whole _) arg7 harg7 TH (Memref.isWhole_whole _) D0 (Memref.isWhole_whole _) D1 (Memref.isWhole_whole _) D2 (Memref.isWhole_whole _) AC (Memref.isWhole_whole _) SB (Memref.isWhole_whole _) cc0_scratch2 cc0_scratch3 cc0_scratch4 cc0_scratch5 cc0_scratch6 c h11) Q) := by
  rw [k0_part10_eq_skeleton]; unfold k0_part10_skel
  simp only [Prog.lift, Prog.bind_op, Prog.bind_ret, Prog.pure_eq_ret]
  iintro Hs HK
  iapply (take m ER c 10 13 (.rf 3) (by decide +kernel) (by decide +kernel) ?_) $$ Hs
  · intro R; exact wpE_waitDma2_eq _ _ none Set.univ R
  iintro ⟨Hp0, Hs⟩
  iapply (take m ER c 10 14 (.ss 0) (by decide +kernel) (by decide +kernel) ?_) $$ Hs
  · intro R; exact wpE_waitDma2_eq _ _ none Set.univ R
  iintro ⟨Hp1, Hs⟩
  iapply (take m ER c 10 15 (.ss 1) (by decide +kernel) (by decide +kernel) ?_) $$ Hs
  · intro R; exact wpE_waitDma2_eq _ _ none Set.univ R
  iintro ⟨Hp2, Hs⟩
  iapply (take m ER c 10 16 (.sf 0) (by decide +kernel) (by decide +kernel) ?_) $$ Hs
  · intro R; exact wpE_waitDma2_eq _ _ none Set.univ R
  iintro ⟨Hp3, Hs⟩
  iapply (run_ret c _ Q)
  iapply HK
  isplitl [Hp0]; · iexact Hp0
  isplitl [Hp1]; · iexact Hp1
  isplitl [Hp2]; · iexact Hp2
  isplitl [Hp3]; · iexact Hp3
  iexact Hs

end Cert.OuterIdeal.GO

end
-- ==== Proof.OuterWork.lean ====
module

public import Idealize.ShloMosaic.Lib.WritesUnit
public import proofs.«01_k».proof.Proof.OuterMoves

@[expose] public section

noncomputable section

/-! The body of the second kernel: its pieces. -/

namespace Cert.OuterIdeal.GO

open Idealize.ShloMosaic
open Idealize.SL
open Idealize.SL.BI
open scoped Idealize.SL.BI
open Idealize.SL.BI.BIBase Idealize.SL.BI.Laws Idealize.SL.Sem Idealize.SL.ProofMode
open Idealize.SL.RA
open Idealize.ShloMosaic.TcCoe
open Idealize.ShloMosaic.Rounds
open Idealize.ShloMosaic.ValueIdx
open Idealize.ShloMosaic.Pipeline
open Cert.OuterIdeal.Gen
open Cert.KernelIdeal.GW (flip core other core_flip)

set_option Elab.async false

variable {F : FTy → Type} [FloatOps F]
variable (m : (ℓ : Loc nD τ sig) → Buf (Elt F) ℓ)
variable {U : Type} [URA U]
variable (ER : Emb (URounds (GSem nD τ sig) Unit) (MT nD τ sig Unit (Elt F) ℕ U ℕ))
local notation "𝕄" => MT nD τ sig Unit (Elt F) ℕ U ℕ
/-! ### Loads and stores of a memref that is held whole -/

/-- A memref and what is read through it. -/
abbrev has (c : Dev nD) {sp : Space} {s : Shape} {e : EltTy} (M : Memref sig .tc sp s e) (X : s.Idx → Elt F e) : sProp 𝕄 :=
  owns (c.tc : Thread nD τ) M fullShare X

theorem load (c : Dev nD) {α : Type} {Q : α → sProp 𝕄} {cs : CoreSpace} {s : Shape} {e : EltTy} (M : Memref sig .tc cs s e) (X : s.Idx → Elt F e)
    {r : LoadRect s} {hl : M.view.LoadsAt r} {k : (r.shape.Idx → Elt F e) → Prog (TpuEff nD τ sig (Elt F) Λ₀ .tc) α} :
    has c M X ⊢ iprop((has c M X -∗ run c (k fun x => X (r.idx x)) Q) -∗ run c (.op (.load M r hl) k) Q) := by
  unfold has owns
  iintro ⟨%f, %hf, H⟩ HK
  have hsub : M.view.setOn r.set ⊆ M.view.set := View.setOn_subset_set _ _
  iapply (wp_load Variants.none (c.tc : Thread nD τ) none Set.univ (m := M) (r := r) (q := fullShare) (f := f) hsub) $$ H
  iintro H
  rw [show M.view.readAt (Elt F) r f = fun x => X (r.idx x) from by subst hf; rfl]
  iapply HK
  iexists f
  isplitr; · ipureintro; exact hf
  iexact H

theorem store (c : Dev nD) {α : Type} {Q : α → sProp 𝕄} {cs : CoreSpace} {s : Shape} {e : EltTy} (M : Memref sig .tc cs s e) (X X' : s.Idx → Elt F e)
    {r : Rect s} {w : r.shape.Idx → Elt F e} {hx : (M.access r).Stores Finset.univ} {hm : (Finset.univ : Finset r.shape.Idx) = Finset.univ ∨ ∀ a, r.stride a = 1}
    {k : PUnit → Prog (TpuEff nD τ sig (Elt F) Λ₀ .tc) α}
    (hX : ∀ f : M.view.ty.Contents (Elt F), M.view.read (Elt F) f = X → M.view.read (Elt F) (M.view.writes (Elt F) f [⟨r, w⟩]) = X') :
    has c M X ⊢ iprop((has c M X' -∗ run c (k ⟨⟩) Q) -∗ run c (.op (.store M r w Finset.univ hx hm) k) Q) := by
  unfold has owns
  iintro ⟨%f, %hf, H⟩ HK
  have hsub : (M.access r).setOn Finset.univ ⊆ M.view.set := by
    rw [View.setOn_univ]; exact View.set_slice_subset _ _
  iapply (wp_store Variants.none (c.tc : Thread nD τ) none Set.univ (m := M) (r := r) (w := w) (Mk := Finset.univ) (f := f) hsub) $$ H
  iintro H
  iapply HK
  iexists (M.view.writes (Elt F) f [⟨r, w⟩])
  isplitr; · ipureintro; exact hX f hf
  iexact H

theorem loadFull (c : Dev nD) {α : Type} {Q : α → sProp 𝕄} {cs : CoreSpace} {s : Shape} {e : EltTy} (M : Memref sig .tc cs s e) (X : s.Idx → Elt F e)
    {off : Fin s.rank → ℕ} {inb : ∀ a, off a + s.size a ≤ s.size a} {hl : M.view.LoadsAt (Rect.unit off s.size inb).toLoadRect}
    {k : ((Rect.unit off s.size inb).toLoadRect.shape.Idx → Elt F e) → Prog (TpuEff nD τ sig (Elt F) Λ₀ .tc) α} :
    has c M X ⊢ iprop((has c M X -∗ run c (k X) Q) -∗ run c (.op (.load M (Rect.unit off s.size inb).toLoadRect hl) k) Q) := by
  have h := load c (Q := Q) M X (hl := hl) (k := k)
  rw [show (fun x => X ((Rect.unit off s.size inb).toLoadRect.idx x)) = X from funext fun y => congrArg X (funext fun a => Fin.ext (by
    show off a + 1 * (y a).val = (y a).val
    have := inb a; omega))] at h
  exact h

theorem storeFull (c : Dev nD) {α : Type} {Q : α → sProp 𝕄} {cs : CoreSpace} {s : Shape} {e : EltTy} (M : Memref sig .tc cs s e) (X w : s.Idx → Elt F e)
    {off : Fin s.rank → ℕ} {inb : ∀ a, off a + s.size a ≤ s.size a} {hx : (M.access (Rect.unit off s.size inb)).Stores Finset.univ}
    {hm : (Finset.univ : Finset (Rect.unit off s.size inb).shape.Idx) = Finset.univ ∨ ∀ a, (Rect.unit off s.size inb).stride a = 1}
    {k : PUnit → Prog (TpuEff nD τ sig (Elt F) Λ₀ .tc) α} :
    has c M X ⊢ iprop((has c M w -∗ run c (k ⟨⟩) Q) -∗ run c (.op (.store M (Rect.unit off s.size inb) w Finset.univ hx hm) k) Q) := by
  refine store c M X w (r := Rect.unit off s.size inb) (w := w) ?_
  intro f _
  funext y
  have h0 : ∀ a, off a = 0 := fun a => by have := inb a; omega
  exact View.read_writes_cons_unit_of_mem (off' := off) M.view f inb w [] y (y : s.Idx) rfl fun a => by rw [h0 a, Nat.zero_add]

/-! ### The first part of the body: opening, accumulator, both factors -/

/-- The body asks whether it is at the start of a pair. -/
abbrev isFirst (i : grid0.Coords) : Prop := Scalar.cmpi .ne (Scalar.extui (Scalar.cmpi .eq (BitVec.ofNat 32 (i 1).val) 0#32)) 0#32 = 1#1

theorem head_first (c : Dev nD) (i : grid0.Coords) {arg2 harg2 arg3 harg3 arg7 harg7} (h1 : k0_cond1 i = 1#1) (hz : isFirst i) (X : Vec F S768x2048 .f32) (a : Vec F S1024x768 .bf16) (b : Vec F S1024x2048 .bf16)
    {Q : _ → sProp 𝕄} :
    iprop(stage m ER c 0 0 ∗ holds c (col0 (other c)) fullShare (s0 m c) ∗ holds c (col1 (other c)) fullShare (s1 m c) ∗ holds c pln (quarter 0) (s2 m c) ∗ holds c pln (quarter 1) (s2 m c) ∗ holds c pln (quarter 2) (s2 m c) ∗ holds c pln (quarter 3) (s2 m c) ∗ has c AC X ∗ has c arg2 a ∗ has c arg3 b)
      ⊢ iprop((∀ a0 a1 v2 v5 v8 v11 v14 v17, (stage m ER c 6 0 ∗ has c AC k0_pay8 ∗ has c arg2 a ∗ has c arg3 b) -∗ Q ⟨a0, a1, c, v2, v5, v8, v11, v14, v17, k0_pay8, k0_pay9 a, k0_pay10 b, constant S768x2048 .f32 0x00000000#32⟩)
        -∗ run c (k0_part11 (F := F) i arg2 harg2 arg3 harg3 A0 (Memref.isWhole_whole _) A1 (Memref.isWhole_whole _) A2 (Memref.isWhole_whole _) arg7 harg7 TH (Memref.isWhole_whole _) D0 (Memref.isWhole_whole _) D1 (Memref.isWhole_whole _) D2 (Memref.isWhole_whole _) AC (Memref.isWhole_whole _) SB (Memref.isWhole_whole _) cc0_scratch2 cc0_scratch3 cc0_scratch4 cc0_scratch5 cc0_scratch6) Q) := by
  rw [k0_part11_eq_skeleton]; unfold k0_part11_skel run
  simp only [Prog.lift, Prog.bind_op, Prog.bind_ret, Prog.pure_eq_ret, dif_pos h1, dif_pos hz, wp_bind, wp_deviceId]
  iintro ⟨Hs, Ha0, Ha1, Ha2, Ha3, Ha4, Ha5, HX, HA, HB⟩ HK
  iapply (issue1 m ER c i) $$ [Hs Ha0]
  · isplitl [Hs]; · iexact Hs
    iexact Ha0
  iintro %r1 Hs
  iapply (issue2 m ER c i) $$ [Hs Ha1 Ha2]
  · isplitl [Hs]; · iexact Hs
    isplitl [Ha1]; · iexact Ha1
    iexact Ha2
  iintro %r2 Hs
  iapply (issue3 m ER c i) $$ [Hs Ha3 Ha4]
  · isplitl [Hs]; · iexact Hs
    isplitl [Ha3]; · iexact Ha3
    iexact Ha4
  iintro %r3 Hs
  iapply (sendPlane m ER c 0 3 5 (by decide +kernel) (by decide +kernel) rfl (dev6_eq c) rfl rfl) $$ [Hs Ha5]
  · isplitl [Hs]; · iexact Hs
    iexact Ha5
  iintro Hs
  iapply (loadFull c AC X) $$ HX; iintro HX
  iapply (storeFull c AC X k0_pay8) $$ HX; iintro HX
  iapply (loadFull c AC k0_pay8) $$ HX; iintro HX
  iapply (loadFull c arg2 a) $$ HA; iintro HA
  iapply (loadFull c arg3 b) $$ HB; iintro HB
  iapply (run_ret c _ Q)
  iapply HK
  isplitl [Hs]; · iexact Hs
  isplitl [HX]; · iexact HX
  isplitl [HA]; · iexact HA
  iexact HB

theorem head_zero (c : Dev nD) (i : grid0.Coords) {arg2 harg2 arg3 harg3 arg7 harg7} (h1 : ¬ k0_cond1 i = 1#1) (hz : isFirst i) (X : Vec F S768x2048 .f32) (a : Vec F S1024x768 .bf16) (b : Vec F S1024x2048 .bf16)
    {Q : _ → sProp 𝕄} :
    iprop(has c AC X ∗ has c arg2 a ∗ has c arg3 b)
      ⊢ iprop((∀ a0 a1 v2 v5 v8 v11 v14 v17, (has c AC k0_pay8 ∗ has c arg2 a ∗ has c arg3 b) -∗ Q ⟨a0, a1, c, v2, v5, v8, v11, v14, v17, k0_pay8, k0_pay9 a, k0_pay10 b, constant S768x2048 .f32 0x00000000#32⟩)
        -∗ run c (k0_part11 (F := F) i arg2 harg2 arg3 harg3 A0 (Memref.isWhole_whole _) A1 (Memref.isWhole_whole _) A2 (Memref.isWhole_whole _) arg7 harg7 TH (Memref.isWhole_whole _) D0 (Memref.isWhole_whole _) D1 (Memref.isWhole_whole _) D2 (Memref.isWhole_whole _) AC (Memref.isWhole_whole _) SB (Memref.isWhole_whole _) cc0_scratch2 cc0_scratch3 cc0_scratch4 cc0_scratch5 cc0_scratch6) Q) := by
  rw [k0_part11_eq_skeleton]; unfold k0_part11_skel run
  simp only [Prog.lift, Prog.bind_op, Prog.bind_ret, Prog.pure_eq_ret, dif_neg h1, dif_pos hz, wp_bind, wp_deviceId]
  iintro ⟨HX, HA, HB⟩ HK
  iapply (loadFull c AC X) $$ HX; iintro HX
  iapply (storeFull c AC X k0_pay8) $$ HX; iintro HX
  iapply (loadFull c AC k0_pay8) $$ HX; iintro HX
  iapply (loadFull c arg2 a) $$ HA; iintro HA
  iapply (loadFull c arg3 b) $$ HB; iintro HB
  iapply (run_ret c _ Q)
  iapply HK
  isplitl [HX]; · iexact HX
  isplitl [HA]; · iexact HA
  iexact HB

theorem head_next (c : Dev nD) (i : grid0.Coords) {arg2 harg2 arg3 harg3 arg7 harg7} (h1 : ¬ k0_cond1 i = 1#1) (hz : ¬ isFirst i) (X : Vec F S768x2048 .f32) (a : Vec F S1024x768 .bf16) (b : Vec F S1024x2048 .bf16)
    {Q : _ → sProp 𝕄} :
    iprop(has c AC X ∗ has c arg2 a ∗ has c arg3 b)
      ⊢ iprop((∀ a0 a1 v2 v5 v8 v11 v14 v17, (has c AC X ∗ has c arg2 a ∗ has c arg3 b) -∗ Q ⟨a0, a1, c, v2, v5, v8, v11, v14, v17, X, k0_pay9 a, k0_pay10 b, constant S768x2048 .f32 0x00000000#32⟩)
        -∗ run c (k0_part11 (F := F) i arg2 harg2 arg3 harg3 A0 (Memref.isWhole_whole _) A1 (Memref.isWhole_whole _) A2 (Memref.isWhole_whole _) arg7 harg7 TH (Memref.isWhole_whole _) D0 (Memref.isWhole_whole _) D1 (Memref.isWhole_whole _) D2 (Memref.isWhole_whole _) AC (Memref.isWhole_whole _) SB (Memref.isWhole_whole _) cc0_scratch2 cc0_scratch3 cc0_scratch4 cc0_scratch5 cc0_scratch6) Q) := by
  rw [k0_part11_eq_skeleton]; unfold k0_part11_skel run
  simp only [Prog.lift, Prog.bind_op, Prog.bind_ret, Prog.pure_eq_ret, dif_neg h1, dif_neg hz, wp_bind, wp_deviceId]
  iintro ⟨HX, HA, HB⟩ HK
  iapply (loadFull c AC X) $$ HX; iintro HX
  iapply (loadFull c arg2 a) $$ HA; iintro HA
  iapply (loadFull c arg3 b) $$ HB; iintro HB
  iapply (run_ret c _ Q)
  iapply HK
  isplitl [HX]; · iexact HX
  isplitl [HA]; · iexact HA
  iexact HB

/-! ### The end of a pair: the four stores -/

/-- What the accumulator `A` leaves in a buffer of two blocks. -/
def out (A : Vec F S768x2048 .f32) : S2x384x2048.Idx → Elt F .bf16 :=
  fun x => k0_pay3 (half A (x 0)) (ix3 (0 : Fin 1) (x 1) (x 2))

theorem blocks_eq (c : Dev nD) (j : ℕ) : blocks m c j = out (accAt m c (4 * j + 3)) := rfl

/-- The load of one half of the accumulator. -/
theorem load_half (A : Vec F S768x2048 .f32) (b : Fin 2) (off : Fin 2 → ℕ) (ho : off = ![384 * b.val, 0]) (inb : ∀ a, off a + S384x2048.size a ≤ S768x2048.size a) :
    (fun x => A ((Rect.unit (s := S768x2048) off S384x2048.size inb).toLoadRect.idx x)) = half A b := by
  subst ho
  funext x
  refine congrArg A (funext fun a => Fin.ext ?_)
  match a with
  | 0 => show 384 * b.val + 1 * (x 0).val = 384 * b.val + (x 0).val; omega
  | 1 => show 0 + 1 * (x 1).val = (x 1).val; omega

theorem writes_two {sp : Space} {s : Shape} {e : EltTy} (v : View sig .tc sp s e) (f : v.ty.Contents (Elt F)) (p q : View.Piece (Elt F) s e) :
    v.writes (Elt F) (v.writes (Elt F) f [p]) [q] = v.writes (Elt F) f [q, p] := rfl

/-- Both planes stored, whatever was there. -/
theorem stored (v : View sig .tc .vmem S2x384x2048 .bf16) (f : v.ty.Contents (Elt F)) (A : Vec F S768x2048 .f32)
    (p0 p1 : Vec F S1x384x2048 .bf16) (h0 : p0 = k0_pay3 (half A 0)) (h1 : p1 = k0_pay3 (half A 1)) :
    v.read (Elt F) (v.writes (Elt F) (v.writes (Elt F) f [⟨Rect.unit (s := S2x384x2048) ![0, 0, 0] S1x384x2048.size inb_S2x384x2048_S1x384x2048_0_0_0, p0⟩]) [⟨Rect.unit (s := S2x384x2048) ![1, 0, 0] S1x384x2048.size inb_S2x384x2048_S1x384x2048_1_0_0, p1⟩]) = out A := by
  rw [writes_two]
  subst h0 h1
  funext x
  obtain ⟨p, y, z, rfl⟩ : ∃ p y z, x = ix3 p y z := ⟨x 0, x 1, x 2, eq_ix3 x⟩
  have hp : p = 0 ∨ p = 1 := by
    rcases p with ⟨p, hp⟩
    match p, hp with
    | 0, _ => exact Or.inl rfl
    | 1, _ => exact Or.inr rfl
  rcases hp with rfl | rfl
  · rw [View.read_writes_cons_unit_of_not_mem v f _ _ _ _ rfl (0 : Fin 3) (Or.inl (by show 0 < 1; omega))]
    exact View.read_writes_cons_unit_of_mem v f _ _ [] _ (ix3 (0 : Fin 1) y z) rfl fun a => by
      match a with
      | 0 => rfl
      | 1 => show y.val = 0 + y.val; omega
      | 2 => show z.val = 0 + z.val; omega
  · exact View.read_writes_cons_unit_of_mem v f _ _ _ _ (ix3 (0 : Fin 1) y z) rfl fun a => by
      match a with
      | 0 => rfl
      | 1 => show y.val = 0 + y.val; omega
      | 2 => show z.val = 0 + z.val; omega

end Cert.OuterIdeal.GO

end
-- ==== Proof.OuterTurn.lean ====
module

public import proofs.«01_k».proof.Proof.OuterWork

@[expose] public section

noncomputable section

/-! The end of a pair in the second kernel. -/

namespace Cert.OuterIdeal.GO

open Idealize.ShloMosaic
open Idealize.SL
open Idealize.SL.BI
open scoped Idealize.SL.BI
open Idealize.SL.BI.BIBase Idealize.SL.BI.Laws Idealize.SL.Sem Idealize.SL.ProofMode
open Idealize.SL.RA
open Idealize.ShloMosaic.TcCoe
open Idealize.ShloMosaic.Rounds
open Idealize.ShloMosaic.ValueIdx
open Idealize.ShloMosaic.Pipeline
open Cert.OuterIdeal.Gen
open Cert.KernelIdeal.GW (flip core other core_flip)

set_option Elab.async false

variable {F : FTy → Type} [FloatOps F]
variable (m : (ℓ : Loc nD τ sig) → Buf (Elt F) ℓ)
variable {U : Type} [URA U]
variable (ER : Emb (URounds (GSem nD τ sig) Unit) (MT nD τ sig Unit (Elt F) ℕ U ℕ))
local notation "𝕄" => MT nD τ sig Unit (Elt F) ℕ U ℕ
/-! ### Loads and stores at raw contents -/

theorem loadRaw (c : Dev nD) {α : Type} {Q : α → sProp 𝕄} {cs : CoreSpace} {s : Shape} {e : EltTy} (M : Memref sig .tc cs s e) (f : M.view.ty.Contents (Elt F))
    {r : LoadRect s} {hl : M.view.LoadsAt r} {k : (r.shape.Idx → Elt F e) → Prog (TpuEff nD τ sig (Elt F) Λ₀ .tc) α} :
    (M.view.loc (c.tc : Thread nD τ) ↦[M.view.set]{fullShare} f : sProp 𝕄) ⊢ iprop(((M.view.loc (c.tc : Thread nD τ) ↦[M.view.set]{fullShare} f) -∗ run c (k (M.view.readAt (Elt F) r f)) Q) -∗ run c (.op (.load M r hl) k) Q) := by
  have hsub : M.view.setOn r.set ⊆ M.view.set := View.setOn_subset_set _ _
  exact wp_load Variants.none (c.tc : Thread nD τ) none Set.univ (m := M) (r := r) (q := fullShare) (f := f) hsub

theorem storeRaw (c : Dev nD) {α : Type} {Q : α → sProp 𝕄} {cs : CoreSpace} {s : Shape} {e : EltTy} (M : Memref sig .tc cs s e) (f : M.view.ty.Contents (Elt F))
    {r : Rect s} {w : r.shape.Idx → Elt F e} {hx : (M.access r).Stores Finset.univ} {hm : (Finset.univ : Finset r.shape.Idx) = Finset.univ ∨ ∀ a, r.stride a = 1}
    {k : PUnit → Prog (TpuEff nD τ sig (Elt F) Λ₀ .tc) α} :
    (M.view.loc (c.tc : Thread nD τ) ↦[M.view.set]{fullShare} f : sProp 𝕄) ⊢ iprop(((M.view.loc (c.tc : Thread nD τ) ↦[M.view.set]{fullShare} M.view.writes (Elt F) f [⟨r, w⟩]) -∗ run c (k ⟨⟩) Q) -∗ run c (.op (.store M r w Finset.univ hx hm) k) Q) := by
  have hsub : (M.access r).setOn Finset.univ ⊆ M.view.set := by
    rw [View.setOn_univ]; exact View.set_slice_subset _ _
  exact wp_store Variants.none (c.tc : Thread nD τ) none Set.univ (m := M) (r := r) (w := w) (Mk := Finset.univ) (f := f) hsub

theorem has_raw (c : Dev nD) {sp : Space} {s : Shape} {e : EltTy} (M : Memref sig .tc sp s e) (X : s.Idx → Elt F e) :
    (has c M X : sProp 𝕄) ⊢ iprop(∃ f, (M.view.loc (c.tc : Thread nD τ) ↦[M.view.set]{fullShare} f)) := by
  unfold has owns
  iintro ⟨%f, %hf, H⟩
  iexists f
  iexact H

theorem raw_has (c : Dev nD) {sp : Space} {s : Shape} {e : EltTy} (M : Memref sig .tc sp s e) {X : s.Idx → Elt F e} (f : M.view.ty.Contents (Elt F))
    (h : M.view.read (Elt F) f = X) : (M.view.loc (c.tc : Thread nD τ) ↦[M.view.set]{fullShare} f : sProp 𝕄) ⊢ has c M X := by
  unfold has owns
  iintro H
  iexists f
  isplitr; · ipureintro; exact h
  iexact H

theorem pay4_eq {A : Vec F S384x2048 .f32} : k0_pay4 A = k0_pay3 A := rfl
theorem pay6_eq {A : Vec F S384x2048 .f32} : k0_pay6 A = k0_pay3 A := rfl
theorem pay7_eq {A : Vec F S384x2048 .f32} : k0_pay7 A = k0_pay3 A := rfl

theorem stores (c : Dev nD) {α : Type} {Q : α → sProp 𝕄} (arg7 : Memref sig .tc .vmem S2x384x2048 .bf16) (A : Vec F S768x2048 .f32) (Y Z : S2x384x2048.Idx → Elt F .bf16)
    {a1 a2 a3 a4 a5 a6 a7 a8 a9 a10 a11 a12 a13 a14} {k : PUnit → Prog (TpuEff nD τ sig (Elt F) Λ₀ .tc) α} :
    iprop(has c AC A ∗ has c arg7 Y ∗ has c SB Z)
      ⊢ iprop(((has c AC A ∗ has c arg7 (out A) ∗ has c SB (out A)) -∗ run c (k ⟨⟩) Q)
        -∗ run c (.op (.load AC (Rect.unit (s := S768x2048) ![0, 0] S384x2048.size inb_S768x2048_S384x2048_0_0).toLoadRect a1) fun v55 =>
          .op (.load arg7 (Rect.unit (s := S2x384x2048) ![0, 0, 0] S1x384x2048.size inb_S2x384x2048_S1x384x2048_0_0_0).toLoadRect a2) fun _ =>
          .op (.store arg7 (Rect.unit (s := S2x384x2048) ![0, 0, 0] S1x384x2048.size inb_S2x384x2048_S1x384x2048_0_0_0) (k0_pay3 v55) Finset.univ a3 a4) fun _ =>
          .op (.load SB (Rect.unit (s := S2x384x2048) ![0, 0, 0] S1x384x2048.size inb_S2x384x2048_S1x384x2048_0_0_0).toLoadRect a5) fun _ =>
          .op (.store SB (Rect.unit (s := S2x384x2048) ![0, 0, 0] S1x384x2048.size inb_S2x384x2048_S1x384x2048_0_0_0) (k0_pay4 v55) Finset.univ a6 a7) fun _ =>
          .op (.load AC (Rect.unit (s := S768x2048) ![384, 0] S384x2048.size inb_S768x2048_S384x2048_384_0).toLoadRect a8) fun v63 =>
          .op (.load arg7 (Rect.unit (s := S2x384x2048) ![1, 0, 0] S1x384x2048.size inb_S2x384x2048_S1x384x2048_1_0_0).toLoadRect a9) fun _ =>
          .op (.store arg7 (Rect.unit (s := S2x384x2048) ![1, 0, 0] S1x384x2048.size inb_S2x384x2048_S1x384x2048_1_0_0) (k0_pay6 v63) Finset.univ a10 a11) fun _ =>
          .op (.load SB (Rect.unit (s := S2x384x2048) ![1, 0, 0] S1x384x2048.size inb_S2x384x2048_S1x384x2048_1_0_0).toLoadRect a12) fun _ =>
          .op (.store SB (Rect.unit (s := S2x384x2048) ![1, 0, 0] S1x384x2048.size inb_S2x384x2048_S1x384x2048_1_0_0) (k0_pay7 v63) Finset.univ a13 a14) k) Q) := by
  iintro ⟨HX, HY, HZ⟩ HK
  iapply (load c AC A) $$ HX; iintro HX
  rw [load_half A 0 ![0, 0] rfl inb_S768x2048_S384x2048_0_0]
  ihave HY := (has_raw c arg7 Y) $$ HY
  icases HY with ⟨%f, HY⟩
  ihave HZ := (has_raw c SB Z) $$ HZ
  icases HZ with ⟨%g, HZ⟩
  iapply (loadRaw c arg7 f) $$ HY; iintro HY
  iapply (storeRaw c arg7 f) $$ HY; iintro HY
  iapply (loadRaw c SB g) $$ HZ; iintro HZ
  iapply (storeRaw c SB g) $$ HZ; iintro HZ
  iapply (load c AC A) $$ HX; iintro HX
  rw [load_half A 1 ![384, 0] rfl inb_S768x2048_S384x2048_384_0]
  iapply (loadRaw c arg7 _) $$ HY; iintro HY
  iapply (storeRaw c arg7 _) $$ HY; iintro HY
  iapply (loadRaw c SB _) $$ HZ; iintro HZ
  iapply (storeRaw c SB _) $$ HZ; iintro HZ
  have h8 := stored arg7.view f A (k0_pay3 (half A 0)) (k0_pay6 (half A 1)) rfl pay6_eq
  have hS := stored SB.view g A (k0_pay4 (half A 0)) (k0_pay7 (half A 1)) pay4_eq pay7_eq
  ihave HY' := (raw_has c arg7 _ h8) $$ HY
  ihave HZ' := (raw_has c SB _ hS) $$ HZ
  iapply HK
  isplitl [HX]; · iexact HX
  isplitl [HY']; · iexact HY'
  iexact HZ'

/-! ### The two blocks of the outgoing pair, one by one -/

theorem has_whole (c : Dev nD) (b : Ref sig .tc) (X : b.ty.Contents (Elt F)) :
    (has c (Memref.whole b) X : sProp 𝕄) = ((Memref.whole b).view.loc (c.tc : Thread nD τ) ↦{fullShare} X) := by
  have hS : (Memref.whole b : Memref sig .tc _ _ _).view.set = Finset.univ := View.set_whole _
  have hR : ∀ f, (Memref.whole b : Memref sig .tc _ _ _).view.read (Elt F) f = f := fun f => View.read_whole _ f
  have h1 : (has c (Memref.whole b) X : sProp 𝕄) ⊢ ((Memref.whole b).view.loc (c.tc : Thread nD τ) ↦{fullShare} X) := by
    unfold has owns
    iintro ⟨%f, %hf, H⟩
    rw [hR] at hf
    subst hf
    rw [hS]
    iexact H
  have h2 : ((Memref.whole b).view.loc (c.tc : Thread nD τ) ↦{fullShare} X : sProp 𝕄) ⊢ has c (Memref.whole b) X := by
    iintro H
    iapply (raw_has c (Memref.whole b) X (hR X))
    rw [hS]
    iexact H
  exact Idealize.SL.BI.Entails.antisymm h1 h2

def sbOrder (c : Dev nD) : Fin 2 → Fin 2 := ![core c, other c]
theorem sbOrder_injective (c : Dev nD) : Function.Injective (sbOrder c) := by
  revert c; decide +kernel

theorem bigSep_two (Φ : Fin 2 → sProp 𝕄) : bigSep Finset.univ Φ = iprop(Φ 0 ∗ Φ 1) := bigSep_univ_eq_bigSepL [0, 1] (by decide) (by decide) Φ

theorem sb_split (c : Dev nD) (X : S2x384x2048.Idx → Elt F .bf16) :
    (has c SB X : sProp 𝕄) = iprop(Rows.own q4 c SB (core c) X ∗ Rows.own q4 c SB (other c) X) := by
  rw [has_whole, Rows.whole_rows q4 c SB (View.set_whole _) (sbOrder c) (sbOrder_injective c), bigSep_two]
  rfl

theorem sb_join (c : Dev nD) (X : S2x384x2048.Idx → Elt F .bf16) :
    iprop((∃ f, Rows.own q4 c SB (core c) f) ∗ Rows.own q4 c SB (other c) X) ⊢ (iprop(∃ Z : S2x384x2048.Idx → Elt F .bf16, has c SB Z) : sProp 𝕄) := by
  have h := Rows.rows_whole_exists (τ := τ) (U := U) (Val := Elt F) q4 c SB (View.set_whole _) (sbOrder c) (sbOrder_injective c) X
  rw [bigSep_two] at h
  iintro ⟨⟨%f, H0⟩, H1⟩
  have h' : iprop((∃ f, Rows.own q4 c SB (sbOrder c 0) f) ∗ ∃ f, Rows.own q4 c SB (sbOrder c 1) f) ⊢ (iprop(∃ f, (SB.view.loc (c.tc : Thread nD τ) ↦{fullShare} f)) : sProp 𝕄) := h
  ihave H := h' $$ [H0 H1]
  · isplitl [H0]
    · iexists f; iexact H0
    iexists X; iexact H1
  icases H with ⟨%Z, H⟩
  iexists Z
  rw [has_whole]
  iexact H

theorem pair0 (c : Dev nD) (i : grid0.Coords) {arg2 harg2 arg3 harg3 arg7 harg7} (arg0 v11 v14 v17 : BitVec 32) (h3 : k0_cond3 i = 1#1) (h4 : ¬ k0_cond4 i = 1#1) (h5 : ¬ k0_cond5 i = 1#1) (h6 : ¬ k0_cond6 i = 1#1) (h7 : k0_cond7 i = 1#1)
    (Z : S2x384x2048.Idx → Elt F .bf16) (Y : S2x384x2048.Idx → Elt F .bf16) {Q : PUnit → sProp 𝕄} :
    iprop(stage m ER c 6 0 ∗ has c SB Z ∗ has c AC (accAt m c 3) ∗ has c arg7 Y)
      ⊢ iprop(((stage m ER c 7 0 ∗ Rows.own q4 c SB (core c) (blocks m c 0) ∗ has c AC (accAt m c 3) ∗ has c arg7 (blocks m c 0)) -∗ Q ⟨⟩) -∗ run c (k0_part4 (F := F) i arg2 harg2 arg3 harg3 A0 (Memref.isWhole_whole _) A1 (Memref.isWhole_whole _) A2 (Memref.isWhole_whole _) arg7 harg7 TH (Memref.isWhole_whole _) D0 (Memref.isWhole_whole _) D1 (Memref.isWhole_whole _) D2 (Memref.isWhole_whole _) AC (Memref.isWhole_whole _) SB (Memref.isWhole_whole _) cc0_scratch2 cc0_scratch3 cc0_scratch4 cc0_scratch5 cc0_scratch6 arg0 c v11 v14 v17 h3) Q) := by
  rw [k0_part4_eq_skeleton]; unfold k0_part4_skel run
  simp only [Prog.lift, Prog.bind_op, Prog.bind_ret, Prog.pure_eq_ret, dif_neg h4, dif_neg h5, dif_neg h6, dif_pos h7]
  iintro ⟨Hs, HZ, HX, HY⟩ HK
  iapply (stores c arg7 (accAt m c 3) Y Z) $$ [HX HY HZ]
  · isplitl [HX]; · iexact HX
    isplitl [HY]; · iexact HY
    iexact HZ
  iintro ⟨HX, HY, HZ⟩
  ihave HZ := (Entails.of_eq (sb_split c (out (accAt m c 3)))) $$ HZ
  icases HZ with ⟨H0, H1⟩
  iapply (sendPair m ER c 0 0 6 (by decide +kernel) (by decide +kernel) (off6_eq c) rfl (dev7_eq c) rfl rfl) $$ [Hs H1]
  · isplitl [Hs]; · iexact Hs
    iexact H1
  iintro Hs
  iapply (run_ret c _ Q)
  iapply HK
  isplitl [Hs]; · iexact Hs
  isplitl [H0]; · iexact H0
  isplitl [HX]; · iexact HX
  iexact HY

theorem pair1 (c : Dev nD) (i : grid0.Coords) {arg2 harg2 arg3 harg3 arg7 harg7} (arg0 v11 v14 v17 : BitVec 32) (h3 : k0_cond3 i = 1#1) (h4 : k0_cond4 i = 1#1) (h5 : ¬ k0_cond5 i = 1#1) (h6 : ¬ k0_cond6 i = 1#1) (h7 : ¬ k0_cond7 i = 1#1)
    (Y : S2x384x2048.Idx → Elt F .bf16) {Q : PUnit → sProp 𝕄} :
    iprop(stage m ER c 7 0 ∗ (∃ f, Rows.own q4 c SB (core c) f) ∗ has c AC (accAt m c 7) ∗ has c arg7 Y)
      ⊢ iprop(((stage m ER c 7 1 ∗ has c SB (blocks m c 1) ∗ has c AC (accAt m c 7) ∗ has c arg7 (blocks m c 1)) -∗ Q ⟨⟩) -∗ run c (k0_part4 (F := F) i arg2 harg2 arg3 harg3 A0 (Memref.isWhole_whole _) A1 (Memref.isWhole_whole _) A2 (Memref.isWhole_whole _) arg7 harg7 TH (Memref.isWhole_whole _) D0 (Memref.isWhole_whole _) D1 (Memref.isWhole_whole _) D2 (Memref.isWhole_whole _) AC (Memref.isWhole_whole _) SB (Memref.isWhole_whole _) cc0_scratch2 cc0_scratch3 cc0_scratch4 cc0_scratch5 cc0_scratch6 arg0 c v11 v14 v17 h3) Q) := by
  rw [k0_part4_eq_skeleton]; unfold k0_part4_skel run
  simp only [Prog.lift, Prog.bind_op, Prog.bind_ret, Prog.pure_eq_ret, dif_pos h4, dif_neg h5, dif_neg h6, dif_neg h7]
  iintro ⟨Hs, H0, HX, HY⟩ HK
  iapply (take m ER c 7 0 (.ps 0) (by decide +kernel) (by decide +kernel) ?_) $$ Hs
  · intro R; exact wpE_waitDma2_eq _ _ none Set.univ R
  iintro ⟨H1, Hs⟩
  ihave H1 := (Entails.of_eq (show (pay m c (.ps 0) : sProp 𝕄) = Rows.own q4 c SB (other c) (blocks m c 0) from rfl)) $$ H1
  ihave HZ := (sb_join c (blocks m c 0)) $$ [H0 H1]
  · isplitl [H0]; · iexact H0
    iexact H1
  icases HZ with ⟨%Z, HZ⟩
  iapply (stores c arg7 (accAt m c 7) Y Z) $$ [HX HY HZ]
  · isplitl [HX]; · iexact HX
    isplitl [HY]; · iexact HY
    iexact HZ
  iintro ⟨HX, HY, HZ⟩
  iapply (run_ret c _ Q)
  iapply HK
  isplitl [Hs]; · iexact Hs
  isplitl [HZ]; · iexact HZ
  isplitl [HX]; · iexact HX
  iexact HY

theorem pair2 (c : Dev nD) (i : grid0.Coords) {arg2 harg2 arg3 harg3 arg7 harg7} (arg0 v11 v14 v17 : BitVec 32) (h3 : k0_cond3 i = 1#1) (h4 : ¬ k0_cond4 i = 1#1) (h5 : k0_cond5 i = 1#1) (h6 : ¬ k0_cond6 i = 1#1) (h7 : ¬ k0_cond7 i = 1#1)
    (Y : S2x384x2048.Idx → Elt F .bf16) {Q : PUnit → sProp 𝕄} :
    iprop(stage m ER c 8 1 ∗ (∃ f, Rows.own q4 c SB (core c) f) ∗ has c AC (accAt m c 11) ∗ has c arg7 Y)
      ⊢ iprop(((stage m ER c 8 2 ∗ has c SB (blocks m c 2) ∗ has c AC (accAt m c 11) ∗ has c arg7 (blocks m c 2)) -∗ Q ⟨⟩) -∗ run c (k0_part4 (F := F) i arg2 harg2 arg3 harg3 A0 (Memref.isWhole_whole _) A1 (Memref.isWhole_whole _) A2 (Memref.isWhole_whole _) arg7 harg7 TH (Memref.isWhole_whole _) D0 (Memref.isWhole_whole _) D1 (Memref.isWhole_whole _) D2 (Memref.isWhole_whole _) AC (Memref.isWhole_whole _) SB (Memref.isWhole_whole _) cc0_scratch2 cc0_scratch3 cc0_scratch4 cc0_scratch5 cc0_scratch6 arg0 c v11 v14 v17 h3) Q) := by
  rw [k0_part4_eq_skeleton]; unfold k0_part4_skel run
  simp only [Prog.lift, Prog.bind_op, Prog.bind_ret, Prog.pure_eq_ret, dif_neg h4, dif_pos h5, dif_neg h6, dif_neg h7]
  iintro ⟨Hs, H0, HX, HY⟩ HK
  iapply (take m ER c 8 1 (.ps 1) (by decide +kernel) (by decide +kernel) ?_) $$ Hs
  · intro R; exact wpE_waitDma2_eq _ _ none Set.univ R
  iintro ⟨H1, Hs⟩
  ihave H1 := (Entails.of_eq (show (pay m c (.ps 1) : sProp 𝕄) = Rows.own q4 c SB (other c) (blocks m c 1) from rfl)) $$ H1
  ihave HZ := (sb_join c (blocks m c 1)) $$ [H0 H1]
  · isplitl [H0]; · iexact H0
    iexact H1
  icases HZ with ⟨%Z, HZ⟩
  iapply (stores c arg7 (accAt m c 11) Y Z) $$ [HX HY HZ]
  · isplitl [HX]; · iexact HX
    isplitl [HY]; · iexact HY
    iexact HZ
  iintro ⟨HX, HY, HZ⟩
  iapply (run_ret c _ Q)
  iapply HK
  isplitl [Hs]; · iexact Hs
  isplitl [HZ]; · iexact HZ
  isplitl [HX]; · iexact HX
  iexact HY

theorem pair3 (c : Dev nD) (i : grid0.Coords) {arg2 harg2 arg3 harg3 arg7 harg7} (arg0 v11 v14 v17 : BitVec 32) (h3 : k0_cond3 i = 1#1) (h4 : ¬ k0_cond4 i = 1#1) (h5 : ¬ k0_cond5 i = 1#1) (h6 : k0_cond6 i = 1#1) (h7 : ¬ k0_cond7 i = 1#1)
    (Y : S2x384x2048.Idx → Elt F .bf16) {Q : PUnit → sProp 𝕄} :
    iprop(stage m ER c 9 2 ∗ (∃ f, Rows.own q4 c SB (core c) f) ∗ has c AC (accAt m c 15) ∗ has c arg7 Y)
      ⊢ iprop(((stage m ER c 9 3 ∗ has c SB (blocks m c 3) ∗ has c AC (accAt m c 15) ∗ has c arg7 (blocks m c 3)) -∗ Q ⟨⟩) -∗ run c (k0_part4 (F := F) i arg2 harg2 arg3 harg3 A0 (Memref.isWhole_whole _) A1 (Memref.isWhole_whole _) A2 (Memref.isWhole_whole _) arg7 harg7 TH (Memref.isWhole_whole _) D0 (Memref.isWhole_whole _) D1 (Memref.isWhole_whole _) D2 (Memref.isWhole_whole _) AC (Memref.isWhole_whole _) SB (Memref.isWhole_whole _) cc0_scratch2 cc0_scratch3 cc0_scratch4 cc0_scratch5 cc0_scratch6 arg0 c v11 v14 v17 h3) Q) := by
  rw [k0_part4_eq_skeleton]; unfold k0_part4_skel run
  simp only [Prog.lift, Prog.bind_op, Prog.bind_ret, Prog.pure_eq_ret, dif_neg h4, dif_neg h5, dif_pos h6, dif_neg h7]
  iintro ⟨Hs, H0, HX, HY⟩ HK
  iapply (take m ER c 9 2 (.ps 2) (by decide +kernel) (by decide +kernel) ?_) $$ Hs
  · intro R; exact wpE_waitDma2_eq _ _ none Set.univ R
  iintro ⟨H1, Hs⟩
  ihave H1 := (Entails.of_eq (show (pay m c (.ps 2) : sProp 𝕄) = Rows.own q4 c SB (other c) (blocks m c 2) from rfl)) $$ H1
  ihave HZ := (sb_join c (blocks m c 2)) $$ [H0 H1]
  · isplitl [H0]; · iexact H0
    iexact H1
  icases HZ with ⟨%Z, HZ⟩
  iapply (stores c arg7 (accAt m c 15) Y Z) $$ [HX HY HZ]
  · isplitl [HX]; · iexact HX
    isplitl [HY]; · iexact HY
    iexact HZ
  iintro ⟨HX, HY, HZ⟩
  iapply (run_ret c _ Q)
  iapply HK
  isplitl [Hs]; · iexact Hs
  isplitl [HZ]; · iexact HZ
  isplitl [HX]; · iexact HX
  iexact HY

end Cert.OuterIdeal.GO

end
-- ==== Proof.OuterKinds.lean ====
module

public import proofs.«01_k».proof.Proof.OuterTurn

@[expose] public section

noncomputable section

/-! The body of the second kernel at each kind of grid point. -/

namespace Cert.OuterIdeal.GO

open Idealize.ShloMosaic
open Idealize.SL
open Idealize.SL.BI
open scoped Idealize.SL.BI
open Idealize.SL.BI.BIBase Idealize.SL.BI.Laws Idealize.SL.Sem Idealize.SL.ProofMode
open Idealize.SL.RA
open Idealize.ShloMosaic.TcCoe
open Idealize.ShloMosaic.Rounds
open Idealize.ShloMosaic.ValueIdx
open Idealize.ShloMosaic.Pipeline
open Cert.OuterIdeal.Gen
open Cert.KernelIdeal.GW (flip core other core_flip)

set_option Elab.async false

variable {F : FTy → Type} [FloatOps F]
variable (m : (ℓ : Loc nD τ sig) → Buf (Elt F) ℓ)
variable {U : Type} [URA U]
variable (ER : Emb (URounds (GSem nD τ sig) Unit) (MT nD τ sig Unit (Elt F) ℕ U ℕ))
local notation "𝕄" => MT nD τ sig Unit (Elt F) ℕ U ℕ
/-! ### What the last waits hand back, put together -/

theorem bigSep_four (Φ : Fin 4 → sProp 𝕄) : bigSep Finset.univ Φ = iprop(Φ 0 ∗ Φ 1 ∗ Φ 2 ∗ Φ 3) := bigSep_univ_eq_bigSepL [0, 1, 2, 3] (by decide) (by decide) Φ

section Four
variable {sp : Space} {e : EltTy} {p r : ℕ} (sq : (⟨3, ![1, p, r]⟩ : Shape).Squeezes ⟨2, ![p, r]⟩)

theorem rows_plain (c : Dev nD) (M : Memref sig .tc sp ⟨3, ![4, p, r]⟩ e) (hM : M.view.set = Finset.univ) (f : Buf (Elt F) (M.view.loc (c.tc : Thread nD τ))) :
    (M.view.loc (c.tc : Thread nD τ) ↦{fullShare} f : sProp 𝕄)
      = iprop(Rows.own sq c M 0 f ∗ Rows.own sq c M 1 f ∗ Rows.own sq c M 2 f ∗ Rows.own sq c M 3 f) := by
  rw [Rows.whole_rows sq c M hM id Function.injective_id, bigSep_four]
  rfl
end Four

/-- A memref's whole buffer at contents `f`. -/
abbrev full (c : Dev nD) {sp : Space} {s : Shape} {e : EltTy} (M : Memref sig .tc sp s e) (f : Buf (Elt F) (M.view.loc (c.tc : Thread nD τ))) : sProp 𝕄 :=
  M.view.loc (c.tc : Thread nD τ) ↦{fullShare} f

theorem gather_pairs (c : Dev nD) :
    iprop(pay m c (.pr 0) ∗ pay m c (.pr 1) ∗ pay m c (.pr 2) ∗ pay m c (.pr 3)) ⊢ (full c TH (theirs m c) : sProp 𝕄) :=
  Entails.of_eq (rows_plain q4 c TH (View.set_whole _) (theirs m c)).symm

theorem gather_plane (c : Dev nD) :
    iprop(pay m c (.rf 0) ∗ pay m c (.rf 1) ∗ pay m c (.rf 2) ∗ pay m c (.rf 3)) ⊢ (full c D2 (arr2 m c) : sProp 𝕄) :=
  Entails.of_eq (rows_plain q2 c D2 (View.set_whole _) (arr2 m c)).symm

/-! ### The body at each kind of grid point -/

/-- The first point: everything that can be sent is sent, and the accumulator starts. -/
theorem point_first (c : Dev nD) (i : grid0.Coords) {arg2 harg2 arg3 harg3 arg7 harg7} (h1 : k0_cond1 i = 1#1) (hz : isFirst i) (h3 : ¬ k0_cond3 i = 1#1) (h11 : ¬ k0_cond11 i = 1#1)
    (X : Vec F S768x2048 .f32) (a : Vec F S1024x768 .bf16) (b : Vec F S1024x2048 .bf16) {Q : PUnit → sProp 𝕄} :
    iprop(stage m ER c 0 0 ∗ holds c (col0 (other c)) fullShare (s0 m c) ∗ holds c (col1 (other c)) fullShare (s1 m c) ∗ holds c pln (quarter 0) (s2 m c) ∗ holds c pln (quarter 1) (s2 m c) ∗ holds c pln (quarter 2) (s2 m c) ∗ holds c pln (quarter 3) (s2 m c) ∗ has c AC X ∗ has c arg2 a ∗ has c arg3 b)
      ⊢ iprop(((stage m ER c 6 0 ∗ has c AC (step k0_pay8 a b) ∗ has c arg2 a ∗ has c arg3 b) -∗ Q ⟨⟩)
        -∗ run c (cc0_grad_w_out i arg2 harg2 arg3 harg3 A0 (Memref.isWhole_whole _) A1 (Memref.isWhole_whole _) A2 (Memref.isWhole_whole _) arg7 harg7 TH (Memref.isWhole_whole _) D0 (Memref.isWhole_whole _) D1 (Memref.isWhole_whole _) D2 (Memref.isWhole_whole _) AC (Memref.isWhole_whole _) SB (Memref.isWhole_whole _) cc0_scratch2 cc0_scratch3 cc0_scratch4 cc0_scratch5 cc0_scratch6) Q) := by
  rw [cc0_grad_w_out_eq_skeleton]; unfold cc0_grad_w_out_skel run
  simp only [Prog.lift, Prog.bind_op, Prog.bind_ret, Prog.pure_eq_ret, dif_neg h3, dif_neg h11, wp_bind]
  iintro ⟨Hs, Ha0, Ha1, Ha2, Ha3, Ha4, Ha5, HX, HA, HB⟩ HK
  iapply (head_first m ER c i h1 hz X a b) $$ [Hs Ha0 Ha1 Ha2 Ha3 Ha4 Ha5 HX HA HB]
  · isplitl [Hs]; · iexact Hs
    isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [HX]; · iexact HX
    isplitl [HA]; · iexact HA
    iexact HB
  iintro %a0 %a1 %v2 %v5 %v8 %v11 %v14 %v17 ⟨Hs, HX, HA, HB⟩
  iapply (loadFull c AC k0_pay8) $$ HX; iintro HX
  iapply (storeFull c AC k0_pay8 (k0_pay1 k0_pay8 (k0_pay9 a) (k0_pay10 b) (constant S768x2048 .f32 0x00000000#32))) $$ HX; iintro HX
  rw [show k0_pay1 k0_pay8 (k0_pay9 a) (k0_pay10 b) (constant S768x2048 .f32 0x00000000#32) = step k0_pay8 a b from rfl]
  iapply (run_ret c _ Q)
  iapply HK
  isplitl [Hs]; · iexact Hs
  isplitl [HX]; · iexact HX
  isplitl [HA]; · iexact HA
  iexact HB

theorem point_zero (c : Dev nD) (i : grid0.Coords) {arg2 harg2 arg3 harg3 arg7 harg7} (h1 : ¬ k0_cond1 i = 1#1) (hz : isFirst i) (h3 : ¬ k0_cond3 i = 1#1) (h11 : ¬ k0_cond11 i = 1#1)
    (X : Vec F S768x2048 .f32) (a : Vec F S1024x768 .bf16) (b : Vec F S1024x2048 .bf16) {Q : PUnit → sProp 𝕄} :
    iprop(has c AC X ∗ has c arg2 a ∗ has c arg3 b)
      ⊢ iprop(((has c AC (step k0_pay8 a b) ∗ has c arg2 a ∗ has c arg3 b) -∗ Q ⟨⟩)
        -∗ run c (cc0_grad_w_out (F := F) i arg2 harg2 arg3 harg3 A0 (Memref.isWhole_whole _) A1 (Memref.isWhole_whole _) A2 (Memref.isWhole_whole _) arg7 harg7 TH (Memref.isWhole_whole _) D0 (Memref.isWhole_whole _) D1 (Memref.isWhole_whole _) D2 (Memref.isWhole_whole _) AC (Memref.isWhole_whole _) SB (Memref.isWhole_whole _) cc0_scratch2 cc0_scratch3 cc0_scratch4 cc0_scratch5 cc0_scratch6) Q) := by
  rw [cc0_grad_w_out_eq_skeleton]; unfold cc0_grad_w_out_skel run
  simp only [Prog.lift, Prog.bind_op, Prog.bind_ret, Prog.pure_eq_ret, dif_neg h3, dif_neg h11, wp_bind]
  iintro ⟨HX, HA, HB⟩ HK
  iapply (head_zero c i h1 hz X a b) $$ [HX HA HB]
  · isplitl [HX]; · iexact HX
    isplitl [HA]; · iexact HA
    iexact HB
  iintro %a0 %a1 %v2 %v5 %v8 %v11 %v14 %v17 ⟨HX, HA, HB⟩
  iapply (loadFull c AC k0_pay8) $$ HX; iintro HX
  iapply (storeFull c AC k0_pay8 (k0_pay1 k0_pay8 (k0_pay9 a) (k0_pay10 b) (constant S768x2048 .f32 0x00000000#32))) $$ HX; iintro HX
  rw [show k0_pay1 k0_pay8 (k0_pay9 a) (k0_pay10 b) (constant S768x2048 .f32 0x00000000#32) = step k0_pay8 a b from rfl]
  iapply (run_ret c _ Q)
  iapply HK
  isplitl [HX]; · iexact HX
  isplitl [HA]; · iexact HA
  iexact HB

theorem point_next (c : Dev nD) (i : grid0.Coords) {arg2 harg2 arg3 harg3 arg7 harg7} (h1 : ¬ k0_cond1 i = 1#1) (hz : ¬ isFirst i) (h3 : ¬ k0_cond3 i = 1#1) (h11 : ¬ k0_cond11 i = 1#1)
    (X : Vec F S768x2048 .f32) (a : Vec F S1024x768 .bf16) (b : Vec F S1024x2048 .bf16) {Q : PUnit → sProp 𝕄} :
    iprop(has c AC X ∗ has c arg2 a ∗ has c arg3 b)
      ⊢ iprop(((has c AC (step X a b) ∗ has c arg2 a ∗ has c arg3 b) -∗ Q ⟨⟩)
        -∗ run c (cc0_grad_w_out (F := F) i arg2 harg2 arg3 harg3 A0 (Memref.isWhole_whole _) A1 (Memref.isWhole_whole _) A2 (Memref.isWhole_whole _) arg7 harg7 TH (Memref.isWhole_whole _) D0 (Memref.isWhole_whole _) D1 (Memref.isWhole_whole _) D2 (Memref.isWhole_whole _) AC (Memref.isWhole_whole _) SB (Memref.isWhole_whole _) cc0_scratch2 cc0_scratch3 cc0_scratch4 cc0_scratch5 cc0_scratch6) Q) := by
  rw [cc0_grad_w_out_eq_skeleton]; unfold cc0_grad_w_out_skel run
  simp only [Prog.lift, Prog.bind_op, Prog.bind_ret, Prog.pure_eq_ret, dif_neg h3, dif_neg h11, wp_bind]
  iintro ⟨HX, HA, HB⟩ HK
  iapply (head_next c i h1 hz X a b) $$ [HX HA HB]
  · isplitl [HX]; · iexact HX
    isplitl [HA]; · iexact HA
    iexact HB
  iintro %a0 %a1 %v2 %v5 %v8 %v11 %v14 %v17 ⟨HX, HA, HB⟩
  iapply (loadFull c AC X) $$ HX; iintro HX
  iapply (storeFull c AC X (k0_pay1 X (k0_pay9 a) (k0_pay10 b) (constant S768x2048 .f32 0x00000000#32))) $$ HX; iintro HX
  rw [show k0_pay1 X (k0_pay9 a) (k0_pay10 b) (constant S768x2048 .f32 0x00000000#32) = step X a b from rfl]
  iapply (run_ret c _ Q)
  iapply HK
  isplitl [HX]; · iexact HX
  isplitl [HA]; · iexact HA
  iexact HB

theorem point_pair0 (c : Dev nD) (i : grid0.Coords) {arg2 harg2 arg3 harg3 arg7 harg7} (h1 : ¬ k0_cond1 i = 1#1) (hz : ¬ isFirst i) (h3 : k0_cond3 i = 1#1)
    (h4 : ¬ k0_cond4 i = 1#1) (h5 : ¬ k0_cond5 i = 1#1) (h6 : ¬ k0_cond6 i = 1#1) (h7 : k0_cond7 i = 1#1) (h8 : ¬ k0_cond8 i = 1#1) (h9 : ¬ k0_cond9 i = 1#1) (h10 : ¬ k0_cond10 i = 1#1) (h11 : ¬ k0_cond11 i = 1#1)
    (Z : S2x384x2048.Idx → Elt F .bf16) (Y : S2x384x2048.Idx → Elt F .bf16) (X : Vec F S768x2048 .f32) (a : Vec F S1024x768 .bf16) (b : Vec F S1024x2048 .bf16)
    (hX : step X a b = accAt m c 3) {Q : PUnit → sProp 𝕄} :
    iprop(stage m ER c 6 0 ∗ has c SB Z ∗ has c AC X ∗ has c arg2 a ∗ has c arg3 b ∗ has c arg7 Y)
      ⊢ iprop(((stage m ER c 7 0 ∗ (∃ f, Rows.own q4 c SB (core c) f) ∗ has c AC (accAt m c 3) ∗ has c arg2 a ∗ has c arg3 b ∗ has c arg7 (blocks m c 0)) -∗ Q ⟨⟩)
        -∗ run c (cc0_grad_w_out (F := F) i arg2 harg2 arg3 harg3 A0 (Memref.isWhole_whole _) A1 (Memref.isWhole_whole _) A2 (Memref.isWhole_whole _) arg7 harg7 TH (Memref.isWhole_whole _) D0 (Memref.isWhole_whole _) D1 (Memref.isWhole_whole _) D2 (Memref.isWhole_whole _) AC (Memref.isWhole_whole _) SB (Memref.isWhole_whole _) cc0_scratch2 cc0_scratch3 cc0_scratch4 cc0_scratch5 cc0_scratch6) Q) := by
  rw [cc0_grad_w_out_eq_skeleton]; unfold cc0_grad_w_out_skel run
  simp only [Prog.lift, Prog.bind_op, Prog.bind_ret, Prog.pure_eq_ret, dif_pos h3, dif_neg h8, dif_neg h9, dif_neg h10, dif_neg h11, wp_bind]
  iintro ⟨Hs, HZ, HX, HA, HB, HY⟩ HK
  iapply (head_next c i h1 hz X a b) $$ [HX HA HB]
  · isplitl [HX]; · iexact HX
    isplitl [HA]; · iexact HA
    iexact HB
  iintro %a0 %a1 %v2 %v5 %v8 %v11 %v14 %v17 ⟨HX, HA, HB⟩
  iapply (loadFull c AC X) $$ HX; iintro HX
  iapply (storeFull c AC X (k0_pay1 X (k0_pay9 a) (k0_pay10 b) (constant S768x2048 .f32 0x00000000#32))) $$ HX; iintro HX
  rw [show k0_pay1 X (k0_pay9 a) (k0_pay10 b) (constant S768x2048 .f32 0x00000000#32) = step X a b from rfl]
  rw [hX]
  simp only [run, wp_bind]

  iapply (pair0 m ER c i a0 v11 v14 v17 h3 h4 h5 h6 h7 Z Y) $$ [Hs HZ HX HY]
  · isplitl [Hs]; · iexact Hs
    isplitl [HZ]; · iexact HZ
    isplitl [HX]; · iexact HX
    iexact HY
  iintro ⟨Hs, H0, HX, HY⟩
  iapply (run_ret c _ Q)
  iapply HK
  isplitl [Hs]; · iexact Hs
  isplitl [H0]; · iexists (blocks m c 0); iexact H0
  isplitl [HX]; · iexact HX
  isplitl [HA]; · iexact HA
  isplitl [HB]; · iexact HB
  iexact HY

theorem point_pair1 (c : Dev nD) (i : grid0.Coords) {arg2 harg2 arg3 harg3 arg7 harg7} (h1 : ¬ k0_cond1 i = 1#1) (hz : ¬ isFirst i) (h3 : k0_cond3 i = 1#1)
    (h4 : k0_cond4 i = 1#1) (h5 : ¬ k0_cond5 i = 1#1) (h6 : ¬ k0_cond6 i = 1#1) (h7 : ¬ k0_cond7 i = 1#1) (h8 : k0_cond8 i = 1#1) (h9 : ¬ k0_cond9 i = 1#1) (h10 : ¬ k0_cond10 i = 1#1) (h11 : ¬ k0_cond11 i = 1#1)
    (Y : S2x384x2048.Idx → Elt F .bf16) (X : Vec F S768x2048 .f32) (a : Vec F S1024x768 .bf16) (b : Vec F S1024x2048 .bf16)
    (hX : step X a b = accAt m c 7) {Q : PUnit → sProp 𝕄} :
    iprop(stage m ER c 7 0 ∗ (∃ f, Rows.own q4 c SB (core c) f) ∗ has c AC X ∗ has c arg2 a ∗ has c arg3 b ∗ has c arg7 Y)
      ⊢ iprop(((stage m ER c 8 1 ∗ (∃ f, Rows.own q4 c SB (core c) f) ∗ has c AC (accAt m c 7) ∗ has c arg2 a ∗ has c arg3 b ∗ has c arg7 (blocks m c 1)) -∗ Q ⟨⟩)
        -∗ run c (cc0_grad_w_out (F := F) i arg2 harg2 arg3 harg3 A0 (Memref.isWhole_whole _) A1 (Memref.isWhole_whole _) A2 (Memref.isWhole_whole _) arg7 harg7 TH (Memref.isWhole_whole _) D0 (Memref.isWhole_whole _) D1 (Memref.isWhole_whole _) D2 (Memref.isWhole_whole _) AC (Memref.isWhole_whole _) SB (Memref.isWhole_whole _) cc0_scratch2 cc0_scratch3 cc0_scratch4 cc0_scratch5 cc0_scratch6) Q) := by
  rw [cc0_grad_w_out_eq_skeleton]; unfold cc0_grad_w_out_skel run
  simp only [Prog.lift, Prog.bind_op, Prog.bind_ret, Prog.pure_eq_ret, dif_pos h3, dif_pos h8, dif_neg h9, dif_neg h10, dif_neg h11, wp_bind]
  iintro ⟨Hs, HZ, HX, HA, HB, HY⟩ HK
  iapply (head_next c i h1 hz X a b) $$ [HX HA HB]
  · isplitl [HX]; · iexact HX
    isplitl [HA]; · iexact HA
    iexact HB
  iintro %a0 %a1 %v2 %v5 %v8 %v11 %v14 %v17 ⟨HX, HA, HB⟩
  iapply (loadFull c AC X) $$ HX; iintro HX
  iapply (storeFull c AC X (k0_pay1 X (k0_pay9 a) (k0_pay10 b) (constant S768x2048 .f32 0x00000000#32))) $$ HX; iintro HX
  rw [show k0_pay1 X (k0_pay9 a) (k0_pay10 b) (constant S768x2048 .f32 0x00000000#32) = step X a b from rfl]
  rw [hX]
  simp only [run, wp_bind]

  iapply (pair1 m ER c i a0 v11 v14 v17 h3 h4 h5 h6 h7 Y) $$ [Hs HZ HX HY]
  · isplitl [Hs]; · iexact Hs
    isplitl [HZ]; · iexact HZ
    isplitl [HX]; · iexact HX
    iexact HY
  iintro ⟨Hs, H0, HX, HY⟩
  ihave H0 := (Entails.of_eq (sb_split c (blocks m c 1))) $$ H0
  icases H0 with ⟨H0, H1⟩
  iapply (sendPair m ER c 1 1 7 (by decide +kernel) (by decide +kernel) (off7_eq c) rfl (dev8_eq c) rfl rfl) $$ [Hs H1]
  · isplitl [Hs]; · iexact Hs
    iexact H1
  iintro Hs
  simp only [run, wp_bind]
  iapply (run_ret c _ Q)
  iapply HK
  isplitl [Hs]; · iexact Hs
  isplitl [H0]; · iexists (blocks m c 1); iexact H0
  isplitl [HX]; · iexact HX
  isplitl [HA]; · iexact HA
  isplitl [HB]; · iexact HB
  iexact HY

theorem point_pair2 (c : Dev nD) (i : grid0.Coords) {arg2 harg2 arg3 harg3 arg7 harg7} (h1 : ¬ k0_cond1 i = 1#1) (hz : ¬ isFirst i) (h3 : k0_cond3 i = 1#1)
    (h4 : ¬ k0_cond4 i = 1#1) (h5 : k0_cond5 i = 1#1) (h6 : ¬ k0_cond6 i = 1#1) (h7 : ¬ k0_cond7 i = 1#1) (h8 : ¬ k0_cond8 i = 1#1) (h9 : k0_cond9 i = 1#1) (h10 : ¬ k0_cond10 i = 1#1) (h11 : ¬ k0_cond11 i = 1#1)
    (Y : S2x384x2048.Idx → Elt F .bf16) (X : Vec F S768x2048 .f32) (a : Vec F S1024x768 .bf16) (b : Vec F S1024x2048 .bf16)
    (hX : step X a b = accAt m c 11) {Q : PUnit → sProp 𝕄} :
    iprop(stage m ER c 8 1 ∗ (∃ f, Rows.own q4 c SB (core c) f) ∗ has c AC X ∗ has c arg2 a ∗ has c arg3 b ∗ has c arg7 Y)
      ⊢ iprop(((stage m ER c 9 2 ∗ (∃ f, Rows.own q4 c SB (core c) f) ∗ has c AC (accAt m c 11) ∗ has c arg2 a ∗ has c arg3 b ∗ has c arg7 (blocks m c 2)) -∗ Q ⟨⟩)
        -∗ run c (cc0_grad_w_out (F := F) i arg2 harg2 arg3 harg3 A0 (Memref.isWhole_whole _) A1 (Memref.isWhole_whole _) A2 (Memref.isWhole_whole _) arg7 harg7 TH (Memref.isWhole_whole _) D0 (Memref.isWhole_whole _) D1 (Memref.isWhole_whole _) D2 (Memref.isWhole_whole _) AC (Memref.isWhole_whole _) SB (Memref.isWhole_whole _) cc0_scratch2 cc0_scratch3 cc0_scratch4 cc0_scratch5 cc0_scratch6) Q) := by
  rw [cc0_grad_w_out_eq_skeleton]; unfold cc0_grad_w_out_skel run
  simp only [Prog.lift, Prog.bind_op, Prog.bind_ret, Prog.pure_eq_ret, dif_pos h3, dif_neg h8, dif_pos h9, dif_neg h10, dif_neg h11, wp_bind]
  iintro ⟨Hs, HZ, HX, HA, HB, HY⟩ HK
  iapply (head_next c i h1 hz X a b) $$ [HX HA HB]
  · isplitl [HX]; · iexact HX
    isplitl [HA]; · iexact HA
    iexact HB
  iintro %a0 %a1 %v2 %v5 %v8 %v11 %v14 %v17 ⟨HX, HA, HB⟩
  iapply (loadFull c AC X) $$ HX; iintro HX
  iapply (storeFull c AC X (k0_pay1 X (k0_pay9 a) (k0_pay10 b) (constant S768x2048 .f32 0x00000000#32))) $$ HX; iintro HX
  rw [show k0_pay1 X (k0_pay9 a) (k0_pay10 b) (constant S768x2048 .f32 0x00000000#32) = step X a b from rfl]
  rw [hX]
  simp only [run, wp_bind]

  iapply (pair2 m ER c i a0 v11 v14 v17 h3 h4 h5 h6 h7 Y) $$ [Hs HZ HX HY]
  · isplitl [Hs]; · iexact Hs
    isplitl [HZ]; · iexact HZ
    isplitl [HX]; · iexact HX
    iexact HY
  iintro ⟨Hs, H0, HX, HY⟩
  ihave H0 := (Entails.of_eq (sb_split c (blocks m c 2))) $$ H0
  icases H0 with ⟨H0, H1⟩
  iapply (sendPair m ER c 2 2 8 (by decide +kernel) (by decide +kernel) (off8_eq c) rfl (dev9_eq c) rfl rfl) $$ [Hs H1]
  · isplitl [Hs]; · iexact Hs
    iexact H1
  iintro Hs
  simp only [run, wp_bind]
  iapply (run_ret c _ Q)
  iapply HK
  isplitl [Hs]; · iexact Hs
  isplitl [H0]; · iexists (blocks m c 2); iexact H0
  isplitl [HX]; · iexact HX
  isplitl [HA]; · iexact HA
  isplitl [HB]; · iexact HB
  iexact HY

set_option maxHeartbeats 400000 in
theorem point_pair3 (c : Dev nD) (i : grid0.Coords) {arg2 harg2 arg3 harg3 arg7 harg7} (h1 : ¬ k0_cond1 i = 1#1) (hz : ¬ isFirst i) (h3 : k0_cond3 i = 1#1)
    (h4 : ¬ k0_cond4 i = 1#1) (h5 : ¬ k0_cond5 i = 1#1) (h6 : k0_cond6 i = 1#1) (h7 : ¬ k0_cond7 i = 1#1) (h8 : ¬ k0_cond8 i = 1#1) (h9 : ¬ k0_cond9 i = 1#1) (h10 : k0_cond10 i = 1#1) (h11 : k0_cond11 i = 1#1)
    (Y : S2x384x2048.Idx → Elt F .bf16) (X : Vec F S768x2048 .f32) (a : Vec F S1024x768 .bf16) (b : Vec F S1024x2048 .bf16)
    (hX : step X a b = accAt m c 15) {Q : PUnit → sProp 𝕄} :
    iprop(stage m ER c 9 2 ∗ (∃ f, Rows.own q4 c SB (core c) f) ∗ has c AC X ∗ has c arg2 a ∗ has c arg3 b ∗ has c arg7 Y)
      ⊢ iprop(((stage m ER c 10 20 ∗ (∃ Z : S2x384x2048.Idx → Elt F .bf16, has c SB Z) ∗ full c TH (theirs m c) ∗ holds c D0 fullShare (arr0 m c) ∗ holds c D1 fullShare (arr1 m c) ∗ full c D2 (arr2 m c) ∗ holds c (col0 (other c)) fullShare (s0 m c) ∗ holds c (col1 (other c)) fullShare (s1 m c) ∗ holds c pln (quarter 0) (s2 m c) ∗ holds c pln (quarter 1) (s2 m c) ∗ holds c pln (quarter 2) (s2 m c) ∗ holds c pln (quarter 3) (s2 m c) ∗ has c AC (accAt m c 15) ∗ has c arg2 a ∗ has c arg3 b ∗ has c arg7 (blocks m c 3)) -∗ Q ⟨⟩)
        -∗ run c (cc0_grad_w_out (F := F) i arg2 harg2 arg3 harg3 A0 (Memref.isWhole_whole _) A1 (Memref.isWhole_whole _) A2 (Memref.isWhole_whole _) arg7 harg7 TH (Memref.isWhole_whole _) D0 (Memref.isWhole_whole _) D1 (Memref.isWhole_whole _) D2 (Memref.isWhole_whole _) AC (Memref.isWhole_whole _) SB (Memref.isWhole_whole _) cc0_scratch2 cc0_scratch3 cc0_scratch4 cc0_scratch5 cc0_scratch6) Q) := by
  rw [cc0_grad_w_out_eq_skeleton]; unfold cc0_grad_w_out_skel run
  simp only [Prog.lift, Prog.bind_op, Prog.bind_ret, Prog.pure_eq_ret, dif_pos h3, dif_neg h8, dif_neg h9, dif_pos h10, dif_pos h11, wp_bind]
  iintro ⟨Hs, HZ, HX, HA, HB, HY⟩ HK
  iapply (head_next c i h1 hz X a b) $$ [HX HA HB]
  · isplitl [HX]; · iexact HX
    isplitl [HA]; · iexact HA
    iexact HB
  iintro %a0 %a1 %v2 %v5 %v8 %v11 %v14 %v17 ⟨HX, HA, HB⟩
  iapply (loadFull c AC X) $$ HX; iintro HX
  iapply (storeFull c AC X (k0_pay1 X (k0_pay9 a) (k0_pay10 b) (constant S768x2048 .f32 0x00000000#32))) $$ HX; iintro HX
  rw [show k0_pay1 X (k0_pay9 a) (k0_pay10 b) (constant S768x2048 .f32 0x00000000#32) = step X a b from rfl]
  rw [hX]
  simp only [run, wp_bind]

  iapply (pair3 m ER c i a0 v11 v14 v17 h3 h4 h5 h6 h7 Y) $$ [Hs HZ HX HY]
  · isplitl [Hs]; · iexact Hs
    isplitl [HZ]; · iexact HZ
    isplitl [HX]; · iexact HX
    iexact HY
  iintro ⟨Hs, H0, HX, HY⟩
  ihave H0 := (Entails.of_eq (sb_split c (blocks m c 3))) $$ H0
  icases H0 with ⟨H0, H1⟩
  iapply (sendPair m ER c 3 3 9 (by decide +kernel) (by decide +kernel) (off9_eq c) rfl (dev10_eq c) rfl rfl) $$ [Hs H1]
  · isplitl [Hs]; · iexact Hs
    iexact H1
  iintro Hs
  simp only [run, wp_bind]
  iapply (take5 m ER c i) $$ Hs
  iintro %r5 ⟨P3, P4, Hs⟩
  iapply (take6 m ER c i) $$ Hs
  iintro %r6 ⟨P5, P6, Hs⟩
  iapply (take7 m ER c i) $$ Hs
  iintro %r7 ⟨P7, P8, Hs⟩
  iapply (take8 m ER c i) $$ Hs
  iintro %r8 ⟨P9, P10, Hs⟩
  iapply (take9 m ER c i) $$ Hs
  iintro %r9 ⟨P11, P12, Hs⟩
  iapply (take10 m ER c i) $$ Hs
  iintro %r10 ⟨P13, P14, P15, P16, Hs⟩
  iapply (take m ER c 10 17 (.sf 1) (by decide +kernel) (by decide +kernel) ?_) $$ Hs
  · intro R; exact wpE_waitDma2_eq _ _ none Set.univ R
  iintro ⟨P17, Hs⟩
  iapply (take m ER c 10 18 (.sf 2) (by decide +kernel) (by decide +kernel) ?_) $$ Hs
  · intro R; exact wpE_waitDma2_eq _ _ none Set.univ R
  iintro ⟨P18, Hs⟩
  iapply (take m ER c 10 19 (.sf 3) (by decide +kernel) (by decide +kernel) ?_) $$ Hs
  · intro R; exact wpE_waitDma2_eq _ _ none Set.univ R
  iintro ⟨P19, Hs⟩
  ihave GT := (gather_pairs m c) $$ [P4 P5 P6 P7]
  · isplitl [P4]; · iexact P4
    isplitl [P5]; · iexact P5
    isplitl [P6]; · iexact P6
    iexact P7
  ihave GP := (gather_plane m c) $$ [P10 P11 P12 P13]
  · isplitl [P10]; · iexact P10
    isplitl [P11]; · iexact P11
    isplitl [P12]; · iexact P12
    iexact P13
  ihave P3 := (Entails.of_eq (show (pay m c (.ps 3) : sProp 𝕄) = Rows.own q4 c SB (other c) (blocks m c 3) from rfl)) $$ P3
  ihave H0 := (sb_join c (blocks m c 3)) $$ [H0 P3]
  · isplitl [H0]
    · iexists (blocks m c 3); iexact H0
    iexact P3
  iapply (run_ret c _ Q)
  iapply HK
  isplitl [Hs]; · iexact Hs
  isplitl [H0]; · iexact H0
  isplitl [GT]; · iexact GT
  isplitl [P8]; · iapply (Entails.of_eq (show (pay m c (.rs 0) : sProp 𝕄) = holds c D0 fullShare (arr0 m c) from rfl)); iexact P8
  isplitl [P9]; · iapply (Entails.of_eq (show (pay m c (.rs 1) : sProp 𝕄) = holds c D1 fullShare (arr1 m c) from rfl)); iexact P9
  isplitl [GP]; · iexact GP
  isplitl [P14]; · iapply (Entails.of_eq (show (pay m c (.ss 0) : sProp 𝕄) = holds c (col0 (other c)) fullShare (s0 m c) from rfl)); iexact P14
  isplitl [P15]; · iapply (Entails.of_eq (show (pay m c (.ss 1) : sProp 𝕄) = holds c (col1 (other c)) fullShare (s1 m c) from rfl)); iexact P15
  isplitl [P16]; · iapply (Entails.of_eq (show (pay m c (.sf 0) : sProp 𝕄) = holds c pln (quarter 0) (s2 m c) from rfl)); iexact P16
  isplitl [P17]; · iapply (Entails.of_eq (show (pay m c (.sf 1) : sProp 𝕄) = holds c pln (quarter 1) (s2 m c) from rfl)); iexact P17
  isplitl [P18]; · iapply (Entails.of_eq (show (pay m c (.sf 2) : sProp 𝕄) = holds c pln (quarter 2) (s2 m c) from rfl)); iexact P18
  isplitl [P19]; · iapply (Entails.of_eq (show (pay m c (.sf 3) : sProp 𝕄) = holds c pln (quarter 3) (s2 m c) from rfl)); iexact P19
  isplitl [HX]; · iexact HX
  isplitl [HA]; · iexact HA
  isplitl [HB]; · iexact HB
  iexact HY

end Cert.OuterIdeal.GO

end
-- ==== Proof.OuterBody.lean ====
module

public import proofs.«01_k».proof.Proof.OuterKinds
public import proofs.«01_k».proof.Proof.Gen.OuterIdeal.Points

@[expose] public section

noncomputable section

/-! The invariant, and the body of the second kernel at every point. -/

namespace Cert.OuterIdeal.GO

open Idealize.ShloMosaic
open Idealize.SL
open Idealize.SL.BI
open scoped Idealize.SL.BI
open Idealize.SL.BI.BIBase Idealize.SL.BI.Laws Idealize.SL.Sem Idealize.SL.ProofMode
open Idealize.SL.RA
open Idealize.ShloMosaic.TcCoe
open Idealize.ShloMosaic.Rounds
open Idealize.ShloMosaic.ValueIdx
open Idealize.ShloMosaic.Pipeline
open Cert.OuterIdeal.Gen
open Cert.KernelIdeal.GW (flip core other core_flip)

set_option Elab.async false

variable {F : FTy → Type} [FloatOps F]
variable (m : (ℓ : Loc nD τ sig) → Buf (Elt F) ℓ)
variable {U : Type} [URA U]
variable (ER : Emb (URounds (GSem nD τ sig) Unit) (MT nD τ sig Unit (Elt F) ℕ U ℕ))
local notation "𝕄" => MT nD τ sig Unit (Elt F) ℕ U ℕ
/-! ### What the accumulator holds -/

theorem ablk_eq (c : Dev nD) (t : Fin cfg0.N) : ablk m c t.val = iblk m c 0 t := by unfold ablk; rw [dif_pos t.isLt]
theorem bblk_eq (c : Dev nD) (t : Fin cfg0.N) : bblk m c t.val = iblk m c 1 t := by unfold bblk; rw [dif_pos t.isLt]

theorem accAt_start (c : Dev nD) (t : Fin cfg0.N) (h : t.val % 4 = 0) : accAt m c t.val = step k0_pay8 (iblk m c 0 t) (iblk m c 1 t) := by
  rw [← ablk_eq, ← bblk_eq]
  generalize t.val = n at h
  cases n with
  | zero => rfl
  | succ n => show step (if (n + 1) % 4 = 0 then _ else _) _ _ = _; rw [if_pos h]

theorem accAt_step (c : Dev nD) (t : Fin cfg0.N) (h : ¬ t.val % 4 = 0) :
    accAt m c t.val = step (accAt m c (t.val - 1)) (iblk m c 0 t) (iblk m c 1 t) := by
  rw [← ablk_eq, ← bblk_eq]
  generalize t.val = n at h
  cases n with
  | zero => exact absurd rfl h
  | succ n => show step (if (n + 1) % 4 = 0 then _ else _) _ _ = _; rw [if_neg h]; rfl

/-! ### The invariant -/

/-- How many sends have been issued before point `t`, and how many waits have passed. -/
def issued (t : ℕ) : ℕ := if t = 0 then 0 else 6 + t / 4
def passed (t : ℕ) : ℕ := if t = 16 then 20 else t / 4 - 1

/-- What is to be sent: two half stacks, and a plane in four shares. -/
def opening (c : Dev nD) : sProp 𝕄 := iprop(holds c (col0 (other c)) fullShare (s0 m c) ∗ holds c (col1 (other c)) fullShare (s1 m c) ∗ holds c pln (quarter 0) (s2 m c) ∗ holds c pln (quarter 1) (s2 m c) ∗ holds c pln (quarter 2) (s2 m c) ∗ holds c pln (quarter 3) (s2 m c))
/-- What has arrived, and what was sent and has come back. -/
def closing (c : Dev nD) : sProp 𝕄 := iprop(full c TH (theirs m c) ∗ holds c D0 fullShare (arr0 m c) ∗ holds c D1 fullShare (arr1 m c) ∗ full c D2 (arr2 m c) ∗ holds c (col0 (other c)) fullShare (s0 m c) ∗ holds c (col1 (other c)) fullShare (s1 m c) ∗ holds c pln (quarter 0) (s2 m c) ∗ holds c pln (quarter 1) (s2 m c) ∗ holds c pln (quarter 2) (s2 m c) ∗ holds c pln (quarter 3) (s2 m c))

def accInv (c : Dev nD) (t : ℕ) : sProp 𝕄 := if t % 4 = 0 then iprop(∃ X, has c AC X) else has c AC (accAt m c (t - 1))
def sbInv (c : Dev nD) (t : ℕ) : sProp 𝕄 :=
  if t < 4 ∨ t = 16 then iprop(∃ Z : S2x384x2048.Idx → Elt F .bf16, has c SB Z) else iprop(∃ f, Rows.own q4 c SB (core c) f)
def endsInv (c : Dev nD) (t : ℕ) : sProp 𝕄 := if t = 0 then opening m c else if t = 16 then closing m c else iprop(emp)

def inv (c : Dev nD) (t : ℕ) : sProp 𝕄 :=
  iprop(Once.st (plan m) ER c (due (issued t)) (rem (passed t)) ∗ accInv m c t ∗ sbInv c t ∗ endsInv m c t)

def after (c : Dev nD) : (w : Fin cfg0.W) → Fin cfg0.N → (cfg0.win w).block.Idx → Elt F (cfg0.win w).elt
  | 0 => fun t => iblk m c 0 t
  | 1 => fun t => iblk m c 1 t
  | 2 => fun t => blocks m c (t.val / 4)
  | ⟨n + 3, h⟩ => absurd h (Nat.not_lt.2 (Nat.le_add_left 3 n))

def dat (c : Dev nD) : Dat τ (Elt F) Unit ℕ U ℕ cfg0 c where
  A w := V m c (Pipeline.arrRef spec0 w)
  after := after m c
  Φ t := inv m ER c t.val
  q _ := fullShare
  owed t := Once.owe (plan (U := U) m) c (due (issued t.val))

theorem before_left (c : Dev nD) (t : Fin cfg0.N) (d) : (dat m ER c).before 0 t d = iblk m c 0 t :=
  ((dat m ER c).before_in_eq_fetched 0 rfl (fun _ => rfl) (fun _ _ _ => rfl) (fun _ => rfl) t d).trans rfl
theorem before_right (c : Dev nD) (t : Fin cfg0.N) (d) : (dat m ER c).before 1 t d = iblk m c 1 t :=
  ((dat m ER c).before_in_eq_fetched 1 rfl (fun _ => rfl) (fun _ _ _ => rfl) (fun _ => rfl) t d).trans rfl

theorem idle_out (t : Fin cfg0.N) : cfg0.idle 2 (cfg0.grid.coords t) = decide (¬ t.val % 4 = 3) := by revert t; decide +kernel
theorem flush_out (t : Fin cfg0.N) : (cfg0.win 2).flush t = decide (t.val % 4 = 3) := by revert t; decide +kernel

/-! ### The conditions, as facts about the point's number -/

theorem on_first (t : Fin cfg0.N) : k0_cond1 (grid0.coords t) = 1#1 ↔ t.val = 0 := by revert t; decide +kernel
theorem on_start (t : Fin cfg0.N) : isFirst (grid0.coords t) ↔ t.val % 4 = 0 := by revert t; decide +kernel
theorem on_end (t : Fin cfg0.N) : k0_cond3 (grid0.coords t) = 1#1 ↔ t.val % 4 = 3 := by revert t; decide +kernel
theorem on_last (t : Fin cfg0.N) : k0_cond11 (grid0.coords t) = 1#1 ↔ t.val = 15 := by revert t; decide +kernel
theorem on_4 (t : Fin cfg0.N) : k0_cond4 (grid0.coords t) = 1#1 ↔ t.val / 4 = 1 := by revert t; decide +kernel
theorem on_5 (t : Fin cfg0.N) : k0_cond5 (grid0.coords t) = 1#1 ↔ t.val / 4 = 2 := by revert t; decide +kernel
theorem on_6 (t : Fin cfg0.N) : k0_cond6 (grid0.coords t) = 1#1 ↔ t.val / 4 = 3 := by revert t; decide +kernel
theorem on_7 (t : Fin cfg0.N) : k0_cond7 (grid0.coords t) = 1#1 ↔ t.val / 4 = 0 := by revert t; decide +kernel
theorem on_8 (t : Fin cfg0.N) : k0_cond8 (grid0.coords t) = 1#1 ↔ t.val / 4 = 1 := by revert t; decide +kernel
theorem on_9 (t : Fin cfg0.N) : k0_cond9 (grid0.coords t) = 1#1 ↔ t.val / 4 = 2 := by revert t; decide +kernel
theorem on_10 (t : Fin cfg0.N) : k0_cond10 (grid0.coords t) = 1#1 ↔ t.val / 4 = 3 := by revert t; decide +kernel

/-! ### The body's obligation -/

/-- What is held at point `t`'s body besides the windows. -/
def side (c : Dev nD) (t : ℕ) : sProp 𝕄 := iprop(inv m ER c t ∗ ∃ W, owes (c.tc : Thread nD τ) (Once.owe (plan (U := U) m) c (due (issued t))) W)

theorem side_eq (c : Dev nD) (t : ℕ) : side m ER c t ⊢ iprop(stage m ER c (issued t) (passed t) ∗ accInv m c t ∗ sbInv c t ∗ endsInv m c t) := by
  unfold side inv stage Once.sto
  iintro ⟨⟨H1, H2⟩, H3⟩
  isplitl [H1 H3]
  · isplitl [H1]; · iexact H1
    iexact H3
  iexact H2

theorem side_of (c : Dev nD) (t n w : ℕ) (hn : issued t = n) (hw : passed t = w) : iprop(stage m ER c n w ∗ accInv m c t ∗ sbInv c t ∗ endsInv m c t) ⊢ side m ER c t := by
  subst hn hw
  unfold side inv stage Once.sto
  iintro ⟨⟨H1, H3⟩, H2⟩
  isplitl [H1 H2]
  · isplitl [H1]; · iexact H1
    iexact H2
  iexact H3

theorem ends_none (c : Dev nD) (t : ℕ) (h0 : t ≠ 0) (h1 : t ≠ 16) : (endsInv m c t : sProp 𝕄) = iprop(emp) := by unfold endsInv; rw [if_neg h0, if_neg h1]

/-- One point, the window written back treated by `out`. -/
abbrev goes (c : Dev nD) (t : Fin cfg0.N) (pre post : sProp 𝕄) : Prop :=
  iprop(side m ER c t.val ∗ has c (st0_0 t) (iblk m c 0 t) ∗ has c (st0_1 t) (iblk m c 1 t) ∗ pre)
    ⊢ run c (bodyAt0 t) fun _ => iprop(side m ER c (t.val + 1) ∗ has c (st0_0 t) (iblk m c 0 t) ∗ has c (st0_1 t) (iblk m c 1 t) ∗ post)

theorem goes_first (c : Dev nD) (t : Fin cfg0.N) (R : sProp 𝕄) (h : t.val = 0) : goes m ER c t R R := by
  have hs := side_eq m ER c t.val
  have hf := side_of m ER c (t.val + 1) 6 0 (by rw [h]; rfl) (by rw [h]; rfl)
  have h3 : ¬ k0_cond3 (grid0.coords t) = 1#1 := fun e => by have := (on_end t).1 e; omega
  have h11 : ¬ k0_cond11 (grid0.coords t) = 1#1 := fun e => by have := (on_last t).1 e; omega
  have hacc := accAt_start m c t (by omega)
  rw [show accInv m c t.val = (iprop(∃ X, has c AC X) : sProp 𝕄) from by unfold accInv; rw [if_pos (by omega)],
    show sbInv c t.val = (iprop(∃ Z : S2x384x2048.Idx → Elt F .bf16, has c SB Z) : sProp 𝕄) from by unfold sbInv; rw [if_pos (by omega)],
    show endsInv m c t.val = (opening m c : sProp 𝕄) from by unfold endsInv; rw [if_pos h],
    show issued t.val = 0 from by rw [h]; rfl, show passed t.val = 0 from by rw [h]; rfl] at hs
  rw [show accInv m c (t.val + 1) = (has c AC (accAt m c t.val) : sProp 𝕄) from by unfold accInv; rw [if_neg (by omega)]; rfl,
    show sbInv c (t.val + 1) = (iprop(∃ Z : S2x384x2048.Idx → Elt F .bf16, has c SB Z) : sProp 𝕄) from by unfold sbInv; rw [if_pos (by omega)],
    ends_none m c (t.val + 1) (by omega) (by omega), hacc] at hf
  unfold goes
  iintro ⟨Hside, HA, HB, HR⟩
  ihave Hside := hs $$ Hside
  icases Hside with ⟨Hs, ⟨%X, HX⟩, HZ, HO⟩
  ihave HO := (Entails.of_eq (show opening m c = (iprop(holds c (col0 (other c)) fullShare (s0 m c) ∗ holds c (col1 (other c)) fullShare (s1 m c) ∗ holds c pln (quarter 0) (s2 m c) ∗ holds c pln (quarter 1) (s2 m c) ∗ holds c pln (quarter 2) (s2 m c) ∗ holds c pln (quarter 3) (s2 m c)) : sProp 𝕄) from rfl)) $$ HO
  icases HO with ⟨Ha0, Ha1, Ha2, Ha3, Ha4, Ha5⟩
  iapply (point_first m ER c (grid0.coords t) ((on_first t).2 h) ((on_start t).2 (by omega)) h3 h11 X (iblk m c 0 t) (iblk m c 1 t)) $$ [Hs Ha0 Ha1 Ha2 Ha3 Ha4 Ha5 HX HA HB]
  · isplitl [Hs]; · iexact Hs
    isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [HX]; · iexact HX
    isplitl [HA]; · iexact HA
    iexact HB
  iintro ⟨Hs, HX, HA, HB⟩
  isplitl [Hs HX HZ]
  · iapply hf
    isplitl [Hs]; · iexact Hs
    isplitl [HX]; · iexact HX
    isplitl [HZ]; · iexact HZ
    iempintro
  isplitl [HA]; · iexact HA
  isplitl [HB]; · iexact HB
  iexact HR

theorem goes_zero (c : Dev nD) (t : Fin cfg0.N) (R : sProp 𝕄) (h0 : t.val ≠ 0) (h : t.val % 4 = 0) : goes m ER c t R R := by
  have hN : t.val < 16 := t.isLt
  have hs := side_eq m ER c t.val
  have hf := side_of m ER c (t.val + 1) (issued t.val) (passed t.val) (by unfold issued; rw [if_neg (by omega), if_neg h0]; omega) (by unfold passed; rw [if_neg (by omega), if_neg (by omega)]; omega)
  have h1 : ¬ k0_cond1 (grid0.coords t) = 1#1 := fun e => h0 ((on_first t).1 e)
  have h3 : ¬ k0_cond3 (grid0.coords t) = 1#1 := fun e => by have := (on_end t).1 e; omega
  have h11 : ¬ k0_cond11 (grid0.coords t) = 1#1 := fun e => by have := (on_last t).1 e; omega
  have hacc := accAt_start m c t h
  have hsb : (sbInv c (t.val + 1) : sProp 𝕄) = sbInv c t.val := by
    unfold sbInv
    by_cases h4 : t.val < 4
    · rw [if_pos (by omega), if_pos (by omega)]
    · rw [if_neg (by omega), if_neg (by omega)]
  rw [show accInv m c t.val = (iprop(∃ X, has c AC X) : sProp 𝕄) from by unfold accInv; rw [if_pos h],
    ends_none m c t.val h0 (by omega)] at hs
  rw [show accInv m c (t.val + 1) = (has c AC (accAt m c t.val) : sProp 𝕄) from by unfold accInv; rw [if_neg (by omega)]; rfl,
    hsb, ends_none m c (t.val + 1) (by omega) (by omega), hacc] at hf
  unfold goes
  iintro ⟨Hside, HA, HB, HR⟩
  ihave Hside := hs $$ Hside
  icases Hside with ⟨Hs, ⟨%X, HX⟩, HZ, -⟩
  iapply (point_zero c (grid0.coords t) h1 ((on_start t).2 h) h3 h11 X (iblk m c 0 t) (iblk m c 1 t)) $$ [HX HA HB]
  · isplitl [HX]; · iexact HX
    isplitl [HA]; · iexact HA
    iexact HB
  iintro ⟨HX, HA, HB⟩
  isplitl [Hs HX HZ]
  · iapply hf
    isplitl [Hs]; · iexact Hs
    isplitl [HX]; · iexact HX
    isplitl [HZ]; · iexact HZ
    iempintro
  isplitl [HA]; · iexact HA
  isplitl [HB]; · iexact HB
  iexact HR

theorem goes_next (c : Dev nD) (t : Fin cfg0.N) (R : sProp 𝕄) (h0 : t.val ≠ 0) (h : t.val % 4 = 1 ∨ t.val % 4 = 2) : goes m ER c t R R := by
  have hN : t.val < 16 := t.isLt
  have hs := side_eq m ER c t.val
  have hf := side_of m ER c (t.val + 1) (issued t.val) (passed t.val) (by unfold issued; rw [if_neg (by omega), if_neg h0]; omega) (by unfold passed; rw [if_neg (by omega), if_neg (by omega)]; omega)
  have h1 : ¬ k0_cond1 (grid0.coords t) = 1#1 := fun e => h0 ((on_first t).1 e)
  have h3 : ¬ k0_cond3 (grid0.coords t) = 1#1 := fun e => by have := (on_end t).1 e; omega
  have h11 : ¬ k0_cond11 (grid0.coords t) = 1#1 := fun e => by have := (on_last t).1 e; omega
  have hacc := accAt_step m c t (by omega)
  have hsb : (sbInv c (t.val + 1) : sProp 𝕄) = sbInv c t.val := by
    unfold sbInv
    by_cases h4 : t.val < 4
    · rw [if_pos (by omega), if_pos (by omega)]
    · rw [if_neg (by omega), if_neg (by omega)]
  rw [show accInv m c t.val = (has c AC (accAt m c (t.val - 1)) : sProp 𝕄) from by unfold accInv; rw [if_neg (by omega)],
    ends_none m c t.val h0 (by omega)] at hs
  rw [show accInv m c (t.val + 1) = (has c AC (accAt m c t.val) : sProp 𝕄) from by unfold accInv; rw [if_neg (by omega)]; rfl,
    hsb, ends_none m c (t.val + 1) (by omega) (by omega), hacc] at hf
  unfold goes
  iintro ⟨Hside, HA, HB, HR⟩
  ihave Hside := hs $$ Hside
  icases Hside with ⟨Hs, HX, HZ, -⟩
  iapply (point_next c (grid0.coords t) h1 (fun e => by have := (on_start t).1 e; omega) h3 h11 (accAt m c (t.val - 1)) (iblk m c 0 t) (iblk m c 1 t)) $$ [HX HA HB]
  · isplitl [HX]; · iexact HX
    isplitl [HA]; · iexact HA
    iexact HB
  iintro ⟨HX, HA, HB⟩
  isplitl [Hs HX HZ]
  · iapply hf
    isplitl [Hs]; · iexact Hs
    isplitl [HX]; · iexact HX
    isplitl [HZ]; · iexact HZ
    iempintro
  isplitl [HA]; · iexact HA
  isplitl [HB]; · iexact HB
  iexact HR

theorem goes_pair0 (c : Dev nD) (t : Fin cfg0.N) (Y : S2x384x2048.Idx → Elt F .bf16) (h : t.val = 3) :
    goes m ER c t (has c (st0_2 t) Y) (has c (st0_2 t) (blocks m c 0)) := by
  have hs := side_eq m ER c t.val
  have hf := side_of m ER c (t.val + 1) 7 0 (by rw [h]; rfl) (by rw [h]; rfl)
  have hacc := (accAt_step m c t (by omega)).symm
  rw [show accInv m c t.val = (has c AC (accAt m c (t.val - 1)) : sProp 𝕄) from by unfold accInv; rw [if_neg (by omega)],
    show sbInv c t.val = (iprop(∃ Z : S2x384x2048.Idx → Elt F .bf16, has c SB Z) : sProp 𝕄) from by unfold sbInv; rw [if_pos (by omega)],
    ends_none m c t.val (by omega) (by omega), show issued t.val = 6 from by rw [h]; rfl, show passed t.val = 0 from by rw [h]; rfl] at hs
  rw [show accInv m c (t.val + 1) = (iprop(∃ X, has c AC X) : sProp 𝕄) from by unfold accInv; rw [if_pos (by omega)],
    show sbInv c (t.val + 1) = (iprop(∃ f, Rows.own q4 c SB (core c) f) : sProp 𝕄) from by unfold sbInv; rw [if_neg (by omega)],
    ends_none m c (t.val + 1) (by omega) (by omega)] at hf
  rw [show accAt m c t.val = accAt m c 3 from by rw [h]] at hacc
  unfold goes
  iintro ⟨Hside, HA, HB, HY⟩
  ihave Hside := hs $$ Hside
  icases Hside with ⟨Hs, HX, ⟨%Z, HZ⟩, -⟩
  iapply (point_pair0 m ER c (grid0.coords t) (fun e => by have := (on_first t).1 e; omega) (fun e => by have := (on_start t).1 e; omega) ((on_end t).2 (by omega))
    (fun e => by have := (on_4 t).1 e; omega) (fun e => by have := (on_5 t).1 e; omega) (fun e => by have := (on_6 t).1 e; omega) ((on_7 t).2 (by omega)) (fun e => by have := (on_8 t).1 e; omega) (fun e => by have := (on_9 t).1 e; omega) (fun e => by have := (on_10 t).1 e; omega) (fun e => by have := (on_last t).1 e; omega) Z Y (accAt m c (t.val - 1)) (iblk m c 0 t) (iblk m c 1 t) hacc) $$ [Hs HZ HX HA HB HY]
  · isplitl [Hs]; · iexact Hs
    isplitl [HZ]; · iexact HZ
    isplitl [HX]; · iexact HX
    isplitl [HA]; · iexact HA
    isplitl [HB]; · iexact HB
    iexact HY
  iintro ⟨Hs, HZ, HX, HA, HB, HY⟩
  isplitl [Hs HX HZ]
  · iapply hf
    isplitl [Hs]; · iexact Hs
    isplitl [HX]; · iexists (accAt m c 3); iexact HX
    isplitl [HZ]; · iexact HZ
    iempintro
  isplitl [HA]; · iexact HA
  isplitl [HB]; · iexact HB
  iexact HY

theorem goes_pair1 (c : Dev nD) (t : Fin cfg0.N) (Y : S2x384x2048.Idx → Elt F .bf16) (h : t.val = 7) :
    goes m ER c t (has c (st0_2 t) Y) (has c (st0_2 t) (blocks m c 1)) := by
  have hs := side_eq m ER c t.val
  have hf := side_of m ER c (t.val + 1) 8 1 (by rw [h]; rfl) (by rw [h]; rfl)
  have hacc := (accAt_step m c t (by omega)).symm
  rw [show accInv m c t.val = (has c AC (accAt m c (t.val - 1)) : sProp 𝕄) from by unfold accInv; rw [if_neg (by omega)],
    show sbInv c t.val = (iprop(∃ f, Rows.own q4 c SB (core c) f) : sProp 𝕄) from by unfold sbInv; rw [if_neg (by omega)],
    ends_none m c t.val (by omega) (by omega), show issued t.val = 7 from by rw [h]; rfl, show passed t.val = 0 from by rw [h]; rfl] at hs
  rw [show accInv m c (t.val + 1) = (iprop(∃ X, has c AC X) : sProp 𝕄) from by unfold accInv; rw [if_pos (by omega)],
    show sbInv c (t.val + 1) = (iprop(∃ f, Rows.own q4 c SB (core c) f) : sProp 𝕄) from by unfold sbInv; rw [if_neg (by omega)],
    ends_none m c (t.val + 1) (by omega) (by omega)] at hf
  rw [show accAt m c t.val = accAt m c 7 from by rw [h]] at hacc
  unfold goes
  iintro ⟨Hside, HA, HB, HY⟩
  ihave Hside := hs $$ Hside
  icases Hside with ⟨Hs, HX, HZ, -⟩
  iapply (point_pair1 m ER c (grid0.coords t) (fun e => by have := (on_first t).1 e; omega) (fun e => by have := (on_start t).1 e; omega) ((on_end t).2 (by omega))
    ((on_4 t).2 (by omega)) (fun e => by have := (on_5 t).1 e; omega) (fun e => by have := (on_6 t).1 e; omega) (fun e => by have := (on_7 t).1 e; omega) ((on_8 t).2 (by omega)) (fun e => by have := (on_9 t).1 e; omega) (fun e => by have := (on_10 t).1 e; omega) (fun e => by have := (on_last t).1 e; omega) Y (accAt m c (t.val - 1)) (iblk m c 0 t) (iblk m c 1 t) hacc) $$ [Hs HZ HX HA HB HY]
  · isplitl [Hs]; · iexact Hs
    isplitl [HZ]; · iexact HZ
    isplitl [HX]; · iexact HX
    isplitl [HA]; · iexact HA
    isplitl [HB]; · iexact HB
    iexact HY
  iintro ⟨Hs, HZ, HX, HA, HB, HY⟩
  isplitl [Hs HX HZ]
  · iapply hf
    isplitl [Hs]; · iexact Hs
    isplitl [HX]; · iexists (accAt m c 7); iexact HX
    isplitl [HZ]; · iexact HZ
    iempintro
  isplitl [HA]; · iexact HA
  isplitl [HB]; · iexact HB
  iexact HY

theorem goes_pair2 (c : Dev nD) (t : Fin cfg0.N) (Y : S2x384x2048.Idx → Elt F .bf16) (h : t.val = 11) :
    goes m ER c t (has c (st0_2 t) Y) (has c (st0_2 t) (blocks m c 2)) := by
  have hs := side_eq m ER c t.val
  have hf := side_of m ER c (t.val + 1) 9 2 (by rw [h]; rfl) (by rw [h]; rfl)
  have hacc := (accAt_step m c t (by omega)).symm
  rw [show accInv m c t.val = (has c AC (accAt m c (t.val - 1)) : sProp 𝕄) from by unfold accInv; rw [if_neg (by omega)],
    show sbInv c t.val = (iprop(∃ f, Rows.own q4 c SB (core c) f) : sProp 𝕄) from by unfold sbInv; rw [if_neg (by omega)],
    ends_none m c t.val (by omega) (by omega), show issued t.val = 8 from by rw [h]; rfl, show passed t.val = 1 from by rw [h]; rfl] at hs
  rw [show accInv m c (t.val + 1) = (iprop(∃ X, has c AC X) : sProp 𝕄) from by unfold accInv; rw [if_pos (by omega)],
    show sbInv c (t.val + 1) = (iprop(∃ f, Rows.own q4 c SB (core c) f) : sProp 𝕄) from by unfold sbInv; rw [if_neg (by omega)],
    ends_none m c (t.val + 1) (by omega) (by omega)] at hf
  rw [show accAt m c t.val = accAt m c 11 from by rw [h]] at hacc
  unfold goes
  iintro ⟨Hside, HA, HB, HY⟩
  ihave Hside := hs $$ Hside
  icases Hside with ⟨Hs, HX, HZ, -⟩
  iapply (point_pair2 m ER c (grid0.coords t) (fun e => by have := (on_first t).1 e; omega) (fun e => by have := (on_start t).1 e; omega) ((on_end t).2 (by omega))
    (fun e => by have := (on_4 t).1 e; omega) ((on_5 t).2 (by omega)) (fun e => by have := (on_6 t).1 e; omega) (fun e => by have := (on_7 t).1 e; omega) (fun e => by have := (on_8 t).1 e; omega) ((on_9 t).2 (by omega)) (fun e => by have := (on_10 t).1 e; omega) (fun e => by have := (on_last t).1 e; omega) Y (accAt m c (t.val - 1)) (iblk m c 0 t) (iblk m c 1 t) hacc) $$ [Hs HZ HX HA HB HY]
  · isplitl [Hs]; · iexact Hs
    isplitl [HZ]; · iexact HZ
    isplitl [HX]; · iexact HX
    isplitl [HA]; · iexact HA
    isplitl [HB]; · iexact HB
    iexact HY
  iintro ⟨Hs, HZ, HX, HA, HB, HY⟩
  isplitl [Hs HX HZ]
  · iapply hf
    isplitl [Hs]; · iexact Hs
    isplitl [HX]; · iexists (accAt m c 11); iexact HX
    isplitl [HZ]; · iexact HZ
    iempintro
  isplitl [HA]; · iexact HA
  isplitl [HB]; · iexact HB
  iexact HY

theorem goes_pair3 (c : Dev nD) (t : Fin cfg0.N) (Y : S2x384x2048.Idx → Elt F .bf16) (h : t.val = 15) :
    goes m ER c t (has c (st0_2 t) Y) (has c (st0_2 t) (blocks m c 3)) := by
  have hs := side_eq m ER c t.val
  have hf := side_of m ER c (t.val + 1) 10 20 (by rw [h]; rfl) (by rw [h]; rfl)
  have hacc := (accAt_step m c t (by omega)).symm
  rw [show accInv m c t.val = (has c AC (accAt m c (t.val - 1)) : sProp 𝕄) from by unfold accInv; rw [if_neg (by omega)],
    show sbInv c t.val = (iprop(∃ f, Rows.own q4 c SB (core c) f) : sProp 𝕄) from by unfold sbInv; rw [if_neg (by omega)],
    ends_none m c t.val (by omega) (by omega), show issued t.val = 9 from by rw [h]; rfl, show passed t.val = 2 from by rw [h]; rfl] at hs
  rw [show accInv m c (t.val + 1) = (iprop(∃ X, has c AC X) : sProp 𝕄) from by unfold accInv; rw [if_pos (by omega)],
    show sbInv c (t.val + 1) = (iprop(∃ Z : S2x384x2048.Idx → Elt F .bf16, has c SB Z) : sProp 𝕄) from by unfold sbInv; rw [if_pos (by omega)],
    show endsInv m c (t.val + 1) = (closing m c : sProp 𝕄) from by unfold endsInv; rw [if_neg (by omega), if_pos (by omega)]] at hf
  rw [show accAt m c t.val = accAt m c 15 from by rw [h]] at hacc
  unfold goes
  iintro ⟨Hside, HA, HB, HY⟩
  ihave Hside := hs $$ Hside
  icases Hside with ⟨Hs, HX, HZ, -⟩
  iapply (point_pair3 m ER c (grid0.coords t) (fun e => by have := (on_first t).1 e; omega) (fun e => by have := (on_start t).1 e; omega) ((on_end t).2 (by omega))
    (fun e => by have := (on_4 t).1 e; omega) (fun e => by have := (on_5 t).1 e; omega) ((on_6 t).2 (by omega)) (fun e => by have := (on_7 t).1 e; omega) (fun e => by have := (on_8 t).1 e; omega) (fun e => by have := (on_9 t).1 e; omega) ((on_10 t).2 (by omega)) ((on_last t).2 h) Y (accAt m c (t.val - 1)) (iblk m c 0 t) (iblk m c 1 t) hacc) $$ [Hs HZ HX HA HB HY]
  · isplitl [Hs]; · iexact Hs
    isplitl [HZ]; · iexact HZ
    isplitl [HX]; · iexact HX
    isplitl [HA]; · iexact HA
    isplitl [HB]; · iexact HB
    iexact HY
  iintro ⟨Hs, HZ, GT, GD0, GD1, GD2, GA0, GA1, P0, P1, P2, P3, HX, HA, HB, HY⟩
  isplitl [Hs HX HZ GT GD0 GD1 GD2 GA0 GA1 P0 P1 P2 P3]
  · iapply hf
    isplitl [Hs]; · iexact Hs
    isplitl [HX]; · iexists (accAt m c 15); iexact HX
    isplitl [HZ]; · iexact HZ
    unfold closing
    isplitl [GT]; · iexact GT
    isplitl [GD0]; · iexact GD0
    isplitl [GD1]; · iexact GD1
    isplitl [GD2]; · iexact GD2
    isplitl [GA0]; · iexact GA0
    isplitl [GA1]; · iexact GA1
    isplitl [P0]; · iexact P0
    isplitl [P1]; · iexact P1
    isplitl [P2]; · iexact P2
    iexact P3
  isplitl [HA]; · iexact HA
  isplitl [HB]; · iexact HB
  iexact HY

/-- The window written back, before and after point `t`. -/
def outPre (c : Dev nD) (t : Fin cfg0.N) : sProp 𝕄 := iprop(∃ d, has c (st0_2 t) ((dat m ER c).before 2 t d))
def outPost (c : Dev nD) (t : Fin cfg0.N) : sProp 𝕄 := if t.val % 4 = 3 then has c (st0_2 t) (blocks m c (t.val / 4)) else outPre m ER c t

theorem goes_all (c : Dev nD) (t : Fin cfg0.N) : goes m ER c t (outPre m ER c t) (outPost m ER c t) := by
  have hN : t.val < 16 := t.isLt
  by_cases h : t.val % 4 = 3
  · have hp : outPost m ER c t = has c (st0_2 t) (blocks m c (t.val / 4)) := by unfold outPost; rw [if_pos h]
    have key : ∀ Y, goes m ER c t (has c (st0_2 t) Y) (has c (st0_2 t) (blocks m c (t.val / 4))) := by
      intro Y
      have hc : t.val = 3 ∨ t.val = 7 ∨ t.val = 11 ∨ t.val = 15 := by omega
      rcases hc with e | e | e | e
      · rw [show t.val / 4 = 0 by omega]; exact goes_pair0 m ER c t Y e
      · rw [show t.val / 4 = 1 by omega]; exact goes_pair1 m ER c t Y e
      · rw [show t.val / 4 = 2 by omega]; exact goes_pair2 m ER c t Y e
      · rw [show t.val / 4 = 3 by omega]; exact goes_pair3 m ER c t Y e
    rw [hp]; unfold goes outPre
    iintro ⟨HS, HA, HB, ⟨%d, HY⟩⟩
    iapply (key ((dat m ER c).before 2 t d))
    isplitl [HS]; · iexact HS
    isplitl [HA]; · iexact HA
    isplitl [HB]; · iexact HB
    iexact HY
  · have hp : outPost m ER c t = outPre m ER c t := by unfold outPost; rw [if_neg h]
    rw [hp]
    by_cases h0 : t.val = 0
    · exact goes_first m ER c t _ h0
    · by_cases hz : t.val % 4 = 0
      · exact goes_zero m ER c t _ h0 hz
      · exact goes_next m ER c t _ h0 (by omega)

theorem inv_before (c : Dev nD) (t : Fin cfg0.N) : (dat m ER c).Φ t.castSucc = inv m ER c t.val := rfl
theorem inv_after (c : Dev nD) (t : Fin cfg0.N) : (dat m ER c).Φ t.succ = inv m ER c (t.val + 1) := rfl
theorem owed_before (c : Dev nD) (t : Fin cfg0.N) : (dat m ER c).owed t.castSucc = Once.owe (plan (U := U) m) c (due (issued t.val)) := rfl
theorem owed_after (c : Dev nD) (t : Fin cfg0.N) : (dat m ER c).owed t.succ = Once.owe (plan (U := U) m) c (due (issued (t.val + 1))) := rfl

theorem body (c : Dev nD) : Pipeline.BodyObligation (dat m ER c) (defs₀ (F := F)) Variants.none () Set.univ := fun t => by
  have h := goes_all m ER c t
  have hpost : (match cfg0.idle 2 (cfg0.grid.coords t) with
      | true => match (cfg0.win 2).flush t with
        | false => iprop(∃ d, owns (c.tc : Thread nD τ) ((cfg0.win 2).stage (cfg0.slots t 2)) fullShare ((dat m ER c).before 2 t d))
        | true => owns (c.tc : Thread nD τ) ((cfg0.win 2).stage (cfg0.slots t 2)) fullShare ((dat m ER c).after 2 t)
      | false => owns (c.tc : Thread nD τ) ((cfg0.win 2).stage (cfg0.slots t 2)) fullShare ((dat m ER c).after 2 t)) = outPost m ER c t := by
    rw [idle_out, flush_out]
    unfold outPost outPre
    by_cases h : t.val % 4 = 3
    · rw [if_pos h, decide_eq_false (by simpa using h), decide_eq_true h]; rfl
    · rw [if_neg h, decide_eq_true h, decide_eq_false h]
  rw [bigSep_W0, bigSep_W0]
  have hb : iprop(side m ER c t.val ∗ has c (st0_0 t) (iblk m c 0 t) ∗ has c (st0_1 t) (iblk m c 1 t) ∗ outPre m ER c t)
      ⊢ wp frame (wpE (defs₀ (F := F)) Variants.none c.tc none) Set.univ (bodyAt0 t) fun _ => iprop((dat m ER c).Φ t.succ ∗ (dat m ER c).owesAt () t.succ
        ∗ has c (st0_0 t) (iblk m c 0 t) ∗ has c (st0_1 t) (iblk m c 1 t)
        ∗ (match cfg0.idle 2 (cfg0.grid.coords t) with
      | true => match (cfg0.win 2).flush t with
        | false => iprop(∃ d, owns (c.tc : Thread nD τ) ((cfg0.win 2).stage (cfg0.slots t 2)) fullShare ((dat m ER c).before 2 t d))
        | true => owns (c.tc : Thread nD τ) ((cfg0.win 2).stage (cfg0.slots t 2)) fullShare ((dat m ER c).after 2 t)
      | false => owns (c.tc : Thread nD τ) ((cfg0.win 2).stage (cfg0.slots t 2)) fullShare ((dat m ER c).after 2 t))) := by
    rw [hpost]
    refine h.trans (wp_mono _ _ _ fun _ => ?_)
    unfold side Dat.owesAt Pipeline.owesWithin
    rw [inv_after, owed_after]
    iintro ⟨⟨H1, ⟨%W, H2⟩⟩, H3, H4, H5⟩
    isplitl [H1]; · iexact H1
    isplitl [H2]
    · iexists W; isplitr; · ipureintro; exact fun _ _ => Or.inl trivial
      iexact H2
    isplitl [H3]; · iexact H3
    isplitl [H4]; · iexact H4
    iexact H5
  refine BIBase.Entails.trans ?_ hb
  unfold side outPre Dat.owesAt Pipeline.owesWithin
  rw [inv_before, owed_before]
  iintro ⟨H1, ⟨%W, %hW, H2⟩, ⟨%d0, H3⟩, ⟨%d1, H4⟩, H5⟩
  isplitl [H1 H2]
  · isplitl [H1]; · iexact H1
    iexists W; iexact H2
  isplitl [H3]
  · iapply (Entails.of_eq (congrArg (fun X => has c (st0_0 t) X) (before_left m ER c t d0))); iexact H3
  isplitl [H4]
  · iapply (Entails.of_eq (congrArg (fun X => has c (st0_1 t) X) (before_right m ER c t d1))); iexact H4
  iexact H5
end Cert.OuterIdeal.GO

end
-- ==== Proof.OuterRun.lean ====
module

public import proofs.«01_k».proof.Proof.OuterBody
public import proofs.«01_k».proof.Proof.Dealt

@[expose] public section

noncomputable section

/-! The launch of the second kernel: what every device starts from, and what a run leaves. -/

namespace Cert.OuterIdeal.GO

open Idealize.ShloMosaic
open Idealize.SL
open Idealize.SL.BI
open scoped Idealize.SL.BI
open Idealize.SL.BI.BIBase Idealize.SL.BI.Laws Idealize.SL.Sem Idealize.SL.ProofMode
open Idealize.SL.RA
open Idealize.ShloMosaic.TcCoe
open Idealize.ShloMosaic.Rounds
open Idealize.ShloMosaic.ValueIdx
open Idealize.ShloMosaic.Pipeline
open Cert.OuterIdeal.Gen
open Cert.KernelIdeal.GW (flip core other core_flip)

set_option Elab.async false

variable {F : FTy → Type} [FloatOps F]
variable (m : (ℓ : Loc nD τ sig) → Buf (Elt F) ℓ)
variable {U : Type} [URA U]
variable (ER : Emb (URounds (GSem nD τ sig) Unit) (MT nD τ sig Unit (Elt F) ℕ U ℕ))
local notation "𝕄" => MT nD τ sig Unit (Elt F) ℕ U ℕ
/-! ### What the devices give each other before they start -/

theorem bigSep_keys (Φ : Key → sProp 𝕄) : bigSep Finset.univ Φ = iprop(Φ (.ps 0) ∗ Φ (.ps 1) ∗ Φ (.ps 2) ∗ Φ (.ps 3) ∗ Φ (.pr 0) ∗ Φ (.pr 1) ∗ Φ (.pr 2) ∗ Φ (.pr 3) ∗ Φ (.ss 0) ∗ Φ (.ss 1) ∗ Φ (.rs 0) ∗ Φ (.rs 1) ∗ Φ (.sf 0) ∗ Φ (.sf 1) ∗ Φ (.sf 2) ∗ Φ (.sf 3) ∗ Φ (.rf 0) ∗ Φ (.rf 1) ∗ Φ (.rf 2) ∗ Φ (.rf 3)) :=
  bigSep_univ_eq_bigSepL (Key.ps 0 :: Key.ps 1 :: Key.ps 2 :: Key.ps 3 :: Key.pr 0 :: Key.pr 1 :: Key.pr 2 :: Key.pr 3 :: Key.ss 0 :: Key.ss 1 :: Key.rs 0 :: Key.rs 1 :: Key.sf 0 :: Key.sf 1 :: Key.sf 2 :: Key.sf 3 :: Key.rf 0 :: Key.rf 1 :: Key.rf 2 :: Key.rf 3 :: []) (by decide) (by decide) Φ

theorem gifts (c : Dev nD) : (bigSep Finset.univ fun k => gift c k : sProp 𝕄) = iprop(emp ∗ emp ∗ emp ∗ emp ∗ (∃ f, Rows.own q4 c TH 0 f) ∗ (∃ f, Rows.own q4 c TH 1 f) ∗ (∃ f, Rows.own q4 c TH 2 f) ∗ (∃ f, Rows.own q4 c TH 3 f) ∗ emp ∗ emp ∗ (∃ f, holds c D0 fullShare f) ∗ (∃ f, holds c D1 fullShare f) ∗ emp ∗ emp ∗ emp ∗ emp ∗ (∃ f, Rows.own q2 c D2 0 f) ∗ (∃ f, Rows.own q2 c D2 1 f) ∗ (∃ f, Rows.own q2 c D2 2 f) ∗ (∃ f, Rows.own q2 c D2 3 f)) := bigSep_keys fun k => gift c k

/-- What of the two stacks and the plane's array no transfer touches. -/
def keep (c : Dev nD) : sProp 𝕄 :=
  iprop((A0.view.loc (c.tc : Thread nD τ) ↦[Finset.univ \ (col0 (other c)).view.set]{fullShare} s0 m c)
    ∗ (A1.view.loc (c.tc : Thread nD τ) ↦[Finset.univ \ (col1 (other c)).view.set]{fullShare} s1 m c)
    ∗ (A2.view.loc (c.tc : Thread nD τ) ↦[Finset.univ \ pln.view.set]{fullShare} s2 m c))

/-- A device's arrays outside the windows, cut into what it gives away, what it sends and what it keeps. -/
theorem share_out (c : Dev nD) :
    (Pipeline.unscopedRest (Ix := Unit) (Name := ℕ) (U := U) (Lvl := ℕ) spec0 c (fun b => m (c.tc.loc b)) : sProp 𝕄)
      ⊢ iprop((bigSep Finset.univ fun k => gift c k) ∗ opening m c ∗ keep m c) := by
  rw [unscopedRest0_eq, gifts]
  have hT (f : Buf (Elt F) (TH.view.loc (c.tc : Thread nD τ))) : (full c TH f : sProp 𝕄) ⊢ _ := Entails.of_eq (rows_plain q4 c TH (View.set_whole _) f)
  have hP (f : Buf (Elt F) (D2.view.loc (c.tc : Thread nD τ))) : (full c D2 f : sProp 𝕄) ⊢ _ := Entails.of_eq (rows_plain q2 c D2 (View.set_whole _) f)
  have hd0 (f : Buf (Elt F) (D0.view.loc (c.tc : Thread nD τ))) : (full c D0 f : sProp 𝕄) ⊢ holds c D0 fullShare f := Entails.of_eq (by unfold holds; rw [show D0.view.set = Finset.univ from View.set_whole _])
  have hd1 (f : Buf (Elt F) (D1.view.loc (c.tc : Thread nD τ))) : (full c D1 f : sProp 𝕄) ⊢ holds c D1 fullShare f := Entails.of_eq (by unfold holds; rw [show D1.view.set = Finset.univ from View.set_whole _])
  have ha0 (f : Buf (Elt F) (A0.view.loc (c.tc : Thread nD τ))) : (full c A0 f : sProp 𝕄) ⊢ iprop(holds c (col0 (other c)) fullShare f ∗ (A0.view.loc (c.tc : Thread nD τ) ↦[Finset.univ \ (col0 (other c)).view.set]{fullShare} f)) :=
    (pointsTo_split_subset (Finset.subset_univ _)).1
  have ha1 (f : Buf (Elt F) (A1.view.loc (c.tc : Thread nD τ))) : (full c A1 f : sProp 𝕄) ⊢ iprop(holds c (col1 (other c)) fullShare f ∗ (A1.view.loc (c.tc : Thread nD τ) ↦[Finset.univ \ (col1 (other c)).view.set]{fullShare} f)) :=
    (pointsTo_split_subset (Finset.subset_univ _)).1
  have ha2 (f : Buf (Elt F) (A2.view.loc (c.tc : Thread nD τ))) : (full c A2 f : sProp 𝕄) ⊢ iprop(holds c pln fullShare f ∗ (A2.view.loc (c.tc : Thread nD τ) ↦[Finset.univ \ pln.view.set]{fullShare} f)) :=
    (pointsTo_split_subset (Finset.subset_univ _)).1
  have hq (f : Buf (Elt F) (A2.view.loc (c.tc : Thread nD τ))) (q : PosShare TreeShare) : (holds c pln q f : sProp 𝕄) ⊢ iprop(holds c pln q.left f ∗ holds c pln q.right f) :=
    (pointsTo_share (PosShare.mem_left_op_right q)).1
  iintro ⟨HA0, HA1, HA2, HT, HD0, HD1, HD2⟩
  ihave HT := (hT _) $$ HT
  icases HT with ⟨T0, T1, T2, T3⟩
  ihave HD2 := (hP _) $$ HD2
  icases HD2 with ⟨R0, R1, R2, R3⟩
  ihave HD0 := (hd0 _) $$ HD0
  ihave HD1 := (hd1 _) $$ HD1
  ihave HA0 := (ha0 _) $$ HA0
  icases HA0 with ⟨Ha0, K0⟩
  ihave HA1 := (ha1 _) $$ HA1
  icases HA1 with ⟨Ha1, K1⟩
  ihave HA2 := (ha2 _) $$ HA2
  icases HA2 with ⟨Ha2, K2⟩
  ihave Ha2 := (hq _ fullShare) $$ Ha2
  icases Ha2 with ⟨L, R⟩
  ihave L := (hq _ fullShare.left) $$ L
  icases L with ⟨P0, P1⟩
  ihave R := (hq _ fullShare.right) $$ R
  icases R with ⟨P2, P3⟩
  isplitl [T0 T1 T2 T3 HD0 HD1 R0 R1 R2 R3]
  · isplitr; · iempintro
    isplitr; · iempintro
    isplitr; · iempintro
    isplitr; · iempintro
    isplitl [T0]; · iexists _; iexact T0
    isplitl [T1]; · iexists _; iexact T1
    isplitl [T2]; · iexists _; iexact T2
    isplitl [T3]; · iexists _; iexact T3
    isplitr; · iempintro
    isplitr; · iempintro
    isplitl [HD0]; · iexists _; iexact HD0
    isplitl [HD1]; · iexists _; iexact HD1
    isplitr; · iempintro
    isplitr; · iempintro
    isplitr; · iempintro
    isplitr; · iempintro
    isplitl [R0]; · iexists _; iexact R0
    isplitl [R1]; · iexists _; iexact R1
    isplitl [R2]; · iexists _; iexact R2
    iexists _; iexact R3
  isplitl [Ha0 Ha1 P0 P1 P2 P3]
  · unfold opening
    isplitl [Ha0]; · iexact Ha0
    isplitl [Ha1]; · iexact Ha1
    isplitl [P0]; · iexact P0
    isplitl [P1]; · iexact P1
    isplitl [P2]; · iexact P2
    iexact P3
  unfold keep
  isplitl [K0]; · iexact K0
  isplitl [K1]; · iexact K1
  iexact K2

/-! ### The launch -/

section Launch

/-- The ghost state: the pipelines' own beside the exchange's. -/
abbrev UU := UR sig nD τ × UR sig nD τ
abbrev EP : Emb (UR sig nD τ) (MT nD τ sig Unit (Elt F) ℕ UU ℕ) := embL
abbrev EX : Emb (UR sig nD τ) (MT nD τ sig Unit (Elt F) ℕ UU ℕ) := embR
local notation "𝕄𝕄" => MT nD τ sig Unit (Elt F) ℕ UU ℕ

variable (ρ : Dev nD → PrngReg)

abbrev dats (_ : Fin 1) (c : Dev nD) : Dat τ (Elt F) Unit ℕ UU ℕ cfg0 c := dat m EX c

def u₀ : UU := (initOf (Pipeline.cells cfgs cellOf_inj) (Pipeline.launchToks cfgs cellOf_inj), initOf (Once.cells (plan (U := UU) m)) (Once.toks (plan (U := UU) m)))

theorem ownSemFacts : Pipeline.OwnSemFacts cfg0.spec osem := by decide +kernel

theorem share_full (c : Dev nD) (w : Fin cfg0.W) : (dats m 0 c).share w = fullShare := by unfold Dat.share; split <;> rfl

/-- Nothing of the plan waits or sends on a window's semaphore. -/
theorem own_far (w : Fin cfg0.W) (s : Fin (cfg0.win w).nbuf) (k : Key) : osem k ≠ .dma ((cfg0.win w).sem s) := by
  revert w s k; decide +kernel

theorem waits (c : Dev nD) : (levAts Once.L (Once.lv (plan (U := UU) m)) : sProp 𝕄𝕄) ⊢ Pipeline.cellsWaits cfgs (dats m) () 0 c :=
  Pipeline.cellsWaits_intro cfgs (dats m) () 0 c fun w s t =>
    Once.mayWait_low (plan m) c _ (fun k _ => own_far w s k) _

theorem owed_end (c : Dev nD) : (dats m 0 c).owed (Fin.last cfg0.N) = 0 := by
  have h : due (issued (Fin.last cfg0.N).val) = ∅ := by rw [show (Fin.last cfg0.N).val = 16 from N_0]; exact due_end
  exact (congrArg (Once.owe (plan (U := UU) m) c) h).trans (Once.owe_none _ c ∅ fun k h => absurd h (Finset.notMem_empty k))

def start (c : Dev nD) : sProp 𝕄𝕄 := iprop(Once.st (plan m) EX c Finset.univ Finset.univ ∗ opening m c)

theorem enter (c : Dev nD) : iprop(start m c ∗ Pipeline.scopedRest (Ix := Unit) (Name := ℕ) (U := UU) (Lvl := ℕ) (Val := Elt F) spec0 c) ⊢ inv m EX c 0 := by
  rw [scopedRest0_eq]
  unfold start inv
  rw [show due (issued 0) = Finset.univ from due_start, show rem (passed 0) = Finset.univ from rem_start,
    show accInv m c 0 = (iprop(∃ X, has c AC X) : sProp 𝕄𝕄) from by unfold accInv; rw [if_pos rfl],
    show sbInv c 0 = (iprop(∃ Z : S2x384x2048.Idx → Elt F .bf16, has c SB Z) : sProp 𝕄𝕄) from by unfold sbInv; rw [if_pos (Or.inl (by decide))],
    show endsInv m c 0 = (opening m c : sProp 𝕄𝕄) from by unfold endsInv; rw [if_pos rfl]]
  iintro ⟨⟨Hst, HO⟩, ⟨%f, Hf⟩, ⟨%g, Hg⟩⟩
  isplitl [Hst]; · iexact Hst
  isplitl [Hf]
  · iexists f; iapply (Entails.of_eq (has_whole (U := UU) c cc0_scratch0 f).symm); iexact Hf
  isplitl [Hg]
  · iexists g; iapply (Entails.of_eq (has_whole (U := UU) c cc0_scratch1 g).symm); iexact Hg
  iexact HO

theorem leave (c : Dev nD) : inv m EX c 16 ⊢ iprop(closing m c ∗ Pipeline.ownSems0 (Ix := Unit) (Name := ℕ) (U := UU) (Lvl := ℕ) (Val := Elt F) (τ := τ) osem c
    ∗ Pipeline.scopedRest (Ix := Unit) (Name := ℕ) (U := UU) (Lvl := ℕ) (Val := Elt F) spec0 c) := by
  rw [scopedRest0_eq]
  unfold inv
  rw [show rem (passed 16) = ∅ from rem_end,
    show accInv m c 16 = (iprop(∃ X, has c AC X) : sProp 𝕄𝕄) from by unfold accInv; rw [if_pos rfl],
    show sbInv c 16 = (iprop(∃ Z : S2x384x2048.Idx → Elt F .bf16, has c SB Z) : sProp 𝕄𝕄) from by unfold sbInv; rw [if_pos (Or.inr rfl)],
    show endsInv m c 16 = (closing m c : sProp 𝕄𝕄) from by unfold endsInv; rw [if_neg (by decide), if_pos rfl]]
  iintro ⟨Hst, ⟨%f, Hf⟩, ⟨%g, Hg⟩, HC⟩
  isplitl [HC]; · iexact HC
  isplitl [Hst]
  · ihave Hst := (Once.st_end (plan m) EX c _) $$ Hst
    iapply (Entails.of_eq (show (bigSep Finset.univ fun k => semVal (Once.cell (plan (U := UU) m) c k) 0 : sProp 𝕄𝕄)
      = Pipeline.ownSems0 (Ix := Unit) (Name := ℕ) (U := UU) (Lvl := ℕ) (Val := Elt F) (τ := τ) osem c from rfl))
    iexact Hst
  isplitl [Hf]
  · iexists f; iapply (Entails.of_eq (has_whole (U := UU) c cc0_scratch0 f)); iexact Hf
  iexists g; iapply (Entails.of_eq (has_whole (U := UU) c cc0_scratch1 g)); iexact Hg

theorem dealt :
    iprop((bigSep Finset.univ fun c => Pipeline.ownSems0 (Ix := Unit) (Name := ℕ) (U := UU) (Lvl := ℕ) (Val := Elt F) (τ := τ) osem c)
        ∗ (bigSep Finset.univ fun c => Pipeline.unscopedRestP (Ix := Unit) (Name := ℕ) (U := UU) (Lvl := ℕ) Pipeline.Prefetch.none spec0 c (fun b => m (c.tc.loc b)))
        ∗ (bigSep Finset.univ fun c => Pipeline.launchCred (Once.owe₀ (plan (U := UU) m)) c) ∗ levAts Once.L (Once.lv (plan (U := UU) m)) ∗ Once.ghost (plan m) EX)
      ⊢ |={Set.univ}=> bigSep Finset.univ fun c => (iprop(start m c ∗ keep m c) : sProp 𝕄𝕄) := by
  have h1 : (bigSep Finset.univ fun c : Dev nD => Pipeline.unscopedRestP (Ix := Unit) (Name := ℕ) (U := UU) (Lvl := ℕ) Pipeline.Prefetch.none spec0 c (fun b => m (c.tc.loc b)))
      ⊢ (bigSep Finset.univ fun c : Dev nD => iprop((bigSep Finset.univ fun k => (plan m).gift c k) ∗ opening m c ∗ keep m c) : sProp 𝕄𝕄) :=
    bigSep_mono fun c _ => by rw [Pipeline.unscopedRestP_none]; exact share_out m c
  have h2 : (bigSep Finset.univ fun c : Dev nD => iprop(Once.st (plan m) EX c Finset.univ Finset.univ ∗ opening m c ∗ keep m c) : sProp 𝕄𝕄)
      ⊢ bigSep Finset.univ fun c : Dev nD => iprop(start m c ∗ keep m c) := by
    have h (c : Dev nD) : (iprop(Once.st (plan m) EX c Finset.univ Finset.univ ∗ opening m c ∗ keep m c) : sProp 𝕄𝕄) ⊢ iprop(start m c ∗ keep m c) := by
      unfold start
      iintro ⟨H1, H2, H3⟩
      isplitl [H1 H2]
      · isplitl [H1]; · iexact H1
        iexact H2
      iexact H3
    exact bigSep_mono fun c _ => h c
  have h3 := Once.deal (plan m) EX (fun c => (iprop(opening m c ∗ keep m c) : sProp 𝕄𝕄))
  refine BIBase.Entails.trans ?_ (h3.trans (BI.fupd_mono h2))
  iintro ⟨H1, H2, H3, H4, H5⟩
  isplitl [H1]; · iexact H1
  isplitl [H2]; · iapply h1; iexact H2
  isplitl [H3]; · iexact H3
  isplitl [H4]; · iexact H4
  iexact H5

/-- What a device's stacks hold at the end. -/
def Ends (c : Dev nD) (s : MemSt nD τ sig (Elt F)) : Prop :=
  s.mem (c.tc.loc main_v1_1) = theirs m c
  ∧ s.mem (c.tc.loc main_v1_2) = arr0 m c ∧ s.mem (c.tc.loc main_v1_3) = arr1 m c ∧ s.mem (c.tc.loc main_v1_4) = arr2 m c
  ∧ s.mem (c.tc.loc main_arg2) = s0 m c ∧ s.mem (c.tc.loc main_arg3) = s1 m c ∧ s.mem (c.tc.loc main_arg4) = s2 m c

/-- Two functions that agree on a set and on the rest agree. -/
theorem agree_both {α : Type} {β : α → Type} [Fintype α] [DecidableEq α] {f g : (a : α) → β a} (I : Finset α) (h : ∀ i ∈ I, f i = g i) (h' : ∀ i ∈ Finset.univ \ I, f i = g i) : f = g :=
  funext fun i => if hi : i ∈ I then h i hi else h' i (Finset.mem_sdiff.mpr ⟨Finset.mem_univ i, hi⟩)

theorem read (c : Dev nD) (s' : Phys nD τ sig (Elt F)) :
    iprop(closing m c ∗ keep m c ∗ SI s') ⊢ |={Set.univ}=> (iprop(⌜Ends m c s'.mem⌝ ∗ SI s') : sProp 𝕄𝕄) := by
  unfold closing keep holds
  rw [show D0.view.set = Finset.univ from View.set_whole _, show D1.view.set = Finset.univ from View.set_whole _]
  iintro ⟨⟨HT, D0, D1, D2, A0, A1, P0, P1, P2, P3⟩, ⟨K0, K1, K2⟩, HSI⟩
  icombine HSI HT gives %hT
  icombine HSI D0 gives %hD0
  icombine HSI D1 gives %hD1
  icombine HSI D2 gives %hD2
  icombine HSI A0 gives %hA0
  icombine HSI A1 gives %hA1
  icombine HSI P0 gives %hA2
  icombine HSI K0 gives %hK0
  icombine HSI K1 gives %hK1
  icombine HSI K2 gives %hK2
  imodintro
  isplitr
  · ipureintro
    exact ⟨Buf.eq_of_forall_mem_univ hT, Buf.eq_of_forall_mem_univ hD0, Buf.eq_of_forall_mem_univ hD1, Buf.eq_of_forall_mem_univ hD2,
      agree_both _ hA0 hK0, agree_both _ hA1 hK1, agree_both _ hA2 hK2⟩
  iexact HSI

/-- What a run leaves: the windows' arrays as the body's steps leave them, the stacks as `Ends` says. -/
def Final (r : PUnit × MemSt nD τ sig (Elt F)) : Prop :=
  ∀ c : Dev nD, (∀ w : Fin cfg0.W, r.2.mem ((cfg0.win w).arr.view.loc (c.tc : Thread nD τ)) = (dats m 0 c).arrAt w cfg0.N) ∧ Ends m c r.2

set_option maxRecDepth 8000 in
theorem run_main : θ_run defs (onTc (τ := τ) (main (F := F))) (s₀ m ρ) (fun r => Final m r ∧ r.2.sem = fun _ => 0) :=
  Dealt.θ_run_dealt (fun p => (cfgs p).toPCfg) (fun _ p => (cfgs p).toPCfg_adm) (dats m) () cellOf_inj (0 : Fin 1)
    winFacts0.to₀ ownSemFacts (Pipeline.PreFacts.none _) EP defs₀ Variants.none m ρ main
    (hmain := fun _ => rfl)
    (hbody := fun c => (body m EX c).toR) (hne := fun w => by fin_cases w <;> exact Nat.succ_pos _) (harr := arr_whole0) (hstage := stage_whole0) (hshare := share_full m)
    (hdistinct := winFacts0.arr_inj)
    (O₀ := Once.owe₀ (plan (U := UU) m)) (howed₀ := fun c => congrArg (Once.owe (plan (U := UU) m) c) (show due (issued 0) = Finset.univ from due_start))
    (howedN := owed_end m)
    (L := Once.L) (lv := Once.lv (plan (U := UU) m)) (hL := Once.L_of_ne) (hwaits := waits m)
    (G := Once.ghost (plan m) EX) (u₀ := u₀ m)
    (hu₀ := by
      unfold u₀
      iintro Hu
      ihave H := (ownU_pair _ _) $$ Hu
      icases H with ⟨HP, HX⟩
      imod (Once.fund (plan m) EX) $$ HX with HG
      imodintro
      isplitl [HP]; · iexact HP
      iexact HG)
    (hA := fun _ _ => rfl) (hpf := fun _ k => k.elim0)
    (X := start m) (Y := fun c => closing m c) (Z := fun c => keep m c)
    (hdeal := dealt m) (hin := enter m) (hout := leave m)
    (QY := Ends m)
    (hY := read m)
    (hQ := fun _ h hs => ⟨h, sem_eq_zero_of_scoped (by decide) hs⟩)

/-- No argument changes. -/
theorem args_kept (r : PUnit × MemSt nD τ sig (Elt F)) (h : Final m r) (c : Dev nD) :
    r.2.mem (c.tc.loc main_arg0) = m (c.tc.loc main_arg0)
    ∧ r.2.mem (c.tc.loc main_arg1) = m (c.tc.loc main_arg1)
    ∧ r.2.mem (c.tc.loc main_arg2) = m (c.tc.loc main_arg2)
    ∧ r.2.mem (c.tc.loc main_arg3) = m (c.tc.loc main_arg3)
    ∧ r.2.mem (c.tc.loc main_arg4) = m (c.tc.loc main_arg4) := by
  obtain ⟨hw, -, -, -, -, h0, h1, h2⟩ := h c
  exact ⟨(hw 0).trans ((dats m 0 c).arrAt_in 0 rfl _), (hw 1).trans ((dats m 0 c).arrAt_in 1 rfl _), h0, h1, h2⟩

end Launch
end Cert.OuterIdeal.GO

end
-- ==== Proof.OuterStep.lean ====
module

public import proofs.«01_k».proof.Proof.Gen.OuterIdeal.Skeleton
public import Idealize.ShloMosaic.Lib.Pointwise
public import Idealize.ShloMosaic.PureOps.Ideal

@[expose] public section

noncomputable section

/-! One addition to the accumulator, entry by entry: the two tiles' product, a sum over their rows. -/

namespace Cert.OuterIdeal.GO

open Idealize.ShloMosaic Idealize.SL.Sem
open Idealize.ShloMosaic.TcCoe
open Idealize.ShloMosaic.Pipeline
open Cert.OuterIdeal.Gen
open scoped BigOperators

set_option Elab.async false

theorem pay_step (A : Vec Ideal S768x2048 .f32) (a : Vec Ideal S1024x768 .bf16) (b : Vec Ideal S1024x2048 .bf16)
    (k : Fin 768) (l : Fin 2048) :
    k0_pay1 A (k0_pay9 a) (k0_pay10 b) (constant S768x2048 .f32 0x00000000#32) (ValueIdx.ix2 k l)
      = A (ValueIdx.ix2 k l) + ∑ r : Fin 1024, a (ValueIdx.ix2 r k) * b (ValueIdx.ix2 r l) := by
  show k0_pay1 A (k0_pay9 a) (k0_pay10 b) (constant S768x2048 .f32 0x00000000#32) (ix2 k l) = A (ix2 k l) + ∑ r : Fin 1024, a (ix2 r k) * b (ix2 r l)
  unfold k0_pay1 k0_pay9 k0_pay10
  pointwise

theorem pay_zero (k : Fin 768) (l : Fin 2048) : k0_pay8 (F := Ideal) (ValueIdx.ix2 k l) = 0 := by
  show k0_pay8 (F := Ideal) (ix2 k l) = 0
  unfold k0_pay8
  pointwise

theorem pay_block (A : Vec Ideal S384x2048 .f32) (k : Fin 384) (l : Fin 2048) :
    k0_pay3 A (ValueIdx.ix3 (0 : Fin 1) k l) = A (ValueIdx.ix2 k l) := by
  show k0_pay3 A (ix3 (0 : Fin 1) k l) = A (ix2 k l)
  unfold k0_pay3 k0_pay2
  pointwise

end Cert.OuterIdeal.GO

end
-- ==== Proof.OuterSums.lean ====
module

public import proofs.«01_k».proof.Proof.OuterRun
public import proofs.«01_k».proof.Proof.OuterStep
public import proofs.«01_k».proof.Proof.Sums
public import Idealize.ShloMosaic.Lib.Pipeline.ValueKit
public import Idealize.ShloMosaic.PureOps.Ideal

@[expose] public section

noncomputable section

/-! What the device's own products come to: each entry of a block is one sum over the
4096 rows of the two factors. -/

namespace Cert.OuterIdeal.GO

open Idealize.ShloMosaic Idealize.SL.Sem
open Idealize.ShloMosaic.TcCoe
open Idealize.ShloMosaic.ValueIdx hiding ix2 ix3
open Idealize.ShloMosaic.Pipeline
open Cert.OuterIdeal.Gen
open scoped BigOperators

set_option Elab.async false

section Blocks

variable {F : FTy → Type} [FloatOps F]
variable (m : (ℓ : Loc nD τ sig) → Buf (Elt F) ℓ)

/-- The two factors, as the device is given them. -/
def left (c : Dev nD) : S4096x3072.Idx → Elt F .bf16 := m (c.tc.loc main_arg0)
def right (c : Dev nD) : S4096x2048.Idx → Elt F .bf16 := m (c.tc.loc main_arg1)

/-- Which blocks point `t` works on. -/
theorem at_point : ∀ t : Fin cfg0.N, win0_0.index t = ![t.val % 4, t.val / 4] ∧ win0_1.index t = ![t.val % 4, 0] ∧
    win0_2.index t = ![t.val / 4, 0, 0] := by decide +kernel

theorem left_at (c : Dev nD) (t : ℕ) (h : t < 16) (r : Fin 1024) (k : Fin 768) :
    ablk m c t (ix2 r k) = left m c (ix2 ⟨1024 * (t % 4) + r.val, by omega⟩ ⟨768 * (t / 4) + k.val, by omega⟩) := by
  have e := (at_point ⟨t, h⟩).1
  unfold ablk left
  rw [dif_pos (show t < cfg0.N from h)]
  blk_ext [iblk, V, e]

theorem right_at (c : Dev nD) (t : ℕ) (h : t < 16) (r : Fin 1024) (l : Fin 2048) :
    bblk m c t (ix2 r l) = right m c (ix2 ⟨1024 * (t % 4) + r.val, by omega⟩ l) := by
  have e := (at_point ⟨t, h⟩).2.1
  unfold bblk right
  rw [dif_pos (show t < cfg0.N from h)]
  blk_ext [iblk, V, e]

/-- The kept blocks after the run, eight in a row. -/
def kept (c : Dev nD) : S8x384x2048.Idx → Elt F .bf16 :=
  fun x => blocks m c ((x 0).val / 2) (ix3 (⟨(x 0).val % 2, by omega⟩ : Fin 2) (x 1) (x 2))

theorem kept_of (c : Dev nD) (x : S8x384x2048.Idx) (j : ℕ) (y : S2x384x2048.Idx) (h0 : (x 0).val = 2 * j + (y 0).val)
    (h1 : (x 1).val = (y 1).val) (h2 : (x 2).val = (y 2).val) : kept m c x = blocks m c j y := by
  have hy : (y 0).val < 2 := (y 0).isLt
  have hj : (x 0).val / 2 = j := by omega
  unfold kept
  rw [hj]
  refine congrArg (blocks m c j) (funext fun a => ?_)
  fin_cases a
  · exact Fin.ext (show (x 0).val % 2 = (y 0).val by omega)
  · exact Fin.ext h1
  · exact Fin.ext h2

theorem kept_all (c : Dev nD) : (dats m 0 c).arrAt 2 cfg0.N = kept m c := by
  refine (dats m 0 c).arrAt_eq_of_covers 2 _ (by decide +kernel) fun t hf y => ?_
  have e := (at_point t).2.2
  blk_simp
  show blocks m c (t.val / 4) y = _
  refine (kept_of m c _ (t.val / 4) y ?_ ?_ ?_).symm
  · exact (win0_2.rect_emb_val t y 0).trans (by rw [e]; show t.val / 4 * 2 + (y 0).val = _; omega)
  · exact (win0_2.rect_emb_val t y 1).trans (by rw [e]; show 0 * 384 + (y 1).val = _; omega)
  · exact (win0_2.rect_emb_val t y 2).trans (by rw [e]; show 0 * 2048 + (y 2).val = _; omega)

end Blocks

/-! ### Over the reals -/

section Reals

variable (m : (ℓ : Loc nD τ sig) → Buf (Elt Ideal) ℓ)

theorem acc_step (c : Dev nD) (t : ℕ) (h : t < 16) (k : Fin 768) (l : Fin 2048) :
    accAt m c t (ix2 k l) = (if t % 4 = 0 then 0 else accAt m c (t - 1) (ix2 k l))
      + ∑ r : Fin 1024, left m c (ix2 ⟨1024 * (t % 4) + r.val, by omega⟩ ⟨768 * (t / 4) + k.val, by omega⟩) * right m c (ix2 ⟨1024 * (t % 4) + r.val, by omega⟩ l) := by
  have e : accAt m c t = step (if t % 4 = 0 then k0_pay8 else accAt m c (t - 1)) (ablk m c t) (bblk m c t) := by
    cases t with
    | zero => rfl
    | succ n => rfl
  rw [e]
  refine (pay_step _ _ _ k l).trans (congrArg₂ (· + ·) ?_ (Finset.sum_congr rfl fun r _ => ?_))
  · by_cases hz : t % 4 = 0
    · rw [if_pos hz, if_pos hz]; exact pay_zero k l
    · rw [if_neg hz, if_neg hz]; rfl
  · exact congrArg₂ (· * ·) (left_at m c t h r k) (right_at m c t h r l)

theorem total (c : Dev nD) (j : ℕ) (h : j < 4) (k : Fin 768) (l : Fin 2048) :
    accAt m c (4 * j + 3) (ix2 k l) = ∑ s : Fin 4096, left m c (ix2 s ⟨768 * j + k.val, by omega⟩) * right m c (ix2 s l) := by
  rw [Cert.KernelIdeal.GW.quarters]
  have st (i : ℕ) (hi : i < 4) := acc_step m c (4 * j + i) (by omega) k l
  have e3 := st 3 (by omega)
  have e2 := st 2 (by omega)
  have e1 := st 1 (by omega)
  have e0 := st 0 (by omega)
  have md (i : ℕ) (hi : i < 4) : (4 * j + i) % 4 = i := by omega
  have dv (i : ℕ) (hi : i < 4) : (4 * j + i) / 4 = j := by omega
  simp only [md 3 (by omega), dv 3 (by omega)] at e3
  simp only [md 2 (by omega), dv 2 (by omega)] at e2
  simp only [md 1 (by omega), dv 1 (by omega)] at e1
  simp only [md 0 (by omega), dv 0 (by omega)] at e0
  rw [if_neg (by omega)] at e3 e2 e1
  rw [if_pos trivial] at e0
  rw [e3, show 4 * j + 3 - 1 = 4 * j + 2 by omega, e2, show 4 * j + 2 - 1 = 4 * j + 1 by omega, e1,
    show 4 * j + 1 - 1 = 4 * j + 0 by omega, e0]

/-- Block `b` of pair `j`: rows `384 (2 j + b)` onward of the one product. -/
theorem blocks_sum (c : Dev nD) (j : ℕ) (h : j < 4) (b : Fin 2) (k : Fin 384) (l : Fin 2048) :
    blocks m c j (ix3 b k l)
      = ∑ s : Fin 4096, left m c (ix2 s ⟨384 * (2 * j + b.val) + k.val, by omega⟩) * right m c (ix2 s l) := by
  refine (pay_block _ k l).trans ((total m c j h ⟨384 * b.val + k.val, by omega⟩ l).trans ?_)
  refine Finset.sum_congr rfl fun s _ => congrArg (fun q => left m c (ix2 s q) * right m c (ix2 s l)) (Fin.ext ?_)
  show 768 * j + (384 * b.val + k.val) = 384 * (2 * j + b.val) + k.val
  omega

end Reals

end Cert.OuterIdeal.GO

end
-- ==== Proof.OuterWhole.lean ====
module

public import proofs.«01_k».proof.Proof.Gen.OuterReferenceIdeal.Read
public import proofs.«01_k».proof.Proof.Whole
public import Idealize.ShloMosaic.Lib.Pointwise
public import Idealize.ShloMosaic.PureOps.Ideal

@[expose] public section

noncomputable section

/-! The second reference on the whole arrays, entry by entry: each product a sum over one device's 4096 rows, each
exchanged array the other core's part of it. -/

namespace Cert.OuterReferenceIdeal.Whole

open Idealize.ShloMosaic Idealize.SL.Sem
open Idealize.ShloMosaic.TcCoe
open Cert.OuterReferenceIdeal Cert.OuterReferenceIdeal.Gen Cert.OuterReferenceIdeal.Read
open Cert.ReferenceIdeal.Whole (same2 same3 same4 same5)
open scoped BigOperators

set_option Elab.async false

/-! ### The products -/

section Products

variable (A : S32768x3072.Idx → Elt Ideal .bf16) (B : S32768x2048.Idx → Elt Ideal .bf16)

/-- Block `b` of device `d`. -/
def block (d b : Fin 8) (k : Fin 384) (l : Fin 2048) : EReal :=
  ∑ s : Fin 4096, A (ix2 ⟨4096 * d.val + s.val, by omega⟩ ⟨384 * b.val + k.val, by omega⟩) * B (ix2 ⟨4096 * d.val + s.val, by omega⟩ l)

theorem product_at (d b : Fin 8) (k : Fin 384) (l : Fin 2048) : val_main_v5 A B (ix4 d b k l) = block A B d b k l := by
  have hd := d.isLt
  have hb := b.isLt
  have hk := k.isLt
  have hl := l.isLt
  show val_main_v4 A B (ix4 d b k l) = _
  rw [val_main_v4_apply]
  refine Finset.sum_congr rfl fun s _ => ?_
  have hs := s.isLt
  rw [val_main_v1_apply, val_main_v3_apply]
  refine congrArg₂ (fun x y : EReal => x * y) (congrArg A (same2 _ _ _ ?_ ?_)) (congrArg B (same2 _ _ _ ?_ ?_))
  · show (((d.val * 4096 + s.val) * 8 + b.val) * 384 + k.val) / 3072 = 4096 * d.val + s.val
    omega
  · show (((d.val * 4096 + s.val) * 8 + b.val) * 384 + k.val) % 3072 = 384 * b.val + k.val
    omega
  · show ((d.val * 4096 + s.val) * 2048 + l.val) / 2048 = 4096 * d.val + s.val
    omega
  · show ((d.val * 4096 + s.val) * 2048 + l.val) % 2048 = l.val
    omega

/-- The first result: the blocks in order, eight of each device. -/
theorem own_at (d b : Fin 8) (k : Fin 384) (l : Fin 2048) (i : S64x384x2048.Idx) (h0 : (i 0).val = 8 * d.val + b.val)
    (h1 : (i 1).val = k.val) (h2 : (i 2).val = l.val) : val_main_v33 A B i = block A B d b k l := by
  have hb := b.isLt
  have hk := k.isLt
  have hl := l.isLt
  rw [val_main_v33_apply, ← product_at]
  refine congrArg (val_main_v5 A B) (same4 _ _ _ _ _ ?_ ?_ ?_ ?_)
  · show (((i 0).val * 384 + (i 1).val) * 2048 + (i 2).val) / 6291456 = d.val
    rw [h0, h1, h2]; omega
  · show (((i 0).val * 384 + (i 1).val) * 2048 + (i 2).val) / 786432 % 8 = b.val
    rw [h0, h1, h2]; omega
  · show (((i 0).val * 384 + (i 1).val) * 2048 + (i 2).val) / 2048 % 384 = k.val
    rw [h0, h1, h2]; omega
  · show (((i 0).val * 384 + (i 1).val) * 2048 + (i 2).val) % 2048 = l.val
    rw [h0, h1, h2]; omega

theorem even_at (q p : Fin 4) (k : Fin 384) (l : Fin 2048) :
    val_main_v8 A B (ix5 q (0 : Fin 1) p k l) = block A B ⟨2 * q.val + 1, by omega⟩ ⟨2 * p.val, by omega⟩ k l := by
  rw [val_main_v8_apply, ← product_at]
  refine congrArg (val_main_v5 A B) (same4 _ _ _ _ _ ?_ ?_ ?_ ?_)
  · show 1 + 2 * q.val = 2 * q.val + 1
    omega
  · show 0 + 2 * p.val = 2 * p.val
    omega
  · show 0 + 1 * k.val = k.val
    omega
  · show 0 + 1 * l.val = l.val
    omega

theorem odd_at (q p : Fin 4) (k : Fin 384) (l : Fin 2048) :
    val_main_v9 A B (ix5 q (0 : Fin 1) p k l) = block A B ⟨2 * q.val, by omega⟩ ⟨2 * p.val + 1, by omega⟩ k l := by
  rw [val_main_v9_apply, ← product_at]
  refine congrArg (val_main_v5 A B) (same4 _ _ _ _ _ ?_ ?_ ?_ ?_)
  · show 0 + 2 * q.val = 2 * q.val
    omega
  · show 1 + 2 * p.val = 2 * p.val + 1
    omega
  · show 0 + 1 * k.val = k.val
    omega
  · show 0 + 1 * l.val = l.val
    omega

theorem crossed_even (q p : Fin 4) (k : Fin 384) (l : Fin 2048) :
    val_main_v10 A B (ix5 q (0 : Fin 2) p k l) = block A B ⟨2 * q.val + 1, by omega⟩ ⟨2 * p.val, by omega⟩ k l := by
  rw [← even_at]
  unfold val_main_v10
  exact concatenate_pair_apply_left (1 : Fin S4x2x4x384x2048.rank) (val_main_v8 A B) (val_main_v9 A B)
    concatenates_S4x1x4x384x2048_S4x1x4x384x2048_S4x2x4x384x2048_d1 (ix5 q (0 : Fin 2) p k l) rfl (ix5 q (0 : Fin 1) p k l) (fun b => match b with
    | ⟨0, _⟩ => rfl
    | ⟨1, _⟩ => rfl
    | ⟨2, _⟩ => rfl
    | ⟨3, _⟩ => rfl
    | ⟨4, _⟩ => rfl)

theorem crossed_odd (q p : Fin 4) (k : Fin 384) (l : Fin 2048) :
    val_main_v10 A B (ix5 q (1 : Fin 2) p k l) = block A B ⟨2 * q.val, by omega⟩ ⟨2 * p.val + 1, by omega⟩ k l := by
  rw [← odd_at]
  unfold val_main_v10
  exact concatenate_pair_apply_right (1 : Fin S4x2x4x384x2048.rank) (val_main_v8 A B) (val_main_v9 A B)
    concatenates_S4x1x4x384x2048_S4x1x4x384x2048_S4x2x4x384x2048_d1 (ix5 q (1 : Fin 2) p k l) rfl rfl (ix5 q (0 : Fin 1) p k l) (fun b hb => match b, hb with
    | ⟨0, _⟩, _ => rfl
    | ⟨1, _⟩, hb => absurd rfl hb
    | ⟨2, _⟩, _ => rfl
    | ⟨3, _⟩, _ => rfl
    | ⟨4, _⟩, _ => rfl) rfl

theorem swapped_at (q : Fin 4) (c : Fin 2) (p : Fin 4) (k : Fin 384) (l : Fin 2048) (i : S32x384x2048.Idx)
    (h0 : (i 0).val = 4 * (2 * q.val + c.val) + p.val) (h1 : (i 1).val = k.val) (h2 : (i 2).val = l.val) :
    val_main_v34 A B i = val_main_v10 A B (ix5 q c p k l) := by
  have hc := c.isLt
  have hp := p.isLt
  have hk := k.isLt
  have hl := l.isLt
  rw [val_main_v34_apply]
  refine congrArg (val_main_v10 A B) (same5 _ _ _ _ _ _ ?_ ?_ ?_ ?_ ?_)
  · show (((i 0).val * 384 + (i 1).val) * 2048 + (i 2).val) / 6291456 = q.val
    rw [h0, h1, h2]; omega
  · show (((i 0).val * 384 + (i 1).val) * 2048 + (i 2).val) / 3145728 % 2 = c.val
    rw [h0, h1, h2]; omega
  · show (((i 0).val * 384 + (i 1).val) * 2048 + (i 2).val) / 786432 % 4 = p.val
    rw [h0, h1, h2]; omega
  · show (((i 0).val * 384 + (i 1).val) * 2048 + (i 2).val) / 2048 % 384 = k.val
    rw [h0, h1, h2]; omega
  · show (((i 0).val * 384 + (i 1).val) * 2048 + (i 2).val) % 2048 = l.val
    rw [h0, h1, h2]; omega

/-- The second result: of each pair of the other core's blocks, the one with this core's number. -/
theorem crossed_at (d e : Fin 8) (p : Fin 4) (b : Fin 8) (he : e.val = 2 * (d.val / 2) + (1 - d.val % 2)) (hb : b.val = 2 * p.val + d.val % 2)
    (k : Fin 384) (l : Fin 2048) (i : S32x384x2048.Idx)
    (h0 : (i 0).val = 4 * d.val + p.val) (h1 : (i 1).val = k.val) (h2 : (i 2).val = l.val) :
    val_main_v34 A B i = block A B e b k l := by
  rcases Nat.mod_two_eq_zero_or_one d.val with h | h
  · refine (swapped_at A B ⟨d.val / 2, by omega⟩ 0 p k l i (h0.trans ?_) h1 h2).trans ((crossed_even A B _ p k l).trans ?_)
    · show 4 * d.val + p.val = 4 * (2 * (d.val / 2) + 0) + p.val
      omega
    · exact congrArg₂ (fun x y => block A B x y k l) (Fin.ext (show 2 * (d.val / 2) + 1 = e.val by omega)) (Fin.ext (show 2 * p.val = b.val by omega))
  · refine (swapped_at A B ⟨d.val / 2, by omega⟩ 1 p k l i (h0.trans ?_) h1 h2).trans ((crossed_odd A B _ p k l).trans ?_)
    · show 4 * d.val + p.val = 4 * (2 * (d.val / 2) + 1) + p.val
      omega
    · exact congrArg₂ (fun x y => block A B x y k l) (Fin.ext (show 2 * (d.val / 2) = e.val by omega)) (Fin.ext (show 2 * p.val + 1 = b.val by omega))

end Products

/-! ### The halves of the stacks and the plane -/

section Stack0

variable {F : FTy → Type} [FloatOps F] (S : S32x2x256x2048.Idx → Elt F .bf16)

theorem given0 (u : Fin 8) (p : Fin 4) (b : Fin 2) (a : Fin 256) (z : Fin 2048) :
    val_main_v11 S (ix5 u p b a z) = S (ix4 ⟨4 * u.val + p.val, by omega⟩ b a z) := by
  have hu := u.isLt
  have hp := p.isLt
  have hb := b.isLt
  have ha := a.isLt
  have hz := z.isLt
  rw [val_main_v11_apply]
  refine congrArg S (same4 _ _ _ _ _ ?_ ?_ ?_ ?_)
  · show ((((u.val * 4 + p.val) * 2 + b.val) * 256 + a.val) * 2048 + z.val) / 1048576 = 4 * u.val + p.val
    omega
  · show ((((u.val * 4 + p.val) * 2 + b.val) * 256 + a.val) * 2048 + z.val) / 524288 % 2 = b.val
    omega
  · show ((((u.val * 4 + p.val) * 2 + b.val) * 256 + a.val) * 2048 + z.val) / 2048 % 256 = a.val
    omega
  · show ((((u.val * 4 + p.val) * 2 + b.val) * 256 + a.val) * 2048 + z.val) % 2048 = z.val
    omega

theorem fromOdd0 (q p : Fin 4) (a : Fin 256) (z : Fin 2048) :
    val_main_v17 S (ix5 q (0 : Fin 1) p a z) = S (ix4 ⟨4 * (2 * q.val + 1) + p.val, by omega⟩ (0 : Fin 2) a z) := by
  have hq := q.isLt
  have hp := p.isLt
  have ha := a.isLt
  have hz := z.isLt
  have e : idx_main_v14 (idx_main_v17 (ix5 q (0 : Fin 1) p a z)) = ix5 q p (0 : Fin 1) a z := same5 _ _ _ _ _ _
    (show (((q.val * 4 + p.val) * 256 + a.val) * 2048 + z.val) / 2097152 = q.val by omega)
    (show (((q.val * 4 + p.val) * 256 + a.val) * 2048 + z.val) / 524288 % 4 = p.val by omega) rfl
    (show (((q.val * 4 + p.val) * 256 + a.val) * 2048 + z.val) / 2048 % 256 = a.val by omega)
    (show (((q.val * 4 + p.val) * 256 + a.val) * 2048 + z.val) % 2048 = z.val by omega)
  have e' : val_main_v13 S (ix5 q p (0 : Fin 1) a z) = val_main_v11 S (ix5 (⟨2 * q.val + 1, by omega⟩ : Fin 8) p (0 : Fin 2) a z) :=
    congrArg (val_main_v11 S) (same5 _ _ _ _ _ _ (show 1 + 2 * q.val = 2 * q.val + 1 by omega) (show 0 + 1 * p.val = p.val by omega) rfl
      (show 0 + 1 * a.val = a.val by omega) (show 0 + 1 * z.val = z.val by omega))
  rw [val_main_v17_apply, val_main_v14_apply, e, e', given0]

theorem fromEven0 (q p : Fin 4) (a : Fin 256) (z : Fin 2048) :
    val_main_v18 S (ix5 q (0 : Fin 1) p a z) = S (ix4 ⟨4 * (2 * q.val) + p.val, by omega⟩ (1 : Fin 2) a z) := by
  have hq := q.isLt
  have hp := p.isLt
  have ha := a.isLt
  have hz := z.isLt
  have e : idx_main_v16 (idx_main_v18 (ix5 q (0 : Fin 1) p a z)) = ix5 q p (0 : Fin 1) a z := same5 _ _ _ _ _ _
    (show (((q.val * 4 + p.val) * 256 + a.val) * 2048 + z.val) / 2097152 = q.val by omega)
    (show (((q.val * 4 + p.val) * 256 + a.val) * 2048 + z.val) / 524288 % 4 = p.val by omega) rfl
    (show (((q.val * 4 + p.val) * 256 + a.val) * 2048 + z.val) / 2048 % 256 = a.val by omega)
    (show (((q.val * 4 + p.val) * 256 + a.val) * 2048 + z.val) % 2048 = z.val by omega)
  have e' : val_main_v15 S (ix5 q p (0 : Fin 1) a z) = val_main_v11 S (ix5 (⟨2 * q.val, by omega⟩ : Fin 8) p (1 : Fin 2) a z) :=
    congrArg (val_main_v11 S) (same5 _ _ _ _ _ _ (show 0 + 2 * q.val = 2 * q.val by omega) (show 0 + 1 * p.val = p.val by omega) rfl
      (show 0 + 1 * a.val = a.val by omega) (show 0 + 1 * z.val = z.val by omega))
  rw [val_main_v18_apply, val_main_v16_apply, e, e', given0]

/-- A half stack as it arrives: the other core's half with this core's number. -/
theorem half0_at (d e : Fin 8) (p : Fin 4) (b : Fin 2) (he : e.val = 2 * (d.val / 2) + (1 - d.val % 2)) (hb : b.val = d.val % 2)
    (a : Fin 256) (z : Fin 2048) (i : S32x256x2048.Idx) (h0 : (i 0).val = 4 * d.val + p.val) (h1 : (i 1).val = a.val) (h2 : (i 2).val = z.val) :
    val_main_v35 S i = S (ix4 ⟨4 * e.val + p.val, by omega⟩ b a z) := by
  have hd := d.isLt
  have hp := p.isLt
  have hbl := b.isLt
  have ha := a.isLt
  have hz := z.isLt
  have e1 : idx_main_v35 i = ix5 (⟨d.val / 2, by omega⟩ : Fin 4) b p a z := same5 _ _ _ _ _ _
    (show (((i 0).val * 256 + (i 1).val) * 2048 + (i 2).val) / 4194304 = d.val / 2 by rw [h0, h1, h2]; omega)
    (show (((i 0).val * 256 + (i 1).val) * 2048 + (i 2).val) / 2097152 % 2 = b.val by rw [h0, h1, h2]; omega)
    (show (((i 0).val * 256 + (i 1).val) * 2048 + (i 2).val) / 524288 % 4 = p.val by rw [h0, h1, h2]; omega)
    (show (((i 0).val * 256 + (i 1).val) * 2048 + (i 2).val) / 2048 % 256 = a.val by rw [h0, h1, h2]; omega)
    (show (((i 0).val * 256 + (i 1).val) * 2048 + (i 2).val) % 2048 = z.val by rw [h0, h1, h2]; omega)
  rw [val_main_v35_apply, e1]
  unfold val_main_v19
  rcases Nat.mod_two_eq_zero_or_one d.val with h | h
  · obtain rfl : b = 0 := Fin.ext (hb.trans h)
    refine (concatenate_pair_apply_left (1 : Fin S4x2x4x256x2048.rank) (val_main_v17 S) (val_main_v18 S) concatenates_S4x1x4x256x2048_S4x1x4x256x2048_S4x2x4x256x2048_d1
      (ix5 (⟨d.val / 2, by omega⟩ : Fin 4) (0 : Fin 2) p a z) rfl (ix5 (⟨d.val / 2, by omega⟩ : Fin 4) (0 : Fin 1) p a z) (fun b => match b with
      | ⟨0, _⟩ => rfl
      | ⟨1, _⟩ => rfl
      | ⟨2, _⟩ => rfl
      | ⟨3, _⟩ => rfl
      | ⟨4, _⟩ => rfl)).trans ((fromOdd0 S _ p a z).trans (congrArg (fun x => S (ix4 x (0 : Fin 2) a z)) (Fin.ext ?_)))
    show 4 * (2 * (d.val / 2) + 1) + p.val = 4 * e.val + p.val
    omega
  · obtain rfl : b = 1 := Fin.ext (hb.trans h)
    refine (concatenate_pair_apply_right (1 : Fin S4x2x4x256x2048.rank) (val_main_v17 S) (val_main_v18 S) concatenates_S4x1x4x256x2048_S4x1x4x256x2048_S4x2x4x256x2048_d1
      (ix5 (⟨d.val / 2, by omega⟩ : Fin 4) (1 : Fin 2) p a z) rfl rfl (ix5 (⟨d.val / 2, by omega⟩ : Fin 4) (0 : Fin 1) p a z) (fun b hb => match b, hb with
      | ⟨0, _⟩, _ => rfl
      | ⟨1, _⟩, hb => absurd rfl hb
      | ⟨2, _⟩, _ => rfl
      | ⟨3, _⟩, _ => rfl
      | ⟨4, _⟩, _ => rfl) rfl).trans ((fromEven0 S _ p a z).trans (congrArg (fun x => S (ix4 x (1 : Fin 2) a z)) (Fin.ext ?_)))
    show 4 * (2 * (d.val / 2)) + p.val = 4 * e.val + p.val
    omega

end Stack0

section Stack1

variable {F : FTy → Type} [FloatOps F] (S : S32x2x128x256.Idx → Elt F .bf16)

theorem given1 (u : Fin 8) (p : Fin 4) (b : Fin 2) (a : Fin 128) (z : Fin 256) :
    val_main_v12 S (ix5 u p b a z) = S (ix4 ⟨4 * u.val + p.val, by omega⟩ b a z) := by
  have hu := u.isLt
  have hp := p.isLt
  have hb := b.isLt
  have ha := a.isLt
  have hz := z.isLt
  rw [val_main_v12_apply]
  refine congrArg S (same4 _ _ _ _ _ ?_ ?_ ?_ ?_)
  · show ((((u.val * 4 + p.val) * 2 + b.val) * 128 + a.val) * 256 + z.val) / 65536 = 4 * u.val + p.val
    omega
  · show ((((u.val * 4 + p.val) * 2 + b.val) * 128 + a.val) * 256 + z.val) / 32768 % 2 = b.val
    omega
  · show ((((u.val * 4 + p.val) * 2 + b.val) * 128 + a.val) * 256 + z.val) / 256 % 128 = a.val
    omega
  · show ((((u.val * 4 + p.val) * 2 + b.val) * 128 + a.val) * 256 + z.val) % 256 = z.val
    omega

theorem fromOdd1 (q p : Fin 4) (a : Fin 128) (z : Fin 256) :
    val_main_v24 S (ix5 q (0 : Fin 1) p a z) = S (ix4 ⟨4 * (2 * q.val + 1) + p.val, by omega⟩ (0 : Fin 2) a z) := by
  have hq := q.isLt
  have hp := p.isLt
  have ha := a.isLt
  have hz := z.isLt
  have e : idx_main_v21 (idx_main_v24 (ix5 q (0 : Fin 1) p a z)) = ix5 q p (0 : Fin 1) a z := same5 _ _ _ _ _ _
    (show (((q.val * 4 + p.val) * 128 + a.val) * 256 + z.val) / 131072 = q.val by omega)
    (show (((q.val * 4 + p.val) * 128 + a.val) * 256 + z.val) / 32768 % 4 = p.val by omega) rfl
    (show (((q.val * 4 + p.val) * 128 + a.val) * 256 + z.val) / 256 % 128 = a.val by omega)
    (show (((q.val * 4 + p.val) * 128 + a.val) * 256 + z.val) % 256 = z.val by omega)
  have e' : val_main_v20 S (ix5 q p (0 : Fin 1) a z) = val_main_v12 S (ix5 (⟨2 * q.val + 1, by omega⟩ : Fin 8) p (0 : Fin 2) a z) :=
    congrArg (val_main_v12 S) (same5 _ _ _ _ _ _ (show 1 + 2 * q.val = 2 * q.val + 1 by omega) (show 0 + 1 * p.val = p.val by omega) rfl
      (show 0 + 1 * a.val = a.val by omega) (show 0 + 1 * z.val = z.val by omega))
  rw [val_main_v24_apply, val_main_v21_apply, e, e', given1]

theorem fromEven1 (q p : Fin 4) (a : Fin 128) (z : Fin 256) :
    val_main_v25 S (ix5 q (0 : Fin 1) p a z) = S (ix4 ⟨4 * (2 * q.val) + p.val, by omega⟩ (1 : Fin 2) a z) := by
  have hq := q.isLt
  have hp := p.isLt
  have ha := a.isLt
  have hz := z.isLt
  have e : idx_main_v23 (idx_main_v25 (ix5 q (0 : Fin 1) p a z)) = ix5 q p (0 : Fin 1) a z := same5 _ _ _ _ _ _
    (show (((q.val * 4 + p.val) * 128 + a.val) * 256 + z.val) / 131072 = q.val by omega)
    (show (((q.val * 4 + p.val) * 128 + a.val) * 256 + z.val) / 32768 % 4 = p.val by omega) rfl
    (show (((q.val * 4 + p.val) * 128 + a.val) * 256 + z.val) / 256 % 128 = a.val by omega)
    (show (((q.val * 4 + p.val) * 128 + a.val) * 256 + z.val) % 256 = z.val by omega)
  have e' : val_main_v22 S (ix5 q p (0 : Fin 1) a z) = val_main_v12 S (ix5 (⟨2 * q.val, by omega⟩ : Fin 8) p (1 : Fin 2) a z) :=
    congrArg (val_main_v12 S) (same5 _ _ _ _ _ _ (show 0 + 2 * q.val = 2 * q.val by omega) (show 0 + 1 * p.val = p.val by omega) rfl
      (show 0 + 1 * a.val = a.val by omega) (show 0 + 1 * z.val = z.val by omega))
  rw [val_main_v25_apply, val_main_v23_apply, e, e', given1]

/-- A half stack as it arrives: the other core's half with this core's number. -/
theorem half1_at (d e : Fin 8) (p : Fin 4) (b : Fin 2) (he : e.val = 2 * (d.val / 2) + (1 - d.val % 2)) (hb : b.val = d.val % 2)
    (a : Fin 128) (z : Fin 256) (i : S32x128x256.Idx) (h0 : (i 0).val = 4 * d.val + p.val) (h1 : (i 1).val = a.val) (h2 : (i 2).val = z.val) :
    val_main_v36 S i = S (ix4 ⟨4 * e.val + p.val, by omega⟩ b a z) := by
  have hd := d.isLt
  have hp := p.isLt
  have hbl := b.isLt
  have ha := a.isLt
  have hz := z.isLt
  have e1 : idx_main_v36 i = ix5 (⟨d.val / 2, by omega⟩ : Fin 4) b p a z := same5 _ _ _ _ _ _
    (show (((i 0).val * 128 + (i 1).val) * 256 + (i 2).val) / 262144 = d.val / 2 by rw [h0, h1, h2]; omega)
    (show (((i 0).val * 128 + (i 1).val) * 256 + (i 2).val) / 131072 % 2 = b.val by rw [h0, h1, h2]; omega)
    (show (((i 0).val * 128 + (i 1).val) * 256 + (i 2).val) / 32768 % 4 = p.val by rw [h0, h1, h2]; omega)
    (show (((i 0).val * 128 + (i 1).val) * 256 + (i 2).val) / 256 % 128 = a.val by rw [h0, h1, h2]; omega)
    (show (((i 0).val * 128 + (i 1).val) * 256 + (i 2).val) % 256 = z.val by rw [h0, h1, h2]; omega)
  rw [val_main_v36_apply, e1]
  unfold val_main_v26
  rcases Nat.mod_two_eq_zero_or_one d.val with h | h
  · obtain rfl : b = 0 := Fin.ext (hb.trans h)
    refine (concatenate_pair_apply_left (1 : Fin S4x2x4x128x256.rank) (val_main_v24 S) (val_main_v25 S) concatenates_S4x1x4x128x256_S4x1x4x128x256_S4x2x4x128x256_d1
      (ix5 (⟨d.val / 2, by omega⟩ : Fin 4) (0 : Fin 2) p a z) rfl (ix5 (⟨d.val / 2, by omega⟩ : Fin 4) (0 : Fin 1) p a z) (fun b => match b with
      | ⟨0, _⟩ => rfl
      | ⟨1, _⟩ => rfl
      | ⟨2, _⟩ => rfl
      | ⟨3, _⟩ => rfl
      | ⟨4, _⟩ => rfl)).trans ((fromOdd1 S _ p a z).trans (congrArg (fun x => S (ix4 x (0 : Fin 2) a z)) (Fin.ext ?_)))
    show 4 * (2 * (d.val / 2) + 1) + p.val = 4 * e.val + p.val
    omega
  · obtain rfl : b = 1 := Fin.ext (hb.trans h)
    refine (concatenate_pair_apply_right (1 : Fin S4x2x4x128x256.rank) (val_main_v24 S) (val_main_v25 S) concatenates_S4x1x4x128x256_S4x1x4x128x256_S4x2x4x128x256_d1
      (ix5 (⟨d.val / 2, by omega⟩ : Fin 4) (1 : Fin 2) p a z) rfl rfl (ix5 (⟨d.val / 2, by omega⟩ : Fin 4) (0 : Fin 1) p a z) (fun b hb => match b, hb with
      | ⟨0, _⟩, _ => rfl
      | ⟨1, _⟩, hb => absurd rfl hb
      | ⟨2, _⟩, _ => rfl
      | ⟨3, _⟩, _ => rfl
      | ⟨4, _⟩, _ => rfl) rfl).trans ((fromEven1 S _ p a z).trans (congrArg (fun x => S (ix4 x (1 : Fin 2) a z)) (Fin.ext ?_)))
    show 4 * (2 * (d.val / 2)) + p.val = 4 * e.val + p.val
    omega

end Stack1

section Plane

variable {F : FTy → Type} [FloatOps F] (S : S8x1x1120x128.Idx → Elt F .f32)

theorem planeOdd (q : Fin 4) (a : Fin 1120) (z : Fin 128) :
    val_main_v29 S (ix5 q (0 : Fin 1) (0 : Fin 1) a z) = S (ix4 ⟨2 * q.val + 1, by omega⟩ (0 : Fin 1) a z) := by
  rw [val_main_v29_apply]
  exact congrArg S (same4 _ _ _ _ _ (show 1 + 2 * q.val = 2 * q.val + 1 by omega) rfl
    (show 0 + 1 * a.val = a.val by omega) (show 0 + 1 * z.val = z.val by omega))

theorem planeEven (q : Fin 4) (a : Fin 1120) (z : Fin 128) :
    val_main_v30 S (ix5 q (0 : Fin 1) (0 : Fin 1) a z) = S (ix4 ⟨2 * q.val, by omega⟩ (0 : Fin 1) a z) := by
  rw [val_main_v30_apply]
  exact congrArg S (same4 _ _ _ _ _ (show 0 + 2 * q.val = 2 * q.val by omega) rfl
    (show 0 + 1 * a.val = a.val by omega) (show 0 + 1 * z.val = z.val by omega))

/-- The plane as it arrives: four times the other core's. -/
theorem plane_at (d e : Fin 8) (p : Fin 4) (he : e.val = 2 * (d.val / 2) + (1 - d.val % 2))
    (a : Fin 1120) (z : Fin 128) (i : S32x1120x128.Idx) (h0 : (i 0).val = 4 * d.val + p.val) (h1 : (i 1).val = a.val) (h2 : (i 2).val = z.val) :
    val_main_v37 S i = S (ix4 e (0 : Fin 1) a z) := by
  have hd := d.isLt
  have hp := p.isLt
  have ha := a.isLt
  have hz := z.isLt
  have e1 : idx_main_v32 (idx_main_v37 i) = ix5 (⟨d.val / 2, by omega⟩ : Fin 4) (⟨d.val % 2, by omega⟩ : Fin 2) (0 : Fin 1) a z := same5 _ _ _ _ _ _
    (show (((i 0).val * 1120 + (i 1).val) * 128 + (i 2).val) / 1146880 = d.val / 2 by rw [h0, h1, h2]; omega)
    (show (((i 0).val * 1120 + (i 1).val) * 128 + (i 2).val) / 573440 % 2 = d.val % 2 by rw [h0, h1, h2]; omega)
    rfl
    (show (((i 0).val * 1120 + (i 1).val) * 128 + (i 2).val) / 128 % 1120 = a.val by rw [h0, h1, h2]; omega)
    (show (((i 0).val * 1120 + (i 1).val) * 128 + (i 2).val) % 128 = z.val by rw [h0, h1, h2]; omega)
  rw [val_main_v37_apply, val_main_v32_apply, e1]
  unfold val_main_v31
  rcases Nat.mod_two_eq_zero_or_one d.val with h | h
  · rw [show (⟨d.val % 2, by omega⟩ : Fin 2) = 0 from Fin.ext h]
    refine (concatenate_pair_apply_left (1 : Fin S4x2x1x1120x128.rank) (val_main_v29 S) (val_main_v30 S) concatenates_S4x1x1x1120x128_S4x1x1x1120x128_S4x2x1x1120x128_d1
      (ix5 (⟨d.val / 2, by omega⟩ : Fin 4) (0 : Fin 2) (0 : Fin 1) a z) rfl (ix5 (⟨d.val / 2, by omega⟩ : Fin 4) (0 : Fin 1) (0 : Fin 1) a z) (fun b => match b with
      | ⟨0, _⟩ => rfl
      | ⟨1, _⟩ => rfl
      | ⟨2, _⟩ => rfl
      | ⟨3, _⟩ => rfl
      | ⟨4, _⟩ => rfl)).trans ((planeOdd S _ a z).trans (congrArg (fun x => S (ix4 x (0 : Fin 1) a z)) (Fin.ext ?_)))
    show 2 * (d.val / 2) + 1 = e.val
    omega
  · rw [show (⟨d.val % 2, by omega⟩ : Fin 2) = 1 from Fin.ext h]
    refine (concatenate_pair_apply_right (1 : Fin S4x2x1x1120x128.rank) (val_main_v29 S) (val_main_v30 S) concatenates_S4x1x1x1120x128_S4x1x1x1120x128_S4x2x1x1120x128_d1
      (ix5 (⟨d.val / 2, by omega⟩ : Fin 4) (1 : Fin 2) (0 : Fin 1) a z) rfl rfl (ix5 (⟨d.val / 2, by omega⟩ : Fin 4) (0 : Fin 1) (0 : Fin 1) a z) (fun b hb => match b, hb with
      | ⟨0, _⟩, _ => rfl
      | ⟨1, _⟩, hb => absurd rfl hb
      | ⟨2, _⟩, _ => rfl
      | ⟨3, _⟩, _ => rfl
      | ⟨4, _⟩, _ => rfl) rfl).trans ((planeEven S _ a z).trans (congrArg (fun x => S (ix4 x (0 : Fin 1) a z)) (Fin.ext ?_)))
    show 2 * (d.val / 2) = e.val
    omega

end Plane

end Cert.OuterReferenceIdeal.Whole

end
-- ==== Proof.OuterMatch.lean ====
module

public import proofs.«01_k».proof.Proof.OuterSums
public import proofs.«01_k».proof.Proof.OuterWhole
public import proofs.«01_k».proof.Proof.Match
public import Idealize.ShloMosaic.Lib.Layout

@[expose] public section

noncomputable section

/-! Each device's results are its parts of the reference's. -/

namespace Cert.OuterIdeal.GO

open Idealize.ShloMosaic Idealize.SL.Sem
open Idealize.ShloMosaic.TcCoe
open Idealize.ShloMosaic.ValueIdx hiding ix2 ix3 ix4
open Idealize.ShloMosaic.Pipeline
open Cert.OuterIdeal.Gen
open Cert.OuterReferenceIdeal.Whole (block own_at crossed_at half0_at half1_at plane_at)
open Cert.KernelIdeal.GW (flip core other core_flip sibling_val)
open scoped BigOperators

set_option Elab.async false
set_option backward.proofsInPublic true

variable (m : (ℓ : Loc nD τ sig) → Buf (Elt Ideal) ℓ)

section Products

variable (A : (⟨2, ![32768, 3072]⟩ : Shape).Idx → Elt Ideal .bf16) (B : (⟨2, ![32768, 2048]⟩ : Shape).Idx → Elt Ideal .bf16)
  (hA : ∀ c : Dev nD, left m c = Layout.block ⟨2, ![4096, 3072]⟩ ⟨2, ![32768, 3072]⟩ 0 8 c A)
  (hB : ∀ c : Dev nD, right m c = Layout.block ⟨2, ![4096, 2048]⟩ ⟨2, ![32768, 2048]⟩ 0 8 c B)

include hA hB

theorem blocks_block (c : Dev nD) (j : ℕ) (h : j < 4) (b : Fin 2) (k : Fin 384) (l : Fin 2048) (d e : Fin 8) (hd : d.val = c.val) (he : e.val = 2 * j + b.val) :
    blocks m c j (ix3 b k l) = block A B d e k l := by
  refine (blocks_sum m c j h b k l).trans (Finset.sum_congr rfl fun s _ => ?_)
  rw [hA c, hB c]
  refine congrArg₂ (fun x y : EReal => x * y) (congrArg A (Cert.ReferenceIdeal.Whole.same2 _ _ _ ?_ ?_)) (congrArg B (Cert.ReferenceIdeal.Whole.same2 _ _ _ ?_ ?_))
  · show c.val * 4096 + s.val = 4096 * d.val + s.val
    omega
  · show 384 * (2 * j + b.val) + k.val = 384 * e.val + k.val
    omega
  · show c.val * 4096 + s.val = 4096 * d.val + s.val
    omega
  · rfl

theorem kept_match (c : Dev nD) :
    kept m c = Layout.block ⟨3, ![8, 384, 2048]⟩ ⟨3, ![64, 384, 2048]⟩ 0 8 c (Cert.OuterReferenceIdeal.Read.val_main_v33 A B) := by
  funext x
  rw [Layout.block_apply]
  have hx : (x 0).val < 8 := (x 0).isLt
  refine (blocks_block m A B hA hB c ((x 0).val / 2) (by omega) _ _ _ ⟨c.val, c.isLt⟩ ⟨(x 0).val, hx⟩ rfl ?_).trans
    (own_at A B ⟨c.val, c.isLt⟩ ⟨(x 0).val, hx⟩ (x 1) (x 2) _ ?_ rfl rfl).symm
  · show (x 0).val = 2 * ((x 0).val / 2) + (x 0).val % 2
    omega
  · show c.val * 8 + (x 0).val = 8 * c.val + (x 0).val
    omega

theorem theirs_match (c : Dev nD) :
    theirs m c = Layout.block ⟨3, ![4, 384, 2048]⟩ ⟨3, ![32, 384, 2048]⟩ 0 8 c (Cert.OuterReferenceIdeal.Read.val_main_v34 A B) := by
  funext x
  rw [Layout.block_apply]
  have hx : (x 0).val < 4 := (x 0).isLt
  have hc : c.val < 8 := c.isLt
  refine (blocks_block m A B hA hB (flip 1 c) (x 0).val hx _ _ _ ⟨(flip 1 c).val, (flip 1 c).isLt⟩ ⟨2 * (x 0).val + c.val % 2, by omega⟩ rfl rfl).trans
    (crossed_at A B ⟨c.val, c.isLt⟩ ⟨(flip 1 c).val, (flip 1 c).isLt⟩ ⟨(x 0).val, hx⟩ _ (sibling_val c) rfl (x 1) (x 2) _ ?_ rfl rfl).symm
  show c.val * 4 + (x 0).val = 4 * c.val + (x 0).val
  omega

end Products

/-- An index `(x, y, z)` matched with shape `[a, 1, b, c]` is `(x, 0, y, z)`. -/
theorem squeezed_middle {a b c : ℕ} (h : (⟨3, ![a, b, c]⟩ : Shape).numel = (⟨4, ![a, 1, b, c]⟩ : Shape).numel)
    (x : Fin a) (y : Fin b) (z : Fin c) : Shape.reshapeEquiv h (ix3 x y z) = ix4 x (0 : Fin 1) y z :=
  Shape.reshapeEquiv_eq_of_rowMajor h (by
    rw [Shape.rowMajor_val_four, Shape.rowMajor_val_three]
    show (((x.val * 1 + 0) * b + y.val) * c + z.val) = (x.val * b + y.val) * c + z.val
    simp only [Nat.mul_one, Nat.add_zero])

theorem arr0_read (c : Dev nD) (p : Fin 4) (a : Fin 256) (z : Fin 2048) :
    arr0 m c (ix3 p a z) = s0 m (flip 1 c) (ix4 p (core c) a z) := by
  unfold arr0
  rw [View.read_apply]
  have e : (col0 (core c)).view.emb (ix3 p a z) = (A0.slice (Rect.unit (s := S4x2x256x2048) ![0, (core c).val, 0, 0] S4x1x256x2048.size (col0_inb (core c))) (fun _ => rfl)).view.emb
      (Shape.reshapeEquiv squeezes_S4x1x256x2048_S4x256x2048.numel_eq (ix3 p a z)) := rfl
  rw [e, squeezed_middle]
  exact congrArg (s0 m (flip 1 c)) (Cert.ReferenceIdeal.Whole.same4 _ _ _ _ _ (show 0 + 1 * p.val = p.val by omega)
    (show (core c).val + 1 * 0 = (core c).val by omega) (show 0 + 1 * a.val = a.val by omega) (show 0 + 1 * z.val = z.val by omega))

theorem arr0_match (S : (⟨4, ![32, 2, 256, 2048]⟩ : Shape).Idx → Elt Ideal .bf16)
    (hS : ∀ c : Dev nD, s0 m c = Layout.block ⟨4, ![4, 2, 256, 2048]⟩ ⟨4, ![32, 2, 256, 2048]⟩ 0 8 c S) (c : Dev nD) :
    arr0 m c = Layout.block ⟨3, ![4, 256, 2048]⟩ ⟨3, ![32, 256, 2048]⟩ 0 8 c (Cert.OuterReferenceIdeal.Read.val_main_v35 S) := by
  funext x
  rw [Layout.block_apply]
  have hc : c.val < 8 := c.isLt
  obtain ⟨p, a, z, rfl⟩ : ∃ (p : Fin 4) (a : Fin 256) (z : Fin 2048), x = ix3 p a z := ⟨x 0, x 1, x 2, Cert.ReferenceIdeal.Whole.same3 x _ _ _ rfl rfl rfl⟩
  refine Eq.trans ?_ (half0_at S ⟨c.val, c.isLt⟩ ⟨(flip 1 c).val, (flip 1 c).isLt⟩ p (core c) (sibling_val c) rfl a z _ ?_ rfl rfl).symm
  · rw [arr0_read, hS, Layout.block_apply]
    refine congrArg S (Cert.ReferenceIdeal.Whole.same4 _ _ _ _ _ ?_ rfl rfl rfl)
    show (flip 1 c).val * 4 + p.val = 4 * (flip 1 c).val + p.val
    omega
  · show c.val * 4 + p.val = 4 * c.val + p.val
    omega

theorem arr1_read (c : Dev nD) (p : Fin 4) (a : Fin 128) (z : Fin 256) :
    arr1 m c (ix3 p a z) = s1 m (flip 1 c) (ix4 p (core c) a z) := by
  unfold arr1
  rw [View.read_apply]
  have e : (col1 (core c)).view.emb (ix3 p a z) = (A1.slice (Rect.unit (s := S4x2x128x256) ![0, (core c).val, 0, 0] S4x1x128x256.size (col1_inb (core c))) (fun _ => rfl)).view.emb
      (Shape.reshapeEquiv squeezes_S4x1x128x256_S4x128x256.numel_eq (ix3 p a z)) := rfl
  rw [e, squeezed_middle]
  exact congrArg (s1 m (flip 1 c)) (Cert.ReferenceIdeal.Whole.same4 _ _ _ _ _ (show 0 + 1 * p.val = p.val by omega)
    (show (core c).val + 1 * 0 = (core c).val by omega) (show 0 + 1 * a.val = a.val by omega) (show 0 + 1 * z.val = z.val by omega))

theorem arr1_match (S : (⟨4, ![32, 2, 128, 256]⟩ : Shape).Idx → Elt Ideal .bf16)
    (hS : ∀ c : Dev nD, s1 m c = Layout.block ⟨4, ![4, 2, 128, 256]⟩ ⟨4, ![32, 2, 128, 256]⟩ 0 8 c S) (c : Dev nD) :
    arr1 m c = Layout.block ⟨3, ![4, 128, 256]⟩ ⟨3, ![32, 128, 256]⟩ 0 8 c (Cert.OuterReferenceIdeal.Read.val_main_v36 S) := by
  funext x
  rw [Layout.block_apply]
  have hc : c.val < 8 := c.isLt
  obtain ⟨p, a, z, rfl⟩ : ∃ (p : Fin 4) (a : Fin 128) (z : Fin 256), x = ix3 p a z := ⟨x 0, x 1, x 2, Cert.ReferenceIdeal.Whole.same3 x _ _ _ rfl rfl rfl⟩
  refine Eq.trans ?_ (half1_at S ⟨c.val, c.isLt⟩ ⟨(flip 1 c).val, (flip 1 c).isLt⟩ p (core c) (sibling_val c) rfl a z _ ?_ rfl rfl).symm
  · rw [arr1_read, hS, Layout.block_apply]
    refine congrArg S (Cert.ReferenceIdeal.Whole.same4 _ _ _ _ _ ?_ rfl rfl rfl)
    show (flip 1 c).val * 4 + p.val = 4 * (flip 1 c).val + p.val
    omega
  · show c.val * 4 + p.val = 4 * c.val + p.val
    omega

theorem arr2_read (c : Dev nD) (p : Fin 4) (a : Fin 1120) (z : Fin 128) :
    arr2 m c (ix3 p a z) = s2 m (flip 1 c) (ix4 (0 : Fin 1) (0 : Fin 1) a z) := by
  unfold arr2
  rw [View.read_apply]
  have e : pln.view.emb (ValueIdx.ix2 a z) = (A2.slice (Rect.unit (s := S1x1x1120x128) ![0, 0, 0, 0] S1x1x1120x128.size inb_S1x1x1120x128_S1x1x1120x128_0_0_0_0) (fun _ => rfl)).view.emb
      (Shape.reshapeEquiv squeezes_S1x1x1120x128_S1120x128.numel_eq (ValueIdx.ix2 a z)) := rfl
  refine (congrArg (s2 m (flip 1 c)) e).trans ?_
  rw [ValueIdx.reshapeEquiv_ix2_11ab]
  exact congrArg (s2 m (flip 1 c)) (Cert.ReferenceIdeal.Whole.same4 _ _ _ _ _ rfl rfl
    (show 0 + 1 * a.val = a.val by omega) (show 0 + 1 * z.val = z.val by omega))

theorem arr2_match (S : (⟨4, ![8, 1, 1120, 128]⟩ : Shape).Idx → Elt Ideal .f32)
    (hS : ∀ c : Dev nD, s2 m c = Layout.block ⟨4, ![1, 1, 1120, 128]⟩ ⟨4, ![8, 1, 1120, 128]⟩ 0 8 c S) (c : Dev nD) :
    arr2 m c = Layout.block ⟨3, ![4, 1120, 128]⟩ ⟨3, ![32, 1120, 128]⟩ 0 8 c (Cert.OuterReferenceIdeal.Read.val_main_v37 S) := by
  funext x
  rw [Layout.block_apply]
  have hc : c.val < 8 := c.isLt
  obtain ⟨p, a, z, rfl⟩ : ∃ (p : Fin 4) (a : Fin 1120) (z : Fin 128), x = ix3 p a z := ⟨x 0, x 1, x 2, Cert.ReferenceIdeal.Whole.same3 x _ _ _ rfl rfl rfl⟩
  refine Eq.trans ?_ (plane_at S ⟨c.val, c.isLt⟩ ⟨(flip 1 c).val, (flip 1 c).isLt⟩ p (sibling_val c) a z _ ?_ rfl rfl).symm
  · rw [arr2_read, hS, Layout.block_apply]
    refine congrArg S (Cert.ReferenceIdeal.Whole.same4 _ _ _ _ _ ?_ rfl rfl rfl)
    show (flip 1 c).val * 1 + 0 = (flip 1 c).val
    omega
  · show c.val * 4 + p.val = 4 * c.val + p.val
    omega

end Cert.OuterIdeal.GO

end
-- ==== Proof.InputPlan.lean ====
module

public import proofs.«01_k».proof.Proof.Gen.InputIdeal
public import proofs.«01_k».proof.Proof.Gen.InputIdeal.Skeleton
public import proofs.«01_k».proof.Proof.Gen.InputIdeal.Launch
public import proofs.«01_k».proof.Proof.Gen.InputIdeal.Frame
public import Mathlib.Tactic.DeriveFintype
public import proofs.«01_k».proof.Proof.Plan

@[expose] public section

noncomputable section

/-! # The exchange of the input gradient, as a plan

While the kernel multiplies, every device sends three planes of one stack to the device of the same core on each of the three
other chips and copies the fourth plane to itself.  At the last point it sends the row in which it has summed the gain's
gradient to every other device, and copies it to its own place among the eight rows. -/

namespace Cert.InputIdeal.GI

open Idealize.ShloMosaic
open Idealize.SL
open Idealize.SL.BI
open scoped Idealize.SL.BI
open Idealize.SL.BI.BIBase Idealize.SL.BI.Laws Idealize.SL.Sem Idealize.SL.ProofMode
open Idealize.SL.RA
open Idealize.ShloMosaic.TcCoe
open Idealize.ShloMosaic.Rounds
open Idealize.ShloMosaic.ValueIdx
open Cert.InputIdeal.Gen
open Cert.KernelIdeal.GW (flip chip opp onChip bits arrived)

set_option Elab.async false

variable {F : FTy → Type} [FloatOps F]

/-! ## Keys -/

/-- The single-use cells: `sd`, `rv` a plane sent to and received from another chip; `lc` the plane copied on the device; `gs`,
    `gr` the summed row sent to and received from another device; `gl` the row copied on the device. -/
inductive Key
  | sd (k : Fin 3)
  | rv (k : Fin 3)
  | lc
  | gs (j : Fin 7)
  | gr (j : Fin 7)
  | gl
  deriving DecidableEq, Fintype

/-- The number of a key's semaphore. -/
def num : Key → ℕ
  | .sd k => 29 + k.val
  | .rv k => 37 + k.val
  | .lc => 44
  | .gs j => 12 + j.val
  | .gr j => 20 + j.val
  | .gl => 27

theorem num_lt (k : Key) : num k < 45 := by revert k; decide

/-- A key's semaphore. -/
def osem (k : Key) : SemLoc sig := .dma ⟨num k, num_lt k⟩

theorem num_inj : ∀ k k' : Key, num k = num k' → k = k' := by decide +kernel

theorem osem_inj : Function.Injective osem := by
  intro k k' h
  unfold osem at h
  injection h with h
  exact num_inj k k' (congrArg Fin.val h)

def far : Key → Bool
  | .rv _ | .gr _ => true
  | _ => false

def peer : Key → Equiv.Perm (Dev nD)
  | .rv k => flip (bits k)
  | .gr j => flip j.succ
  | _ => Equiv.refl _

/-! ## Stacks -/

abbrev A0 : Memref sig .tc .hbm S4x2048x896 .bf16 := Memref.whole main_arg5
abbrev D0 : Memref sig .tc .hbm S4x2048x896 .bf16 := Memref.whole main_v1_2
abbrev DA : Memref sig .tc .hbm S8x1x2048 .f32 := Memref.whole main_v1_1
abbrev AC : Memref sig .tc .vmem S512x2048 .f32 := Memref.whole cc0_scratch0
abbrev DG : Memref sig .tc .vmem S1x2048 .f32 := Memref.whole cc0_scratch1

theorem q0 : S1x2048x896.Squeezes S2048x896 := squeezes_S1x2048x896_S2048x896
theorem q9 : S1x1x2048.Squeezes S1x2048 := squeezes_S1x1x2048_S1x2048

/-- The units of a key's payment. -/
def amt : Key → ℕ
  | .sd _ | .rv _ | .lc => (Rows.row q0 D0 0).view.dmaCredit
  | .gs _ | .gr _ | .gl => (Rows.row q9 DA 0).view.dmaCredit

theorem amt_pos (k : Key) : 0 < amt k := by
  unfold amt
  split <;> exact View.dmaCredit_pos _ (by decide)

/-! ## Contents -/

variable (m : (ℓ : Loc nD τ sig) → Buf (Elt F) ℓ)

def s0 (c : Dev nD) : S4x2048x896.Idx → Elt F .bf16 := m (c.tc.loc main_arg5)

/-- The staged block of the projection's gradient at point `t`. -/
def ablk (c : Dev nD) (t : ℕ) : Vec F S512x1792 .bf16 := if h : t < cfg0.N then iblk m c 0 ⟨t, h⟩ else fun _ => Scalar.ofBits .bf16 0
/-- The staged block of the weights at point `t`. -/
def bblk (c : Dev nD) (t : ℕ) : Vec F S1792x2048 .bf16 := if h : t < cfg0.N then iblk m c 1 ⟨t, h⟩ else fun _ => Scalar.ofBits .bf16 0
/-- The staged rows of the input at point `t`. -/
def xblk (c : Dev nD) (t : ℕ) : Vec F S512x2048 .f32 := if h : t < cfg0.N then iblk m c 2 ⟨t, h⟩ else fun _ => Scalar.ofBits .f32 0
/-- The staged rows of the gradient passed by at point `t`. -/
def oblk (c : Dev nD) (t : ℕ) : Vec F S512x2048 .f32 := if h : t < cfg0.N then iblk m c 3 ⟨t, h⟩ else fun _ => Scalar.ofBits .f32 0
/-- The staged gain at point `t`. -/
def gblk (c : Dev nD) (t : ℕ) : Vec F S1x2048 .f32 := if h : t < cfg0.N then iblk m c 4 ⟨t, h⟩ else fun _ => Scalar.ofBits .f32 0

/-- The accumulator after point `t`: restarted at each multiple of four. -/
def accAt (c : Dev nD) : ℕ → Vec F S512x2048 .f32
  | 0 => k0_pay1 k0_pay9 (ablk m c 0) (bblk m c 0)
  | t + 1 => k0_pay1 (if (t + 1) % 4 = 0 then k0_pay9 else accAt c t) (ablk m c (t + 1)) (bblk m c (t + 1))

/-- The gain's gradient summed over the first `n` row tiles. -/
def gainAt (c : Dev nD) : ℕ → Vec F S1x2048 .f32
  | 0 => k0_pay8 k0_pay2
  | n + 1 => k0_pay6 (xblk m c (4 * n + 3)) (accAt m c (4 * n + 3)) (gainAt c n)

/-- The block of the input's gradient stored at point `t`. -/
def gxAt (c : Dev nD) (t : ℕ) : Vec F S512x2048 .f32 := k0_pay7 (xblk m c t) (gblk m c t) (accAt m c t) (oblk m c t)

/-- The eight rows once they arrived: row `d` is device `d`'s. -/
def gains : S8x1x2048.Idx → Elt F .f32 := fun x => gainAt m (x 0 : Dev nD) 8 (ix2 (x 1) (x 2))

/-- The eight shares in which the row is lent to its eight transfers. -/
def eighth : Fin 8 → PosShare TreeShare
  | 0 => fullShare.left.left.left
  | 1 => fullShare.left.left.right
  | 2 => fullShare.left.right.left
  | 3 => fullShare.left.right.right
  | 4 => fullShare.right.left.left
  | 5 => fullShare.right.left.right
  | 6 => fullShare.right.right.left
  | 7 => fullShare.right.right.right

/-! ## The plan -/

variable {U : Type} [URA U]
local notation "𝕄" => MT nD τ sig Unit (Elt F) ℕ U ℕ

/-- Device `c` holds what memref `M` covers, at share `q` and with the contents `f`. -/
abbrev holds {sp : Space} {s : Shape} {e : EltTy} (c : Dev nD) (M : Memref sig .tc sp s e) (q : PosShare TreeShare)
    (f : Buf (Elt F) (M.view.loc (c.tc : Thread nD τ))) : sProp 𝕄 :=
  M.view.loc (c.tc : Thread nD τ) ↦[M.view.set]{q} f

def pay (c : Dev nD) : Key → sProp 𝕄
  | .sd k => Rows.own q0 c A0 (opp c k.succ) (s0 m c)
  | .rv k => Rows.own q0 c D0 (opp c k.succ) (arrived (s0 m) c)
  | .lc => iprop(Rows.own q0 c D0 (opp c 0) (arrived (s0 m) c) ∗ Rows.own q0 c A0 (opp c 0) (s0 m c))
  | .gs j => holds c DG (eighth j.castSucc) (gainAt m c 8)
  | .gr j => Rows.own q9 c DA (flip j.succ c) (gains m)
  | .gl => iprop(Rows.own q9 c DA c (gains m) ∗ holds c DG (eighth 7) (gainAt m c 8))

def gift (c : Dev nD) : Key → sProp 𝕄
  | .rv k => iprop(∃ f, Rows.own q0 c D0 (opp c k.succ) f)
  | .gr j => iprop(∃ f, Rows.own q9 c DA (flip j.succ c) f)
  | _ => iprop(emp)

theorem pay_storable (c : Dev nD) (k : Key) : Storable (upEmb : UEmb _ 𝕄) (pay m c k) := by
  unfold pay Rows.own holds
  split <;> infer_instance

/-- The plan of the exchange. -/
def plan : Once.Plan nD τ sig (Elt F) U Key where
  osem := osem
  inj := osem_inj
  amt := amt
  pos := amt_pos
  peer := peer
  far := far
  pay := pay m
  gift := gift
  store := pay_storable m

end Cert.InputIdeal.GI

end
-- ==== Proof.InputSteps.lean ====
module

public import proofs.«01_k».proof.Proof.InputPlan

@[expose] public section

noncomputable section

/-! # One transfer, one wait

The order in which a device starts its transfers and takes their ends, and the rule of each operation at its place. -/

namespace Cert.InputIdeal.GI

open Idealize.ShloMosaic
open Idealize.SL
open Idealize.SL.BI
open scoped Idealize.SL.BI
open Idealize.SL.BI.BIBase Idealize.SL.BI.Laws Idealize.SL.Sem Idealize.SL.ProofMode
open Idealize.SL.RA
open Idealize.ShloMosaic.TcCoe
open Idealize.ShloMosaic.Rounds
open Idealize.ShloMosaic.ValueIdx
open Idealize.ShloMosaic.Pipeline
open Cert.InputIdeal.Gen
open Cert.KernelIdeal.GW (flip chip opp onChip bits arrived opp_zero opp_flip opp_flip' onChip_flip onChip_self)

set_option Elab.async false

variable {F : FTy → Type} [FloatOps F]
variable (m : (ℓ : Loc nD τ sig) → Buf (Elt F) ℓ)
variable {U : Type} [URA U]
variable (ER : Emb (URounds (GSem nD τ sig) Unit) (MT nD τ sig Unit (Elt F) ℕ U ℕ))
local notation "𝕄" => MT nD τ sig Unit (Elt F) ℕ U ℕ

/-! ## Offsets and partners -/

theorem off1_eq : ∀ d : Dev nD, k0_off1 d = ![(chip d).val, 0, 0] := by decide +kernel
theorem off2_0_eq : ∀ d : Dev nD, k0_off2 d 0#32 1#32 = ![(opp d (Fin.succ (0 : Fin 3))).val, 0, 0] := by decide +kernel
theorem off2_1_eq : ∀ d : Dev nD, k0_off2 d 1#32 0#32 = ![(opp d (Fin.succ (1 : Fin 3))).val, 0, 0] := by decide +kernel
theorem off2_2_eq : ∀ d : Dev nD, k0_off2 d 1#32 1#32 = ![(opp d (Fin.succ (2 : Fin 3))).val, 0, 0] := by decide +kernel
theorem off3_eq : ∀ d : Dev nD, k0_off3 d = ![d.val, 0, 0] := by decide +kernel
theorem dev1_eq : ∀ d : Dev nD, k0_dev1 d = (flip (bits 0) d).val := by decide +kernel
theorem dev2_eq : ∀ d : Dev nD, k0_dev2 d = (flip (bits 1) d).val := by decide +kernel
theorem dev3_eq : ∀ d : Dev nD, k0_dev3 d = (flip (bits 2) d).val := by decide +kernel
theorem dev4_eq : ∀ d : Dev nD, k0_dev4 d = (flip 1 d).val := by decide +kernel
theorem dev5_eq : ∀ d : Dev nD, k0_dev5 d = (flip 2 d).val := by decide +kernel
theorem dev6_eq : ∀ d : Dev nD, k0_dev6 d = (flip 3 d).val := by decide +kernel
theorem dev7_eq : ∀ d : Dev nD, k0_dev7 d = (flip 4 d).val := by decide +kernel
theorem dev8_eq : ∀ d : Dev nD, k0_dev8 d = (flip 5 d).val := by decide +kernel
theorem dev9_eq : ∀ d : Dev nD, k0_dev9 d = (flip 6 d).val := by decide +kernel
theorem dev10_eq : ∀ d : Dev nD, k0_dev10 d = (flip 7 d).val := by decide +kernel

/-! ## The order -/

/-- The place of a transfer in the order they are started. -/
def place : Key → ℕ
  | .lc => 0
  | .sd k | .rv k => 1 + k.val
  | .gl => 4
  | .gs j | .gr j => 5 + j.val

/-- The place of a wait in the order they are made. -/
def turn : Key → ℕ
  | .rv k => k.val
  | .sd k => 3 + k.val
  | .lc => 6
  | .gr j => 7 + j.val
  | .gs j => 14 + j.val
  | .gl => 21

/-- The transfers still to start once the first `n` have been. -/
def due (n : ℕ) : Finset Key := Finset.univ.filter fun k => n ≤ place k
/-- The waits still to make once the first `w` have been. -/
def rem (w : ℕ) : Finset Key := Finset.univ.filter fun k => w ≤ turn k

theorem due_start : due 0 = Finset.univ := by decide +kernel
theorem rem_start : rem 0 = Finset.univ := by decide +kernel
theorem rem_end : rem 22 = ∅ := by decide +kernel
theorem due_end : due 12 = ∅ := by decide +kernel

/-- The device's part of the exchange after `n` starts and `w` waits. -/
abbrev stage (c : Dev nD) (n w : ℕ) : sProp 𝕄 := Once.sto (plan m) ER c (due n) (rem w)

/-- A program of the body on device `c`. -/
abbrev run (c : Dev nD) {α : Type} (p : Prog (TpuEff nD τ sig (Elt F) Λ₀ .tc) α) (Q : α → sProp 𝕄) : sProp 𝕄 :=
  wp frame (wpE (defs₀ (F := F)) Variants.none (c.tc : Thread nD τ) none) Set.univ p Q

/-! ## What a memref holds once it was written -/

/-- A memref written with the entries it already has in `g` agrees with `g`. -/
theorem write_agrees {sp : Space} {s : Shape} {e : EltTy} (D : Memref sig .tc sp s e) (fd g : D.view.ty.Contents (Elt F)) (X : s.Idx → Elt F e)
    (hg : ∀ x, D.view.read (Elt F) g x = X x) : ∀ i ∈ D.view.set, D.view.write (Elt F) fd X Finset.univ i = g i := by
  intro i hi
  obtain ⟨j, -, rfl⟩ := Finset.mem_map.mp hi
  have e1 : D.view.read (Elt F) (D.view.write (Elt F) fd X Finset.univ) j = D.view.read (Elt F) g j := by
    rw [View.read_write_univ]; exact (hg j).symm
  unfold View.read at e1
  exact (cast_inj _).mp e1

/-- The plane copied on the device. -/
theorem copy0 (c : Dev nD) {α : Type} {Q : α → sProp 𝕄} (w : ℕ)
    {oa od : Fin 3 → ℕ} (ha : oa = ![(chip c).val, 0, 0]) (hd : od = ![(chip c).val, 0, 0]) {ia id sa sd za zd} {sem : SemLoc sig}
    {hsrc hdst hsem} {k' : PUnit → Prog (TpuEff nD τ sig (Elt F) Λ₀ .tc) α}
    (hs : sem = osem .lc) (hT : Key.lc ∈ rem w) :
    iprop(stage m ER c 0 w ∗ Rows.own q0 c A0 (opp c 0) (s0 m c) ∗ ∃ f, Rows.own q0 c D0 (opp c 0) f)
      ⊢ iprop((stage m ER c 1 w -∗ run c (k' ⟨⟩) Q)
      -∗ run c (.op (.enqueueDma ((A0.slice (Rect.unit (s := S4x2048x896) oa S1x2048x896.size ia) sa).squeeze S2048x896 za)
            (.here ((D0.slice (Rect.unit (s := S4x2048x896) od S1x2048x896.size id) sd).squeeze S2048x896 zd)) sem hsrc hdst hsem) k') Q) := by
  unfold stage
  iintro ⟨Hs, Ha, %f, Hd⟩
  rw [show due 1 = (due 0).erase .lc from by decide +kernel]
  iapply (Rows.copyRow q0 (plan m) ER c .lc (due 0) (rem w) (by decide +kernel) hT rfl rfl A0 D0 (opp c 0) (opp c 0)
    (ha.trans (by rw [opp_zero])) (hd.trans (by rw [opp_zero])) hs (by rw [hs]; rfl) (s0 m c) (arrived (s0 m) c) f
    (by intro y z
        show s0 m (onChip c (opp c 0)) (ix3 (chip c) y z) = s0 m c (ix3 (opp c 0) y z)
        rw [opp_zero, onChip_self]) BIBase.Entails.rfl)
  isplitl [Hs]; · iexact Hs
  isplitl [Ha]; · iexact Ha
  iexact Hd

/-- A plane sent to another chip. -/
theorem send0 (c : Dev nD) {α : Type} {Q : α → sProp 𝕄} (w : ℕ) (k : Fin 3) (n : ℕ)
    (hn : due (n + 1) = ((due n).erase (.sd k)).erase (.rv k) ∧ Key.sd k ∈ due n ∧ Key.rv k ∈ due n) (hT : Key.sd k ∈ rem w)
    {c' : Dev nD} {oa od : Fin 3 → ℕ} (ha : oa = ![(opp c k.succ).val, 0, 0]) (hd : od = ![(chip c).val, 0, 0]) {ia id sa sd za zd hsc}
    {sS sem : SemLoc sig} {hsrc hdst hsem} {k' : PUnit → Prog (TpuEff nD τ sig (Elt F) Λ₀ .tc) α}
    (hc' : c'.val = (flip (bits k) c).val) (hsS : sS = osem (.sd k)) (hs : sem = osem (.rv k)) :
    iprop(stage m ER c n w ∗ Rows.own q0 c A0 (opp c k.succ) (s0 m c))
      ⊢ iprop((stage m ER c (n + 1) w -∗ run c (k' ⟨⟩) Q)
      -∗ run c (.op (.enqueueDma ((A0.slice (Rect.unit (s := S4x2048x896) oa S1x2048x896.size ia) sa).squeeze S2048x896 za)
            (.remote (c'.tc : Thread nD τ) ((D0.slice (Rect.unit (s := S4x2048x896) od S1x2048x896.size id) sd).squeeze S2048x896 zd) sS hsc)
            sem hsrc hdst hsem) k') Q) := by
  unfold stage
  rw [hn.1]
  exact Rows.sendRow q0 (plan m) ER c (.sd k) (.rv k) (due n) (rem w) hn.2.1 hT hn.2.2 rfl rfl rfl A0 D0 (opp c k.succ) (chip c)
    ha hd (Fin.ext hc') hsS hs (by rw [hs]; rfl) rfl (s0 m c) (arrived (s0 m) (flip (bits k) c))
    (by intro y z
        show s0 m (onChip (flip (bits k) c) (chip c)) (ix3 (chip (flip (bits k) c)) y z) = s0 m c (ix3 (opp c k.succ) y z)
        rw [onChip_flip, opp_flip'])
    (by show iprop(∃ f, Rows.own q0 (flip (bits k) c) D0 (opp (flip (bits k) c) k.succ) f) ⊢ _
        rw [opp_flip]; exact BIBase.Entails.rfl)
    BIBase.Entails.rfl
    (by show _ ⊢ Rows.own q0 (flip (bits k) c) D0 (opp (flip (bits k) c) k.succ) (arrived (s0 m) (flip (bits k) c))
        rw [opp_flip]; exact BIBase.Entails.rfl)

/-- The summed row is what every device finds in the place of the row's sender. -/
theorem gains_read (c : Dev nD) (x : S1x2048.Idx) : (Rows.row q9 DA c).view.read (Elt F) (gains m) x = DG.view.read (Elt F) (gainAt m c 8) x := by
  obtain ⟨y, z, rfl⟩ : ∃ (y : Fin 1) (z : Fin 2048), x = ix2 y z := ⟨x 0, x 1, eq_ix2 x⟩
  rw [Rows.row_read]
  rfl

/-- The summed row copied to the device's own place. -/
theorem copyGain (c : Dev nD) {α : Type} {Q : α → sProp 𝕄} (w : ℕ)
    {od : Fin 3 → ℕ} (hd : od = ![c.val, 0, 0]) {id sd zd} {sem : SemLoc sig}
    {hsrc hdst hsem} {k' : PUnit → Prog (TpuEff nD τ sig (Elt F) Λ₀ .tc) α}
    (hs : sem = osem .gl) (hT : Key.gl ∈ rem w) :
    iprop(stage m ER c 4 w ∗ holds c DG (eighth 7) (gainAt m c 8) ∗ ∃ f, Rows.own q9 c DA c f)
      ⊢ iprop((stage m ER c 5 w -∗ run c (k' ⟨⟩) Q)
      -∗ run c (.op (.enqueueDma DG
            (.here ((DA.slice (Rect.unit (s := S8x1x2048) od S1x1x2048.size id) sd).squeeze S1x2048 zd)) sem hsrc hdst hsem) k') Q) := by
  subst hd
  unfold stage Rows.own
  iintro ⟨Hs, Ha, %f, Hd⟩
  rw [show due 5 = (due 4).erase .gl from by decide +kernel]
  iapply (Once.copy (plan m) ER c .gl (due 4) (rem w) (by decide +kernel) hT rfl rfl (src := DG) (dst := Rows.row q9 DA c) hs (by rw [hs]; rfl)
    (fs := gainAt m c 8) (fd := f) (q := eighth 7) (by
      show _ ⊢ iprop(Rows.own q9 c DA c (gains m) ∗ holds c DG (eighth 7) (gainAt m c 8))
      unfold Rows.own holds
      rw [pointsTo_congr (write_agrees (Rows.row q9 DA c) f (gains m) _ (gains_read m c))]))
  isplitl [Hs]; · iexact Hs
  isplitl [Ha]; · iexact Ha
  iexact Hd

/-- The summed row sent to another device. -/
theorem sendGain (c : Dev nD) {α : Type} {Q : α → sProp 𝕄} (w : ℕ) (j : Fin 7) (n : ℕ)
    (hn : due (n + 1) = ((due n).erase (.gs j)).erase (.gr j) ∧ Key.gs j ∈ due n ∧ Key.gr j ∈ due n) (hT : Key.gs j ∈ rem w)
    {c' : Dev nD} {od : Fin 3 → ℕ} (hd : od = ![c.val, 0, 0]) {id sd zd hsc}
    {sS sem : SemLoc sig} {hsrc hdst hsem} {k' : PUnit → Prog (TpuEff nD τ sig (Elt F) Λ₀ .tc) α}
    (hc' : c'.val = (flip j.succ c).val) (hsS : sS = osem (.gs j)) (hs : sem = osem (.gr j)) :
    iprop(stage m ER c n w ∗ holds c DG (eighth j.castSucc) (gainAt m c 8))
      ⊢ iprop((stage m ER c (n + 1) w -∗ run c (k' ⟨⟩) Q)
      -∗ run c (.op (.enqueueDma DG
            (.remote (c'.tc : Thread nD τ) ((DA.slice (Rect.unit (s := S8x1x2048) od S1x1x2048.size id) sd).squeeze S1x2048 zd) sS hsc)
            sem hsrc hdst hsem) k') Q) := by
  subst hd
  obtain rfl : c' = flip j.succ c := Fin.ext hc'
  unfold stage
  rw [hn.1]
  refine Once.send (plan m) ER c (.gs j) (.gr j) (due n) (rem w) hn.2.1 hT hn.2.2 rfl rfl rfl
    (src := DG) (dst := Rows.row q9 DA c) rfl hsS hs (by rw [hs]; rfl) rfl (fs := gainAt m c 8) (q := eighth j.castSucc) ?_ BIBase.Entails.rfl ?_
  · show iprop(∃ f, Rows.own q9 (flip j.succ c) DA (flip j.succ (flip j.succ c)) f) ⊢ _
    rw [Cert.KernelIdeal.GW.flip_flip]; exact BIBase.Entails.rfl
  intro fd
  show _ ⊢ Rows.own q9 (flip j.succ c) DA (flip j.succ (flip j.succ c)) (gains m)
  rw [Cert.KernelIdeal.GW.flip_flip]
  unfold Rows.own
  rw [pointsTo_congr (write_agrees (Rows.row q9 DA c) fd (gains m) _ (gains_read m c))]

/-- A wait at its place in the order. -/
theorem take (c : Dev nD) {α : Type} {Q : α → sProp 𝕄} (n w : ℕ) (k : Key)
    (hw : rem (w + 1) = (rem w).erase k ∧ k ∈ rem w) (hn : (far k = false → k ∉ due n) ∧ (far k = true → due n = ∅))
    {op : TpuEff nD τ sig (Elt F) Λ₀ .tc PUnit} {k' : PUnit → Prog (TpuEff nD τ sig (Elt F) Λ₀ .tc) α}
    (hop : ∀ R : PUnit → sProp 𝕄, wpE (defs₀ (F := F)) Variants.none (c.tc : Thread nD τ) none Set.univ op R = waitSpec (c.tc : Thread nD τ) Set.univ (osem k) (amt k) R) :
    stage m ER c n w
      ⊢ iprop(((pay m c k ∗ stage m ER c n (w + 1)) -∗ run c (k' ⟨⟩) Q) -∗ run c (.op op k') Q) := by
  unfold stage
  rw [hw.1]
  exact Once.wait (plan m) ER c k (due n) (rem w) hw.2 hn.1 (fun h k' hk' => by rw [hn.2 h] at hk'; exact absurd hk' (Finset.notMem_empty _)) hop

end Cert.InputIdeal.GI

end
-- ==== Proof.InputWork.lean ====
module

public import Idealize.ShloMosaic.Lib.WritesUnit
public import proofs.«01_k».proof.Proof.InputSteps

@[expose] public section

noncomputable section

/-! Loads, stores and waits in the third kernel. -/

namespace Cert.InputIdeal.GI

open Idealize.ShloMosaic
open Idealize.SL
open Idealize.SL.BI
open scoped Idealize.SL.BI
open Idealize.SL.BI.BIBase Idealize.SL.BI.Laws Idealize.SL.Sem Idealize.SL.ProofMode
open Idealize.SL.RA
open Idealize.ShloMosaic.TcCoe
open Idealize.ShloMosaic.Rounds
open Idealize.ShloMosaic.ValueIdx
open Idealize.ShloMosaic.Pipeline
open Cert.InputIdeal.Gen
open Cert.KernelIdeal.GW (flip chip opp onChip bits arrived)

set_option Elab.async false

variable {F : FTy → Type} [FloatOps F]
variable (m : (ℓ : Loc nD τ sig) → Buf (Elt F) ℓ)
variable {U : Type} [URA U]
variable (ER : Emb (URounds (GSem nD τ sig) Unit) (MT nD τ sig Unit (Elt F) ℕ U ℕ))
local notation "𝕄" => MT nD τ sig Unit (Elt F) ℕ U ℕ
/-- A finished program needs what it promises of its value. -/
theorem run_ret (c : Dev nD) {α : Type} (a : α) (Q : α → sProp 𝕄) : Q a ⊢ run c (.ret a) Q := by
  unfold run
  rw [wp_ret]
  iintro H
  imodintro
  iexact H

/-! ### Loads and stores of a memref that is held whole -/

/-- A memref and what is read through it. -/
abbrev has (c : Dev nD) {sp : Space} {s : Shape} {e : EltTy} (M : Memref sig .tc sp s e) (X : s.Idx → Elt F e) : sProp 𝕄 :=
  owns (c.tc : Thread nD τ) M fullShare X

theorem load (c : Dev nD) {α : Type} {Q : α → sProp 𝕄} {cs : CoreSpace} {s : Shape} {e : EltTy} (M : Memref sig .tc cs s e) (X : s.Idx → Elt F e)
    {r : LoadRect s} {hl : M.view.LoadsAt r} {k : (r.shape.Idx → Elt F e) → Prog (TpuEff nD τ sig (Elt F) Λ₀ .tc) α} :
    has c M X ⊢ iprop((has c M X -∗ run c (k fun x => X (r.idx x)) Q) -∗ run c (.op (.load M r hl) k) Q) := by
  unfold has owns
  iintro ⟨%f, %hf, H⟩ HK
  have hsub : M.view.setOn r.set ⊆ M.view.set := View.setOn_subset_set _ _
  iapply (wp_load Variants.none (c.tc : Thread nD τ) none Set.univ (m := M) (r := r) (q := fullShare) (f := f) hsub) $$ H
  iintro H
  rw [show M.view.readAt (Elt F) r f = fun x => X (r.idx x) from by subst hf; rfl]
  iapply HK
  iexists f
  isplitr; · ipureintro; exact hf
  iexact H

theorem store (c : Dev nD) {α : Type} {Q : α → sProp 𝕄} {cs : CoreSpace} {s : Shape} {e : EltTy} (M : Memref sig .tc cs s e) (X X' : s.Idx → Elt F e)
    {r : Rect s} {w : r.shape.Idx → Elt F e} {hx : (M.access r).Stores Finset.univ} {hm : (Finset.univ : Finset r.shape.Idx) = Finset.univ ∨ ∀ a, r.stride a = 1}
    {k : PUnit → Prog (TpuEff nD τ sig (Elt F) Λ₀ .tc) α}
    (hX : ∀ f : M.view.ty.Contents (Elt F), M.view.read (Elt F) f = X → M.view.read (Elt F) (M.view.writes (Elt F) f [⟨r, w⟩]) = X') :
    has c M X ⊢ iprop((has c M X' -∗ run c (k ⟨⟩) Q) -∗ run c (.op (.store M r w Finset.univ hx hm) k) Q) := by
  unfold has owns
  iintro ⟨%f, %hf, H⟩ HK
  have hsub : (M.access r).setOn Finset.univ ⊆ M.view.set := by
    rw [View.setOn_univ]; exact View.set_slice_subset _ _
  iapply (wp_store Variants.none (c.tc : Thread nD τ) none Set.univ (m := M) (r := r) (w := w) (Mk := Finset.univ) (f := f) hsub) $$ H
  iintro H
  iapply HK
  iexists (M.view.writes (Elt F) f [⟨r, w⟩])
  isplitr; · ipureintro; exact hX f hf
  iexact H

theorem loadFull (c : Dev nD) {α : Type} {Q : α → sProp 𝕄} {cs : CoreSpace} {s : Shape} {e : EltTy} (M : Memref sig .tc cs s e) (X : s.Idx → Elt F e)
    {off : Fin s.rank → ℕ} {inb : ∀ a, off a + s.size a ≤ s.size a} {hl : M.view.LoadsAt (Rect.unit off s.size inb).toLoadRect}
    {k : ((Rect.unit off s.size inb).toLoadRect.shape.Idx → Elt F e) → Prog (TpuEff nD τ sig (Elt F) Λ₀ .tc) α} :
    has c M X ⊢ iprop((has c M X -∗ run c (k X) Q) -∗ run c (.op (.load M (Rect.unit off s.size inb).toLoadRect hl) k) Q) := by
  have h := load c (Q := Q) M X (hl := hl) (k := k)
  rw [show (fun x => X ((Rect.unit off s.size inb).toLoadRect.idx x)) = X from funext fun y => congrArg X (funext fun a => Fin.ext (by
    show off a + 1 * (y a).val = (y a).val
    have := inb a; omega))] at h
  exact h

theorem storeFull (c : Dev nD) {α : Type} {Q : α → sProp 𝕄} {cs : CoreSpace} {s : Shape} {e : EltTy} (M : Memref sig .tc cs s e) (X w : s.Idx → Elt F e)
    {off : Fin s.rank → ℕ} {inb : ∀ a, off a + s.size a ≤ s.size a} {hx : (M.access (Rect.unit off s.size inb)).Stores Finset.univ}
    {hm : (Finset.univ : Finset (Rect.unit off s.size inb).shape.Idx) = Finset.univ ∨ ∀ a, (Rect.unit off s.size inb).stride a = 1}
    {k : PUnit → Prog (TpuEff nD τ sig (Elt F) Λ₀ .tc) α} :
    has c M X ⊢ iprop((has c M w -∗ run c (k ⟨⟩) Q) -∗ run c (.op (.store M (Rect.unit off s.size inb) w Finset.univ hx hm) k) Q) := by
  refine store c M X w (r := Rect.unit off s.size inb) (w := w) ?_
  intro f _
  funext y
  have h0 : ∀ a, off a = 0 := fun a => by have := inb a; omega
  exact View.read_writes_cons_unit_of_mem (off' := off) M.view f inb w [] y (y : s.Idx) rfl fun a => by rw [h0 a, Nat.zero_add]

/-! ### Loads and stores at raw contents -/

theorem loadRaw (c : Dev nD) {α : Type} {Q : α → sProp 𝕄} {cs : CoreSpace} {s : Shape} {e : EltTy} (M : Memref sig .tc cs s e) (f : M.view.ty.Contents (Elt F))
    {r : LoadRect s} {hl : M.view.LoadsAt r} {k : (r.shape.Idx → Elt F e) → Prog (TpuEff nD τ sig (Elt F) Λ₀ .tc) α} :
    (M.view.loc (c.tc : Thread nD τ) ↦[M.view.set]{fullShare} f : sProp 𝕄) ⊢ iprop(((M.view.loc (c.tc : Thread nD τ) ↦[M.view.set]{fullShare} f) -∗ run c (k (M.view.readAt (Elt F) r f)) Q) -∗ run c (.op (.load M r hl) k) Q) := by
  have hsub : M.view.setOn r.set ⊆ M.view.set := View.setOn_subset_set _ _
  exact wp_load Variants.none (c.tc : Thread nD τ) none Set.univ (m := M) (r := r) (q := fullShare) (f := f) hsub

theorem has_raw (c : Dev nD) {sp : Space} {s : Shape} {e : EltTy} (M : Memref sig .tc sp s e) (X : s.Idx → Elt F e) :
    (has c M X : sProp 𝕄) ⊢ iprop(∃ f, (M.view.loc (c.tc : Thread nD τ) ↦[M.view.set]{fullShare} f)) := by
  unfold has owns
  iintro ⟨%f, %hf, H⟩
  iexists f
  iexact H

theorem raw_has (c : Dev nD) {sp : Space} {s : Shape} {e : EltTy} (M : Memref sig .tc sp s e) {X : s.Idx → Elt F e} (f : M.view.ty.Contents (Elt F))
    (h : M.view.read (Elt F) f = X) : (M.view.loc (c.tc : Thread nD τ) ↦[M.view.set]{fullShare} f : sProp 𝕄) ⊢ has c M X := by
  unfold has owns
  iintro H
  iexists f
  isplitr; · ipureintro; exact h
  iexact H

theorem has_whole (c : Dev nD) (b : Ref sig .tc) (X : b.ty.Contents (Elt F)) :
    (has c (Memref.whole b) X : sProp 𝕄) = ((Memref.whole b).view.loc (c.tc : Thread nD τ) ↦{fullShare} X) := by
  have hS : (Memref.whole b : Memref sig .tc _ _ _).view.set = Finset.univ := View.set_whole _
  have hR : ∀ f, (Memref.whole b : Memref sig .tc _ _ _).view.read (Elt F) f = f := fun f => View.read_whole _ f
  have h1 : (has c (Memref.whole b) X : sProp 𝕄) ⊢ ((Memref.whole b).view.loc (c.tc : Thread nD τ) ↦{fullShare} X) := by
    unfold has owns
    iintro ⟨%f, %hf, H⟩
    rw [hR] at hf
    subst hf
    rw [hS]
    iexact H
  have h2 : ((Memref.whole b).view.loc (c.tc : Thread nD τ) ↦{fullShare} X : sProp 𝕄) ⊢ has c (Memref.whole b) X := by
    iintro H
    iapply (raw_has c (Memref.whole b) X (hR X))
    rw [hS]
    iexact H
  exact Idealize.SL.BI.Entails.antisymm h1 h2

/-- The body asks whether it is at the start of a row tile. -/
abbrev isFirst (i : grid0.Coords) : Prop := Scalar.cmpi .ne (Scalar.extui (Scalar.cmpi .eq (BitVec.ofNat 32 (i 1).val) 0#32)) 0#32 = 1#1

/-! ### The waits, and what they have paid so far -/

/-- The waits among the first `w`. -/
def early (w : ℕ) : Finset Key := Finset.univ.filter fun k => turn k < w

theorem early_start : early 0 = ∅ := by decide +kernel
theorem early_end : early 22 = Finset.univ := by decide +kernel

/-- Everything is started, `w` waits are made, and what they paid is held. -/
def paid (c : Dev nD) (w : ℕ) : sProp 𝕄 := iprop(stage m ER c 12 w ∗ bigSep (early w) (pay m c))

/-- One more wait. -/
theorem takePaid (c : Dev nD) {α : Type} {Q : α → sProp 𝕄} (w : ℕ) (k : Key)
    (hw : rem (w + 1) = (rem w).erase k ∧ k ∈ rem w ∧ early (w + 1) = insert k (early w) ∧ k ∉ early w)
    {op : TpuEff nD τ sig (Elt F) Λ₀ .tc PUnit} {k' : PUnit → Prog (TpuEff nD τ sig (Elt F) Λ₀ .tc) α}
    (hop : ∀ R : PUnit → sProp 𝕄, wpE (defs₀ (F := F)) Variants.none (c.tc : Thread nD τ) none Set.univ op R = waitSpec (c.tc : Thread nD τ) Set.univ (osem k) (amt k) R) :
    paid m ER c w ⊢ iprop((paid m ER c (w + 1) -∗ run c (k' ⟨⟩) Q) -∗ run c (.op op k') Q) := by
  unfold paid
  rw [hw.2.2.1, show bigSep (insert k (early w)) (pay m c) = iprop(pay m c k ∗ bigSep (early w) (pay m c)) from bigSep_insert hw.2.2.2]
  iintro ⟨Hs, HP⟩ HK
  iapply (take m ER c 12 w k ⟨hw.1, hw.2.1⟩ ⟨fun _ => by rw [due_end]; exact Finset.notMem_empty _, fun _ => due_end⟩ hop) $$ Hs
  iintro ⟨Hk, Hs⟩
  iapply HK
  isplitl [Hs]; · iexact Hs
  isplitl [Hk]; · iexact Hk
  iexact HP

end Cert.InputIdeal.GI

end
-- ==== Proof.InputMoves.lean ====
module

public import proofs.«01_k».proof.Proof.InputWork

@[expose] public section

noncomputable section

/-! The sends and waits of the third kernel, one stretch of the body at a time. -/

namespace Cert.InputIdeal.GI

open Idealize.ShloMosaic
open Idealize.SL
open Idealize.SL.BI
open scoped Idealize.SL.BI
open Idealize.SL.BI.BIBase Idealize.SL.BI.Laws Idealize.SL.Sem Idealize.SL.ProofMode
open Idealize.SL.RA
open Idealize.ShloMosaic.TcCoe
open Idealize.ShloMosaic.Rounds
open Idealize.ShloMosaic.ValueIdx
open Idealize.ShloMosaic.Pipeline
open Cert.InputIdeal.Gen
open Cert.KernelIdeal.GW (flip chip opp onChip bits arrived)

set_option Elab.async false

variable {F : FTy → Type} [FloatOps F]
variable (m : (ℓ : Loc nD τ sig) → Buf (Elt F) ℓ)
variable {U : Type} [URA U]
variable (ER : Emb (URounds (GSem nD τ sig) Unit) (MT nD τ sig Unit (Elt F) ℕ U ℕ))
local notation "𝕄" => MT nD τ sig Unit (Elt F) ℕ U ℕ
/-- With everything started and no wait made, nothing is paid yet. -/
theorem paid_start (c : Dev nD) : stage m ER c 12 0 ⊢ paid m ER c 0 := by
  unfold paid
  rw [early_start, bigSep_empty]
  exact sep_emp_intro

/-- The plane kept and the first one sent. -/
theorem issue1 (c : Dev nD) (i : grid0.Coords) {arg2 harg2 arg3 harg3 arg4 harg4 arg5 harg5 arg6 harg6 arg8 harg8} (v2 v5 v8 : BitVec 32) (h1 : k0_cond1 i = 1#1) {Q : _ → sProp 𝕄} :
    iprop(stage m ER c 0 0 ∗ Rows.own q0 c A0 (opp c 0) (s0 m c) ∗ (∃ f, Rows.own q0 c D0 (opp c 0) f) ∗ Rows.own q0 c A0 (opp c (Fin.succ (0 : Fin 3))) (s0 m c))
      ⊢ iprop((∀ r, stage m ER c 2 0 -∗ Q r) -∗ run c (k0_part1 (F := F) i arg2 harg2 arg3 harg3 arg4 harg4 arg5 harg5 arg6 harg6 A0 (Memref.isWhole_whole _) arg8 harg8 DA (Memref.isWhole_whole _) D0 (Memref.isWhole_whole _) AC (Memref.isWhole_whole _) DG (Memref.isWhole_whole _) cc0_scratch2 cc0_scratch3 cc0_scratch4 cc0_scratch5 cc0_scratch6 cc0_scratch7 c v2 v5 v8 h1) Q) := by
  rw [k0_part1_eq_skeleton]; unfold k0_part1_skel
  simp only [Prog.lift, Prog.bind_op, Prog.bind_ret, Prog.pure_eq_ret]
  iintro ⟨Hs, Ha, Hd, H0⟩ HK
  iapply (copy0 m ER c 0 (off1_eq c) (off1_eq c) rfl (by decide +kernel)) $$ [Hs Ha Hd]
  · isplitl [Hs]; · iexact Hs
    isplitl [Ha]; · iexact Ha
    iexact Hd
  iintro Hs
  iapply (send0 m ER c 0 0 1 (by decide +kernel) (by decide +kernel) (off2_0_eq c) (off1_eq c) (dev1_eq c) rfl rfl) $$ [Hs H0]
  · isplitl [Hs]; · iexact Hs
    iexact H0
  iintro Hs
  iapply (run_ret c _ Q)
  iapply HK
  iexact Hs

/-- The other two planes sent; the row of sums is read and a zero is to replace it. -/
theorem issue2 (c : Dev nD) (i : grid0.Coords) {arg2 harg2 arg3 harg3 arg4 harg4 arg5 harg5 arg6 harg6 arg8 harg8} (v8 v54 v55 v58 v59 : BitVec 32) (h1 : k0_cond1 i = 1#1) (X : S1x2048.Idx → Elt F .f32) {Q : _ → sProp 𝕄} :
    iprop(stage m ER c 2 0 ∗ Rows.own q0 c A0 (opp c (Fin.succ (1 : Fin 3))) (s0 m c) ∗ Rows.own q0 c A0 (opp c (Fin.succ (2 : Fin 3))) (s0 m c) ∗ has c DG X)
      ⊢ iprop(((stage m ER c 4 0 ∗ has c DG X) -∗ Q k0_pay2) -∗ run c (k0_part2 (F := F) i arg2 harg2 arg3 harg3 arg4 harg4 arg5 harg5 arg6 harg6 A0 (Memref.isWhole_whole _) arg8 harg8 DA (Memref.isWhole_whole _) D0 (Memref.isWhole_whole _) AC (Memref.isWhole_whole _) DG (Memref.isWhole_whole _) cc0_scratch2 cc0_scratch3 cc0_scratch4 cc0_scratch5 cc0_scratch6 cc0_scratch7 c v8 h1 v54 v55 v58 v59) Q) := by
  rw [k0_part2_eq_skeleton]; unfold k0_part2_skel
  simp only [Prog.lift, Prog.bind_op, Prog.bind_ret, Prog.pure_eq_ret]
  iintro ⟨Hs, H1, H2, HX⟩ HK
  iapply (send0 m ER c 0 1 2 (by decide +kernel) (by decide +kernel) (off2_1_eq c) (off1_eq c) (dev2_eq c) rfl rfl) $$ [Hs H1]
  · isplitl [Hs]; · iexact Hs
    iexact H1
  iintro Hs
  iapply (send0 m ER c 0 2 3 (by decide +kernel) (by decide +kernel) (off2_2_eq c) (off1_eq c) (dev3_eq c) rfl rfl) $$ [Hs H2]
  · isplitl [Hs]; · iexact Hs
    iexact H2
  iintro Hs
  iapply (loadFull c DG X) $$ HX; iintro HX
  iapply (run_ret c _ Q)
  iapply HK
  isplitl [Hs]; · iexact Hs
  iexact HX

/-- The end of a row tile: its part of the gain's gradient added, its rows of the input's gradient found. -/
theorem fold3 (c : Dev nD) (i : grid0.Coords) {arg2 harg2 arg3 harg3 arg4 harg4 arg5 harg5 arg6 harg6 arg8 harg8} (x : Vec F S512x2048 .f32) (g : Vec F S1x2048 .f32) (A : Vec F S512x2048 .f32) (G : Vec F S1x2048 .f32) (o Y : Vec F S512x2048 .f32) {Q : _ → sProp 𝕄} :
    iprop(has c arg4 x ∗ has c arg6 g ∗ has c AC A ∗ has c DG G ∗ has c arg5 o ∗ has c arg8 Y)
      ⊢ iprop(((has c arg4 x ∗ has c arg6 g ∗ has c AC A ∗ has c DG (k0_pay6 x A G) ∗ has c arg5 o ∗ has c arg8 Y) -∗ Q (k0_pay7 x g A o)) -∗ run c (k0_part3 (F := F) i arg2 harg2 arg3 harg3 arg4 harg4 arg5 harg5 arg6 harg6 A0 (Memref.isWhole_whole _) arg8 harg8 DA (Memref.isWhole_whole _) D0 (Memref.isWhole_whole _) AC (Memref.isWhole_whole _) DG (Memref.isWhole_whole _) cc0_scratch2 cc0_scratch3 cc0_scratch4 cc0_scratch5 cc0_scratch6 cc0_scratch7 ) Q) := by
  rw [k0_part3_eq_skeleton]; unfold k0_part3_skel
  simp only [Prog.lift, Prog.bind_op, Prog.bind_ret, Prog.pure_eq_ret]
  iintro ⟨Hx, Hg, HA, HG, Ho, HY⟩ HK
  iapply (loadFull c arg4 x) $$ Hx; iintro Hx
  iapply (loadFull c arg6 g) $$ Hg; iintro Hg
  iapply (loadFull c AC A) $$ HA; iintro HA
  iapply (loadFull c DG G) $$ HG; iintro HG
  iapply (loadFull c DG G) $$ HG; iintro HG
  iapply (storeFull c DG G (k0_pay6 x A G)) $$ HG; iintro HG
  iapply (loadFull c arg5 o) $$ Ho; iintro Ho
  iapply (loadFull c arg8 Y) $$ HY; iintro HY
  iapply (run_ret c _ Q)
  iapply HK
  isplitl [Hx]; · iexact Hx
  isplitl [Hg]; · iexact Hg
  isplitl [HA]; · iexact HA
  isplitl [HG]; · iexact HG
  isplitl [Ho]; · iexact Ho
  iexact HY

/-- The summed row copied to its place at home. -/
theorem near4 (c : Dev nD) (i : grid0.Coords) {arg2 harg2 arg3 harg3 arg4 harg4 arg5 harg5 arg6 harg6 arg8 harg8} (v13 v16 v19 : BitVec 32) (h4 : k0_cond4 i = 1#1) {Q : _ → sProp 𝕄} :
    iprop(stage m ER c 4 0 ∗ holds c DG (eighth 7) (gainAt m c 8) ∗ ∃ f, Rows.own q9 c DA c f)
      ⊢ iprop((∀ r, stage m ER c 5 0 -∗ Q r) -∗ run c (k0_part4 (F := F) i arg2 harg2 arg3 harg3 arg4 harg4 arg5 harg5 arg6 harg6 A0 (Memref.isWhole_whole _) arg8 harg8 DA (Memref.isWhole_whole _) D0 (Memref.isWhole_whole _) AC (Memref.isWhole_whole _) DG (Memref.isWhole_whole _) cc0_scratch2 cc0_scratch3 cc0_scratch4 cc0_scratch5 cc0_scratch6 cc0_scratch7 c v13 v16 v19 h4) Q) := by
  rw [k0_part4_eq_skeleton]; unfold k0_part4_skel
  simp only [Prog.lift, Prog.bind_op, Prog.bind_ret, Prog.pure_eq_ret]
  iintro ⟨Hs, Ha, Hd⟩ HK
  iapply (copyGain m ER c 0 (off3_eq c) rfl (by decide +kernel)) $$ [Hs Ha Hd]
  · isplitl [Hs]; · iexact Hs
    isplitl [Ha]; · iexact Ha
    iexact Hd
  iintro Hs
  iapply (run_ret c _ Q)
  iapply HK
  iexact Hs

/-- The summed row sent to the first three of the others. -/
theorem send5 (c : Dev nD) (i : grid0.Coords) {arg2 harg2 arg3 harg3 arg4 harg4 arg5 harg5 arg6 harg6 arg8 harg8} (v53 v54 v55 v56 v57 v58 v59 v60 : BitVec 32) (h4 : k0_cond4 i = 1#1) {Q : _ → sProp 𝕄} :
    iprop(stage m ER c 5 0 ∗ holds c DG (eighth 0) (gainAt m c 8) ∗ holds c DG (eighth 1) (gainAt m c 8) ∗ holds c DG (eighth 2) (gainAt m c 8))
      ⊢ iprop((∀ r, stage m ER c 8 0 -∗ Q r) -∗ run c (k0_part5 (F := F) i arg2 harg2 arg3 harg3 arg4 harg4 arg5 harg5 arg6 harg6 A0 (Memref.isWhole_whole _) arg8 harg8 DA (Memref.isWhole_whole _) D0 (Memref.isWhole_whole _) AC (Memref.isWhole_whole _) DG (Memref.isWhole_whole _) cc0_scratch2 cc0_scratch3 cc0_scratch4 cc0_scratch5 cc0_scratch6 cc0_scratch7 c h4 v53 v54 v55 v56 v57 v58 v59 v60) Q) := by
  rw [k0_part5_eq_skeleton]; unfold k0_part5_skel
  simp only [Prog.lift, Prog.bind_op, Prog.bind_ret, Prog.pure_eq_ret]
  iintro ⟨Hs, H0, H1, H2⟩ HK
  iapply (sendGain m ER c 0 0 5 (by decide +kernel) (by decide +kernel) (off3_eq c) (dev4_eq c) rfl rfl) $$ [Hs H0]
  · isplitl [Hs]; · iexact Hs
    iexact H0
  iintro Hs
  iapply (sendGain m ER c 0 1 6 (by decide +kernel) (by decide +kernel) (off3_eq c) (dev5_eq c) rfl rfl) $$ [Hs H1]
  · isplitl [Hs]; · iexact Hs
    iexact H1
  iintro Hs
  iapply (sendGain m ER c 0 2 7 (by decide +kernel) (by decide +kernel) (off3_eq c) (dev6_eq c) rfl rfl) $$ [Hs H2]
  · isplitl [Hs]; · iexact Hs
    iexact H2
  iintro Hs
  iapply (run_ret c _ Q)
  iapply HK
  iexact Hs

/-- The summed row sent to three more. -/
theorem send6 (c : Dev nD) (i : grid0.Coords) {arg2 harg2 arg3 harg3 arg4 harg4 arg5 harg5 arg6 harg6 arg8 harg8} (v61 v62 v63 v64 v65 v66 v67 v68 v112 c1 : BitVec 32) (h4 : k0_cond4 i = 1#1) {Q : _ → sProp 𝕄} :
    iprop(stage m ER c 8 0 ∗ holds c DG (eighth 3) (gainAt m c 8) ∗ holds c DG (eighth 4) (gainAt m c 8) ∗ holds c DG (eighth 5) (gainAt m c 8))
      ⊢ iprop((∀ r, stage m ER c 11 0 -∗ Q r) -∗ run c (k0_part6 (F := F) i arg2 harg2 arg3 harg3 arg4 harg4 arg5 harg5 arg6 harg6 A0 (Memref.isWhole_whole _) arg8 harg8 DA (Memref.isWhole_whole _) D0 (Memref.isWhole_whole _) AC (Memref.isWhole_whole _) DG (Memref.isWhole_whole _) cc0_scratch2 cc0_scratch3 cc0_scratch4 cc0_scratch5 cc0_scratch6 cc0_scratch7 c h4 v61 v62 v63 v64 v65 v66 v67 v68 v112 c1) Q) := by
  rw [k0_part6_eq_skeleton]; unfold k0_part6_skel
  simp only [Prog.lift, Prog.bind_op, Prog.bind_ret, Prog.pure_eq_ret]
  iintro ⟨Hs, H3, H4, H5⟩ HK
  iapply (sendGain m ER c 0 3 8 (by decide +kernel) (by decide +kernel) (off3_eq c) (dev7_eq c) rfl rfl) $$ [Hs H3]
  · isplitl [Hs]; · iexact Hs
    iexact H3
  iintro Hs
  iapply (sendGain m ER c 0 4 9 (by decide +kernel) (by decide +kernel) (off3_eq c) (dev8_eq c) rfl rfl) $$ [Hs H4]
  · isplitl [Hs]; · iexact Hs
    iexact H4
  iintro Hs
  iapply (sendGain m ER c 0 5 10 (by decide +kernel) (by decide +kernel) (off3_eq c) (dev9_eq c) rfl rfl) $$ [Hs H5]
  · isplitl [Hs]; · iexact Hs
    iexact H5
  iintro Hs
  iapply (run_ret c _ Q)
  iapply HK
  iexact Hs

/-- The summed row sent to the last one, and the first wait. -/
theorem mixed7 (c : Dev nD) (i : grid0.Coords) {arg2 harg2 arg3 harg3 arg4 harg4 arg5 harg5 arg6 harg6 arg8 harg8} (v2 v5 v8 v69 v70 v146 c2 : BitVec 32) (h4 : k0_cond4 i = 1#1) {Q : _ → sProp 𝕄} :
    iprop(stage m ER c 11 0 ∗ holds c DG (eighth 6) (gainAt m c 8))
      ⊢ iprop((∀ r, paid m ER c 1 -∗ Q r) -∗ run c (k0_part7 (F := F) i arg2 harg2 arg3 harg3 arg4 harg4 arg5 harg5 arg6 harg6 A0 (Memref.isWhole_whole _) arg8 harg8 DA (Memref.isWhole_whole _) D0 (Memref.isWhole_whole _) AC (Memref.isWhole_whole _) DG (Memref.isWhole_whole _) cc0_scratch2 cc0_scratch3 cc0_scratch4 cc0_scratch5 cc0_scratch6 cc0_scratch7 c v2 v5 v8 h4 v69 v70 v146 c2) Q) := by
  rw [k0_part7_eq_skeleton]; unfold k0_part7_skel
  simp only [Prog.lift, Prog.bind_op, Prog.bind_ret, Prog.pure_eq_ret]
  iintro ⟨Hs, H6⟩ HK
  iapply (sendGain m ER c 0 6 11 (by decide +kernel) (by decide +kernel) (off3_eq c) (dev10_eq c) rfl rfl) $$ [Hs H6]
  · isplitl [Hs]; · iexact Hs
    iexact H6
  iintro Hs
  ihave Hp := (paid_start m ER c) $$ Hs
  iapply (takePaid m ER c 0 (.rv 0) (by decide +kernel) ?_) $$ Hp
  · intro R; exact wpE_waitDma2_eq _ _ none Set.univ R
  iintro Hp
  iapply (run_ret c _ Q)
  iapply HK
  iexact Hp

/-- The waits 1–2. -/
theorem take8 (c : Dev nD) (i : grid0.Coords) {arg2 harg2 arg3 harg3 arg4 harg4 arg5 harg5 arg6 harg6 arg8 harg8} (v8 v161 v162 v165 v166 : BitVec 32) (h4 : k0_cond4 i = 1#1) {Q : _ → sProp 𝕄} :
    paid m ER c 1
      ⊢ iprop((∀ r, paid m ER c 3 -∗ Q r) -∗ run c (k0_part8 (F := F) i arg2 harg2 arg3 harg3 arg4 harg4 arg5 harg5 arg6 harg6 A0 (Memref.isWhole_whole _) arg8 harg8 DA (Memref.isWhole_whole _) D0 (Memref.isWhole_whole _) AC (Memref.isWhole_whole _) DG (Memref.isWhole_whole _) cc0_scratch2 cc0_scratch3 cc0_scratch4 cc0_scratch5 cc0_scratch6 cc0_scratch7 c v8 h4 v161 v162 v165 v166) Q) := by
  rw [k0_part8_eq_skeleton]; unfold k0_part8_skel
  simp only [Prog.lift, Prog.bind_op, Prog.bind_ret, Prog.pure_eq_ret]
  iintro Hs HK
  iapply (takePaid m ER c 1 (.rv 1) (by decide +kernel) ?_) $$ Hs
  · intro R; exact wpE_waitDma2_eq _ _ none Set.univ R
  iintro Hs
  iapply (takePaid m ER c 2 (.rv 2) (by decide +kernel) ?_) $$ Hs
  · intro R; exact wpE_waitDma2_eq _ _ none Set.univ R
  iintro Hs
  iapply (run_ret c _ Q)
  iapply HK
  iexact Hs

/-- The waits 3–6. -/
theorem take9 (c : Dev nD) (i : grid0.Coords) {arg2 harg2 arg3 harg3 arg4 harg4 arg5 harg5 arg6 harg6 arg8 harg8} (v50 v51 : BitVec 32) (h4 : k0_cond4 i = 1#1) {Q : _ → sProp 𝕄} :
    paid m ER c 3
      ⊢ iprop((∀ r, paid m ER c 7 -∗ Q r) -∗ run c (k0_part9 (F := F) i arg2 harg2 arg3 harg3 arg4 harg4 arg5 harg5 arg6 harg6 A0 (Memref.isWhole_whole _) arg8 harg8 DA (Memref.isWhole_whole _) D0 (Memref.isWhole_whole _) AC (Memref.isWhole_whole _) DG (Memref.isWhole_whole _) cc0_scratch2 cc0_scratch3 cc0_scratch4 cc0_scratch5 cc0_scratch6 cc0_scratch7 c h4 v50 v51) Q) := by
  rw [k0_part9_eq_skeleton]; unfold k0_part9_skel
  simp only [Prog.lift, Prog.bind_op, Prog.bind_ret, Prog.pure_eq_ret]
  iintro Hs HK
  iapply (takePaid m ER c 3 (.sd 0) (by decide +kernel) ?_) $$ Hs
  · intro R; exact wpE_waitDma2_eq _ _ none Set.univ R
  iintro Hs
  iapply (takePaid m ER c 4 (.sd 1) (by decide +kernel) ?_) $$ Hs
  · intro R; exact wpE_waitDma2_eq _ _ none Set.univ R
  iintro Hs
  iapply (takePaid m ER c 5 (.sd 2) (by decide +kernel) ?_) $$ Hs
  · intro R; exact wpE_waitDma2_eq _ _ none Set.univ R
  iintro Hs
  iapply (takePaid m ER c 6 (.lc) (by decide +kernel) ?_) $$ Hs
  · intro R; exact wpE_waitDma2_eq _ _ none Set.univ R
  iintro Hs
  iapply (run_ret c _ Q)
  iapply HK
  iexact Hs

/-- The waits 7–9. -/
theorem take10 (c : Dev nD) (i : grid0.Coords) {arg2 harg2 arg3 harg3 arg4 harg4 arg5 harg5 arg6 harg6 arg8 harg8} (v52 v53 v54 v55 v56 v57 v58 v59 v60 v61 v232 c1 : BitVec 32) (h4 : k0_cond4 i = 1#1) {Q : _ → sProp 𝕄} :
    paid m ER c 7
      ⊢ iprop((∀ r, paid m ER c 10 -∗ Q r) -∗ run c (k0_part10 (F := F) i arg2 harg2 arg3 harg3 arg4 harg4 arg5 harg5 arg6 harg6 A0 (Memref.isWhole_whole _) arg8 harg8 DA (Memref.isWhole_whole _) D0 (Memref.isWhole_whole _) AC (Memref.isWhole_whole _) DG (Memref.isWhole_whole _) cc0_scratch2 cc0_scratch3 cc0_scratch4 cc0_scratch5 cc0_scratch6 cc0_scratch7 c h4 v52 v53 v54 v55 v56 v57 v58 v59 v60 v61 v232 c1) Q) := by
  rw [k0_part10_eq_skeleton]; unfold k0_part10_skel
  simp only [Prog.lift, Prog.bind_op, Prog.bind_ret, Prog.pure_eq_ret]
  iintro Hs HK
  iapply (takePaid m ER c 7 (.gr 0) (by decide +kernel) ?_) $$ Hs
  · intro R; exact wpE_waitDma2_eq _ _ none Set.univ R
  iintro Hs
  iapply (takePaid m ER c 8 (.gr 1) (by decide +kernel) ?_) $$ Hs
  · intro R; exact wpE_waitDma2_eq _ _ none Set.univ R
  iintro Hs
  iapply (takePaid m ER c 9 (.gr 2) (by decide +kernel) ?_) $$ Hs
  · intro R; exact wpE_waitDma2_eq _ _ none Set.univ R
  iintro Hs
  iapply (run_ret c _ Q)
  iapply HK
  iexact Hs

/-- The waits 10–12. -/
theorem take11 (c : Dev nD) (i : grid0.Coords) {arg2 harg2 arg3 harg3 arg4 harg4 arg5 harg5 arg6 harg6 arg8 harg8} (v62 v63 v64 v65 v66 v67 v68 v69 v70 : BitVec 32) (h4 : k0_cond4 i = 1#1) {Q : _ → sProp 𝕄} :
    paid m ER c 10
      ⊢ iprop((∀ r, paid m ER c 13 -∗ Q r) -∗ run c (k0_part11 (F := F) i arg2 harg2 arg3 harg3 arg4 harg4 arg5 harg5 arg6 harg6 A0 (Memref.isWhole_whole _) arg8 harg8 DA (Memref.isWhole_whole _) D0 (Memref.isWhole_whole _) AC (Memref.isWhole_whole _) DG (Memref.isWhole_whole _) cc0_scratch2 cc0_scratch3 cc0_scratch4 cc0_scratch5 cc0_scratch6 cc0_scratch7 c h4 v62 v63 v64 v65 v66 v67 v68 v69 v70) Q) := by
  rw [k0_part11_eq_skeleton]; unfold k0_part11_skel
  simp only [Prog.lift, Prog.bind_op, Prog.bind_ret, Prog.pure_eq_ret]
  iintro Hs HK
  iapply (takePaid m ER c 10 (.gr 3) (by decide +kernel) ?_) $$ Hs
  · intro R; exact wpE_waitDma2_eq _ _ none Set.univ R
  iintro Hs
  iapply (takePaid m ER c 11 (.gr 4) (by decide +kernel) ?_) $$ Hs
  · intro R; exact wpE_waitDma2_eq _ _ none Set.univ R
  iintro Hs
  iapply (takePaid m ER c 12 (.gr 5) (by decide +kernel) ?_) $$ Hs
  · intro R; exact wpE_waitDma2_eq _ _ none Set.univ R
  iintro Hs
  iapply (run_ret c _ Q)
  iapply HK
  iexact Hs

/-- The waits 13–18. -/
theorem take12 (c : Dev nD) (i : grid0.Coords) {arg2 harg2 arg3 harg3 arg4 harg4 arg5 harg5 arg6 harg6 arg8 harg8} (h4 : k0_cond4 i = 1#1) {Q : _ → sProp 𝕄} :
    paid m ER c 13
      ⊢ iprop((∀ r, paid m ER c 19 -∗ Q r) -∗ run c (k0_part12 (F := F) i arg2 harg2 arg3 harg3 arg4 harg4 arg5 harg5 arg6 harg6 A0 (Memref.isWhole_whole _) arg8 harg8 DA (Memref.isWhole_whole _) D0 (Memref.isWhole_whole _) AC (Memref.isWhole_whole _) DG (Memref.isWhole_whole _) cc0_scratch2 cc0_scratch3 cc0_scratch4 cc0_scratch5 cc0_scratch6 cc0_scratch7 c h4) Q) := by
  rw [k0_part12_eq_skeleton]; unfold k0_part12_skel
  simp only [Prog.lift, Prog.bind_op, Prog.bind_ret, Prog.pure_eq_ret]
  iintro Hs HK
  iapply (takePaid m ER c 13 (.gr 6) (by decide +kernel) ?_) $$ Hs
  · intro R; exact wpE_waitDma2_eq _ _ none Set.univ R
  iintro Hs
  iapply (takePaid m ER c 14 (.gs 0) (by decide +kernel) ?_) $$ Hs
  · intro R; exact wpE_waitDma2_eq _ _ none Set.univ R
  iintro Hs
  iapply (takePaid m ER c 15 (.gs 1) (by decide +kernel) ?_) $$ Hs
  · intro R; exact wpE_waitDma2_eq _ _ none Set.univ R
  iintro Hs
  iapply (takePaid m ER c 16 (.gs 2) (by decide +kernel) ?_) $$ Hs
  · intro R; exact wpE_waitDma2_eq _ _ none Set.univ R
  iintro Hs
  iapply (takePaid m ER c 17 (.gs 3) (by decide +kernel) ?_) $$ Hs
  · intro R; exact wpE_waitDma2_eq _ _ none Set.univ R
  iintro Hs
  iapply (takePaid m ER c 18 (.gs 4) (by decide +kernel) ?_) $$ Hs
  · intro R; exact wpE_waitDma2_eq _ _ none Set.univ R
  iintro Hs
  iapply (run_ret c _ Q)
  iapply HK
  iexact Hs

/-- The very first point: the four planes leave, the row of sums and the accumulator are cleared. -/
theorem head_first (c : Dev nD) (i : grid0.Coords) {arg2 harg2 arg3 harg3 arg4 harg4 arg5 harg5 arg6 harg6 arg8 harg8} (h1 : k0_cond1 i = 1#1) (hz : isFirst i) (X : S1x2048.Idx → Elt F .f32) (A : Vec F S512x2048 .f32) {Q : _ → sProp 𝕄} :
    iprop(stage m ER c 0 0 ∗ Rows.own q0 c A0 (opp c 0) (s0 m c) ∗ (∃ f, Rows.own q0 c D0 (opp c 0) f) ∗ Rows.own q0 c A0 (opp c (Fin.succ (0 : Fin 3))) (s0 m c) ∗ Rows.own q0 c A0 (opp c (Fin.succ (1 : Fin 3))) (s0 m c) ∗ Rows.own q0 c A0 (opp c (Fin.succ (2 : Fin 3))) (s0 m c) ∗ has c DG X ∗ has c AC A)
      ⊢ iprop((∀ a0 a1 v2 v5 v8 v13 v16 v19, (stage m ER c 4 0 ∗ has c DG (k0_pay8 k0_pay2) ∗ has c AC k0_pay9) -∗ Q ⟨a0, a1, c, v2, v5, v8, v13, v16, v19, k0_pay9⟩) -∗ run c (k0_part13 (F := F) i arg2 harg2 arg3 harg3 arg4 harg4 arg5 harg5 arg6 harg6 A0 (Memref.isWhole_whole _) arg8 harg8 DA (Memref.isWhole_whole _) D0 (Memref.isWhole_whole _) AC (Memref.isWhole_whole _) DG (Memref.isWhole_whole _) cc0_scratch2 cc0_scratch3 cc0_scratch4 cc0_scratch5 cc0_scratch6 cc0_scratch7) Q) := by
  rw [k0_part13_eq_skeleton]; unfold k0_part13_skel run
  simp only [Prog.lift, Prog.bind_op, Prog.bind_ret, Prog.pure_eq_ret, dif_pos h1, dif_pos hz, wp_bind, wp_deviceId]
  iintro ⟨Hs, Ha, Hd, H0, H1, H2, HX, HA⟩ HK
  iapply (issue1 m ER c i) $$ [Hs Ha Hd H0]
  · isplitl [Hs]; · iexact Hs
    isplitl [Ha]; · iexact Ha
    isplitl [Hd]; · iexact Hd
    iexact H0
  iintro %r Hs
  iapply (issue2 m ER c i _ _ _ _ _ h1 X) $$ [Hs H1 H2 HX]
  · isplitl [Hs]; · iexact Hs
    isplitl [H1]; · iexact H1
    isplitl [H2]; · iexact H2
    iexact HX
  iintro ⟨Hs, HX⟩
  iapply (storeFull c DG X (k0_pay8 k0_pay2)) $$ HX; iintro HX
  iapply (loadFull c AC A) $$ HA; iintro HA
  iapply (storeFull c AC A k0_pay9) $$ HA; iintro HA
  iapply (loadFull c AC k0_pay9) $$ HA; iintro HA
  iapply (run_ret c _ Q)
  iapply HK
  isplitl [Hs]; · iexact Hs
  isplitl [HX]; · iexact HX
  iexact HA

/-- The first point of a later row tile: the accumulator is cleared. -/
theorem head_zero (c : Dev nD) (i : grid0.Coords) {arg2 harg2 arg3 harg3 arg4 harg4 arg5 harg5 arg6 harg6 arg8 harg8} (h1 : ¬ k0_cond1 i = 1#1) (hz : isFirst i) (A : Vec F S512x2048 .f32) {Q : _ → sProp 𝕄} :
    has c AC A
      ⊢ iprop((∀ a0 a1 v2 v5 v8 v13 v16 v19, has c AC k0_pay9 -∗ Q ⟨a0, a1, c, v2, v5, v8, v13, v16, v19, k0_pay9⟩) -∗ run c (k0_part13 (F := F) i arg2 harg2 arg3 harg3 arg4 harg4 arg5 harg5 arg6 harg6 A0 (Memref.isWhole_whole _) arg8 harg8 DA (Memref.isWhole_whole _) D0 (Memref.isWhole_whole _) AC (Memref.isWhole_whole _) DG (Memref.isWhole_whole _) cc0_scratch2 cc0_scratch3 cc0_scratch4 cc0_scratch5 cc0_scratch6 cc0_scratch7) Q) := by
  rw [k0_part13_eq_skeleton]; unfold k0_part13_skel run
  simp only [Prog.lift, Prog.bind_op, Prog.bind_ret, Prog.pure_eq_ret, dif_neg h1, dif_pos hz, wp_bind, wp_deviceId]
  iintro HA HK
  iapply (loadFull c AC A) $$ HA; iintro HA
  iapply (storeFull c AC A k0_pay9) $$ HA; iintro HA
  iapply (loadFull c AC k0_pay9) $$ HA; iintro HA
  iapply (run_ret c _ Q)
  iapply HK
  iexact HA

/-- The other points: the accumulator is kept. -/
theorem head_next (c : Dev nD) (i : grid0.Coords) {arg2 harg2 arg3 harg3 arg4 harg4 arg5 harg5 arg6 harg6 arg8 harg8} (h1 : ¬ k0_cond1 i = 1#1) (hz : ¬ isFirst i) (A : Vec F S512x2048 .f32) {Q : _ → sProp 𝕄} :
    has c AC A
      ⊢ iprop((∀ a0 a1 v2 v5 v8 v13 v16 v19, has c AC A -∗ Q ⟨a0, a1, c, v2, v5, v8, v13, v16, v19, A⟩) -∗ run c (k0_part13 (F := F) i arg2 harg2 arg3 harg3 arg4 harg4 arg5 harg5 arg6 harg6 A0 (Memref.isWhole_whole _) arg8 harg8 DA (Memref.isWhole_whole _) D0 (Memref.isWhole_whole _) AC (Memref.isWhole_whole _) DG (Memref.isWhole_whole _) cc0_scratch2 cc0_scratch3 cc0_scratch4 cc0_scratch5 cc0_scratch6 cc0_scratch7) Q) := by
  rw [k0_part13_eq_skeleton]; unfold k0_part13_skel run
  simp only [Prog.lift, Prog.bind_op, Prog.bind_ret, Prog.pure_eq_ret, dif_neg h1, dif_neg hz, wp_bind, wp_deviceId]
  iintro HA HK
  iapply (loadFull c AC A) $$ HA; iintro HA
  iapply (run_ret c _ Q)
  iapply HK
  iexact HA

end Cert.InputIdeal.GI

end
-- ==== Proof.InputKinds.lean ====
module

public import proofs.«01_k».proof.Proof.InputMoves

@[expose] public section

noncomputable section

/-! The body of the third kernel at each kind of grid point. -/

namespace Cert.InputIdeal.GI

open Idealize.ShloMosaic
open Idealize.SL
open Idealize.SL.BI
open scoped Idealize.SL.BI
open Idealize.SL.BI.BIBase Idealize.SL.BI.Laws Idealize.SL.Sem Idealize.SL.ProofMode
open Idealize.SL.RA
open Idealize.ShloMosaic.TcCoe
open Idealize.ShloMosaic.Rounds
open Idealize.ShloMosaic.ValueIdx
open Idealize.ShloMosaic.Pipeline
open Cert.InputIdeal.Gen
open Cert.KernelIdeal.GW (flip chip opp onChip bits arrived opp_injective)

set_option Elab.async false

variable {F : FTy → Type} [FloatOps F]
variable (m : (ℓ : Loc nD τ sig) → Buf (Elt F) ℓ)
variable {U : Type} [URA U]
variable (ER : Emb (URounds (GSem nD τ sig) Unit) (MT nD τ sig Unit (Elt F) ℕ U ℕ))
local notation "𝕄" => MT nD τ sig Unit (Elt F) ℕ U ℕ
/-! ### Buffers cut up and put together -/

theorem bigSep_four (Φ : Fin 4 → sProp 𝕄) : bigSep Finset.univ Φ = iprop(Φ 0 ∗ Φ 1 ∗ Φ 2 ∗ Φ 3) := bigSep_univ_eq_bigSepL [0, 1, 2, 3] (by decide) (by decide) Φ
theorem bigSep_eight (Φ : Fin 8 → sProp 𝕄) : bigSep Finset.univ Φ = iprop(Φ 0 ∗ Φ 1 ∗ Φ 2 ∗ Φ 3 ∗ Φ 4 ∗ Φ 5 ∗ Φ 6 ∗ Φ 7) := bigSep_univ_eq_bigSepL [0, 1, 2, 3, 4, 5, 6, 7] (by decide) (by decide) Φ
theorem bigSep_keys (Φ : Key → sProp 𝕄) : bigSep Finset.univ Φ = iprop(Φ (.sd 0) ∗ Φ (.sd 1) ∗ Φ (.sd 2) ∗ Φ (.rv 0) ∗ Φ (.rv 1) ∗ Φ (.rv 2) ∗ Φ .lc ∗ Φ (.gs 0) ∗ Φ (.gs 1) ∗ Φ (.gs 2) ∗ Φ (.gs 3) ∗ Φ (.gs 4) ∗ Φ (.gs 5) ∗ Φ (.gs 6) ∗ Φ (.gr 0) ∗ Φ (.gr 1) ∗ Φ (.gr 2) ∗ Φ (.gr 3) ∗ Φ (.gr 4) ∗ Φ (.gr 5) ∗ Φ (.gr 6) ∗ Φ .gl) :=
  bigSep_univ_eq_bigSepL [Key.sd 0, Key.sd 1, Key.sd 2, Key.rv 0, Key.rv 1, Key.rv 2, Key.lc, Key.gs 0, Key.gs 1, Key.gs 2, Key.gs 3, Key.gs 4, Key.gs 5, Key.gs 6, Key.gr 0, Key.gr 1, Key.gr 2, Key.gr 3, Key.gr 4, Key.gr 5, Key.gr 6, Key.gl] (by decide) (by decide) Φ

/-- A memref's whole buffer at contents `f`. -/
abbrev full (c : Dev nD) {sp : Space} {s : Shape} {e : EltTy} (M : Memref sig .tc sp s e) (f : Buf (Elt F) (M.view.loc (c.tc : Thread nD τ))) : sProp 𝕄 :=
  M.view.loc (c.tc : Thread nD τ) ↦{fullShare} f

/-- A stack of four planes, in the order of the chips seen from `c`. -/
theorem planes (c : Dev nD) {sp : Space} (M : Memref sig .tc sp S4x2048x896 .bf16) (hM : M.view.set = Finset.univ) (f : Buf (Elt F) (M.view.loc (c.tc : Thread nD τ))) :
    (full c M f : sProp 𝕄) = iprop(Rows.own q0 c M (opp c 0) f ∗ Rows.own q0 c M (opp c 1) f ∗ Rows.own q0 c M (opp c 2) f ∗ Rows.own q0 c M (opp c 3) f) := by
  unfold full
  rw [Rows.whole_rows q0 c M hM (opp c) (opp_injective c), bigSep_four]

theorem flip_injective (c : Dev nD) : Function.Injective (fun q : Fin 8 => (flip q c : Fin 8)) := by revert c; decide +kernel
theorem flip_none (c : Dev nD) : flip 0 c = c := by revert c; decide +kernel

/-- The eight rows, in the order of the devices seen from `c`. -/
theorem rows8 (c : Dev nD) (f : Buf (Elt F) (DA.view.loc (c.tc : Thread nD τ))) :
    (full c DA f : sProp 𝕄) = iprop(Rows.own q9 c DA c f ∗ Rows.own q9 c DA (flip (Fin.succ (0 : Fin 7)) c) f ∗ Rows.own q9 c DA (flip (Fin.succ (1 : Fin 7)) c) f ∗ Rows.own q9 c DA (flip (Fin.succ (2 : Fin 7)) c) f ∗ Rows.own q9 c DA (flip (Fin.succ (3 : Fin 7)) c) f ∗ Rows.own q9 c DA (flip (Fin.succ (4 : Fin 7)) c) f ∗ Rows.own q9 c DA (flip (Fin.succ (5 : Fin 7)) c) f ∗ Rows.own q9 c DA (flip (Fin.succ (6 : Fin 7)) c) f) := by
  unfold full
  rw [Rows.whole_rows q9 c DA (View.set_whole _) (fun q : Fin 8 => (flip q c : Fin 8)) (flip_injective c), bigSep_eight]
  show iprop(Rows.own q9 c DA (flip 0 c) f ∗ _) = _
  rw [flip_none]
  rfl

/-- A row lent out in eight shares. -/
theorem shares8 (c : Dev nD) (f : Buf (Elt F) (DG.view.loc (c.tc : Thread nD τ))) :
    (has c DG f : sProp 𝕄) ⊢ iprop(holds c DG (eighth 0) f ∗ holds c DG (eighth 1) f ∗ holds c DG (eighth 2) f ∗ holds c DG (eighth 3) f ∗ holds c DG (eighth 4) f ∗ holds c DG (eighth 5) f ∗ holds c DG (eighth 6) f ∗ holds c DG (eighth 7) f) := by
  have hq (q : PosShare TreeShare) : (holds c DG q f : sProp 𝕄) ⊢ iprop(holds c DG q.left f ∗ holds c DG q.right f) := (pointsTo_share (PosShare.mem_left_op_right q)).1
  have hw : (has c DG f : sProp 𝕄) ⊢ holds c DG fullShare f := Entails.of_eq (by rw [has_whole]; unfold holds; rw [show DG.view.set = Finset.univ from View.set_whole _])
  iintro H
  ihave H := hw $$ H
  ihave H := (hq fullShare) $$ H
  icases H with ⟨Hl, Hr⟩
  ihave Hl := (hq fullShare.left) $$ Hl
  icases Hl with ⟨Hll, Hlr⟩
  ihave Hll := (hq fullShare.left.left) $$ Hll
  icases Hll with ⟨Hlll, Hllr⟩
  ihave Hlr := (hq fullShare.left.right) $$ Hlr
  icases Hlr with ⟨Hlrl, Hlrr⟩
  ihave Hr := (hq fullShare.right) $$ Hr
  icases Hr with ⟨Hrl, Hrr⟩
  ihave Hrl := (hq fullShare.right.left) $$ Hrl
  icases Hrl with ⟨Hrll, Hrlr⟩
  ihave Hrr := (hq fullShare.right.right) $$ Hrr
  icases Hrr with ⟨Hrrl, Hrrr⟩
  isplitl [Hlll]; · iexact Hlll
  isplitl [Hllr]; · iexact Hllr
  isplitl [Hlrl]; · iexact Hlrl
  isplitl [Hlrr]; · iexact Hlrr
  isplitl [Hrll]; · iexact Hrll
  isplitl [Hrlr]; · iexact Hrlr
  isplitl [Hrrl]; · iexact Hrrl
  iexact Hrrr

/-- The eight shares put together again. -/
theorem shares8_back (c : Dev nD) (f : Buf (Elt F) (DG.view.loc (c.tc : Thread nD τ))) :
    iprop(holds c DG (eighth 0) f ∗ holds c DG (eighth 1) f ∗ holds c DG (eighth 2) f ∗ holds c DG (eighth 3) f ∗ holds c DG (eighth 4) f ∗ holds c DG (eighth 5) f ∗ holds c DG (eighth 6) f ∗ holds c DG (eighth 7) f) ⊢ (has c DG f : sProp 𝕄) := by
  have hq (q : PosShare TreeShare) : iprop(holds c DG q.left f ∗ holds c DG q.right f) ⊢ (holds c DG q f : sProp 𝕄) := (pointsTo_share (PosShare.mem_left_op_right q)).2
  have hw : (holds c DG fullShare f : sProp 𝕄) ⊢ has c DG f := Entails.of_eq (by rw [has_whole]; unfold holds; rw [show DG.view.set = Finset.univ from View.set_whole _])
  iintro ⟨Hlll, Hllr, Hlrl, Hlrr, Hrll, Hrlr, Hrrl, Hrrr⟩
  ihave Hll := (hq fullShare.left.left) $$ [Hlll Hllr]
  · isplitl [Hlll]; · iexact Hlll
    iexact Hllr
  ihave Hlr := (hq fullShare.left.right) $$ [Hlrl Hlrr]
  · isplitl [Hlrl]; · iexact Hlrl
    iexact Hlrr
  ihave Hl := (hq fullShare.left) $$ [Hll Hlr]
  · isplitl [Hll]; · iexact Hll
    iexact Hlr
  ihave Hrl := (hq fullShare.right.left) $$ [Hrll Hrlr]
  · isplitl [Hrll]; · iexact Hrll
    iexact Hrlr
  ihave Hrr := (hq fullShare.right.right) $$ [Hrrl Hrrr]
  · isplitl [Hrrl]; · iexact Hrrl
    iexact Hrrr
  ihave Hr := (hq fullShare.right) $$ [Hrl Hrr]
  · isplitl [Hrl]; · iexact Hrl
    iexact Hrr
  ihave H := (hq fullShare) $$ [Hl Hr]
  · isplitl [Hl]; · iexact Hl
    iexact Hr
  iapply hw
  iexact H

/-- Everything paid: the planes arrived, the planes back, the rows arrived, and the row of sums back. -/
theorem gather (c : Dev nD) :
    paid m ER c 22 ⊢ iprop(stage m ER c 12 22 ∗ full c D0 (arrived (s0 m) c) ∗ full c A0 (s0 m c) ∗ full c DA (gains m) ∗ has c DG (gainAt m c 8)) := by
  have hD := planes (U := U) c D0 (View.set_whole _) (arrived (s0 m) c)
  have hA := planes (U := U) c A0 (View.set_whole _) (s0 m c)
  have hG := shares8_back (U := U) c (gainAt m c 8)
  unfold paid
  rw [early_end, bigSep_keys, hD, hA, rows8]
  unfold pay
  iintro ⟨Hs, sd0, sd1, sd2, rv0, rv1, rv2, ⟨lcd, lca⟩, gs0, gs1, gs2, gs3, gs4, gs5, gs6, gr0, gr1, gr2, gr3, gr4, gr5, gr6, ⟨gld, glg⟩⟩
  isplitl [Hs]; · iexact Hs
  isplitl [lcd rv0 rv1 rv2]
  · isplitl [lcd]; · iexact lcd
    isplitl [rv0]; · iexact rv0
    isplitl [rv1]; · iexact rv1
    iexact rv2
  isplitl [lca sd0 sd1 sd2]
  · isplitl [lca]; · iexact lca
    isplitl [sd0]; · iexact sd0
    isplitl [sd1]; · iexact sd1
    iexact sd2
  isplitl [gld gr0 gr1 gr2 gr3 gr4 gr5 gr6]
  · isplitl [gld]; · iexact gld
    isplitl [gr0]; · iexact gr0
    isplitl [gr1]; · iexact gr1
    isplitl [gr2]; · iexact gr2
    isplitl [gr3]; · iexact gr3
    isplitl [gr4]; · iexact gr4
    isplitl [gr5]; · iexact gr5
    iexact gr6
  iapply hG
  isplitl [gs0]; · iexact gs0
  isplitl [gs1]; · iexact gs1
  isplitl [gs2]; · iexact gs2
  isplitl [gs3]; · iexact gs3
  isplitl [gs4]; · iexact gs4
  isplitl [gs5]; · iexact gs5
  isplitl [gs6]; · iexact gs6
  iexact glg

/-! ### The body at each kind of grid point -/

/-- The five windows read. -/
def ins (c : Dev nD) (arg2 : Memref sig .tc .vmem S512x1792 .bf16) (arg3 : Memref sig .tc .vmem S1792x2048 .bf16) (arg4 arg5 : Memref sig .tc .vmem S512x2048 .f32) (arg6 : Memref sig .tc .vmem S1x2048 .f32)
    (a : Vec F S512x1792 .bf16) (b : Vec F S1792x2048 .bf16) (x o : Vec F S512x2048 .f32) (g : Vec F S1x2048 .f32) : sProp 𝕄 :=
  iprop(has c arg2 a ∗ has c arg3 b ∗ has c arg4 x ∗ has c arg5 o ∗ has c arg6 g)

/-- The first point: the planes leave, and the accumulator starts. -/
theorem point_first (c : Dev nD) (i : grid0.Coords) {arg2 harg2 arg3 harg3 arg4 harg4 arg5 harg5 arg6 harg6 arg8 harg8} (h1 : k0_cond1 i = 1#1) (hz : isFirst i) (h3 : ¬ k0_cond3 i = 1#1) (h4 : ¬ k0_cond4 i = 1#1) (G : S1x2048.Idx → Elt F .f32) (X : Vec F S512x2048 .f32) (a : Vec F S512x1792 .bf16) (b : Vec F S1792x2048 .bf16) (x o : Vec F S512x2048 .f32) (g : Vec F S1x2048 .f32) {Q : PUnit → sProp 𝕄} :
    iprop(stage m ER c 0 0 ∗ Rows.own q0 c A0 (opp c 0) (s0 m c) ∗ (∃ f, Rows.own q0 c D0 (opp c 0) f) ∗ Rows.own q0 c A0 (opp c (Fin.succ (0 : Fin 3))) (s0 m c) ∗ Rows.own q0 c A0 (opp c (Fin.succ (1 : Fin 3))) (s0 m c) ∗ Rows.own q0 c A0 (opp c (Fin.succ (2 : Fin 3))) (s0 m c) ∗ has c DG G ∗ has c AC X ∗ ins c arg2 arg3 arg4 arg5 arg6 a b x o g)
      ⊢ iprop(((stage m ER c 4 0 ∗ has c DG (k0_pay8 k0_pay2) ∗ has c AC (k0_pay1 k0_pay9 a b) ∗ ins c arg2 arg3 arg4 arg5 arg6 a b x o g) -∗ Q ⟨⟩)
        -∗ run c (cc0_input_grad (F := F) i arg2 harg2 arg3 harg3 arg4 harg4 arg5 harg5 arg6 harg6 A0 (Memref.isWhole_whole _) arg8 harg8 DA (Memref.isWhole_whole _) D0 (Memref.isWhole_whole _) AC (Memref.isWhole_whole _) DG (Memref.isWhole_whole _) cc0_scratch2 cc0_scratch3 cc0_scratch4 cc0_scratch5 cc0_scratch6 cc0_scratch7) Q) := by
  rw [cc0_input_grad_eq_skeleton]; unfold cc0_input_grad_skel run ins
  simp only [Prog.lift, Prog.bind_op, Prog.bind_ret, Prog.pure_eq_ret, dif_neg h3, dif_neg h4, wp_bind]
  iintro ⟨Hs, Ha, Hd, H0, H1, H2, HG, HX, HA, HB, Hx, Ho, Hg⟩ HK
  iapply (head_first m ER c i h1 hz G X) $$ [Hs Ha Hd H0 H1 H2 HG HX]
  · isplitl [Hs]; · iexact Hs
    isplitl [Ha]; · iexact Ha
    isplitl [Hd]; · iexact Hd
    isplitl [H0]; · iexact H0
    isplitl [H1]; · iexact H1
    isplitl [H2]; · iexact H2
    isplitl [HG]; · iexact HG
    iexact HX
  iintro %a0 %a1 %v2 %v5 %v8 %v13 %v16 %v19 ⟨Hs, HG, HX⟩
  iapply (loadFull c arg2 a) $$ HA; iintro HA
  iapply (loadFull c arg3 b) $$ HB; iintro HB
  iapply (loadFull c AC k0_pay9) $$ HX; iintro HX
  iapply (storeFull c AC k0_pay9 (k0_pay1 k0_pay9 a b)) $$ HX; iintro HX
  iapply (run_ret c _ Q)
  iapply HK
  isplitl [Hs]; · iexact Hs
  isplitl [HG]; · iexact HG
  isplitl [HX]; · iexact HX
  isplitl [HA]; · iexact HA
  isplitl [HB]; · iexact HB
  isplitl [Hx]; · iexact Hx
  isplitl [Ho]; · iexact Ho
  iexact Hg

/-- The first point of a later row tile. -/
theorem point_zero (c : Dev nD) (i : grid0.Coords) {arg2 harg2 arg3 harg3 arg4 harg4 arg5 harg5 arg6 harg6 arg8 harg8} (h1 : ¬ k0_cond1 i = 1#1) (hz : isFirst i) (h3 : ¬ k0_cond3 i = 1#1) (h4 : ¬ k0_cond4 i = 1#1) (X : Vec F S512x2048 .f32) (a : Vec F S512x1792 .bf16) (b : Vec F S1792x2048 .bf16) (x o : Vec F S512x2048 .f32) (g : Vec F S1x2048 .f32) {Q : PUnit → sProp 𝕄} :
    iprop(has c AC X ∗ ins c arg2 arg3 arg4 arg5 arg6 a b x o g)
      ⊢ iprop(((has c AC (k0_pay1 k0_pay9 a b) ∗ ins c arg2 arg3 arg4 arg5 arg6 a b x o g) -∗ Q ⟨⟩)
        -∗ run c (cc0_input_grad (F := F) i arg2 harg2 arg3 harg3 arg4 harg4 arg5 harg5 arg6 harg6 A0 (Memref.isWhole_whole _) arg8 harg8 DA (Memref.isWhole_whole _) D0 (Memref.isWhole_whole _) AC (Memref.isWhole_whole _) DG (Memref.isWhole_whole _) cc0_scratch2 cc0_scratch3 cc0_scratch4 cc0_scratch5 cc0_scratch6 cc0_scratch7) Q) := by
  rw [cc0_input_grad_eq_skeleton]; unfold cc0_input_grad_skel run ins
  simp only [Prog.lift, Prog.bind_op, Prog.bind_ret, Prog.pure_eq_ret, dif_neg h3, dif_neg h4, wp_bind]
  iintro ⟨HX, HA, HB, Hx, Ho, Hg⟩ HK
  iapply (head_zero c i h1 hz X) $$ [HX]
  · iexact HX
  iintro %a0 %a1 %v2 %v5 %v8 %v13 %v16 %v19 HX
  iapply (loadFull c arg2 a) $$ HA; iintro HA
  iapply (loadFull c arg3 b) $$ HB; iintro HB
  iapply (loadFull c AC k0_pay9) $$ HX; iintro HX
  iapply (storeFull c AC k0_pay9 (k0_pay1 k0_pay9 a b)) $$ HX; iintro HX
  iapply (run_ret c _ Q)
  iapply HK
  isplitl [HX]; · iexact HX
  isplitl [HA]; · iexact HA
  isplitl [HB]; · iexact HB
  isplitl [Hx]; · iexact Hx
  isplitl [Ho]; · iexact Ho
  iexact Hg

/-- The second and third point of a row tile. -/
theorem point_next (c : Dev nD) (i : grid0.Coords) {arg2 harg2 arg3 harg3 arg4 harg4 arg5 harg5 arg6 harg6 arg8 harg8} (h1 : ¬ k0_cond1 i = 1#1) (hz : ¬ isFirst i) (h3 : ¬ k0_cond3 i = 1#1) (h4 : ¬ k0_cond4 i = 1#1) (X : Vec F S512x2048 .f32) (a : Vec F S512x1792 .bf16) (b : Vec F S1792x2048 .bf16) (x o : Vec F S512x2048 .f32) (g : Vec F S1x2048 .f32) {Q : PUnit → sProp 𝕄} :
    iprop(has c AC X ∗ ins c arg2 arg3 arg4 arg5 arg6 a b x o g)
      ⊢ iprop(((has c AC (k0_pay1 X a b) ∗ ins c arg2 arg3 arg4 arg5 arg6 a b x o g) -∗ Q ⟨⟩)
        -∗ run c (cc0_input_grad (F := F) i arg2 harg2 arg3 harg3 arg4 harg4 arg5 harg5 arg6 harg6 A0 (Memref.isWhole_whole _) arg8 harg8 DA (Memref.isWhole_whole _) D0 (Memref.isWhole_whole _) AC (Memref.isWhole_whole _) DG (Memref.isWhole_whole _) cc0_scratch2 cc0_scratch3 cc0_scratch4 cc0_scratch5 cc0_scratch6 cc0_scratch7) Q) := by
  rw [cc0_input_grad_eq_skeleton]; unfold cc0_input_grad_skel run ins
  simp only [Prog.lift, Prog.bind_op, Prog.bind_ret, Prog.pure_eq_ret, dif_neg h3, dif_neg h4, wp_bind]
  iintro ⟨HX, HA, HB, Hx, Ho, Hg⟩ HK
  iapply (head_next c i h1 hz X) $$ [HX]
  · iexact HX
  iintro %a0 %a1 %v2 %v5 %v8 %v13 %v16 %v19 HX
  iapply (loadFull c arg2 a) $$ HA; iintro HA
  iapply (loadFull c arg3 b) $$ HB; iintro HB
  iapply (loadFull c AC X) $$ HX; iintro HX
  iapply (storeFull c AC X (k0_pay1 X a b)) $$ HX; iintro HX
  iapply (run_ret c _ Q)
  iapply HK
  isplitl [HX]; · iexact HX
  isplitl [HA]; · iexact HA
  isplitl [HB]; · iexact HB
  isplitl [Hx]; · iexact Hx
  isplitl [Ho]; · iexact Ho
  iexact Hg

/-- The last point of a row tile but the last one: the tile is finished. -/
theorem point_end (c : Dev nD) (i : grid0.Coords) {arg2 harg2 arg3 harg3 arg4 harg4 arg5 harg5 arg6 harg6 arg8 harg8} (h1 : ¬ k0_cond1 i = 1#1) (hz : ¬ isFirst i) (h3 : k0_cond3 i = 1#1) (h4 : ¬ k0_cond4 i = 1#1) (G : S1x2048.Idx → Elt F .f32) (X Y : Vec F S512x2048 .f32) (a : Vec F S512x1792 .bf16) (b : Vec F S1792x2048 .bf16) (x o : Vec F S512x2048 .f32) (g : Vec F S1x2048 .f32) {Q : PUnit → sProp 𝕄} :
    iprop(has c DG G ∗ has c AC X ∗ has c arg8 Y ∗ ins c arg2 arg3 arg4 arg5 arg6 a b x o g)
      ⊢ iprop(((has c DG (k0_pay6 x (k0_pay1 X a b) G) ∗ has c AC (k0_pay1 X a b) ∗ has c arg8 (k0_pay7 x g (k0_pay1 X a b) o) ∗ ins c arg2 arg3 arg4 arg5 arg6 a b x o g) -∗ Q ⟨⟩)
        -∗ run c (cc0_input_grad (F := F) i arg2 harg2 arg3 harg3 arg4 harg4 arg5 harg5 arg6 harg6 A0 (Memref.isWhole_whole _) arg8 harg8 DA (Memref.isWhole_whole _) D0 (Memref.isWhole_whole _) AC (Memref.isWhole_whole _) DG (Memref.isWhole_whole _) cc0_scratch2 cc0_scratch3 cc0_scratch4 cc0_scratch5 cc0_scratch6 cc0_scratch7) Q) := by
  rw [cc0_input_grad_eq_skeleton]; unfold cc0_input_grad_skel run ins
  simp only [Prog.lift, Prog.bind_op, Prog.bind_ret, Prog.pure_eq_ret, dif_pos h3, dif_neg h4, wp_bind]
  iintro ⟨HG, HX, HY, HA, HB, Hx, Ho, Hg⟩ HK
  iapply (head_next c i h1 hz X) $$ [HX]
  · iexact HX
  iintro %a0 %a1 %v2 %v5 %v8 %v13 %v16 %v19 HX
  iapply (loadFull c arg2 a) $$ HA; iintro HA
  iapply (loadFull c arg3 b) $$ HB; iintro HB
  iapply (loadFull c AC X) $$ HX; iintro HX
  iapply (storeFull c AC X (k0_pay1 X a b)) $$ HX; iintro HX
  simp only [run, wp_bind]
  iapply (fold3 c i x g (k0_pay1 X a b) G o Y) $$ [Hx Hg HX HG Ho HY]
  · isplitl [Hx]; · iexact Hx
    isplitl [Hg]; · iexact Hg
    isplitl [HX]; · iexact HX
    isplitl [HG]; · iexact HG
    isplitl [Ho]; · iexact Ho
    iexact HY
  iintro ⟨Hx, Hg, HX, HG, Ho, HY⟩
  iapply (storeFull c arg8 Y (k0_pay7 x g (k0_pay1 X a b) o)) $$ HY; iintro HY
  iapply (run_ret c _ Q)
  iapply HK
  isplitl [HG]; · iexact HG
  isplitl [HX]; · iexact HX
  isplitl [HY]; · iexact HY
  isplitl [HA]; · iexact HA
  isplitl [HB]; · iexact HB
  isplitl [Hx]; · iexact Hx
  isplitl [Ho]; · iexact Ho
  iexact Hg

set_option maxHeartbeats 400000 in
/-- The very last point: the row of sums goes everywhere, and all that was sent is waited for. -/
theorem point_last (c : Dev nD) (i : grid0.Coords) {arg2 harg2 arg3 harg3 arg4 harg4 arg5 harg5 arg6 harg6 arg8 harg8} (h1 : ¬ k0_cond1 i = 1#1) (hz : ¬ isFirst i) (h3 : k0_cond3 i = 1#1) (h4 : k0_cond4 i = 1#1) (G : S1x2048.Idx → Elt F .f32) (X Y : Vec F S512x2048 .f32) (a : Vec F S512x1792 .bf16) (b : Vec F S1792x2048 .bf16) (x o : Vec F S512x2048 .f32) (g : Vec F S1x2048 .f32)
    (hG : k0_pay6 x (k0_pay1 X a b) G = gainAt m c 8) {Q : PUnit → sProp 𝕄} :
    iprop(stage m ER c 4 0 ∗ (∃ f, Rows.own q9 c DA c f) ∗ has c DG G ∗ has c AC X ∗ has c arg8 Y ∗ ins c arg2 arg3 arg4 arg5 arg6 a b x o g)
      ⊢ iprop(((stage m ER c 12 22 ∗ full c D0 (arrived (s0 m) c) ∗ full c A0 (s0 m c) ∗ full c DA (gains m) ∗ has c DG (gainAt m c 8) ∗ has c AC (k0_pay1 X a b) ∗ has c arg8 (k0_pay7 x g (k0_pay1 X a b) o) ∗ ins c arg2 arg3 arg4 arg5 arg6 a b x o g) -∗ Q ⟨⟩)
        -∗ run c (cc0_input_grad (F := F) i arg2 harg2 arg3 harg3 arg4 harg4 arg5 harg5 arg6 harg6 A0 (Memref.isWhole_whole _) arg8 harg8 DA (Memref.isWhole_whole _) D0 (Memref.isWhole_whole _) AC (Memref.isWhole_whole _) DG (Memref.isWhole_whole _) cc0_scratch2 cc0_scratch3 cc0_scratch4 cc0_scratch5 cc0_scratch6 cc0_scratch7) Q) := by
  rw [cc0_input_grad_eq_skeleton]; unfold cc0_input_grad_skel run ins
  simp only [Prog.lift, Prog.bind_op, Prog.bind_ret, Prog.pure_eq_ret, dif_pos h3, dif_pos h4, wp_bind]
  iintro ⟨Hs, Hd, HG, HX, HY, HA, HB, Hx, Ho, Hg⟩ HK
  iapply (head_next c i h1 hz X) $$ [HX]
  · iexact HX
  iintro %a0 %a1 %v2 %v5 %v8 %v13 %v16 %v19 HX
  iapply (loadFull c arg2 a) $$ HA; iintro HA
  iapply (loadFull c arg3 b) $$ HB; iintro HB
  iapply (loadFull c AC X) $$ HX; iintro HX
  iapply (storeFull c AC X (k0_pay1 X a b)) $$ HX; iintro HX
  simp only [run, wp_bind]
  iapply (fold3 c i x g (k0_pay1 X a b) G o Y) $$ [Hx Hg HX HG Ho HY]
  · isplitl [Hx]; · iexact Hx
    isplitl [Hg]; · iexact Hg
    isplitl [HX]; · iexact HX
    isplitl [HG]; · iexact HG
    isplitl [Ho]; · iexact Ho
    iexact HY
  iintro ⟨Hx, Hg, HX, HG, Ho, HY⟩
  iapply (storeFull c arg8 Y (k0_pay7 x g (k0_pay1 X a b) o)) $$ HY; iintro HY
  rw [hG]
  ihave HG := (shares8 c (gainAt m c 8)) $$ HG
  icases HG with ⟨E0, E1, E2, E3, E4, E5, E6, E7⟩
  simp only [run, wp_bind]
  iapply (near4 m ER c i) $$ [Hs E7 Hd]
  · isplitl [Hs]; · iexact Hs
    isplitl [E7]; · iexact E7
    iexact Hd
  iintro %r4 Hs
  iapply (send5 m ER c i) $$ [Hs E0 E1 E2]
  · isplitl [Hs]; · iexact Hs
    isplitl [E0]; · iexact E0
    isplitl [E1]; · iexact E1
    iexact E2
  iintro %r5 Hs
  iapply (send6 m ER c i) $$ [Hs E3 E4 E5]
  · isplitl [Hs]; · iexact Hs
    isplitl [E3]; · iexact E3
    isplitl [E4]; · iexact E4
    iexact E5
  iintro %r6 Hs
  iapply (mixed7 m ER c i) $$ [Hs E6]
  · isplitl [Hs]; · iexact Hs
    iexact E6
  iintro %r7 Hs
  iapply (take8 m ER c i) $$ Hs
  iintro %r8 Hs
  iapply (take9 m ER c i) $$ Hs
  iintro %r9 Hs
  iapply (take10 m ER c i) $$ Hs
  iintro %r10 Hs
  iapply (take11 m ER c i) $$ Hs
  iintro %r11 Hs
  iapply (take12 m ER c i) $$ Hs
  iintro %r12 Hs
  iapply (takePaid m ER c 19 (.gs 5) (by decide +kernel) ?_) $$ Hs
  · intro R; exact wpE_waitDma2_eq _ _ none Set.univ R
  iintro Hs
  iapply (takePaid m ER c 20 (.gs 6) (by decide +kernel) ?_) $$ Hs
  · intro R; exact wpE_waitDma2_eq _ _ none Set.univ R
  iintro Hs
  iapply (takePaid m ER c 21 (.gl) (by decide +kernel) ?_) $$ Hs
  · intro R; exact wpE_waitDma2_eq _ _ none Set.univ R
  iintro Hs
  ihave Hs := (gather m ER c) $$ Hs
  icases Hs with ⟨Hs, GD, GA, GG, HG⟩
  iapply (run_ret c _ Q)
  iapply HK
  isplitl [Hs]; · iexact Hs
  isplitl [GD]; · iexact GD
  isplitl [GA]; · iexact GA
  isplitl [GG]; · iexact GG
  isplitl [HG]; · iexact HG
  isplitl [HX]; · iexact HX
  isplitl [HY]; · iexact HY
  isplitl [HA]; · iexact HA
  isplitl [HB]; · iexact HB
  isplitl [Hx]; · iexact Hx
  isplitl [Ho]; · iexact Ho
  iexact Hg

end Cert.InputIdeal.GI

end
-- ==== Proof.InputBody.lean ====
module

public import proofs.«01_k».proof.Proof.InputKinds

@[expose] public section

noncomputable section

/-! The body of the third kernel, one grid point after another. -/

namespace Cert.InputIdeal.GI

open Idealize.ShloMosaic
open Idealize.SL
open Idealize.SL.BI
open scoped Idealize.SL.BI
open Idealize.SL.BI.BIBase Idealize.SL.BI.Laws Idealize.SL.Sem Idealize.SL.ProofMode
open Idealize.SL.RA
open Idealize.ShloMosaic.TcCoe
open Idealize.ShloMosaic.Rounds
open Idealize.ShloMosaic.ValueIdx
open Idealize.ShloMosaic.Pipeline
open Cert.InputIdeal.Gen
open Cert.KernelIdeal.GW (flip chip opp onChip bits arrived opp_injective)

set_option Elab.async false

variable {F : FTy → Type} [FloatOps F]
variable (m : (ℓ : Loc nD τ sig) → Buf (Elt F) ℓ)
variable {U : Type} [URA U]
variable (ER : Emb (URounds (GSem nD τ sig) Unit) (MT nD τ sig Unit (Elt F) ℕ U ℕ))
local notation "𝕄" => MT nD τ sig Unit (Elt F) ℕ U ℕ
/-! ### What the scratch buffers hold -/

theorem ablk_eq (c : Dev nD) (t : Fin cfg0.N) : ablk m c t.val = iblk m c 0 t := by unfold ablk; rw [dif_pos t.isLt]
theorem bblk_eq (c : Dev nD) (t : Fin cfg0.N) : bblk m c t.val = iblk m c 1 t := by unfold bblk; rw [dif_pos t.isLt]
theorem xblk_eq (c : Dev nD) (t : Fin cfg0.N) : xblk m c t.val = iblk m c 2 t := by unfold xblk; rw [dif_pos t.isLt]
theorem oblk_eq (c : Dev nD) (t : Fin cfg0.N) : oblk m c t.val = iblk m c 3 t := by unfold oblk; rw [dif_pos t.isLt]
theorem gblk_eq (c : Dev nD) (t : Fin cfg0.N) : gblk m c t.val = iblk m c 4 t := by unfold gblk; rw [dif_pos t.isLt]

theorem accAt_start (c : Dev nD) (t : Fin cfg0.N) (h : t.val % 4 = 0) : accAt m c t.val = k0_pay1 k0_pay9 (iblk m c 0 t) (iblk m c 1 t) := by
  rw [← ablk_eq, ← bblk_eq]
  generalize t.val = n at h
  cases n with
  | zero => rfl
  | succ n => show k0_pay1 (if (n + 1) % 4 = 0 then _ else _) _ _ = _; rw [if_pos h]

theorem accAt_step (c : Dev nD) (t : Fin cfg0.N) (h : ¬ t.val % 4 = 0) :
    accAt m c t.val = k0_pay1 (accAt m c (t.val - 1)) (iblk m c 0 t) (iblk m c 1 t) := by
  rw [← ablk_eq, ← bblk_eq]
  generalize t.val = n at h
  cases n with
  | zero => exact absurd rfl h
  | succ n => show k0_pay1 (if (n + 1) % 4 = 0 then _ else _) _ _ = _; rw [if_neg h]; rfl

theorem gainAt_step (c : Dev nD) (t : Fin cfg0.N) (h : t.val % 4 = 3) : gainAt m c (t.val / 4 + 1) = k0_pay6 (iblk m c 2 t) (accAt m c t.val) (gainAt m c (t.val / 4)) := by
  rw [← xblk_eq]
  show k0_pay6 (xblk m c (4 * (t.val / 4) + 3)) (accAt m c (4 * (t.val / 4) + 3)) _ = _
  rw [show 4 * (t.val / 4) + 3 = t.val by omega]

theorem gxAt_eq (c : Dev nD) (t : Fin cfg0.N) : gxAt m c t.val = k0_pay7 (iblk m c 2 t) (iblk m c 4 t) (accAt m c t.val) (iblk m c 3 t) := by
  unfold gxAt; rw [xblk_eq, gblk_eq, oblk_eq]

/-! ### The invariant -/

/-- How many transfers have been started before point `t`, and how many waits have passed. -/
def issued (t : ℕ) : ℕ := if t = 0 then 0 else if t = 32 then 12 else 4
def passed (t : ℕ) : ℕ := if t = 32 then 22 else 0

/-- The planes to be sent, and the place of the one that stays. -/
def opening (c : Dev nD) : sProp 𝕄 := iprop(Rows.own q0 c A0 (opp c 0) (s0 m c) ∗ (∃ f, Rows.own q0 c D0 (opp c 0) f) ∗ Rows.own q0 c A0 (opp c (Fin.succ (0 : Fin 3))) (s0 m c) ∗ Rows.own q0 c A0 (opp c (Fin.succ (1 : Fin 3))) (s0 m c) ∗ Rows.own q0 c A0 (opp c (Fin.succ (2 : Fin 3))) (s0 m c))
/-- The place of the device's own row. -/
def mine (c : Dev nD) : sProp 𝕄 := iprop(∃ f, Rows.own q9 c DA c f)
/-- What has arrived, and what was sent and has come back. -/
def closing (c : Dev nD) : sProp 𝕄 := iprop(full c D0 (arrived (s0 m) c) ∗ full c A0 (s0 m c) ∗ full c DA (gains m))

def accInv (c : Dev nD) (t : ℕ) : sProp 𝕄 := if t % 4 = 0 then iprop(∃ X, has c AC X) else has c AC (accAt m c (t - 1))
def dgInv (c : Dev nD) (t : ℕ) : sProp 𝕄 := if t = 0 ∨ t = 32 then iprop(∃ X, has c DG X) else has c DG (gainAt m c (t / 4))
def endsInv (c : Dev nD) (t : ℕ) : sProp 𝕄 := if t = 0 then iprop(opening m c ∗ mine c) else if t = 32 then closing m c else mine c

def inv (c : Dev nD) (t : ℕ) : sProp 𝕄 :=
  iprop(Once.st (plan m) ER c (due (issued t)) (rem (passed t)) ∗ accInv m c t ∗ dgInv m c t ∗ endsInv m c t)

def after (c : Dev nD) : (w : Fin cfg0.W) → Fin cfg0.N → (cfg0.win w).block.Idx → Elt F (cfg0.win w).elt
  | 0 => fun t => iblk m c 0 t
  | 1 => fun t => iblk m c 1 t
  | 2 => fun t => iblk m c 2 t
  | 3 => fun t => iblk m c 3 t
  | 4 => fun t => iblk m c 4 t
  | 5 => fun t => gxAt m c t.val
  | ⟨n + 6, h⟩ => absurd h (Nat.not_lt.2 (Nat.le_add_left 6 n))

def dat (c : Dev nD) : Dat τ (Elt F) Unit ℕ U ℕ cfg0 c where
  A w := V m c (Pipeline.arrRef spec0 w)
  after := after m c
  Φ t := inv m ER c t.val
  q _ := fullShare
  owed t := Once.owe (plan (U := U) m) c (due (issued t.val))

theorem before_0 (c : Dev nD) (t : Fin cfg0.N) (d) : (dat m ER c).before 0 t d = iblk m c 0 t :=
  ((dat m ER c).before_in_eq_fetched 0 rfl (fun _ => rfl) (fun _ _ _ => rfl) (fun _ => rfl) t d).trans rfl
theorem before_1 (c : Dev nD) (t : Fin cfg0.N) (d) : (dat m ER c).before 1 t d = iblk m c 1 t :=
  ((dat m ER c).before_in_eq_fetched 1 rfl (fun _ => rfl) (fun _ _ _ => rfl) (fun _ => rfl) t d).trans rfl
theorem before_2 (c : Dev nD) (t : Fin cfg0.N) (d) : (dat m ER c).before 2 t d = iblk m c 2 t :=
  ((dat m ER c).before_in_eq_fetched 2 rfl (fun _ => rfl) (fun _ _ _ => rfl) (fun _ => rfl) t d).trans rfl
theorem before_3 (c : Dev nD) (t : Fin cfg0.N) (d) : (dat m ER c).before 3 t d = iblk m c 3 t :=
  ((dat m ER c).before_in_eq_fetched 3 rfl (fun _ => rfl) (fun _ _ _ => rfl) (fun _ => rfl) t d).trans rfl
theorem before_4 (c : Dev nD) (t : Fin cfg0.N) (d) : (dat m ER c).before 4 t d = iblk m c 4 t :=
  ((dat m ER c).before_in_eq_fetched 4 rfl (fun _ => rfl) (fun _ _ _ => rfl) (fun _ => rfl) t d).trans rfl

theorem idle_out (t : Fin cfg0.N) : cfg0.idle 5 (cfg0.grid.coords t) = decide (¬ t.val % 4 = 3) := by revert t; decide +kernel
theorem flush_out (t : Fin cfg0.N) : (cfg0.win 5).flush t = decide (t.val % 4 = 3) := by revert t; decide +kernel

/-! ### The conditions, as facts about the point's number -/

theorem on_first (t : Fin cfg0.N) : k0_cond1 (grid0.coords t) = 1#1 ↔ t.val = 0 := by revert t; decide +kernel
theorem on_start (t : Fin cfg0.N) : isFirst (grid0.coords t) ↔ t.val % 4 = 0 := by revert t; decide +kernel
theorem on_end (t : Fin cfg0.N) : k0_cond3 (grid0.coords t) = 1#1 ↔ t.val % 4 = 3 := by revert t; decide +kernel
theorem on_last (t : Fin cfg0.N) : k0_cond4 (grid0.coords t) = 1#1 ↔ t.val = 31 := by revert t; decide +kernel

/-! ### The body's obligation -/

/-- What is held at point `t`'s body besides the windows. -/
def side (c : Dev nD) (t : ℕ) : sProp 𝕄 := iprop(inv m ER c t ∗ ∃ W, owes (c.tc : Thread nD τ) (Once.owe (plan (U := U) m) c (due (issued t))) W)

theorem side_eq (c : Dev nD) (t n w : ℕ) (hn : issued t = n) (hw : passed t = w) : side m ER c t ⊢ iprop(stage m ER c n w ∗ accInv m c t ∗ dgInv m c t ∗ endsInv m c t) := by
  subst hn hw
  unfold side inv stage Once.sto
  iintro ⟨⟨H1, H2⟩, H3⟩
  isplitl [H1 H3]
  · isplitl [H1]; · iexact H1
    iexact H3
  iexact H2

theorem side_of (c : Dev nD) (t n w : ℕ) (hn : issued t = n) (hw : passed t = w) : iprop(stage m ER c n w ∗ accInv m c t ∗ dgInv m c t ∗ endsInv m c t) ⊢ side m ER c t := by
  subst hn hw
  unfold side inv stage Once.sto
  iintro ⟨⟨H1, H3⟩, H2⟩
  isplitl [H1 H2]
  · isplitl [H1]; · iexact H1
    iexact H2
  iexact H3

theorem ends_mid (c : Dev nD) (t : ℕ) (h0 : t ≠ 0) (h1 : t ≠ 32) : (endsInv m c t : sProp 𝕄) = mine c := by unfold endsInv; rw [if_neg h0, if_neg h1]
theorem issued_mid (t : ℕ) (h0 : t ≠ 0) (h1 : t ≠ 32) : issued t = 4 := by unfold issued; rw [if_neg h0, if_neg h1]
theorem passed_mid (t : ℕ) (h1 : t ≠ 32) : passed t = 0 := by unfold passed; rw [if_neg h1]
theorem acc_free (c : Dev nD) (t : ℕ) (h : t % 4 = 0) : (accInv m c t : sProp 𝕄) = iprop(∃ X, has c AC X) := by unfold accInv; rw [if_pos h]
theorem acc_kept (c : Dev nD) (t : ℕ) (h : ¬ t % 4 = 0) : (accInv m c t : sProp 𝕄) = has c AC (accAt m c (t - 1)) := by unfold accInv; rw [if_neg h]
theorem dg_free (c : Dev nD) (t : ℕ) (h : t = 0 ∨ t = 32) : (dgInv m c t : sProp 𝕄) = iprop(∃ X, has c DG X) := by unfold dgInv; rw [if_pos h]
theorem dg_kept (c : Dev nD) (t : ℕ) (h0 : t ≠ 0) (h1 : t ≠ 32) : (dgInv m c t : sProp 𝕄) = has c DG (gainAt m c (t / 4)) := by unfold dgInv; rw [if_neg (by omega)]

/-- The windows read at point `t`. -/
abbrev insAt (c : Dev nD) (t : Fin cfg0.N) : sProp 𝕄 :=
  ins c (st0_0 t) (st0_1 t) (st0_2 t) (st0_3 t) (st0_4 t) (iblk m c 0 t) (iblk m c 1 t) (iblk m c 2 t) (iblk m c 3 t) (iblk m c 4 t)

/-- One point, the window written back treated by `pre` and `post`. -/
abbrev goes (c : Dev nD) (t : Fin cfg0.N) (pre post : sProp 𝕄) : Prop :=
  iprop(side m ER c t.val ∗ insAt m c t ∗ pre) ⊢ run c (bodyAt0 t) fun _ => iprop(side m ER c (t.val + 1) ∗ insAt m c t ∗ post)

theorem goes_first (c : Dev nD) (t : Fin cfg0.N) (R : sProp 𝕄) (h : t.val = 0) : goes m ER c t R R := by
  have hN : t.val < 32 := t.isLt
  have hs := side_eq m ER c t.val 0 0 (by rw [h]; rfl) (by rw [h]; rfl)
  have hf := side_of m ER c (t.val + 1) 4 0 (issued_mid _ (by omega) (by omega)) (passed_mid _ (by omega))
  rw [acc_free m c _ (by omega), dg_free m c _ (Or.inl h), show endsInv m c t.val = (iprop(opening m c ∗ mine c) : sProp 𝕄) from by unfold endsInv; rw [if_pos h]] at hs
  rw [acc_kept m c _ (by omega), dg_kept m c _ (by omega) (by omega), ends_mid m c _ (by omega) (by omega), show t.val + 1 - 1 = t.val from rfl, accAt_start m c t (by omega),
    show (t.val + 1) / 4 = 0 by omega] at hf
  unfold opening at hs
  unfold goes
  iintro ⟨Hside, HI, HR⟩
  ihave Hside := hs $$ Hside
  icases Hside with ⟨Hs, ⟨%X, HX⟩, ⟨%G, HG⟩, ⟨Ha, Hd, H0, H1, H2⟩, HM⟩
  iapply (point_first m ER c (grid0.coords t) ((on_first t).2 h) ((on_start t).2 (by omega)) (fun e => by have := (on_end t).1 e; omega) (fun e => by have := (on_last t).1 e; omega) G X (iblk m c 0 t) (iblk m c 1 t) (iblk m c 2 t) (iblk m c 3 t) (iblk m c 4 t)) $$ [Hs Ha Hd H0 H1 H2 HG HX HI]
  · isplitl [Hs]; · iexact Hs
    isplitl [Ha]; · iexact Ha
    isplitl [Hd]; · iexact Hd
    isplitl [H0]; · iexact H0
    isplitl [H1]; · iexact H1
    isplitl [H2]; · iexact H2
    isplitl [HG]; · iexact HG
    isplitl [HX]; · iexact HX
    iexact HI
  iintro ⟨Hs, HG, HX, HI⟩
  isplitl [Hs HX HG HM]
  · iapply hf
    isplitl [Hs]; · iexact Hs
    isplitl [HX]; · iexact HX
    isplitl [HG]; · iexact HG
    iexact HM
  isplitl [HI]; · iexact HI
  iexact HR

theorem goes_zero (c : Dev nD) (t : Fin cfg0.N) (R : sProp 𝕄) (h0 : t.val ≠ 0) (h : t.val % 4 = 0) : goes m ER c t R R := by
  have hN : t.val < 32 := t.isLt
  have hs := side_eq m ER c t.val 4 0 (issued_mid _ (by omega) (by omega)) (passed_mid _ (by omega))
  have hf := side_of m ER c (t.val + 1) 4 0 (issued_mid _ (by omega) (by omega)) (passed_mid _ (by omega))
  rw [acc_free m c _ h, dg_kept m c _ h0 (by omega), ends_mid m c _ h0 (by omega)] at hs
  rw [acc_kept m c _ (by omega), dg_kept m c _ (by omega) (by omega), ends_mid m c _ (by omega) (by omega), show t.val + 1 - 1 = t.val from rfl, accAt_start m c t h,
    show (t.val + 1) / 4 = t.val / 4 by omega] at hf
  unfold goes
  iintro ⟨Hside, HI, HR⟩
  ihave Hside := hs $$ Hside
  icases Hside with ⟨Hs, ⟨%X, HX⟩, HG, HM⟩
  iapply (point_zero c (grid0.coords t) (fun e => by have := (on_first t).1 e; omega) ((on_start t).2 h) (fun e => by have := (on_end t).1 e; omega) (fun e => by have := (on_last t).1 e; omega) X (iblk m c 0 t) (iblk m c 1 t) (iblk m c 2 t) (iblk m c 3 t) (iblk m c 4 t)) $$ [HX HI]
  · isplitl [HX]; · iexact HX
    iexact HI
  iintro ⟨HX, HI⟩
  isplitl [Hs HX HG HM]
  · iapply hf
    isplitl [Hs]; · iexact Hs
    isplitl [HX]; · iexact HX
    isplitl [HG]; · iexact HG
    iexact HM
  isplitl [HI]; · iexact HI
  iexact HR

theorem goes_next (c : Dev nD) (t : Fin cfg0.N) (R : sProp 𝕄) (h : t.val % 4 = 1 ∨ t.val % 4 = 2) : goes m ER c t R R := by
  have hN : t.val < 32 := t.isLt
  have hs := side_eq m ER c t.val 4 0 (issued_mid _ (by omega) (by omega)) (passed_mid _ (by omega))
  have hf := side_of m ER c (t.val + 1) 4 0 (issued_mid _ (by omega) (by omega)) (passed_mid _ (by omega))
  rw [acc_kept m c _ (by omega), dg_kept m c _ (by omega) (by omega), ends_mid m c _ (by omega) (by omega)] at hs
  rw [acc_kept m c _ (by omega), dg_kept m c _ (by omega) (by omega), ends_mid m c _ (by omega) (by omega), show t.val + 1 - 1 = t.val from rfl, accAt_step m c t (by omega),
    show (t.val + 1) / 4 = t.val / 4 by omega] at hf
  unfold goes
  iintro ⟨Hside, HI, HR⟩
  ihave Hside := hs $$ Hside
  icases Hside with ⟨Hs, HX, HG, HM⟩
  iapply (point_next c (grid0.coords t) (fun e => by have := (on_first t).1 e; omega) (fun e => by have := (on_start t).1 e; omega) (fun e => by have := (on_end t).1 e; omega) (fun e => by have := (on_last t).1 e; omega) (accAt m c (t.val - 1)) (iblk m c 0 t) (iblk m c 1 t) (iblk m c 2 t) (iblk m c 3 t) (iblk m c 4 t)) $$ [HX HI]
  · isplitl [HX]; · iexact HX
    iexact HI
  iintro ⟨HX, HI⟩
  isplitl [Hs HX HG HM]
  · iapply hf
    isplitl [Hs]; · iexact Hs
    isplitl [HX]; · iexact HX
    isplitl [HG]; · iexact HG
    iexact HM
  isplitl [HI]; · iexact HI
  iexact HR

theorem goes_end (c : Dev nD) (t : Fin cfg0.N) (Y : Vec F S512x2048 .f32) (h : t.val % 4 = 3) (hl : t.val ≠ 31) : goes m ER c t (has c (st0_5 t) Y) (has c (st0_5 t) (gxAt m c t.val)) := by
  have hN : t.val < 32 := t.isLt
  have hs := side_eq m ER c t.val 4 0 (issued_mid _ (by omega) (by omega)) (passed_mid _ (by omega))
  have hf := side_of m ER c (t.val + 1) 4 0 (issued_mid _ (by omega) (by omega)) (passed_mid _ (by omega))
  rw [acc_kept m c _ (by omega), dg_kept m c _ (by omega) (by omega), ends_mid m c _ (by omega) (by omega)] at hs
  rw [acc_free m c _ (by omega), dg_kept m c _ (by omega) (by omega), ends_mid m c _ (by omega) (by omega), show (t.val + 1) / 4 = t.val / 4 + 1 by omega, gainAt_step m c t h, accAt_step m c t (by omega)] at hf
  rw [gxAt_eq m c t, accAt_step m c t (by omega)]
  unfold goes
  iintro ⟨Hside, HI, HR⟩
  ihave Hside := hs $$ Hside
  icases Hside with ⟨Hs, HX, HG, HM⟩
  iapply (point_end c (grid0.coords t) (fun e => by have := (on_first t).1 e; omega) (fun e => by have := (on_start t).1 e; omega) ((on_end t).2 h) (fun e => by have := (on_last t).1 e; omega) (gainAt m c (t.val / 4)) (accAt m c (t.val - 1)) Y (iblk m c 0 t) (iblk m c 1 t) (iblk m c 2 t) (iblk m c 3 t) (iblk m c 4 t)) $$ [HG HX HR HI]
  · isplitl [HG]; · iexact HG
    isplitl [HX]; · iexact HX
    isplitl [HR]; · iexact HR
    iexact HI
  iintro ⟨HG, HX, HR, HI⟩
  isplitl [Hs HX HG HM]
  · iapply hf
    isplitl [Hs]; · iexact Hs
    isplitl [HX]; · iexists _; iexact HX
    isplitl [HG]; · iexact HG
    iexact HM
  isplitl [HI]; · iexact HI
  iexact HR

theorem goes_last (c : Dev nD) (t : Fin cfg0.N) (Y : Vec F S512x2048 .f32) (h : t.val = 31) : goes m ER c t (has c (st0_5 t) Y) (has c (st0_5 t) (gxAt m c t.val)) := by
  have hN : t.val < 32 := t.isLt
  have hs := side_eq m ER c t.val 4 0 (issued_mid _ (by omega) (by omega)) (passed_mid _ (by omega))
  have hf := side_of m ER c (t.val + 1) 12 22 (by rw [h]; rfl) (by rw [h]; rfl)
  rw [acc_kept m c _ (by omega), dg_kept m c _ (by omega) (by omega), ends_mid m c _ (by omega) (by omega)] at hs
  rw [acc_free m c _ (by omega), dg_free m c _ (Or.inr (by omega)), show endsInv m c (t.val + 1) = (closing m c : sProp 𝕄) from by unfold endsInv; rw [if_neg (by omega), if_pos (by omega)]] at hf
  have hG := (gainAt_step m c t (by omega)).symm
  rw [accAt_step m c t (by omega), show t.val / 4 + 1 = 8 by omega] at hG
  rw [gxAt_eq m c t, accAt_step m c t (by omega)]
  unfold closing at hf
  unfold mine at hs
  unfold goes
  iintro ⟨Hside, HI, HR⟩
  ihave Hside := hs $$ Hside
  icases Hside with ⟨Hs, HX, HG, HM⟩
  iapply (point_last m ER c (grid0.coords t) (fun e => by have := (on_first t).1 e; omega) (fun e => by have := (on_start t).1 e; omega) ((on_end t).2 (by omega)) ((on_last t).2 h) (gainAt m c (t.val / 4)) (accAt m c (t.val - 1)) Y (iblk m c 0 t) (iblk m c 1 t) (iblk m c 2 t) (iblk m c 3 t) (iblk m c 4 t) hG) $$ [Hs HM HG HX HR HI]
  · isplitl [Hs]; · iexact Hs
    isplitl [HM]; · iexact HM
    isplitl [HG]; · iexact HG
    isplitl [HX]; · iexact HX
    isplitl [HR]; · iexact HR
    iexact HI
  iintro ⟨Hs, GD, GA, GG, HG, HX, HR, HI⟩
  isplitl [Hs HX HG GD GA GG]
  · iapply hf
    isplitl [Hs]; · iexact Hs
    isplitl [HX]; · iexists _; iexact HX
    isplitl [HG]; · iexists _; iexact HG
    isplitl [GD]; · iexact GD
    isplitl [GA]; · iexact GA
    iexact GG
  isplitl [HI]; · iexact HI
  iexact HR

/-- The window written back, before and after point `t`. -/
def outPre (c : Dev nD) (t : Fin cfg0.N) : sProp 𝕄 := iprop(∃ d, has c (st0_5 t) ((dat m ER c).before 5 t d))
def outPost (c : Dev nD) (t : Fin cfg0.N) : sProp 𝕄 := if t.val % 4 = 3 then has c (st0_5 t) (gxAt m c t.val) else outPre m ER c t

theorem goes_all (c : Dev nD) (t : Fin cfg0.N) : goes m ER c t (outPre m ER c t) (outPost m ER c t) := by
  by_cases h : t.val % 4 = 3
  · have hp : outPost m ER c t = has c (st0_5 t) (gxAt m c t.val) := by unfold outPost; rw [if_pos h]
    have key : ∀ Y, goes m ER c t (has c (st0_5 t) Y) (has c (st0_5 t) (gxAt m c t.val)) := by
      intro Y
      by_cases hl : t.val = 31
      · exact goes_last m ER c t Y hl
      · exact goes_end m ER c t Y h hl
    rw [hp]; unfold goes outPre
    iintro ⟨HS, HI, ⟨%d, HY⟩⟩
    iapply (key ((dat m ER c).before 5 t d))
    isplitl [HS]; · iexact HS
    isplitl [HI]; · iexact HI
    iexact HY
  · have hp : outPost m ER c t = outPre m ER c t := by unfold outPost; rw [if_neg h]
    rw [hp]
    by_cases h0 : t.val = 0
    · exact goes_first m ER c t _ h0
    · by_cases hz : t.val % 4 = 0
      · exact goes_zero m ER c t _ h0 hz
      · exact goes_next m ER c t _ (by omega)

theorem inv_before (c : Dev nD) (t : Fin cfg0.N) : (dat m ER c).Φ t.castSucc = inv m ER c t.val := rfl
theorem inv_after (c : Dev nD) (t : Fin cfg0.N) : (dat m ER c).Φ t.succ = inv m ER c (t.val + 1) := rfl
theorem owed_before (c : Dev nD) (t : Fin cfg0.N) : (dat m ER c).owed t.castSucc = Once.owe (plan (U := U) m) c (due (issued t.val)) := rfl
theorem owed_after (c : Dev nD) (t : Fin cfg0.N) : (dat m ER c).owed t.succ = Once.owe (plan (U := U) m) c (due (issued (t.val + 1))) := rfl

theorem body (c : Dev nD) : Pipeline.BodyObligation (dat m ER c) (defs₀ (F := F)) Variants.none () Set.univ := fun t => by
  have h := goes_all m ER c t
  have hpost : (match cfg0.idle 5 (cfg0.grid.coords t) with
      | true => match (cfg0.win 5).flush t with
        | false => iprop(∃ d, owns (c.tc : Thread nD τ) ((cfg0.win 5).stage (cfg0.slots t 5)) fullShare ((dat m ER c).before 5 t d))
        | true => owns (c.tc : Thread nD τ) ((cfg0.win 5).stage (cfg0.slots t 5)) fullShare ((dat m ER c).after 5 t)
      | false => owns (c.tc : Thread nD τ) ((cfg0.win 5).stage (cfg0.slots t 5)) fullShare ((dat m ER c).after 5 t)) = outPost m ER c t := by
    rw [idle_out, flush_out]
    unfold outPost outPre
    by_cases h : t.val % 4 = 3
    · rw [if_pos h, decide_eq_false (by simpa using h), decide_eq_true h]; rfl
    · rw [if_neg h, decide_eq_true h, decide_eq_false h]
  rw [bigSep_W0, bigSep_W0]
  have hb : iprop(side m ER c t.val ∗ insAt m c t ∗ outPre m ER c t)
      ⊢ wp frame (wpE (defs₀ (F := F)) Variants.none c.tc none) Set.univ (bodyAt0 t) fun _ => iprop((dat m ER c).Φ t.succ ∗ (dat m ER c).owesAt () t.succ
        ∗ has c (st0_0 t) (iblk m c 0 t) ∗ has c (st0_1 t) (iblk m c 1 t) ∗ has c (st0_2 t) (iblk m c 2 t) ∗ has c (st0_3 t) (iblk m c 3 t) ∗ has c (st0_4 t) (iblk m c 4 t)
        ∗ (match cfg0.idle 5 (cfg0.grid.coords t) with
      | true => match (cfg0.win 5).flush t with
        | false => iprop(∃ d, owns (c.tc : Thread nD τ) ((cfg0.win 5).stage (cfg0.slots t 5)) fullShare ((dat m ER c).before 5 t d))
        | true => owns (c.tc : Thread nD τ) ((cfg0.win 5).stage (cfg0.slots t 5)) fullShare ((dat m ER c).after 5 t)
      | false => owns (c.tc : Thread nD τ) ((cfg0.win 5).stage (cfg0.slots t 5)) fullShare ((dat m ER c).after 5 t))) := by
    rw [hpost]
    refine h.trans (wp_mono _ _ _ fun _ => ?_)
    unfold side Dat.owesAt Pipeline.owesWithin insAt ins
    rw [inv_after, owed_after]
    iintro ⟨⟨H1, ⟨%W, H2⟩⟩, ⟨I0, I1, I2, I3, I4⟩, H5⟩
    isplitl [H1]; · iexact H1
    isplitl [H2]
    · iexists W; isplitr; · ipureintro; exact fun _ _ => Or.inl trivial
      iexact H2
    isplitl [I0]; · iexact I0
    isplitl [I1]; · iexact I1
    isplitl [I2]; · iexact I2
    isplitl [I3]; · iexact I3
    isplitl [I4]; · iexact I4
    iexact H5
  refine BIBase.Entails.trans ?_ hb
  unfold side outPre Dat.owesAt Pipeline.owesWithin insAt ins
  rw [inv_before, owed_before]
  iintro ⟨H1, ⟨%W, %hW, H2⟩, ⟨%d0, I0⟩, ⟨%d1, I1⟩, ⟨%d2, I2⟩, ⟨%d3, I3⟩, ⟨%d4, I4⟩, H5⟩
  isplitl [H1 H2]
  · isplitl [H1]; · iexact H1
    iexists W; iexact H2
  isplitl [I0 I1 I2 I3 I4]
  · isplitl [I0]; · iapply (Entails.of_eq (congrArg (fun X => has c (st0_0 t) X) (before_0 m ER c t d0))); iexact I0
    isplitl [I1]; · iapply (Entails.of_eq (congrArg (fun X => has c (st0_1 t) X) (before_1 m ER c t d1))); iexact I1
    isplitl [I2]; · iapply (Entails.of_eq (congrArg (fun X => has c (st0_2 t) X) (before_2 m ER c t d2))); iexact I2
    isplitl [I3]; · iapply (Entails.of_eq (congrArg (fun X => has c (st0_3 t) X) (before_3 m ER c t d3))); iexact I3
    iapply (Entails.of_eq (congrArg (fun X => has c (st0_4 t) X) (before_4 m ER c t d4))); iexact I4
  iexact H5

end Cert.InputIdeal.GI

end
-- ==== Proof.InputRun.lean ====
module

public import proofs.«01_k».proof.Proof.InputBody
public import proofs.«01_k».proof.Proof.Dealt

@[expose] public section

noncomputable section

/-! The launch of the third kernel: what every device starts from, and what a run leaves. -/

namespace Cert.InputIdeal.GI

open Idealize.ShloMosaic
open Idealize.SL
open Idealize.SL.BI
open scoped Idealize.SL.BI
open Idealize.SL.BI.BIBase Idealize.SL.BI.Laws Idealize.SL.Sem Idealize.SL.ProofMode
open Idealize.SL.RA
open Idealize.ShloMosaic.TcCoe
open Idealize.ShloMosaic.Rounds
open Idealize.ShloMosaic.ValueIdx
open Idealize.ShloMosaic.Pipeline
open Cert.InputIdeal.Gen
open Cert.KernelIdeal.GW (flip arrived opp)

set_option Elab.async false

variable {F : FTy → Type} [FloatOps F]
variable (m : (ℓ : Loc nD τ sig) → Buf (Elt F) ℓ)
variable {U : Type} [URA U]
variable (ER : Emb (URounds (GSem nD τ sig) Unit) (MT nD τ sig Unit (Elt F) ℕ U ℕ))
local notation "𝕄" => MT nD τ sig Unit (Elt F) ℕ U ℕ
/-! ### What the devices give each other before they start -/

theorem gifts (c : Dev nD) : (bigSep Finset.univ fun k => gift c k : sProp 𝕄) = iprop(emp ∗ emp ∗ emp ∗ (∃ f, Rows.own q0 c D0 (opp c (Fin.succ (0 : Fin 3))) f) ∗ (∃ f, Rows.own q0 c D0 (opp c (Fin.succ (1 : Fin 3))) f) ∗ (∃ f, Rows.own q0 c D0 (opp c (Fin.succ (2 : Fin 3))) f) ∗ emp ∗ emp ∗ emp ∗ emp ∗ emp ∗ emp ∗ emp ∗ emp ∗ (∃ f, Rows.own q9 c DA (flip (Fin.succ (0 : Fin 7)) c) f) ∗ (∃ f, Rows.own q9 c DA (flip (Fin.succ (1 : Fin 7)) c) f) ∗ (∃ f, Rows.own q9 c DA (flip (Fin.succ (2 : Fin 7)) c) f) ∗ (∃ f, Rows.own q9 c DA (flip (Fin.succ (3 : Fin 7)) c) f) ∗ (∃ f, Rows.own q9 c DA (flip (Fin.succ (4 : Fin 7)) c) f) ∗ (∃ f, Rows.own q9 c DA (flip (Fin.succ (5 : Fin 7)) c) f) ∗ (∃ f, Rows.own q9 c DA (flip (Fin.succ (6 : Fin 7)) c) f) ∗ emp) := bigSep_keys fun k => gift c k

/-- A device's arrays outside the windows, cut into what it gives away and what it starts from. -/
theorem share_out (c : Dev nD) :
    (Pipeline.unscopedRest (Ix := Unit) (Name := ℕ) (U := U) (Lvl := ℕ) spec0 c (fun b => m (c.tc.loc b)) : sProp 𝕄)
      ⊢ iprop((bigSep Finset.univ fun k => gift c k) ∗ opening m c ∗ mine c) := by
  rw [unscopedRest0_eq, gifts]
  have hA (f : Buf (Elt F) (A0.view.loc (c.tc : Thread nD τ))) : (full c A0 f : sProp 𝕄) ⊢ _ := Entails.of_eq (planes c A0 (View.set_whole _) f)
  have hD (f : Buf (Elt F) (D0.view.loc (c.tc : Thread nD τ))) : (full c D0 f : sProp 𝕄) ⊢ _ := Entails.of_eq (planes c D0 (View.set_whole _) f)
  have hG (f : Buf (Elt F) (DA.view.loc (c.tc : Thread nD τ))) : (full c DA f : sProp 𝕄) ⊢ _ := Entails.of_eq (rows8 c f)
  iintro ⟨HA, HG, HD⟩
  ihave HA := (hA _) $$ HA
  icases HA with ⟨A0, A1, A2, A3⟩
  ihave HD := (hD _) $$ HD
  icases HD with ⟨D0, D1, D2, D3⟩
  ihave HG := (hG _) $$ HG
  icases HG with ⟨RM, R0, R1, R2, R3, R4, R5, R6⟩
  isplitl [D1 D2 D3 R0 R1 R2 R3 R4 R5 R6]
  · isplitr; · iempintro
    isplitr; · iempintro
    isplitr; · iempintro
    isplitl [D1]; · iexists _; iexact D1
    isplitl [D2]; · iexists _; iexact D2
    isplitl [D3]; · iexists _; iexact D3
    isplitr; · iempintro
    isplitr; · iempintro
    isplitr; · iempintro
    isplitr; · iempintro
    isplitr; · iempintro
    isplitr; · iempintro
    isplitr; · iempintro
    isplitr; · iempintro
    isplitl [R0]; · iexists _; iexact R0
    isplitl [R1]; · iexists _; iexact R1
    isplitl [R2]; · iexists _; iexact R2
    isplitl [R3]; · iexists _; iexact R3
    isplitl [R4]; · iexists _; iexact R4
    isplitl [R5]; · iexists _; iexact R5
    isplitl [R6]; · iexists _; iexact R6
    iempintro
  isplitl [A0 A1 A2 A3 D0]
  · unfold opening
    isplitl [A0]; · iexact A0
    isplitl [D0]; · iexists _; iexact D0
    isplitl [A1]; · iexact A1
    isplitl [A2]; · iexact A2
    iexact A3
  unfold mine
  iexists _; iexact RM

/-! ### The launch -/

section Launch

/-- The ghost state: the pipelines' own beside the exchange's. -/
abbrev UU := UR sig nD τ × UR sig nD τ
abbrev EP : Emb (UR sig nD τ) (MT nD τ sig Unit (Elt F) ℕ UU ℕ) := embL
abbrev EX : Emb (UR sig nD τ) (MT nD τ sig Unit (Elt F) ℕ UU ℕ) := embR
local notation "𝕄𝕄" => MT nD τ sig Unit (Elt F) ℕ UU ℕ

variable (ρ : Dev nD → PrngReg)

abbrev dats (_ : Fin 1) (c : Dev nD) : Dat τ (Elt F) Unit ℕ UU ℕ cfg0 c := dat m EX c

def u₀ : UU := (initOf (Pipeline.cells cfgs cellOf_inj) (Pipeline.launchToks cfgs cellOf_inj), initOf (Once.cells (plan (U := UU) m)) (Once.toks (plan (U := UU) m)))

theorem ownSemFacts : Pipeline.OwnSemFacts cfg0.spec osem := by decide +kernel

theorem share_full (c : Dev nD) (w : Fin cfg0.W) : (dats m 0 c).share w = fullShare := by unfold Dat.share; split <;> rfl

/-- Nothing of the plan waits or sends on a window's semaphore. -/
theorem own_far (w : Fin cfg0.W) (s : Fin (cfg0.win w).nbuf) (k : Key) : osem k ≠ .dma ((cfg0.win w).sem s) := by
  revert w s k; decide +kernel

theorem waits (c : Dev nD) : (levAts Once.L (Once.lv (plan (U := UU) m)) : sProp 𝕄𝕄) ⊢ Pipeline.cellsWaits cfgs (dats m) () 0 c :=
  Pipeline.cellsWaits_intro cfgs (dats m) () 0 c fun w s t =>
    Once.mayWait_low (plan m) c _ (fun k _ => own_far w s k) _

theorem owed_end (c : Dev nD) : (dats m 0 c).owed (Fin.last cfg0.N) = 0 := by
  have h : due (issued (Fin.last cfg0.N).val) = ∅ := by rw [show (Fin.last cfg0.N).val = 32 from N_0]; exact due_end
  exact (congrArg (Once.owe (plan (U := UU) m) c) h).trans (Once.owe_none _ c ∅ fun k h => absurd h (Finset.notMem_empty k))

def start (c : Dev nD) : sProp 𝕄𝕄 := iprop(Once.st (plan m) EX c Finset.univ Finset.univ ∗ opening m c ∗ mine c)

theorem enter (c : Dev nD) : iprop(start m c ∗ Pipeline.scopedRest (Ix := Unit) (Name := ℕ) (U := UU) (Lvl := ℕ) (Val := Elt F) spec0 c) ⊢ inv m EX c 0 := by
  rw [scopedRest0_eq]
  unfold start inv
  rw [show due (issued 0) = Finset.univ from due_start, show rem (passed 0) = Finset.univ from rem_start,
    show accInv m c 0 = (iprop(∃ X, has c AC X) : sProp 𝕄𝕄) from by unfold accInv; rw [if_pos rfl],
    show dgInv m c 0 = (iprop(∃ X, has c DG X) : sProp 𝕄𝕄) from by unfold dgInv; rw [if_pos (Or.inl rfl)],
    show endsInv m c 0 = (iprop(opening m c ∗ mine c) : sProp 𝕄𝕄) from by unfold endsInv; rw [if_pos rfl]]
  iintro ⟨⟨Hst, HO⟩, ⟨%f, Hf⟩, ⟨%g, Hg⟩⟩
  isplitl [Hst]; · iexact Hst
  isplitl [Hf]
  · iexists f; iapply (Entails.of_eq (has_whole (U := UU) c cc0_scratch0 f).symm); iexact Hf
  isplitl [Hg]
  · iexists g; iapply (Entails.of_eq (has_whole (U := UU) c cc0_scratch1 g).symm); iexact Hg
  iexact HO

theorem leave (c : Dev nD) : inv m EX c 32 ⊢ iprop(closing m c ∗ Pipeline.ownSems0 (Ix := Unit) (Name := ℕ) (U := UU) (Lvl := ℕ) (Val := Elt F) (τ := τ) osem c
    ∗ Pipeline.scopedRest (Ix := Unit) (Name := ℕ) (U := UU) (Lvl := ℕ) (Val := Elt F) spec0 c) := by
  rw [scopedRest0_eq]
  unfold inv
  rw [show rem (passed 32) = ∅ from rem_end,
    show accInv m c 32 = (iprop(∃ X, has c AC X) : sProp 𝕄𝕄) from by unfold accInv; rw [if_pos rfl],
    show dgInv m c 32 = (iprop(∃ X, has c DG X) : sProp 𝕄𝕄) from by unfold dgInv; rw [if_pos (Or.inr rfl)],
    show endsInv m c 32 = (closing m c : sProp 𝕄𝕄) from by unfold endsInv; rw [if_neg (by decide), if_pos rfl]]
  iintro ⟨Hst, ⟨%f, Hf⟩, ⟨%g, Hg⟩, HC⟩
  isplitl [HC]; · iexact HC
  isplitl [Hst]
  · ihave Hst := (Once.st_end (plan m) EX c _) $$ Hst
    iapply (Entails.of_eq (show (bigSep Finset.univ fun k => semVal (Once.cell (plan (U := UU) m) c k) 0 : sProp 𝕄𝕄)
      = Pipeline.ownSems0 (Ix := Unit) (Name := ℕ) (U := UU) (Lvl := ℕ) (Val := Elt F) (τ := τ) osem c from rfl))
    iexact Hst
  isplitl [Hf]
  · iexists f; iapply (Entails.of_eq (has_whole (U := UU) c cc0_scratch0 f)); iexact Hf
  iexists g; iapply (Entails.of_eq (has_whole (U := UU) c cc0_scratch1 g)); iexact Hg

theorem dealt :
    iprop((bigSep Finset.univ fun c => Pipeline.ownSems0 (Ix := Unit) (Name := ℕ) (U := UU) (Lvl := ℕ) (Val := Elt F) (τ := τ) osem c)
        ∗ (bigSep Finset.univ fun c => Pipeline.unscopedRestP (Ix := Unit) (Name := ℕ) (U := UU) (Lvl := ℕ) Pipeline.Prefetch.none spec0 c (fun b => m (c.tc.loc b)))
        ∗ (bigSep Finset.univ fun c => Pipeline.launchCred (Once.owe₀ (plan (U := UU) m)) c) ∗ levAts Once.L (Once.lv (plan (U := UU) m)) ∗ Once.ghost (plan m) EX)
      ⊢ |={Set.univ}=> bigSep Finset.univ fun c => (iprop(start m c ∗ emp) : sProp 𝕄𝕄) := by
  have h1 : (bigSep Finset.univ fun c : Dev nD => Pipeline.unscopedRestP (Ix := Unit) (Name := ℕ) (U := UU) (Lvl := ℕ) Pipeline.Prefetch.none spec0 c (fun b => m (c.tc.loc b)))
      ⊢ (bigSep Finset.univ fun c : Dev nD => iprop((bigSep Finset.univ fun k => (plan m).gift c k) ∗ opening m c ∗ mine c) : sProp 𝕄𝕄) :=
    bigSep_mono fun c _ => by rw [Pipeline.unscopedRestP_none]; exact share_out m c
  have h2 : (bigSep Finset.univ fun c : Dev nD => iprop(Once.st (plan m) EX c Finset.univ Finset.univ ∗ opening m c ∗ mine c) : sProp 𝕄𝕄)
      ⊢ bigSep Finset.univ fun c : Dev nD => iprop(start m c ∗ emp) :=
    bigSep_mono fun c _ => (show (start m c : sProp 𝕄𝕄) ⊢ iprop(start m c ∗ emp) from sep_emp_intro)
  have h3 := Once.deal (plan m) EX (fun c => (iprop(opening m c ∗ mine c) : sProp 𝕄𝕄))
  refine BIBase.Entails.trans ?_ (h3.trans (BI.fupd_mono h2))
  iintro ⟨H1, H2, H3, H4, H5⟩
  isplitl [H1]; · iexact H1
  isplitl [H2]; · iapply h1; iexact H2
  isplitl [H3]; · iexact H3
  isplitl [H4]; · iexact H4
  iexact H5

/-- What a device's arrays outside the windows hold at the end. -/
def Ends (c : Dev nD) (s : MemSt nD τ sig (Elt F)) : Prop :=
  s.mem (c.tc.loc main_v1_1) = gains m ∧ s.mem (c.tc.loc main_v1_2) = arrived (s0 m) c ∧ s.mem (c.tc.loc main_arg5) = s0 m c

theorem read (c : Dev nD) (s' : Phys nD τ sig (Elt F)) :
    iprop(closing m c ∗ emp ∗ SI s') ⊢ |={Set.univ}=> (iprop(⌜Ends m c s'.mem⌝ ∗ SI s') : sProp 𝕄𝕄) := by
  unfold closing
  iintro ⟨⟨HD, HA, HG⟩, -, HSI⟩
  icombine HSI HD gives %hD
  icombine HSI HA gives %hA
  icombine HSI HG gives %hG
  imodintro
  isplitr
  · ipureintro
    exact ⟨Buf.eq_of_forall_mem_univ hG, Buf.eq_of_forall_mem_univ hD, Buf.eq_of_forall_mem_univ hA⟩
  iexact HSI

/-- What a run leaves: the windows' arrays as the body's steps leave them, the others as `Ends` says. -/
def Final (r : PUnit × MemSt nD τ sig (Elt F)) : Prop :=
  ∀ c : Dev nD, (∀ w : Fin cfg0.W, r.2.mem ((cfg0.win w).arr.view.loc (c.tc : Thread nD τ)) = (dats m 0 c).arrAt w cfg0.N) ∧ Ends m c r.2

set_option maxRecDepth 8000 in
theorem run_main : θ_run defs (onTc (τ := τ) (main (F := F))) (s₀ m ρ) (fun r => Final m r ∧ r.2.sem = fun _ => 0) :=
  Dealt.θ_run_dealt (fun p => (cfgs p).toPCfg) (fun _ p => (cfgs p).toPCfg_adm) (dats m) () cellOf_inj (0 : Fin 1)
    winFacts0.to₀ ownSemFacts (Pipeline.PreFacts.none _) EP defs₀ Variants.none m ρ main
    (hmain := fun _ => rfl)
    (hbody := fun c => (body m EX c).toR) (hne := fun w => by fin_cases w <;> exact Nat.succ_pos _) (harr := arr_whole0) (hstage := stage_whole0) (hshare := share_full m)
    (hdistinct := winFacts0.arr_inj)
    (O₀ := Once.owe₀ (plan (U := UU) m)) (howed₀ := fun c => congrArg (Once.owe (plan (U := UU) m) c) (show due (issued 0) = Finset.univ from due_start))
    (howedN := owed_end m)
    (L := Once.L) (lv := Once.lv (plan (U := UU) m)) (hL := Once.L_of_ne) (hwaits := waits m)
    (G := Once.ghost (plan m) EX) (u₀ := u₀ m)
    (hu₀ := by
      unfold u₀
      iintro Hu
      ihave H := (ownU_pair _ _) $$ Hu
      icases H with ⟨HP, HX⟩
      imod (Once.fund (plan m) EX) $$ HX with HG
      imodintro
      isplitl [HP]; · iexact HP
      iexact HG)
    (hA := fun _ _ => rfl) (hpf := fun _ k => k.elim0)
    (X := start m) (Y := fun c => closing m c) (Z := fun _ => iprop(emp))
    (hdeal := dealt m) (hin := enter m) (hout := leave m)
    (QY := Ends m)
    (hY := read m)
    (hQ := fun _ h hs => ⟨h, sem_eq_zero_of_scoped (by decide) hs⟩)

/-- No argument changes. -/
theorem args_kept (r : PUnit × MemSt nD τ sig (Elt F)) (h : Final m r) (c : Dev nD) :
    r.2.mem (c.tc.loc main_arg0) = m (c.tc.loc main_arg0)
    ∧ r.2.mem (c.tc.loc main_arg1) = m (c.tc.loc main_arg1)
    ∧ r.2.mem (c.tc.loc main_arg2) = m (c.tc.loc main_arg2)
    ∧ r.2.mem (c.tc.loc main_arg3) = m (c.tc.loc main_arg3)
    ∧ r.2.mem (c.tc.loc main_arg4) = m (c.tc.loc main_arg4)
    ∧ r.2.mem (c.tc.loc main_arg5) = m (c.tc.loc main_arg5) := by
  obtain ⟨hw, -, -, h0⟩ := h c
  exact ⟨(hw 0).trans ((dats m 0 c).arrAt_in 0 rfl _), (hw 1).trans ((dats m 0 c).arrAt_in 1 rfl _), (hw 2).trans ((dats m 0 c).arrAt_in 2 rfl _), (hw 3).trans ((dats m 0 c).arrAt_in 3 rfl _), (hw 4).trans ((dats m 0 c).arrAt_in 4 rfl _), h0⟩

end Launch
end Cert.InputIdeal.GI

end
-- ==== Proof.InputStep.lean ====
module

public import proofs.«01_k».proof.Proof.Gen.InputIdeal.Skeleton
public import Idealize.ShloMosaic.Lib.Pointwise
public import Idealize.ShloMosaic.PureOps.Ideal

@[expose] public section

noncomputable section

/-! One grid point's arithmetic, entry by entry: an addition to the accumulator, a row's normalisation, the gain's sums and
the input's gradient. -/

namespace Cert.InputIdeal.GI

open Idealize.ShloMosaic Idealize.SL.Sem
open Idealize.ShloMosaic.TcCoe
open Idealize.ShloMosaic.Pipeline
open Cert.InputIdeal.Gen
open scoped BigOperators

set_option Elab.async false

/-! ### One row -/

/-- The mean of a row of 2048 numbers. -/
def mean (x : Fin 2048 → EReal) : EReal := Ideal.div (∑ k, x k) (Ideal.ofBits .f32 0x45000000#32)

/-- The factor a row is multiplied by to be normalised. -/
def factor (x : Fin 2048 → EReal) : EReal := Ideal.rsqrt (mean (fun k => x k * x k) + Ideal.ofBits .f32 0x358637BD#32)

/-- A row normalised. -/
def normal (x : Fin 2048 → EReal) (l : Fin 2048) : EReal := x l * factor x

/-- The gradient of a row, `dy` that of the row normalised and multiplied by the gain `g`, with `o` added. -/
def grad (x g dy o : Fin 2048 → EReal) (l : Fin 2048) : EReal :=
  o l + factor x * (dy l * g l - normal x l * mean (fun k => dy k * g k * normal x k))

/-! ### The payloads -/

theorem pay_step (A : Vec Ideal S512x2048 .f32) (a : Vec Ideal S512x1792 .bf16) (b : Vec Ideal S1792x2048 .bf16) (r : Fin 512) (l : Fin 2048) :
    k0_pay1 A a b (ValueIdx.ix2 r l) = A (ValueIdx.ix2 r l) + ∑ k : Fin 1792, a (ValueIdx.ix2 r k) * b (ValueIdx.ix2 k l) := by
  show k0_pay1 A a b (ix2 r l) = A (ix2 r l) + ∑ k : Fin 1792, a (ix2 r k) * b (ix2 k l)
  unfold k0_pay1
  pointwise

theorem pay_zero (r : Fin 512) (l : Fin 2048) : k0_pay9 (F := Ideal) (ValueIdx.ix2 r l) = 0 := by
  show k0_pay9 (F := Ideal) (ix2 r l) = 0
  unfold k0_pay9
  pointwise

theorem gain_zero (l : Fin 2048) : k0_pay8 (k0_pay2 (F := Ideal)) (ValueIdx.ix2 (0 : Fin 1) l) = 0 := by
  show k0_pay8 (k0_pay2 (F := Ideal)) (ix2 (0 : Fin 1) l) = 0
  unfold k0_pay8 k0_pay2
  pointwise

theorem factor_at (x : Vec Ideal S512x2048 .f32) (r : Fin 512) : k0_pay4 x (ix2 r (0 : Fin 1)) = factor (fun k => x (ix2 r k)) := by
  unfold k0_pay4 k0_pay3
  pointwise
  rfl

theorem normal_at (x : Vec Ideal S512x2048 .f32) (r : Fin 512) (l : Fin 2048) : k0_pay5 x (ix2 r l) = normal (fun k => x (ix2 r k)) l := by
  unfold k0_pay5 normal
  rw [← factor_at]
  generalize k0_pay4 x = y
  unfold k0_pay3
  pointwise

theorem gain_step (x dy : Vec Ideal S512x2048 .f32) (G : Vec Ideal S1x2048 .f32) (l : Fin 2048) :
    k0_pay6 x dy G (ValueIdx.ix2 (0 : Fin 1) l) = G (ValueIdx.ix2 (0 : Fin 1) l) + ∑ r : Fin 512, dy (ValueIdx.ix2 r l) * normal (fun k => x (ValueIdx.ix2 r k)) l := by
  show k0_pay6 x dy G (ix2 (0 : Fin 1) l) = G (ix2 (0 : Fin 1) l) + ∑ r : Fin 512, dy (ix2 r l) * normal (fun k => x (ix2 r k)) l
  simp only [← normal_at]
  unfold k0_pay6
  generalize k0_pay5 x = y
  pointwise

theorem grad_at (x : Vec Ideal S512x2048 .f32) (g : Vec Ideal S1x2048 .f32) (dy o : Vec Ideal S512x2048 .f32) (r : Fin 512) (l : Fin 2048) :
    k0_pay7 x g dy o (ValueIdx.ix2 r l) = grad (fun k => x (ValueIdx.ix2 r k)) (fun k => g (ValueIdx.ix2 (0 : Fin 1) k)) (fun k => dy (ValueIdx.ix2 r k)) (fun k => o (ValueIdx.ix2 r k)) l := by
  show k0_pay7 x g dy o (ix2 r l) = grad (fun k => x (ix2 r k)) (fun k => g (ix2 (0 : Fin 1) k)) (fun k => dy (ix2 r k)) (fun k => o (ix2 r k)) l
  unfold grad
  simp only [← normal_at, ← factor_at]
  unfold k0_pay7
  generalize k0_pay5 x = y
  generalize k0_pay4 x = z
  pointwise
  rfl

end Cert.InputIdeal.GI

end
-- ==== Proof.InputSums.lean ====
module

public import proofs.«01_k».proof.Proof.InputRun
public import proofs.«01_k».proof.Proof.InputStep
public import Idealize.ShloMosaic.Lib.Pipeline.ValueKit
public import Idealize.ShloMosaic.PureOps.Ideal

@[expose] public section

noncomputable section

/-! What the device's tiles come to: each row's gradient from one sum over the 7168 columns, and the gain's sums over the
4096 rows. -/

namespace Cert.InputIdeal.GI

open Idealize.ShloMosaic Idealize.SL.Sem
open Idealize.ShloMosaic.TcCoe
open Idealize.ShloMosaic.ValueIdx hiding ix2 ix3
open Idealize.ShloMosaic.Pipeline
open Cert.InputIdeal.Gen
open scoped BigOperators

set_option Elab.async false

section Blocks

variable {F : FTy → Type} [FloatOps F]
variable (m : (ℓ : Loc nD τ sig) → Buf (Elt F) ℓ)

/-- The arguments, as the device is given them. -/
def left (c : Dev nD) : S4096x7168.Idx → Elt F .bf16 := m (c.tc.loc main_arg0)
def right (c : Dev nD) : S7168x2048.Idx → Elt F .bf16 := m (c.tc.loc main_arg1)
def rows (c : Dev nD) : S4096x2048.Idx → Elt F .f32 := m (c.tc.loc main_arg2)
def past (c : Dev nD) : S4096x2048.Idx → Elt F .f32 := m (c.tc.loc main_arg3)
def gain (c : Dev nD) : S1x2048.Idx → Elt F .f32 := m (c.tc.loc main_arg4)

/-- Which blocks point `t` works on. -/
theorem at_point : ∀ t : Fin cfg0.N, win0_0.index t = ![t.val / 4, t.val % 4] ∧ win0_1.index t = ![t.val % 4, 0] ∧
    win0_2.index t = ![t.val / 4, 0] ∧ win0_3.index t = ![t.val / 4, 0] ∧ win0_4.index t = ![0, 0] ∧ win0_5.index t = ![t.val / 4, 0] := by decide +kernel

theorem left_at (c : Dev nD) (t : ℕ) (h : t < 32) (r : Fin 512) (k : Fin 1792) :
    ablk m c t (ix2 r k) = left m c (ix2 ⟨512 * (t / 4) + r.val, by omega⟩ ⟨1792 * (t % 4) + k.val, by omega⟩) := by
  have e := (at_point ⟨t, h⟩).1
  unfold ablk left
  rw [dif_pos (show t < cfg0.N from h)]
  blk_ext [iblk, V, e]

theorem right_at (c : Dev nD) (t : ℕ) (h : t < 32) (k : Fin 1792) (l : Fin 2048) :
    bblk m c t (ix2 k l) = right m c (ix2 ⟨1792 * (t % 4) + k.val, by omega⟩ l) := by
  have e := (at_point ⟨t, h⟩).2.1
  unfold bblk right
  rw [dif_pos (show t < cfg0.N from h)]
  blk_ext [iblk, V, e]

theorem rows_at (c : Dev nD) (t : ℕ) (h : t < 32) (r : Fin 512) (l : Fin 2048) :
    xblk m c t (ix2 r l) = rows m c (ix2 ⟨512 * (t / 4) + r.val, by omega⟩ l) := by
  have e := (at_point ⟨t, h⟩).2.2.1
  unfold xblk rows
  rw [dif_pos (show t < cfg0.N from h)]
  blk_ext [iblk, V, e]

theorem past_at (c : Dev nD) (t : ℕ) (h : t < 32) (r : Fin 512) (l : Fin 2048) :
    oblk m c t (ix2 r l) = past m c (ix2 ⟨512 * (t / 4) + r.val, by omega⟩ l) := by
  have e := (at_point ⟨t, h⟩).2.2.2.1
  unfold oblk past
  rw [dif_pos (show t < cfg0.N from h)]
  blk_ext [iblk, V, e]

theorem gain_read (c : Dev nD) (t : ℕ) (h : t < 32) (l : Fin 2048) : gblk m c t (ix2 (0 : Fin 1) l) = gain m c (ix2 (0 : Fin 1) l) := by
  have e := (at_point ⟨t, h⟩).2.2.2.2.1
  unfold gblk gain
  rw [dif_pos (show t < cfg0.N from h)]
  blk_ext [iblk, V, e]

/-- The input's gradient after the run, eight blocks of rows. -/
def kept (c : Dev nD) : S4096x2048.Idx → Elt F .f32 :=
  fun x => gxAt m c (4 * ((x 0).val / 512) + 3) (ix2 (⟨(x 0).val % 512, by omega⟩ : Fin 512) (x 1))

theorem kept_of (c : Dev nD) (x : S4096x2048.Idx) (j : ℕ) (y : S512x2048.Idx) (h0 : (x 0).val = 512 * j + (y 0).val)
    (h1 : (x 1).val = (y 1).val) : kept m c x = gxAt m c (4 * j + 3) y := by
  have hy : (y 0).val < 512 := (y 0).isLt
  have hj : (x 0).val / 512 = j := by omega
  unfold kept
  rw [hj]
  refine congrArg (gxAt m c (4 * j + 3)) (funext fun a => ?_)
  fin_cases a
  · exact Fin.ext (show (x 0).val % 512 = (y 0).val by omega)
  · exact Fin.ext h1

theorem kept_all (c : Dev nD) : (dats m 0 c).arrAt 5 cfg0.N = kept m c := by
  refine (dats m 0 c).arrAt_eq_of_covers 5 _ (by decide +kernel) fun t hf y => ?_
  have e := (at_point t).2.2.2.2.2
  have ht : t.val % 4 = 3 := of_decide_eq_true ((flush_out t).symm.trans hf)
  blk_simp
  show gxAt m c t.val y = _
  refine Eq.trans ?_ (kept_of m c _ (t.val / 4) y ?_ ?_).symm
  · rw [show 4 * (t.val / 4) + 3 = t.val by omega]
  · exact (win0_5.rect_emb_val t y 0).trans (by rw [e]; show t.val / 4 * 512 + (y 0).val = _; omega)
  · exact (win0_5.rect_emb_val t y 1).trans (by rw [e]; show 0 * 2048 + (y 1).val = _; omega)

end Blocks

/-! ### Sums, a tile at a time -/

/-- A family continued by zeros. -/
def onward {n : ℕ} (f : Fin n → EReal) (s : ℕ) : EReal := if h : s < n then f ⟨s, h⟩ else 0

theorem onward_tile {n : ℕ} (f : Fin n → EReal) (a w : ℕ) (h : a + w ≤ n) :
    ∑ s ∈ Finset.range (a + w), onward f s = ∑ s ∈ Finset.range a, onward f s + ∑ r : Fin w, f ⟨a + r.val, by omega⟩ := by
  rw [Finset.sum_range_add, Finset.sum_range (fun x => onward f (a + x))]
  refine congrArg (_ + ·) (Finset.sum_congr rfl fun r _ => ?_)
  unfold onward
  rw [dif_pos (by omega)]

theorem onward_all {n : ℕ} (f : Fin n → EReal) : ∑ s ∈ Finset.range n, onward f s = ∑ s, f s := by
  rw [Finset.sum_range]
  refine Finset.sum_congr rfl fun r _ => ?_
  unfold onward
  rw [dif_pos r.isLt]

/-! ### Over the reals -/

section Reals

variable (m : (ℓ : Loc nD τ sig) → Buf (Elt Ideal) ℓ)

theorem acc_step (c : Dev nD) (t : ℕ) (h : t < 32) (r : Fin 512) (l : Fin 2048) :
    accAt m c t (ix2 r l) = (if t % 4 = 0 then 0 else accAt m c (t - 1) (ix2 r l))
      + ∑ k : Fin 1792, left m c (ix2 ⟨512 * (t / 4) + r.val, by omega⟩ ⟨1792 * (t % 4) + k.val, by omega⟩) * right m c (ix2 ⟨1792 * (t % 4) + k.val, by omega⟩ l) := by
  have e : accAt m c t = k0_pay1 (if t % 4 = 0 then k0_pay9 else accAt m c (t - 1)) (ablk m c t) (bblk m c t) := by
    cases t with
    | zero => rfl
    | succ n => rfl
  rw [e]
  refine (pay_step _ _ _ r l).trans (congrArg₂ (· + ·) ?_ (Finset.sum_congr rfl fun k _ => ?_))
  · by_cases hz : t % 4 = 0
    · rw [if_pos hz, if_pos hz]; exact pay_zero r l
    · rw [if_neg hz, if_neg hz]; rfl
  · exact congrArg₂ (· * ·) (left_at m c t h r k) (right_at m c t h k l)

/-- The gradient of a normalised row. -/
def dy (c : Dev nD) (R : Fin 4096) (l : Fin 2048) : EReal := ∑ k : Fin 7168, left m c (ix2 R k) * right m c (ix2 k l)

theorem acc_part (c : Dev nD) (j : ℕ) (hj : j < 8) (r : Fin 512) (l : Fin 2048) (i : ℕ) (hi : i < 4) :
    accAt m c (4 * j + i) (ix2 r l)
      = ∑ k ∈ Finset.range (1792 * i + 1792), onward (fun k : Fin 7168 => left m c (ix2 ⟨512 * j + r.val, by omega⟩ k) * right m c (ix2 k l)) k := by
  have e := acc_step m c (4 * j + i) (by omega) r l
  have md : (4 * j + i) % 4 = i := by omega
  have dv : (4 * j + i) / 4 = j := by omega
  simp only [md, dv] at e
  rw [onward_tile _ _ _ (by omega), e]
  refine congrArg (· + _) ?_
  cases i with
  | zero => rw [if_pos rfl]; rfl
  | succ i => rw [if_neg (by omega)]; exact acc_part c j hj r l i (by omega)

theorem total (c : Dev nD) (j : ℕ) (h : j < 8) (r : Fin 512) (l : Fin 2048) :
    accAt m c (4 * j + 3) (ix2 r l) = dy m c ⟨512 * j + r.val, by omega⟩ l :=
  (acc_part m c j h r l 3 (by omega)).trans (onward_all _)

theorem kept_at (c : Dev nD) (R : Fin 4096) (l : Fin 2048) :
    kept m c (ix2 R l) = grad (fun k => rows m c (ix2 R k)) (fun k => gain m c (ix2 (0 : Fin 1) k)) (fun k => dy m c R k) (fun k => past m c (ix2 R k)) l := by
  obtain ⟨j, r, hj, e⟩ : ∃ (j : ℕ) (r : Fin 512) (hj : j < 8), R = ⟨512 * j + r.val, by omega⟩ :=
    ⟨R.val / 512, ⟨R.val % 512, by omega⟩, by omega, Fin.ext (by show R.val = 512 * (R.val / 512) + R.val % 512; omega)⟩
  subst e
  rw [kept_of m c _ j (ix2 r l) rfl rfl]
  unfold gxAt
  have q : (4 * j + 3) / 4 = j := by omega
  refine (grad_at _ _ _ _ r l).trans ?_
  have hx (k : Fin 2048) := rows_at m c (4 * j + 3) (by omega) r k
  have ho (k : Fin 2048) := past_at m c (4 * j + 3) (by omega) r k
  simp only [q] at hx ho
  refine congr (congr (congr (congr (congrArg grad (funext hx)) (funext fun k => gain_read m c _ (by omega) k)) (funext fun k => total m c j hj r k)) (funext ho)) rfl

theorem gain_part (c : Dev nD) (l : Fin 2048) (n : ℕ) (hn : n ≤ 8) :
    gainAt m c n (ix2 (0 : Fin 1) l)
      = ∑ s ∈ Finset.range (512 * n), onward (fun s : Fin 4096 => dy m c s l * normal (fun k => rows m c (ix2 s k)) l) s := by
  induction n with
  | zero => exact gain_zero l
  | succ n ih =>
    have q : (4 * n + 3) / 4 = n := by omega
    have hx (r : Fin 512) (k : Fin 2048) := rows_at m c (4 * n + 3) (by omega) r k
    simp only [q] at hx
    rw [show 512 * (n + 1) = 512 * n + 512 by omega, onward_tile _ _ _ (by omega), ← ih (by omega)]
    refine (gain_step _ _ _ l).trans (congrArg (_ + ·) (Finset.sum_congr rfl fun r _ => ?_))
    exact congrArg₂ (fun x y : EReal => x * y) (total m c n (by omega) r l) (congrArg (fun z => normal z l) (funext (hx r)))

theorem gain_total (c : Dev nD) (l : Fin 2048) :
    gainAt m c 8 (ix2 (0 : Fin 1) l) = ∑ s : Fin 4096, dy m c s l * normal (fun k => rows m c (ix2 s k)) l :=
  (gain_part m c l 8 (by omega)).trans (onward_all _)

end Reals

end Cert.InputIdeal.GI

end
-- ==== Proof.InputWhole.lean ====
module

public import proofs.«01_k».proof.Proof.Gen.InputReferenceIdeal.Read
public import proofs.«01_k».proof.Proof.InputStep
public import proofs.«01_k».proof.Proof.Whole
public import Idealize.ShloMosaic.Lib.Pointwise
public import Idealize.ShloMosaic.PureOps.Ideal

@[expose] public section

noncomputable section

/-! The third reference on the whole arrays, entry by entry: each row's gradient, each device's sums for the gain, and
the stack rearranged. -/

namespace Cert.InputReferenceIdeal.Whole

open Idealize.ShloMosaic Idealize.SL.Sem
open Idealize.ShloMosaic.TcCoe
open Cert.InputReferenceIdeal Cert.InputReferenceIdeal.Gen Cert.InputReferenceIdeal.Read
open Cert.ReferenceIdeal.Whole (same2 same3 same4 same5)
open Cert.InputIdeal.GI (mean factor normal grad)
open scoped BigOperators

set_option Elab.async false

section Rows

variable (A : S32768x7168.Idx → Elt Ideal .bf16) (B : S7168x2048.Idx → Elt Ideal .bf16) (X O : S32768x2048.Idx → Elt Ideal .f32) (G : S1x2048.Idx → Elt Ideal .f32)

/-- The gradient of the normalised rows. -/
def back (R : Fin 32768) (l : Fin 2048) : EReal := ∑ k : Fin 7168, A (ix2 R k) * B (ix2 k l)

theorem back_at (R : Fin 32768) (l : Fin 2048) : val_main_v2 A B (ix2 R l) = back A B R l := by
  rw [val_main_v2_apply]
  exact Finset.sum_congr rfl fun k _ => congrArg₂ (fun x y : EReal => x * y) (congrArg A (same2 _ _ _ rfl rfl)) (congrArg B (same2 _ _ _ rfl rfl))

theorem factor_at (R : Fin 32768) : val_main_v10 X (ix2 R (0 : Fin 1)) = factor (fun k => X (ix2 R k)) := by
  pointwise [val_main_v10, val_main_v9, val_main_v8, val_main_v7, val_main_v6, val_main_v5, val_main_v4, val_main_v3, val_main_cst, val_main_cst_0, val_main_cst_1]
  rfl

theorem normal_at (R : Fin 32768) (l : Fin 2048) : val_main_v12 X (ix2 R l) = normal (fun k => X (ix2 R k)) l := by
  unfold normal
  rw [← factor_at]
  unfold val_main_v12 val_main_v11
  generalize val_main_v10 X = y
  pointwise

/-- The first result: each row's gradient. -/
theorem grad_at (R : Fin 32768) (l : Fin 2048) : val_main_v25 A B X O G (ix2 R l)
    = grad (fun k => X (ix2 R k)) (fun k => G (ix2 (0 : Fin 1) k)) (fun k => back A B R k) (fun k => O (ix2 R k)) l := by
  unfold grad
  simp only [← factor_at, ← normal_at, ← back_at]
  unfold val_main_v25 val_main_v24 val_main_v23 val_main_v22 val_main_v21 val_main_v20 val_main_v19 val_main_v18 val_main_v17 val_main_v16 val_main_v15 val_main_v14 val_main_v13
  generalize val_main_v10 X = y
  generalize val_main_v12 X = z
  generalize val_main_v2 A B = w
  pointwise [val_main_cst_2, val_main_cst_3]
  rfl

/-- The second result: the sums for the gain over one device's rows. -/
theorem gain_at (d : Fin 8) (l : Fin 2048) : val_main_v29 A B X (ix3 d (0 : Fin 1) l)
    = ∑ s : Fin 4096, back A B ⟨4096 * d.val + s.val, by omega⟩ l * normal (fun k => X (ix2 ⟨4096 * d.val + s.val, by omega⟩ k)) l := by
  simp only [← normal_at, ← back_at]
  have hl := l.isLt
  have hd := d.isLt
  rw [val_main_v29_apply, val_main_v28_apply, val_main_cst_4_apply]
  refine (congrArg (fun x : EReal => x + _) (Ideal.ofBits_zero _)).trans ((zero_add _).trans (Finset.sum_congr rfl fun s _ => ?_))
  have hs := s.isLt
  rw [val_main_v27_apply]
  refine congrArg (val_main_v26 A B X) (same2 _ _ _ ?_ ?_)
  · show ((((d.val * 1 + 0) * 2048 + l.val) / 2048 * 4096 + s.val) * 2048 + ((d.val * 1 + 0) * 2048 + l.val) % 2048) / 2048 = 4096 * d.val + s.val
    omega
  · show ((((d.val * 1 + 0) * 2048 + l.val) / 2048 * 4096 + s.val) * 2048 + ((d.val * 1 + 0) * 2048 + l.val) % 2048) % 2048 = l.val
    omega

end Rows

/-- The third result: chip and row of the stack trade places. -/
theorem moved_at {F : FTy → Type} [FloatOps F] (S : S32x2048x896.Idx → Elt F .bf16) (h q : Fin 4) (c : Fin 2) (a : Fin 2048) (z : Fin 896) (i : S32x2048x896.Idx)
    (h0 : (i 0).val = 4 * (2 * h.val + c.val) + q.val) (h1 : (i 1).val = a.val) (h2 : (i 2).val = z.val) :
    val_main_v32 S i = S (ix3 ⟨4 * (2 * q.val + c.val) + h.val, by omega⟩ a z) := by
  have hh := h.isLt
  have hq := q.isLt
  have hc := c.isLt
  have ha := a.isLt
  have hz := z.isLt
  have e : idx_main_v32 i = ix5 h c q a z := same5 _ _ _ _ _ _
    (show (((i 0).val * 2048 + (i 1).val) * 896 + (i 2).val) / 14680064 = h.val by rw [h0, h1, h2]; omega)
    (show (((i 0).val * 2048 + (i 1).val) * 896 + (i 2).val) / 7340032 % 2 = c.val by rw [h0, h1, h2]; omega)
    (show (((i 0).val * 2048 + (i 1).val) * 896 + (i 2).val) / 1835008 % 4 = q.val by rw [h0, h1, h2]; omega)
    (show (((i 0).val * 2048 + (i 1).val) * 896 + (i 2).val) / 896 % 2048 = a.val by rw [h0, h1, h2]; omega)
    (show (((i 0).val * 2048 + (i 1).val) * 896 + (i 2).val) % 896 = z.val by rw [h0, h1, h2]; omega)
  rw [val_main_v32_apply, e, val_main_v31_apply, val_main_v30_apply]
  refine congrArg S (same3 _ _ _ _ ?_ ?_ ?_)
  · show ((((q.val * 2 + c.val) * 4 + h.val) * 2048 + a.val) * 896 + z.val) / 1835008 = 4 * (2 * q.val + c.val) + h.val
    omega
  · show ((((q.val * 2 + c.val) * 4 + h.val) * 2048 + a.val) * 896 + z.val) / 896 % 2048 = a.val
    omega
  · show ((((q.val * 2 + c.val) * 4 + h.val) * 2048 + a.val) * 896 + z.val) % 896 = z.val
    omega

end Cert.InputReferenceIdeal.Whole

end
-- ==== Proof.InputMatch.lean ====
module

public import proofs.«01_k».proof.Proof.InputSums
public import proofs.«01_k».proof.Proof.InputWhole
public import Idealize.ShloMosaic.Lib.Layout

@[expose] public section

noncomputable section

/-! Each device's results of the third kernel are its parts of the reference's. -/

namespace Cert.InputIdeal.GI

open Idealize.ShloMosaic Idealize.SL.Sem
open Idealize.ShloMosaic.TcCoe
open Idealize.ShloMosaic.ValueIdx hiding ix2 ix3 ix4
open Idealize.ShloMosaic.Pipeline
open Cert.InputIdeal.Gen
open Cert.InputReferenceIdeal.Whole (back gain_at moved_at)
open Cert.ReferenceIdeal.Whole (same2 same3)
open Cert.KernelIdeal.GW (chip core arrived)
open scoped BigOperators

set_option Elab.async false
set_option backward.proofsInPublic true

variable (m : (ℓ : Loc nD τ sig) → Buf (Elt Ideal) ℓ)

section Rows

variable (A : (⟨2, ![32768, 7168]⟩ : Shape).Idx → Elt Ideal .bf16) (B : (⟨2, ![7168, 2048]⟩ : Shape).Idx → Elt Ideal .bf16)
  (X O : (⟨2, ![32768, 2048]⟩ : Shape).Idx → Elt Ideal .f32) (G : (⟨2, ![1, 2048]⟩ : Shape).Idx → Elt Ideal .f32)
  (hA : ∀ c : Dev nD, left m c = Layout.block ⟨2, ![4096, 7168]⟩ ⟨2, ![32768, 7168]⟩ 0 8 c A)
  (hB : ∀ c : Dev nD, right m c = B)
  (hX : ∀ c : Dev nD, rows m c = Layout.block ⟨2, ![4096, 2048]⟩ ⟨2, ![32768, 2048]⟩ 0 8 c X)
  (hO : ∀ c : Dev nD, past m c = Layout.block ⟨2, ![4096, 2048]⟩ ⟨2, ![32768, 2048]⟩ 0 8 c O)
  (hG : ∀ c : Dev nD, gain m c = G)

include hA hB in
theorem dy_back (c : Dev nD) (R : Fin 4096) (l : Fin 2048) (R' : Fin 32768) (h : R'.val = 4096 * c.val + R.val) : dy m c R l = back A B R' l := by
  refine Finset.sum_congr rfl fun k _ => ?_
  rw [hA c, hB c]
  refine congrArg (fun x : EReal => x * _) (congrArg A (same2 _ _ _ ?_ rfl))
  show c.val * 4096 + R.val = R'.val
  omega

include hX in
theorem rows_row (c : Dev nD) (R : Fin 4096) (k : Fin 2048) (R' : Fin 32768) (h : R'.val = 4096 * c.val + R.val) : rows m c (ix2 R k) = X (ix2 R' k) := by
  rw [hX c, Layout.block_apply]
  refine congrArg X (same2 _ _ _ ?_ rfl)
  show c.val * 4096 + R.val = R'.val
  omega

include hO in
theorem past_row (c : Dev nD) (R : Fin 4096) (k : Fin 2048) (R' : Fin 32768) (h : R'.val = 4096 * c.val + R.val) : past m c (ix2 R k) = O (ix2 R' k) := by
  rw [hO c, Layout.block_apply]
  refine congrArg O (same2 _ _ _ ?_ rfl)
  show c.val * 4096 + R.val = R'.val
  omega

include hA hB hX hO hG in
theorem kept_match (c : Dev nD) :
    kept m c = Layout.block ⟨2, ![4096, 2048]⟩ ⟨2, ![32768, 2048]⟩ 0 8 c (Cert.InputReferenceIdeal.Read.val_main_v25 A B X O G) := by
  funext x
  rw [Layout.block_apply]
  have hc : c.val < 8 := c.isLt
  obtain ⟨R, l, rfl⟩ : ∃ (R : Fin 4096) (l : Fin 2048), x = ix2 R l := ⟨x 0, x 1, same2 x _ _ rfl rfl⟩
  refine (kept_at m c R l).trans (Eq.trans ?_ ((congrArg (Cert.InputReferenceIdeal.Read.val_main_v25 A B X O G)
    (same2 _ (⟨4096 * c.val + R.val, by omega⟩ : Fin 32768) l ?_ rfl)).trans (Cert.InputReferenceIdeal.Whole.grad_at A B X O G _ l)).symm)
  · rw [hG c]
    simp only [dy_back m A B hA hB c R _ ⟨4096 * c.val + R.val, by omega⟩ rfl, rows_row m X hX c R _ ⟨4096 * c.val + R.val, by omega⟩ rfl,
      past_row m O hO c R _ ⟨4096 * c.val + R.val, by omega⟩ rfl]
  · show c.val * 4096 + R.val = 4096 * c.val + R.val
    omega

include hA hB hX in
theorem gains_match : gains m = Cert.InputReferenceIdeal.Read.val_main_v29 A B X := by
  funext x
  obtain ⟨d, z, l, rfl⟩ : ∃ (d : Fin 8) (z : Fin 1) (l : Fin 2048), x = ix3 d z l := ⟨x 0, x 1, x 2, same3 x _ _ _ rfl rfl rfl⟩
  obtain rfl : z = 0 := Subsingleton.elim _ _
  refine (gain_total m d l).trans (Eq.trans (Finset.sum_congr rfl fun s _ => ?_) (gain_at A B X d l).symm)
  rw [dy_back m A B hA hB d s l ⟨4096 * d.val + s.val, by omega⟩ rfl]
  simp only [rows_row m X hX d s _ ⟨4096 * d.val + s.val, by omega⟩ rfl]

end Rows

theorem arrived_match (S : (⟨3, ![32, 2048, 896]⟩ : Shape).Idx → Elt Ideal .bf16)
    (hS : ∀ c : Dev nD, s0 m c = Layout.block ⟨3, ![4, 2048, 896]⟩ ⟨3, ![32, 2048, 896]⟩ 0 8 c S) (c : Dev nD) :
    arrived (s0 m) c = Layout.block ⟨3, ![4, 2048, 896]⟩ ⟨3, ![32, 2048, 896]⟩ 0 8 c (Cert.InputReferenceIdeal.Read.val_main_v32 S) := by
  funext x
  rw [Layout.block_apply]
  have hc : c.val < 8 := c.isLt
  refine Eq.trans ?_ (moved_at S (chip c) (x 0) (core c) (x 1) (x 2) _ ?_ rfl rfl).symm
  · unfold arrived
    rw [hS]
    refine congrArg S (same3 _ _ _ _ ?_ rfl rfl)
    show (2 * (x 0).val + c.val % 2) * 4 + c.val / 2 = 4 * (2 * (x 0).val + c.val % 2) + c.val / 2
    omega
  · show c.val * 4 + (x 0).val = 4 * (2 * (c.val / 2) + c.val % 2) + (x 0).val
    omega

end Cert.InputIdeal.GI

end
-- ==== Proof.lean ====
module

public import proofs.«01_k».proof.Defs
public import proofs.«01_k».proof.Proof.Gen.Kernel.Frame
public import proofs.«01_k».proof.Proof.Gen.KernelIdeal.Frame
public import proofs.«01_k».proof.Proof.Run
public import proofs.«01_k».proof.Proof.WinStep
public import proofs.«01_k».proof.Proof.NormStep
public import proofs.«01_k».proof.Proof.PackedStep
public import proofs.«01_k».proof.Proof.PoolStep
public import proofs.«01_k».proof.Proof.WkvStep
public import proofs.«01_k».proof.Proof.WoutStep
public import proofs.«01_k».proof.Proof.Match
public import proofs.«01_k».proof.Proof.OuterRun
public import proofs.«01_k».proof.Proof.OuterMatch
public import proofs.«01_k».proof.Proof.InputRun
public import proofs.«01_k».proof.Proof.InputMatch
public import proofs.«01_k».proof.Proof.Gen.Outer.Frame
public import proofs.«01_k».proof.Proof.Gen.OuterIdeal.Points
public import proofs.«01_k».proof.Proof.Gen.OuterReferenceIdeal.Read
public import proofs.«01_k».proof.Proof.Gen.OuterReferenceIdeal.Run
public import proofs.«01_k».proof.Proof.Gen.Input.Frame
public import proofs.«01_k».proof.Proof.Gen.InputIdeal.Frame
public import proofs.«01_k».proof.Proof.Gen.InputReferenceIdeal.Read
public import proofs.«01_k».proof.Proof.Gen.InputReferenceIdeal.Run
public import Idealize.ShloMosaic.Lib.Quiescent
public import Idealize.ShloMosaic.Adequacy
public import Idealize.ShloMosaic.Init

@[expose] public section

noncomputable section

namespace Cert.Proof

open Idealize.ShloMosaic Idealize.SL.Sem Cert.Kernel

theorem frame_run {F : FTy → Type} [FloatOps F] (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem (c.tc.loc Cert.KernelIdeal.main_arg0) = m (c.tc.loc Cert.KernelIdeal.main_arg0)
      ∧ r.2.mem (c.tc.loc Cert.KernelIdeal.main_arg1) = m (c.tc.loc Cert.KernelIdeal.main_arg1)
      ∧ r.2.mem (c.tc.loc Cert.KernelIdeal.main_arg2) = m (c.tc.loc Cert.KernelIdeal.main_arg2)
      ∧ r.2.mem (c.tc.loc Cert.KernelIdeal.main_arg3) = m (c.tc.loc Cert.KernelIdeal.main_arg3)
      ∧ r.2.mem (c.tc.loc Cert.KernelIdeal.main_arg4) = m (c.tc.loc Cert.KernelIdeal.main_arg4)
      ∧ r.2.mem (c.tc.loc Cert.KernelIdeal.main_arg5) = m (c.tc.loc Cert.KernelIdeal.main_arg5))
      ∧ r.2.sem = fun _ => 0) :=
  (θ_run Cert.KernelIdeal.defs _ _).mono (fun r h => ⟨fun c => Cert.KernelIdeal.GW.args_kept m r h.1 c, h.2⟩) (Cert.KernelIdeal.GW.run_main m ρ)

theorem kernelIdeal_frame : Cert.quiescent_KernelIdeal (hKernelIdeal := Cert.KernelIdeal.Gen.facts) := fun m ρ _ => frame_run (F := Ideal) m ρ

/-! The kernel and its idealization are the same text, so one run serves both. -/

theorem bodies_same {F : FTy → Type} [FloatOps F] : Cert.Kernel.defs₀ (F := F) = Cert.KernelIdeal.defs₀ := by
  unfold Cert.Kernel.defs₀ Cert.KernelIdeal.defs₀
  refine congrArg Defs.onTc ?_
  funext l x
  match l, x with
  | 0, (t, s) => rfl
  | ⟨n + 1, h⟩, _ => exact absurd h (Nat.not_lt.2 (Nat.le_add_left _ _))

theorem tables_same {F : FTy → Type} [FloatOps F] : Cert.Kernel.defs (F := F) = Cert.KernelIdeal.defs := by
  show Pipeline.defs Cert.KernelIdeal.pcfgs (Cert.Kernel.defs₀ (F := F)) = _
  rw [bodies_same]; rfl

theorem kernel_frame : Cert.quiescent_Kernel (hKernel := Cert.Kernel.Gen.facts) := fun m ρ _ => by
  have h := frame_run (F := Bits) m ρ
  rw [← tables_same] at h
  exact h

/-! The reference is one device without semaphores. -/

theorem reference_frame : Cert.quiescent_ReferenceIdeal (hReferenceIdeal := Cert.ReferenceIdeal.Gen.facts) := fun m ρ _ =>
  (θ_run Cert.ReferenceIdeal.defs _ _).mono (fun r h => ⟨fun c => (h c).2.2.2.2.2.2, sem_eq_zero_of_no_sems (by decide) r.2⟩)
    (Cert.ReferenceIdeal.Value.run (F := Ideal) m ρ)

section Value

open Cert.KernelIdeal.GW Cert.ReferenceIdeal.Read

theorem same_values : Cert.algebraic_KernelIdeal_ReferenceIdeal (hKernelIdeal := Cert.KernelIdeal.Gen.facts)
    (hReferenceIdeal := Cert.ReferenceIdeal.Gen.facts) := by
  intro m ρ m' ρ' _ agree
  refine ⟨val_main_v24 (m' ((0 : Dev _).tc.loc Cert.ReferenceIdeal.main_arg0))
      (m' ((0 : Dev _).tc.loc Cert.ReferenceIdeal.main_arg1)),
    val_main_v25 (m' ((0 : Dev _).tc.loc Cert.ReferenceIdeal.main_arg0))
      (m' ((0 : Dev _).tc.loc Cert.ReferenceIdeal.main_arg1)),
    val_main_v14 (m' ((0 : Dev _).tc.loc Cert.ReferenceIdeal.main_arg2)),
    val_main_v17 (m' ((0 : Dev _).tc.loc Cert.ReferenceIdeal.main_arg3)),
    val_main_v20 (m' ((0 : Dev _).tc.loc Cert.ReferenceIdeal.main_arg4)),
    val_main_v23 (m' ((0 : Dev _).tc.loc Cert.ReferenceIdeal.main_arg5)), ?_, ?_⟩
  · refine (θ_run Cert.KernelIdeal.defs _ _).mono (fun r h c => ?_) (Cert.KernelIdeal.GW.run_main m ρ)
    obtain ⟨hw, ht, -, d0, -, d1, -, d2, -, d3⟩ := h.1 c
    refine ⟨((hw 2).trans (kept_all m c)).trans (kept_match m _ _ (fun c => (agree c).1) (fun c => (agree c).2.1) c),
      ht.trans (theirs_match m _ _ (fun c => (agree c).1) (fun c => (agree c).2.1) c),
      d0.trans (arrived0_match m _ (fun c => (agree c).2.2.1) c),
      d1.trans (arrived1_match m _ (fun c => (agree c).2.2.2.1) c),
      d2.trans (arrived2_match m _ (fun c => (agree c).2.2.2.2.1) c),
      d3.trans (arrived3_match m _ (fun c => (agree c).2.2.2.2.2) c),
      args_kept m r h.1 c⟩
  · refine (θ_run Cert.ReferenceIdeal.defs _ _).mono (fun r h => ?_) (Cert.ReferenceIdeal.Value.run (F := Ideal) m' ρ')
    obtain ⟨e0, e1, e2, e3, e4, e5, k⟩ := h 0
    exact ⟨e0.trans (val_main_v24_eq _ _), e1.trans (val_main_v25_eq _ _), e2.trans (val_main_v14_eq _), e3.trans (val_main_v17_eq _),
      e4.trans (val_main_v20_eq _), e5.trans (val_main_v23_eq _), k⟩

end Value

/-! ## The gradient of the output weights -/

theorem outer_run {F : FTy → Type} [FloatOps F] (m : (ℓ : Loc Cert.OuterIdeal.nD Cert.OuterIdeal.τ Cert.OuterIdeal.sig) → Buf (Elt F) ℓ) (ρ : Dev Cert.OuterIdeal.nD → PrngReg) :
    θ_run (Cert.OuterIdeal.defs (F := F)) (onTc (τ := Cert.OuterIdeal.τ) (Cert.OuterIdeal.main (F := F))) ⟨m, fun _ => 0, ρ⟩ (fun r => (∀ c : Dev Cert.OuterIdeal.nD,
      r.2.mem (c.tc.loc Cert.OuterIdeal.main_arg0) = m (c.tc.loc Cert.OuterIdeal.main_arg0)
      ∧ r.2.mem (c.tc.loc Cert.OuterIdeal.main_arg1) = m (c.tc.loc Cert.OuterIdeal.main_arg1)
      ∧ r.2.mem (c.tc.loc Cert.OuterIdeal.main_arg2) = m (c.tc.loc Cert.OuterIdeal.main_arg2)
      ∧ r.2.mem (c.tc.loc Cert.OuterIdeal.main_arg3) = m (c.tc.loc Cert.OuterIdeal.main_arg3)
      ∧ r.2.mem (c.tc.loc Cert.OuterIdeal.main_arg4) = m (c.tc.loc Cert.OuterIdeal.main_arg4))
      ∧ r.2.sem = fun _ => 0) :=
  (θ_run Cert.OuterIdeal.defs _ _).mono (fun r h => ⟨fun c => Cert.OuterIdeal.GO.args_kept m r h.1 c, h.2⟩) (Cert.OuterIdeal.GO.run_main m ρ)

theorem outerIdeal_frame : Cert.quiescent_OuterIdeal (hOuterIdeal := Cert.OuterIdeal.Gen.facts) := fun m ρ _ => outer_run (F := Ideal) m ρ

theorem outer_bodies_same {F : FTy → Type} [FloatOps F] : Cert.Outer.defs₀ (F := F) = Cert.OuterIdeal.defs₀ := by
  unfold Cert.Outer.defs₀ Cert.OuterIdeal.defs₀
  refine congrArg Defs.onTc ?_
  funext l x
  match l, x with
  | 0, (t, s) => rfl
  | ⟨n + 1, h⟩, _ => exact absurd h (Nat.not_lt.2 (Nat.le_add_left _ _))

theorem outer_tables_same {F : FTy → Type} [FloatOps F] : Cert.Outer.defs (F := F) = Cert.OuterIdeal.defs := by
  show Pipeline.defs Cert.OuterIdeal.pcfgs (Cert.Outer.defs₀ (F := F)) = _
  rw [outer_bodies_same]; rfl

theorem outer_frame : Cert.quiescent_Outer (hOuter := Cert.Outer.Gen.facts) := fun m ρ _ => by
  have h := outer_run (F := Bits) m ρ
  rw [← outer_tables_same] at h
  exact h

theorem outerReference_frame : Cert.quiescent_OuterReferenceIdeal (hOuterReferenceIdeal := Cert.OuterReferenceIdeal.Gen.facts) := fun m ρ _ =>
  (θ_run Cert.OuterReferenceIdeal.defs _ _).mono (fun r h => ⟨fun c => (h c).2.2.2.2.2, sem_eq_zero_of_no_sems (by decide) r.2⟩)
    (Cert.OuterReferenceIdeal.Value.run (F := Ideal) m ρ)

section OuterValue

open Cert.OuterIdeal.GO Cert.OuterReferenceIdeal.Read

theorem outer_same_values : Cert.algebraic_OuterIdeal_OuterReferenceIdeal (hOuterIdeal := Cert.OuterIdeal.Gen.facts)
    (hOuterReferenceIdeal := Cert.OuterReferenceIdeal.Gen.facts) := by
  intro m ρ m' ρ' _ agree
  refine ⟨val_main_v33 (m' ((0 : Dev _).tc.loc Cert.OuterReferenceIdeal.main_arg0))
      (m' ((0 : Dev _).tc.loc Cert.OuterReferenceIdeal.main_arg1)),
    val_main_v34 (m' ((0 : Dev _).tc.loc Cert.OuterReferenceIdeal.main_arg0))
      (m' ((0 : Dev _).tc.loc Cert.OuterReferenceIdeal.main_arg1)),
    val_main_v35 (m' ((0 : Dev _).tc.loc Cert.OuterReferenceIdeal.main_arg2)),
    val_main_v36 (m' ((0 : Dev _).tc.loc Cert.OuterReferenceIdeal.main_arg3)),
    val_main_v37 (m' ((0 : Dev _).tc.loc Cert.OuterReferenceIdeal.main_arg4)), ?_, ?_⟩
  · refine (θ_run Cert.OuterIdeal.defs _ _).mono (fun r h c => ?_) (Cert.OuterIdeal.GO.run_main m ρ)
    obtain ⟨hw, ht, d0, d1, d2, -⟩ := h.1 c
    refine ⟨((hw 2).trans (kept_all m c)).trans (kept_match m _ _ (fun c => (agree c).1) (fun c => (agree c).2.1) c),
      ht.trans (theirs_match m _ _ (fun c => (agree c).1) (fun c => (agree c).2.1) c),
      d0.trans (arr0_match m _ (fun c => (agree c).2.2.1) c),
      d1.trans (arr1_match m _ (fun c => (agree c).2.2.2.1) c),
      d2.trans (arr2_match m _ (fun c => (agree c).2.2.2.2) c),
      args_kept m r h.1 c⟩
  · refine (θ_run Cert.OuterReferenceIdeal.defs _ _).mono (fun r h => ?_) (Cert.OuterReferenceIdeal.Value.run (F := Ideal) m' ρ')
    obtain ⟨e0, e1, e2, e3, e4, k⟩ := h 0
    exact ⟨e0.trans (val_main_v33_eq _ _), e1.trans (val_main_v34_eq _ _), e2.trans (val_main_v35_eq _), e3.trans (val_main_v36_eq _),
      e4.trans (val_main_v37_eq _), k⟩

end OuterValue

/-! ## The gradient of the input -/

theorem input_run {F : FTy → Type} [FloatOps F] (m : (ℓ : Loc Cert.InputIdeal.nD Cert.InputIdeal.τ Cert.InputIdeal.sig) → Buf (Elt F) ℓ) (ρ : Dev Cert.InputIdeal.nD → PrngReg) :
    θ_run (Cert.InputIdeal.defs (F := F)) (onTc (τ := Cert.InputIdeal.τ) (Cert.InputIdeal.main (F := F))) ⟨m, fun _ => 0, ρ⟩ (fun r => (∀ c : Dev Cert.InputIdeal.nD,
      r.2.mem (c.tc.loc Cert.InputIdeal.main_arg0) = m (c.tc.loc Cert.InputIdeal.main_arg0)
      ∧ r.2.mem (c.tc.loc Cert.InputIdeal.main_arg1) = m (c.tc.loc Cert.InputIdeal.main_arg1)
      ∧ r.2.mem (c.tc.loc Cert.InputIdeal.main_arg2) = m (c.tc.loc Cert.InputIdeal.main_arg2)
      ∧ r.2.mem (c.tc.loc Cert.InputIdeal.main_arg3) = m (c.tc.loc Cert.InputIdeal.main_arg3)
      ∧ r.2.mem (c.tc.loc Cert.InputIdeal.main_arg4) = m (c.tc.loc Cert.InputIdeal.main_arg4)
      ∧ r.2.mem (c.tc.loc Cert.InputIdeal.main_arg5) = m (c.tc.loc Cert.InputIdeal.main_arg5))
      ∧ r.2.sem = fun _ => 0) :=
  (θ_run Cert.InputIdeal.defs _ _).mono (fun r h => ⟨fun c => Cert.InputIdeal.GI.args_kept m r h.1 c, h.2⟩) (Cert.InputIdeal.GI.run_main m ρ)

theorem inputIdeal_frame : Cert.quiescent_InputIdeal (hInputIdeal := Cert.InputIdeal.Gen.facts) := fun m ρ _ => input_run (F := Ideal) m ρ

theorem input_bodies_same {F : FTy → Type} [FloatOps F] : Cert.Input.defs₀ (F := F) = Cert.InputIdeal.defs₀ := by
  unfold Cert.Input.defs₀ Cert.InputIdeal.defs₀
  refine congrArg Defs.onTc ?_
  funext l x
  match l, x with
  | 0, (t, s) => rfl
  | ⟨n + 1, h⟩, _ => exact absurd h (Nat.not_lt.2 (Nat.le_add_left _ _))

theorem input_tables_same {F : FTy → Type} [FloatOps F] : Cert.Input.defs (F := F) = Cert.InputIdeal.defs := by
  show Pipeline.defs Cert.InputIdeal.pcfgs (Cert.Input.defs₀ (F := F)) = _
  rw [input_bodies_same]; rfl

theorem input_frame : Cert.quiescent_Input (hInput := Cert.Input.Gen.facts) := fun m ρ _ => by
  have h := input_run (F := Bits) m ρ
  rw [← input_tables_same] at h
  exact h

theorem inputReference_frame : Cert.quiescent_InputReferenceIdeal (hInputReferenceIdeal := Cert.InputReferenceIdeal.Gen.facts) := fun m ρ _ =>
  (θ_run Cert.InputReferenceIdeal.defs _ _).mono (fun r h => ⟨fun c => (h c).2.2.2, sem_eq_zero_of_no_sems (by decide) r.2⟩)
    (Cert.InputReferenceIdeal.Value.run (F := Ideal) m ρ)

section InputValue

open Cert.InputIdeal.GI Cert.InputReferenceIdeal.Read

theorem input_same_values : Cert.algebraic_InputIdeal_InputReferenceIdeal (hInputIdeal := Cert.InputIdeal.Gen.facts)
    (hInputReferenceIdeal := Cert.InputReferenceIdeal.Gen.facts) := by
  intro m ρ m' ρ' _ agree
  refine ⟨val_main_v25 (m' ((0 : Dev _).tc.loc Cert.InputReferenceIdeal.main_arg0)) (m' ((0 : Dev _).tc.loc Cert.InputReferenceIdeal.main_arg1))
      (m' ((0 : Dev _).tc.loc Cert.InputReferenceIdeal.main_arg2)) (m' ((0 : Dev _).tc.loc Cert.InputReferenceIdeal.main_arg3))
      (m' ((0 : Dev _).tc.loc Cert.InputReferenceIdeal.main_arg4)),
    val_main_v29 (m' ((0 : Dev _).tc.loc Cert.InputReferenceIdeal.main_arg0)) (m' ((0 : Dev _).tc.loc Cert.InputReferenceIdeal.main_arg1))
      (m' ((0 : Dev _).tc.loc Cert.InputReferenceIdeal.main_arg2)),
    val_main_v32 (m' ((0 : Dev _).tc.loc Cert.InputReferenceIdeal.main_arg5)), ?_, ?_⟩
  · refine (θ_run Cert.InputIdeal.defs _ _).mono (fun r h c => ?_) (Cert.InputIdeal.GI.run_main m ρ)
    obtain ⟨hw, hg, hd, -⟩ := h.1 c
    refine ⟨((hw 5).trans (kept_all m c)).trans (kept_match m _ _ _ _ _ (fun c => (agree c).1) (fun c => (agree c).2.1) (fun c => (agree c).2.2.1)
        (fun c => (agree c).2.2.2.1) (fun c => (agree c).2.2.2.2.1) c),
      hg.trans (gains_match m _ _ _ (fun c => (agree c).1) (fun c => (agree c).2.1) (fun c => (agree c).2.2.1)),
      hd.trans (arrived_match m _ (fun c => (agree c).2.2.2.2.2) c),
      args_kept m r h.1 c⟩
  · refine (θ_run Cert.InputReferenceIdeal.defs _ _).mono (fun r h => ?_) (Cert.InputReferenceIdeal.Value.run (F := Ideal) m' ρ')
    obtain ⟨e0, e1, e2, k⟩ := h 0
    exact ⟨e0.trans (val_main_v25_eq _ _ _ _ _), e1.trans (val_main_v29_eq _ _ _), e2.trans (val_main_v32_eq _), k⟩

end InputValue

theorem claim : Cert.Claim := ⟨Cert.Kernel.Gen.facts, Cert.KernelIdeal.Gen.facts, Cert.ReferenceIdeal.Gen.facts, Cert.Outer.Gen.facts, Cert.OuterIdeal.Gen.facts,
  Cert.OuterReferenceIdeal.Gen.facts, Cert.Input.Gen.facts, Cert.InputIdeal.Gen.facts, Cert.InputReferenceIdeal.Gen.facts,
  Cert.Win.Gen.facts, Cert.WinIdeal.Gen.facts, Cert.WinReferenceIdeal.Gen.facts, Cert.Wout.Gen.facts, Cert.WoutIdeal.Gen.facts,
  Cert.WoutReferenceIdeal.Gen.facts, Cert.Wkv.Gen.facts, Cert.WkvIdeal.Gen.facts, Cert.WkvReferenceIdeal.Gen.facts,
  Cert.Pool.Gen.facts, Cert.PoolIdeal.Gen.facts, Cert.PoolReferenceIdeal.Gen.facts, Cert.Norm.Gen.facts, Cert.NormIdeal.Gen.facts,
  Cert.NormReferenceIdeal.Gen.facts, Cert.Packed.Gen.facts, Cert.PackedIdeal.Gen.facts, Cert.PackedReferenceIdeal.Gen.facts,
  kernel_frame, kernelIdeal_frame, reference_frame, outer_frame, outerIdeal_frame, outerReference_frame, input_frame,
  inputIdeal_frame, inputReference_frame,
  fun m ρ _ => Cert.Win.Gen.frame m ρ, fun m ρ _ => Cert.WinIdeal.Gen.frame m ρ, Cert.WinIdeal.Step.frame,
  fun m ρ _ => Cert.Wout.Gen.frame m ρ, fun m ρ _ => Cert.WoutIdeal.Gen.frame m ρ, Cert.WoutIdeal.Step.frame,
  fun m ρ _ => Cert.Wkv.Gen.frame m ρ, fun m ρ _ => Cert.WkvIdeal.Gen.frame m ρ, Cert.WkvIdeal.Step.frame,
  fun m ρ _ => Cert.Pool.Gen.frame m ρ, fun m ρ _ => Cert.PoolIdeal.Gen.frame m ρ, Cert.PoolIdeal.Step.frame,
  fun m ρ _ => Cert.Norm.Gen.frame m ρ, fun m ρ _ => Cert.NormIdeal.Gen.frame m ρ, Cert.NormIdeal.Step.frame,
  Cert.PackedIdeal.Eight.frame, Cert.PackedIdeal.Eight.ideal_frame, Cert.PackedIdeal.Eight.reference_frame,
  trivial, same_values, trivial, outer_same_values, trivial, input_same_values,
  trivial, Cert.WinIdeal.Step.same, trivial, Cert.WoutIdeal.Step.same, trivial, Cert.WkvIdeal.Step.same, trivial, Cert.PoolIdeal.Step.same, trivial, Cert.NormIdeal.Step.same,
  trivial, Cert.PackedIdeal.Eight.same⟩

end Cert.Proof

end
